-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_digits_and_draws [hPre_digits_and_draws : Cert.Pre_digits_and_draws.Facts] (m : (ℓ : Loc Cert.KernelIdeal.nD Cert.KernelIdeal.τ Cert.KernelIdeal.sig) → Buf (Elt Ideal) ℓ) : Prop :=
  ∀ c : Dev Cert.KernelIdeal.nD,
    (Cert.Pre_digits_and_draws.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_digits_and_draws.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_digits_and_draws [hPre_digits_and_draws : Cert.Pre_digits_and_draws.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_digits_and_draws.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_digits_and_draws.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_digits_and_draws [hKernelIdeal : Cert.KernelIdeal.Facts] [hPre_digits_and_draws : Cert.Pre_digits_and_draws.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_digits_and_draws m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_digits_and_draws [hReferenceIdeal : Cert.ReferenceIdeal.Facts] [hPre_digits_and_draws : Cert.Pre_digits_and_draws.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_digits_and_draws m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_digits_and_draws [hKernelIdeal : Cert.KernelIdeal.Facts] [hReferenceIdeal : Cert.ReferenceIdeal.Facts] [hPre_digits_and_draws : Cert.Pre_digits_and_draws.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_digits_and_draws m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_digits_and_draws : Cert.Pre_digits_and_draws.Facts),
    quiescent_Kernel (hKernel := hKernel)
    ∧ quiescent_KernelIdeal (hKernelIdeal := hKernelIdeal)
    ∧ quiescent_KernelIdeal_pre_digits_and_draws (hKernelIdeal := hKernelIdeal) (hPre_digits_and_draws := hPre_digits_and_draws)
    ∧ quiescent_ReferenceIdeal (hReferenceIdeal := hReferenceIdeal)
    ∧ quiescent_ReferenceIdeal_pre_digits_and_draws (hReferenceIdeal := hReferenceIdeal) (hPre_digits_and_draws := hPre_digits_and_draws)
    ∧ preserves_Kernel_KernelIdeal
    ∧ algebraic_KernelIdeal_ReferenceIdeal_pre_digits_and_draws (hKernelIdeal := hKernelIdeal) (hReferenceIdeal := hReferenceIdeal) (hPre_digits_and_draws := hPre_digits_and_draws)
-- ==== Pre_digits_and_draws.lean ====
abbrev S128 : Shape := ⟨1, ![128]⟩
abbrev S262144x128 : Shape := ⟨2, ![262144, 128]⟩
abbrev S262144x18 : Shape := ⟨2, ![262144, 18]⟩
abbrev S65536 : Shape := ⟨1, ![65536]⟩
abbrev S_ : Shape := ⟨0, ![]⟩
abbrev S262144 : Shape := ⟨1, ![262144]⟩
abbrev S1 : Shape := ⟨1, ![1]⟩

class Facts : Prop where
  bcast_S_S262144x18 : S_.BroadcastsInDim S262144x18 (![] : Fin 0 → Fin S262144x18.rank)
  reducesTo_S262144_S_d0 : S262144.ReducesTo [0] S_
  h_S_ : 0 < S_.numel
  bcast_S_S1 : S_.BroadcastsInDim S1 (![] : Fin 0 → Fin S1.rank)
  bcast_S1_S262144_0 : S1.BroadcastsInDim S262144 (![0] : Fin 1 → Fin S262144.rank)
  slices_S262144_S1_0 : S262144.Slices ![0] S1
  shapeCasts_S1_S_ : S1.ShapeCasts S_
  bcast_S_S65536 : S_.BroadcastsInDim S65536 (![] : Fin 0 → Fin S65536.rank)
  dot_S262144x128_S128_S262144_1_0_0_n_n_n_wf : DotDims.WF S262144x128 S128 S262144 [1] [0] [0] [] [] []

variable [Facts]

def dot_S262144x128_S128_S262144_1_0_0_n_n_n : DotDims S262144x128 S128 S262144 where
  lhsContracting := [1]
  rhsContracting := [0]
  lhsNonContracting := [0]
  rhsNonContracting := []
  lhsBatch := []
  rhsBatch := []
  wf := dot_S262144x128_S128_S262144_1_0_0_n_n_n_wf
def fn_part1 {F : FTy → Type} [FloatOps F] (main_arg3 : FVec F S65536 .f32) (main_v6 : IVec S262144x18 1) (main_v19 : FVec F S_ .f32) : IVec S262144x18 1 × IVec S65536 1 :=
  let main_v20 : FVec F S65536 .f32 := broadcastInDim S65536 ![] bcast_S_S65536 main_v19
  let main_v21 : IVec S65536 1 := cmpf .olt main_v20 main_arg3
  (main_v6, main_v21)

def fn {F : FTy → Type} [FloatOps F] (main_arg0 : FVec F S128 .f32) (main_arg1 : FVec F S262144x128 .f32) (main_arg2 : FVec F S262144x18 .f32) (main_arg3 : FVec F S65536 .f32) : IVec S262144x18 1 × IVec S65536 1 :=
  let main_v0 : IVec S262144x18 32 := iotaInDim S262144x18 32 0
  let main_v1 : IVec S262144x18 32 := iotaInDim S262144x18 32 1
  let main_v2 : IVec S262144x18 32 := Host.shrsi main_v0 main_v1
  let main_c : IVec S_ 32 := constantI S_ 32 1#32
  let main_v3 : IVec S262144x18 32 := broadcastInDim S262144x18 ![] bcast_S_S262144x18 main_c
  let main_v4 : IVec S262144x18 32 := andi main_v2 main_v3
  let main_v5 : FVec F S262144x18 .f32 := sitofp .f32 main_v4
  let main_v6 : IVec S262144x18 1 := cmpf .oeq main_arg2 main_v5
  let main_v7 : FVec F S262144 .f32 := (fun l r => Host.dotGeneral dot_S262144x128_S128_S262144_1_0_0_n_n_n none l r) main_arg1 main_arg0
  let main_cst : FVec F S_ .f32 := constant S_ .f32 0xFF800000#32
  let main_v8 : FVec F S_ .f32 := (fun x v => Host.reduce FloatOps.maximumf x v reducesTo_S262144_S_d0 h_S_) main_v7 main_cst
  let main_cst_0 : FVec F S_ .f32 := constant S_ .f32 0xFF800000#32
  let main_v9 : FVec F S_ .f32 := maximumf main_cst_0 main_v8
  let main_v10 : FVec F S1 .f32 := broadcastInDim S1 ![] bcast_S_S1 main_v9
  let main_v11 : FVec F S262144 .f32 := broadcastInDim S262144 ![0] bcast_S1_S262144_0 main_v10
  let main_v12 : FVec F S262144 .f32 := subf main_v7 main_v11
  let main_v13 : FVec F S262144 .f32 := Host.exp main_v12
  let main_cst_1 : FVec F S_ .f32 := constant S_ .f32 0x00000000#32
  let main_v14 : FVec F S_ .f32 := (fun x v => Host.reduceAdd x v reducesTo_S262144_S_d0 h_S_) main_v13 main_cst_1
  let main_v15 : FVec F S1 .f32 := broadcastInDim S1 ![] bcast_S_S1 main_v14
  let main_v16 : FVec F S262144 .f32 := broadcastInDim S262144 ![0] bcast_S1_S262144_0 main_v15
  let main_v17 : FVec F S262144 .f32 := Host.divf main_v13 main_v16
  let main_v18 : FVec F S1 .f32 := (extractStridedSlice S1 ![0] · slices_S262144_S1_0) main_v17
  let main_v19 : FVec F S_ .f32 := shapeCast S_ main_v18 shapeCasts_S1_S_
  fn_part1 (F := F) main_arg3 main_v6 main_v19
-- ==== Kernel.lean ====
abbrev S128 : Shape := ⟨1, ![128]⟩
abbrev S262144x128 : Shape := ⟨2, ![262144, 128]⟩
abbrev S262144x18 : Shape := ⟨2, ![262144, 18]⟩
abbrev S65536 : Shape := ⟨1, ![65536]⟩
abbrev S1x128 : Shape := ⟨2, ![1, 128]⟩
abbrev S2048x128 : Shape := ⟨2, ![2048, 128]⟩
abbrev S16384x128 : Shape := ⟨2, ![16384, 128]⟩
abbrev S128x128 : Shape := ⟨2, ![128, 128]⟩
abbrev S1x16384 : Shape := ⟨2, ![1, 16384]⟩
abbrev S8x16x128 : Shape := ⟨3, ![8, 16, 128]⟩
abbrev S128x16x128 : Shape := ⟨3, ![128, 16, 128]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩
abbrev S8 : Shape := ⟨1, ![8]⟩
abbrev S128x1x128 : Shape := ⟨3, ![128, 1, 128]⟩
abbrev S16x128 : Shape := ⟨2, ![16, 128]⟩
abbrev S1x16x128 : Shape := ⟨3, ![1, 16, 128]⟩
abbrev S128x16 : Shape := ⟨2, ![128, 16]⟩
abbrev S1x16 : Shape := ⟨2, ![1, 16]⟩
abbrev S1x1 : Shape := ⟨2, ![1, 1]⟩
abbrev S1x15 : Shape := ⟨2, ![1, 15]⟩
abbrev S127x16 : Shape := ⟨2, ![127, 16]⟩
abbrev S16384 : Shape := ⟨1, ![16384]⟩
abbrev S65536x18 : Shape := ⟨2, ![65536, 18]⟩
abbrev S2048 : Shape := ⟨1, ![2048]⟩
abbrev S128x18 : Shape := ⟨2, ![128, 18]⟩
abbrev S_ : Shape := ⟨0, ![]⟩
abbrev S16 : Shape := ⟨1, ![16]⟩

abbrev nBuf : Table → Nat
  | .hbm => 10
  | .local .tc .vmem => 11
  | .local .scVector .vmem => 8
  | _ => 0

abbrev bufTy : (tb : Table) → Fin (nBuf tb) → BufTy
  | .hbm, ⟨0, _⟩ => ⟨S128, .f32⟩
  | .hbm, ⟨1, _⟩ => ⟨S262144x128, .f32⟩
  | .hbm, ⟨2, _⟩ => ⟨S262144x18, .f32⟩
  | .hbm, ⟨3, _⟩ => ⟨S65536, .f32⟩
  | .hbm, ⟨4, _⟩ => ⟨S1x128, .f32⟩
  | .hbm, ⟨5, _⟩ => ⟨S2048x128, .f32⟩
  | .hbm, ⟨6, _⟩ => ⟨S2048x128, .f32⟩
  | .hbm, ⟨7, _⟩ => ⟨S8x16x128, .f32⟩
  | .hbm, ⟨8, _⟩ => ⟨S16384, .f32⟩
  | .hbm, ⟨9, _⟩ => ⟨S65536x18, .f32⟩
  | .local .tc .vmem, ⟨0, _⟩ => ⟨S16384x128, .f32⟩
  | .local .tc .vmem, ⟨1, _⟩ => ⟨S16384x128, .f32⟩
  | .local .tc .vmem, ⟨2, _⟩ => ⟨S1x128, .f32⟩
  | .local .tc .vmem, ⟨3, _⟩ => ⟨S128x128, .f32⟩
  | .local .tc .vmem, ⟨4, _⟩ => ⟨S128x128, .f32⟩
  | .local .tc .vmem, ⟨5, _⟩ => ⟨S2048x128, .f32⟩
  | .local .tc .vmem, ⟨6, _⟩ => ⟨S2048x128, .f32⟩
  | .local .tc .vmem, ⟨7, _⟩ => ⟨S8x16x128, .f32⟩
  | .local .tc .vmem, ⟨8, _⟩ => ⟨S2048x128, .f32⟩
  | .local .tc .vmem, ⟨9, _⟩ => ⟨S128x16x128, .f32⟩
  | .local .tc .vmem, ⟨10, _⟩ => ⟨S128x16x128, .f32⟩
  | .local .scVector .vmem, ⟨0, _⟩ => ⟨S2048, .f32⟩
  | .local .scVector .vmem, ⟨1, _⟩ => ⟨S16384, .f32⟩
  | .local .scVector .vmem, ⟨2, _⟩ => ⟨S2048, .i32⟩
  | .local .scVector .vmem, ⟨3, _⟩ => ⟨S2048, .i32⟩
  | .local .scVector .vmem, ⟨4, _⟩ => ⟨S128x128, .f32⟩
  | .local .scVector .vmem, ⟨5, _⟩ => ⟨S128x128, .f32⟩
  | .local .scVector .vmem, ⟨6, _⟩ => ⟨S128x18, .f32⟩
  | .local .scVector .vmem, ⟨7, _⟩ => ⟨S128x18, .f32⟩
  | _, _ => ⟨S128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v3_scv : Ref sig .scVector := ⟨.hbm, 8, rfl⟩
abbrev main_v2_0_scv : Ref sig .scVector := ⟨.hbm, 6, rfl⟩
abbrev main_arg3_scv : Ref sig .scVector := ⟨.hbm, 3, rfl⟩
abbrev main_v4_scv : Ref sig .scVector := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg2_0 : Ref sig .tc := ⟨.vmem, 7, rfl⟩
abbrev cc1_scratch0 : Ref sig .tc := ⟨.vmem, 8, rfl⟩
abbrev cc1_scratch1 : Ref sig .tc := ⟨.vmem, 9, rfl⟩
abbrev cc1_scratch2 : Ref sig .tc := ⟨.vmem, 10, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem2_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

@[reducible] def k1_t1_loop : Scf.Loop 32 :=
  let c0_i32 : BitVec 32 := 0#32
  let c256_i32 : BitVec 32 := 256#32
  let v1 : BitVec 32 := Scalar.addi c0_i32 c256_i32
  let c1_i32 : BitVec 32 := 1#32
  ⟨c0_i32, v1, c1_i32⟩
def k1_off1 (k1_t1 : Fin k1_t1_loop.trips) : Fin 2 → Nat :=
  let c0_i32 : BitVec 32 := 0#32
  let c1_i32 : BitVec 32 := 1#32
  let arg6 : BitVec 32 := Scf.iv c0_i32 c1_i32 k1_t1
  let c8_i32 : BitVec 32 := 8#32
  let v501 : BitVec 32 := Scalar.muli arg6 c8_i32
  let v502 : Index := Scalar.indexCast v501
  let c0_195 : Index := 0#32
  ![v502.toNat, 0]
@[reducible] def k1_t2_loop : Scf.Loop 32 :=
  let c0_i32_3 : BitVec 32 := 0#32
  let c256_i32_4 : BitVec 32 := 256#32
  let v8 : BitVec 32 := Scalar.addi c0_i32_3 c256_i32_4
  let c1_i32_5 : BitVec 32 := 1#32
  ⟨c0_i32_3, v8, c1_i32_5⟩
def k1_off2 (k1_t2 : Fin k1_t2_loop.trips) : Fin 2 → Nat :=
  let c0_i32_3 : BitVec 32 := 0#32
  let c1_i32_5 : BitVec 32 := 1#32
  let arg6 : BitVec 32 := Scf.iv c0_i32_3 c1_i32_5 k1_t2
  let c8_i32 : BitVec 32 := 8#32
  let v501 : BitVec 32 := Scalar.muli arg6 c8_i32
  let v502 : Index := Scalar.indexCast v501
  let c0_195 : Index := 0#32
  ![v502.toNat, 0]
@[reducible] def k1_t3_loop : Scf.Loop 32 :=
  let c0_i32_9 : BitVec 32 := 0#32
  let c256_i32_10 : BitVec 32 := 256#32
  let v19 : BitVec 32 := Scalar.addi c0_i32_9 c256_i32_10
  let c1_i32_11 : BitVec 32 := 1#32
  ⟨c0_i32_9, v19, c1_i32_11⟩
def k1_off3 (k1_t3 : Fin k1_t3_loop.trips) : Fin 2 → Nat :=
  let c0_i32_9 : BitVec 32 := 0#32
  let c1_i32_11 : BitVec 32 := 1#32
  let arg6 : BitVec 32 := Scf.iv c0_i32_9 c1_i32_11 k1_t3
  let c8_i32 : BitVec 32 := 8#32
  let v501 : BitVec 32 := Scalar.muli arg6 c8_i32
  let v502 : Index := Scalar.indexCast v501
  let c0_195 : Index := 0#32
  ![v502.toNat, 0]
@[reducible] def k1_t4_loop : Scf.Loop 32 :=
  let c0_i32_63 : BitVec 32 := 0#32
  let c128_i32 : BitVec 32 := 128#32
  let v117 : BitVec 32 := Scalar.addi c0_i32_63 c128_i32
  let c1_i32_64 : BitVec 32 := 1#32
  ⟨c0_i32_63, v117, c1_i32_64⟩
def k1_off4 (k1_t4 : Fin k1_t4_loop.trips) : Fin 3 → Nat :=
  let c0_i32_63 : BitVec 32 := 0#32
  let c1_i32_64 : BitVec 32 := 1#32
  let arg6 : BitVec 32 := Scf.iv c0_i32_63 c1_i32_64 k1_t4
  let v501 : Index := Scalar.indexCast arg6
  let c0_195 : Index := 0#32
  let c0_196 : Index := 0#32
  ![v501.toNat, 0, 0]
@[reducible] def k1_t5_loop : Scf.Loop 32 :=
  let c0_i32_70 : BitVec 32 := 0#32
  let c128_i32_71 : BitVec 32 := 128#32
  let v420 : BitVec 32 := Scalar.addi c0_i32_70 c128_i32_71
  let c1_i32_72 : BitVec 32 := 1#32
  ⟨c0_i32_70, v420, c1_i32_72⟩
def k1_off5 (k1_t5 : Fin k1_t5_loop.trips) : Fin 3 → Nat :=
  let c0_i32_70 : BitVec 32 := 0#32
  let c1_i32_72 : BitVec 32 := 1#32
  let arg6 : BitVec 32 := Scf.iv c0_i32_70 c1_i32_72 k1_t5
  let v501 : Index := Scalar.indexCast arg6
  let c0_195 : Index := 0#32
  let c0_196 : Index := 0#32
  ![v501.toNat, 0, 0]
abbrev stage1_0 : Fin 1 → Memref sig .tc .vmem S2048x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x16x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  ![v2.toNat]
@[reducible] def k2_t1_loop : Scf.Loop 32 :=
  let c0_i32_0 : BitVec 32 := 0#32
  let c32_i32 : BitVec 32 := 32#32
  let v4 : BitVec 32 := Scalar.addi c0_i32_0 c32_i32
  let c1_i32 : BitVec 32 := 1#32
  ⟨c0_i32_0, v4, c1_i32⟩
def k2_off2 (k2_t1 : Fin k2_t1_loop.trips) (c0_i32_243 : BitVec 32) : Fin 1 → Nat :=
  let c0_i32_0 : BitVec 32 := 0#32
  let c1_i32 : BitVec 32 := 1#32
  let arg18 : BitVec 32 := Scf.iv c0_i32_0 c1_i32 k2_t1
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : Index := Scalar.indexCast v184
  ![v185.toNat]

def k2_chk1 (v222 : IVec S16 32) : Prop :=
  (∀ a x, ((![v222] : Fin 1 → IVec S16 32) a x).toNat < S16384.size a)
theorem k2_idx1_inb : ∀ (v222 : IVec S16 32) (k2_hw1 : k2_chk1 v222), ∀ a x, ((![v222] : Fin 1 → IVec S16 32) a x).toNat < S16384.size a := fun v222 k2_hw1 => k2_hw1

def k2_chk2 (v236 : IVec S16 32) : Prop :=
  (∀ a x, ((![v236] : Fin 1 → IVec S16 32) a x).toNat < S16384.size a)
theorem k2_idx2_inb : ∀ (v236 : IVec S16 32) (k2_hw2 : k2_chk2 v236), ∀ a x, ((![v236] : Fin 1 → IVec S16 32) a x).toNat < S16384.size a := fun v236 k2_hw2 => k2_hw2

def k2_chk3 (v250 : IVec S16 32) : Prop :=
  (∀ a x, ((![v250] : Fin 1 → IVec S16 32) a x).toNat < S16384.size a)
theorem k2_idx3_inb : ∀ (v250 : IVec S16 32) (k2_hw3 : k2_chk3 v250), ∀ a x, ((![v250] : Fin 1 → IVec S16 32) a x).toNat < S16384.size a := fun v250 k2_hw3 => k2_hw3

def k2_chk4 (v264 : IVec S16 32) : Prop :=
  (∀ a x, ((![v264] : Fin 1 → IVec S16 32) a x).toNat < S16384.size a)
theorem k2_idx4_inb : ∀ (v264 : IVec S16 32) (k2_hw4 : k2_chk4 v264), ∀ a x, ((![v264] : Fin 1 → IVec S16 32) a x).toNat < S16384.size a := fun v264 k2_hw4 => k2_hw4

def k2_chk5 (v290 : IVec S16 32) : Prop :=
  (∀ a x, ((![v290] : Fin 1 → IVec S16 32) a x).toNat < S16384.size a)
theorem k2_idx5_inb : ∀ (v290 : IVec S16 32) (k2_hw5 : k2_chk5 v290), ∀ a x, ((![v290] : Fin 1 → IVec S16 32) a x).toNat < S16384.size a := fun v290 k2_hw5 => k2_hw5

def k2_chk6 (v304 : IVec S16 32) : Prop :=
  (∀ a x, ((![v304] : Fin 1 → IVec S16 32) a x).toNat < S16384.size a)
theorem k2_idx6_inb : ∀ (v304 : IVec S16 32) (k2_hw6 : k2_chk6 v304), ∀ a x, ((![v304] : Fin 1 → IVec S16 32) a x).toNat < S16384.size a := fun v304 k2_hw6 => k2_hw6

def k2_chk7 (v318 : IVec S16 32) : Prop :=
  (∀ a x, ((![v318] : Fin 1 → IVec S16 32) a x).toNat < S16384.size a)
theorem k2_idx7_inb : ∀ (v318 : IVec S16 32) (k2_hw7 : k2_chk7 v318), ∀ a x, ((![v318] : Fin 1 → IVec S16 32) a x).toNat < S16384.size a := fun v318 k2_hw7 => k2_hw7

def k2_chk8 (v332 : IVec S16 32) : Prop :=
  (∀ a x, ((![v332] : Fin 1 → IVec S16 32) a x).toNat < S16384.size a)
theorem k2_idx8_inb : ∀ (v332 : IVec S16 32) (k2_hw8 : k2_chk8 v332), ∀ a x, ((![v332] : Fin 1 → IVec S16 32) a x).toNat < S16384.size a := fun v332 k2_hw8 => k2_hw8

def k2_chk9 (v358 : IVec S16 32) : Prop :=
  (∀ a x, ((![v358] : Fin 1 → IVec S16 32) a x).toNat < S16384.size a)
theorem k2_idx9_inb : ∀ (v358 : IVec S16 32) (k2_hw9 : k2_chk9 v358), ∀ a x, ((![v358] : Fin 1 → IVec S16 32) a x).toNat < S16384.size a := fun v358 k2_hw9 => k2_hw9

def k2_chk10 (v372 : IVec S16 32) : Prop :=
  (∀ a x, ((![v372] : Fin 1 → IVec S16 32) a x).toNat < S16384.size a)
theorem k2_idx10_inb : ∀ (v372 : IVec S16 32) (k2_hw10 : k2_chk10 v372), ∀ a x, ((![v372] : Fin 1 → IVec S16 32) a x).toNat < S16384.size a := fun v372 k2_hw10 => k2_hw10

def k2_chk11 (v386 : IVec S16 32) : Prop :=
  (∀ a x, ((![v386] : Fin 1 → IVec S16 32) a x).toNat < S16384.size a)
theorem k2_idx11_inb : ∀ (v386 : IVec S16 32) (k2_hw11 : k2_chk11 v386), ∀ a x, ((![v386] : Fin 1 → IVec S16 32) a x).toNat < S16384.size a := fun v386 k2_hw11 => k2_hw11

def k2_chk12 (v400 : IVec S16 32) : Prop :=
  (∀ a x, ((![v400] : Fin 1 → IVec S16 32) a x).toNat < S16384.size a)
theorem k2_idx12_inb : ∀ (v400 : IVec S16 32) (k2_hw12 : k2_chk12 v400), ∀ a x, ((![v400] : Fin 1 → IVec S16 32) a x).toNat < S16384.size a := fun v400 k2_hw12 => k2_hw12

def k2_chk13 (v426 : IVec S16 32) : Prop :=
  (∀ a x, ((![v426] : Fin 1 → IVec S16 32) a x).toNat < S16384.size a)
theorem k2_idx13_inb : ∀ (v426 : IVec S16 32) (k2_hw13 : k2_chk13 v426), ∀ a x, ((![v426] : Fin 1 → IVec S16 32) a x).toNat < S16384.size a := fun v426 k2_hw13 => k2_hw13

def k2_chk14 (v440 : IVec S16 32) : Prop :=
  (∀ a x, ((![v440] : Fin 1 → IVec S16 32) a x).toNat < S16384.size a)
theorem k2_idx14_inb : ∀ (v440 : IVec S16 32) (k2_hw14 : k2_chk14 v440), ∀ a x, ((![v440] : Fin 1 → IVec S16 32) a x).toNat < S16384.size a := fun v440 k2_hw14 => k2_hw14

def k2_chk15 (v454 : IVec S16 32) : Prop :=
  (∀ a x, ((![v454] : Fin 1 → IVec S16 32) a x).toNat < S16384.size a)
theorem k2_idx15_inb : ∀ (v454 : IVec S16 32) (k2_hw15 : k2_chk15 v454), ∀ a x, ((![v454] : Fin 1 → IVec S16 32) a x).toNat < S16384.size a := fun v454 k2_hw15 => k2_hw15

def k2_chk16 (v468 : IVec S16 32) : Prop :=
  (∀ a x, ((![v468] : Fin 1 → IVec S16 32) a x).toNat < S16384.size a)
theorem k2_idx16_inb : ∀ (v468 : IVec S16 32) (k2_hw16 : k2_chk16 v468), ∀ a x, ((![v468] : Fin 1 → IVec S16 32) a x).toNat < S16384.size a := fun v468 k2_hw16 => k2_hw16

def k2_chk17 (v494 : IVec S16 32) : Prop :=
  (∀ a x, ((![v494] : Fin 1 → IVec S16 32) a x).toNat < S16384.size a)
theorem k2_idx17_inb : ∀ (v494 : IVec S16 32) (k2_hw17 : k2_chk17 v494), ∀ a x, ((![v494] : Fin 1 → IVec S16 32) a x).toNat < S16384.size a := fun v494 k2_hw17 => k2_hw17

def k2_chk18 (v508 : IVec S16 32) : Prop :=
  (∀ a x, ((![v508] : Fin 1 → IVec S16 32) a x).toNat < S16384.size a)
theorem k2_idx18_inb : ∀ (v508 : IVec S16 32) (k2_hw18 : k2_chk18 v508), ∀ a x, ((![v508] : Fin 1 → IVec S16 32) a x).toNat < S16384.size a := fun v508 k2_hw18 => k2_hw18

def k2_chk19 (v522 : IVec S16 32) : Prop :=
  (∀ a x, ((![v522] : Fin 1 → IVec S16 32) a x).toNat < S16384.size a)
theorem k2_idx19_inb : ∀ (v522 : IVec S16 32) (k2_hw19 : k2_chk19 v522), ∀ a x, ((![v522] : Fin 1 → IVec S16 32) a x).toNat < S16384.size a := fun v522 k2_hw19 => k2_hw19

def k2_chk20 (v536 : IVec S16 32) : Prop :=
  (∀ a x, ((![v536] : Fin 1 → IVec S16 32) a x).toNat < S16384.size a)
theorem k2_idx20_inb : ∀ (v536 : IVec S16 32) (k2_hw20 : k2_chk20 v536), ∀ a x, ((![v536] : Fin 1 → IVec S16 32) a x).toNat < S16384.size a := fun v536 k2_hw20 => k2_hw20

def k2_chk21 (v562 : IVec S16 32) : Prop :=
  (∀ a x, ((![v562] : Fin 1 → IVec S16 32) a x).toNat < S16384.size a)
theorem k2_idx21_inb : ∀ (v562 : IVec S16 32) (k2_hw21 : k2_chk21 v562), ∀ a x, ((![v562] : Fin 1 → IVec S16 32) a x).toNat < S16384.size a := fun v562 k2_hw21 => k2_hw21

def k2_chk22 (v576 : IVec S16 32) : Prop :=
  (∀ a x, ((![v576] : Fin 1 → IVec S16 32) a x).toNat < S16384.size a)
theorem k2_idx22_inb : ∀ (v576 : IVec S16 32) (k2_hw22 : k2_chk22 v576), ∀ a x, ((![v576] : Fin 1 → IVec S16 32) a x).toNat < S16384.size a := fun v576 k2_hw22 => k2_hw22

def k2_chk23 (v590 : IVec S16 32) : Prop :=
  (∀ a x, ((![v590] : Fin 1 → IVec S16 32) a x).toNat < S16384.size a)
theorem k2_idx23_inb : ∀ (v590 : IVec S16 32) (k2_hw23 : k2_chk23 v590), ∀ a x, ((![v590] : Fin 1 → IVec S16 32) a x).toNat < S16384.size a := fun v590 k2_hw23 => k2_hw23

def k2_chk24 (v604 : IVec S16 32) : Prop :=
  (∀ a x, ((![v604] : Fin 1 → IVec S16 32) a x).toNat < S16384.size a)
theorem k2_idx24_inb : ∀ (v604 : IVec S16 32) (k2_hw24 : k2_chk24 v604), ∀ a x, ((![v604] : Fin 1 → IVec S16 32) a x).toNat < S16384.size a := fun v604 k2_hw24 => k2_hw24

def k2_chk25 (v630 : IVec S16 32) : Prop :=
  (∀ a x, ((![v630] : Fin 1 → IVec S16 32) a x).toNat < S16384.size a)
theorem k2_idx25_inb : ∀ (v630 : IVec S16 32) (k2_hw25 : k2_chk25 v630), ∀ a x, ((![v630] : Fin 1 → IVec S16 32) a x).toNat < S16384.size a := fun v630 k2_hw25 => k2_hw25

def k2_chk26 (v644 : IVec S16 32) : Prop :=
  (∀ a x, ((![v644] : Fin 1 → IVec S16 32) a x).toNat < S16384.size a)
theorem k2_idx26_inb : ∀ (v644 : IVec S16 32) (k2_hw26 : k2_chk26 v644), ∀ a x, ((![v644] : Fin 1 → IVec S16 32) a x).toNat < S16384.size a := fun v644 k2_hw26 => k2_hw26

def k2_chk27 (v658 : IVec S16 32) : Prop :=
  (∀ a x, ((![v658] : Fin 1 → IVec S16 32) a x).toNat < S16384.size a)
theorem k2_idx27_inb : ∀ (v658 : IVec S16 32) (k2_hw27 : k2_chk27 v658), ∀ a x, ((![v658] : Fin 1 → IVec S16 32) a x).toNat < S16384.size a := fun v658 k2_hw27 => k2_hw27

def k2_chk28 (v672 : IVec S16 32) : Prop :=
  (∀ a x, ((![v672] : Fin 1 → IVec S16 32) a x).toNat < S16384.size a)
theorem k2_idx28_inb : ∀ (v672 : IVec S16 32) (k2_hw28 : k2_chk28 v672), ∀ a x, ((![v672] : Fin 1 → IVec S16 32) a x).toNat < S16384.size a := fun v672 k2_hw28 => k2_hw28

def k2_chk29 (v698 : IVec S16 32) : Prop :=
  (∀ a x, ((![v698] : Fin 1 → IVec S16 32) a x).toNat < S16384.size a)
theorem k2_idx29_inb : ∀ (v698 : IVec S16 32) (k2_hw29 : k2_chk29 v698), ∀ a x, ((![v698] : Fin 1 → IVec S16 32) a x).toNat < S16384.size a := fun v698 k2_hw29 => k2_hw29

def k2_chk30 (v712 : IVec S16 32) : Prop :=
  (∀ a x, ((![v712] : Fin 1 → IVec S16 32) a x).toNat < S16384.size a)
theorem k2_idx30_inb : ∀ (v712 : IVec S16 32) (k2_hw30 : k2_chk30 v712), ∀ a x, ((![v712] : Fin 1 → IVec S16 32) a x).toNat < S16384.size a := fun v712 k2_hw30 => k2_hw30

def k2_chk31 (v726 : IVec S16 32) : Prop :=
  (∀ a x, ((![v726] : Fin 1 → IVec S16 32) a x).toNat < S16384.size a)
theorem k2_idx31_inb : ∀ (v726 : IVec S16 32) (k2_hw31 : k2_chk31 v726), ∀ a x, ((![v726] : Fin 1 → IVec S16 32) a x).toNat < S16384.size a := fun v726 k2_hw31 => k2_hw31

def k2_chk32 (v740 : IVec S16 32) : Prop :=
  (∀ a x, ((![v740] : Fin 1 → IVec S16 32) a x).toNat < S16384.size a)
theorem k2_idx32_inb : ∀ (v740 : IVec S16 32) (k2_hw32 : k2_chk32 v740), ∀ a x, ((![v740] : Fin 1 → IVec S16 32) a x).toNat < S16384.size a := fun v740 k2_hw32 => k2_hw32

def k2_chk33 (v766 : IVec S16 32) : Prop :=
  (∀ a x, ((![v766] : Fin 1 → IVec S16 32) a x).toNat < S16384.size a)
theorem k2_idx33_inb : ∀ (v766 : IVec S16 32) (k2_hw33 : k2_chk33 v766), ∀ a x, ((![v766] : Fin 1 → IVec S16 32) a x).toNat < S16384.size a := fun v766 k2_hw33 => k2_hw33

def k2_chk34 (v780 : IVec S16 32) : Prop :=
  (∀ a x, ((![v780] : Fin 1 → IVec S16 32) a x).toNat < S16384.size a)
theorem k2_idx34_inb : ∀ (v780 : IVec S16 32) (k2_hw34 : k2_chk34 v780), ∀ a x, ((![v780] : Fin 1 → IVec S16 32) a x).toNat < S16384.size a := fun v780 k2_hw34 => k2_hw34

def k2_chk35 (v794 : IVec S16 32) : Prop :=
  (∀ a x, ((![v794] : Fin 1 → IVec S16 32) a x).toNat < S16384.size a)
theorem k2_idx35_inb : ∀ (v794 : IVec S16 32) (k2_hw35 : k2_chk35 v794), ∀ a x, ((![v794] : Fin 1 → IVec S16 32) a x).toNat < S16384.size a := fun v794 k2_hw35 => k2_hw35

def k2_chk36 (v808 : IVec S16 32) : Prop :=
  (∀ a x, ((![v808] : Fin 1 → IVec S16 32) a x).toNat < S16384.size a)
theorem k2_idx36_inb : ∀ (v808 : IVec S16 32) (k2_hw36 : k2_chk36 v808), ∀ a x, ((![v808] : Fin 1 → IVec S16 32) a x).toNat < S16384.size a := fun v808 k2_hw36 => k2_hw36

def k2_chk37 (v834 : IVec S16 32) : Prop :=
  (∀ a x, ((![v834] : Fin 1 → IVec S16 32) a x).toNat < S16384.size a)
theorem k2_idx37_inb : ∀ (v834 : IVec S16 32) (k2_hw37 : k2_chk37 v834), ∀ a x, ((![v834] : Fin 1 → IVec S16 32) a x).toNat < S16384.size a := fun v834 k2_hw37 => k2_hw37

def k2_chk38 (v848 : IVec S16 32) : Prop :=
  (∀ a x, ((![v848] : Fin 1 → IVec S16 32) a x).toNat < S16384.size a)
theorem k2_idx38_inb : ∀ (v848 : IVec S16 32) (k2_hw38 : k2_chk38 v848), ∀ a x, ((![v848] : Fin 1 → IVec S16 32) a x).toNat < S16384.size a := fun v848 k2_hw38 => k2_hw38

def k2_chk39 (v862 : IVec S16 32) : Prop :=
  (∀ a x, ((![v862] : Fin 1 → IVec S16 32) a x).toNat < S16384.size a)
theorem k2_idx39_inb : ∀ (v862 : IVec S16 32) (k2_hw39 : k2_chk39 v862), ∀ a x, ((![v862] : Fin 1 → IVec S16 32) a x).toNat < S16384.size a := fun v862 k2_hw39 => k2_hw39

def k2_chk40 (v876 : IVec S16 32) : Prop :=
  (∀ a x, ((![v876] : Fin 1 → IVec S16 32) a x).toNat < S16384.size a)
theorem k2_idx40_inb : ∀ (v876 : IVec S16 32) (k2_hw40 : k2_chk40 v876), ∀ a x, ((![v876] : Fin 1 → IVec S16 32) a x).toNat < S16384.size a := fun v876 k2_hw40 => k2_hw40

def k2_chk41 (v902 : IVec S16 32) : Prop :=
  (∀ a x, ((![v902] : Fin 1 → IVec S16 32) a x).toNat < S16384.size a)
theorem k2_idx41_inb : ∀ (v902 : IVec S16 32) (k2_hw41 : k2_chk41 v902), ∀ a x, ((![v902] : Fin 1 → IVec S16 32) a x).toNat < S16384.size a := fun v902 k2_hw41 => k2_hw41

def k2_chk42 (v916 : IVec S16 32) : Prop :=
  (∀ a x, ((![v916] : Fin 1 → IVec S16 32) a x).toNat < S16384.size a)
theorem k2_idx42_inb : ∀ (v916 : IVec S16 32) (k2_hw42 : k2_chk42 v916), ∀ a x, ((![v916] : Fin 1 → IVec S16 32) a x).toNat < S16384.size a := fun v916 k2_hw42 => k2_hw42

def k2_chk43 (v930 : IVec S16 32) : Prop :=
  (∀ a x, ((![v930] : Fin 1 → IVec S16 32) a x).toNat < S16384.size a)
theorem k2_idx43_inb : ∀ (v930 : IVec S16 32) (k2_hw43 : k2_chk43 v930), ∀ a x, ((![v930] : Fin 1 → IVec S16 32) a x).toNat < S16384.size a := fun v930 k2_hw43 => k2_hw43

def k2_chk44 (v944 : IVec S16 32) : Prop :=
  (∀ a x, ((![v944] : Fin 1 → IVec S16 32) a x).toNat < S16384.size a)
theorem k2_idx44_inb : ∀ (v944 : IVec S16 32) (k2_hw44 : k2_chk44 v944), ∀ a x, ((![v944] : Fin 1 → IVec S16 32) a x).toNat < S16384.size a := fun v944 k2_hw44 => k2_hw44

def k2_chk45 (v970 : IVec S16 32) : Prop :=
  (∀ a x, ((![v970] : Fin 1 → IVec S16 32) a x).toNat < S16384.size a)
theorem k2_idx45_inb : ∀ (v970 : IVec S16 32) (k2_hw45 : k2_chk45 v970), ∀ a x, ((![v970] : Fin 1 → IVec S16 32) a x).toNat < S16384.size a := fun v970 k2_hw45 => k2_hw45

def k2_chk46 (v984 : IVec S16 32) : Prop :=
  (∀ a x, ((![v984] : Fin 1 → IVec S16 32) a x).toNat < S16384.size a)
theorem k2_idx46_inb : ∀ (v984 : IVec S16 32) (k2_hw46 : k2_chk46 v984), ∀ a x, ((![v984] : Fin 1 → IVec S16 32) a x).toNat < S16384.size a := fun v984 k2_hw46 => k2_hw46

def k2_chk47 (v998 : IVec S16 32) : Prop :=
  (∀ a x, ((![v998] : Fin 1 → IVec S16 32) a x).toNat < S16384.size a)
theorem k2_idx47_inb : ∀ (v998 : IVec S16 32) (k2_hw47 : k2_chk47 v998), ∀ a x, ((![v998] : Fin 1 → IVec S16 32) a x).toNat < S16384.size a := fun v998 k2_hw47 => k2_hw47

def k2_chk48 (v1012 : IVec S16 32) : Prop :=
  (∀ a x, ((![v1012] : Fin 1 → IVec S16 32) a x).toNat < S16384.size a)
theorem k2_idx48_inb : ∀ (v1012 : IVec S16 32) (k2_hw48 : k2_chk48 v1012), ∀ a x, ((![v1012] : Fin 1 → IVec S16 32) a x).toNat < S16384.size a := fun v1012 k2_hw48 => k2_hw48

def k2_chk49 (v1038 : IVec S16 32) : Prop :=
  (∀ a x, ((![v1038] : Fin 1 → IVec S16 32) a x).toNat < S16384.size a)
theorem k2_idx49_inb : ∀ (v1038 : IVec S16 32) (k2_hw49 : k2_chk49 v1038), ∀ a x, ((![v1038] : Fin 1 → IVec S16 32) a x).toNat < S16384.size a := fun v1038 k2_hw49 => k2_hw49

def k2_chk50 (v1052 : IVec S16 32) : Prop :=
  (∀ a x, ((![v1052] : Fin 1 → IVec S16 32) a x).toNat < S16384.size a)
theorem k2_idx50_inb : ∀ (v1052 : IVec S16 32) (k2_hw50 : k2_chk50 v1052), ∀ a x, ((![v1052] : Fin 1 → IVec S16 32) a x).toNat < S16384.size a := fun v1052 k2_hw50 => k2_hw50

def k2_chk51 (v1066 : IVec S16 32) : Prop :=
  (∀ a x, ((![v1066] : Fin 1 → IVec S16 32) a x).toNat < S16384.size a)
theorem k2_idx51_inb : ∀ (v1066 : IVec S16 32) (k2_hw51 : k2_chk51 v1066), ∀ a x, ((![v1066] : Fin 1 → IVec S16 32) a x).toNat < S16384.size a := fun v1066 k2_hw51 => k2_hw51

def k2_chk52 (v1080 : IVec S16 32) : Prop :=
  (∀ a x, ((![v1080] : Fin 1 → IVec S16 32) a x).toNat < S16384.size a)
theorem k2_idx52_inb : ∀ (v1080 : IVec S16 32) (k2_hw52 : k2_chk52 v1080), ∀ a x, ((![v1080] : Fin 1 → IVec S16 32) a x).toNat < S16384.size a := fun v1080 k2_hw52 => k2_hw52

def k2_chk53 (v1106 : IVec S16 32) : Prop :=
  (∀ a x, ((![v1106] : Fin 1 → IVec S16 32) a x).toNat < S16384.size a)
theorem k2_idx53_inb : ∀ (v1106 : IVec S16 32) (k2_hw53 : k2_chk53 v1106), ∀ a x, ((![v1106] : Fin 1 → IVec S16 32) a x).toNat < S16384.size a := fun v1106 k2_hw53 => k2_hw53

def k2_chk54 (v1120 : IVec S16 32) : Prop :=
  (∀ a x, ((![v1120] : Fin 1 → IVec S16 32) a x).toNat < S16384.size a)
theorem k2_idx54_inb : ∀ (v1120 : IVec S16 32) (k2_hw54 : k2_chk54 v1120), ∀ a x, ((![v1120] : Fin 1 → IVec S16 32) a x).toNat < S16384.size a := fun v1120 k2_hw54 => k2_hw54

def k2_chk55 (v1134 : IVec S16 32) : Prop :=
  (∀ a x, ((![v1134] : Fin 1 → IVec S16 32) a x).toNat < S16384.size a)
theorem k2_idx55_inb : ∀ (v1134 : IVec S16 32) (k2_hw55 : k2_chk55 v1134), ∀ a x, ((![v1134] : Fin 1 → IVec S16 32) a x).toNat < S16384.size a := fun v1134 k2_hw55 => k2_hw55

def k2_chk56 (v1148 : IVec S16 32) : Prop :=
  (∀ a x, ((![v1148] : Fin 1 → IVec S16 32) a x).toNat < S16384.size a)
theorem k2_idx56_inb : ∀ (v1148 : IVec S16 32) (k2_hw56 : k2_chk56 v1148), ∀ a x, ((![v1148] : Fin 1 → IVec S16 32) a x).toNat < S16384.size a := fun v1148 k2_hw56 => k2_hw56
def k2_off3 (k2_t1 : Fin k2_t1_loop.trips) (c0_i32_540 : BitVec 32) : Fin 1 → Nat :=
  let c0_i32_0 : BitVec 32 := 0#32
  let c1_i32 : BitVec 32 := 1#32
  let arg18 : BitVec 32 := Scf.iv c0_i32_0 c1_i32 k2_t1
  let c4_i32_539 : BitVec 32 := 4#32
  let v1164 : BitVec 32 := Scalar.muli arg18 c4_i32_539
  let v1165 : BitVec 32 := Scalar.addi v1164 c0_i32_540
  let c16_i32_541 : BitVec 32 := 16#32
  let v1166 : BitVec 32 := Scalar.muli v1165 c16_i32_541
  let v1167 : Index := Scalar.indexCast v1166
  ![v1167.toNat]
@[reducible] def k2_t2_loop : Scf.Loop 32 :=
  let c0_i32_11 : BitVec 32 := 0#32
  let c2_i32_12 : BitVec 32 := 2#32
  let v12 : BitVec 32 := Scalar.addi c0_i32_11 c2_i32_12
  let c1_i32_13 : BitVec 32 := 1#32
  ⟨c0_i32_11, v12, c1_i32_13⟩
def k2_off4 (k2_t2 : Fin k2_t2_loop.trips) (c0_i32_243 : BitVec 32) : Fin 1 → Nat :=
  let c0_i32_244 : BitVec 32 := 0#32
  let c0_i32_11 : BitVec 32 := 0#32
  let c1_i32_13 : BitVec 32 := 1#32
  let arg18 : BitVec 32 := Scf.iv c0_i32_11 c1_i32_13 k2_t2
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c0_i32_244 v184
  let v186 : Index := Scalar.indexCast v185
  ![v186.toNat]

def k2_chk57 (v200 : IVec S16 32) (v263 : IVec S16 32) : Prop :=
  (∀ a x, ((![v200, v263] : Fin 2 → IVec S16 32) a x).toNat < S128x128.size a)
theorem k2_idx57_inb : ∀ (v200 : IVec S16 32) (v263 : IVec S16 32) (k2_hw57 : k2_chk57 v200 v263), ∀ a x, ((![v200, v263] : Fin 2 → IVec S16 32) a x).toNat < S128x128.size a := fun v200 v263 k2_hw57 => k2_hw57

def k2_chk58 (v219 : IVec S16 32) (v270 : IVec S16 32) : Prop :=
  (∀ a x, ((![v219, v270] : Fin 2 → IVec S16 32) a x).toNat < S128x128.size a)
theorem k2_idx58_inb : ∀ (v219 : IVec S16 32) (v270 : IVec S16 32) (k2_hw58 : k2_chk58 v219 v270), ∀ a x, ((![v219, v270] : Fin 2 → IVec S16 32) a x).toNat < S128x128.size a := fun v219 v270 k2_hw58 => k2_hw58

def k2_chk59 (v238 : IVec S16 32) (v277 : IVec S16 32) : Prop :=
  (∀ a x, ((![v238, v277] : Fin 2 → IVec S16 32) a x).toNat < S128x128.size a)
theorem k2_idx59_inb : ∀ (v238 : IVec S16 32) (v277 : IVec S16 32) (k2_hw59 : k2_chk59 v238 v277), ∀ a x, ((![v238, v277] : Fin 2 → IVec S16 32) a x).toNat < S128x128.size a := fun v238 v277 k2_hw59 => k2_hw59

def k2_chk60 (v257 : IVec S16 32) (v284 : IVec S16 32) : Prop :=
  (∀ a x, ((![v257, v284] : Fin 2 → IVec S16 32) a x).toNat < S128x128.size a)
theorem k2_idx60_inb : ∀ (v257 : IVec S16 32) (v284 : IVec S16 32) (k2_hw60 : k2_chk60 v257 v284), ∀ a x, ((![v257, v284] : Fin 2 → IVec S16 32) a x).toNat < S128x128.size a := fun v257 v284 k2_hw60 => k2_hw60

def k2_chk61 (v200 : IVec S16 32) (v303 : IVec S16 32) : Prop :=
  (∀ a x, ((![v200, v303] : Fin 2 → IVec S16 32) a x).toNat < S128x128.size a)
theorem k2_idx61_inb : ∀ (v200 : IVec S16 32) (v303 : IVec S16 32) (k2_hw61 : k2_chk61 v200 v303), ∀ a x, ((![v200, v303] : Fin 2 → IVec S16 32) a x).toNat < S128x128.size a := fun v200 v303 k2_hw61 => k2_hw61

def k2_chk62 (v219 : IVec S16 32) (v310 : IVec S16 32) : Prop :=
  (∀ a x, ((![v219, v310] : Fin 2 → IVec S16 32) a x).toNat < S128x128.size a)
theorem k2_idx62_inb : ∀ (v219 : IVec S16 32) (v310 : IVec S16 32) (k2_hw62 : k2_chk62 v219 v310), ∀ a x, ((![v219, v310] : Fin 2 → IVec S16 32) a x).toNat < S128x128.size a := fun v219 v310 k2_hw62 => k2_hw62

def k2_chk63 (v238 : IVec S16 32) (v317 : IVec S16 32) : Prop :=
  (∀ a x, ((![v238, v317] : Fin 2 → IVec S16 32) a x).toNat < S128x128.size a)
theorem k2_idx63_inb : ∀ (v238 : IVec S16 32) (v317 : IVec S16 32) (k2_hw63 : k2_chk63 v238 v317), ∀ a x, ((![v238, v317] : Fin 2 → IVec S16 32) a x).toNat < S128x128.size a := fun v238 v317 k2_hw63 => k2_hw63

def k2_chk64 (v257 : IVec S16 32) (v324 : IVec S16 32) : Prop :=
  (∀ a x, ((![v257, v324] : Fin 2 → IVec S16 32) a x).toNat < S128x128.size a)
theorem k2_idx64_inb : ∀ (v257 : IVec S16 32) (v324 : IVec S16 32) (k2_hw64 : k2_chk64 v257 v324), ∀ a x, ((![v257, v324] : Fin 2 → IVec S16 32) a x).toNat < S128x128.size a := fun v257 v324 k2_hw64 => k2_hw64

def k2_chk65 (v200 : IVec S16 32) (v343 : IVec S16 32) : Prop :=
  (∀ a x, ((![v200, v343] : Fin 2 → IVec S16 32) a x).toNat < S128x128.size a)
theorem k2_idx65_inb : ∀ (v200 : IVec S16 32) (v343 : IVec S16 32) (k2_hw65 : k2_chk65 v200 v343), ∀ a x, ((![v200, v343] : Fin 2 → IVec S16 32) a x).toNat < S128x128.size a := fun v200 v343 k2_hw65 => k2_hw65

def k2_chk66 (v219 : IVec S16 32) (v350 : IVec S16 32) : Prop :=
  (∀ a x, ((![v219, v350] : Fin 2 → IVec S16 32) a x).toNat < S128x128.size a)
theorem k2_idx66_inb : ∀ (v219 : IVec S16 32) (v350 : IVec S16 32) (k2_hw66 : k2_chk66 v219 v350), ∀ a x, ((![v219, v350] : Fin 2 → IVec S16 32) a x).toNat < S128x128.size a := fun v219 v350 k2_hw66 => k2_hw66

def k2_chk67 (v238 : IVec S16 32) (v357 : IVec S16 32) : Prop :=
  (∀ a x, ((![v238, v357] : Fin 2 → IVec S16 32) a x).toNat < S128x128.size a)
theorem k2_idx67_inb : ∀ (v238 : IVec S16 32) (v357 : IVec S16 32) (k2_hw67 : k2_chk67 v238 v357), ∀ a x, ((![v238, v357] : Fin 2 → IVec S16 32) a x).toNat < S128x128.size a := fun v238 v357 k2_hw67 => k2_hw67

def k2_chk68 (v257 : IVec S16 32) (v364 : IVec S16 32) : Prop :=
  (∀ a x, ((![v257, v364] : Fin 2 → IVec S16 32) a x).toNat < S128x128.size a)
theorem k2_idx68_inb : ∀ (v257 : IVec S16 32) (v364 : IVec S16 32) (k2_hw68 : k2_chk68 v257 v364), ∀ a x, ((![v257, v364] : Fin 2 → IVec S16 32) a x).toNat < S128x128.size a := fun v257 v364 k2_hw68 => k2_hw68

def k2_chk69 (v200 : IVec S16 32) (v383 : IVec S16 32) : Prop :=
  (∀ a x, ((![v200, v383] : Fin 2 → IVec S16 32) a x).toNat < S128x128.size a)
theorem k2_idx69_inb : ∀ (v200 : IVec S16 32) (v383 : IVec S16 32) (k2_hw69 : k2_chk69 v200 v383), ∀ a x, ((![v200, v383] : Fin 2 → IVec S16 32) a x).toNat < S128x128.size a := fun v200 v383 k2_hw69 => k2_hw69

def k2_chk70 (v219 : IVec S16 32) (v390 : IVec S16 32) : Prop :=
  (∀ a x, ((![v219, v390] : Fin 2 → IVec S16 32) a x).toNat < S128x128.size a)
theorem k2_idx70_inb : ∀ (v219 : IVec S16 32) (v390 : IVec S16 32) (k2_hw70 : k2_chk70 v219 v390), ∀ a x, ((![v219, v390] : Fin 2 → IVec S16 32) a x).toNat < S128x128.size a := fun v219 v390 k2_hw70 => k2_hw70

def k2_chk71 (v238 : IVec S16 32) (v397 : IVec S16 32) : Prop :=
  (∀ a x, ((![v238, v397] : Fin 2 → IVec S16 32) a x).toNat < S128x128.size a)
theorem k2_idx71_inb : ∀ (v238 : IVec S16 32) (v397 : IVec S16 32) (k2_hw71 : k2_chk71 v238 v397), ∀ a x, ((![v238, v397] : Fin 2 → IVec S16 32) a x).toNat < S128x128.size a := fun v238 v397 k2_hw71 => k2_hw71

def k2_chk72 (v257 : IVec S16 32) (v404 : IVec S16 32) : Prop :=
  (∀ a x, ((![v257, v404] : Fin 2 → IVec S16 32) a x).toNat < S128x128.size a)
theorem k2_idx72_inb : ∀ (v257 : IVec S16 32) (v404 : IVec S16 32) (k2_hw72 : k2_chk72 v257 v404), ∀ a x, ((![v257, v404] : Fin 2 → IVec S16 32) a x).toNat < S128x128.size a := fun v257 v404 k2_hw72 => k2_hw72

def k2_chk73 (v200 : IVec S16 32) (v425 : IVec S16 32) : Prop :=
  (∀ a x, ((![v200, v425] : Fin 2 → IVec S16 32) a x).toNat < S128x18.size a)
theorem k2_idx73_inb : ∀ (v200 : IVec S16 32) (v425 : IVec S16 32) (k2_hw73 : k2_chk73 v200 v425), ∀ a x, ((![v200, v425] : Fin 2 → IVec S16 32) a x).toNat < S128x18.size a := fun v200 v425 k2_hw73 => k2_hw73

def k2_chk74 (v200 : IVec S16 32) (v431 : IVec S16 32) : Prop :=
  (∀ a x, ((![v200, v431] : Fin 2 → IVec S16 32) a x).toNat < S128x18.size a)
theorem k2_idx74_inb : ∀ (v200 : IVec S16 32) (v431 : IVec S16 32) (k2_hw74 : k2_chk74 v200 v431), ∀ a x, ((![v200, v431] : Fin 2 → IVec S16 32) a x).toNat < S128x18.size a := fun v200 v431 k2_hw74 => k2_hw74

def k2_chk75 (v200 : IVec S16 32) (v437 : IVec S16 32) : Prop :=
  (∀ a x, ((![v200, v437] : Fin 2 → IVec S16 32) a x).toNat < S128x18.size a)
theorem k2_idx75_inb : ∀ (v200 : IVec S16 32) (v437 : IVec S16 32) (k2_hw75 : k2_chk75 v200 v437), ∀ a x, ((![v200, v437] : Fin 2 → IVec S16 32) a x).toNat < S128x18.size a := fun v200 v437 k2_hw75 => k2_hw75

def k2_chk76 (v200 : IVec S16 32) (v443 : IVec S16 32) : Prop :=
  (∀ a x, ((![v200, v443] : Fin 2 → IVec S16 32) a x).toNat < S128x18.size a)
theorem k2_idx76_inb : ∀ (v200 : IVec S16 32) (v443 : IVec S16 32) (k2_hw76 : k2_chk76 v200 v443), ∀ a x, ((![v200, v443] : Fin 2 → IVec S16 32) a x).toNat < S128x18.size a := fun v200 v443 k2_hw76 => k2_hw76

def k2_chk77 (v200 : IVec S16 32) (v449 : IVec S16 32) : Prop :=
  (∀ a x, ((![v200, v449] : Fin 2 → IVec S16 32) a x).toNat < S128x18.size a)
theorem k2_idx77_inb : ∀ (v200 : IVec S16 32) (v449 : IVec S16 32) (k2_hw77 : k2_chk77 v200 v449), ∀ a x, ((![v200, v449] : Fin 2 → IVec S16 32) a x).toNat < S128x18.size a := fun v200 v449 k2_hw77 => k2_hw77

def k2_chk78 (v200 : IVec S16 32) (v455 : IVec S16 32) : Prop :=
  (∀ a x, ((![v200, v455] : Fin 2 → IVec S16 32) a x).toNat < S128x18.size a)
theorem k2_idx78_inb : ∀ (v200 : IVec S16 32) (v455 : IVec S16 32) (k2_hw78 : k2_chk78 v200 v455), ∀ a x, ((![v200, v455] : Fin 2 → IVec S16 32) a x).toNat < S128x18.size a := fun v200 v455 k2_hw78 => k2_hw78

def k2_chk79 (v200 : IVec S16 32) (v461 : IVec S16 32) : Prop :=
  (∀ a x, ((![v200, v461] : Fin 2 → IVec S16 32) a x).toNat < S128x18.size a)
theorem k2_idx79_inb : ∀ (v200 : IVec S16 32) (v461 : IVec S16 32) (k2_hw79 : k2_chk79 v200 v461), ∀ a x, ((![v200, v461] : Fin 2 → IVec S16 32) a x).toNat < S128x18.size a := fun v200 v461 k2_hw79 => k2_hw79

def k2_chk80 (v200 : IVec S16 32) (v467 : IVec S16 32) : Prop :=
  (∀ a x, ((![v200, v467] : Fin 2 → IVec S16 32) a x).toNat < S128x18.size a)
theorem k2_idx80_inb : ∀ (v200 : IVec S16 32) (v467 : IVec S16 32) (k2_hw80 : k2_chk80 v200 v467), ∀ a x, ((![v200, v467] : Fin 2 → IVec S16 32) a x).toNat < S128x18.size a := fun v200 v467 k2_hw80 => k2_hw80

def k2_chk81 (v200 : IVec S16 32) (v473 : IVec S16 32) : Prop :=
  (∀ a x, ((![v200, v473] : Fin 2 → IVec S16 32) a x).toNat < S128x18.size a)
theorem k2_idx81_inb : ∀ (v200 : IVec S16 32) (v473 : IVec S16 32) (k2_hw81 : k2_chk81 v200 v473), ∀ a x, ((![v200, v473] : Fin 2 → IVec S16 32) a x).toNat < S128x18.size a := fun v200 v473 k2_hw81 => k2_hw81

def k2_chk82 (v200 : IVec S16 32) (v479 : IVec S16 32) : Prop :=
  (∀ a x, ((![v200, v479] : Fin 2 → IVec S16 32) a x).toNat < S128x18.size a)
theorem k2_idx82_inb : ∀ (v200 : IVec S16 32) (v479 : IVec S16 32) (k2_hw82 : k2_chk82 v200 v479), ∀ a x, ((![v200, v479] : Fin 2 → IVec S16 32) a x).toNat < S128x18.size a := fun v200 v479 k2_hw82 => k2_hw82

def k2_chk83 (v200 : IVec S16 32) (v485 : IVec S16 32) : Prop :=
  (∀ a x, ((![v200, v485] : Fin 2 → IVec S16 32) a x).toNat < S128x18.size a)
theorem k2_idx83_inb : ∀ (v200 : IVec S16 32) (v485 : IVec S16 32) (k2_hw83 : k2_chk83 v200 v485), ∀ a x, ((![v200, v485] : Fin 2 → IVec S16 32) a x).toNat < S128x18.size a := fun v200 v485 k2_hw83 => k2_hw83

def k2_chk84 (v200 : IVec S16 32) (v491 : IVec S16 32) : Prop :=
  (∀ a x, ((![v200, v491] : Fin 2 → IVec S16 32) a x).toNat < S128x18.size a)
theorem k2_idx84_inb : ∀ (v200 : IVec S16 32) (v491 : IVec S16 32) (k2_hw84 : k2_chk84 v200 v491), ∀ a x, ((![v200, v491] : Fin 2 → IVec S16 32) a x).toNat < S128x18.size a := fun v200 v491 k2_hw84 => k2_hw84

def k2_chk85 (v200 : IVec S16 32) (v497 : IVec S16 32) : Prop :=
  (∀ a x, ((![v200, v497] : Fin 2 → IVec S16 32) a x).toNat < S128x18.size a)
theorem k2_idx85_inb : ∀ (v200 : IVec S16 32) (v497 : IVec S16 32) (k2_hw85 : k2_chk85 v200 v497), ∀ a x, ((![v200, v497] : Fin 2 → IVec S16 32) a x).toNat < S128x18.size a := fun v200 v497 k2_hw85 => k2_hw85

def k2_chk86 (v200 : IVec S16 32) (v503 : IVec S16 32) : Prop :=
  (∀ a x, ((![v200, v503] : Fin 2 → IVec S16 32) a x).toNat < S128x18.size a)
theorem k2_idx86_inb : ∀ (v200 : IVec S16 32) (v503 : IVec S16 32) (k2_hw86 : k2_chk86 v200 v503), ∀ a x, ((![v200, v503] : Fin 2 → IVec S16 32) a x).toNat < S128x18.size a := fun v200 v503 k2_hw86 => k2_hw86

def k2_chk87 (v200 : IVec S16 32) (v509 : IVec S16 32) : Prop :=
  (∀ a x, ((![v200, v509] : Fin 2 → IVec S16 32) a x).toNat < S128x18.size a)
theorem k2_idx87_inb : ∀ (v200 : IVec S16 32) (v509 : IVec S16 32) (k2_hw87 : k2_chk87 v200 v509), ∀ a x, ((![v200, v509] : Fin 2 → IVec S16 32) a x).toNat < S128x18.size a := fun v200 v509 k2_hw87 => k2_hw87

def k2_chk88 (v200 : IVec S16 32) (v515 : IVec S16 32) : Prop :=
  (∀ a x, ((![v200, v515] : Fin 2 → IVec S16 32) a x).toNat < S128x18.size a)
theorem k2_idx88_inb : ∀ (v200 : IVec S16 32) (v515 : IVec S16 32) (k2_hw88 : k2_chk88 v200 v515), ∀ a x, ((![v200, v515] : Fin 2 → IVec S16 32) a x).toNat < S128x18.size a := fun v200 v515 k2_hw88 => k2_hw88

def k2_chk89 (v200 : IVec S16 32) (v521 : IVec S16 32) : Prop :=
  (∀ a x, ((![v200, v521] : Fin 2 → IVec S16 32) a x).toNat < S128x18.size a)
theorem k2_idx89_inb : ∀ (v200 : IVec S16 32) (v521 : IVec S16 32) (k2_hw89 : k2_chk89 v200 v521), ∀ a x, ((![v200, v521] : Fin 2 → IVec S16 32) a x).toNat < S128x18.size a := fun v200 v521 k2_hw89 => k2_hw89

def k2_chk90 (v200 : IVec S16 32) (v527 : IVec S16 32) : Prop :=
  (∀ a x, ((![v200, v527] : Fin 2 → IVec S16 32) a x).toNat < S128x18.size a)
theorem k2_idx90_inb : ∀ (v200 : IVec S16 32) (v527 : IVec S16 32) (k2_hw90 : k2_chk90 v200 v527), ∀ a x, ((![v200, v527] : Fin 2 → IVec S16 32) a x).toNat < S128x18.size a := fun v200 v527 k2_hw90 => k2_hw90

def k2_chk91 (v219 : IVec S16 32) (v535 : IVec S16 32) : Prop :=
  (∀ a x, ((![v219, v535] : Fin 2 → IVec S16 32) a x).toNat < S128x18.size a)
theorem k2_idx91_inb : ∀ (v219 : IVec S16 32) (v535 : IVec S16 32) (k2_hw91 : k2_chk91 v219 v535), ∀ a x, ((![v219, v535] : Fin 2 → IVec S16 32) a x).toNat < S128x18.size a := fun v219 v535 k2_hw91 => k2_hw91

def k2_chk92 (v219 : IVec S16 32) (v541 : IVec S16 32) : Prop :=
  (∀ a x, ((![v219, v541] : Fin 2 → IVec S16 32) a x).toNat < S128x18.size a)
theorem k2_idx92_inb : ∀ (v219 : IVec S16 32) (v541 : IVec S16 32) (k2_hw92 : k2_chk92 v219 v541), ∀ a x, ((![v219, v541] : Fin 2 → IVec S16 32) a x).toNat < S128x18.size a := fun v219 v541 k2_hw92 => k2_hw92

def k2_chk93 (v219 : IVec S16 32) (v547 : IVec S16 32) : Prop :=
  (∀ a x, ((![v219, v547] : Fin 2 → IVec S16 32) a x).toNat < S128x18.size a)
theorem k2_idx93_inb : ∀ (v219 : IVec S16 32) (v547 : IVec S16 32) (k2_hw93 : k2_chk93 v219 v547), ∀ a x, ((![v219, v547] : Fin 2 → IVec S16 32) a x).toNat < S128x18.size a := fun v219 v547 k2_hw93 => k2_hw93

def k2_chk94 (v219 : IVec S16 32) (v553 : IVec S16 32) : Prop :=
  (∀ a x, ((![v219, v553] : Fin 2 → IVec S16 32) a x).toNat < S128x18.size a)
theorem k2_idx94_inb : ∀ (v219 : IVec S16 32) (v553 : IVec S16 32) (k2_hw94 : k2_chk94 v219 v553), ∀ a x, ((![v219, v553] : Fin 2 → IVec S16 32) a x).toNat < S128x18.size a := fun v219 v553 k2_hw94 => k2_hw94

def k2_chk95 (v219 : IVec S16 32) (v559 : IVec S16 32) : Prop :=
  (∀ a x, ((![v219, v559] : Fin 2 → IVec S16 32) a x).toNat < S128x18.size a)
theorem k2_idx95_inb : ∀ (v219 : IVec S16 32) (v559 : IVec S16 32) (k2_hw95 : k2_chk95 v219 v559), ∀ a x, ((![v219, v559] : Fin 2 → IVec S16 32) a x).toNat < S128x18.size a := fun v219 v559 k2_hw95 => k2_hw95

def k2_chk96 (v219 : IVec S16 32) (v565 : IVec S16 32) : Prop :=
  (∀ a x, ((![v219, v565] : Fin 2 → IVec S16 32) a x).toNat < S128x18.size a)
theorem k2_idx96_inb : ∀ (v219 : IVec S16 32) (v565 : IVec S16 32) (k2_hw96 : k2_chk96 v219 v565), ∀ a x, ((![v219, v565] : Fin 2 → IVec S16 32) a x).toNat < S128x18.size a := fun v219 v565 k2_hw96 => k2_hw96

def k2_chk97 (v219 : IVec S16 32) (v571 : IVec S16 32) : Prop :=
  (∀ a x, ((![v219, v571] : Fin 2 → IVec S16 32) a x).toNat < S128x18.size a)
theorem k2_idx97_inb : ∀ (v219 : IVec S16 32) (v571 : IVec S16 32) (k2_hw97 : k2_chk97 v219 v571), ∀ a x, ((![v219, v571] : Fin 2 → IVec S16 32) a x).toNat < S128x18.size a := fun v219 v571 k2_hw97 => k2_hw97

def k2_chk98 (v219 : IVec S16 32) (v577 : IVec S16 32) : Prop :=
  (∀ a x, ((![v219, v577] : Fin 2 → IVec S16 32) a x).toNat < S128x18.size a)
theorem k2_idx98_inb : ∀ (v219 : IVec S16 32) (v577 : IVec S16 32) (k2_hw98 : k2_chk98 v219 v577), ∀ a x, ((![v219, v577] : Fin 2 → IVec S16 32) a x).toNat < S128x18.size a := fun v219 v577 k2_hw98 => k2_hw98

def k2_chk99 (v219 : IVec S16 32) (v583 : IVec S16 32) : Prop :=
  (∀ a x, ((![v219, v583] : Fin 2 → IVec S16 32) a x).toNat < S128x18.size a)
theorem k2_idx99_inb : ∀ (v219 : IVec S16 32) (v583 : IVec S16 32) (k2_hw99 : k2_chk99 v219 v583), ∀ a x, ((![v219, v583] : Fin 2 → IVec S16 32) a x).toNat < S128x18.size a := fun v219 v583 k2_hw99 => k2_hw99

def k2_chk100 (v219 : IVec S16 32) (v589 : IVec S16 32) : Prop :=
  (∀ a x, ((![v219, v589] : Fin 2 → IVec S16 32) a x).toNat < S128x18.size a)
theorem k2_idx100_inb : ∀ (v219 : IVec S16 32) (v589 : IVec S16 32) (k2_hw100 : k2_chk100 v219 v589), ∀ a x, ((![v219, v589] : Fin 2 → IVec S16 32) a x).toNat < S128x18.size a := fun v219 v589 k2_hw100 => k2_hw100

def k2_chk101 (v219 : IVec S16 32) (v595 : IVec S16 32) : Prop :=
  (∀ a x, ((![v219, v595] : Fin 2 → IVec S16 32) a x).toNat < S128x18.size a)
theorem k2_idx101_inb : ∀ (v219 : IVec S16 32) (v595 : IVec S16 32) (k2_hw101 : k2_chk101 v219 v595), ∀ a x, ((![v219, v595] : Fin 2 → IVec S16 32) a x).toNat < S128x18.size a := fun v219 v595 k2_hw101 => k2_hw101

def k2_chk102 (v219 : IVec S16 32) (v601 : IVec S16 32) : Prop :=
  (∀ a x, ((![v219, v601] : Fin 2 → IVec S16 32) a x).toNat < S128x18.size a)
theorem k2_idx102_inb : ∀ (v219 : IVec S16 32) (v601 : IVec S16 32) (k2_hw102 : k2_chk102 v219 v601), ∀ a x, ((![v219, v601] : Fin 2 → IVec S16 32) a x).toNat < S128x18.size a := fun v219 v601 k2_hw102 => k2_hw102

def k2_chk103 (v219 : IVec S16 32) (v607 : IVec S16 32) : Prop :=
  (∀ a x, ((![v219, v607] : Fin 2 → IVec S16 32) a x).toNat < S128x18.size a)
theorem k2_idx103_inb : ∀ (v219 : IVec S16 32) (v607 : IVec S16 32) (k2_hw103 : k2_chk103 v219 v607), ∀ a x, ((![v219, v607] : Fin 2 → IVec S16 32) a x).toNat < S128x18.size a := fun v219 v607 k2_hw103 => k2_hw103

def k2_chk104 (v219 : IVec S16 32) (v613 : IVec S16 32) : Prop :=
  (∀ a x, ((![v219, v613] : Fin 2 → IVec S16 32) a x).toNat < S128x18.size a)
theorem k2_idx104_inb : ∀ (v219 : IVec S16 32) (v613 : IVec S16 32) (k2_hw104 : k2_chk104 v219 v613), ∀ a x, ((![v219, v613] : Fin 2 → IVec S16 32) a x).toNat < S128x18.size a := fun v219 v613 k2_hw104 => k2_hw104

def k2_chk105 (v219 : IVec S16 32) (v619 : IVec S16 32) : Prop :=
  (∀ a x, ((![v219, v619] : Fin 2 → IVec S16 32) a x).toNat < S128x18.size a)
theorem k2_idx105_inb : ∀ (v219 : IVec S16 32) (v619 : IVec S16 32) (k2_hw105 : k2_chk105 v219 v619), ∀ a x, ((![v219, v619] : Fin 2 → IVec S16 32) a x).toNat < S128x18.size a := fun v219 v619 k2_hw105 => k2_hw105

def k2_chk106 (v219 : IVec S16 32) (v625 : IVec S16 32) : Prop :=
  (∀ a x, ((![v219, v625] : Fin 2 → IVec S16 32) a x).toNat < S128x18.size a)
theorem k2_idx106_inb : ∀ (v219 : IVec S16 32) (v625 : IVec S16 32) (k2_hw106 : k2_chk106 v219 v625), ∀ a x, ((![v219, v625] : Fin 2 → IVec S16 32) a x).toNat < S128x18.size a := fun v219 v625 k2_hw106 => k2_hw106

def k2_chk107 (v219 : IVec S16 32) (v631 : IVec S16 32) : Prop :=
  (∀ a x, ((![v219, v631] : Fin 2 → IVec S16 32) a x).toNat < S128x18.size a)
theorem k2_idx107_inb : ∀ (v219 : IVec S16 32) (v631 : IVec S16 32) (k2_hw107 : k2_chk107 v219 v631), ∀ a x, ((![v219, v631] : Fin 2 → IVec S16 32) a x).toNat < S128x18.size a := fun v219 v631 k2_hw107 => k2_hw107

def k2_chk108 (v219 : IVec S16 32) (v637 : IVec S16 32) : Prop :=
  (∀ a x, ((![v219, v637] : Fin 2 → IVec S16 32) a x).toNat < S128x18.size a)
theorem k2_idx108_inb : ∀ (v219 : IVec S16 32) (v637 : IVec S16 32) (k2_hw108 : k2_chk108 v219 v637), ∀ a x, ((![v219, v637] : Fin 2 → IVec S16 32) a x).toNat < S128x18.size a := fun v219 v637 k2_hw108 => k2_hw108

def k2_chk109 (v238 : IVec S16 32) (v645 : IVec S16 32) : Prop :=
  (∀ a x, ((![v238, v645] : Fin 2 → IVec S16 32) a x).toNat < S128x18.size a)
theorem k2_idx109_inb : ∀ (v238 : IVec S16 32) (v645 : IVec S16 32) (k2_hw109 : k2_chk109 v238 v645), ∀ a x, ((![v238, v645] : Fin 2 → IVec S16 32) a x).toNat < S128x18.size a := fun v238 v645 k2_hw109 => k2_hw109

def k2_chk110 (v238 : IVec S16 32) (v651 : IVec S16 32) : Prop :=
  (∀ a x, ((![v238, v651] : Fin 2 → IVec S16 32) a x).toNat < S128x18.size a)
theorem k2_idx110_inb : ∀ (v238 : IVec S16 32) (v651 : IVec S16 32) (k2_hw110 : k2_chk110 v238 v651), ∀ a x, ((![v238, v651] : Fin 2 → IVec S16 32) a x).toNat < S128x18.size a := fun v238 v651 k2_hw110 => k2_hw110

def k2_chk111 (v238 : IVec S16 32) (v657 : IVec S16 32) : Prop :=
  (∀ a x, ((![v238, v657] : Fin 2 → IVec S16 32) a x).toNat < S128x18.size a)
theorem k2_idx111_inb : ∀ (v238 : IVec S16 32) (v657 : IVec S16 32) (k2_hw111 : k2_chk111 v238 v657), ∀ a x, ((![v238, v657] : Fin 2 → IVec S16 32) a x).toNat < S128x18.size a := fun v238 v657 k2_hw111 => k2_hw111

def k2_chk112 (v238 : IVec S16 32) (v663 : IVec S16 32) : Prop :=
  (∀ a x, ((![v238, v663] : Fin 2 → IVec S16 32) a x).toNat < S128x18.size a)
theorem k2_idx112_inb : ∀ (v238 : IVec S16 32) (v663 : IVec S16 32) (k2_hw112 : k2_chk112 v238 v663), ∀ a x, ((![v238, v663] : Fin 2 → IVec S16 32) a x).toNat < S128x18.size a := fun v238 v663 k2_hw112 => k2_hw112

def k2_chk113 (v238 : IVec S16 32) (v669 : IVec S16 32) : Prop :=
  (∀ a x, ((![v238, v669] : Fin 2 → IVec S16 32) a x).toNat < S128x18.size a)
theorem k2_idx113_inb : ∀ (v238 : IVec S16 32) (v669 : IVec S16 32) (k2_hw113 : k2_chk113 v238 v669), ∀ a x, ((![v238, v669] : Fin 2 → IVec S16 32) a x).toNat < S128x18.size a := fun v238 v669 k2_hw113 => k2_hw113

def k2_chk114 (v238 : IVec S16 32) (v675 : IVec S16 32) : Prop :=
  (∀ a x, ((![v238, v675] : Fin 2 → IVec S16 32) a x).toNat < S128x18.size a)
theorem k2_idx114_inb : ∀ (v238 : IVec S16 32) (v675 : IVec S16 32) (k2_hw114 : k2_chk114 v238 v675), ∀ a x, ((![v238, v675] : Fin 2 → IVec S16 32) a x).toNat < S128x18.size a := fun v238 v675 k2_hw114 => k2_hw114

def k2_chk115 (v238 : IVec S16 32) (v681 : IVec S16 32) : Prop :=
  (∀ a x, ((![v238, v681] : Fin 2 → IVec S16 32) a x).toNat < S128x18.size a)
theorem k2_idx115_inb : ∀ (v238 : IVec S16 32) (v681 : IVec S16 32) (k2_hw115 : k2_chk115 v238 v681), ∀ a x, ((![v238, v681] : Fin 2 → IVec S16 32) a x).toNat < S128x18.size a := fun v238 v681 k2_hw115 => k2_hw115

def k2_chk116 (v238 : IVec S16 32) (v687 : IVec S16 32) : Prop :=
  (∀ a x, ((![v238, v687] : Fin 2 → IVec S16 32) a x).toNat < S128x18.size a)
theorem k2_idx116_inb : ∀ (v238 : IVec S16 32) (v687 : IVec S16 32) (k2_hw116 : k2_chk116 v238 v687), ∀ a x, ((![v238, v687] : Fin 2 → IVec S16 32) a x).toNat < S128x18.size a := fun v238 v687 k2_hw116 => k2_hw116

def k2_chk117 (v238 : IVec S16 32) (v693 : IVec S16 32) : Prop :=
  (∀ a x, ((![v238, v693] : Fin 2 → IVec S16 32) a x).toNat < S128x18.size a)
theorem k2_idx117_inb : ∀ (v238 : IVec S16 32) (v693 : IVec S16 32) (k2_hw117 : k2_chk117 v238 v693), ∀ a x, ((![v238, v693] : Fin 2 → IVec S16 32) a x).toNat < S128x18.size a := fun v238 v693 k2_hw117 => k2_hw117

def k2_chk118 (v238 : IVec S16 32) (v699 : IVec S16 32) : Prop :=
  (∀ a x, ((![v238, v699] : Fin 2 → IVec S16 32) a x).toNat < S128x18.size a)
theorem k2_idx118_inb : ∀ (v238 : IVec S16 32) (v699 : IVec S16 32) (k2_hw118 : k2_chk118 v238 v699), ∀ a x, ((![v238, v699] : Fin 2 → IVec S16 32) a x).toNat < S128x18.size a := fun v238 v699 k2_hw118 => k2_hw118

def k2_chk119 (v238 : IVec S16 32) (v705 : IVec S16 32) : Prop :=
  (∀ a x, ((![v238, v705] : Fin 2 → IVec S16 32) a x).toNat < S128x18.size a)
theorem k2_idx119_inb : ∀ (v238 : IVec S16 32) (v705 : IVec S16 32) (k2_hw119 : k2_chk119 v238 v705), ∀ a x, ((![v238, v705] : Fin 2 → IVec S16 32) a x).toNat < S128x18.size a := fun v238 v705 k2_hw119 => k2_hw119

def k2_chk120 (v238 : IVec S16 32) (v711 : IVec S16 32) : Prop :=
  (∀ a x, ((![v238, v711] : Fin 2 → IVec S16 32) a x).toNat < S128x18.size a)
theorem k2_idx120_inb : ∀ (v238 : IVec S16 32) (v711 : IVec S16 32) (k2_hw120 : k2_chk120 v238 v711), ∀ a x, ((![v238, v711] : Fin 2 → IVec S16 32) a x).toNat < S128x18.size a := fun v238 v711 k2_hw120 => k2_hw120

def k2_chk121 (v238 : IVec S16 32) (v717 : IVec S16 32) : Prop :=
  (∀ a x, ((![v238, v717] : Fin 2 → IVec S16 32) a x).toNat < S128x18.size a)
theorem k2_idx121_inb : ∀ (v238 : IVec S16 32) (v717 : IVec S16 32) (k2_hw121 : k2_chk121 v238 v717), ∀ a x, ((![v238, v717] : Fin 2 → IVec S16 32) a x).toNat < S128x18.size a := fun v238 v717 k2_hw121 => k2_hw121

def k2_chk122 (v238 : IVec S16 32) (v723 : IVec S16 32) : Prop :=
  (∀ a x, ((![v238, v723] : Fin 2 → IVec S16 32) a x).toNat < S128x18.size a)
theorem k2_idx122_inb : ∀ (v238 : IVec S16 32) (v723 : IVec S16 32) (k2_hw122 : k2_chk122 v238 v723), ∀ a x, ((![v238, v723] : Fin 2 → IVec S16 32) a x).toNat < S128x18.size a := fun v238 v723 k2_hw122 => k2_hw122

def k2_chk123 (v238 : IVec S16 32) (v729 : IVec S16 32) : Prop :=
  (∀ a x, ((![v238, v729] : Fin 2 → IVec S16 32) a x).toNat < S128x18.size a)
theorem k2_idx123_inb : ∀ (v238 : IVec S16 32) (v729 : IVec S16 32) (k2_hw123 : k2_chk123 v238 v729), ∀ a x, ((![v238, v729] : Fin 2 → IVec S16 32) a x).toNat < S128x18.size a := fun v238 v729 k2_hw123 => k2_hw123

def k2_chk124 (v238 : IVec S16 32) (v735 : IVec S16 32) : Prop :=
  (∀ a x, ((![v238, v735] : Fin 2 → IVec S16 32) a x).toNat < S128x18.size a)
theorem k2_idx124_inb : ∀ (v238 : IVec S16 32) (v735 : IVec S16 32) (k2_hw124 : k2_chk124 v238 v735), ∀ a x, ((![v238, v735] : Fin 2 → IVec S16 32) a x).toNat < S128x18.size a := fun v238 v735 k2_hw124 => k2_hw124

def k2_chk125 (v238 : IVec S16 32) (v741 : IVec S16 32) : Prop :=
  (∀ a x, ((![v238, v741] : Fin 2 → IVec S16 32) a x).toNat < S128x18.size a)
theorem k2_idx125_inb : ∀ (v238 : IVec S16 32) (v741 : IVec S16 32) (k2_hw125 : k2_chk125 v238 v741), ∀ a x, ((![v238, v741] : Fin 2 → IVec S16 32) a x).toNat < S128x18.size a := fun v238 v741 k2_hw125 => k2_hw125

def k2_chk126 (v238 : IVec S16 32) (v747 : IVec S16 32) : Prop :=
  (∀ a x, ((![v238, v747] : Fin 2 → IVec S16 32) a x).toNat < S128x18.size a)
theorem k2_idx126_inb : ∀ (v238 : IVec S16 32) (v747 : IVec S16 32) (k2_hw126 : k2_chk126 v238 v747), ∀ a x, ((![v238, v747] : Fin 2 → IVec S16 32) a x).toNat < S128x18.size a := fun v238 v747 k2_hw126 => k2_hw126

def k2_chk127 (v257 : IVec S16 32) (v755 : IVec S16 32) : Prop :=
  (∀ a x, ((![v257, v755] : Fin 2 → IVec S16 32) a x).toNat < S128x18.size a)
theorem k2_idx127_inb : ∀ (v257 : IVec S16 32) (v755 : IVec S16 32) (k2_hw127 : k2_chk127 v257 v755), ∀ a x, ((![v257, v755] : Fin 2 → IVec S16 32) a x).toNat < S128x18.size a := fun v257 v755 k2_hw127 => k2_hw127

def k2_chk128 (v257 : IVec S16 32) (v761 : IVec S16 32) : Prop :=
  (∀ a x, ((![v257, v761] : Fin 2 → IVec S16 32) a x).toNat < S128x18.size a)
theorem k2_idx128_inb : ∀ (v257 : IVec S16 32) (v761 : IVec S16 32) (k2_hw128 : k2_chk128 v257 v761), ∀ a x, ((![v257, v761] : Fin 2 → IVec S16 32) a x).toNat < S128x18.size a := fun v257 v761 k2_hw128 => k2_hw128

def k2_chk129 (v257 : IVec S16 32) (v767 : IVec S16 32) : Prop :=
  (∀ a x, ((![v257, v767] : Fin 2 → IVec S16 32) a x).toNat < S128x18.size a)
theorem k2_idx129_inb : ∀ (v257 : IVec S16 32) (v767 : IVec S16 32) (k2_hw129 : k2_chk129 v257 v767), ∀ a x, ((![v257, v767] : Fin 2 → IVec S16 32) a x).toNat < S128x18.size a := fun v257 v767 k2_hw129 => k2_hw129

def k2_chk130 (v257 : IVec S16 32) (v773 : IVec S16 32) : Prop :=
  (∀ a x, ((![v257, v773] : Fin 2 → IVec S16 32) a x).toNat < S128x18.size a)
theorem k2_idx130_inb : ∀ (v257 : IVec S16 32) (v773 : IVec S16 32) (k2_hw130 : k2_chk130 v257 v773), ∀ a x, ((![v257, v773] : Fin 2 → IVec S16 32) a x).toNat < S128x18.size a := fun v257 v773 k2_hw130 => k2_hw130

def k2_chk131 (v257 : IVec S16 32) (v779 : IVec S16 32) : Prop :=
  (∀ a x, ((![v257, v779] : Fin 2 → IVec S16 32) a x).toNat < S128x18.size a)
theorem k2_idx131_inb : ∀ (v257 : IVec S16 32) (v779 : IVec S16 32) (k2_hw131 : k2_chk131 v257 v779), ∀ a x, ((![v257, v779] : Fin 2 → IVec S16 32) a x).toNat < S128x18.size a := fun v257 v779 k2_hw131 => k2_hw131

def k2_chk132 (v257 : IVec S16 32) (v785 : IVec S16 32) : Prop :=
  (∀ a x, ((![v257, v785] : Fin 2 → IVec S16 32) a x).toNat < S128x18.size a)
theorem k2_idx132_inb : ∀ (v257 : IVec S16 32) (v785 : IVec S16 32) (k2_hw132 : k2_chk132 v257 v785), ∀ a x, ((![v257, v785] : Fin 2 → IVec S16 32) a x).toNat < S128x18.size a := fun v257 v785 k2_hw132 => k2_hw132

def k2_chk133 (v257 : IVec S16 32) (v791 : IVec S16 32) : Prop :=
  (∀ a x, ((![v257, v791] : Fin 2 → IVec S16 32) a x).toNat < S128x18.size a)
theorem k2_idx133_inb : ∀ (v257 : IVec S16 32) (v791 : IVec S16 32) (k2_hw133 : k2_chk133 v257 v791), ∀ a x, ((![v257, v791] : Fin 2 → IVec S16 32) a x).toNat < S128x18.size a := fun v257 v791 k2_hw133 => k2_hw133

def k2_chk134 (v257 : IVec S16 32) (v797 : IVec S16 32) : Prop :=
  (∀ a x, ((![v257, v797] : Fin 2 → IVec S16 32) a x).toNat < S128x18.size a)
theorem k2_idx134_inb : ∀ (v257 : IVec S16 32) (v797 : IVec S16 32) (k2_hw134 : k2_chk134 v257 v797), ∀ a x, ((![v257, v797] : Fin 2 → IVec S16 32) a x).toNat < S128x18.size a := fun v257 v797 k2_hw134 => k2_hw134

def k2_chk135 (v257 : IVec S16 32) (v803 : IVec S16 32) : Prop :=
  (∀ a x, ((![v257, v803] : Fin 2 → IVec S16 32) a x).toNat < S128x18.size a)
theorem k2_idx135_inb : ∀ (v257 : IVec S16 32) (v803 : IVec S16 32) (k2_hw135 : k2_chk135 v257 v803), ∀ a x, ((![v257, v803] : Fin 2 → IVec S16 32) a x).toNat < S128x18.size a := fun v257 v803 k2_hw135 => k2_hw135

def k2_chk136 (v257 : IVec S16 32) (v809 : IVec S16 32) : Prop :=
  (∀ a x, ((![v257, v809] : Fin 2 → IVec S16 32) a x).toNat < S128x18.size a)
theorem k2_idx136_inb : ∀ (v257 : IVec S16 32) (v809 : IVec S16 32) (k2_hw136 : k2_chk136 v257 v809), ∀ a x, ((![v257, v809] : Fin 2 → IVec S16 32) a x).toNat < S128x18.size a := fun v257 v809 k2_hw136 => k2_hw136

def k2_chk137 (v257 : IVec S16 32) (v815 : IVec S16 32) : Prop :=
  (∀ a x, ((![v257, v815] : Fin 2 → IVec S16 32) a x).toNat < S128x18.size a)
theorem k2_idx137_inb : ∀ (v257 : IVec S16 32) (v815 : IVec S16 32) (k2_hw137 : k2_chk137 v257 v815), ∀ a x, ((![v257, v815] : Fin 2 → IVec S16 32) a x).toNat < S128x18.size a := fun v257 v815 k2_hw137 => k2_hw137

def k2_chk138 (v257 : IVec S16 32) (v821 : IVec S16 32) : Prop :=
  (∀ a x, ((![v257, v821] : Fin 2 → IVec S16 32) a x).toNat < S128x18.size a)
theorem k2_idx138_inb : ∀ (v257 : IVec S16 32) (v821 : IVec S16 32) (k2_hw138 : k2_chk138 v257 v821), ∀ a x, ((![v257, v821] : Fin 2 → IVec S16 32) a x).toNat < S128x18.size a := fun v257 v821 k2_hw138 => k2_hw138

def k2_chk139 (v257 : IVec S16 32) (v827 : IVec S16 32) : Prop :=
  (∀ a x, ((![v257, v827] : Fin 2 → IVec S16 32) a x).toNat < S128x18.size a)
theorem k2_idx139_inb : ∀ (v257 : IVec S16 32) (v827 : IVec S16 32) (k2_hw139 : k2_chk139 v257 v827), ∀ a x, ((![v257, v827] : Fin 2 → IVec S16 32) a x).toNat < S128x18.size a := fun v257 v827 k2_hw139 => k2_hw139

def k2_chk140 (v257 : IVec S16 32) (v833 : IVec S16 32) : Prop :=
  (∀ a x, ((![v257, v833] : Fin 2 → IVec S16 32) a x).toNat < S128x18.size a)
theorem k2_idx140_inb : ∀ (v257 : IVec S16 32) (v833 : IVec S16 32) (k2_hw140 : k2_chk140 v257 v833), ∀ a x, ((![v257, v833] : Fin 2 → IVec S16 32) a x).toNat < S128x18.size a := fun v257 v833 k2_hw140 => k2_hw140

def k2_chk141 (v257 : IVec S16 32) (v839 : IVec S16 32) : Prop :=
  (∀ a x, ((![v257, v839] : Fin 2 → IVec S16 32) a x).toNat < S128x18.size a)
theorem k2_idx141_inb : ∀ (v257 : IVec S16 32) (v839 : IVec S16 32) (k2_hw141 : k2_chk141 v257 v839), ∀ a x, ((![v257, v839] : Fin 2 → IVec S16 32) a x).toNat < S128x18.size a := fun v257 v839 k2_hw141 => k2_hw141

def k2_chk142 (v257 : IVec S16 32) (v845 : IVec S16 32) : Prop :=
  (∀ a x, ((![v257, v845] : Fin 2 → IVec S16 32) a x).toNat < S128x18.size a)
theorem k2_idx142_inb : ∀ (v257 : IVec S16 32) (v845 : IVec S16 32) (k2_hw142 : k2_chk142 v257 v845), ∀ a x, ((![v257, v845] : Fin 2 → IVec S16 32) a x).toNat < S128x18.size a := fun v257 v845 k2_hw142 => k2_hw142

def k2_chk143 (v257 : IVec S16 32) (v851 : IVec S16 32) : Prop :=
  (∀ a x, ((![v257, v851] : Fin 2 → IVec S16 32) a x).toNat < S128x18.size a)
theorem k2_idx143_inb : ∀ (v257 : IVec S16 32) (v851 : IVec S16 32) (k2_hw143 : k2_chk143 v257 v851), ∀ a x, ((![v257, v851] : Fin 2 → IVec S16 32) a x).toNat < S128x18.size a := fun v257 v851 k2_hw143 => k2_hw143

def k2_chk144 (v257 : IVec S16 32) (v857 : IVec S16 32) : Prop :=
  (∀ a x, ((![v257, v857] : Fin 2 → IVec S16 32) a x).toNat < S128x18.size a)
theorem k2_idx144_inb : ∀ (v257 : IVec S16 32) (v857 : IVec S16 32) (k2_hw144 : k2_chk144 v257 v857), ∀ a x, ((![v257, v857] : Fin 2 → IVec S16 32) a x).toNat < S128x18.size a := fun v257 v857 k2_hw144 => k2_hw144
def k2_off5 (i : grid2.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v14 : BitVec 32 := Scalar.addi v2 c0_i32_15
  let c0_i32_16 : BitVec 32 := 0#32
  ![v14.toNat, 0]
@[reducible] def k2_t3_loop : Scf.Loop 32 :=
  let c0_i32_24 : BitVec 32 := 0#32
  let c2_i32_25 : BitVec 32 := 2#32
  let v21 : BitVec 32 := Scalar.addi c0_i32_24 c2_i32_25
  let c1_i32_26 : BitVec 32 := 1#32
  ⟨c0_i32_24, v21, c1_i32_26⟩
def k2_off6 (k2_t3 : Fin k2_t3_loop.trips) (c0_i32_243 : BitVec 32) : Fin 1 → Nat :=
  let c128_i32_244 : BitVec 32 := 128#32
  let c0_i32_24 : BitVec 32 := 0#32
  let c1_i32_26 : BitVec 32 := 1#32
  let arg18 : BitVec 32 := Scf.iv c0_i32_24 c1_i32_26 k2_t3
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c128_i32_244 v184
  let v186 : Index := Scalar.indexCast v185
  ![v186.toNat]

def k2_chk145 (v200 : IVec S16 32) (v263 : IVec S16 32) : Prop :=
  (∀ a x, ((![v200, v263] : Fin 2 → IVec S16 32) a x).toNat < S128x128.size a)
theorem k2_idx145_inb : ∀ (v200 : IVec S16 32) (v263 : IVec S16 32) (k2_hw145 : k2_chk145 v200 v263), ∀ a x, ((![v200, v263] : Fin 2 → IVec S16 32) a x).toNat < S128x128.size a := fun v200 v263 k2_hw145 => k2_hw145

def k2_chk146 (v219 : IVec S16 32) (v270 : IVec S16 32) : Prop :=
  (∀ a x, ((![v219, v270] : Fin 2 → IVec S16 32) a x).toNat < S128x128.size a)
theorem k2_idx146_inb : ∀ (v219 : IVec S16 32) (v270 : IVec S16 32) (k2_hw146 : k2_chk146 v219 v270), ∀ a x, ((![v219, v270] : Fin 2 → IVec S16 32) a x).toNat < S128x128.size a := fun v219 v270 k2_hw146 => k2_hw146

def k2_chk147 (v238 : IVec S16 32) (v277 : IVec S16 32) : Prop :=
  (∀ a x, ((![v238, v277] : Fin 2 → IVec S16 32) a x).toNat < S128x128.size a)
theorem k2_idx147_inb : ∀ (v238 : IVec S16 32) (v277 : IVec S16 32) (k2_hw147 : k2_chk147 v238 v277), ∀ a x, ((![v238, v277] : Fin 2 → IVec S16 32) a x).toNat < S128x128.size a := fun v238 v277 k2_hw147 => k2_hw147

def k2_chk148 (v257 : IVec S16 32) (v284 : IVec S16 32) : Prop :=
  (∀ a x, ((![v257, v284] : Fin 2 → IVec S16 32) a x).toNat < S128x128.size a)
theorem k2_idx148_inb : ∀ (v257 : IVec S16 32) (v284 : IVec S16 32) (k2_hw148 : k2_chk148 v257 v284), ∀ a x, ((![v257, v284] : Fin 2 → IVec S16 32) a x).toNat < S128x128.size a := fun v257 v284 k2_hw148 => k2_hw148

def k2_chk149 (v200 : IVec S16 32) (v303 : IVec S16 32) : Prop :=
  (∀ a x, ((![v200, v303] : Fin 2 → IVec S16 32) a x).toNat < S128x128.size a)
theorem k2_idx149_inb : ∀ (v200 : IVec S16 32) (v303 : IVec S16 32) (k2_hw149 : k2_chk149 v200 v303), ∀ a x, ((![v200, v303] : Fin 2 → IVec S16 32) a x).toNat < S128x128.size a := fun v200 v303 k2_hw149 => k2_hw149

def k2_chk150 (v219 : IVec S16 32) (v310 : IVec S16 32) : Prop :=
  (∀ a x, ((![v219, v310] : Fin 2 → IVec S16 32) a x).toNat < S128x128.size a)
theorem k2_idx150_inb : ∀ (v219 : IVec S16 32) (v310 : IVec S16 32) (k2_hw150 : k2_chk150 v219 v310), ∀ a x, ((![v219, v310] : Fin 2 → IVec S16 32) a x).toNat < S128x128.size a := fun v219 v310 k2_hw150 => k2_hw150

def k2_chk151 (v238 : IVec S16 32) (v317 : IVec S16 32) : Prop :=
  (∀ a x, ((![v238, v317] : Fin 2 → IVec S16 32) a x).toNat < S128x128.size a)
theorem k2_idx151_inb : ∀ (v238 : IVec S16 32) (v317 : IVec S16 32) (k2_hw151 : k2_chk151 v238 v317), ∀ a x, ((![v238, v317] : Fin 2 → IVec S16 32) a x).toNat < S128x128.size a := fun v238 v317 k2_hw151 => k2_hw151

def k2_chk152 (v257 : IVec S16 32) (v324 : IVec S16 32) : Prop :=
  (∀ a x, ((![v257, v324] : Fin 2 → IVec S16 32) a x).toNat < S128x128.size a)
theorem k2_idx152_inb : ∀ (v257 : IVec S16 32) (v324 : IVec S16 32) (k2_hw152 : k2_chk152 v257 v324), ∀ a x, ((![v257, v324] : Fin 2 → IVec S16 32) a x).toNat < S128x128.size a := fun v257 v324 k2_hw152 => k2_hw152

def k2_chk153 (v200 : IVec S16 32) (v343 : IVec S16 32) : Prop :=
  (∀ a x, ((![v200, v343] : Fin 2 → IVec S16 32) a x).toNat < S128x128.size a)
theorem k2_idx153_inb : ∀ (v200 : IVec S16 32) (v343 : IVec S16 32) (k2_hw153 : k2_chk153 v200 v343), ∀ a x, ((![v200, v343] : Fin 2 → IVec S16 32) a x).toNat < S128x128.size a := fun v200 v343 k2_hw153 => k2_hw153

def k2_chk154 (v219 : IVec S16 32) (v350 : IVec S16 32) : Prop :=
  (∀ a x, ((![v219, v350] : Fin 2 → IVec S16 32) a x).toNat < S128x128.size a)
theorem k2_idx154_inb : ∀ (v219 : IVec S16 32) (v350 : IVec S16 32) (k2_hw154 : k2_chk154 v219 v350), ∀ a x, ((![v219, v350] : Fin 2 → IVec S16 32) a x).toNat < S128x128.size a := fun v219 v350 k2_hw154 => k2_hw154

def k2_chk155 (v238 : IVec S16 32) (v357 : IVec S16 32) : Prop :=
  (∀ a x, ((![v238, v357] : Fin 2 → IVec S16 32) a x).toNat < S128x128.size a)
theorem k2_idx155_inb : ∀ (v238 : IVec S16 32) (v357 : IVec S16 32) (k2_hw155 : k2_chk155 v238 v357), ∀ a x, ((![v238, v357] : Fin 2 → IVec S16 32) a x).toNat < S128x128.size a := fun v238 v357 k2_hw155 => k2_hw155

def k2_chk156 (v257 : IVec S16 32) (v364 : IVec S16 32) : Prop :=
  (∀ a x, ((![v257, v364] : Fin 2 → IVec S16 32) a x).toNat < S128x128.size a)
theorem k2_idx156_inb : ∀ (v257 : IVec S16 32) (v364 : IVec S16 32) (k2_hw156 : k2_chk156 v257 v364), ∀ a x, ((![v257, v364] : Fin 2 → IVec S16 32) a x).toNat < S128x128.size a := fun v257 v364 k2_hw156 => k2_hw156

def k2_chk157 (v200 : IVec S16 32) (v383 : IVec S16 32) : Prop :=
  (∀ a x, ((![v200, v383] : Fin 2 → IVec S16 32) a x).toNat < S128x128.size a)
theorem k2_idx157_inb : ∀ (v200 : IVec S16 32) (v383 : IVec S16 32) (k2_hw157 : k2_chk157 v200 v383), ∀ a x, ((![v200, v383] : Fin 2 → IVec S16 32) a x).toNat < S128x128.size a := fun v200 v383 k2_hw157 => k2_hw157

def k2_chk158 (v219 : IVec S16 32) (v390 : IVec S16 32) : Prop :=
  (∀ a x, ((![v219, v390] : Fin 2 → IVec S16 32) a x).toNat < S128x128.size a)
theorem k2_idx158_inb : ∀ (v219 : IVec S16 32) (v390 : IVec S16 32) (k2_hw158 : k2_chk158 v219 v390), ∀ a x, ((![v219, v390] : Fin 2 → IVec S16 32) a x).toNat < S128x128.size a := fun v219 v390 k2_hw158 => k2_hw158

def k2_chk159 (v238 : IVec S16 32) (v397 : IVec S16 32) : Prop :=
  (∀ a x, ((![v238, v397] : Fin 2 → IVec S16 32) a x).toNat < S128x128.size a)
theorem k2_idx159_inb : ∀ (v238 : IVec S16 32) (v397 : IVec S16 32) (k2_hw159 : k2_chk159 v238 v397), ∀ a x, ((![v238, v397] : Fin 2 → IVec S16 32) a x).toNat < S128x128.size a := fun v238 v397 k2_hw159 => k2_hw159

def k2_chk160 (v257 : IVec S16 32) (v404 : IVec S16 32) : Prop :=
  (∀ a x, ((![v257, v404] : Fin 2 → IVec S16 32) a x).toNat < S128x128.size a)
theorem k2_idx160_inb : ∀ (v257 : IVec S16 32) (v404 : IVec S16 32) (k2_hw160 : k2_chk160 v257 v404), ∀ a x, ((![v257, v404] : Fin 2 → IVec S16 32) a x).toNat < S128x128.size a := fun v257 v404 k2_hw160 => k2_hw160

def k2_chk161 (v200 : IVec S16 32) (v425 : IVec S16 32) : Prop :=
  (∀ a x, ((![v200, v425] : Fin 2 → IVec S16 32) a x).toNat < S128x18.size a)
theorem k2_idx161_inb : ∀ (v200 : IVec S16 32) (v425 : IVec S16 32) (k2_hw161 : k2_chk161 v200 v425), ∀ a x, ((![v200, v425] : Fin 2 → IVec S16 32) a x).toNat < S128x18.size a := fun v200 v425 k2_hw161 => k2_hw161

def k2_chk162 (v200 : IVec S16 32) (v431 : IVec S16 32) : Prop :=
  (∀ a x, ((![v200, v431] : Fin 2 → IVec S16 32) a x).toNat < S128x18.size a)
theorem k2_idx162_inb : ∀ (v200 : IVec S16 32) (v431 : IVec S16 32) (k2_hw162 : k2_chk162 v200 v431), ∀ a x, ((![v200, v431] : Fin 2 → IVec S16 32) a x).toNat < S128x18.size a := fun v200 v431 k2_hw162 => k2_hw162

def k2_chk163 (v200 : IVec S16 32) (v437 : IVec S16 32) : Prop :=
  (∀ a x, ((![v200, v437] : Fin 2 → IVec S16 32) a x).toNat < S128x18.size a)
theorem k2_idx163_inb : ∀ (v200 : IVec S16 32) (v437 : IVec S16 32) (k2_hw163 : k2_chk163 v200 v437), ∀ a x, ((![v200, v437] : Fin 2 → IVec S16 32) a x).toNat < S128x18.size a := fun v200 v437 k2_hw163 => k2_hw163

def k2_chk164 (v200 : IVec S16 32) (v443 : IVec S16 32) : Prop :=
  (∀ a x, ((![v200, v443] : Fin 2 → IVec S16 32) a x).toNat < S128x18.size a)
theorem k2_idx164_inb : ∀ (v200 : IVec S16 32) (v443 : IVec S16 32) (k2_hw164 : k2_chk164 v200 v443), ∀ a x, ((![v200, v443] : Fin 2 → IVec S16 32) a x).toNat < S128x18.size a := fun v200 v443 k2_hw164 => k2_hw164

def k2_chk165 (v200 : IVec S16 32) (v449 : IVec S16 32) : Prop :=
  (∀ a x, ((![v200, v449] : Fin 2 → IVec S16 32) a x).toNat < S128x18.size a)
theorem k2_idx165_inb : ∀ (v200 : IVec S16 32) (v449 : IVec S16 32) (k2_hw165 : k2_chk165 v200 v449), ∀ a x, ((![v200, v449] : Fin 2 → IVec S16 32) a x).toNat < S128x18.size a := fun v200 v449 k2_hw165 => k2_hw165

def k2_chk166 (v200 : IVec S16 32) (v455 : IVec S16 32) : Prop :=
  (∀ a x, ((![v200, v455] : Fin 2 → IVec S16 32) a x).toNat < S128x18.size a)
theorem k2_idx166_inb : ∀ (v200 : IVec S16 32) (v455 : IVec S16 32) (k2_hw166 : k2_chk166 v200 v455), ∀ a x, ((![v200, v455] : Fin 2 → IVec S16 32) a x).toNat < S128x18.size a := fun v200 v455 k2_hw166 => k2_hw166

def k2_chk167 (v200 : IVec S16 32) (v461 : IVec S16 32) : Prop :=
  (∀ a x, ((![v200, v461] : Fin 2 → IVec S16 32) a x).toNat < S128x18.size a)
theorem k2_idx167_inb : ∀ (v200 : IVec S16 32) (v461 : IVec S16 32) (k2_hw167 : k2_chk167 v200 v461), ∀ a x, ((![v200, v461] : Fin 2 → IVec S16 32) a x).toNat < S128x18.size a := fun v200 v461 k2_hw167 => k2_hw167

def k2_chk168 (v200 : IVec S16 32) (v467 : IVec S16 32) : Prop :=
  (∀ a x, ((![v200, v467] : Fin 2 → IVec S16 32) a x).toNat < S128x18.size a)
theorem k2_idx168_inb : ∀ (v200 : IVec S16 32) (v467 : IVec S16 32) (k2_hw168 : k2_chk168 v200 v467), ∀ a x, ((![v200, v467] : Fin 2 → IVec S16 32) a x).toNat < S128x18.size a := fun v200 v467 k2_hw168 => k2_hw168

def k2_chk169 (v200 : IVec S16 32) (v473 : IVec S16 32) : Prop :=
  (∀ a x, ((![v200, v473] : Fin 2 → IVec S16 32) a x).toNat < S128x18.size a)
theorem k2_idx169_inb : ∀ (v200 : IVec S16 32) (v473 : IVec S16 32) (k2_hw169 : k2_chk169 v200 v473), ∀ a x, ((![v200, v473] : Fin 2 → IVec S16 32) a x).toNat < S128x18.size a := fun v200 v473 k2_hw169 => k2_hw169

def k2_chk170 (v200 : IVec S16 32) (v479 : IVec S16 32) : Prop :=
  (∀ a x, ((![v200, v479] : Fin 2 → IVec S16 32) a x).toNat < S128x18.size a)
theorem k2_idx170_inb : ∀ (v200 : IVec S16 32) (v479 : IVec S16 32) (k2_hw170 : k2_chk170 v200 v479), ∀ a x, ((![v200, v479] : Fin 2 → IVec S16 32) a x).toNat < S128x18.size a := fun v200 v479 k2_hw170 => k2_hw170

def k2_chk171 (v200 : IVec S16 32) (v485 : IVec S16 32) : Prop :=
  (∀ a x, ((![v200, v485] : Fin 2 → IVec S16 32) a x).toNat < S128x18.size a)
theorem k2_idx171_inb : ∀ (v200 : IVec S16 32) (v485 : IVec S16 32) (k2_hw171 : k2_chk171 v200 v485), ∀ a x, ((![v200, v485] : Fin 2 → IVec S16 32) a x).toNat < S128x18.size a := fun v200 v485 k2_hw171 => k2_hw171

def k2_chk172 (v200 : IVec S16 32) (v491 : IVec S16 32) : Prop :=
  (∀ a x, ((![v200, v491] : Fin 2 → IVec S16 32) a x).toNat < S128x18.size a)
theorem k2_idx172_inb : ∀ (v200 : IVec S16 32) (v491 : IVec S16 32) (k2_hw172 : k2_chk172 v200 v491), ∀ a x, ((![v200, v491] : Fin 2 → IVec S16 32) a x).toNat < S128x18.size a := fun v200 v491 k2_hw172 => k2_hw172

def k2_chk173 (v200 : IVec S16 32) (v497 : IVec S16 32) : Prop :=
  (∀ a x, ((![v200, v497] : Fin 2 → IVec S16 32) a x).toNat < S128x18.size a)
theorem k2_idx173_inb : ∀ (v200 : IVec S16 32) (v497 : IVec S16 32) (k2_hw173 : k2_chk173 v200 v497), ∀ a x, ((![v200, v497] : Fin 2 → IVec S16 32) a x).toNat < S128x18.size a := fun v200 v497 k2_hw173 => k2_hw173

def k2_chk174 (v200 : IVec S16 32) (v503 : IVec S16 32) : Prop :=
  (∀ a x, ((![v200, v503] : Fin 2 → IVec S16 32) a x).toNat < S128x18.size a)
theorem k2_idx174_inb : ∀ (v200 : IVec S16 32) (v503 : IVec S16 32) (k2_hw174 : k2_chk174 v200 v503), ∀ a x, ((![v200, v503] : Fin 2 → IVec S16 32) a x).toNat < S128x18.size a := fun v200 v503 k2_hw174 => k2_hw174

def k2_chk175 (v200 : IVec S16 32) (v509 : IVec S16 32) : Prop :=
  (∀ a x, ((![v200, v509] : Fin 2 → IVec S16 32) a x).toNat < S128x18.size a)
theorem k2_idx175_inb : ∀ (v200 : IVec S16 32) (v509 : IVec S16 32) (k2_hw175 : k2_chk175 v200 v509), ∀ a x, ((![v200, v509] : Fin 2 → IVec S16 32) a x).toNat < S128x18.size a := fun v200 v509 k2_hw175 => k2_hw175

def k2_chk176 (v200 : IVec S16 32) (v515 : IVec S16 32) : Prop :=
  (∀ a x, ((![v200, v515] : Fin 2 → IVec S16 32) a x).toNat < S128x18.size a)
theorem k2_idx176_inb : ∀ (v200 : IVec S16 32) (v515 : IVec S16 32) (k2_hw176 : k2_chk176 v200 v515), ∀ a x, ((![v200, v515] : Fin 2 → IVec S16 32) a x).toNat < S128x18.size a := fun v200 v515 k2_hw176 => k2_hw176

def k2_chk177 (v200 : IVec S16 32) (v521 : IVec S16 32) : Prop :=
  (∀ a x, ((![v200, v521] : Fin 2 → IVec S16 32) a x).toNat < S128x18.size a)
theorem k2_idx177_inb : ∀ (v200 : IVec S16 32) (v521 : IVec S16 32) (k2_hw177 : k2_chk177 v200 v521), ∀ a x, ((![v200, v521] : Fin 2 → IVec S16 32) a x).toNat < S128x18.size a := fun v200 v521 k2_hw177 => k2_hw177

def k2_chk178 (v200 : IVec S16 32) (v527 : IVec S16 32) : Prop :=
  (∀ a x, ((![v200, v527] : Fin 2 → IVec S16 32) a x).toNat < S128x18.size a)
theorem k2_idx178_inb : ∀ (v200 : IVec S16 32) (v527 : IVec S16 32) (k2_hw178 : k2_chk178 v200 v527), ∀ a x, ((![v200, v527] : Fin 2 → IVec S16 32) a x).toNat < S128x18.size a := fun v200 v527 k2_hw178 => k2_hw178

def k2_chk179 (v219 : IVec S16 32) (v535 : IVec S16 32) : Prop :=
  (∀ a x, ((![v219, v535] : Fin 2 → IVec S16 32) a x).toNat < S128x18.size a)
theorem k2_idx179_inb : ∀ (v219 : IVec S16 32) (v535 : IVec S16 32) (k2_hw179 : k2_chk179 v219 v535), ∀ a x, ((![v219, v535] : Fin 2 → IVec S16 32) a x).toNat < S128x18.size a := fun v219 v535 k2_hw179 => k2_hw179

def k2_chk180 (v219 : IVec S16 32) (v541 : IVec S16 32) : Prop :=
  (∀ a x, ((![v219, v541] : Fin 2 → IVec S16 32) a x).toNat < S128x18.size a)
theorem k2_idx180_inb : ∀ (v219 : IVec S16 32) (v541 : IVec S16 32) (k2_hw180 : k2_chk180 v219 v541), ∀ a x, ((![v219, v541] : Fin 2 → IVec S16 32) a x).toNat < S128x18.size a := fun v219 v541 k2_hw180 => k2_hw180

def k2_chk181 (v219 : IVec S16 32) (v547 : IVec S16 32) : Prop :=
  (∀ a x, ((![v219, v547] : Fin 2 → IVec S16 32) a x).toNat < S128x18.size a)
theorem k2_idx181_inb : ∀ (v219 : IVec S16 32) (v547 : IVec S16 32) (k2_hw181 : k2_chk181 v219 v547), ∀ a x, ((![v219, v547] : Fin 2 → IVec S16 32) a x).toNat < S128x18.size a := fun v219 v547 k2_hw181 => k2_hw181

def k2_chk182 (v219 : IVec S16 32) (v553 : IVec S16 32) : Prop :=
  (∀ a x, ((![v219, v553] : Fin 2 → IVec S16 32) a x).toNat < S128x18.size a)
theorem k2_idx182_inb : ∀ (v219 : IVec S16 32) (v553 : IVec S16 32) (k2_hw182 : k2_chk182 v219 v553), ∀ a x, ((![v219, v553] : Fin 2 → IVec S16 32) a x).toNat < S128x18.size a := fun v219 v553 k2_hw182 => k2_hw182

def k2_chk183 (v219 : IVec S16 32) (v559 : IVec S16 32) : Prop :=
  (∀ a x, ((![v219, v559] : Fin 2 → IVec S16 32) a x).toNat < S128x18.size a)
theorem k2_idx183_inb : ∀ (v219 : IVec S16 32) (v559 : IVec S16 32) (k2_hw183 : k2_chk183 v219 v559), ∀ a x, ((![v219, v559] : Fin 2 → IVec S16 32) a x).toNat < S128x18.size a := fun v219 v559 k2_hw183 => k2_hw183

def k2_chk184 (v219 : IVec S16 32) (v565 : IVec S16 32) : Prop :=
  (∀ a x, ((![v219, v565] : Fin 2 → IVec S16 32) a x).toNat < S128x18.size a)
theorem k2_idx184_inb : ∀ (v219 : IVec S16 32) (v565 : IVec S16 32) (k2_hw184 : k2_chk184 v219 v565), ∀ a x, ((![v219, v565] : Fin 2 → IVec S16 32) a x).toNat < S128x18.size a := fun v219 v565 k2_hw184 => k2_hw184

def k2_chk185 (v219 : IVec S16 32) (v571 : IVec S16 32) : Prop :=
  (∀ a x, ((![v219, v571] : Fin 2 → IVec S16 32) a x).toNat < S128x18.size a)
theorem k2_idx185_inb : ∀ (v219 : IVec S16 32) (v571 : IVec S16 32) (k2_hw185 : k2_chk185 v219 v571), ∀ a x, ((![v219, v571] : Fin 2 → IVec S16 32) a x).toNat < S128x18.size a := fun v219 v571 k2_hw185 => k2_hw185

def k2_chk186 (v219 : IVec S16 32) (v577 : IVec S16 32) : Prop :=
  (∀ a x, ((![v219, v577] : Fin 2 → IVec S16 32) a x).toNat < S128x18.size a)
theorem k2_idx186_inb : ∀ (v219 : IVec S16 32) (v577 : IVec S16 32) (k2_hw186 : k2_chk186 v219 v577), ∀ a x, ((![v219, v577] : Fin 2 → IVec S16 32) a x).toNat < S128x18.size a := fun v219 v577 k2_hw186 => k2_hw186

def k2_chk187 (v219 : IVec S16 32) (v583 : IVec S16 32) : Prop :=
  (∀ a x, ((![v219, v583] : Fin 2 → IVec S16 32) a x).toNat < S128x18.size a)
theorem k2_idx187_inb : ∀ (v219 : IVec S16 32) (v583 : IVec S16 32) (k2_hw187 : k2_chk187 v219 v583), ∀ a x, ((![v219, v583] : Fin 2 → IVec S16 32) a x).toNat < S128x18.size a := fun v219 v583 k2_hw187 => k2_hw187

def k2_chk188 (v219 : IVec S16 32) (v589 : IVec S16 32) : Prop :=
  (∀ a x, ((![v219, v589] : Fin 2 → IVec S16 32) a x).toNat < S128x18.size a)
theorem k2_idx188_inb : ∀ (v219 : IVec S16 32) (v589 : IVec S16 32) (k2_hw188 : k2_chk188 v219 v589), ∀ a x, ((![v219, v589] : Fin 2 → IVec S16 32) a x).toNat < S128x18.size a := fun v219 v589 k2_hw188 => k2_hw188

def k2_chk189 (v219 : IVec S16 32) (v595 : IVec S16 32) : Prop :=
  (∀ a x, ((![v219, v595] : Fin 2 → IVec S16 32) a x).toNat < S128x18.size a)
theorem k2_idx189_inb : ∀ (v219 : IVec S16 32) (v595 : IVec S16 32) (k2_hw189 : k2_chk189 v219 v595), ∀ a x, ((![v219, v595] : Fin 2 → IVec S16 32) a x).toNat < S128x18.size a := fun v219 v595 k2_hw189 => k2_hw189

def k2_chk190 (v219 : IVec S16 32) (v601 : IVec S16 32) : Prop :=
  (∀ a x, ((![v219, v601] : Fin 2 → IVec S16 32) a x).toNat < S128x18.size a)
theorem k2_idx190_inb : ∀ (v219 : IVec S16 32) (v601 : IVec S16 32) (k2_hw190 : k2_chk190 v219 v601), ∀ a x, ((![v219, v601] : Fin 2 → IVec S16 32) a x).toNat < S128x18.size a := fun v219 v601 k2_hw190 => k2_hw190

def k2_chk191 (v219 : IVec S16 32) (v607 : IVec S16 32) : Prop :=
  (∀ a x, ((![v219, v607] : Fin 2 → IVec S16 32) a x).toNat < S128x18.size a)
theorem k2_idx191_inb : ∀ (v219 : IVec S16 32) (v607 : IVec S16 32) (k2_hw191 : k2_chk191 v219 v607), ∀ a x, ((![v219, v607] : Fin 2 → IVec S16 32) a x).toNat < S128x18.size a := fun v219 v607 k2_hw191 => k2_hw191

def k2_chk192 (v219 : IVec S16 32) (v613 : IVec S16 32) : Prop :=
  (∀ a x, ((![v219, v613] : Fin 2 → IVec S16 32) a x).toNat < S128x18.size a)
theorem k2_idx192_inb : ∀ (v219 : IVec S16 32) (v613 : IVec S16 32) (k2_hw192 : k2_chk192 v219 v613), ∀ a x, ((![v219, v613] : Fin 2 → IVec S16 32) a x).toNat < S128x18.size a := fun v219 v613 k2_hw192 => k2_hw192

def k2_chk193 (v219 : IVec S16 32) (v619 : IVec S16 32) : Prop :=
  (∀ a x, ((![v219, v619] : Fin 2 → IVec S16 32) a x).toNat < S128x18.size a)
theorem k2_idx193_inb : ∀ (v219 : IVec S16 32) (v619 : IVec S16 32) (k2_hw193 : k2_chk193 v219 v619), ∀ a x, ((![v219, v619] : Fin 2 → IVec S16 32) a x).toNat < S128x18.size a := fun v219 v619 k2_hw193 => k2_hw193

def k2_chk194 (v219 : IVec S16 32) (v625 : IVec S16 32) : Prop :=
  (∀ a x, ((![v219, v625] : Fin 2 → IVec S16 32) a x).toNat < S128x18.size a)
theorem k2_idx194_inb : ∀ (v219 : IVec S16 32) (v625 : IVec S16 32) (k2_hw194 : k2_chk194 v219 v625), ∀ a x, ((![v219, v625] : Fin 2 → IVec S16 32) a x).toNat < S128x18.size a := fun v219 v625 k2_hw194 => k2_hw194

def k2_chk195 (v219 : IVec S16 32) (v631 : IVec S16 32) : Prop :=
  (∀ a x, ((![v219, v631] : Fin 2 → IVec S16 32) a x).toNat < S128x18.size a)
theorem k2_idx195_inb : ∀ (v219 : IVec S16 32) (v631 : IVec S16 32) (k2_hw195 : k2_chk195 v219 v631), ∀ a x, ((![v219, v631] : Fin 2 → IVec S16 32) a x).toNat < S128x18.size a := fun v219 v631 k2_hw195 => k2_hw195

def k2_chk196 (v219 : IVec S16 32) (v637 : IVec S16 32) : Prop :=
  (∀ a x, ((![v219, v637] : Fin 2 → IVec S16 32) a x).toNat < S128x18.size a)
theorem k2_idx196_inb : ∀ (v219 : IVec S16 32) (v637 : IVec S16 32) (k2_hw196 : k2_chk196 v219 v637), ∀ a x, ((![v219, v637] : Fin 2 → IVec S16 32) a x).toNat < S128x18.size a := fun v219 v637 k2_hw196 => k2_hw196

def k2_chk197 (v238 : IVec S16 32) (v645 : IVec S16 32) : Prop :=
  (∀ a x, ((![v238, v645] : Fin 2 → IVec S16 32) a x).toNat < S128x18.size a)
theorem k2_idx197_inb : ∀ (v238 : IVec S16 32) (v645 : IVec S16 32) (k2_hw197 : k2_chk197 v238 v645), ∀ a x, ((![v238, v645] : Fin 2 → IVec S16 32) a x).toNat < S128x18.size a := fun v238 v645 k2_hw197 => k2_hw197

def k2_chk198 (v238 : IVec S16 32) (v651 : IVec S16 32) : Prop :=
  (∀ a x, ((![v238, v651] : Fin 2 → IVec S16 32) a x).toNat < S128x18.size a)
theorem k2_idx198_inb : ∀ (v238 : IVec S16 32) (v651 : IVec S16 32) (k2_hw198 : k2_chk198 v238 v651), ∀ a x, ((![v238, v651] : Fin 2 → IVec S16 32) a x).toNat < S128x18.size a := fun v238 v651 k2_hw198 => k2_hw198

def k2_chk199 (v238 : IVec S16 32) (v657 : IVec S16 32) : Prop :=
  (∀ a x, ((![v238, v657] : Fin 2 → IVec S16 32) a x).toNat < S128x18.size a)
theorem k2_idx199_inb : ∀ (v238 : IVec S16 32) (v657 : IVec S16 32) (k2_hw199 : k2_chk199 v238 v657), ∀ a x, ((![v238, v657] : Fin 2 → IVec S16 32) a x).toNat < S128x18.size a := fun v238 v657 k2_hw199 => k2_hw199

def k2_chk200 (v238 : IVec S16 32) (v663 : IVec S16 32) : Prop :=
  (∀ a x, ((![v238, v663] : Fin 2 → IVec S16 32) a x).toNat < S128x18.size a)
theorem k2_idx200_inb : ∀ (v238 : IVec S16 32) (v663 : IVec S16 32) (k2_hw200 : k2_chk200 v238 v663), ∀ a x, ((![v238, v663] : Fin 2 → IVec S16 32) a x).toNat < S128x18.size a := fun v238 v663 k2_hw200 => k2_hw200

def k2_chk201 (v238 : IVec S16 32) (v669 : IVec S16 32) : Prop :=
  (∀ a x, ((![v238, v669] : Fin 2 → IVec S16 32) a x).toNat < S128x18.size a)
theorem k2_idx201_inb : ∀ (v238 : IVec S16 32) (v669 : IVec S16 32) (k2_hw201 : k2_chk201 v238 v669), ∀ a x, ((![v238, v669] : Fin 2 → IVec S16 32) a x).toNat < S128x18.size a := fun v238 v669 k2_hw201 => k2_hw201

def k2_chk202 (v238 : IVec S16 32) (v675 : IVec S16 32) : Prop :=
  (∀ a x, ((![v238, v675] : Fin 2 → IVec S16 32) a x).toNat < S128x18.size a)
theorem k2_idx202_inb : ∀ (v238 : IVec S16 32) (v675 : IVec S16 32) (k2_hw202 : k2_chk202 v238 v675), ∀ a x, ((![v238, v675] : Fin 2 → IVec S16 32) a x).toNat < S128x18.size a := fun v238 v675 k2_hw202 => k2_hw202

def k2_chk203 (v238 : IVec S16 32) (v681 : IVec S16 32) : Prop :=
  (∀ a x, ((![v238, v681] : Fin 2 → IVec S16 32) a x).toNat < S128x18.size a)
theorem k2_idx203_inb : ∀ (v238 : IVec S16 32) (v681 : IVec S16 32) (k2_hw203 : k2_chk203 v238 v681), ∀ a x, ((![v238, v681] : Fin 2 → IVec S16 32) a x).toNat < S128x18.size a := fun v238 v681 k2_hw203 => k2_hw203

def k2_chk204 (v238 : IVec S16 32) (v687 : IVec S16 32) : Prop :=
  (∀ a x, ((![v238, v687] : Fin 2 → IVec S16 32) a x).toNat < S128x18.size a)
theorem k2_idx204_inb : ∀ (v238 : IVec S16 32) (v687 : IVec S16 32) (k2_hw204 : k2_chk204 v238 v687), ∀ a x, ((![v238, v687] : Fin 2 → IVec S16 32) a x).toNat < S128x18.size a := fun v238 v687 k2_hw204 => k2_hw204

def k2_chk205 (v238 : IVec S16 32) (v693 : IVec S16 32) : Prop :=
  (∀ a x, ((![v238, v693] : Fin 2 → IVec S16 32) a x).toNat < S128x18.size a)
theorem k2_idx205_inb : ∀ (v238 : IVec S16 32) (v693 : IVec S16 32) (k2_hw205 : k2_chk205 v238 v693), ∀ a x, ((![v238, v693] : Fin 2 → IVec S16 32) a x).toNat < S128x18.size a := fun v238 v693 k2_hw205 => k2_hw205

def k2_chk206 (v238 : IVec S16 32) (v699 : IVec S16 32) : Prop :=
  (∀ a x, ((![v238, v699] : Fin 2 → IVec S16 32) a x).toNat < S128x18.size a)
theorem k2_idx206_inb : ∀ (v238 : IVec S16 32) (v699 : IVec S16 32) (k2_hw206 : k2_chk206 v238 v699), ∀ a x, ((![v238, v699] : Fin 2 → IVec S16 32) a x).toNat < S128x18.size a := fun v238 v699 k2_hw206 => k2_hw206

def k2_chk207 (v238 : IVec S16 32) (v705 : IVec S16 32) : Prop :=
  (∀ a x, ((![v238, v705] : Fin 2 → IVec S16 32) a x).toNat < S128x18.size a)
theorem k2_idx207_inb : ∀ (v238 : IVec S16 32) (v705 : IVec S16 32) (k2_hw207 : k2_chk207 v238 v705), ∀ a x, ((![v238, v705] : Fin 2 → IVec S16 32) a x).toNat < S128x18.size a := fun v238 v705 k2_hw207 => k2_hw207

def k2_chk208 (v238 : IVec S16 32) (v711 : IVec S16 32) : Prop :=
  (∀ a x, ((![v238, v711] : Fin 2 → IVec S16 32) a x).toNat < S128x18.size a)
theorem k2_idx208_inb : ∀ (v238 : IVec S16 32) (v711 : IVec S16 32) (k2_hw208 : k2_chk208 v238 v711), ∀ a x, ((![v238, v711] : Fin 2 → IVec S16 32) a x).toNat < S128x18.size a := fun v238 v711 k2_hw208 => k2_hw208

def k2_chk209 (v238 : IVec S16 32) (v717 : IVec S16 32) : Prop :=
  (∀ a x, ((![v238, v717] : Fin 2 → IVec S16 32) a x).toNat < S128x18.size a)
theorem k2_idx209_inb : ∀ (v238 : IVec S16 32) (v717 : IVec S16 32) (k2_hw209 : k2_chk209 v238 v717), ∀ a x, ((![v238, v717] : Fin 2 → IVec S16 32) a x).toNat < S128x18.size a := fun v238 v717 k2_hw209 => k2_hw209

def k2_chk210 (v238 : IVec S16 32) (v723 : IVec S16 32) : Prop :=
  (∀ a x, ((![v238, v723] : Fin 2 → IVec S16 32) a x).toNat < S128x18.size a)
theorem k2_idx210_inb : ∀ (v238 : IVec S16 32) (v723 : IVec S16 32) (k2_hw210 : k2_chk210 v238 v723), ∀ a x, ((![v238, v723] : Fin 2 → IVec S16 32) a x).toNat < S128x18.size a := fun v238 v723 k2_hw210 => k2_hw210

def k2_chk211 (v238 : IVec S16 32) (v729 : IVec S16 32) : Prop :=
  (∀ a x, ((![v238, v729] : Fin 2 → IVec S16 32) a x).toNat < S128x18.size a)
theorem k2_idx211_inb : ∀ (v238 : IVec S16 32) (v729 : IVec S16 32) (k2_hw211 : k2_chk211 v238 v729), ∀ a x, ((![v238, v729] : Fin 2 → IVec S16 32) a x).toNat < S128x18.size a := fun v238 v729 k2_hw211 => k2_hw211

def k2_chk212 (v238 : IVec S16 32) (v735 : IVec S16 32) : Prop :=
  (∀ a x, ((![v238, v735] : Fin 2 → IVec S16 32) a x).toNat < S128x18.size a)
theorem k2_idx212_inb : ∀ (v238 : IVec S16 32) (v735 : IVec S16 32) (k2_hw212 : k2_chk212 v238 v735), ∀ a x, ((![v238, v735] : Fin 2 → IVec S16 32) a x).toNat < S128x18.size a := fun v238 v735 k2_hw212 => k2_hw212

def k2_chk213 (v238 : IVec S16 32) (v741 : IVec S16 32) : Prop :=
  (∀ a x, ((![v238, v741] : Fin 2 → IVec S16 32) a x).toNat < S128x18.size a)
theorem k2_idx213_inb : ∀ (v238 : IVec S16 32) (v741 : IVec S16 32) (k2_hw213 : k2_chk213 v238 v741), ∀ a x, ((![v238, v741] : Fin 2 → IVec S16 32) a x).toNat < S128x18.size a := fun v238 v741 k2_hw213 => k2_hw213

def k2_chk214 (v238 : IVec S16 32) (v747 : IVec S16 32) : Prop :=
  (∀ a x, ((![v238, v747] : Fin 2 → IVec S16 32) a x).toNat < S128x18.size a)
theorem k2_idx214_inb : ∀ (v238 : IVec S16 32) (v747 : IVec S16 32) (k2_hw214 : k2_chk214 v238 v747), ∀ a x, ((![v238, v747] : Fin 2 → IVec S16 32) a x).toNat < S128x18.size a := fun v238 v747 k2_hw214 => k2_hw214

def k2_chk215 (v257 : IVec S16 32) (v755 : IVec S16 32) : Prop :=
  (∀ a x, ((![v257, v755] : Fin 2 → IVec S16 32) a x).toNat < S128x18.size a)
theorem k2_idx215_inb : ∀ (v257 : IVec S16 32) (v755 : IVec S16 32) (k2_hw215 : k2_chk215 v257 v755), ∀ a x, ((![v257, v755] : Fin 2 → IVec S16 32) a x).toNat < S128x18.size a := fun v257 v755 k2_hw215 => k2_hw215

def k2_chk216 (v257 : IVec S16 32) (v761 : IVec S16 32) : Prop :=
  (∀ a x, ((![v257, v761] : Fin 2 → IVec S16 32) a x).toNat < S128x18.size a)
theorem k2_idx216_inb : ∀ (v257 : IVec S16 32) (v761 : IVec S16 32) (k2_hw216 : k2_chk216 v257 v761), ∀ a x, ((![v257, v761] : Fin 2 → IVec S16 32) a x).toNat < S128x18.size a := fun v257 v761 k2_hw216 => k2_hw216

def k2_chk217 (v257 : IVec S16 32) (v767 : IVec S16 32) : Prop :=
  (∀ a x, ((![v257, v767] : Fin 2 → IVec S16 32) a x).toNat < S128x18.size a)
theorem k2_idx217_inb : ∀ (v257 : IVec S16 32) (v767 : IVec S16 32) (k2_hw217 : k2_chk217 v257 v767), ∀ a x, ((![v257, v767] : Fin 2 → IVec S16 32) a x).toNat < S128x18.size a := fun v257 v767 k2_hw217 => k2_hw217

def k2_chk218 (v257 : IVec S16 32) (v773 : IVec S16 32) : Prop :=
  (∀ a x, ((![v257, v773] : Fin 2 → IVec S16 32) a x).toNat < S128x18.size a)
theorem k2_idx218_inb : ∀ (v257 : IVec S16 32) (v773 : IVec S16 32) (k2_hw218 : k2_chk218 v257 v773), ∀ a x, ((![v257, v773] : Fin 2 → IVec S16 32) a x).toNat < S128x18.size a := fun v257 v773 k2_hw218 => k2_hw218

def k2_chk219 (v257 : IVec S16 32) (v779 : IVec S16 32) : Prop :=
  (∀ a x, ((![v257, v779] : Fin 2 → IVec S16 32) a x).toNat < S128x18.size a)
theorem k2_idx219_inb : ∀ (v257 : IVec S16 32) (v779 : IVec S16 32) (k2_hw219 : k2_chk219 v257 v779), ∀ a x, ((![v257, v779] : Fin 2 → IVec S16 32) a x).toNat < S128x18.size a := fun v257 v779 k2_hw219 => k2_hw219

def k2_chk220 (v257 : IVec S16 32) (v785 : IVec S16 32) : Prop :=
  (∀ a x, ((![v257, v785] : Fin 2 → IVec S16 32) a x).toNat < S128x18.size a)
theorem k2_idx220_inb : ∀ (v257 : IVec S16 32) (v785 : IVec S16 32) (k2_hw220 : k2_chk220 v257 v785), ∀ a x, ((![v257, v785] : Fin 2 → IVec S16 32) a x).toNat < S128x18.size a := fun v257 v785 k2_hw220 => k2_hw220

def k2_chk221 (v257 : IVec S16 32) (v791 : IVec S16 32) : Prop :=
  (∀ a x, ((![v257, v791] : Fin 2 → IVec S16 32) a x).toNat < S128x18.size a)
theorem k2_idx221_inb : ∀ (v257 : IVec S16 32) (v791 : IVec S16 32) (k2_hw221 : k2_chk221 v257 v791), ∀ a x, ((![v257, v791] : Fin 2 → IVec S16 32) a x).toNat < S128x18.size a := fun v257 v791 k2_hw221 => k2_hw221

def k2_chk222 (v257 : IVec S16 32) (v797 : IVec S16 32) : Prop :=
  (∀ a x, ((![v257, v797] : Fin 2 → IVec S16 32) a x).toNat < S128x18.size a)
theorem k2_idx222_inb : ∀ (v257 : IVec S16 32) (v797 : IVec S16 32) (k2_hw222 : k2_chk222 v257 v797), ∀ a x, ((![v257, v797] : Fin 2 → IVec S16 32) a x).toNat < S128x18.size a := fun v257 v797 k2_hw222 => k2_hw222

def k2_chk223 (v257 : IVec S16 32) (v803 : IVec S16 32) : Prop :=
  (∀ a x, ((![v257, v803] : Fin 2 → IVec S16 32) a x).toNat < S128x18.size a)
theorem k2_idx223_inb : ∀ (v257 : IVec S16 32) (v803 : IVec S16 32) (k2_hw223 : k2_chk223 v257 v803), ∀ a x, ((![v257, v803] : Fin 2 → IVec S16 32) a x).toNat < S128x18.size a := fun v257 v803 k2_hw223 => k2_hw223

def k2_chk224 (v257 : IVec S16 32) (v809 : IVec S16 32) : Prop :=
  (∀ a x, ((![v257, v809] : Fin 2 → IVec S16 32) a x).toNat < S128x18.size a)
theorem k2_idx224_inb : ∀ (v257 : IVec S16 32) (v809 : IVec S16 32) (k2_hw224 : k2_chk224 v257 v809), ∀ a x, ((![v257, v809] : Fin 2 → IVec S16 32) a x).toNat < S128x18.size a := fun v257 v809 k2_hw224 => k2_hw224

def k2_chk225 (v257 : IVec S16 32) (v815 : IVec S16 32) : Prop :=
  (∀ a x, ((![v257, v815] : Fin 2 → IVec S16 32) a x).toNat < S128x18.size a)
theorem k2_idx225_inb : ∀ (v257 : IVec S16 32) (v815 : IVec S16 32) (k2_hw225 : k2_chk225 v257 v815), ∀ a x, ((![v257, v815] : Fin 2 → IVec S16 32) a x).toNat < S128x18.size a := fun v257 v815 k2_hw225 => k2_hw225

def k2_chk226 (v257 : IVec S16 32) (v821 : IVec S16 32) : Prop :=
  (∀ a x, ((![v257, v821] : Fin 2 → IVec S16 32) a x).toNat < S128x18.size a)
theorem k2_idx226_inb : ∀ (v257 : IVec S16 32) (v821 : IVec S16 32) (k2_hw226 : k2_chk226 v257 v821), ∀ a x, ((![v257, v821] : Fin 2 → IVec S16 32) a x).toNat < S128x18.size a := fun v257 v821 k2_hw226 => k2_hw226

def k2_chk227 (v257 : IVec S16 32) (v827 : IVec S16 32) : Prop :=
  (∀ a x, ((![v257, v827] : Fin 2 → IVec S16 32) a x).toNat < S128x18.size a)
theorem k2_idx227_inb : ∀ (v257 : IVec S16 32) (v827 : IVec S16 32) (k2_hw227 : k2_chk227 v257 v827), ∀ a x, ((![v257, v827] : Fin 2 → IVec S16 32) a x).toNat < S128x18.size a := fun v257 v827 k2_hw227 => k2_hw227

def k2_chk228 (v257 : IVec S16 32) (v833 : IVec S16 32) : Prop :=
  (∀ a x, ((![v257, v833] : Fin 2 → IVec S16 32) a x).toNat < S128x18.size a)
theorem k2_idx228_inb : ∀ (v257 : IVec S16 32) (v833 : IVec S16 32) (k2_hw228 : k2_chk228 v257 v833), ∀ a x, ((![v257, v833] : Fin 2 → IVec S16 32) a x).toNat < S128x18.size a := fun v257 v833 k2_hw228 => k2_hw228

def k2_chk229 (v257 : IVec S16 32) (v839 : IVec S16 32) : Prop :=
  (∀ a x, ((![v257, v839] : Fin 2 → IVec S16 32) a x).toNat < S128x18.size a)
theorem k2_idx229_inb : ∀ (v257 : IVec S16 32) (v839 : IVec S16 32) (k2_hw229 : k2_chk229 v257 v839), ∀ a x, ((![v257, v839] : Fin 2 → IVec S16 32) a x).toNat < S128x18.size a := fun v257 v839 k2_hw229 => k2_hw229

def k2_chk230 (v257 : IVec S16 32) (v845 : IVec S16 32) : Prop :=
  (∀ a x, ((![v257, v845] : Fin 2 → IVec S16 32) a x).toNat < S128x18.size a)
theorem k2_idx230_inb : ∀ (v257 : IVec S16 32) (v845 : IVec S16 32) (k2_hw230 : k2_chk230 v257 v845), ∀ a x, ((![v257, v845] : Fin 2 → IVec S16 32) a x).toNat < S128x18.size a := fun v257 v845 k2_hw230 => k2_hw230

def k2_chk231 (v257 : IVec S16 32) (v851 : IVec S16 32) : Prop :=
  (∀ a x, ((![v257, v851] : Fin 2 → IVec S16 32) a x).toNat < S128x18.size a)
theorem k2_idx231_inb : ∀ (v257 : IVec S16 32) (v851 : IVec S16 32) (k2_hw231 : k2_chk231 v257 v851), ∀ a x, ((![v257, v851] : Fin 2 → IVec S16 32) a x).toNat < S128x18.size a := fun v257 v851 k2_hw231 => k2_hw231

def k2_chk232 (v257 : IVec S16 32) (v857 : IVec S16 32) : Prop :=
  (∀ a x, ((![v257, v857] : Fin 2 → IVec S16 32) a x).toNat < S128x18.size a)
theorem k2_idx232_inb : ∀ (v257 : IVec S16 32) (v857 : IVec S16 32) (k2_hw232 : k2_chk232 v257 v857), ∀ a x, ((![v257, v857] : Fin 2 → IVec S16 32) a x).toNat < S128x18.size a := fun v257 v857 k2_hw232 => k2_hw232
def k2_off7 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c0_i32_36 : BitVec 32 := 0#32
  ![v2.toNat, 0]
@[reducible] def k2_t4_loop : Scf.Loop 32 :=
  let c0_i32_39 : BitVec 32 := 0#32
  let c2_i32_40 : BitVec 32 := 2#32
  let v32 : BitVec 32 := Scalar.addi c0_i32_39 c2_i32_40
  let c1_i32_41 : BitVec 32 := 1#32
  ⟨c0_i32_39, v32, c1_i32_41⟩
def k2_off8 (k2_t4 : Fin k2_t4_loop.trips) (c0_i32_243 : BitVec 32) : Fin 1 → Nat :=
  let c256_i32_244 : BitVec 32 := 256#32
  let c0_i32_39 : BitVec 32 := 0#32
  let c1_i32_41 : BitVec 32 := 1#32
  let arg18 : BitVec 32 := Scf.iv c0_i32_39 c1_i32_41 k2_t4
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c256_i32_244 v184
  let v186 : Index := Scalar.indexCast v185
  ![v186.toNat]

def k2_chk233 (v200 : IVec S16 32) (v263 : IVec S16 32) : Prop :=
  (∀ a x, ((![v200, v263] : Fin 2 → IVec S16 32) a x).toNat < S128x128.size a)
theorem k2_idx233_inb : ∀ (v200 : IVec S16 32) (v263 : IVec S16 32) (k2_hw233 : k2_chk233 v200 v263), ∀ a x, ((![v200, v263] : Fin 2 → IVec S16 32) a x).toNat < S128x128.size a := fun v200 v263 k2_hw233 => k2_hw233

def k2_chk234 (v219 : IVec S16 32) (v270 : IVec S16 32) : Prop :=
  (∀ a x, ((![v219, v270] : Fin 2 → IVec S16 32) a x).toNat < S128x128.size a)
theorem k2_idx234_inb : ∀ (v219 : IVec S16 32) (v270 : IVec S16 32) (k2_hw234 : k2_chk234 v219 v270), ∀ a x, ((![v219, v270] : Fin 2 → IVec S16 32) a x).toNat < S128x128.size a := fun v219 v270 k2_hw234 => k2_hw234

def k2_chk235 (v238 : IVec S16 32) (v277 : IVec S16 32) : Prop :=
  (∀ a x, ((![v238, v277] : Fin 2 → IVec S16 32) a x).toNat < S128x128.size a)
theorem k2_idx235_inb : ∀ (v238 : IVec S16 32) (v277 : IVec S16 32) (k2_hw235 : k2_chk235 v238 v277), ∀ a x, ((![v238, v277] : Fin 2 → IVec S16 32) a x).toNat < S128x128.size a := fun v238 v277 k2_hw235 => k2_hw235

def k2_chk236 (v257 : IVec S16 32) (v284 : IVec S16 32) : Prop :=
  (∀ a x, ((![v257, v284] : Fin 2 → IVec S16 32) a x).toNat < S128x128.size a)
theorem k2_idx236_inb : ∀ (v257 : IVec S16 32) (v284 : IVec S16 32) (k2_hw236 : k2_chk236 v257 v284), ∀ a x, ((![v257, v284] : Fin 2 → IVec S16 32) a x).toNat < S128x128.size a := fun v257 v284 k2_hw236 => k2_hw236

def k2_chk237 (v200 : IVec S16 32) (v303 : IVec S16 32) : Prop :=
  (∀ a x, ((![v200, v303] : Fin 2 → IVec S16 32) a x).toNat < S128x128.size a)
theorem k2_idx237_inb : ∀ (v200 : IVec S16 32) (v303 : IVec S16 32) (k2_hw237 : k2_chk237 v200 v303), ∀ a x, ((![v200, v303] : Fin 2 → IVec S16 32) a x).toNat < S128x128.size a := fun v200 v303 k2_hw237 => k2_hw237

def k2_chk238 (v219 : IVec S16 32) (v310 : IVec S16 32) : Prop :=
  (∀ a x, ((![v219, v310] : Fin 2 → IVec S16 32) a x).toNat < S128x128.size a)
theorem k2_idx238_inb : ∀ (v219 : IVec S16 32) (v310 : IVec S16 32) (k2_hw238 : k2_chk238 v219 v310), ∀ a x, ((![v219, v310] : Fin 2 → IVec S16 32) a x).toNat < S128x128.size a := fun v219 v310 k2_hw238 => k2_hw238

def k2_chk239 (v238 : IVec S16 32) (v317 : IVec S16 32) : Prop :=
  (∀ a x, ((![v238, v317] : Fin 2 → IVec S16 32) a x).toNat < S128x128.size a)
theorem k2_idx239_inb : ∀ (v238 : IVec S16 32) (v317 : IVec S16 32) (k2_hw239 : k2_chk239 v238 v317), ∀ a x, ((![v238, v317] : Fin 2 → IVec S16 32) a x).toNat < S128x128.size a := fun v238 v317 k2_hw239 => k2_hw239

def k2_chk240 (v257 : IVec S16 32) (v324 : IVec S16 32) : Prop :=
  (∀ a x, ((![v257, v324] : Fin 2 → IVec S16 32) a x).toNat < S128x128.size a)
theorem k2_idx240_inb : ∀ (v257 : IVec S16 32) (v324 : IVec S16 32) (k2_hw240 : k2_chk240 v257 v324), ∀ a x, ((![v257, v324] : Fin 2 → IVec S16 32) a x).toNat < S128x128.size a := fun v257 v324 k2_hw240 => k2_hw240

def k2_chk241 (v200 : IVec S16 32) (v343 : IVec S16 32) : Prop :=
  (∀ a x, ((![v200, v343] : Fin 2 → IVec S16 32) a x).toNat < S128x128.size a)
theorem k2_idx241_inb : ∀ (v200 : IVec S16 32) (v343 : IVec S16 32) (k2_hw241 : k2_chk241 v200 v343), ∀ a x, ((![v200, v343] : Fin 2 → IVec S16 32) a x).toNat < S128x128.size a := fun v200 v343 k2_hw241 => k2_hw241

def k2_chk242 (v219 : IVec S16 32) (v350 : IVec S16 32) : Prop :=
  (∀ a x, ((![v219, v350] : Fin 2 → IVec S16 32) a x).toNat < S128x128.size a)
theorem k2_idx242_inb : ∀ (v219 : IVec S16 32) (v350 : IVec S16 32) (k2_hw242 : k2_chk242 v219 v350), ∀ a x, ((![v219, v350] : Fin 2 → IVec S16 32) a x).toNat < S128x128.size a := fun v219 v350 k2_hw242 => k2_hw242

def k2_chk243 (v238 : IVec S16 32) (v357 : IVec S16 32) : Prop :=
  (∀ a x, ((![v238, v357] : Fin 2 → IVec S16 32) a x).toNat < S128x128.size a)
theorem k2_idx243_inb : ∀ (v238 : IVec S16 32) (v357 : IVec S16 32) (k2_hw243 : k2_chk243 v238 v357), ∀ a x, ((![v238, v357] : Fin 2 → IVec S16 32) a x).toNat < S128x128.size a := fun v238 v357 k2_hw243 => k2_hw243

def k2_chk244 (v257 : IVec S16 32) (v364 : IVec S16 32) : Prop :=
  (∀ a x, ((![v257, v364] : Fin 2 → IVec S16 32) a x).toNat < S128x128.size a)
theorem k2_idx244_inb : ∀ (v257 : IVec S16 32) (v364 : IVec S16 32) (k2_hw244 : k2_chk244 v257 v364), ∀ a x, ((![v257, v364] : Fin 2 → IVec S16 32) a x).toNat < S128x128.size a := fun v257 v364 k2_hw244 => k2_hw244

def k2_chk245 (v200 : IVec S16 32) (v383 : IVec S16 32) : Prop :=
  (∀ a x, ((![v200, v383] : Fin 2 → IVec S16 32) a x).toNat < S128x128.size a)
theorem k2_idx245_inb : ∀ (v200 : IVec S16 32) (v383 : IVec S16 32) (k2_hw245 : k2_chk245 v200 v383), ∀ a x, ((![v200, v383] : Fin 2 → IVec S16 32) a x).toNat < S128x128.size a := fun v200 v383 k2_hw245 => k2_hw245

def k2_chk246 (v219 : IVec S16 32) (v390 : IVec S16 32) : Prop :=
  (∀ a x, ((![v219, v390] : Fin 2 → IVec S16 32) a x).toNat < S128x128.size a)
theorem k2_idx246_inb : ∀ (v219 : IVec S16 32) (v390 : IVec S16 32) (k2_hw246 : k2_chk246 v219 v390), ∀ a x, ((![v219, v390] : Fin 2 → IVec S16 32) a x).toNat < S128x128.size a := fun v219 v390 k2_hw246 => k2_hw246

def k2_chk247 (v238 : IVec S16 32) (v397 : IVec S16 32) : Prop :=
  (∀ a x, ((![v238, v397] : Fin 2 → IVec S16 32) a x).toNat < S128x128.size a)
theorem k2_idx247_inb : ∀ (v238 : IVec S16 32) (v397 : IVec S16 32) (k2_hw247 : k2_chk247 v238 v397), ∀ a x, ((![v238, v397] : Fin 2 → IVec S16 32) a x).toNat < S128x128.size a := fun v238 v397 k2_hw247 => k2_hw247

def k2_chk248 (v257 : IVec S16 32) (v404 : IVec S16 32) : Prop :=
  (∀ a x, ((![v257, v404] : Fin 2 → IVec S16 32) a x).toNat < S128x128.size a)
theorem k2_idx248_inb : ∀ (v257 : IVec S16 32) (v404 : IVec S16 32) (k2_hw248 : k2_chk248 v257 v404), ∀ a x, ((![v257, v404] : Fin 2 → IVec S16 32) a x).toNat < S128x128.size a := fun v257 v404 k2_hw248 => k2_hw248

def k2_chk249 (v200 : IVec S16 32) (v425 : IVec S16 32) : Prop :=
  (∀ a x, ((![v200, v425] : Fin 2 → IVec S16 32) a x).toNat < S128x18.size a)
theorem k2_idx249_inb : ∀ (v200 : IVec S16 32) (v425 : IVec S16 32) (k2_hw249 : k2_chk249 v200 v425), ∀ a x, ((![v200, v425] : Fin 2 → IVec S16 32) a x).toNat < S128x18.size a := fun v200 v425 k2_hw249 => k2_hw249

def k2_chk250 (v200 : IVec S16 32) (v431 : IVec S16 32) : Prop :=
  (∀ a x, ((![v200, v431] : Fin 2 → IVec S16 32) a x).toNat < S128x18.size a)
theorem k2_idx250_inb : ∀ (v200 : IVec S16 32) (v431 : IVec S16 32) (k2_hw250 : k2_chk250 v200 v431), ∀ a x, ((![v200, v431] : Fin 2 → IVec S16 32) a x).toNat < S128x18.size a := fun v200 v431 k2_hw250 => k2_hw250

def k2_chk251 (v200 : IVec S16 32) (v437 : IVec S16 32) : Prop :=
  (∀ a x, ((![v200, v437] : Fin 2 → IVec S16 32) a x).toNat < S128x18.size a)
theorem k2_idx251_inb : ∀ (v200 : IVec S16 32) (v437 : IVec S16 32) (k2_hw251 : k2_chk251 v200 v437), ∀ a x, ((![v200, v437] : Fin 2 → IVec S16 32) a x).toNat < S128x18.size a := fun v200 v437 k2_hw251 => k2_hw251

def k2_chk252 (v200 : IVec S16 32) (v443 : IVec S16 32) : Prop :=
  (∀ a x, ((![v200, v443] : Fin 2 → IVec S16 32) a x).toNat < S128x18.size a)
theorem k2_idx252_inb : ∀ (v200 : IVec S16 32) (v443 : IVec S16 32) (k2_hw252 : k2_chk252 v200 v443), ∀ a x, ((![v200, v443] : Fin 2 → IVec S16 32) a x).toNat < S128x18.size a := fun v200 v443 k2_hw252 => k2_hw252

def k2_chk253 (v200 : IVec S16 32) (v449 : IVec S16 32) : Prop :=
  (∀ a x, ((![v200, v449] : Fin 2 → IVec S16 32) a x).toNat < S128x18.size a)
theorem k2_idx253_inb : ∀ (v200 : IVec S16 32) (v449 : IVec S16 32) (k2_hw253 : k2_chk253 v200 v449), ∀ a x, ((![v200, v449] : Fin 2 → IVec S16 32) a x).toNat < S128x18.size a := fun v200 v449 k2_hw253 => k2_hw253

def k2_chk254 (v200 : IVec S16 32) (v455 : IVec S16 32) : Prop :=
  (∀ a x, ((![v200, v455] : Fin 2 → IVec S16 32) a x).toNat < S128x18.size a)
theorem k2_idx254_inb : ∀ (v200 : IVec S16 32) (v455 : IVec S16 32) (k2_hw254 : k2_chk254 v200 v455), ∀ a x, ((![v200, v455] : Fin 2 → IVec S16 32) a x).toNat < S128x18.size a := fun v200 v455 k2_hw254 => k2_hw254

def k2_chk255 (v200 : IVec S16 32) (v461 : IVec S16 32) : Prop :=
  (∀ a x, ((![v200, v461] : Fin 2 → IVec S16 32) a x).toNat < S128x18.size a)
theorem k2_idx255_inb : ∀ (v200 : IVec S16 32) (v461 : IVec S16 32) (k2_hw255 : k2_chk255 v200 v461), ∀ a x, ((![v200, v461] : Fin 2 → IVec S16 32) a x).toNat < S128x18.size a := fun v200 v461 k2_hw255 => k2_hw255

def k2_chk256 (v200 : IVec S16 32) (v467 : IVec S16 32) : Prop :=
  (∀ a x, ((![v200, v467] : Fin 2 → IVec S16 32) a x).toNat < S128x18.size a)
theorem k2_idx256_inb : ∀ (v200 : IVec S16 32) (v467 : IVec S16 32) (k2_hw256 : k2_chk256 v200 v467), ∀ a x, ((![v200, v467] : Fin 2 → IVec S16 32) a x).toNat < S128x18.size a := fun v200 v467 k2_hw256 => k2_hw256

def k2_chk257 (v200 : IVec S16 32) (v473 : IVec S16 32) : Prop :=
  (∀ a x, ((![v200, v473] : Fin 2 → IVec S16 32) a x).toNat < S128x18.size a)
theorem k2_idx257_inb : ∀ (v200 : IVec S16 32) (v473 : IVec S16 32) (k2_hw257 : k2_chk257 v200 v473), ∀ a x, ((![v200, v473] : Fin 2 → IVec S16 32) a x).toNat < S128x18.size a := fun v200 v473 k2_hw257 => k2_hw257

def k2_chk258 (v200 : IVec S16 32) (v479 : IVec S16 32) : Prop :=
  (∀ a x, ((![v200, v479] : Fin 2 → IVec S16 32) a x).toNat < S128x18.size a)
theorem k2_idx258_inb : ∀ (v200 : IVec S16 32) (v479 : IVec S16 32) (k2_hw258 : k2_chk258 v200 v479), ∀ a x, ((![v200, v479] : Fin 2 → IVec S16 32) a x).toNat < S128x18.size a := fun v200 v479 k2_hw258 => k2_hw258

def k2_chk259 (v200 : IVec S16 32) (v485 : IVec S16 32) : Prop :=
  (∀ a x, ((![v200, v485] : Fin 2 → IVec S16 32) a x).toNat < S128x18.size a)
theorem k2_idx259_inb : ∀ (v200 : IVec S16 32) (v485 : IVec S16 32) (k2_hw259 : k2_chk259 v200 v485), ∀ a x, ((![v200, v485] : Fin 2 → IVec S16 32) a x).toNat < S128x18.size a := fun v200 v485 k2_hw259 => k2_hw259

def k2_chk260 (v200 : IVec S16 32) (v491 : IVec S16 32) : Prop :=
  (∀ a x, ((![v200, v491] : Fin 2 → IVec S16 32) a x).toNat < S128x18.size a)
theorem k2_idx260_inb : ∀ (v200 : IVec S16 32) (v491 : IVec S16 32) (k2_hw260 : k2_chk260 v200 v491), ∀ a x, ((![v200, v491] : Fin 2 → IVec S16 32) a x).toNat < S128x18.size a := fun v200 v491 k2_hw260 => k2_hw260

def k2_chk261 (v200 : IVec S16 32) (v497 : IVec S16 32) : Prop :=
  (∀ a x, ((![v200, v497] : Fin 2 → IVec S16 32) a x).toNat < S128x18.size a)
theorem k2_idx261_inb : ∀ (v200 : IVec S16 32) (v497 : IVec S16 32) (k2_hw261 : k2_chk261 v200 v497), ∀ a x, ((![v200, v497] : Fin 2 → IVec S16 32) a x).toNat < S128x18.size a := fun v200 v497 k2_hw261 => k2_hw261

def k2_chk262 (v200 : IVec S16 32) (v503 : IVec S16 32) : Prop :=
  (∀ a x, ((![v200, v503] : Fin 2 → IVec S16 32) a x).toNat < S128x18.size a)
theorem k2_idx262_inb : ∀ (v200 : IVec S16 32) (v503 : IVec S16 32) (k2_hw262 : k2_chk262 v200 v503), ∀ a x, ((![v200, v503] : Fin 2 → IVec S16 32) a x).toNat < S128x18.size a := fun v200 v503 k2_hw262 => k2_hw262

def k2_chk263 (v200 : IVec S16 32) (v509 : IVec S16 32) : Prop :=
  (∀ a x, ((![v200, v509] : Fin 2 → IVec S16 32) a x).toNat < S128x18.size a)
theorem k2_idx263_inb : ∀ (v200 : IVec S16 32) (v509 : IVec S16 32) (k2_hw263 : k2_chk263 v200 v509), ∀ a x, ((![v200, v509] : Fin 2 → IVec S16 32) a x).toNat < S128x18.size a := fun v200 v509 k2_hw263 => k2_hw263

def k2_chk264 (v200 : IVec S16 32) (v515 : IVec S16 32) : Prop :=
  (∀ a x, ((![v200, v515] : Fin 2 → IVec S16 32) a x).toNat < S128x18.size a)
theorem k2_idx264_inb : ∀ (v200 : IVec S16 32) (v515 : IVec S16 32) (k2_hw264 : k2_chk264 v200 v515), ∀ a x, ((![v200, v515] : Fin 2 → IVec S16 32) a x).toNat < S128x18.size a := fun v200 v515 k2_hw264 => k2_hw264

def k2_chk265 (v200 : IVec S16 32) (v521 : IVec S16 32) : Prop :=
  (∀ a x, ((![v200, v521] : Fin 2 → IVec S16 32) a x).toNat < S128x18.size a)
theorem k2_idx265_inb : ∀ (v200 : IVec S16 32) (v521 : IVec S16 32) (k2_hw265 : k2_chk265 v200 v521), ∀ a x, ((![v200, v521] : Fin 2 → IVec S16 32) a x).toNat < S128x18.size a := fun v200 v521 k2_hw265 => k2_hw265

def k2_chk266 (v200 : IVec S16 32) (v527 : IVec S16 32) : Prop :=
  (∀ a x, ((![v200, v527] : Fin 2 → IVec S16 32) a x).toNat < S128x18.size a)
theorem k2_idx266_inb : ∀ (v200 : IVec S16 32) (v527 : IVec S16 32) (k2_hw266 : k2_chk266 v200 v527), ∀ a x, ((![v200, v527] : Fin 2 → IVec S16 32) a x).toNat < S128x18.size a := fun v200 v527 k2_hw266 => k2_hw266

def k2_chk267 (v219 : IVec S16 32) (v535 : IVec S16 32) : Prop :=
  (∀ a x, ((![v219, v535] : Fin 2 → IVec S16 32) a x).toNat < S128x18.size a)
theorem k2_idx267_inb : ∀ (v219 : IVec S16 32) (v535 : IVec S16 32) (k2_hw267 : k2_chk267 v219 v535), ∀ a x, ((![v219, v535] : Fin 2 → IVec S16 32) a x).toNat < S128x18.size a := fun v219 v535 k2_hw267 => k2_hw267

def k2_chk268 (v219 : IVec S16 32) (v541 : IVec S16 32) : Prop :=
  (∀ a x, ((![v219, v541] : Fin 2 → IVec S16 32) a x).toNat < S128x18.size a)
theorem k2_idx268_inb : ∀ (v219 : IVec S16 32) (v541 : IVec S16 32) (k2_hw268 : k2_chk268 v219 v541), ∀ a x, ((![v219, v541] : Fin 2 → IVec S16 32) a x).toNat < S128x18.size a := fun v219 v541 k2_hw268 => k2_hw268

def k2_chk269 (v219 : IVec S16 32) (v547 : IVec S16 32) : Prop :=
  (∀ a x, ((![v219, v547] : Fin 2 → IVec S16 32) a x).toNat < S128x18.size a)
theorem k2_idx269_inb : ∀ (v219 : IVec S16 32) (v547 : IVec S16 32) (k2_hw269 : k2_chk269 v219 v547), ∀ a x, ((![v219, v547] : Fin 2 → IVec S16 32) a x).toNat < S128x18.size a := fun v219 v547 k2_hw269 => k2_hw269

def k2_chk270 (v219 : IVec S16 32) (v553 : IVec S16 32) : Prop :=
  (∀ a x, ((![v219, v553] : Fin 2 → IVec S16 32) a x).toNat < S128x18.size a)
theorem k2_idx270_inb : ∀ (v219 : IVec S16 32) (v553 : IVec S16 32) (k2_hw270 : k2_chk270 v219 v553), ∀ a x, ((![v219, v553] : Fin 2 → IVec S16 32) a x).toNat < S128x18.size a := fun v219 v553 k2_hw270 => k2_hw270

def k2_chk271 (v219 : IVec S16 32) (v559 : IVec S16 32) : Prop :=
  (∀ a x, ((![v219, v559] : Fin 2 → IVec S16 32) a x).toNat < S128x18.size a)
theorem k2_idx271_inb : ∀ (v219 : IVec S16 32) (v559 : IVec S16 32) (k2_hw271 : k2_chk271 v219 v559), ∀ a x, ((![v219, v559] : Fin 2 → IVec S16 32) a x).toNat < S128x18.size a := fun v219 v559 k2_hw271 => k2_hw271

def k2_chk272 (v219 : IVec S16 32) (v565 : IVec S16 32) : Prop :=
  (∀ a x, ((![v219, v565] : Fin 2 → IVec S16 32) a x).toNat < S128x18.size a)
theorem k2_idx272_inb : ∀ (v219 : IVec S16 32) (v565 : IVec S16 32) (k2_hw272 : k2_chk272 v219 v565), ∀ a x, ((![v219, v565] : Fin 2 → IVec S16 32) a x).toNat < S128x18.size a := fun v219 v565 k2_hw272 => k2_hw272

def k2_chk273 (v219 : IVec S16 32) (v571 : IVec S16 32) : Prop :=
  (∀ a x, ((![v219, v571] : Fin 2 → IVec S16 32) a x).toNat < S128x18.size a)
theorem k2_idx273_inb : ∀ (v219 : IVec S16 32) (v571 : IVec S16 32) (k2_hw273 : k2_chk273 v219 v571), ∀ a x, ((![v219, v571] : Fin 2 → IVec S16 32) a x).toNat < S128x18.size a := fun v219 v571 k2_hw273 => k2_hw273

def k2_chk274 (v219 : IVec S16 32) (v577 : IVec S16 32) : Prop :=
  (∀ a x, ((![v219, v577] : Fin 2 → IVec S16 32) a x).toNat < S128x18.size a)
theorem k2_idx274_inb : ∀ (v219 : IVec S16 32) (v577 : IVec S16 32) (k2_hw274 : k2_chk274 v219 v577), ∀ a x, ((![v219, v577] : Fin 2 → IVec S16 32) a x).toNat < S128x18.size a := fun v219 v577 k2_hw274 => k2_hw274

def k2_chk275 (v219 : IVec S16 32) (v583 : IVec S16 32) : Prop :=
  (∀ a x, ((![v219, v583] : Fin 2 → IVec S16 32) a x).toNat < S128x18.size a)
theorem k2_idx275_inb : ∀ (v219 : IVec S16 32) (v583 : IVec S16 32) (k2_hw275 : k2_chk275 v219 v583), ∀ a x, ((![v219, v583] : Fin 2 → IVec S16 32) a x).toNat < S128x18.size a := fun v219 v583 k2_hw275 => k2_hw275

def k2_chk276 (v219 : IVec S16 32) (v589 : IVec S16 32) : Prop :=
  (∀ a x, ((![v219, v589] : Fin 2 → IVec S16 32) a x).toNat < S128x18.size a)
theorem k2_idx276_inb : ∀ (v219 : IVec S16 32) (v589 : IVec S16 32) (k2_hw276 : k2_chk276 v219 v589), ∀ a x, ((![v219, v589] : Fin 2 → IVec S16 32) a x).toNat < S128x18.size a := fun v219 v589 k2_hw276 => k2_hw276

def k2_chk277 (v219 : IVec S16 32) (v595 : IVec S16 32) : Prop :=
  (∀ a x, ((![v219, v595] : Fin 2 → IVec S16 32) a x).toNat < S128x18.size a)
theorem k2_idx277_inb : ∀ (v219 : IVec S16 32) (v595 : IVec S16 32) (k2_hw277 : k2_chk277 v219 v595), ∀ a x, ((![v219, v595] : Fin 2 → IVec S16 32) a x).toNat < S128x18.size a := fun v219 v595 k2_hw277 => k2_hw277

def k2_chk278 (v219 : IVec S16 32) (v601 : IVec S16 32) : Prop :=
  (∀ a x, ((![v219, v601] : Fin 2 → IVec S16 32) a x).toNat < S128x18.size a)
theorem k2_idx278_inb : ∀ (v219 : IVec S16 32) (v601 : IVec S16 32) (k2_hw278 : k2_chk278 v219 v601), ∀ a x, ((![v219, v601] : Fin 2 → IVec S16 32) a x).toNat < S128x18.size a := fun v219 v601 k2_hw278 => k2_hw278

def k2_chk279 (v219 : IVec S16 32) (v607 : IVec S16 32) : Prop :=
  (∀ a x, ((![v219, v607] : Fin 2 → IVec S16 32) a x).toNat < S128x18.size a)
theorem k2_idx279_inb : ∀ (v219 : IVec S16 32) (v607 : IVec S16 32) (k2_hw279 : k2_chk279 v219 v607), ∀ a x, ((![v219, v607] : Fin 2 → IVec S16 32) a x).toNat < S128x18.size a := fun v219 v607 k2_hw279 => k2_hw279

def k2_chk280 (v219 : IVec S16 32) (v613 : IVec S16 32) : Prop :=
  (∀ a x, ((![v219, v613] : Fin 2 → IVec S16 32) a x).toNat < S128x18.size a)
theorem k2_idx280_inb : ∀ (v219 : IVec S16 32) (v613 : IVec S16 32) (k2_hw280 : k2_chk280 v219 v613), ∀ a x, ((![v219, v613] : Fin 2 → IVec S16 32) a x).toNat < S128x18.size a := fun v219 v613 k2_hw280 => k2_hw280

def k2_chk281 (v219 : IVec S16 32) (v619 : IVec S16 32) : Prop :=
  (∀ a x, ((![v219, v619] : Fin 2 → IVec S16 32) a x).toNat < S128x18.size a)
theorem k2_idx281_inb : ∀ (v219 : IVec S16 32) (v619 : IVec S16 32) (k2_hw281 : k2_chk281 v219 v619), ∀ a x, ((![v219, v619] : Fin 2 → IVec S16 32) a x).toNat < S128x18.size a := fun v219 v619 k2_hw281 => k2_hw281

def k2_chk282 (v219 : IVec S16 32) (v625 : IVec S16 32) : Prop :=
  (∀ a x, ((![v219, v625] : Fin 2 → IVec S16 32) a x).toNat < S128x18.size a)
theorem k2_idx282_inb : ∀ (v219 : IVec S16 32) (v625 : IVec S16 32) (k2_hw282 : k2_chk282 v219 v625), ∀ a x, ((![v219, v625] : Fin 2 → IVec S16 32) a x).toNat < S128x18.size a := fun v219 v625 k2_hw282 => k2_hw282

def k2_chk283 (v219 : IVec S16 32) (v631 : IVec S16 32) : Prop :=
  (∀ a x, ((![v219, v631] : Fin 2 → IVec S16 32) a x).toNat < S128x18.size a)
theorem k2_idx283_inb : ∀ (v219 : IVec S16 32) (v631 : IVec S16 32) (k2_hw283 : k2_chk283 v219 v631), ∀ a x, ((![v219, v631] : Fin 2 → IVec S16 32) a x).toNat < S128x18.size a := fun v219 v631 k2_hw283 => k2_hw283

def k2_chk284 (v219 : IVec S16 32) (v637 : IVec S16 32) : Prop :=
  (∀ a x, ((![v219, v637] : Fin 2 → IVec S16 32) a x).toNat < S128x18.size a)
theorem k2_idx284_inb : ∀ (v219 : IVec S16 32) (v637 : IVec S16 32) (k2_hw284 : k2_chk284 v219 v637), ∀ a x, ((![v219, v637] : Fin 2 → IVec S16 32) a x).toNat < S128x18.size a := fun v219 v637 k2_hw284 => k2_hw284

def k2_chk285 (v238 : IVec S16 32) (v645 : IVec S16 32) : Prop :=
  (∀ a x, ((![v238, v645] : Fin 2 → IVec S16 32) a x).toNat < S128x18.size a)
theorem k2_idx285_inb : ∀ (v238 : IVec S16 32) (v645 : IVec S16 32) (k2_hw285 : k2_chk285 v238 v645), ∀ a x, ((![v238, v645] : Fin 2 → IVec S16 32) a x).toNat < S128x18.size a := fun v238 v645 k2_hw285 => k2_hw285

def k2_chk286 (v238 : IVec S16 32) (v651 : IVec S16 32) : Prop :=
  (∀ a x, ((![v238, v651] : Fin 2 → IVec S16 32) a x).toNat < S128x18.size a)
theorem k2_idx286_inb : ∀ (v238 : IVec S16 32) (v651 : IVec S16 32) (k2_hw286 : k2_chk286 v238 v651), ∀ a x, ((![v238, v651] : Fin 2 → IVec S16 32) a x).toNat < S128x18.size a := fun v238 v651 k2_hw286 => k2_hw286

def k2_chk287 (v238 : IVec S16 32) (v657 : IVec S16 32) : Prop :=
  (∀ a x, ((![v238, v657] : Fin 2 → IVec S16 32) a x).toNat < S128x18.size a)
theorem k2_idx287_inb : ∀ (v238 : IVec S16 32) (v657 : IVec S16 32) (k2_hw287 : k2_chk287 v238 v657), ∀ a x, ((![v238, v657] : Fin 2 → IVec S16 32) a x).toNat < S128x18.size a := fun v238 v657 k2_hw287 => k2_hw287

def k2_chk288 (v238 : IVec S16 32) (v663 : IVec S16 32) : Prop :=
  (∀ a x, ((![v238, v663] : Fin 2 → IVec S16 32) a x).toNat < S128x18.size a)
theorem k2_idx288_inb : ∀ (v238 : IVec S16 32) (v663 : IVec S16 32) (k2_hw288 : k2_chk288 v238 v663), ∀ a x, ((![v238, v663] : Fin 2 → IVec S16 32) a x).toNat < S128x18.size a := fun v238 v663 k2_hw288 => k2_hw288

def k2_chk289 (v238 : IVec S16 32) (v669 : IVec S16 32) : Prop :=
  (∀ a x, ((![v238, v669] : Fin 2 → IVec S16 32) a x).toNat < S128x18.size a)
theorem k2_idx289_inb : ∀ (v238 : IVec S16 32) (v669 : IVec S16 32) (k2_hw289 : k2_chk289 v238 v669), ∀ a x, ((![v238, v669] : Fin 2 → IVec S16 32) a x).toNat < S128x18.size a := fun v238 v669 k2_hw289 => k2_hw289

def k2_chk290 (v238 : IVec S16 32) (v675 : IVec S16 32) : Prop :=
  (∀ a x, ((![v238, v675] : Fin 2 → IVec S16 32) a x).toNat < S128x18.size a)
theorem k2_idx290_inb : ∀ (v238 : IVec S16 32) (v675 : IVec S16 32) (k2_hw290 : k2_chk290 v238 v675), ∀ a x, ((![v238, v675] : Fin 2 → IVec S16 32) a x).toNat < S128x18.size a := fun v238 v675 k2_hw290 => k2_hw290

def k2_chk291 (v238 : IVec S16 32) (v681 : IVec S16 32) : Prop :=
  (∀ a x, ((![v238, v681] : Fin 2 → IVec S16 32) a x).toNat < S128x18.size a)
theorem k2_idx291_inb : ∀ (v238 : IVec S16 32) (v681 : IVec S16 32) (k2_hw291 : k2_chk291 v238 v681), ∀ a x, ((![v238, v681] : Fin 2 → IVec S16 32) a x).toNat < S128x18.size a := fun v238 v681 k2_hw291 => k2_hw291

def k2_chk292 (v238 : IVec S16 32) (v687 : IVec S16 32) : Prop :=
  (∀ a x, ((![v238, v687] : Fin 2 → IVec S16 32) a x).toNat < S128x18.size a)
theorem k2_idx292_inb : ∀ (v238 : IVec S16 32) (v687 : IVec S16 32) (k2_hw292 : k2_chk292 v238 v687), ∀ a x, ((![v238, v687] : Fin 2 → IVec S16 32) a x).toNat < S128x18.size a := fun v238 v687 k2_hw292 => k2_hw292

def k2_chk293 (v238 : IVec S16 32) (v693 : IVec S16 32) : Prop :=
  (∀ a x, ((![v238, v693] : Fin 2 → IVec S16 32) a x).toNat < S128x18.size a)
theorem k2_idx293_inb : ∀ (v238 : IVec S16 32) (v693 : IVec S16 32) (k2_hw293 : k2_chk293 v238 v693), ∀ a x, ((![v238, v693] : Fin 2 → IVec S16 32) a x).toNat < S128x18.size a := fun v238 v693 k2_hw293 => k2_hw293

def k2_chk294 (v238 : IVec S16 32) (v699 : IVec S16 32) : Prop :=
  (∀ a x, ((![v238, v699] : Fin 2 → IVec S16 32) a x).toNat < S128x18.size a)
theorem k2_idx294_inb : ∀ (v238 : IVec S16 32) (v699 : IVec S16 32) (k2_hw294 : k2_chk294 v238 v699), ∀ a x, ((![v238, v699] : Fin 2 → IVec S16 32) a x).toNat < S128x18.size a := fun v238 v699 k2_hw294 => k2_hw294

def k2_chk295 (v238 : IVec S16 32) (v705 : IVec S16 32) : Prop :=
  (∀ a x, ((![v238, v705] : Fin 2 → IVec S16 32) a x).toNat < S128x18.size a)
theorem k2_idx295_inb : ∀ (v238 : IVec S16 32) (v705 : IVec S16 32) (k2_hw295 : k2_chk295 v238 v705), ∀ a x, ((![v238, v705] : Fin 2 → IVec S16 32) a x).toNat < S128x18.size a := fun v238 v705 k2_hw295 => k2_hw295

def k2_chk296 (v238 : IVec S16 32) (v711 : IVec S16 32) : Prop :=
  (∀ a x, ((![v238, v711] : Fin 2 → IVec S16 32) a x).toNat < S128x18.size a)
theorem k2_idx296_inb : ∀ (v238 : IVec S16 32) (v711 : IVec S16 32) (k2_hw296 : k2_chk296 v238 v711), ∀ a x, ((![v238, v711] : Fin 2 → IVec S16 32) a x).toNat < S128x18.size a := fun v238 v711 k2_hw296 => k2_hw296

def k2_chk297 (v238 : IVec S16 32) (v717 : IVec S16 32) : Prop :=
  (∀ a x, ((![v238, v717] : Fin 2 → IVec S16 32) a x).toNat < S128x18.size a)
theorem k2_idx297_inb : ∀ (v238 : IVec S16 32) (v717 : IVec S16 32) (k2_hw297 : k2_chk297 v238 v717), ∀ a x, ((![v238, v717] : Fin 2 → IVec S16 32) a x).toNat < S128x18.size a := fun v238 v717 k2_hw297 => k2_hw297

def k2_chk298 (v238 : IVec S16 32) (v723 : IVec S16 32) : Prop :=
  (∀ a x, ((![v238, v723] : Fin 2 → IVec S16 32) a x).toNat < S128x18.size a)
theorem k2_idx298_inb : ∀ (v238 : IVec S16 32) (v723 : IVec S16 32) (k2_hw298 : k2_chk298 v238 v723), ∀ a x, ((![v238, v723] : Fin 2 → IVec S16 32) a x).toNat < S128x18.size a := fun v238 v723 k2_hw298 => k2_hw298

def k2_chk299 (v238 : IVec S16 32) (v729 : IVec S16 32) : Prop :=
  (∀ a x, ((![v238, v729] : Fin 2 → IVec S16 32) a x).toNat < S128x18.size a)
theorem k2_idx299_inb : ∀ (v238 : IVec S16 32) (v729 : IVec S16 32) (k2_hw299 : k2_chk299 v238 v729), ∀ a x, ((![v238, v729] : Fin 2 → IVec S16 32) a x).toNat < S128x18.size a := fun v238 v729 k2_hw299 => k2_hw299

def k2_chk300 (v238 : IVec S16 32) (v735 : IVec S16 32) : Prop :=
  (∀ a x, ((![v238, v735] : Fin 2 → IVec S16 32) a x).toNat < S128x18.size a)
theorem k2_idx300_inb : ∀ (v238 : IVec S16 32) (v735 : IVec S16 32) (k2_hw300 : k2_chk300 v238 v735), ∀ a x, ((![v238, v735] : Fin 2 → IVec S16 32) a x).toNat < S128x18.size a := fun v238 v735 k2_hw300 => k2_hw300

def k2_chk301 (v238 : IVec S16 32) (v741 : IVec S16 32) : Prop :=
  (∀ a x, ((![v238, v741] : Fin 2 → IVec S16 32) a x).toNat < S128x18.size a)
theorem k2_idx301_inb : ∀ (v238 : IVec S16 32) (v741 : IVec S16 32) (k2_hw301 : k2_chk301 v238 v741), ∀ a x, ((![v238, v741] : Fin 2 → IVec S16 32) a x).toNat < S128x18.size a := fun v238 v741 k2_hw301 => k2_hw301

def k2_chk302 (v238 : IVec S16 32) (v747 : IVec S16 32) : Prop :=
  (∀ a x, ((![v238, v747] : Fin 2 → IVec S16 32) a x).toNat < S128x18.size a)
theorem k2_idx302_inb : ∀ (v238 : IVec S16 32) (v747 : IVec S16 32) (k2_hw302 : k2_chk302 v238 v747), ∀ a x, ((![v238, v747] : Fin 2 → IVec S16 32) a x).toNat < S128x18.size a := fun v238 v747 k2_hw302 => k2_hw302

def k2_chk303 (v257 : IVec S16 32) (v755 : IVec S16 32) : Prop :=
  (∀ a x, ((![v257, v755] : Fin 2 → IVec S16 32) a x).toNat < S128x18.size a)
theorem k2_idx303_inb : ∀ (v257 : IVec S16 32) (v755 : IVec S16 32) (k2_hw303 : k2_chk303 v257 v755), ∀ a x, ((![v257, v755] : Fin 2 → IVec S16 32) a x).toNat < S128x18.size a := fun v257 v755 k2_hw303 => k2_hw303

def k2_chk304 (v257 : IVec S16 32) (v761 : IVec S16 32) : Prop :=
  (∀ a x, ((![v257, v761] : Fin 2 → IVec S16 32) a x).toNat < S128x18.size a)
theorem k2_idx304_inb : ∀ (v257 : IVec S16 32) (v761 : IVec S16 32) (k2_hw304 : k2_chk304 v257 v761), ∀ a x, ((![v257, v761] : Fin 2 → IVec S16 32) a x).toNat < S128x18.size a := fun v257 v761 k2_hw304 => k2_hw304

def k2_chk305 (v257 : IVec S16 32) (v767 : IVec S16 32) : Prop :=
  (∀ a x, ((![v257, v767] : Fin 2 → IVec S16 32) a x).toNat < S128x18.size a)
theorem k2_idx305_inb : ∀ (v257 : IVec S16 32) (v767 : IVec S16 32) (k2_hw305 : k2_chk305 v257 v767), ∀ a x, ((![v257, v767] : Fin 2 → IVec S16 32) a x).toNat < S128x18.size a := fun v257 v767 k2_hw305 => k2_hw305

def k2_chk306 (v257 : IVec S16 32) (v773 : IVec S16 32) : Prop :=
  (∀ a x, ((![v257, v773] : Fin 2 → IVec S16 32) a x).toNat < S128x18.size a)
theorem k2_idx306_inb : ∀ (v257 : IVec S16 32) (v773 : IVec S16 32) (k2_hw306 : k2_chk306 v257 v773), ∀ a x, ((![v257, v773] : Fin 2 → IVec S16 32) a x).toNat < S128x18.size a := fun v257 v773 k2_hw306 => k2_hw306

def k2_chk307 (v257 : IVec S16 32) (v779 : IVec S16 32) : Prop :=
  (∀ a x, ((![v257, v779] : Fin 2 → IVec S16 32) a x).toNat < S128x18.size a)
theorem k2_idx307_inb : ∀ (v257 : IVec S16 32) (v779 : IVec S16 32) (k2_hw307 : k2_chk307 v257 v779), ∀ a x, ((![v257, v779] : Fin 2 → IVec S16 32) a x).toNat < S128x18.size a := fun v257 v779 k2_hw307 => k2_hw307

def k2_chk308 (v257 : IVec S16 32) (v785 : IVec S16 32) : Prop :=
  (∀ a x, ((![v257, v785] : Fin 2 → IVec S16 32) a x).toNat < S128x18.size a)
theorem k2_idx308_inb : ∀ (v257 : IVec S16 32) (v785 : IVec S16 32) (k2_hw308 : k2_chk308 v257 v785), ∀ a x, ((![v257, v785] : Fin 2 → IVec S16 32) a x).toNat < S128x18.size a := fun v257 v785 k2_hw308 => k2_hw308

def k2_chk309 (v257 : IVec S16 32) (v791 : IVec S16 32) : Prop :=
  (∀ a x, ((![v257, v791] : Fin 2 → IVec S16 32) a x).toNat < S128x18.size a)
theorem k2_idx309_inb : ∀ (v257 : IVec S16 32) (v791 : IVec S16 32) (k2_hw309 : k2_chk309 v257 v791), ∀ a x, ((![v257, v791] : Fin 2 → IVec S16 32) a x).toNat < S128x18.size a := fun v257 v791 k2_hw309 => k2_hw309

def k2_chk310 (v257 : IVec S16 32) (v797 : IVec S16 32) : Prop :=
  (∀ a x, ((![v257, v797] : Fin 2 → IVec S16 32) a x).toNat < S128x18.size a)
theorem k2_idx310_inb : ∀ (v257 : IVec S16 32) (v797 : IVec S16 32) (k2_hw310 : k2_chk310 v257 v797), ∀ a x, ((![v257, v797] : Fin 2 → IVec S16 32) a x).toNat < S128x18.size a := fun v257 v797 k2_hw310 => k2_hw310

def k2_chk311 (v257 : IVec S16 32) (v803 : IVec S16 32) : Prop :=
  (∀ a x, ((![v257, v803] : Fin 2 → IVec S16 32) a x).toNat < S128x18.size a)
theorem k2_idx311_inb : ∀ (v257 : IVec S16 32) (v803 : IVec S16 32) (k2_hw311 : k2_chk311 v257 v803), ∀ a x, ((![v257, v803] : Fin 2 → IVec S16 32) a x).toNat < S128x18.size a := fun v257 v803 k2_hw311 => k2_hw311

def k2_chk312 (v257 : IVec S16 32) (v809 : IVec S16 32) : Prop :=
  (∀ a x, ((![v257, v809] : Fin 2 → IVec S16 32) a x).toNat < S128x18.size a)
theorem k2_idx312_inb : ∀ (v257 : IVec S16 32) (v809 : IVec S16 32) (k2_hw312 : k2_chk312 v257 v809), ∀ a x, ((![v257, v809] : Fin 2 → IVec S16 32) a x).toNat < S128x18.size a := fun v257 v809 k2_hw312 => k2_hw312

def k2_chk313 (v257 : IVec S16 32) (v815 : IVec S16 32) : Prop :=
  (∀ a x, ((![v257, v815] : Fin 2 → IVec S16 32) a x).toNat < S128x18.size a)
theorem k2_idx313_inb : ∀ (v257 : IVec S16 32) (v815 : IVec S16 32) (k2_hw313 : k2_chk313 v257 v815), ∀ a x, ((![v257, v815] : Fin 2 → IVec S16 32) a x).toNat < S128x18.size a := fun v257 v815 k2_hw313 => k2_hw313

def k2_chk314 (v257 : IVec S16 32) (v821 : IVec S16 32) : Prop :=
  (∀ a x, ((![v257, v821] : Fin 2 → IVec S16 32) a x).toNat < S128x18.size a)
theorem k2_idx314_inb : ∀ (v257 : IVec S16 32) (v821 : IVec S16 32) (k2_hw314 : k2_chk314 v257 v821), ∀ a x, ((![v257, v821] : Fin 2 → IVec S16 32) a x).toNat < S128x18.size a := fun v257 v821 k2_hw314 => k2_hw314

def k2_chk315 (v257 : IVec S16 32) (v827 : IVec S16 32) : Prop :=
  (∀ a x, ((![v257, v827] : Fin 2 → IVec S16 32) a x).toNat < S128x18.size a)
theorem k2_idx315_inb : ∀ (v257 : IVec S16 32) (v827 : IVec S16 32) (k2_hw315 : k2_chk315 v257 v827), ∀ a x, ((![v257, v827] : Fin 2 → IVec S16 32) a x).toNat < S128x18.size a := fun v257 v827 k2_hw315 => k2_hw315

def k2_chk316 (v257 : IVec S16 32) (v833 : IVec S16 32) : Prop :=
  (∀ a x, ((![v257, v833] : Fin 2 → IVec S16 32) a x).toNat < S128x18.size a)
theorem k2_idx316_inb : ∀ (v257 : IVec S16 32) (v833 : IVec S16 32) (k2_hw316 : k2_chk316 v257 v833), ∀ a x, ((![v257, v833] : Fin 2 → IVec S16 32) a x).toNat < S128x18.size a := fun v257 v833 k2_hw316 => k2_hw316

def k2_chk317 (v257 : IVec S16 32) (v839 : IVec S16 32) : Prop :=
  (∀ a x, ((![v257, v839] : Fin 2 → IVec S16 32) a x).toNat < S128x18.size a)
theorem k2_idx317_inb : ∀ (v257 : IVec S16 32) (v839 : IVec S16 32) (k2_hw317 : k2_chk317 v257 v839), ∀ a x, ((![v257, v839] : Fin 2 → IVec S16 32) a x).toNat < S128x18.size a := fun v257 v839 k2_hw317 => k2_hw317

def k2_chk318 (v257 : IVec S16 32) (v845 : IVec S16 32) : Prop :=
  (∀ a x, ((![v257, v845] : Fin 2 → IVec S16 32) a x).toNat < S128x18.size a)
theorem k2_idx318_inb : ∀ (v257 : IVec S16 32) (v845 : IVec S16 32) (k2_hw318 : k2_chk318 v257 v845), ∀ a x, ((![v257, v845] : Fin 2 → IVec S16 32) a x).toNat < S128x18.size a := fun v257 v845 k2_hw318 => k2_hw318

def k2_chk319 (v257 : IVec S16 32) (v851 : IVec S16 32) : Prop :=
  (∀ a x, ((![v257, v851] : Fin 2 → IVec S16 32) a x).toNat < S128x18.size a)
theorem k2_idx319_inb : ∀ (v257 : IVec S16 32) (v851 : IVec S16 32) (k2_hw319 : k2_chk319 v257 v851), ∀ a x, ((![v257, v851] : Fin 2 → IVec S16 32) a x).toNat < S128x18.size a := fun v257 v851 k2_hw319 => k2_hw319

def k2_chk320 (v257 : IVec S16 32) (v857 : IVec S16 32) : Prop :=
  (∀ a x, ((![v257, v857] : Fin 2 → IVec S16 32) a x).toNat < S128x18.size a)
theorem k2_idx320_inb : ∀ (v257 : IVec S16 32) (v857 : IVec S16 32) (k2_hw320 : k2_chk320 v257 v857), ∀ a x, ((![v257, v857] : Fin 2 → IVec S16 32) a x).toNat < S128x18.size a := fun v257 v857 k2_hw320 => k2_hw320
@[reducible] def k2_t5_loop : Scf.Loop 32 :=
  let c0_i32_54 : BitVec 32 := 0#32
  let c2_i32_55 : BitVec 32 := 2#32
  let v43 : BitVec 32 := Scalar.addi c0_i32_54 c2_i32_55
  let c1_i32_56 : BitVec 32 := 1#32
  ⟨c0_i32_54, v43, c1_i32_56⟩
def k2_off9 (k2_t5 : Fin k2_t5_loop.trips) (c0_i32_243 : BitVec 32) : Fin 1 → Nat :=
  let c384_i32_244 : BitVec 32 := 384#32
  let c0_i32_54 : BitVec 32 := 0#32
  let c1_i32_56 : BitVec 32 := 1#32
  let arg18 : BitVec 32 := Scf.iv c0_i32_54 c1_i32_56 k2_t5
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c384_i32_244 v184
  let v186 : Index := Scalar.indexCast v185
  ![v186.toNat]

def k2_chk321 (v200 : IVec S16 32) (v263 : IVec S16 32) : Prop :=
  (∀ a x, ((![v200, v263] : Fin 2 → IVec S16 32) a x).toNat < S128x128.size a)
theorem k2_idx321_inb : ∀ (v200 : IVec S16 32) (v263 : IVec S16 32) (k2_hw321 : k2_chk321 v200 v263), ∀ a x, ((![v200, v263] : Fin 2 → IVec S16 32) a x).toNat < S128x128.size a := fun v200 v263 k2_hw321 => k2_hw321

def k2_chk322 (v219 : IVec S16 32) (v270 : IVec S16 32) : Prop :=
  (∀ a x, ((![v219, v270] : Fin 2 → IVec S16 32) a x).toNat < S128x128.size a)
theorem k2_idx322_inb : ∀ (v219 : IVec S16 32) (v270 : IVec S16 32) (k2_hw322 : k2_chk322 v219 v270), ∀ a x, ((![v219, v270] : Fin 2 → IVec S16 32) a x).toNat < S128x128.size a := fun v219 v270 k2_hw322 => k2_hw322

def k2_chk323 (v238 : IVec S16 32) (v277 : IVec S16 32) : Prop :=
  (∀ a x, ((![v238, v277] : Fin 2 → IVec S16 32) a x).toNat < S128x128.size a)
theorem k2_idx323_inb : ∀ (v238 : IVec S16 32) (v277 : IVec S16 32) (k2_hw323 : k2_chk323 v238 v277), ∀ a x, ((![v238, v277] : Fin 2 → IVec S16 32) a x).toNat < S128x128.size a := fun v238 v277 k2_hw323 => k2_hw323

def k2_chk324 (v257 : IVec S16 32) (v284 : IVec S16 32) : Prop :=
  (∀ a x, ((![v257, v284] : Fin 2 → IVec S16 32) a x).toNat < S128x128.size a)
theorem k2_idx324_inb : ∀ (v257 : IVec S16 32) (v284 : IVec S16 32) (k2_hw324 : k2_chk324 v257 v284), ∀ a x, ((![v257, v284] : Fin 2 → IVec S16 32) a x).toNat < S128x128.size a := fun v257 v284 k2_hw324 => k2_hw324

def k2_chk325 (v200 : IVec S16 32) (v303 : IVec S16 32) : Prop :=
  (∀ a x, ((![v200, v303] : Fin 2 → IVec S16 32) a x).toNat < S128x128.size a)
theorem k2_idx325_inb : ∀ (v200 : IVec S16 32) (v303 : IVec S16 32) (k2_hw325 : k2_chk325 v200 v303), ∀ a x, ((![v200, v303] : Fin 2 → IVec S16 32) a x).toNat < S128x128.size a := fun v200 v303 k2_hw325 => k2_hw325

def k2_chk326 (v219 : IVec S16 32) (v310 : IVec S16 32) : Prop :=
  (∀ a x, ((![v219, v310] : Fin 2 → IVec S16 32) a x).toNat < S128x128.size a)
theorem k2_idx326_inb : ∀ (v219 : IVec S16 32) (v310 : IVec S16 32) (k2_hw326 : k2_chk326 v219 v310), ∀ a x, ((![v219, v310] : Fin 2 → IVec S16 32) a x).toNat < S128x128.size a := fun v219 v310 k2_hw326 => k2_hw326

def k2_chk327 (v238 : IVec S16 32) (v317 : IVec S16 32) : Prop :=
  (∀ a x, ((![v238, v317] : Fin 2 → IVec S16 32) a x).toNat < S128x128.size a)
theorem k2_idx327_inb : ∀ (v238 : IVec S16 32) (v317 : IVec S16 32) (k2_hw327 : k2_chk327 v238 v317), ∀ a x, ((![v238, v317] : Fin 2 → IVec S16 32) a x).toNat < S128x128.size a := fun v238 v317 k2_hw327 => k2_hw327

def k2_chk328 (v257 : IVec S16 32) (v324 : IVec S16 32) : Prop :=
  (∀ a x, ((![v257, v324] : Fin 2 → IVec S16 32) a x).toNat < S128x128.size a)
theorem k2_idx328_inb : ∀ (v257 : IVec S16 32) (v324 : IVec S16 32) (k2_hw328 : k2_chk328 v257 v324), ∀ a x, ((![v257, v324] : Fin 2 → IVec S16 32) a x).toNat < S128x128.size a := fun v257 v324 k2_hw328 => k2_hw328

def k2_chk329 (v200 : IVec S16 32) (v343 : IVec S16 32) : Prop :=
  (∀ a x, ((![v200, v343] : Fin 2 → IVec S16 32) a x).toNat < S128x128.size a)
theorem k2_idx329_inb : ∀ (v200 : IVec S16 32) (v343 : IVec S16 32) (k2_hw329 : k2_chk329 v200 v343), ∀ a x, ((![v200, v343] : Fin 2 → IVec S16 32) a x).toNat < S128x128.size a := fun v200 v343 k2_hw329 => k2_hw329

def k2_chk330 (v219 : IVec S16 32) (v350 : IVec S16 32) : Prop :=
  (∀ a x, ((![v219, v350] : Fin 2 → IVec S16 32) a x).toNat < S128x128.size a)
theorem k2_idx330_inb : ∀ (v219 : IVec S16 32) (v350 : IVec S16 32) (k2_hw330 : k2_chk330 v219 v350), ∀ a x, ((![v219, v350] : Fin 2 → IVec S16 32) a x).toNat < S128x128.size a := fun v219 v350 k2_hw330 => k2_hw330

def k2_chk331 (v238 : IVec S16 32) (v357 : IVec S16 32) : Prop :=
  (∀ a x, ((![v238, v357] : Fin 2 → IVec S16 32) a x).toNat < S128x128.size a)
theorem k2_idx331_inb : ∀ (v238 : IVec S16 32) (v357 : IVec S16 32) (k2_hw331 : k2_chk331 v238 v357), ∀ a x, ((![v238, v357] : Fin 2 → IVec S16 32) a x).toNat < S128x128.size a := fun v238 v357 k2_hw331 => k2_hw331

def k2_chk332 (v257 : IVec S16 32) (v364 : IVec S16 32) : Prop :=
  (∀ a x, ((![v257, v364] : Fin 2 → IVec S16 32) a x).toNat < S128x128.size a)
theorem k2_idx332_inb : ∀ (v257 : IVec S16 32) (v364 : IVec S16 32) (k2_hw332 : k2_chk332 v257 v364), ∀ a x, ((![v257, v364] : Fin 2 → IVec S16 32) a x).toNat < S128x128.size a := fun v257 v364 k2_hw332 => k2_hw332

def k2_chk333 (v200 : IVec S16 32) (v383 : IVec S16 32) : Prop :=
  (∀ a x, ((![v200, v383] : Fin 2 → IVec S16 32) a x).toNat < S128x128.size a)
theorem k2_idx333_inb : ∀ (v200 : IVec S16 32) (v383 : IVec S16 32) (k2_hw333 : k2_chk333 v200 v383), ∀ a x, ((![v200, v383] : Fin 2 → IVec S16 32) a x).toNat < S128x128.size a := fun v200 v383 k2_hw333 => k2_hw333

def k2_chk334 (v219 : IVec S16 32) (v390 : IVec S16 32) : Prop :=
  (∀ a x, ((![v219, v390] : Fin 2 → IVec S16 32) a x).toNat < S128x128.size a)
theorem k2_idx334_inb : ∀ (v219 : IVec S16 32) (v390 : IVec S16 32) (k2_hw334 : k2_chk334 v219 v390), ∀ a x, ((![v219, v390] : Fin 2 → IVec S16 32) a x).toNat < S128x128.size a := fun v219 v390 k2_hw334 => k2_hw334

def k2_chk335 (v238 : IVec S16 32) (v397 : IVec S16 32) : Prop :=
  (∀ a x, ((![v238, v397] : Fin 2 → IVec S16 32) a x).toNat < S128x128.size a)
theorem k2_idx335_inb : ∀ (v238 : IVec S16 32) (v397 : IVec S16 32) (k2_hw335 : k2_chk335 v238 v397), ∀ a x, ((![v238, v397] : Fin 2 → IVec S16 32) a x).toNat < S128x128.size a := fun v238 v397 k2_hw335 => k2_hw335

def k2_chk336 (v257 : IVec S16 32) (v404 : IVec S16 32) : Prop :=
  (∀ a x, ((![v257, v404] : Fin 2 → IVec S16 32) a x).toNat < S128x128.size a)
theorem k2_idx336_inb : ∀ (v257 : IVec S16 32) (v404 : IVec S16 32) (k2_hw336 : k2_chk336 v257 v404), ∀ a x, ((![v257, v404] : Fin 2 → IVec S16 32) a x).toNat < S128x128.size a := fun v257 v404 k2_hw336 => k2_hw336

def k2_chk337 (v200 : IVec S16 32) (v425 : IVec S16 32) : Prop :=
  (∀ a x, ((![v200, v425] : Fin 2 → IVec S16 32) a x).toNat < S128x18.size a)
theorem k2_idx337_inb : ∀ (v200 : IVec S16 32) (v425 : IVec S16 32) (k2_hw337 : k2_chk337 v200 v425), ∀ a x, ((![v200, v425] : Fin 2 → IVec S16 32) a x).toNat < S128x18.size a := fun v200 v425 k2_hw337 => k2_hw337

def k2_chk338 (v200 : IVec S16 32) (v431 : IVec S16 32) : Prop :=
  (∀ a x, ((![v200, v431] : Fin 2 → IVec S16 32) a x).toNat < S128x18.size a)
theorem k2_idx338_inb : ∀ (v200 : IVec S16 32) (v431 : IVec S16 32) (k2_hw338 : k2_chk338 v200 v431), ∀ a x, ((![v200, v431] : Fin 2 → IVec S16 32) a x).toNat < S128x18.size a := fun v200 v431 k2_hw338 => k2_hw338

def k2_chk339 (v200 : IVec S16 32) (v437 : IVec S16 32) : Prop :=
  (∀ a x, ((![v200, v437] : Fin 2 → IVec S16 32) a x).toNat < S128x18.size a)
theorem k2_idx339_inb : ∀ (v200 : IVec S16 32) (v437 : IVec S16 32) (k2_hw339 : k2_chk339 v200 v437), ∀ a x, ((![v200, v437] : Fin 2 → IVec S16 32) a x).toNat < S128x18.size a := fun v200 v437 k2_hw339 => k2_hw339

def k2_chk340 (v200 : IVec S16 32) (v443 : IVec S16 32) : Prop :=
  (∀ a x, ((![v200, v443] : Fin 2 → IVec S16 32) a x).toNat < S128x18.size a)
theorem k2_idx340_inb : ∀ (v200 : IVec S16 32) (v443 : IVec S16 32) (k2_hw340 : k2_chk340 v200 v443), ∀ a x, ((![v200, v443] : Fin 2 → IVec S16 32) a x).toNat < S128x18.size a := fun v200 v443 k2_hw340 => k2_hw340

def k2_chk341 (v200 : IVec S16 32) (v449 : IVec S16 32) : Prop :=
  (∀ a x, ((![v200, v449] : Fin 2 → IVec S16 32) a x).toNat < S128x18.size a)
theorem k2_idx341_inb : ∀ (v200 : IVec S16 32) (v449 : IVec S16 32) (k2_hw341 : k2_chk341 v200 v449), ∀ a x, ((![v200, v449] : Fin 2 → IVec S16 32) a x).toNat < S128x18.size a := fun v200 v449 k2_hw341 => k2_hw341

def k2_chk342 (v200 : IVec S16 32) (v455 : IVec S16 32) : Prop :=
  (∀ a x, ((![v200, v455] : Fin 2 → IVec S16 32) a x).toNat < S128x18.size a)
theorem k2_idx342_inb : ∀ (v200 : IVec S16 32) (v455 : IVec S16 32) (k2_hw342 : k2_chk342 v200 v455), ∀ a x, ((![v200, v455] : Fin 2 → IVec S16 32) a x).toNat < S128x18.size a := fun v200 v455 k2_hw342 => k2_hw342

def k2_chk343 (v200 : IVec S16 32) (v461 : IVec S16 32) : Prop :=
  (∀ a x, ((![v200, v461] : Fin 2 → IVec S16 32) a x).toNat < S128x18.size a)
theorem k2_idx343_inb : ∀ (v200 : IVec S16 32) (v461 : IVec S16 32) (k2_hw343 : k2_chk343 v200 v461), ∀ a x, ((![v200, v461] : Fin 2 → IVec S16 32) a x).toNat < S128x18.size a := fun v200 v461 k2_hw343 => k2_hw343

def k2_chk344 (v200 : IVec S16 32) (v467 : IVec S16 32) : Prop :=
  (∀ a x, ((![v200, v467] : Fin 2 → IVec S16 32) a x).toNat < S128x18.size a)
theorem k2_idx344_inb : ∀ (v200 : IVec S16 32) (v467 : IVec S16 32) (k2_hw344 : k2_chk344 v200 v467), ∀ a x, ((![v200, v467] : Fin 2 → IVec S16 32) a x).toNat < S128x18.size a := fun v200 v467 k2_hw344 => k2_hw344

def k2_chk345 (v200 : IVec S16 32) (v473 : IVec S16 32) : Prop :=
  (∀ a x, ((![v200, v473] : Fin 2 → IVec S16 32) a x).toNat < S128x18.size a)
theorem k2_idx345_inb : ∀ (v200 : IVec S16 32) (v473 : IVec S16 32) (k2_hw345 : k2_chk345 v200 v473), ∀ a x, ((![v200, v473] : Fin 2 → IVec S16 32) a x).toNat < S128x18.size a := fun v200 v473 k2_hw345 => k2_hw345

def k2_chk346 (v200 : IVec S16 32) (v479 : IVec S16 32) : Prop :=
  (∀ a x, ((![v200, v479] : Fin 2 → IVec S16 32) a x).toNat < S128x18.size a)
theorem k2_idx346_inb : ∀ (v200 : IVec S16 32) (v479 : IVec S16 32) (k2_hw346 : k2_chk346 v200 v479), ∀ a x, ((![v200, v479] : Fin 2 → IVec S16 32) a x).toNat < S128x18.size a := fun v200 v479 k2_hw346 => k2_hw346

def k2_chk347 (v200 : IVec S16 32) (v485 : IVec S16 32) : Prop :=
  (∀ a x, ((![v200, v485] : Fin 2 → IVec S16 32) a x).toNat < S128x18.size a)
theorem k2_idx347_inb : ∀ (v200 : IVec S16 32) (v485 : IVec S16 32) (k2_hw347 : k2_chk347 v200 v485), ∀ a x, ((![v200, v485] : Fin 2 → IVec S16 32) a x).toNat < S128x18.size a := fun v200 v485 k2_hw347 => k2_hw347

def k2_chk348 (v200 : IVec S16 32) (v491 : IVec S16 32) : Prop :=
  (∀ a x, ((![v200, v491] : Fin 2 → IVec S16 32) a x).toNat < S128x18.size a)
theorem k2_idx348_inb : ∀ (v200 : IVec S16 32) (v491 : IVec S16 32) (k2_hw348 : k2_chk348 v200 v491), ∀ a x, ((![v200, v491] : Fin 2 → IVec S16 32) a x).toNat < S128x18.size a := fun v200 v491 k2_hw348 => k2_hw348

def k2_chk349 (v200 : IVec S16 32) (v497 : IVec S16 32) : Prop :=
  (∀ a x, ((![v200, v497] : Fin 2 → IVec S16 32) a x).toNat < S128x18.size a)
theorem k2_idx349_inb : ∀ (v200 : IVec S16 32) (v497 : IVec S16 32) (k2_hw349 : k2_chk349 v200 v497), ∀ a x, ((![v200, v497] : Fin 2 → IVec S16 32) a x).toNat < S128x18.size a := fun v200 v497 k2_hw349 => k2_hw349

def k2_chk350 (v200 : IVec S16 32) (v503 : IVec S16 32) : Prop :=
  (∀ a x, ((![v200, v503] : Fin 2 → IVec S16 32) a x).toNat < S128x18.size a)
theorem k2_idx350_inb : ∀ (v200 : IVec S16 32) (v503 : IVec S16 32) (k2_hw350 : k2_chk350 v200 v503), ∀ a x, ((![v200, v503] : Fin 2 → IVec S16 32) a x).toNat < S128x18.size a := fun v200 v503 k2_hw350 => k2_hw350

def k2_chk351 (v200 : IVec S16 32) (v509 : IVec S16 32) : Prop :=
  (∀ a x, ((![v200, v509] : Fin 2 → IVec S16 32) a x).toNat < S128x18.size a)
theorem k2_idx351_inb : ∀ (v200 : IVec S16 32) (v509 : IVec S16 32) (k2_hw351 : k2_chk351 v200 v509), ∀ a x, ((![v200, v509] : Fin 2 → IVec S16 32) a x).toNat < S128x18.size a := fun v200 v509 k2_hw351 => k2_hw351

def k2_chk352 (v200 : IVec S16 32) (v515 : IVec S16 32) : Prop :=
  (∀ a x, ((![v200, v515] : Fin 2 → IVec S16 32) a x).toNat < S128x18.size a)
theorem k2_idx352_inb : ∀ (v200 : IVec S16 32) (v515 : IVec S16 32) (k2_hw352 : k2_chk352 v200 v515), ∀ a x, ((![v200, v515] : Fin 2 → IVec S16 32) a x).toNat < S128x18.size a := fun v200 v515 k2_hw352 => k2_hw352

def k2_chk353 (v200 : IVec S16 32) (v521 : IVec S16 32) : Prop :=
  (∀ a x, ((![v200, v521] : Fin 2 → IVec S16 32) a x).toNat < S128x18.size a)
theorem k2_idx353_inb : ∀ (v200 : IVec S16 32) (v521 : IVec S16 32) (k2_hw353 : k2_chk353 v200 v521), ∀ a x, ((![v200, v521] : Fin 2 → IVec S16 32) a x).toNat < S128x18.size a := fun v200 v521 k2_hw353 => k2_hw353

def k2_chk354 (v200 : IVec S16 32) (v527 : IVec S16 32) : Prop :=
  (∀ a x, ((![v200, v527] : Fin 2 → IVec S16 32) a x).toNat < S128x18.size a)
theorem k2_idx354_inb : ∀ (v200 : IVec S16 32) (v527 : IVec S16 32) (k2_hw354 : k2_chk354 v200 v527), ∀ a x, ((![v200, v527] : Fin 2 → IVec S16 32) a x).toNat < S128x18.size a := fun v200 v527 k2_hw354 => k2_hw354

def k2_chk355 (v219 : IVec S16 32) (v535 : IVec S16 32) : Prop :=
  (∀ a x, ((![v219, v535] : Fin 2 → IVec S16 32) a x).toNat < S128x18.size a)
theorem k2_idx355_inb : ∀ (v219 : IVec S16 32) (v535 : IVec S16 32) (k2_hw355 : k2_chk355 v219 v535), ∀ a x, ((![v219, v535] : Fin 2 → IVec S16 32) a x).toNat < S128x18.size a := fun v219 v535 k2_hw355 => k2_hw355

def k2_chk356 (v219 : IVec S16 32) (v541 : IVec S16 32) : Prop :=
  (∀ a x, ((![v219, v541] : Fin 2 → IVec S16 32) a x).toNat < S128x18.size a)
theorem k2_idx356_inb : ∀ (v219 : IVec S16 32) (v541 : IVec S16 32) (k2_hw356 : k2_chk356 v219 v541), ∀ a x, ((![v219, v541] : Fin 2 → IVec S16 32) a x).toNat < S128x18.size a := fun v219 v541 k2_hw356 => k2_hw356

def k2_chk357 (v219 : IVec S16 32) (v547 : IVec S16 32) : Prop :=
  (∀ a x, ((![v219, v547] : Fin 2 → IVec S16 32) a x).toNat < S128x18.size a)
theorem k2_idx357_inb : ∀ (v219 : IVec S16 32) (v547 : IVec S16 32) (k2_hw357 : k2_chk357 v219 v547), ∀ a x, ((![v219, v547] : Fin 2 → IVec S16 32) a x).toNat < S128x18.size a := fun v219 v547 k2_hw357 => k2_hw357

def k2_chk358 (v219 : IVec S16 32) (v553 : IVec S16 32) : Prop :=
  (∀ a x, ((![v219, v553] : Fin 2 → IVec S16 32) a x).toNat < S128x18.size a)
theorem k2_idx358_inb : ∀ (v219 : IVec S16 32) (v553 : IVec S16 32) (k2_hw358 : k2_chk358 v219 v553), ∀ a x, ((![v219, v553] : Fin 2 → IVec S16 32) a x).toNat < S128x18.size a := fun v219 v553 k2_hw358 => k2_hw358

def k2_chk359 (v219 : IVec S16 32) (v559 : IVec S16 32) : Prop :=
  (∀ a x, ((![v219, v559] : Fin 2 → IVec S16 32) a x).toNat < S128x18.size a)
theorem k2_idx359_inb : ∀ (v219 : IVec S16 32) (v559 : IVec S16 32) (k2_hw359 : k2_chk359 v219 v559), ∀ a x, ((![v219, v559] : Fin 2 → IVec S16 32) a x).toNat < S128x18.size a := fun v219 v559 k2_hw359 => k2_hw359

def k2_chk360 (v219 : IVec S16 32) (v565 : IVec S16 32) : Prop :=
  (∀ a x, ((![v219, v565] : Fin 2 → IVec S16 32) a x).toNat < S128x18.size a)
theorem k2_idx360_inb : ∀ (v219 : IVec S16 32) (v565 : IVec S16 32) (k2_hw360 : k2_chk360 v219 v565), ∀ a x, ((![v219, v565] : Fin 2 → IVec S16 32) a x).toNat < S128x18.size a := fun v219 v565 k2_hw360 => k2_hw360

def k2_chk361 (v219 : IVec S16 32) (v571 : IVec S16 32) : Prop :=
  (∀ a x, ((![v219, v571] : Fin 2 → IVec S16 32) a x).toNat < S128x18.size a)
theorem k2_idx361_inb : ∀ (v219 : IVec S16 32) (v571 : IVec S16 32) (k2_hw361 : k2_chk361 v219 v571), ∀ a x, ((![v219, v571] : Fin 2 → IVec S16 32) a x).toNat < S128x18.size a := fun v219 v571 k2_hw361 => k2_hw361

def k2_chk362 (v219 : IVec S16 32) (v577 : IVec S16 32) : Prop :=
  (∀ a x, ((![v219, v577] : Fin 2 → IVec S16 32) a x).toNat < S128x18.size a)
theorem k2_idx362_inb : ∀ (v219 : IVec S16 32) (v577 : IVec S16 32) (k2_hw362 : k2_chk362 v219 v577), ∀ a x, ((![v219, v577] : Fin 2 → IVec S16 32) a x).toNat < S128x18.size a := fun v219 v577 k2_hw362 => k2_hw362

def k2_chk363 (v219 : IVec S16 32) (v583 : IVec S16 32) : Prop :=
  (∀ a x, ((![v219, v583] : Fin 2 → IVec S16 32) a x).toNat < S128x18.size a)
theorem k2_idx363_inb : ∀ (v219 : IVec S16 32) (v583 : IVec S16 32) (k2_hw363 : k2_chk363 v219 v583), ∀ a x, ((![v219, v583] : Fin 2 → IVec S16 32) a x).toNat < S128x18.size a := fun v219 v583 k2_hw363 => k2_hw363

def k2_chk364 (v219 : IVec S16 32) (v589 : IVec S16 32) : Prop :=
  (∀ a x, ((![v219, v589] : Fin 2 → IVec S16 32) a x).toNat < S128x18.size a)
theorem k2_idx364_inb : ∀ (v219 : IVec S16 32) (v589 : IVec S16 32) (k2_hw364 : k2_chk364 v219 v589), ∀ a x, ((![v219, v589] : Fin 2 → IVec S16 32) a x).toNat < S128x18.size a := fun v219 v589 k2_hw364 => k2_hw364

def k2_chk365 (v219 : IVec S16 32) (v595 : IVec S16 32) : Prop :=
  (∀ a x, ((![v219, v595] : Fin 2 → IVec S16 32) a x).toNat < S128x18.size a)
theorem k2_idx365_inb : ∀ (v219 : IVec S16 32) (v595 : IVec S16 32) (k2_hw365 : k2_chk365 v219 v595), ∀ a x, ((![v219, v595] : Fin 2 → IVec S16 32) a x).toNat < S128x18.size a := fun v219 v595 k2_hw365 => k2_hw365

def k2_chk366 (v219 : IVec S16 32) (v601 : IVec S16 32) : Prop :=
  (∀ a x, ((![v219, v601] : Fin 2 → IVec S16 32) a x).toNat < S128x18.size a)
theorem k2_idx366_inb : ∀ (v219 : IVec S16 32) (v601 : IVec S16 32) (k2_hw366 : k2_chk366 v219 v601), ∀ a x, ((![v219, v601] : Fin 2 → IVec S16 32) a x).toNat < S128x18.size a := fun v219 v601 k2_hw366 => k2_hw366

def k2_chk367 (v219 : IVec S16 32) (v607 : IVec S16 32) : Prop :=
  (∀ a x, ((![v219, v607] : Fin 2 → IVec S16 32) a x).toNat < S128x18.size a)
theorem k2_idx367_inb : ∀ (v219 : IVec S16 32) (v607 : IVec S16 32) (k2_hw367 : k2_chk367 v219 v607), ∀ a x, ((![v219, v607] : Fin 2 → IVec S16 32) a x).toNat < S128x18.size a := fun v219 v607 k2_hw367 => k2_hw367

def k2_chk368 (v219 : IVec S16 32) (v613 : IVec S16 32) : Prop :=
  (∀ a x, ((![v219, v613] : Fin 2 → IVec S16 32) a x).toNat < S128x18.size a)
theorem k2_idx368_inb : ∀ (v219 : IVec S16 32) (v613 : IVec S16 32) (k2_hw368 : k2_chk368 v219 v613), ∀ a x, ((![v219, v613] : Fin 2 → IVec S16 32) a x).toNat < S128x18.size a := fun v219 v613 k2_hw368 => k2_hw368

def k2_chk369 (v219 : IVec S16 32) (v619 : IVec S16 32) : Prop :=
  (∀ a x, ((![v219, v619] : Fin 2 → IVec S16 32) a x).toNat < S128x18.size a)
theorem k2_idx369_inb : ∀ (v219 : IVec S16 32) (v619 : IVec S16 32) (k2_hw369 : k2_chk369 v219 v619), ∀ a x, ((![v219, v619] : Fin 2 → IVec S16 32) a x).toNat < S128x18.size a := fun v219 v619 k2_hw369 => k2_hw369

def k2_chk370 (v219 : IVec S16 32) (v625 : IVec S16 32) : Prop :=
  (∀ a x, ((![v219, v625] : Fin 2 → IVec S16 32) a x).toNat < S128x18.size a)
theorem k2_idx370_inb : ∀ (v219 : IVec S16 32) (v625 : IVec S16 32) (k2_hw370 : k2_chk370 v219 v625), ∀ a x, ((![v219, v625] : Fin 2 → IVec S16 32) a x).toNat < S128x18.size a := fun v219 v625 k2_hw370 => k2_hw370

def k2_chk371 (v219 : IVec S16 32) (v631 : IVec S16 32) : Prop :=
  (∀ a x, ((![v219, v631] : Fin 2 → IVec S16 32) a x).toNat < S128x18.size a)
theorem k2_idx371_inb : ∀ (v219 : IVec S16 32) (v631 : IVec S16 32) (k2_hw371 : k2_chk371 v219 v631), ∀ a x, ((![v219, v631] : Fin 2 → IVec S16 32) a x).toNat < S128x18.size a := fun v219 v631 k2_hw371 => k2_hw371

def k2_chk372 (v219 : IVec S16 32) (v637 : IVec S16 32) : Prop :=
  (∀ a x, ((![v219, v637] : Fin 2 → IVec S16 32) a x).toNat < S128x18.size a)
theorem k2_idx372_inb : ∀ (v219 : IVec S16 32) (v637 : IVec S16 32) (k2_hw372 : k2_chk372 v219 v637), ∀ a x, ((![v219, v637] : Fin 2 → IVec S16 32) a x).toNat < S128x18.size a := fun v219 v637 k2_hw372 => k2_hw372

def k2_chk373 (v238 : IVec S16 32) (v645 : IVec S16 32) : Prop :=
  (∀ a x, ((![v238, v645] : Fin 2 → IVec S16 32) a x).toNat < S128x18.size a)
theorem k2_idx373_inb : ∀ (v238 : IVec S16 32) (v645 : IVec S16 32) (k2_hw373 : k2_chk373 v238 v645), ∀ a x, ((![v238, v645] : Fin 2 → IVec S16 32) a x).toNat < S128x18.size a := fun v238 v645 k2_hw373 => k2_hw373

def k2_chk374 (v238 : IVec S16 32) (v651 : IVec S16 32) : Prop :=
  (∀ a x, ((![v238, v651] : Fin 2 → IVec S16 32) a x).toNat < S128x18.size a)
theorem k2_idx374_inb : ∀ (v238 : IVec S16 32) (v651 : IVec S16 32) (k2_hw374 : k2_chk374 v238 v651), ∀ a x, ((![v238, v651] : Fin 2 → IVec S16 32) a x).toNat < S128x18.size a := fun v238 v651 k2_hw374 => k2_hw374

def k2_chk375 (v238 : IVec S16 32) (v657 : IVec S16 32) : Prop :=
  (∀ a x, ((![v238, v657] : Fin 2 → IVec S16 32) a x).toNat < S128x18.size a)
theorem k2_idx375_inb : ∀ (v238 : IVec S16 32) (v657 : IVec S16 32) (k2_hw375 : k2_chk375 v238 v657), ∀ a x, ((![v238, v657] : Fin 2 → IVec S16 32) a x).toNat < S128x18.size a := fun v238 v657 k2_hw375 => k2_hw375

def k2_chk376 (v238 : IVec S16 32) (v663 : IVec S16 32) : Prop :=
  (∀ a x, ((![v238, v663] : Fin 2 → IVec S16 32) a x).toNat < S128x18.size a)
theorem k2_idx376_inb : ∀ (v238 : IVec S16 32) (v663 : IVec S16 32) (k2_hw376 : k2_chk376 v238 v663), ∀ a x, ((![v238, v663] : Fin 2 → IVec S16 32) a x).toNat < S128x18.size a := fun v238 v663 k2_hw376 => k2_hw376

def k2_chk377 (v238 : IVec S16 32) (v669 : IVec S16 32) : Prop :=
  (∀ a x, ((![v238, v669] : Fin 2 → IVec S16 32) a x).toNat < S128x18.size a)
theorem k2_idx377_inb : ∀ (v238 : IVec S16 32) (v669 : IVec S16 32) (k2_hw377 : k2_chk377 v238 v669), ∀ a x, ((![v238, v669] : Fin 2 → IVec S16 32) a x).toNat < S128x18.size a := fun v238 v669 k2_hw377 => k2_hw377

def k2_chk378 (v238 : IVec S16 32) (v675 : IVec S16 32) : Prop :=
  (∀ a x, ((![v238, v675] : Fin 2 → IVec S16 32) a x).toNat < S128x18.size a)
theorem k2_idx378_inb : ∀ (v238 : IVec S16 32) (v675 : IVec S16 32) (k2_hw378 : k2_chk378 v238 v675), ∀ a x, ((![v238, v675] : Fin 2 → IVec S16 32) a x).toNat < S128x18.size a := fun v238 v675 k2_hw378 => k2_hw378

def k2_chk379 (v238 : IVec S16 32) (v681 : IVec S16 32) : Prop :=
  (∀ a x, ((![v238, v681] : Fin 2 → IVec S16 32) a x).toNat < S128x18.size a)
theorem k2_idx379_inb : ∀ (v238 : IVec S16 32) (v681 : IVec S16 32) (k2_hw379 : k2_chk379 v238 v681), ∀ a x, ((![v238, v681] : Fin 2 → IVec S16 32) a x).toNat < S128x18.size a := fun v238 v681 k2_hw379 => k2_hw379

def k2_chk380 (v238 : IVec S16 32) (v687 : IVec S16 32) : Prop :=
  (∀ a x, ((![v238, v687] : Fin 2 → IVec S16 32) a x).toNat < S128x18.size a)
theorem k2_idx380_inb : ∀ (v238 : IVec S16 32) (v687 : IVec S16 32) (k2_hw380 : k2_chk380 v238 v687), ∀ a x, ((![v238, v687] : Fin 2 → IVec S16 32) a x).toNat < S128x18.size a := fun v238 v687 k2_hw380 => k2_hw380

def k2_chk381 (v238 : IVec S16 32) (v693 : IVec S16 32) : Prop :=
  (∀ a x, ((![v238, v693] : Fin 2 → IVec S16 32) a x).toNat < S128x18.size a)
theorem k2_idx381_inb : ∀ (v238 : IVec S16 32) (v693 : IVec S16 32) (k2_hw381 : k2_chk381 v238 v693), ∀ a x, ((![v238, v693] : Fin 2 → IVec S16 32) a x).toNat < S128x18.size a := fun v238 v693 k2_hw381 => k2_hw381

def k2_chk382 (v238 : IVec S16 32) (v699 : IVec S16 32) : Prop :=
  (∀ a x, ((![v238, v699] : Fin 2 → IVec S16 32) a x).toNat < S128x18.size a)
theorem k2_idx382_inb : ∀ (v238 : IVec S16 32) (v699 : IVec S16 32) (k2_hw382 : k2_chk382 v238 v699), ∀ a x, ((![v238, v699] : Fin 2 → IVec S16 32) a x).toNat < S128x18.size a := fun v238 v699 k2_hw382 => k2_hw382

def k2_chk383 (v238 : IVec S16 32) (v705 : IVec S16 32) : Prop :=
  (∀ a x, ((![v238, v705] : Fin 2 → IVec S16 32) a x).toNat < S128x18.size a)
theorem k2_idx383_inb : ∀ (v238 : IVec S16 32) (v705 : IVec S16 32) (k2_hw383 : k2_chk383 v238 v705), ∀ a x, ((![v238, v705] : Fin 2 → IVec S16 32) a x).toNat < S128x18.size a := fun v238 v705 k2_hw383 => k2_hw383

def k2_chk384 (v238 : IVec S16 32) (v711 : IVec S16 32) : Prop :=
  (∀ a x, ((![v238, v711] : Fin 2 → IVec S16 32) a x).toNat < S128x18.size a)
theorem k2_idx384_inb : ∀ (v238 : IVec S16 32) (v711 : IVec S16 32) (k2_hw384 : k2_chk384 v238 v711), ∀ a x, ((![v238, v711] : Fin 2 → IVec S16 32) a x).toNat < S128x18.size a := fun v238 v711 k2_hw384 => k2_hw384

def k2_chk385 (v238 : IVec S16 32) (v717 : IVec S16 32) : Prop :=
  (∀ a x, ((![v238, v717] : Fin 2 → IVec S16 32) a x).toNat < S128x18.size a)
theorem k2_idx385_inb : ∀ (v238 : IVec S16 32) (v717 : IVec S16 32) (k2_hw385 : k2_chk385 v238 v717), ∀ a x, ((![v238, v717] : Fin 2 → IVec S16 32) a x).toNat < S128x18.size a := fun v238 v717 k2_hw385 => k2_hw385

def k2_chk386 (v238 : IVec S16 32) (v723 : IVec S16 32) : Prop :=
  (∀ a x, ((![v238, v723] : Fin 2 → IVec S16 32) a x).toNat < S128x18.size a)
theorem k2_idx386_inb : ∀ (v238 : IVec S16 32) (v723 : IVec S16 32) (k2_hw386 : k2_chk386 v238 v723), ∀ a x, ((![v238, v723] : Fin 2 → IVec S16 32) a x).toNat < S128x18.size a := fun v238 v723 k2_hw386 => k2_hw386

def k2_chk387 (v238 : IVec S16 32) (v729 : IVec S16 32) : Prop :=
  (∀ a x, ((![v238, v729] : Fin 2 → IVec S16 32) a x).toNat < S128x18.size a)
theorem k2_idx387_inb : ∀ (v238 : IVec S16 32) (v729 : IVec S16 32) (k2_hw387 : k2_chk387 v238 v729), ∀ a x, ((![v238, v729] : Fin 2 → IVec S16 32) a x).toNat < S128x18.size a := fun v238 v729 k2_hw387 => k2_hw387

def k2_chk388 (v238 : IVec S16 32) (v735 : IVec S16 32) : Prop :=
  (∀ a x, ((![v238, v735] : Fin 2 → IVec S16 32) a x).toNat < S128x18.size a)
theorem k2_idx388_inb : ∀ (v238 : IVec S16 32) (v735 : IVec S16 32) (k2_hw388 : k2_chk388 v238 v735), ∀ a x, ((![v238, v735] : Fin 2 → IVec S16 32) a x).toNat < S128x18.size a := fun v238 v735 k2_hw388 => k2_hw388

def k2_chk389 (v238 : IVec S16 32) (v741 : IVec S16 32) : Prop :=
  (∀ a x, ((![v238, v741] : Fin 2 → IVec S16 32) a x).toNat < S128x18.size a)
theorem k2_idx389_inb : ∀ (v238 : IVec S16 32) (v741 : IVec S16 32) (k2_hw389 : k2_chk389 v238 v741), ∀ a x, ((![v238, v741] : Fin 2 → IVec S16 32) a x).toNat < S128x18.size a := fun v238 v741 k2_hw389 => k2_hw389

def k2_chk390 (v238 : IVec S16 32) (v747 : IVec S16 32) : Prop :=
  (∀ a x, ((![v238, v747] : Fin 2 → IVec S16 32) a x).toNat < S128x18.size a)
theorem k2_idx390_inb : ∀ (v238 : IVec S16 32) (v747 : IVec S16 32) (k2_hw390 : k2_chk390 v238 v747), ∀ a x, ((![v238, v747] : Fin 2 → IVec S16 32) a x).toNat < S128x18.size a := fun v238 v747 k2_hw390 => k2_hw390

def k2_chk391 (v257 : IVec S16 32) (v755 : IVec S16 32) : Prop :=
  (∀ a x, ((![v257, v755] : Fin 2 → IVec S16 32) a x).toNat < S128x18.size a)
theorem k2_idx391_inb : ∀ (v257 : IVec S16 32) (v755 : IVec S16 32) (k2_hw391 : k2_chk391 v257 v755), ∀ a x, ((![v257, v755] : Fin 2 → IVec S16 32) a x).toNat < S128x18.size a := fun v257 v755 k2_hw391 => k2_hw391

def k2_chk392 (v257 : IVec S16 32) (v761 : IVec S16 32) : Prop :=
  (∀ a x, ((![v257, v761] : Fin 2 → IVec S16 32) a x).toNat < S128x18.size a)
theorem k2_idx392_inb : ∀ (v257 : IVec S16 32) (v761 : IVec S16 32) (k2_hw392 : k2_chk392 v257 v761), ∀ a x, ((![v257, v761] : Fin 2 → IVec S16 32) a x).toNat < S128x18.size a := fun v257 v761 k2_hw392 => k2_hw392

def k2_chk393 (v257 : IVec S16 32) (v767 : IVec S16 32) : Prop :=
  (∀ a x, ((![v257, v767] : Fin 2 → IVec S16 32) a x).toNat < S128x18.size a)
theorem k2_idx393_inb : ∀ (v257 : IVec S16 32) (v767 : IVec S16 32) (k2_hw393 : k2_chk393 v257 v767), ∀ a x, ((![v257, v767] : Fin 2 → IVec S16 32) a x).toNat < S128x18.size a := fun v257 v767 k2_hw393 => k2_hw393

def k2_chk394 (v257 : IVec S16 32) (v773 : IVec S16 32) : Prop :=
  (∀ a x, ((![v257, v773] : Fin 2 → IVec S16 32) a x).toNat < S128x18.size a)
theorem k2_idx394_inb : ∀ (v257 : IVec S16 32) (v773 : IVec S16 32) (k2_hw394 : k2_chk394 v257 v773), ∀ a x, ((![v257, v773] : Fin 2 → IVec S16 32) a x).toNat < S128x18.size a := fun v257 v773 k2_hw394 => k2_hw394

def k2_chk395 (v257 : IVec S16 32) (v779 : IVec S16 32) : Prop :=
  (∀ a x, ((![v257, v779] : Fin 2 → IVec S16 32) a x).toNat < S128x18.size a)
theorem k2_idx395_inb : ∀ (v257 : IVec S16 32) (v779 : IVec S16 32) (k2_hw395 : k2_chk395 v257 v779), ∀ a x, ((![v257, v779] : Fin 2 → IVec S16 32) a x).toNat < S128x18.size a := fun v257 v779 k2_hw395 => k2_hw395

def k2_chk396 (v257 : IVec S16 32) (v785 : IVec S16 32) : Prop :=
  (∀ a x, ((![v257, v785] : Fin 2 → IVec S16 32) a x).toNat < S128x18.size a)
theorem k2_idx396_inb : ∀ (v257 : IVec S16 32) (v785 : IVec S16 32) (k2_hw396 : k2_chk396 v257 v785), ∀ a x, ((![v257, v785] : Fin 2 → IVec S16 32) a x).toNat < S128x18.size a := fun v257 v785 k2_hw396 => k2_hw396

def k2_chk397 (v257 : IVec S16 32) (v791 : IVec S16 32) : Prop :=
  (∀ a x, ((![v257, v791] : Fin 2 → IVec S16 32) a x).toNat < S128x18.size a)
theorem k2_idx397_inb : ∀ (v257 : IVec S16 32) (v791 : IVec S16 32) (k2_hw397 : k2_chk397 v257 v791), ∀ a x, ((![v257, v791] : Fin 2 → IVec S16 32) a x).toNat < S128x18.size a := fun v257 v791 k2_hw397 => k2_hw397

def k2_chk398 (v257 : IVec S16 32) (v797 : IVec S16 32) : Prop :=
  (∀ a x, ((![v257, v797] : Fin 2 → IVec S16 32) a x).toNat < S128x18.size a)
theorem k2_idx398_inb : ∀ (v257 : IVec S16 32) (v797 : IVec S16 32) (k2_hw398 : k2_chk398 v257 v797), ∀ a x, ((![v257, v797] : Fin 2 → IVec S16 32) a x).toNat < S128x18.size a := fun v257 v797 k2_hw398 => k2_hw398

def k2_chk399 (v257 : IVec S16 32) (v803 : IVec S16 32) : Prop :=
  (∀ a x, ((![v257, v803] : Fin 2 → IVec S16 32) a x).toNat < S128x18.size a)
theorem k2_idx399_inb : ∀ (v257 : IVec S16 32) (v803 : IVec S16 32) (k2_hw399 : k2_chk399 v257 v803), ∀ a x, ((![v257, v803] : Fin 2 → IVec S16 32) a x).toNat < S128x18.size a := fun v257 v803 k2_hw399 => k2_hw399

def k2_chk400 (v257 : IVec S16 32) (v809 : IVec S16 32) : Prop :=
  (∀ a x, ((![v257, v809] : Fin 2 → IVec S16 32) a x).toNat < S128x18.size a)
theorem k2_idx400_inb : ∀ (v257 : IVec S16 32) (v809 : IVec S16 32) (k2_hw400 : k2_chk400 v257 v809), ∀ a x, ((![v257, v809] : Fin 2 → IVec S16 32) a x).toNat < S128x18.size a := fun v257 v809 k2_hw400 => k2_hw400

def k2_chk401 (v257 : IVec S16 32) (v815 : IVec S16 32) : Prop :=
  (∀ a x, ((![v257, v815] : Fin 2 → IVec S16 32) a x).toNat < S128x18.size a)
theorem k2_idx401_inb : ∀ (v257 : IVec S16 32) (v815 : IVec S16 32) (k2_hw401 : k2_chk401 v257 v815), ∀ a x, ((![v257, v815] : Fin 2 → IVec S16 32) a x).toNat < S128x18.size a := fun v257 v815 k2_hw401 => k2_hw401

def k2_chk402 (v257 : IVec S16 32) (v821 : IVec S16 32) : Prop :=
  (∀ a x, ((![v257, v821] : Fin 2 → IVec S16 32) a x).toNat < S128x18.size a)
theorem k2_idx402_inb : ∀ (v257 : IVec S16 32) (v821 : IVec S16 32) (k2_hw402 : k2_chk402 v257 v821), ∀ a x, ((![v257, v821] : Fin 2 → IVec S16 32) a x).toNat < S128x18.size a := fun v257 v821 k2_hw402 => k2_hw402

def k2_chk403 (v257 : IVec S16 32) (v827 : IVec S16 32) : Prop :=
  (∀ a x, ((![v257, v827] : Fin 2 → IVec S16 32) a x).toNat < S128x18.size a)
theorem k2_idx403_inb : ∀ (v257 : IVec S16 32) (v827 : IVec S16 32) (k2_hw403 : k2_chk403 v257 v827), ∀ a x, ((![v257, v827] : Fin 2 → IVec S16 32) a x).toNat < S128x18.size a := fun v257 v827 k2_hw403 => k2_hw403

def k2_chk404 (v257 : IVec S16 32) (v833 : IVec S16 32) : Prop :=
  (∀ a x, ((![v257, v833] : Fin 2 → IVec S16 32) a x).toNat < S128x18.size a)
theorem k2_idx404_inb : ∀ (v257 : IVec S16 32) (v833 : IVec S16 32) (k2_hw404 : k2_chk404 v257 v833), ∀ a x, ((![v257, v833] : Fin 2 → IVec S16 32) a x).toNat < S128x18.size a := fun v257 v833 k2_hw404 => k2_hw404

def k2_chk405 (v257 : IVec S16 32) (v839 : IVec S16 32) : Prop :=
  (∀ a x, ((![v257, v839] : Fin 2 → IVec S16 32) a x).toNat < S128x18.size a)
theorem k2_idx405_inb : ∀ (v257 : IVec S16 32) (v839 : IVec S16 32) (k2_hw405 : k2_chk405 v257 v839), ∀ a x, ((![v257, v839] : Fin 2 → IVec S16 32) a x).toNat < S128x18.size a := fun v257 v839 k2_hw405 => k2_hw405

def k2_chk406 (v257 : IVec S16 32) (v845 : IVec S16 32) : Prop :=
  (∀ a x, ((![v257, v845] : Fin 2 → IVec S16 32) a x).toNat < S128x18.size a)
theorem k2_idx406_inb : ∀ (v257 : IVec S16 32) (v845 : IVec S16 32) (k2_hw406 : k2_chk406 v257 v845), ∀ a x, ((![v257, v845] : Fin 2 → IVec S16 32) a x).toNat < S128x18.size a := fun v257 v845 k2_hw406 => k2_hw406

def k2_chk407 (v257 : IVec S16 32) (v851 : IVec S16 32) : Prop :=
  (∀ a x, ((![v257, v851] : Fin 2 → IVec S16 32) a x).toNat < S128x18.size a)
theorem k2_idx407_inb : ∀ (v257 : IVec S16 32) (v851 : IVec S16 32) (k2_hw407 : k2_chk407 v257 v851), ∀ a x, ((![v257, v851] : Fin 2 → IVec S16 32) a x).toNat < S128x18.size a := fun v257 v851 k2_hw407 => k2_hw407

def k2_chk408 (v257 : IVec S16 32) (v857 : IVec S16 32) : Prop :=
  (∀ a x, ((![v257, v857] : Fin 2 → IVec S16 32) a x).toNat < S128x18.size a)
theorem k2_idx408_inb : ∀ (v257 : IVec S16 32) (v857 : IVec S16 32) (k2_hw408 : k2_chk408 v257 v857), ∀ a x, ((![v257, v857] : Fin 2 → IVec S16 32) a x).toNat < S128x18.size a := fun v257 v857 k2_hw408 => k2_hw408
@[reducible] def k2_t6_loop : Scf.Loop 32 :=
  let c0_i32_69 : BitVec 32 := 0#32
  let c2_i32_70 : BitVec 32 := 2#32
  let v54 : BitVec 32 := Scalar.addi c0_i32_69 c2_i32_70
  let c1_i32_71 : BitVec 32 := 1#32
  ⟨c0_i32_69, v54, c1_i32_71⟩
def k2_off10 (k2_t6 : Fin k2_t6_loop.trips) (c0_i32_243 : BitVec 32) : Fin 1 → Nat :=
  let c512_i32_244 : BitVec 32 := 512#32
  let c0_i32_69 : BitVec 32 := 0#32
  let c1_i32_71 : BitVec 32 := 1#32
  let arg18 : BitVec 32 := Scf.iv c0_i32_69 c1_i32_71 k2_t6
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c512_i32_244 v184
  let v186 : Index := Scalar.indexCast v185
  ![v186.toNat]

def k2_chk409 (v200 : IVec S16 32) (v263 : IVec S16 32) : Prop :=
  (∀ a x, ((![v200, v263] : Fin 2 → IVec S16 32) a x).toNat < S128x128.size a)
theorem k2_idx409_inb : ∀ (v200 : IVec S16 32) (v263 : IVec S16 32) (k2_hw409 : k2_chk409 v200 v263), ∀ a x, ((![v200, v263] : Fin 2 → IVec S16 32) a x).toNat < S128x128.size a := fun v200 v263 k2_hw409 => k2_hw409

def k2_chk410 (v219 : IVec S16 32) (v270 : IVec S16 32) : Prop :=
  (∀ a x, ((![v219, v270] : Fin 2 → IVec S16 32) a x).toNat < S128x128.size a)
theorem k2_idx410_inb : ∀ (v219 : IVec S16 32) (v270 : IVec S16 32) (k2_hw410 : k2_chk410 v219 v270), ∀ a x, ((![v219, v270] : Fin 2 → IVec S16 32) a x).toNat < S128x128.size a := fun v219 v270 k2_hw410 => k2_hw410

def k2_chk411 (v238 : IVec S16 32) (v277 : IVec S16 32) : Prop :=
  (∀ a x, ((![v238, v277] : Fin 2 → IVec S16 32) a x).toNat < S128x128.size a)
theorem k2_idx411_inb : ∀ (v238 : IVec S16 32) (v277 : IVec S16 32) (k2_hw411 : k2_chk411 v238 v277), ∀ a x, ((![v238, v277] : Fin 2 → IVec S16 32) a x).toNat < S128x128.size a := fun v238 v277 k2_hw411 => k2_hw411

def k2_chk412 (v257 : IVec S16 32) (v284 : IVec S16 32) : Prop :=
  (∀ a x, ((![v257, v284] : Fin 2 → IVec S16 32) a x).toNat < S128x128.size a)
theorem k2_idx412_inb : ∀ (v257 : IVec S16 32) (v284 : IVec S16 32) (k2_hw412 : k2_chk412 v257 v284), ∀ a x, ((![v257, v284] : Fin 2 → IVec S16 32) a x).toNat < S128x128.size a := fun v257 v284 k2_hw412 => k2_hw412

def k2_chk413 (v200 : IVec S16 32) (v303 : IVec S16 32) : Prop :=
  (∀ a x, ((![v200, v303] : Fin 2 → IVec S16 32) a x).toNat < S128x128.size a)
theorem k2_idx413_inb : ∀ (v200 : IVec S16 32) (v303 : IVec S16 32) (k2_hw413 : k2_chk413 v200 v303), ∀ a x, ((![v200, v303] : Fin 2 → IVec S16 32) a x).toNat < S128x128.size a := fun v200 v303 k2_hw413 => k2_hw413

def k2_chk414 (v219 : IVec S16 32) (v310 : IVec S16 32) : Prop :=
  (∀ a x, ((![v219, v310] : Fin 2 → IVec S16 32) a x).toNat < S128x128.size a)
theorem k2_idx414_inb : ∀ (v219 : IVec S16 32) (v310 : IVec S16 32) (k2_hw414 : k2_chk414 v219 v310), ∀ a x, ((![v219, v310] : Fin 2 → IVec S16 32) a x).toNat < S128x128.size a := fun v219 v310 k2_hw414 => k2_hw414

def k2_chk415 (v238 : IVec S16 32) (v317 : IVec S16 32) : Prop :=
  (∀ a x, ((![v238, v317] : Fin 2 → IVec S16 32) a x).toNat < S128x128.size a)
theorem k2_idx415_inb : ∀ (v238 : IVec S16 32) (v317 : IVec S16 32) (k2_hw415 : k2_chk415 v238 v317), ∀ a x, ((![v238, v317] : Fin 2 → IVec S16 32) a x).toNat < S128x128.size a := fun v238 v317 k2_hw415 => k2_hw415

def k2_chk416 (v257 : IVec S16 32) (v324 : IVec S16 32) : Prop :=
  (∀ a x, ((![v257, v324] : Fin 2 → IVec S16 32) a x).toNat < S128x128.size a)
theorem k2_idx416_inb : ∀ (v257 : IVec S16 32) (v324 : IVec S16 32) (k2_hw416 : k2_chk416 v257 v324), ∀ a x, ((![v257, v324] : Fin 2 → IVec S16 32) a x).toNat < S128x128.size a := fun v257 v324 k2_hw416 => k2_hw416

def k2_chk417 (v200 : IVec S16 32) (v343 : IVec S16 32) : Prop :=
  (∀ a x, ((![v200, v343] : Fin 2 → IVec S16 32) a x).toNat < S128x128.size a)
theorem k2_idx417_inb : ∀ (v200 : IVec S16 32) (v343 : IVec S16 32) (k2_hw417 : k2_chk417 v200 v343), ∀ a x, ((![v200, v343] : Fin 2 → IVec S16 32) a x).toNat < S128x128.size a := fun v200 v343 k2_hw417 => k2_hw417

def k2_chk418 (v219 : IVec S16 32) (v350 : IVec S16 32) : Prop :=
  (∀ a x, ((![v219, v350] : Fin 2 → IVec S16 32) a x).toNat < S128x128.size a)
theorem k2_idx418_inb : ∀ (v219 : IVec S16 32) (v350 : IVec S16 32) (k2_hw418 : k2_chk418 v219 v350), ∀ a x, ((![v219, v350] : Fin 2 → IVec S16 32) a x).toNat < S128x128.size a := fun v219 v350 k2_hw418 => k2_hw418

def k2_chk419 (v238 : IVec S16 32) (v357 : IVec S16 32) : Prop :=
  (∀ a x, ((![v238, v357] : Fin 2 → IVec S16 32) a x).toNat < S128x128.size a)
theorem k2_idx419_inb : ∀ (v238 : IVec S16 32) (v357 : IVec S16 32) (k2_hw419 : k2_chk419 v238 v357), ∀ a x, ((![v238, v357] : Fin 2 → IVec S16 32) a x).toNat < S128x128.size a := fun v238 v357 k2_hw419 => k2_hw419

def k2_chk420 (v257 : IVec S16 32) (v364 : IVec S16 32) : Prop :=
  (∀ a x, ((![v257, v364] : Fin 2 → IVec S16 32) a x).toNat < S128x128.size a)
theorem k2_idx420_inb : ∀ (v257 : IVec S16 32) (v364 : IVec S16 32) (k2_hw420 : k2_chk420 v257 v364), ∀ a x, ((![v257, v364] : Fin 2 → IVec S16 32) a x).toNat < S128x128.size a := fun v257 v364 k2_hw420 => k2_hw420

def k2_chk421 (v200 : IVec S16 32) (v383 : IVec S16 32) : Prop :=
  (∀ a x, ((![v200, v383] : Fin 2 → IVec S16 32) a x).toNat < S128x128.size a)
theorem k2_idx421_inb : ∀ (v200 : IVec S16 32) (v383 : IVec S16 32) (k2_hw421 : k2_chk421 v200 v383), ∀ a x, ((![v200, v383] : Fin 2 → IVec S16 32) a x).toNat < S128x128.size a := fun v200 v383 k2_hw421 => k2_hw421

def k2_chk422 (v219 : IVec S16 32) (v390 : IVec S16 32) : Prop :=
  (∀ a x, ((![v219, v390] : Fin 2 → IVec S16 32) a x).toNat < S128x128.size a)
theorem k2_idx422_inb : ∀ (v219 : IVec S16 32) (v390 : IVec S16 32) (k2_hw422 : k2_chk422 v219 v390), ∀ a x, ((![v219, v390] : Fin 2 → IVec S16 32) a x).toNat < S128x128.size a := fun v219 v390 k2_hw422 => k2_hw422

def k2_chk423 (v238 : IVec S16 32) (v397 : IVec S16 32) : Prop :=
  (∀ a x, ((![v238, v397] : Fin 2 → IVec S16 32) a x).toNat < S128x128.size a)
theorem k2_idx423_inb : ∀ (v238 : IVec S16 32) (v397 : IVec S16 32) (k2_hw423 : k2_chk423 v238 v397), ∀ a x, ((![v238, v397] : Fin 2 → IVec S16 32) a x).toNat < S128x128.size a := fun v238 v397 k2_hw423 => k2_hw423

def k2_chk424 (v257 : IVec S16 32) (v404 : IVec S16 32) : Prop :=
  (∀ a x, ((![v257, v404] : Fin 2 → IVec S16 32) a x).toNat < S128x128.size a)
theorem k2_idx424_inb : ∀ (v257 : IVec S16 32) (v404 : IVec S16 32) (k2_hw424 : k2_chk424 v257 v404), ∀ a x, ((![v257, v404] : Fin 2 → IVec S16 32) a x).toNat < S128x128.size a := fun v257 v404 k2_hw424 => k2_hw424

def k2_chk425 (v200 : IVec S16 32) (v425 : IVec S16 32) : Prop :=
  (∀ a x, ((![v200, v425] : Fin 2 → IVec S16 32) a x).toNat < S128x18.size a)
theorem k2_idx425_inb : ∀ (v200 : IVec S16 32) (v425 : IVec S16 32) (k2_hw425 : k2_chk425 v200 v425), ∀ a x, ((![v200, v425] : Fin 2 → IVec S16 32) a x).toNat < S128x18.size a := fun v200 v425 k2_hw425 => k2_hw425

def k2_chk426 (v200 : IVec S16 32) (v431 : IVec S16 32) : Prop :=
  (∀ a x, ((![v200, v431] : Fin 2 → IVec S16 32) a x).toNat < S128x18.size a)
theorem k2_idx426_inb : ∀ (v200 : IVec S16 32) (v431 : IVec S16 32) (k2_hw426 : k2_chk426 v200 v431), ∀ a x, ((![v200, v431] : Fin 2 → IVec S16 32) a x).toNat < S128x18.size a := fun v200 v431 k2_hw426 => k2_hw426

def k2_chk427 (v200 : IVec S16 32) (v437 : IVec S16 32) : Prop :=
  (∀ a x, ((![v200, v437] : Fin 2 → IVec S16 32) a x).toNat < S128x18.size a)
theorem k2_idx427_inb : ∀ (v200 : IVec S16 32) (v437 : IVec S16 32) (k2_hw427 : k2_chk427 v200 v437), ∀ a x, ((![v200, v437] : Fin 2 → IVec S16 32) a x).toNat < S128x18.size a := fun v200 v437 k2_hw427 => k2_hw427

def k2_chk428 (v200 : IVec S16 32) (v443 : IVec S16 32) : Prop :=
  (∀ a x, ((![v200, v443] : Fin 2 → IVec S16 32) a x).toNat < S128x18.size a)
theorem k2_idx428_inb : ∀ (v200 : IVec S16 32) (v443 : IVec S16 32) (k2_hw428 : k2_chk428 v200 v443), ∀ a x, ((![v200, v443] : Fin 2 → IVec S16 32) a x).toNat < S128x18.size a := fun v200 v443 k2_hw428 => k2_hw428

def k2_chk429 (v200 : IVec S16 32) (v449 : IVec S16 32) : Prop :=
  (∀ a x, ((![v200, v449] : Fin 2 → IVec S16 32) a x).toNat < S128x18.size a)
theorem k2_idx429_inb : ∀ (v200 : IVec S16 32) (v449 : IVec S16 32) (k2_hw429 : k2_chk429 v200 v449), ∀ a x, ((![v200, v449] : Fin 2 → IVec S16 32) a x).toNat < S128x18.size a := fun v200 v449 k2_hw429 => k2_hw429

def k2_chk430 (v200 : IVec S16 32) (v455 : IVec S16 32) : Prop :=
  (∀ a x, ((![v200, v455] : Fin 2 → IVec S16 32) a x).toNat < S128x18.size a)
theorem k2_idx430_inb : ∀ (v200 : IVec S16 32) (v455 : IVec S16 32) (k2_hw430 : k2_chk430 v200 v455), ∀ a x, ((![v200, v455] : Fin 2 → IVec S16 32) a x).toNat < S128x18.size a := fun v200 v455 k2_hw430 => k2_hw430

def k2_chk431 (v200 : IVec S16 32) (v461 : IVec S16 32) : Prop :=
  (∀ a x, ((![v200, v461] : Fin 2 → IVec S16 32) a x).toNat < S128x18.size a)
theorem k2_idx431_inb : ∀ (v200 : IVec S16 32) (v461 : IVec S16 32) (k2_hw431 : k2_chk431 v200 v461), ∀ a x, ((![v200, v461] : Fin 2 → IVec S16 32) a x).toNat < S128x18.size a := fun v200 v461 k2_hw431 => k2_hw431

def k2_chk432 (v200 : IVec S16 32) (v467 : IVec S16 32) : Prop :=
  (∀ a x, ((![v200, v467] : Fin 2 → IVec S16 32) a x).toNat < S128x18.size a)
theorem k2_idx432_inb : ∀ (v200 : IVec S16 32) (v467 : IVec S16 32) (k2_hw432 : k2_chk432 v200 v467), ∀ a x, ((![v200, v467] : Fin 2 → IVec S16 32) a x).toNat < S128x18.size a := fun v200 v467 k2_hw432 => k2_hw432

def k2_chk433 (v200 : IVec S16 32) (v473 : IVec S16 32) : Prop :=
  (∀ a x, ((![v200, v473] : Fin 2 → IVec S16 32) a x).toNat < S128x18.size a)
theorem k2_idx433_inb : ∀ (v200 : IVec S16 32) (v473 : IVec S16 32) (k2_hw433 : k2_chk433 v200 v473), ∀ a x, ((![v200, v473] : Fin 2 → IVec S16 32) a x).toNat < S128x18.size a := fun v200 v473 k2_hw433 => k2_hw433

def k2_chk434 (v200 : IVec S16 32) (v479 : IVec S16 32) : Prop :=
  (∀ a x, ((![v200, v479] : Fin 2 → IVec S16 32) a x).toNat < S128x18.size a)
theorem k2_idx434_inb : ∀ (v200 : IVec S16 32) (v479 : IVec S16 32) (k2_hw434 : k2_chk434 v200 v479), ∀ a x, ((![v200, v479] : Fin 2 → IVec S16 32) a x).toNat < S128x18.size a := fun v200 v479 k2_hw434 => k2_hw434

def k2_chk435 (v200 : IVec S16 32) (v485 : IVec S16 32) : Prop :=
  (∀ a x, ((![v200, v485] : Fin 2 → IVec S16 32) a x).toNat < S128x18.size a)
theorem k2_idx435_inb : ∀ (v200 : IVec S16 32) (v485 : IVec S16 32) (k2_hw435 : k2_chk435 v200 v485), ∀ a x, ((![v200, v485] : Fin 2 → IVec S16 32) a x).toNat < S128x18.size a := fun v200 v485 k2_hw435 => k2_hw435

def k2_chk436 (v200 : IVec S16 32) (v491 : IVec S16 32) : Prop :=
  (∀ a x, ((![v200, v491] : Fin 2 → IVec S16 32) a x).toNat < S128x18.size a)
theorem k2_idx436_inb : ∀ (v200 : IVec S16 32) (v491 : IVec S16 32) (k2_hw436 : k2_chk436 v200 v491), ∀ a x, ((![v200, v491] : Fin 2 → IVec S16 32) a x).toNat < S128x18.size a := fun v200 v491 k2_hw436 => k2_hw436

def k2_chk437 (v200 : IVec S16 32) (v497 : IVec S16 32) : Prop :=
  (∀ a x, ((![v200, v497] : Fin 2 → IVec S16 32) a x).toNat < S128x18.size a)
theorem k2_idx437_inb : ∀ (v200 : IVec S16 32) (v497 : IVec S16 32) (k2_hw437 : k2_chk437 v200 v497), ∀ a x, ((![v200, v497] : Fin 2 → IVec S16 32) a x).toNat < S128x18.size a := fun v200 v497 k2_hw437 => k2_hw437

def k2_chk438 (v200 : IVec S16 32) (v503 : IVec S16 32) : Prop :=
  (∀ a x, ((![v200, v503] : Fin 2 → IVec S16 32) a x).toNat < S128x18.size a)
theorem k2_idx438_inb : ∀ (v200 : IVec S16 32) (v503 : IVec S16 32) (k2_hw438 : k2_chk438 v200 v503), ∀ a x, ((![v200, v503] : Fin 2 → IVec S16 32) a x).toNat < S128x18.size a := fun v200 v503 k2_hw438 => k2_hw438

def k2_chk439 (v200 : IVec S16 32) (v509 : IVec S16 32) : Prop :=
  (∀ a x, ((![v200, v509] : Fin 2 → IVec S16 32) a x).toNat < S128x18.size a)
theorem k2_idx439_inb : ∀ (v200 : IVec S16 32) (v509 : IVec S16 32) (k2_hw439 : k2_chk439 v200 v509), ∀ a x, ((![v200, v509] : Fin 2 → IVec S16 32) a x).toNat < S128x18.size a := fun v200 v509 k2_hw439 => k2_hw439

def k2_chk440 (v200 : IVec S16 32) (v515 : IVec S16 32) : Prop :=
  (∀ a x, ((![v200, v515] : Fin 2 → IVec S16 32) a x).toNat < S128x18.size a)
theorem k2_idx440_inb : ∀ (v200 : IVec S16 32) (v515 : IVec S16 32) (k2_hw440 : k2_chk440 v200 v515), ∀ a x, ((![v200, v515] : Fin 2 → IVec S16 32) a x).toNat < S128x18.size a := fun v200 v515 k2_hw440 => k2_hw440

def k2_chk441 (v200 : IVec S16 32) (v521 : IVec S16 32) : Prop :=
  (∀ a x, ((![v200, v521] : Fin 2 → IVec S16 32) a x).toNat < S128x18.size a)
theorem k2_idx441_inb : ∀ (v200 : IVec S16 32) (v521 : IVec S16 32) (k2_hw441 : k2_chk441 v200 v521), ∀ a x, ((![v200, v521] : Fin 2 → IVec S16 32) a x).toNat < S128x18.size a := fun v200 v521 k2_hw441 => k2_hw441

def k2_chk442 (v200 : IVec S16 32) (v527 : IVec S16 32) : Prop :=
  (∀ a x, ((![v200, v527] : Fin 2 → IVec S16 32) a x).toNat < S128x18.size a)
theorem k2_idx442_inb : ∀ (v200 : IVec S16 32) (v527 : IVec S16 32) (k2_hw442 : k2_chk442 v200 v527), ∀ a x, ((![v200, v527] : Fin 2 → IVec S16 32) a x).toNat < S128x18.size a := fun v200 v527 k2_hw442 => k2_hw442

def k2_chk443 (v219 : IVec S16 32) (v535 : IVec S16 32) : Prop :=
  (∀ a x, ((![v219, v535] : Fin 2 → IVec S16 32) a x).toNat < S128x18.size a)
theorem k2_idx443_inb : ∀ (v219 : IVec S16 32) (v535 : IVec S16 32) (k2_hw443 : k2_chk443 v219 v535), ∀ a x, ((![v219, v535] : Fin 2 → IVec S16 32) a x).toNat < S128x18.size a := fun v219 v535 k2_hw443 => k2_hw443

def k2_chk444 (v219 : IVec S16 32) (v541 : IVec S16 32) : Prop :=
  (∀ a x, ((![v219, v541] : Fin 2 → IVec S16 32) a x).toNat < S128x18.size a)
theorem k2_idx444_inb : ∀ (v219 : IVec S16 32) (v541 : IVec S16 32) (k2_hw444 : k2_chk444 v219 v541), ∀ a x, ((![v219, v541] : Fin 2 → IVec S16 32) a x).toNat < S128x18.size a := fun v219 v541 k2_hw444 => k2_hw444

def k2_chk445 (v219 : IVec S16 32) (v547 : IVec S16 32) : Prop :=
  (∀ a x, ((![v219, v547] : Fin 2 → IVec S16 32) a x).toNat < S128x18.size a)
theorem k2_idx445_inb : ∀ (v219 : IVec S16 32) (v547 : IVec S16 32) (k2_hw445 : k2_chk445 v219 v547), ∀ a x, ((![v219, v547] : Fin 2 → IVec S16 32) a x).toNat < S128x18.size a := fun v219 v547 k2_hw445 => k2_hw445

def k2_chk446 (v219 : IVec S16 32) (v553 : IVec S16 32) : Prop :=
  (∀ a x, ((![v219, v553] : Fin 2 → IVec S16 32) a x).toNat < S128x18.size a)
theorem k2_idx446_inb : ∀ (v219 : IVec S16 32) (v553 : IVec S16 32) (k2_hw446 : k2_chk446 v219 v553), ∀ a x, ((![v219, v553] : Fin 2 → IVec S16 32) a x).toNat < S128x18.size a := fun v219 v553 k2_hw446 => k2_hw446

def k2_chk447 (v219 : IVec S16 32) (v559 : IVec S16 32) : Prop :=
  (∀ a x, ((![v219, v559] : Fin 2 → IVec S16 32) a x).toNat < S128x18.size a)
theorem k2_idx447_inb : ∀ (v219 : IVec S16 32) (v559 : IVec S16 32) (k2_hw447 : k2_chk447 v219 v559), ∀ a x, ((![v219, v559] : Fin 2 → IVec S16 32) a x).toNat < S128x18.size a := fun v219 v559 k2_hw447 => k2_hw447

def k2_chk448 (v219 : IVec S16 32) (v565 : IVec S16 32) : Prop :=
  (∀ a x, ((![v219, v565] : Fin 2 → IVec S16 32) a x).toNat < S128x18.size a)
theorem k2_idx448_inb : ∀ (v219 : IVec S16 32) (v565 : IVec S16 32) (k2_hw448 : k2_chk448 v219 v565), ∀ a x, ((![v219, v565] : Fin 2 → IVec S16 32) a x).toNat < S128x18.size a := fun v219 v565 k2_hw448 => k2_hw448

def k2_chk449 (v219 : IVec S16 32) (v571 : IVec S16 32) : Prop :=
  (∀ a x, ((![v219, v571] : Fin 2 → IVec S16 32) a x).toNat < S128x18.size a)
theorem k2_idx449_inb : ∀ (v219 : IVec S16 32) (v571 : IVec S16 32) (k2_hw449 : k2_chk449 v219 v571), ∀ a x, ((![v219, v571] : Fin 2 → IVec S16 32) a x).toNat < S128x18.size a := fun v219 v571 k2_hw449 => k2_hw449

def k2_chk450 (v219 : IVec S16 32) (v577 : IVec S16 32) : Prop :=
  (∀ a x, ((![v219, v577] : Fin 2 → IVec S16 32) a x).toNat < S128x18.size a)
theorem k2_idx450_inb : ∀ (v219 : IVec S16 32) (v577 : IVec S16 32) (k2_hw450 : k2_chk450 v219 v577), ∀ a x, ((![v219, v577] : Fin 2 → IVec S16 32) a x).toNat < S128x18.size a := fun v219 v577 k2_hw450 => k2_hw450

def k2_chk451 (v219 : IVec S16 32) (v583 : IVec S16 32) : Prop :=
  (∀ a x, ((![v219, v583] : Fin 2 → IVec S16 32) a x).toNat < S128x18.size a)
theorem k2_idx451_inb : ∀ (v219 : IVec S16 32) (v583 : IVec S16 32) (k2_hw451 : k2_chk451 v219 v583), ∀ a x, ((![v219, v583] : Fin 2 → IVec S16 32) a x).toNat < S128x18.size a := fun v219 v583 k2_hw451 => k2_hw451

def k2_chk452 (v219 : IVec S16 32) (v589 : IVec S16 32) : Prop :=
  (∀ a x, ((![v219, v589] : Fin 2 → IVec S16 32) a x).toNat < S128x18.size a)
theorem k2_idx452_inb : ∀ (v219 : IVec S16 32) (v589 : IVec S16 32) (k2_hw452 : k2_chk452 v219 v589), ∀ a x, ((![v219, v589] : Fin 2 → IVec S16 32) a x).toNat < S128x18.size a := fun v219 v589 k2_hw452 => k2_hw452

def k2_chk453 (v219 : IVec S16 32) (v595 : IVec S16 32) : Prop :=
  (∀ a x, ((![v219, v595] : Fin 2 → IVec S16 32) a x).toNat < S128x18.size a)
theorem k2_idx453_inb : ∀ (v219 : IVec S16 32) (v595 : IVec S16 32) (k2_hw453 : k2_chk453 v219 v595), ∀ a x, ((![v219, v595] : Fin 2 → IVec S16 32) a x).toNat < S128x18.size a := fun v219 v595 k2_hw453 => k2_hw453

def k2_chk454 (v219 : IVec S16 32) (v601 : IVec S16 32) : Prop :=
  (∀ a x, ((![v219, v601] : Fin 2 → IVec S16 32) a x).toNat < S128x18.size a)
theorem k2_idx454_inb : ∀ (v219 : IVec S16 32) (v601 : IVec S16 32) (k2_hw454 : k2_chk454 v219 v601), ∀ a x, ((![v219, v601] : Fin 2 → IVec S16 32) a x).toNat < S128x18.size a := fun v219 v601 k2_hw454 => k2_hw454

def k2_chk455 (v219 : IVec S16 32) (v607 : IVec S16 32) : Prop :=
  (∀ a x, ((![v219, v607] : Fin 2 → IVec S16 32) a x).toNat < S128x18.size a)
theorem k2_idx455_inb : ∀ (v219 : IVec S16 32) (v607 : IVec S16 32) (k2_hw455 : k2_chk455 v219 v607), ∀ a x, ((![v219, v607] : Fin 2 → IVec S16 32) a x).toNat < S128x18.size a := fun v219 v607 k2_hw455 => k2_hw455

def k2_chk456 (v219 : IVec S16 32) (v613 : IVec S16 32) : Prop :=
  (∀ a x, ((![v219, v613] : Fin 2 → IVec S16 32) a x).toNat < S128x18.size a)
theorem k2_idx456_inb : ∀ (v219 : IVec S16 32) (v613 : IVec S16 32) (k2_hw456 : k2_chk456 v219 v613), ∀ a x, ((![v219, v613] : Fin 2 → IVec S16 32) a x).toNat < S128x18.size a := fun v219 v613 k2_hw456 => k2_hw456

def k2_chk457 (v219 : IVec S16 32) (v619 : IVec S16 32) : Prop :=
  (∀ a x, ((![v219, v619] : Fin 2 → IVec S16 32) a x).toNat < S128x18.size a)
theorem k2_idx457_inb : ∀ (v219 : IVec S16 32) (v619 : IVec S16 32) (k2_hw457 : k2_chk457 v219 v619), ∀ a x, ((![v219, v619] : Fin 2 → IVec S16 32) a x).toNat < S128x18.size a := fun v219 v619 k2_hw457 => k2_hw457

def k2_chk458 (v219 : IVec S16 32) (v625 : IVec S16 32) : Prop :=
  (∀ a x, ((![v219, v625] : Fin 2 → IVec S16 32) a x).toNat < S128x18.size a)
theorem k2_idx458_inb : ∀ (v219 : IVec S16 32) (v625 : IVec S16 32) (k2_hw458 : k2_chk458 v219 v625), ∀ a x, ((![v219, v625] : Fin 2 → IVec S16 32) a x).toNat < S128x18.size a := fun v219 v625 k2_hw458 => k2_hw458

def k2_chk459 (v219 : IVec S16 32) (v631 : IVec S16 32) : Prop :=
  (∀ a x, ((![v219, v631] : Fin 2 → IVec S16 32) a x).toNat < S128x18.size a)
theorem k2_idx459_inb : ∀ (v219 : IVec S16 32) (v631 : IVec S16 32) (k2_hw459 : k2_chk459 v219 v631), ∀ a x, ((![v219, v631] : Fin 2 → IVec S16 32) a x).toNat < S128x18.size a := fun v219 v631 k2_hw459 => k2_hw459

def k2_chk460 (v219 : IVec S16 32) (v637 : IVec S16 32) : Prop :=
  (∀ a x, ((![v219, v637] : Fin 2 → IVec S16 32) a x).toNat < S128x18.size a)
theorem k2_idx460_inb : ∀ (v219 : IVec S16 32) (v637 : IVec S16 32) (k2_hw460 : k2_chk460 v219 v637), ∀ a x, ((![v219, v637] : Fin 2 → IVec S16 32) a x).toNat < S128x18.size a := fun v219 v637 k2_hw460 => k2_hw460

def k2_chk461 (v238 : IVec S16 32) (v645 : IVec S16 32) : Prop :=
  (∀ a x, ((![v238, v645] : Fin 2 → IVec S16 32) a x).toNat < S128x18.size a)
theorem k2_idx461_inb : ∀ (v238 : IVec S16 32) (v645 : IVec S16 32) (k2_hw461 : k2_chk461 v238 v645), ∀ a x, ((![v238, v645] : Fin 2 → IVec S16 32) a x).toNat < S128x18.size a := fun v238 v645 k2_hw461 => k2_hw461

def k2_chk462 (v238 : IVec S16 32) (v651 : IVec S16 32) : Prop :=
  (∀ a x, ((![v238, v651] : Fin 2 → IVec S16 32) a x).toNat < S128x18.size a)
theorem k2_idx462_inb : ∀ (v238 : IVec S16 32) (v651 : IVec S16 32) (k2_hw462 : k2_chk462 v238 v651), ∀ a x, ((![v238, v651] : Fin 2 → IVec S16 32) a x).toNat < S128x18.size a := fun v238 v651 k2_hw462 => k2_hw462

def k2_chk463 (v238 : IVec S16 32) (v657 : IVec S16 32) : Prop :=
  (∀ a x, ((![v238, v657] : Fin 2 → IVec S16 32) a x).toNat < S128x18.size a)
theorem k2_idx463_inb : ∀ (v238 : IVec S16 32) (v657 : IVec S16 32) (k2_hw463 : k2_chk463 v238 v657), ∀ a x, ((![v238, v657] : Fin 2 → IVec S16 32) a x).toNat < S128x18.size a := fun v238 v657 k2_hw463 => k2_hw463

def k2_chk464 (v238 : IVec S16 32) (v663 : IVec S16 32) : Prop :=
  (∀ a x, ((![v238, v663] : Fin 2 → IVec S16 32) a x).toNat < S128x18.size a)
theorem k2_idx464_inb : ∀ (v238 : IVec S16 32) (v663 : IVec S16 32) (k2_hw464 : k2_chk464 v238 v663), ∀ a x, ((![v238, v663] : Fin 2 → IVec S16 32) a x).toNat < S128x18.size a := fun v238 v663 k2_hw464 => k2_hw464

def k2_chk465 (v238 : IVec S16 32) (v669 : IVec S16 32) : Prop :=
  (∀ a x, ((![v238, v669] : Fin 2 → IVec S16 32) a x).toNat < S128x18.size a)
theorem k2_idx465_inb : ∀ (v238 : IVec S16 32) (v669 : IVec S16 32) (k2_hw465 : k2_chk465 v238 v669), ∀ a x, ((![v238, v669] : Fin 2 → IVec S16 32) a x).toNat < S128x18.size a := fun v238 v669 k2_hw465 => k2_hw465

def k2_chk466 (v238 : IVec S16 32) (v675 : IVec S16 32) : Prop :=
  (∀ a x, ((![v238, v675] : Fin 2 → IVec S16 32) a x).toNat < S128x18.size a)
theorem k2_idx466_inb : ∀ (v238 : IVec S16 32) (v675 : IVec S16 32) (k2_hw466 : k2_chk466 v238 v675), ∀ a x, ((![v238, v675] : Fin 2 → IVec S16 32) a x).toNat < S128x18.size a := fun v238 v675 k2_hw466 => k2_hw466

def k2_chk467 (v238 : IVec S16 32) (v681 : IVec S16 32) : Prop :=
  (∀ a x, ((![v238, v681] : Fin 2 → IVec S16 32) a x).toNat < S128x18.size a)
theorem k2_idx467_inb : ∀ (v238 : IVec S16 32) (v681 : IVec S16 32) (k2_hw467 : k2_chk467 v238 v681), ∀ a x, ((![v238, v681] : Fin 2 → IVec S16 32) a x).toNat < S128x18.size a := fun v238 v681 k2_hw467 => k2_hw467

def k2_chk468 (v238 : IVec S16 32) (v687 : IVec S16 32) : Prop :=
  (∀ a x, ((![v238, v687] : Fin 2 → IVec S16 32) a x).toNat < S128x18.size a)
theorem k2_idx468_inb : ∀ (v238 : IVec S16 32) (v687 : IVec S16 32) (k2_hw468 : k2_chk468 v238 v687), ∀ a x, ((![v238, v687] : Fin 2 → IVec S16 32) a x).toNat < S128x18.size a := fun v238 v687 k2_hw468 => k2_hw468

def k2_chk469 (v238 : IVec S16 32) (v693 : IVec S16 32) : Prop :=
  (∀ a x, ((![v238, v693] : Fin 2 → IVec S16 32) a x).toNat < S128x18.size a)
theorem k2_idx469_inb : ∀ (v238 : IVec S16 32) (v693 : IVec S16 32) (k2_hw469 : k2_chk469 v238 v693), ∀ a x, ((![v238, v693] : Fin 2 → IVec S16 32) a x).toNat < S128x18.size a := fun v238 v693 k2_hw469 => k2_hw469

def k2_chk470 (v238 : IVec S16 32) (v699 : IVec S16 32) : Prop :=
  (∀ a x, ((![v238, v699] : Fin 2 → IVec S16 32) a x).toNat < S128x18.size a)
theorem k2_idx470_inb : ∀ (v238 : IVec S16 32) (v699 : IVec S16 32) (k2_hw470 : k2_chk470 v238 v699), ∀ a x, ((![v238, v699] : Fin 2 → IVec S16 32) a x).toNat < S128x18.size a := fun v238 v699 k2_hw470 => k2_hw470

def k2_chk471 (v238 : IVec S16 32) (v705 : IVec S16 32) : Prop :=
  (∀ a x, ((![v238, v705] : Fin 2 → IVec S16 32) a x).toNat < S128x18.size a)
theorem k2_idx471_inb : ∀ (v238 : IVec S16 32) (v705 : IVec S16 32) (k2_hw471 : k2_chk471 v238 v705), ∀ a x, ((![v238, v705] : Fin 2 → IVec S16 32) a x).toNat < S128x18.size a := fun v238 v705 k2_hw471 => k2_hw471

def k2_chk472 (v238 : IVec S16 32) (v711 : IVec S16 32) : Prop :=
  (∀ a x, ((![v238, v711] : Fin 2 → IVec S16 32) a x).toNat < S128x18.size a)
theorem k2_idx472_inb : ∀ (v238 : IVec S16 32) (v711 : IVec S16 32) (k2_hw472 : k2_chk472 v238 v711), ∀ a x, ((![v238, v711] : Fin 2 → IVec S16 32) a x).toNat < S128x18.size a := fun v238 v711 k2_hw472 => k2_hw472

def k2_chk473 (v238 : IVec S16 32) (v717 : IVec S16 32) : Prop :=
  (∀ a x, ((![v238, v717] : Fin 2 → IVec S16 32) a x).toNat < S128x18.size a)
theorem k2_idx473_inb : ∀ (v238 : IVec S16 32) (v717 : IVec S16 32) (k2_hw473 : k2_chk473 v238 v717), ∀ a x, ((![v238, v717] : Fin 2 → IVec S16 32) a x).toNat < S128x18.size a := fun v238 v717 k2_hw473 => k2_hw473

def k2_chk474 (v238 : IVec S16 32) (v723 : IVec S16 32) : Prop :=
  (∀ a x, ((![v238, v723] : Fin 2 → IVec S16 32) a x).toNat < S128x18.size a)
theorem k2_idx474_inb : ∀ (v238 : IVec S16 32) (v723 : IVec S16 32) (k2_hw474 : k2_chk474 v238 v723), ∀ a x, ((![v238, v723] : Fin 2 → IVec S16 32) a x).toNat < S128x18.size a := fun v238 v723 k2_hw474 => k2_hw474

def k2_chk475 (v238 : IVec S16 32) (v729 : IVec S16 32) : Prop :=
  (∀ a x, ((![v238, v729] : Fin 2 → IVec S16 32) a x).toNat < S128x18.size a)
theorem k2_idx475_inb : ∀ (v238 : IVec S16 32) (v729 : IVec S16 32) (k2_hw475 : k2_chk475 v238 v729), ∀ a x, ((![v238, v729] : Fin 2 → IVec S16 32) a x).toNat < S128x18.size a := fun v238 v729 k2_hw475 => k2_hw475

def k2_chk476 (v238 : IVec S16 32) (v735 : IVec S16 32) : Prop :=
  (∀ a x, ((![v238, v735] : Fin 2 → IVec S16 32) a x).toNat < S128x18.size a)
theorem k2_idx476_inb : ∀ (v238 : IVec S16 32) (v735 : IVec S16 32) (k2_hw476 : k2_chk476 v238 v735), ∀ a x, ((![v238, v735] : Fin 2 → IVec S16 32) a x).toNat < S128x18.size a := fun v238 v735 k2_hw476 => k2_hw476

def k2_chk477 (v238 : IVec S16 32) (v741 : IVec S16 32) : Prop :=
  (∀ a x, ((![v238, v741] : Fin 2 → IVec S16 32) a x).toNat < S128x18.size a)
theorem k2_idx477_inb : ∀ (v238 : IVec S16 32) (v741 : IVec S16 32) (k2_hw477 : k2_chk477 v238 v741), ∀ a x, ((![v238, v741] : Fin 2 → IVec S16 32) a x).toNat < S128x18.size a := fun v238 v741 k2_hw477 => k2_hw477

def k2_chk478 (v238 : IVec S16 32) (v747 : IVec S16 32) : Prop :=
  (∀ a x, ((![v238, v747] : Fin 2 → IVec S16 32) a x).toNat < S128x18.size a)
theorem k2_idx478_inb : ∀ (v238 : IVec S16 32) (v747 : IVec S16 32) (k2_hw478 : k2_chk478 v238 v747), ∀ a x, ((![v238, v747] : Fin 2 → IVec S16 32) a x).toNat < S128x18.size a := fun v238 v747 k2_hw478 => k2_hw478

def k2_chk479 (v257 : IVec S16 32) (v755 : IVec S16 32) : Prop :=
  (∀ a x, ((![v257, v755] : Fin 2 → IVec S16 32) a x).toNat < S128x18.size a)
theorem k2_idx479_inb : ∀ (v257 : IVec S16 32) (v755 : IVec S16 32) (k2_hw479 : k2_chk479 v257 v755), ∀ a x, ((![v257, v755] : Fin 2 → IVec S16 32) a x).toNat < S128x18.size a := fun v257 v755 k2_hw479 => k2_hw479

def k2_chk480 (v257 : IVec S16 32) (v761 : IVec S16 32) : Prop :=
  (∀ a x, ((![v257, v761] : Fin 2 → IVec S16 32) a x).toNat < S128x18.size a)
theorem k2_idx480_inb : ∀ (v257 : IVec S16 32) (v761 : IVec S16 32) (k2_hw480 : k2_chk480 v257 v761), ∀ a x, ((![v257, v761] : Fin 2 → IVec S16 32) a x).toNat < S128x18.size a := fun v257 v761 k2_hw480 => k2_hw480

def k2_chk481 (v257 : IVec S16 32) (v767 : IVec S16 32) : Prop :=
  (∀ a x, ((![v257, v767] : Fin 2 → IVec S16 32) a x).toNat < S128x18.size a)
theorem k2_idx481_inb : ∀ (v257 : IVec S16 32) (v767 : IVec S16 32) (k2_hw481 : k2_chk481 v257 v767), ∀ a x, ((![v257, v767] : Fin 2 → IVec S16 32) a x).toNat < S128x18.size a := fun v257 v767 k2_hw481 => k2_hw481

def k2_chk482 (v257 : IVec S16 32) (v773 : IVec S16 32) : Prop :=
  (∀ a x, ((![v257, v773] : Fin 2 → IVec S16 32) a x).toNat < S128x18.size a)
theorem k2_idx482_inb : ∀ (v257 : IVec S16 32) (v773 : IVec S16 32) (k2_hw482 : k2_chk482 v257 v773), ∀ a x, ((![v257, v773] : Fin 2 → IVec S16 32) a x).toNat < S128x18.size a := fun v257 v773 k2_hw482 => k2_hw482

def k2_chk483 (v257 : IVec S16 32) (v779 : IVec S16 32) : Prop :=
  (∀ a x, ((![v257, v779] : Fin 2 → IVec S16 32) a x).toNat < S128x18.size a)
theorem k2_idx483_inb : ∀ (v257 : IVec S16 32) (v779 : IVec S16 32) (k2_hw483 : k2_chk483 v257 v779), ∀ a x, ((![v257, v779] : Fin 2 → IVec S16 32) a x).toNat < S128x18.size a := fun v257 v779 k2_hw483 => k2_hw483

def k2_chk484 (v257 : IVec S16 32) (v785 : IVec S16 32) : Prop :=
  (∀ a x, ((![v257, v785] : Fin 2 → IVec S16 32) a x).toNat < S128x18.size a)
theorem k2_idx484_inb : ∀ (v257 : IVec S16 32) (v785 : IVec S16 32) (k2_hw484 : k2_chk484 v257 v785), ∀ a x, ((![v257, v785] : Fin 2 → IVec S16 32) a x).toNat < S128x18.size a := fun v257 v785 k2_hw484 => k2_hw484

def k2_chk485 (v257 : IVec S16 32) (v791 : IVec S16 32) : Prop :=
  (∀ a x, ((![v257, v791] : Fin 2 → IVec S16 32) a x).toNat < S128x18.size a)
theorem k2_idx485_inb : ∀ (v257 : IVec S16 32) (v791 : IVec S16 32) (k2_hw485 : k2_chk485 v257 v791), ∀ a x, ((![v257, v791] : Fin 2 → IVec S16 32) a x).toNat < S128x18.size a := fun v257 v791 k2_hw485 => k2_hw485

def k2_chk486 (v257 : IVec S16 32) (v797 : IVec S16 32) : Prop :=
  (∀ a x, ((![v257, v797] : Fin 2 → IVec S16 32) a x).toNat < S128x18.size a)
theorem k2_idx486_inb : ∀ (v257 : IVec S16 32) (v797 : IVec S16 32) (k2_hw486 : k2_chk486 v257 v797), ∀ a x, ((![v257, v797] : Fin 2 → IVec S16 32) a x).toNat < S128x18.size a := fun v257 v797 k2_hw486 => k2_hw486

def k2_chk487 (v257 : IVec S16 32) (v803 : IVec S16 32) : Prop :=
  (∀ a x, ((![v257, v803] : Fin 2 → IVec S16 32) a x).toNat < S128x18.size a)
theorem k2_idx487_inb : ∀ (v257 : IVec S16 32) (v803 : IVec S16 32) (k2_hw487 : k2_chk487 v257 v803), ∀ a x, ((![v257, v803] : Fin 2 → IVec S16 32) a x).toNat < S128x18.size a := fun v257 v803 k2_hw487 => k2_hw487

def k2_chk488 (v257 : IVec S16 32) (v809 : IVec S16 32) : Prop :=
  (∀ a x, ((![v257, v809] : Fin 2 → IVec S16 32) a x).toNat < S128x18.size a)
theorem k2_idx488_inb : ∀ (v257 : IVec S16 32) (v809 : IVec S16 32) (k2_hw488 : k2_chk488 v257 v809), ∀ a x, ((![v257, v809] : Fin 2 → IVec S16 32) a x).toNat < S128x18.size a := fun v257 v809 k2_hw488 => k2_hw488

def k2_chk489 (v257 : IVec S16 32) (v815 : IVec S16 32) : Prop :=
  (∀ a x, ((![v257, v815] : Fin 2 → IVec S16 32) a x).toNat < S128x18.size a)
theorem k2_idx489_inb : ∀ (v257 : IVec S16 32) (v815 : IVec S16 32) (k2_hw489 : k2_chk489 v257 v815), ∀ a x, ((![v257, v815] : Fin 2 → IVec S16 32) a x).toNat < S128x18.size a := fun v257 v815 k2_hw489 => k2_hw489

def k2_chk490 (v257 : IVec S16 32) (v821 : IVec S16 32) : Prop :=
  (∀ a x, ((![v257, v821] : Fin 2 → IVec S16 32) a x).toNat < S128x18.size a)
theorem k2_idx490_inb : ∀ (v257 : IVec S16 32) (v821 : IVec S16 32) (k2_hw490 : k2_chk490 v257 v821), ∀ a x, ((![v257, v821] : Fin 2 → IVec S16 32) a x).toNat < S128x18.size a := fun v257 v821 k2_hw490 => k2_hw490

def k2_chk491 (v257 : IVec S16 32) (v827 : IVec S16 32) : Prop :=
  (∀ a x, ((![v257, v827] : Fin 2 → IVec S16 32) a x).toNat < S128x18.size a)
theorem k2_idx491_inb : ∀ (v257 : IVec S16 32) (v827 : IVec S16 32) (k2_hw491 : k2_chk491 v257 v827), ∀ a x, ((![v257, v827] : Fin 2 → IVec S16 32) a x).toNat < S128x18.size a := fun v257 v827 k2_hw491 => k2_hw491

def k2_chk492 (v257 : IVec S16 32) (v833 : IVec S16 32) : Prop :=
  (∀ a x, ((![v257, v833] : Fin 2 → IVec S16 32) a x).toNat < S128x18.size a)
theorem k2_idx492_inb : ∀ (v257 : IVec S16 32) (v833 : IVec S16 32) (k2_hw492 : k2_chk492 v257 v833), ∀ a x, ((![v257, v833] : Fin 2 → IVec S16 32) a x).toNat < S128x18.size a := fun v257 v833 k2_hw492 => k2_hw492

def k2_chk493 (v257 : IVec S16 32) (v839 : IVec S16 32) : Prop :=
  (∀ a x, ((![v257, v839] : Fin 2 → IVec S16 32) a x).toNat < S128x18.size a)
theorem k2_idx493_inb : ∀ (v257 : IVec S16 32) (v839 : IVec S16 32) (k2_hw493 : k2_chk493 v257 v839), ∀ a x, ((![v257, v839] : Fin 2 → IVec S16 32) a x).toNat < S128x18.size a := fun v257 v839 k2_hw493 => k2_hw493

def k2_chk494 (v257 : IVec S16 32) (v845 : IVec S16 32) : Prop :=
  (∀ a x, ((![v257, v845] : Fin 2 → IVec S16 32) a x).toNat < S128x18.size a)
theorem k2_idx494_inb : ∀ (v257 : IVec S16 32) (v845 : IVec S16 32) (k2_hw494 : k2_chk494 v257 v845), ∀ a x, ((![v257, v845] : Fin 2 → IVec S16 32) a x).toNat < S128x18.size a := fun v257 v845 k2_hw494 => k2_hw494

def k2_chk495 (v257 : IVec S16 32) (v851 : IVec S16 32) : Prop :=
  (∀ a x, ((![v257, v851] : Fin 2 → IVec S16 32) a x).toNat < S128x18.size a)
theorem k2_idx495_inb : ∀ (v257 : IVec S16 32) (v851 : IVec S16 32) (k2_hw495 : k2_chk495 v257 v851), ∀ a x, ((![v257, v851] : Fin 2 → IVec S16 32) a x).toNat < S128x18.size a := fun v257 v851 k2_hw495 => k2_hw495

def k2_chk496 (v257 : IVec S16 32) (v857 : IVec S16 32) : Prop :=
  (∀ a x, ((![v257, v857] : Fin 2 → IVec S16 32) a x).toNat < S128x18.size a)
theorem k2_idx496_inb : ∀ (v257 : IVec S16 32) (v857 : IVec S16 32) (k2_hw496 : k2_chk496 v257 v857), ∀ a x, ((![v257, v857] : Fin 2 → IVec S16 32) a x).toNat < S128x18.size a := fun v257 v857 k2_hw496 => k2_hw496
@[reducible] def k2_t7_loop : Scf.Loop 32 :=
  let c0_i32_84 : BitVec 32 := 0#32
  let c2_i32_85 : BitVec 32 := 2#32
  let v65 : BitVec 32 := Scalar.addi c0_i32_84 c2_i32_85
  let c1_i32_86 : BitVec 32 := 1#32
  ⟨c0_i32_84, v65, c1_i32_86⟩
def k2_off11 (k2_t7 : Fin k2_t7_loop.trips) (c0_i32_243 : BitVec 32) : Fin 1 → Nat :=
  let c640_i32_244 : BitVec 32 := 640#32
  let c0_i32_84 : BitVec 32 := 0#32
  let c1_i32_86 : BitVec 32 := 1#32
  let arg18 : BitVec 32 := Scf.iv c0_i32_84 c1_i32_86 k2_t7
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c640_i32_244 v184
  let v186 : Index := Scalar.indexCast v185
  ![v186.toNat]

def k2_chk497 (v200 : IVec S16 32) (v263 : IVec S16 32) : Prop :=
  (∀ a x, ((![v200, v263] : Fin 2 → IVec S16 32) a x).toNat < S128x128.size a)
theorem k2_idx497_inb : ∀ (v200 : IVec S16 32) (v263 : IVec S16 32) (k2_hw497 : k2_chk497 v200 v263), ∀ a x, ((![v200, v263] : Fin 2 → IVec S16 32) a x).toNat < S128x128.size a := fun v200 v263 k2_hw497 => k2_hw497

def k2_chk498 (v219 : IVec S16 32) (v270 : IVec S16 32) : Prop :=
  (∀ a x, ((![v219, v270] : Fin 2 → IVec S16 32) a x).toNat < S128x128.size a)
theorem k2_idx498_inb : ∀ (v219 : IVec S16 32) (v270 : IVec S16 32) (k2_hw498 : k2_chk498 v219 v270), ∀ a x, ((![v219, v270] : Fin 2 → IVec S16 32) a x).toNat < S128x128.size a := fun v219 v270 k2_hw498 => k2_hw498

def k2_chk499 (v238 : IVec S16 32) (v277 : IVec S16 32) : Prop :=
  (∀ a x, ((![v238, v277] : Fin 2 → IVec S16 32) a x).toNat < S128x128.size a)
theorem k2_idx499_inb : ∀ (v238 : IVec S16 32) (v277 : IVec S16 32) (k2_hw499 : k2_chk499 v238 v277), ∀ a x, ((![v238, v277] : Fin 2 → IVec S16 32) a x).toNat < S128x128.size a := fun v238 v277 k2_hw499 => k2_hw499

def k2_chk500 (v257 : IVec S16 32) (v284 : IVec S16 32) : Prop :=
  (∀ a x, ((![v257, v284] : Fin 2 → IVec S16 32) a x).toNat < S128x128.size a)
theorem k2_idx500_inb : ∀ (v257 : IVec S16 32) (v284 : IVec S16 32) (k2_hw500 : k2_chk500 v257 v284), ∀ a x, ((![v257, v284] : Fin 2 → IVec S16 32) a x).toNat < S128x128.size a := fun v257 v284 k2_hw500 => k2_hw500

def k2_chk501 (v200 : IVec S16 32) (v303 : IVec S16 32) : Prop :=
  (∀ a x, ((![v200, v303] : Fin 2 → IVec S16 32) a x).toNat < S128x128.size a)
theorem k2_idx501_inb : ∀ (v200 : IVec S16 32) (v303 : IVec S16 32) (k2_hw501 : k2_chk501 v200 v303), ∀ a x, ((![v200, v303] : Fin 2 → IVec S16 32) a x).toNat < S128x128.size a := fun v200 v303 k2_hw501 => k2_hw501

def k2_chk502 (v219 : IVec S16 32) (v310 : IVec S16 32) : Prop :=
  (∀ a x, ((![v219, v310] : Fin 2 → IVec S16 32) a x).toNat < S128x128.size a)
theorem k2_idx502_inb : ∀ (v219 : IVec S16 32) (v310 : IVec S16 32) (k2_hw502 : k2_chk502 v219 v310), ∀ a x, ((![v219, v310] : Fin 2 → IVec S16 32) a x).toNat < S128x128.size a := fun v219 v310 k2_hw502 => k2_hw502

def k2_chk503 (v238 : IVec S16 32) (v317 : IVec S16 32) : Prop :=
  (∀ a x, ((![v238, v317] : Fin 2 → IVec S16 32) a x).toNat < S128x128.size a)
theorem k2_idx503_inb : ∀ (v238 : IVec S16 32) (v317 : IVec S16 32) (k2_hw503 : k2_chk503 v238 v317), ∀ a x, ((![v238, v317] : Fin 2 → IVec S16 32) a x).toNat < S128x128.size a := fun v238 v317 k2_hw503 => k2_hw503

def k2_chk504 (v257 : IVec S16 32) (v324 : IVec S16 32) : Prop :=
  (∀ a x, ((![v257, v324] : Fin 2 → IVec S16 32) a x).toNat < S128x128.size a)
theorem k2_idx504_inb : ∀ (v257 : IVec S16 32) (v324 : IVec S16 32) (k2_hw504 : k2_chk504 v257 v324), ∀ a x, ((![v257, v324] : Fin 2 → IVec S16 32) a x).toNat < S128x128.size a := fun v257 v324 k2_hw504 => k2_hw504

def k2_chk505 (v200 : IVec S16 32) (v343 : IVec S16 32) : Prop :=
  (∀ a x, ((![v200, v343] : Fin 2 → IVec S16 32) a x).toNat < S128x128.size a)
theorem k2_idx505_inb : ∀ (v200 : IVec S16 32) (v343 : IVec S16 32) (k2_hw505 : k2_chk505 v200 v343), ∀ a x, ((![v200, v343] : Fin 2 → IVec S16 32) a x).toNat < S128x128.size a := fun v200 v343 k2_hw505 => k2_hw505

def k2_chk506 (v219 : IVec S16 32) (v350 : IVec S16 32) : Prop :=
  (∀ a x, ((![v219, v350] : Fin 2 → IVec S16 32) a x).toNat < S128x128.size a)
theorem k2_idx506_inb : ∀ (v219 : IVec S16 32) (v350 : IVec S16 32) (k2_hw506 : k2_chk506 v219 v350), ∀ a x, ((![v219, v350] : Fin 2 → IVec S16 32) a x).toNat < S128x128.size a := fun v219 v350 k2_hw506 => k2_hw506

def k2_chk507 (v238 : IVec S16 32) (v357 : IVec S16 32) : Prop :=
  (∀ a x, ((![v238, v357] : Fin 2 → IVec S16 32) a x).toNat < S128x128.size a)
theorem k2_idx507_inb : ∀ (v238 : IVec S16 32) (v357 : IVec S16 32) (k2_hw507 : k2_chk507 v238 v357), ∀ a x, ((![v238, v357] : Fin 2 → IVec S16 32) a x).toNat < S128x128.size a := fun v238 v357 k2_hw507 => k2_hw507

def k2_chk508 (v257 : IVec S16 32) (v364 : IVec S16 32) : Prop :=
  (∀ a x, ((![v257, v364] : Fin 2 → IVec S16 32) a x).toNat < S128x128.size a)
theorem k2_idx508_inb : ∀ (v257 : IVec S16 32) (v364 : IVec S16 32) (k2_hw508 : k2_chk508 v257 v364), ∀ a x, ((![v257, v364] : Fin 2 → IVec S16 32) a x).toNat < S128x128.size a := fun v257 v364 k2_hw508 => k2_hw508

def k2_chk509 (v200 : IVec S16 32) (v383 : IVec S16 32) : Prop :=
  (∀ a x, ((![v200, v383] : Fin 2 → IVec S16 32) a x).toNat < S128x128.size a)
theorem k2_idx509_inb : ∀ (v200 : IVec S16 32) (v383 : IVec S16 32) (k2_hw509 : k2_chk509 v200 v383), ∀ a x, ((![v200, v383] : Fin 2 → IVec S16 32) a x).toNat < S128x128.size a := fun v200 v383 k2_hw509 => k2_hw509

def k2_chk510 (v219 : IVec S16 32) (v390 : IVec S16 32) : Prop :=
  (∀ a x, ((![v219, v390] : Fin 2 → IVec S16 32) a x).toNat < S128x128.size a)
theorem k2_idx510_inb : ∀ (v219 : IVec S16 32) (v390 : IVec S16 32) (k2_hw510 : k2_chk510 v219 v390), ∀ a x, ((![v219, v390] : Fin 2 → IVec S16 32) a x).toNat < S128x128.size a := fun v219 v390 k2_hw510 => k2_hw510

def k2_chk511 (v238 : IVec S16 32) (v397 : IVec S16 32) : Prop :=
  (∀ a x, ((![v238, v397] : Fin 2 → IVec S16 32) a x).toNat < S128x128.size a)
theorem k2_idx511_inb : ∀ (v238 : IVec S16 32) (v397 : IVec S16 32) (k2_hw511 : k2_chk511 v238 v397), ∀ a x, ((![v238, v397] : Fin 2 → IVec S16 32) a x).toNat < S128x128.size a := fun v238 v397 k2_hw511 => k2_hw511

def k2_chk512 (v257 : IVec S16 32) (v404 : IVec S16 32) : Prop :=
  (∀ a x, ((![v257, v404] : Fin 2 → IVec S16 32) a x).toNat < S128x128.size a)
theorem k2_idx512_inb : ∀ (v257 : IVec S16 32) (v404 : IVec S16 32) (k2_hw512 : k2_chk512 v257 v404), ∀ a x, ((![v257, v404] : Fin 2 → IVec S16 32) a x).toNat < S128x128.size a := fun v257 v404 k2_hw512 => k2_hw512

def k2_chk513 (v200 : IVec S16 32) (v425 : IVec S16 32) : Prop :=
  (∀ a x, ((![v200, v425] : Fin 2 → IVec S16 32) a x).toNat < S128x18.size a)
theorem k2_idx513_inb : ∀ (v200 : IVec S16 32) (v425 : IVec S16 32) (k2_hw513 : k2_chk513 v200 v425), ∀ a x, ((![v200, v425] : Fin 2 → IVec S16 32) a x).toNat < S128x18.size a := fun v200 v425 k2_hw513 => k2_hw513

def k2_chk514 (v200 : IVec S16 32) (v431 : IVec S16 32) : Prop :=
  (∀ a x, ((![v200, v431] : Fin 2 → IVec S16 32) a x).toNat < S128x18.size a)
theorem k2_idx514_inb : ∀ (v200 : IVec S16 32) (v431 : IVec S16 32) (k2_hw514 : k2_chk514 v200 v431), ∀ a x, ((![v200, v431] : Fin 2 → IVec S16 32) a x).toNat < S128x18.size a := fun v200 v431 k2_hw514 => k2_hw514

def k2_chk515 (v200 : IVec S16 32) (v437 : IVec S16 32) : Prop :=
  (∀ a x, ((![v200, v437] : Fin 2 → IVec S16 32) a x).toNat < S128x18.size a)
theorem k2_idx515_inb : ∀ (v200 : IVec S16 32) (v437 : IVec S16 32) (k2_hw515 : k2_chk515 v200 v437), ∀ a x, ((![v200, v437] : Fin 2 → IVec S16 32) a x).toNat < S128x18.size a := fun v200 v437 k2_hw515 => k2_hw515

def k2_chk516 (v200 : IVec S16 32) (v443 : IVec S16 32) : Prop :=
  (∀ a x, ((![v200, v443] : Fin 2 → IVec S16 32) a x).toNat < S128x18.size a)
theorem k2_idx516_inb : ∀ (v200 : IVec S16 32) (v443 : IVec S16 32) (k2_hw516 : k2_chk516 v200 v443), ∀ a x, ((![v200, v443] : Fin 2 → IVec S16 32) a x).toNat < S128x18.size a := fun v200 v443 k2_hw516 => k2_hw516

def k2_chk517 (v200 : IVec S16 32) (v449 : IVec S16 32) : Prop :=
  (∀ a x, ((![v200, v449] : Fin 2 → IVec S16 32) a x).toNat < S128x18.size a)
theorem k2_idx517_inb : ∀ (v200 : IVec S16 32) (v449 : IVec S16 32) (k2_hw517 : k2_chk517 v200 v449), ∀ a x, ((![v200, v449] : Fin 2 → IVec S16 32) a x).toNat < S128x18.size a := fun v200 v449 k2_hw517 => k2_hw517

def k2_chk518 (v200 : IVec S16 32) (v455 : IVec S16 32) : Prop :=
  (∀ a x, ((![v200, v455] : Fin 2 → IVec S16 32) a x).toNat < S128x18.size a)
theorem k2_idx518_inb : ∀ (v200 : IVec S16 32) (v455 : IVec S16 32) (k2_hw518 : k2_chk518 v200 v455), ∀ a x, ((![v200, v455] : Fin 2 → IVec S16 32) a x).toNat < S128x18.size a := fun v200 v455 k2_hw518 => k2_hw518

def k2_chk519 (v200 : IVec S16 32) (v461 : IVec S16 32) : Prop :=
  (∀ a x, ((![v200, v461] : Fin 2 → IVec S16 32) a x).toNat < S128x18.size a)
theorem k2_idx519_inb : ∀ (v200 : IVec S16 32) (v461 : IVec S16 32) (k2_hw519 : k2_chk519 v200 v461), ∀ a x, ((![v200, v461] : Fin 2 → IVec S16 32) a x).toNat < S128x18.size a := fun v200 v461 k2_hw519 => k2_hw519

def k2_chk520 (v200 : IVec S16 32) (v467 : IVec S16 32) : Prop :=
  (∀ a x, ((![v200, v467] : Fin 2 → IVec S16 32) a x).toNat < S128x18.size a)
theorem k2_idx520_inb : ∀ (v200 : IVec S16 32) (v467 : IVec S16 32) (k2_hw520 : k2_chk520 v200 v467), ∀ a x, ((![v200, v467] : Fin 2 → IVec S16 32) a x).toNat < S128x18.size a := fun v200 v467 k2_hw520 => k2_hw520

def k2_chk521 (v200 : IVec S16 32) (v473 : IVec S16 32) : Prop :=
  (∀ a x, ((![v200, v473] : Fin 2 → IVec S16 32) a x).toNat < S128x18.size a)
theorem k2_idx521_inb : ∀ (v200 : IVec S16 32) (v473 : IVec S16 32) (k2_hw521 : k2_chk521 v200 v473), ∀ a x, ((![v200, v473] : Fin 2 → IVec S16 32) a x).toNat < S128x18.size a := fun v200 v473 k2_hw521 => k2_hw521

def k2_chk522 (v200 : IVec S16 32) (v479 : IVec S16 32) : Prop :=
  (∀ a x, ((![v200, v479] : Fin 2 → IVec S16 32) a x).toNat < S128x18.size a)
theorem k2_idx522_inb : ∀ (v200 : IVec S16 32) (v479 : IVec S16 32) (k2_hw522 : k2_chk522 v200 v479), ∀ a x, ((![v200, v479] : Fin 2 → IVec S16 32) a x).toNat < S128x18.size a := fun v200 v479 k2_hw522 => k2_hw522

def k2_chk523 (v200 : IVec S16 32) (v485 : IVec S16 32) : Prop :=
  (∀ a x, ((![v200, v485] : Fin 2 → IVec S16 32) a x).toNat < S128x18.size a)
theorem k2_idx523_inb : ∀ (v200 : IVec S16 32) (v485 : IVec S16 32) (k2_hw523 : k2_chk523 v200 v485), ∀ a x, ((![v200, v485] : Fin 2 → IVec S16 32) a x).toNat < S128x18.size a := fun v200 v485 k2_hw523 => k2_hw523

def k2_chk524 (v200 : IVec S16 32) (v491 : IVec S16 32) : Prop :=
  (∀ a x, ((![v200, v491] : Fin 2 → IVec S16 32) a x).toNat < S128x18.size a)
theorem k2_idx524_inb : ∀ (v200 : IVec S16 32) (v491 : IVec S16 32) (k2_hw524 : k2_chk524 v200 v491), ∀ a x, ((![v200, v491] : Fin 2 → IVec S16 32) a x).toNat < S128x18.size a := fun v200 v491 k2_hw524 => k2_hw524

def k2_chk525 (v200 : IVec S16 32) (v497 : IVec S16 32) : Prop :=
  (∀ a x, ((![v200, v497] : Fin 2 → IVec S16 32) a x).toNat < S128x18.size a)
theorem k2_idx525_inb : ∀ (v200 : IVec S16 32) (v497 : IVec S16 32) (k2_hw525 : k2_chk525 v200 v497), ∀ a x, ((![v200, v497] : Fin 2 → IVec S16 32) a x).toNat < S128x18.size a := fun v200 v497 k2_hw525 => k2_hw525

def k2_chk526 (v200 : IVec S16 32) (v503 : IVec S16 32) : Prop :=
  (∀ a x, ((![v200, v503] : Fin 2 → IVec S16 32) a x).toNat < S128x18.size a)
theorem k2_idx526_inb : ∀ (v200 : IVec S16 32) (v503 : IVec S16 32) (k2_hw526 : k2_chk526 v200 v503), ∀ a x, ((![v200, v503] : Fin 2 → IVec S16 32) a x).toNat < S128x18.size a := fun v200 v503 k2_hw526 => k2_hw526

def k2_chk527 (v200 : IVec S16 32) (v509 : IVec S16 32) : Prop :=
  (∀ a x, ((![v200, v509] : Fin 2 → IVec S16 32) a x).toNat < S128x18.size a)
theorem k2_idx527_inb : ∀ (v200 : IVec S16 32) (v509 : IVec S16 32) (k2_hw527 : k2_chk527 v200 v509), ∀ a x, ((![v200, v509] : Fin 2 → IVec S16 32) a x).toNat < S128x18.size a := fun v200 v509 k2_hw527 => k2_hw527

def k2_chk528 (v200 : IVec S16 32) (v515 : IVec S16 32) : Prop :=
  (∀ a x, ((![v200, v515] : Fin 2 → IVec S16 32) a x).toNat < S128x18.size a)
theorem k2_idx528_inb : ∀ (v200 : IVec S16 32) (v515 : IVec S16 32) (k2_hw528 : k2_chk528 v200 v515), ∀ a x, ((![v200, v515] : Fin 2 → IVec S16 32) a x).toNat < S128x18.size a := fun v200 v515 k2_hw528 => k2_hw528

def k2_chk529 (v200 : IVec S16 32) (v521 : IVec S16 32) : Prop :=
  (∀ a x, ((![v200, v521] : Fin 2 → IVec S16 32) a x).toNat < S128x18.size a)
theorem k2_idx529_inb : ∀ (v200 : IVec S16 32) (v521 : IVec S16 32) (k2_hw529 : k2_chk529 v200 v521), ∀ a x, ((![v200, v521] : Fin 2 → IVec S16 32) a x).toNat < S128x18.size a := fun v200 v521 k2_hw529 => k2_hw529

def k2_chk530 (v200 : IVec S16 32) (v527 : IVec S16 32) : Prop :=
  (∀ a x, ((![v200, v527] : Fin 2 → IVec S16 32) a x).toNat < S128x18.size a)
theorem k2_idx530_inb : ∀ (v200 : IVec S16 32) (v527 : IVec S16 32) (k2_hw530 : k2_chk530 v200 v527), ∀ a x, ((![v200, v527] : Fin 2 → IVec S16 32) a x).toNat < S128x18.size a := fun v200 v527 k2_hw530 => k2_hw530

def k2_chk531 (v219 : IVec S16 32) (v535 : IVec S16 32) : Prop :=
  (∀ a x, ((![v219, v535] : Fin 2 → IVec S16 32) a x).toNat < S128x18.size a)
theorem k2_idx531_inb : ∀ (v219 : IVec S16 32) (v535 : IVec S16 32) (k2_hw531 : k2_chk531 v219 v535), ∀ a x, ((![v219, v535] : Fin 2 → IVec S16 32) a x).toNat < S128x18.size a := fun v219 v535 k2_hw531 => k2_hw531

def k2_chk532 (v219 : IVec S16 32) (v541 : IVec S16 32) : Prop :=
  (∀ a x, ((![v219, v541] : Fin 2 → IVec S16 32) a x).toNat < S128x18.size a)
theorem k2_idx532_inb : ∀ (v219 : IVec S16 32) (v541 : IVec S16 32) (k2_hw532 : k2_chk532 v219 v541), ∀ a x, ((![v219, v541] : Fin 2 → IVec S16 32) a x).toNat < S128x18.size a := fun v219 v541 k2_hw532 => k2_hw532

def k2_chk533 (v219 : IVec S16 32) (v547 : IVec S16 32) : Prop :=
  (∀ a x, ((![v219, v547] : Fin 2 → IVec S16 32) a x).toNat < S128x18.size a)
theorem k2_idx533_inb : ∀ (v219 : IVec S16 32) (v547 : IVec S16 32) (k2_hw533 : k2_chk533 v219 v547), ∀ a x, ((![v219, v547] : Fin 2 → IVec S16 32) a x).toNat < S128x18.size a := fun v219 v547 k2_hw533 => k2_hw533

def k2_chk534 (v219 : IVec S16 32) (v553 : IVec S16 32) : Prop :=
  (∀ a x, ((![v219, v553] : Fin 2 → IVec S16 32) a x).toNat < S128x18.size a)
theorem k2_idx534_inb : ∀ (v219 : IVec S16 32) (v553 : IVec S16 32) (k2_hw534 : k2_chk534 v219 v553), ∀ a x, ((![v219, v553] : Fin 2 → IVec S16 32) a x).toNat < S128x18.size a := fun v219 v553 k2_hw534 => k2_hw534

def k2_chk535 (v219 : IVec S16 32) (v559 : IVec S16 32) : Prop :=
  (∀ a x, ((![v219, v559] : Fin 2 → IVec S16 32) a x).toNat < S128x18.size a)
theorem k2_idx535_inb : ∀ (v219 : IVec S16 32) (v559 : IVec S16 32) (k2_hw535 : k2_chk535 v219 v559), ∀ a x, ((![v219, v559] : Fin 2 → IVec S16 32) a x).toNat < S128x18.size a := fun v219 v559 k2_hw535 => k2_hw535

def k2_chk536 (v219 : IVec S16 32) (v565 : IVec S16 32) : Prop :=
  (∀ a x, ((![v219, v565] : Fin 2 → IVec S16 32) a x).toNat < S128x18.size a)
theorem k2_idx536_inb : ∀ (v219 : IVec S16 32) (v565 : IVec S16 32) (k2_hw536 : k2_chk536 v219 v565), ∀ a x, ((![v219, v565] : Fin 2 → IVec S16 32) a x).toNat < S128x18.size a := fun v219 v565 k2_hw536 => k2_hw536

def k2_chk537 (v219 : IVec S16 32) (v571 : IVec S16 32) : Prop :=
  (∀ a x, ((![v219, v571] : Fin 2 → IVec S16 32) a x).toNat < S128x18.size a)
theorem k2_idx537_inb : ∀ (v219 : IVec S16 32) (v571 : IVec S16 32) (k2_hw537 : k2_chk537 v219 v571), ∀ a x, ((![v219, v571] : Fin 2 → IVec S16 32) a x).toNat < S128x18.size a := fun v219 v571 k2_hw537 => k2_hw537

def k2_chk538 (v219 : IVec S16 32) (v577 : IVec S16 32) : Prop :=
  (∀ a x, ((![v219, v577] : Fin 2 → IVec S16 32) a x).toNat < S128x18.size a)
theorem k2_idx538_inb : ∀ (v219 : IVec S16 32) (v577 : IVec S16 32) (k2_hw538 : k2_chk538 v219 v577), ∀ a x, ((![v219, v577] : Fin 2 → IVec S16 32) a x).toNat < S128x18.size a := fun v219 v577 k2_hw538 => k2_hw538

def k2_chk539 (v219 : IVec S16 32) (v583 : IVec S16 32) : Prop :=
  (∀ a x, ((![v219, v583] : Fin 2 → IVec S16 32) a x).toNat < S128x18.size a)
theorem k2_idx539_inb : ∀ (v219 : IVec S16 32) (v583 : IVec S16 32) (k2_hw539 : k2_chk539 v219 v583), ∀ a x, ((![v219, v583] : Fin 2 → IVec S16 32) a x).toNat < S128x18.size a := fun v219 v583 k2_hw539 => k2_hw539

def k2_chk540 (v219 : IVec S16 32) (v589 : IVec S16 32) : Prop :=
  (∀ a x, ((![v219, v589] : Fin 2 → IVec S16 32) a x).toNat < S128x18.size a)
theorem k2_idx540_inb : ∀ (v219 : IVec S16 32) (v589 : IVec S16 32) (k2_hw540 : k2_chk540 v219 v589), ∀ a x, ((![v219, v589] : Fin 2 → IVec S16 32) a x).toNat < S128x18.size a := fun v219 v589 k2_hw540 => k2_hw540

def k2_chk541 (v219 : IVec S16 32) (v595 : IVec S16 32) : Prop :=
  (∀ a x, ((![v219, v595] : Fin 2 → IVec S16 32) a x).toNat < S128x18.size a)
theorem k2_idx541_inb : ∀ (v219 : IVec S16 32) (v595 : IVec S16 32) (k2_hw541 : k2_chk541 v219 v595), ∀ a x, ((![v219, v595] : Fin 2 → IVec S16 32) a x).toNat < S128x18.size a := fun v219 v595 k2_hw541 => k2_hw541

def k2_chk542 (v219 : IVec S16 32) (v601 : IVec S16 32) : Prop :=
  (∀ a x, ((![v219, v601] : Fin 2 → IVec S16 32) a x).toNat < S128x18.size a)
theorem k2_idx542_inb : ∀ (v219 : IVec S16 32) (v601 : IVec S16 32) (k2_hw542 : k2_chk542 v219 v601), ∀ a x, ((![v219, v601] : Fin 2 → IVec S16 32) a x).toNat < S128x18.size a := fun v219 v601 k2_hw542 => k2_hw542

def k2_chk543 (v219 : IVec S16 32) (v607 : IVec S16 32) : Prop :=
  (∀ a x, ((![v219, v607] : Fin 2 → IVec S16 32) a x).toNat < S128x18.size a)
theorem k2_idx543_inb : ∀ (v219 : IVec S16 32) (v607 : IVec S16 32) (k2_hw543 : k2_chk543 v219 v607), ∀ a x, ((![v219, v607] : Fin 2 → IVec S16 32) a x).toNat < S128x18.size a := fun v219 v607 k2_hw543 => k2_hw543

def k2_chk544 (v219 : IVec S16 32) (v613 : IVec S16 32) : Prop :=
  (∀ a x, ((![v219, v613] : Fin 2 → IVec S16 32) a x).toNat < S128x18.size a)
theorem k2_idx544_inb : ∀ (v219 : IVec S16 32) (v613 : IVec S16 32) (k2_hw544 : k2_chk544 v219 v613), ∀ a x, ((![v219, v613] : Fin 2 → IVec S16 32) a x).toNat < S128x18.size a := fun v219 v613 k2_hw544 => k2_hw544

def k2_chk545 (v219 : IVec S16 32) (v619 : IVec S16 32) : Prop :=
  (∀ a x, ((![v219, v619] : Fin 2 → IVec S16 32) a x).toNat < S128x18.size a)
theorem k2_idx545_inb : ∀ (v219 : IVec S16 32) (v619 : IVec S16 32) (k2_hw545 : k2_chk545 v219 v619), ∀ a x, ((![v219, v619] : Fin 2 → IVec S16 32) a x).toNat < S128x18.size a := fun v219 v619 k2_hw545 => k2_hw545

def k2_chk546 (v219 : IVec S16 32) (v625 : IVec S16 32) : Prop :=
  (∀ a x, ((![v219, v625] : Fin 2 → IVec S16 32) a x).toNat < S128x18.size a)
theorem k2_idx546_inb : ∀ (v219 : IVec S16 32) (v625 : IVec S16 32) (k2_hw546 : k2_chk546 v219 v625), ∀ a x, ((![v219, v625] : Fin 2 → IVec S16 32) a x).toNat < S128x18.size a := fun v219 v625 k2_hw546 => k2_hw546

def k2_chk547 (v219 : IVec S16 32) (v631 : IVec S16 32) : Prop :=
  (∀ a x, ((![v219, v631] : Fin 2 → IVec S16 32) a x).toNat < S128x18.size a)
theorem k2_idx547_inb : ∀ (v219 : IVec S16 32) (v631 : IVec S16 32) (k2_hw547 : k2_chk547 v219 v631), ∀ a x, ((![v219, v631] : Fin 2 → IVec S16 32) a x).toNat < S128x18.size a := fun v219 v631 k2_hw547 => k2_hw547

def k2_chk548 (v219 : IVec S16 32) (v637 : IVec S16 32) : Prop :=
  (∀ a x, ((![v219, v637] : Fin 2 → IVec S16 32) a x).toNat < S128x18.size a)
theorem k2_idx548_inb : ∀ (v219 : IVec S16 32) (v637 : IVec S16 32) (k2_hw548 : k2_chk548 v219 v637), ∀ a x, ((![v219, v637] : Fin 2 → IVec S16 32) a x).toNat < S128x18.size a := fun v219 v637 k2_hw548 => k2_hw548

def k2_chk549 (v238 : IVec S16 32) (v645 : IVec S16 32) : Prop :=
  (∀ a x, ((![v238, v645] : Fin 2 → IVec S16 32) a x).toNat < S128x18.size a)
theorem k2_idx549_inb : ∀ (v238 : IVec S16 32) (v645 : IVec S16 32) (k2_hw549 : k2_chk549 v238 v645), ∀ a x, ((![v238, v645] : Fin 2 → IVec S16 32) a x).toNat < S128x18.size a := fun v238 v645 k2_hw549 => k2_hw549

def k2_chk550 (v238 : IVec S16 32) (v651 : IVec S16 32) : Prop :=
  (∀ a x, ((![v238, v651] : Fin 2 → IVec S16 32) a x).toNat < S128x18.size a)
theorem k2_idx550_inb : ∀ (v238 : IVec S16 32) (v651 : IVec S16 32) (k2_hw550 : k2_chk550 v238 v651), ∀ a x, ((![v238, v651] : Fin 2 → IVec S16 32) a x).toNat < S128x18.size a := fun v238 v651 k2_hw550 => k2_hw550

def k2_chk551 (v238 : IVec S16 32) (v657 : IVec S16 32) : Prop :=
  (∀ a x, ((![v238, v657] : Fin 2 → IVec S16 32) a x).toNat < S128x18.size a)
theorem k2_idx551_inb : ∀ (v238 : IVec S16 32) (v657 : IVec S16 32) (k2_hw551 : k2_chk551 v238 v657), ∀ a x, ((![v238, v657] : Fin 2 → IVec S16 32) a x).toNat < S128x18.size a := fun v238 v657 k2_hw551 => k2_hw551

def k2_chk552 (v238 : IVec S16 32) (v663 : IVec S16 32) : Prop :=
  (∀ a x, ((![v238, v663] : Fin 2 → IVec S16 32) a x).toNat < S128x18.size a)
theorem k2_idx552_inb : ∀ (v238 : IVec S16 32) (v663 : IVec S16 32) (k2_hw552 : k2_chk552 v238 v663), ∀ a x, ((![v238, v663] : Fin 2 → IVec S16 32) a x).toNat < S128x18.size a := fun v238 v663 k2_hw552 => k2_hw552

def k2_chk553 (v238 : IVec S16 32) (v669 : IVec S16 32) : Prop :=
  (∀ a x, ((![v238, v669] : Fin 2 → IVec S16 32) a x).toNat < S128x18.size a)
theorem k2_idx553_inb : ∀ (v238 : IVec S16 32) (v669 : IVec S16 32) (k2_hw553 : k2_chk553 v238 v669), ∀ a x, ((![v238, v669] : Fin 2 → IVec S16 32) a x).toNat < S128x18.size a := fun v238 v669 k2_hw553 => k2_hw553

def k2_chk554 (v238 : IVec S16 32) (v675 : IVec S16 32) : Prop :=
  (∀ a x, ((![v238, v675] : Fin 2 → IVec S16 32) a x).toNat < S128x18.size a)
theorem k2_idx554_inb : ∀ (v238 : IVec S16 32) (v675 : IVec S16 32) (k2_hw554 : k2_chk554 v238 v675), ∀ a x, ((![v238, v675] : Fin 2 → IVec S16 32) a x).toNat < S128x18.size a := fun v238 v675 k2_hw554 => k2_hw554

def k2_chk555 (v238 : IVec S16 32) (v681 : IVec S16 32) : Prop :=
  (∀ a x, ((![v238, v681] : Fin 2 → IVec S16 32) a x).toNat < S128x18.size a)
theorem k2_idx555_inb : ∀ (v238 : IVec S16 32) (v681 : IVec S16 32) (k2_hw555 : k2_chk555 v238 v681), ∀ a x, ((![v238, v681] : Fin 2 → IVec S16 32) a x).toNat < S128x18.size a := fun v238 v681 k2_hw555 => k2_hw555

def k2_chk556 (v238 : IVec S16 32) (v687 : IVec S16 32) : Prop :=
  (∀ a x, ((![v238, v687] : Fin 2 → IVec S16 32) a x).toNat < S128x18.size a)
theorem k2_idx556_inb : ∀ (v238 : IVec S16 32) (v687 : IVec S16 32) (k2_hw556 : k2_chk556 v238 v687), ∀ a x, ((![v238, v687] : Fin 2 → IVec S16 32) a x).toNat < S128x18.size a := fun v238 v687 k2_hw556 => k2_hw556

def k2_chk557 (v238 : IVec S16 32) (v693 : IVec S16 32) : Prop :=
  (∀ a x, ((![v238, v693] : Fin 2 → IVec S16 32) a x).toNat < S128x18.size a)
theorem k2_idx557_inb : ∀ (v238 : IVec S16 32) (v693 : IVec S16 32) (k2_hw557 : k2_chk557 v238 v693), ∀ a x, ((![v238, v693] : Fin 2 → IVec S16 32) a x).toNat < S128x18.size a := fun v238 v693 k2_hw557 => k2_hw557

def k2_chk558 (v238 : IVec S16 32) (v699 : IVec S16 32) : Prop :=
  (∀ a x, ((![v238, v699] : Fin 2 → IVec S16 32) a x).toNat < S128x18.size a)
theorem k2_idx558_inb : ∀ (v238 : IVec S16 32) (v699 : IVec S16 32) (k2_hw558 : k2_chk558 v238 v699), ∀ a x, ((![v238, v699] : Fin 2 → IVec S16 32) a x).toNat < S128x18.size a := fun v238 v699 k2_hw558 => k2_hw558

def k2_chk559 (v238 : IVec S16 32) (v705 : IVec S16 32) : Prop :=
  (∀ a x, ((![v238, v705] : Fin 2 → IVec S16 32) a x).toNat < S128x18.size a)
theorem k2_idx559_inb : ∀ (v238 : IVec S16 32) (v705 : IVec S16 32) (k2_hw559 : k2_chk559 v238 v705), ∀ a x, ((![v238, v705] : Fin 2 → IVec S16 32) a x).toNat < S128x18.size a := fun v238 v705 k2_hw559 => k2_hw559

def k2_chk560 (v238 : IVec S16 32) (v711 : IVec S16 32) : Prop :=
  (∀ a x, ((![v238, v711] : Fin 2 → IVec S16 32) a x).toNat < S128x18.size a)
theorem k2_idx560_inb : ∀ (v238 : IVec S16 32) (v711 : IVec S16 32) (k2_hw560 : k2_chk560 v238 v711), ∀ a x, ((![v238, v711] : Fin 2 → IVec S16 32) a x).toNat < S128x18.size a := fun v238 v711 k2_hw560 => k2_hw560

def k2_chk561 (v238 : IVec S16 32) (v717 : IVec S16 32) : Prop :=
  (∀ a x, ((![v238, v717] : Fin 2 → IVec S16 32) a x).toNat < S128x18.size a)
theorem k2_idx561_inb : ∀ (v238 : IVec S16 32) (v717 : IVec S16 32) (k2_hw561 : k2_chk561 v238 v717), ∀ a x, ((![v238, v717] : Fin 2 → IVec S16 32) a x).toNat < S128x18.size a := fun v238 v717 k2_hw561 => k2_hw561

def k2_chk562 (v238 : IVec S16 32) (v723 : IVec S16 32) : Prop :=
  (∀ a x, ((![v238, v723] : Fin 2 → IVec S16 32) a x).toNat < S128x18.size a)
theorem k2_idx562_inb : ∀ (v238 : IVec S16 32) (v723 : IVec S16 32) (k2_hw562 : k2_chk562 v238 v723), ∀ a x, ((![v238, v723] : Fin 2 → IVec S16 32) a x).toNat < S128x18.size a := fun v238 v723 k2_hw562 => k2_hw562

def k2_chk563 (v238 : IVec S16 32) (v729 : IVec S16 32) : Prop :=
  (∀ a x, ((![v238, v729] : Fin 2 → IVec S16 32) a x).toNat < S128x18.size a)
theorem k2_idx563_inb : ∀ (v238 : IVec S16 32) (v729 : IVec S16 32) (k2_hw563 : k2_chk563 v238 v729), ∀ a x, ((![v238, v729] : Fin 2 → IVec S16 32) a x).toNat < S128x18.size a := fun v238 v729 k2_hw563 => k2_hw563

def k2_chk564 (v238 : IVec S16 32) (v735 : IVec S16 32) : Prop :=
  (∀ a x, ((![v238, v735] : Fin 2 → IVec S16 32) a x).toNat < S128x18.size a)
theorem k2_idx564_inb : ∀ (v238 : IVec S16 32) (v735 : IVec S16 32) (k2_hw564 : k2_chk564 v238 v735), ∀ a x, ((![v238, v735] : Fin 2 → IVec S16 32) a x).toNat < S128x18.size a := fun v238 v735 k2_hw564 => k2_hw564

def k2_chk565 (v238 : IVec S16 32) (v741 : IVec S16 32) : Prop :=
  (∀ a x, ((![v238, v741] : Fin 2 → IVec S16 32) a x).toNat < S128x18.size a)
theorem k2_idx565_inb : ∀ (v238 : IVec S16 32) (v741 : IVec S16 32) (k2_hw565 : k2_chk565 v238 v741), ∀ a x, ((![v238, v741] : Fin 2 → IVec S16 32) a x).toNat < S128x18.size a := fun v238 v741 k2_hw565 => k2_hw565

def k2_chk566 (v238 : IVec S16 32) (v747 : IVec S16 32) : Prop :=
  (∀ a x, ((![v238, v747] : Fin 2 → IVec S16 32) a x).toNat < S128x18.size a)
theorem k2_idx566_inb : ∀ (v238 : IVec S16 32) (v747 : IVec S16 32) (k2_hw566 : k2_chk566 v238 v747), ∀ a x, ((![v238, v747] : Fin 2 → IVec S16 32) a x).toNat < S128x18.size a := fun v238 v747 k2_hw566 => k2_hw566

def k2_chk567 (v257 : IVec S16 32) (v755 : IVec S16 32) : Prop :=
  (∀ a x, ((![v257, v755] : Fin 2 → IVec S16 32) a x).toNat < S128x18.size a)
theorem k2_idx567_inb : ∀ (v257 : IVec S16 32) (v755 : IVec S16 32) (k2_hw567 : k2_chk567 v257 v755), ∀ a x, ((![v257, v755] : Fin 2 → IVec S16 32) a x).toNat < S128x18.size a := fun v257 v755 k2_hw567 => k2_hw567

def k2_chk568 (v257 : IVec S16 32) (v761 : IVec S16 32) : Prop :=
  (∀ a x, ((![v257, v761] : Fin 2 → IVec S16 32) a x).toNat < S128x18.size a)
theorem k2_idx568_inb : ∀ (v257 : IVec S16 32) (v761 : IVec S16 32) (k2_hw568 : k2_chk568 v257 v761), ∀ a x, ((![v257, v761] : Fin 2 → IVec S16 32) a x).toNat < S128x18.size a := fun v257 v761 k2_hw568 => k2_hw568

def k2_chk569 (v257 : IVec S16 32) (v767 : IVec S16 32) : Prop :=
  (∀ a x, ((![v257, v767] : Fin 2 → IVec S16 32) a x).toNat < S128x18.size a)
theorem k2_idx569_inb : ∀ (v257 : IVec S16 32) (v767 : IVec S16 32) (k2_hw569 : k2_chk569 v257 v767), ∀ a x, ((![v257, v767] : Fin 2 → IVec S16 32) a x).toNat < S128x18.size a := fun v257 v767 k2_hw569 => k2_hw569

def k2_chk570 (v257 : IVec S16 32) (v773 : IVec S16 32) : Prop :=
  (∀ a x, ((![v257, v773] : Fin 2 → IVec S16 32) a x).toNat < S128x18.size a)
theorem k2_idx570_inb : ∀ (v257 : IVec S16 32) (v773 : IVec S16 32) (k2_hw570 : k2_chk570 v257 v773), ∀ a x, ((![v257, v773] : Fin 2 → IVec S16 32) a x).toNat < S128x18.size a := fun v257 v773 k2_hw570 => k2_hw570

def k2_chk571 (v257 : IVec S16 32) (v779 : IVec S16 32) : Prop :=
  (∀ a x, ((![v257, v779] : Fin 2 → IVec S16 32) a x).toNat < S128x18.size a)
theorem k2_idx571_inb : ∀ (v257 : IVec S16 32) (v779 : IVec S16 32) (k2_hw571 : k2_chk571 v257 v779), ∀ a x, ((![v257, v779] : Fin 2 → IVec S16 32) a x).toNat < S128x18.size a := fun v257 v779 k2_hw571 => k2_hw571

def k2_chk572 (v257 : IVec S16 32) (v785 : IVec S16 32) : Prop :=
  (∀ a x, ((![v257, v785] : Fin 2 → IVec S16 32) a x).toNat < S128x18.size a)
theorem k2_idx572_inb : ∀ (v257 : IVec S16 32) (v785 : IVec S16 32) (k2_hw572 : k2_chk572 v257 v785), ∀ a x, ((![v257, v785] : Fin 2 → IVec S16 32) a x).toNat < S128x18.size a := fun v257 v785 k2_hw572 => k2_hw572

def k2_chk573 (v257 : IVec S16 32) (v791 : IVec S16 32) : Prop :=
  (∀ a x, ((![v257, v791] : Fin 2 → IVec S16 32) a x).toNat < S128x18.size a)
theorem k2_idx573_inb : ∀ (v257 : IVec S16 32) (v791 : IVec S16 32) (k2_hw573 : k2_chk573 v257 v791), ∀ a x, ((![v257, v791] : Fin 2 → IVec S16 32) a x).toNat < S128x18.size a := fun v257 v791 k2_hw573 => k2_hw573

def k2_chk574 (v257 : IVec S16 32) (v797 : IVec S16 32) : Prop :=
  (∀ a x, ((![v257, v797] : Fin 2 → IVec S16 32) a x).toNat < S128x18.size a)
theorem k2_idx574_inb : ∀ (v257 : IVec S16 32) (v797 : IVec S16 32) (k2_hw574 : k2_chk574 v257 v797), ∀ a x, ((![v257, v797] : Fin 2 → IVec S16 32) a x).toNat < S128x18.size a := fun v257 v797 k2_hw574 => k2_hw574

def k2_chk575 (v257 : IVec S16 32) (v803 : IVec S16 32) : Prop :=
  (∀ a x, ((![v257, v803] : Fin 2 → IVec S16 32) a x).toNat < S128x18.size a)
theorem k2_idx575_inb : ∀ (v257 : IVec S16 32) (v803 : IVec S16 32) (k2_hw575 : k2_chk575 v257 v803), ∀ a x, ((![v257, v803] : Fin 2 → IVec S16 32) a x).toNat < S128x18.size a := fun v257 v803 k2_hw575 => k2_hw575

def k2_chk576 (v257 : IVec S16 32) (v809 : IVec S16 32) : Prop :=
  (∀ a x, ((![v257, v809] : Fin 2 → IVec S16 32) a x).toNat < S128x18.size a)
theorem k2_idx576_inb : ∀ (v257 : IVec S16 32) (v809 : IVec S16 32) (k2_hw576 : k2_chk576 v257 v809), ∀ a x, ((![v257, v809] : Fin 2 → IVec S16 32) a x).toNat < S128x18.size a := fun v257 v809 k2_hw576 => k2_hw576

def k2_chk577 (v257 : IVec S16 32) (v815 : IVec S16 32) : Prop :=
  (∀ a x, ((![v257, v815] : Fin 2 → IVec S16 32) a x).toNat < S128x18.size a)
theorem k2_idx577_inb : ∀ (v257 : IVec S16 32) (v815 : IVec S16 32) (k2_hw577 : k2_chk577 v257 v815), ∀ a x, ((![v257, v815] : Fin 2 → IVec S16 32) a x).toNat < S128x18.size a := fun v257 v815 k2_hw577 => k2_hw577

def k2_chk578 (v257 : IVec S16 32) (v821 : IVec S16 32) : Prop :=
  (∀ a x, ((![v257, v821] : Fin 2 → IVec S16 32) a x).toNat < S128x18.size a)
theorem k2_idx578_inb : ∀ (v257 : IVec S16 32) (v821 : IVec S16 32) (k2_hw578 : k2_chk578 v257 v821), ∀ a x, ((![v257, v821] : Fin 2 → IVec S16 32) a x).toNat < S128x18.size a := fun v257 v821 k2_hw578 => k2_hw578

def k2_chk579 (v257 : IVec S16 32) (v827 : IVec S16 32) : Prop :=
  (∀ a x, ((![v257, v827] : Fin 2 → IVec S16 32) a x).toNat < S128x18.size a)
theorem k2_idx579_inb : ∀ (v257 : IVec S16 32) (v827 : IVec S16 32) (k2_hw579 : k2_chk579 v257 v827), ∀ a x, ((![v257, v827] : Fin 2 → IVec S16 32) a x).toNat < S128x18.size a := fun v257 v827 k2_hw579 => k2_hw579

def k2_chk580 (v257 : IVec S16 32) (v833 : IVec S16 32) : Prop :=
  (∀ a x, ((![v257, v833] : Fin 2 → IVec S16 32) a x).toNat < S128x18.size a)
theorem k2_idx580_inb : ∀ (v257 : IVec S16 32) (v833 : IVec S16 32) (k2_hw580 : k2_chk580 v257 v833), ∀ a x, ((![v257, v833] : Fin 2 → IVec S16 32) a x).toNat < S128x18.size a := fun v257 v833 k2_hw580 => k2_hw580

def k2_chk581 (v257 : IVec S16 32) (v839 : IVec S16 32) : Prop :=
  (∀ a x, ((![v257, v839] : Fin 2 → IVec S16 32) a x).toNat < S128x18.size a)
theorem k2_idx581_inb : ∀ (v257 : IVec S16 32) (v839 : IVec S16 32) (k2_hw581 : k2_chk581 v257 v839), ∀ a x, ((![v257, v839] : Fin 2 → IVec S16 32) a x).toNat < S128x18.size a := fun v257 v839 k2_hw581 => k2_hw581

def k2_chk582 (v257 : IVec S16 32) (v845 : IVec S16 32) : Prop :=
  (∀ a x, ((![v257, v845] : Fin 2 → IVec S16 32) a x).toNat < S128x18.size a)
theorem k2_idx582_inb : ∀ (v257 : IVec S16 32) (v845 : IVec S16 32) (k2_hw582 : k2_chk582 v257 v845), ∀ a x, ((![v257, v845] : Fin 2 → IVec S16 32) a x).toNat < S128x18.size a := fun v257 v845 k2_hw582 => k2_hw582

def k2_chk583 (v257 : IVec S16 32) (v851 : IVec S16 32) : Prop :=
  (∀ a x, ((![v257, v851] : Fin 2 → IVec S16 32) a x).toNat < S128x18.size a)
theorem k2_idx583_inb : ∀ (v257 : IVec S16 32) (v851 : IVec S16 32) (k2_hw583 : k2_chk583 v257 v851), ∀ a x, ((![v257, v851] : Fin 2 → IVec S16 32) a x).toNat < S128x18.size a := fun v257 v851 k2_hw583 => k2_hw583

def k2_chk584 (v257 : IVec S16 32) (v857 : IVec S16 32) : Prop :=
  (∀ a x, ((![v257, v857] : Fin 2 → IVec S16 32) a x).toNat < S128x18.size a)
theorem k2_idx584_inb : ∀ (v257 : IVec S16 32) (v857 : IVec S16 32) (k2_hw584 : k2_chk584 v257 v857), ∀ a x, ((![v257, v857] : Fin 2 → IVec S16 32) a x).toNat < S128x18.size a := fun v257 v857 k2_hw584 => k2_hw584
@[reducible] def k2_t8_loop : Scf.Loop 32 :=
  let c0_i32_99 : BitVec 32 := 0#32
  let c2_i32_100 : BitVec 32 := 2#32
  let v76 : BitVec 32 := Scalar.addi c0_i32_99 c2_i32_100
  let c1_i32_101 : BitVec 32 := 1#32
  ⟨c0_i32_99, v76, c1_i32_101⟩
def k2_off12 (k2_t8 : Fin k2_t8_loop.trips) (c0_i32_243 : BitVec 32) : Fin 1 → Nat :=
  let c768_i32_244 : BitVec 32 := 768#32
  let c0_i32_99 : BitVec 32 := 0#32
  let c1_i32_101 : BitVec 32 := 1#32
  let arg18 : BitVec 32 := Scf.iv c0_i32_99 c1_i32_101 k2_t8
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c768_i32_244 v184
  let v186 : Index := Scalar.indexCast v185
  ![v186.toNat]

def k2_chk585 (v200 : IVec S16 32) (v263 : IVec S16 32) : Prop :=
  (∀ a x, ((![v200, v263] : Fin 2 → IVec S16 32) a x).toNat < S128x128.size a)
theorem k2_idx585_inb : ∀ (v200 : IVec S16 32) (v263 : IVec S16 32) (k2_hw585 : k2_chk585 v200 v263), ∀ a x, ((![v200, v263] : Fin 2 → IVec S16 32) a x).toNat < S128x128.size a := fun v200 v263 k2_hw585 => k2_hw585

def k2_chk586 (v219 : IVec S16 32) (v270 : IVec S16 32) : Prop :=
  (∀ a x, ((![v219, v270] : Fin 2 → IVec S16 32) a x).toNat < S128x128.size a)
theorem k2_idx586_inb : ∀ (v219 : IVec S16 32) (v270 : IVec S16 32) (k2_hw586 : k2_chk586 v219 v270), ∀ a x, ((![v219, v270] : Fin 2 → IVec S16 32) a x).toNat < S128x128.size a := fun v219 v270 k2_hw586 => k2_hw586

def k2_chk587 (v238 : IVec S16 32) (v277 : IVec S16 32) : Prop :=
  (∀ a x, ((![v238, v277] : Fin 2 → IVec S16 32) a x).toNat < S128x128.size a)
theorem k2_idx587_inb : ∀ (v238 : IVec S16 32) (v277 : IVec S16 32) (k2_hw587 : k2_chk587 v238 v277), ∀ a x, ((![v238, v277] : Fin 2 → IVec S16 32) a x).toNat < S128x128.size a := fun v238 v277 k2_hw587 => k2_hw587

def k2_chk588 (v257 : IVec S16 32) (v284 : IVec S16 32) : Prop :=
  (∀ a x, ((![v257, v284] : Fin 2 → IVec S16 32) a x).toNat < S128x128.size a)
theorem k2_idx588_inb : ∀ (v257 : IVec S16 32) (v284 : IVec S16 32) (k2_hw588 : k2_chk588 v257 v284), ∀ a x, ((![v257, v284] : Fin 2 → IVec S16 32) a x).toNat < S128x128.size a := fun v257 v284 k2_hw588 => k2_hw588

def k2_chk589 (v200 : IVec S16 32) (v303 : IVec S16 32) : Prop :=
  (∀ a x, ((![v200, v303] : Fin 2 → IVec S16 32) a x).toNat < S128x128.size a)
theorem k2_idx589_inb : ∀ (v200 : IVec S16 32) (v303 : IVec S16 32) (k2_hw589 : k2_chk589 v200 v303), ∀ a x, ((![v200, v303] : Fin 2 → IVec S16 32) a x).toNat < S128x128.size a := fun v200 v303 k2_hw589 => k2_hw589

def k2_chk590 (v219 : IVec S16 32) (v310 : IVec S16 32) : Prop :=
  (∀ a x, ((![v219, v310] : Fin 2 → IVec S16 32) a x).toNat < S128x128.size a)
theorem k2_idx590_inb : ∀ (v219 : IVec S16 32) (v310 : IVec S16 32) (k2_hw590 : k2_chk590 v219 v310), ∀ a x, ((![v219, v310] : Fin 2 → IVec S16 32) a x).toNat < S128x128.size a := fun v219 v310 k2_hw590 => k2_hw590

def k2_chk591 (v238 : IVec S16 32) (v317 : IVec S16 32) : Prop :=
  (∀ a x, ((![v238, v317] : Fin 2 → IVec S16 32) a x).toNat < S128x128.size a)
theorem k2_idx591_inb : ∀ (v238 : IVec S16 32) (v317 : IVec S16 32) (k2_hw591 : k2_chk591 v238 v317), ∀ a x, ((![v238, v317] : Fin 2 → IVec S16 32) a x).toNat < S128x128.size a := fun v238 v317 k2_hw591 => k2_hw591

def k2_chk592 (v257 : IVec S16 32) (v324 : IVec S16 32) : Prop :=
  (∀ a x, ((![v257, v324] : Fin 2 → IVec S16 32) a x).toNat < S128x128.size a)
theorem k2_idx592_inb : ∀ (v257 : IVec S16 32) (v324 : IVec S16 32) (k2_hw592 : k2_chk592 v257 v324), ∀ a x, ((![v257, v324] : Fin 2 → IVec S16 32) a x).toNat < S128x128.size a := fun v257 v324 k2_hw592 => k2_hw592

def k2_chk593 (v200 : IVec S16 32) (v343 : IVec S16 32) : Prop :=
  (∀ a x, ((![v200, v343] : Fin 2 → IVec S16 32) a x).toNat < S128x128.size a)
theorem k2_idx593_inb : ∀ (v200 : IVec S16 32) (v343 : IVec S16 32) (k2_hw593 : k2_chk593 v200 v343), ∀ a x, ((![v200, v343] : Fin 2 → IVec S16 32) a x).toNat < S128x128.size a := fun v200 v343 k2_hw593 => k2_hw593

def k2_chk594 (v219 : IVec S16 32) (v350 : IVec S16 32) : Prop :=
  (∀ a x, ((![v219, v350] : Fin 2 → IVec S16 32) a x).toNat < S128x128.size a)
theorem k2_idx594_inb : ∀ (v219 : IVec S16 32) (v350 : IVec S16 32) (k2_hw594 : k2_chk594 v219 v350), ∀ a x, ((![v219, v350] : Fin 2 → IVec S16 32) a x).toNat < S128x128.size a := fun v219 v350 k2_hw594 => k2_hw594

def k2_chk595 (v238 : IVec S16 32) (v357 : IVec S16 32) : Prop :=
  (∀ a x, ((![v238, v357] : Fin 2 → IVec S16 32) a x).toNat < S128x128.size a)
theorem k2_idx595_inb : ∀ (v238 : IVec S16 32) (v357 : IVec S16 32) (k2_hw595 : k2_chk595 v238 v357), ∀ a x, ((![v238, v357] : Fin 2 → IVec S16 32) a x).toNat < S128x128.size a := fun v238 v357 k2_hw595 => k2_hw595

def k2_chk596 (v257 : IVec S16 32) (v364 : IVec S16 32) : Prop :=
  (∀ a x, ((![v257, v364] : Fin 2 → IVec S16 32) a x).toNat < S128x128.size a)
theorem k2_idx596_inb : ∀ (v257 : IVec S16 32) (v364 : IVec S16 32) (k2_hw596 : k2_chk596 v257 v364), ∀ a x, ((![v257, v364] : Fin 2 → IVec S16 32) a x).toNat < S128x128.size a := fun v257 v364 k2_hw596 => k2_hw596

def k2_chk597 (v200 : IVec S16 32) (v383 : IVec S16 32) : Prop :=
  (∀ a x, ((![v200, v383] : Fin 2 → IVec S16 32) a x).toNat < S128x128.size a)
theorem k2_idx597_inb : ∀ (v200 : IVec S16 32) (v383 : IVec S16 32) (k2_hw597 : k2_chk597 v200 v383), ∀ a x, ((![v200, v383] : Fin 2 → IVec S16 32) a x).toNat < S128x128.size a := fun v200 v383 k2_hw597 => k2_hw597

def k2_chk598 (v219 : IVec S16 32) (v390 : IVec S16 32) : Prop :=
  (∀ a x, ((![v219, v390] : Fin 2 → IVec S16 32) a x).toNat < S128x128.size a)
theorem k2_idx598_inb : ∀ (v219 : IVec S16 32) (v390 : IVec S16 32) (k2_hw598 : k2_chk598 v219 v390), ∀ a x, ((![v219, v390] : Fin 2 → IVec S16 32) a x).toNat < S128x128.size a := fun v219 v390 k2_hw598 => k2_hw598

def k2_chk599 (v238 : IVec S16 32) (v397 : IVec S16 32) : Prop :=
  (∀ a x, ((![v238, v397] : Fin 2 → IVec S16 32) a x).toNat < S128x128.size a)
theorem k2_idx599_inb : ∀ (v238 : IVec S16 32) (v397 : IVec S16 32) (k2_hw599 : k2_chk599 v238 v397), ∀ a x, ((![v238, v397] : Fin 2 → IVec S16 32) a x).toNat < S128x128.size a := fun v238 v397 k2_hw599 => k2_hw599

def k2_chk600 (v257 : IVec S16 32) (v404 : IVec S16 32) : Prop :=
  (∀ a x, ((![v257, v404] : Fin 2 → IVec S16 32) a x).toNat < S128x128.size a)
theorem k2_idx600_inb : ∀ (v257 : IVec S16 32) (v404 : IVec S16 32) (k2_hw600 : k2_chk600 v257 v404), ∀ a x, ((![v257, v404] : Fin 2 → IVec S16 32) a x).toNat < S128x128.size a := fun v257 v404 k2_hw600 => k2_hw600

def k2_chk601 (v200 : IVec S16 32) (v425 : IVec S16 32) : Prop :=
  (∀ a x, ((![v200, v425] : Fin 2 → IVec S16 32) a x).toNat < S128x18.size a)
theorem k2_idx601_inb : ∀ (v200 : IVec S16 32) (v425 : IVec S16 32) (k2_hw601 : k2_chk601 v200 v425), ∀ a x, ((![v200, v425] : Fin 2 → IVec S16 32) a x).toNat < S128x18.size a := fun v200 v425 k2_hw601 => k2_hw601

def k2_chk602 (v200 : IVec S16 32) (v431 : IVec S16 32) : Prop :=
  (∀ a x, ((![v200, v431] : Fin 2 → IVec S16 32) a x).toNat < S128x18.size a)
theorem k2_idx602_inb : ∀ (v200 : IVec S16 32) (v431 : IVec S16 32) (k2_hw602 : k2_chk602 v200 v431), ∀ a x, ((![v200, v431] : Fin 2 → IVec S16 32) a x).toNat < S128x18.size a := fun v200 v431 k2_hw602 => k2_hw602

def k2_chk603 (v200 : IVec S16 32) (v437 : IVec S16 32) : Prop :=
  (∀ a x, ((![v200, v437] : Fin 2 → IVec S16 32) a x).toNat < S128x18.size a)
theorem k2_idx603_inb : ∀ (v200 : IVec S16 32) (v437 : IVec S16 32) (k2_hw603 : k2_chk603 v200 v437), ∀ a x, ((![v200, v437] : Fin 2 → IVec S16 32) a x).toNat < S128x18.size a := fun v200 v437 k2_hw603 => k2_hw603

def k2_chk604 (v200 : IVec S16 32) (v443 : IVec S16 32) : Prop :=
  (∀ a x, ((![v200, v443] : Fin 2 → IVec S16 32) a x).toNat < S128x18.size a)
theorem k2_idx604_inb : ∀ (v200 : IVec S16 32) (v443 : IVec S16 32) (k2_hw604 : k2_chk604 v200 v443), ∀ a x, ((![v200, v443] : Fin 2 → IVec S16 32) a x).toNat < S128x18.size a := fun v200 v443 k2_hw604 => k2_hw604

def k2_chk605 (v200 : IVec S16 32) (v449 : IVec S16 32) : Prop :=
  (∀ a x, ((![v200, v449] : Fin 2 → IVec S16 32) a x).toNat < S128x18.size a)
theorem k2_idx605_inb : ∀ (v200 : IVec S16 32) (v449 : IVec S16 32) (k2_hw605 : k2_chk605 v200 v449), ∀ a x, ((![v200, v449] : Fin 2 → IVec S16 32) a x).toNat < S128x18.size a := fun v200 v449 k2_hw605 => k2_hw605

def k2_chk606 (v200 : IVec S16 32) (v455 : IVec S16 32) : Prop :=
  (∀ a x, ((![v200, v455] : Fin 2 → IVec S16 32) a x).toNat < S128x18.size a)
theorem k2_idx606_inb : ∀ (v200 : IVec S16 32) (v455 : IVec S16 32) (k2_hw606 : k2_chk606 v200 v455), ∀ a x, ((![v200, v455] : Fin 2 → IVec S16 32) a x).toNat < S128x18.size a := fun v200 v455 k2_hw606 => k2_hw606

def k2_chk607 (v200 : IVec S16 32) (v461 : IVec S16 32) : Prop :=
  (∀ a x, ((![v200, v461] : Fin 2 → IVec S16 32) a x).toNat < S128x18.size a)
theorem k2_idx607_inb : ∀ (v200 : IVec S16 32) (v461 : IVec S16 32) (k2_hw607 : k2_chk607 v200 v461), ∀ a x, ((![v200, v461] : Fin 2 → IVec S16 32) a x).toNat < S128x18.size a := fun v200 v461 k2_hw607 => k2_hw607

def k2_chk608 (v200 : IVec S16 32) (v467 : IVec S16 32) : Prop :=
  (∀ a x, ((![v200, v467] : Fin 2 → IVec S16 32) a x).toNat < S128x18.size a)
theorem k2_idx608_inb : ∀ (v200 : IVec S16 32) (v467 : IVec S16 32) (k2_hw608 : k2_chk608 v200 v467), ∀ a x, ((![v200, v467] : Fin 2 → IVec S16 32) a x).toNat < S128x18.size a := fun v200 v467 k2_hw608 => k2_hw608

def k2_chk609 (v200 : IVec S16 32) (v473 : IVec S16 32) : Prop :=
  (∀ a x, ((![v200, v473] : Fin 2 → IVec S16 32) a x).toNat < S128x18.size a)
theorem k2_idx609_inb : ∀ (v200 : IVec S16 32) (v473 : IVec S16 32) (k2_hw609 : k2_chk609 v200 v473), ∀ a x, ((![v200, v473] : Fin 2 → IVec S16 32) a x).toNat < S128x18.size a := fun v200 v473 k2_hw609 => k2_hw609

def k2_chk610 (v200 : IVec S16 32) (v479 : IVec S16 32) : Prop :=
  (∀ a x, ((![v200, v479] : Fin 2 → IVec S16 32) a x).toNat < S128x18.size a)
theorem k2_idx610_inb : ∀ (v200 : IVec S16 32) (v479 : IVec S16 32) (k2_hw610 : k2_chk610 v200 v479), ∀ a x, ((![v200, v479] : Fin 2 → IVec S16 32) a x).toNat < S128x18.size a := fun v200 v479 k2_hw610 => k2_hw610

def k2_chk611 (v200 : IVec S16 32) (v485 : IVec S16 32) : Prop :=
  (∀ a x, ((![v200, v485] : Fin 2 → IVec S16 32) a x).toNat < S128x18.size a)
theorem k2_idx611_inb : ∀ (v200 : IVec S16 32) (v485 : IVec S16 32) (k2_hw611 : k2_chk611 v200 v485), ∀ a x, ((![v200, v485] : Fin 2 → IVec S16 32) a x).toNat < S128x18.size a := fun v200 v485 k2_hw611 => k2_hw611

def k2_chk612 (v200 : IVec S16 32) (v491 : IVec S16 32) : Prop :=
  (∀ a x, ((![v200, v491] : Fin 2 → IVec S16 32) a x).toNat < S128x18.size a)
theorem k2_idx612_inb : ∀ (v200 : IVec S16 32) (v491 : IVec S16 32) (k2_hw612 : k2_chk612 v200 v491), ∀ a x, ((![v200, v491] : Fin 2 → IVec S16 32) a x).toNat < S128x18.size a := fun v200 v491 k2_hw612 => k2_hw612

def k2_chk613 (v200 : IVec S16 32) (v497 : IVec S16 32) : Prop :=
  (∀ a x, ((![v200, v497] : Fin 2 → IVec S16 32) a x).toNat < S128x18.size a)
theorem k2_idx613_inb : ∀ (v200 : IVec S16 32) (v497 : IVec S16 32) (k2_hw613 : k2_chk613 v200 v497), ∀ a x, ((![v200, v497] : Fin 2 → IVec S16 32) a x).toNat < S128x18.size a := fun v200 v497 k2_hw613 => k2_hw613

def k2_chk614 (v200 : IVec S16 32) (v503 : IVec S16 32) : Prop :=
  (∀ a x, ((![v200, v503] : Fin 2 → IVec S16 32) a x).toNat < S128x18.size a)
theorem k2_idx614_inb : ∀ (v200 : IVec S16 32) (v503 : IVec S16 32) (k2_hw614 : k2_chk614 v200 v503), ∀ a x, ((![v200, v503] : Fin 2 → IVec S16 32) a x).toNat < S128x18.size a := fun v200 v503 k2_hw614 => k2_hw614

def k2_chk615 (v200 : IVec S16 32) (v509 : IVec S16 32) : Prop :=
  (∀ a x, ((![v200, v509] : Fin 2 → IVec S16 32) a x).toNat < S128x18.size a)
theorem k2_idx615_inb : ∀ (v200 : IVec S16 32) (v509 : IVec S16 32) (k2_hw615 : k2_chk615 v200 v509), ∀ a x, ((![v200, v509] : Fin 2 → IVec S16 32) a x).toNat < S128x18.size a := fun v200 v509 k2_hw615 => k2_hw615

def k2_chk616 (v200 : IVec S16 32) (v515 : IVec S16 32) : Prop :=
  (∀ a x, ((![v200, v515] : Fin 2 → IVec S16 32) a x).toNat < S128x18.size a)
theorem k2_idx616_inb : ∀ (v200 : IVec S16 32) (v515 : IVec S16 32) (k2_hw616 : k2_chk616 v200 v515), ∀ a x, ((![v200, v515] : Fin 2 → IVec S16 32) a x).toNat < S128x18.size a := fun v200 v515 k2_hw616 => k2_hw616

def k2_chk617 (v200 : IVec S16 32) (v521 : IVec S16 32) : Prop :=
  (∀ a x, ((![v200, v521] : Fin 2 → IVec S16 32) a x).toNat < S128x18.size a)
theorem k2_idx617_inb : ∀ (v200 : IVec S16 32) (v521 : IVec S16 32) (k2_hw617 : k2_chk617 v200 v521), ∀ a x, ((![v200, v521] : Fin 2 → IVec S16 32) a x).toNat < S128x18.size a := fun v200 v521 k2_hw617 => k2_hw617

def k2_chk618 (v200 : IVec S16 32) (v527 : IVec S16 32) : Prop :=
  (∀ a x, ((![v200, v527] : Fin 2 → IVec S16 32) a x).toNat < S128x18.size a)
theorem k2_idx618_inb : ∀ (v200 : IVec S16 32) (v527 : IVec S16 32) (k2_hw618 : k2_chk618 v200 v527), ∀ a x, ((![v200, v527] : Fin 2 → IVec S16 32) a x).toNat < S128x18.size a := fun v200 v527 k2_hw618 => k2_hw618

def k2_chk619 (v219 : IVec S16 32) (v535 : IVec S16 32) : Prop :=
  (∀ a x, ((![v219, v535] : Fin 2 → IVec S16 32) a x).toNat < S128x18.size a)
theorem k2_idx619_inb : ∀ (v219 : IVec S16 32) (v535 : IVec S16 32) (k2_hw619 : k2_chk619 v219 v535), ∀ a x, ((![v219, v535] : Fin 2 → IVec S16 32) a x).toNat < S128x18.size a := fun v219 v535 k2_hw619 => k2_hw619

def k2_chk620 (v219 : IVec S16 32) (v541 : IVec S16 32) : Prop :=
  (∀ a x, ((![v219, v541] : Fin 2 → IVec S16 32) a x).toNat < S128x18.size a)
theorem k2_idx620_inb : ∀ (v219 : IVec S16 32) (v541 : IVec S16 32) (k2_hw620 : k2_chk620 v219 v541), ∀ a x, ((![v219, v541] : Fin 2 → IVec S16 32) a x).toNat < S128x18.size a := fun v219 v541 k2_hw620 => k2_hw620

def k2_chk621 (v219 : IVec S16 32) (v547 : IVec S16 32) : Prop :=
  (∀ a x, ((![v219, v547] : Fin 2 → IVec S16 32) a x).toNat < S128x18.size a)
theorem k2_idx621_inb : ∀ (v219 : IVec S16 32) (v547 : IVec S16 32) (k2_hw621 : k2_chk621 v219 v547), ∀ a x, ((![v219, v547] : Fin 2 → IVec S16 32) a x).toNat < S128x18.size a := fun v219 v547 k2_hw621 => k2_hw621

def k2_chk622 (v219 : IVec S16 32) (v553 : IVec S16 32) : Prop :=
  (∀ a x, ((![v219, v553] : Fin 2 → IVec S16 32) a x).toNat < S128x18.size a)
theorem k2_idx622_inb : ∀ (v219 : IVec S16 32) (v553 : IVec S16 32) (k2_hw622 : k2_chk622 v219 v553), ∀ a x, ((![v219, v553] : Fin 2 → IVec S16 32) a x).toNat < S128x18.size a := fun v219 v553 k2_hw622 => k2_hw622

def k2_chk623 (v219 : IVec S16 32) (v559 : IVec S16 32) : Prop :=
  (∀ a x, ((![v219, v559] : Fin 2 → IVec S16 32) a x).toNat < S128x18.size a)
theorem k2_idx623_inb : ∀ (v219 : IVec S16 32) (v559 : IVec S16 32) (k2_hw623 : k2_chk623 v219 v559), ∀ a x, ((![v219, v559] : Fin 2 → IVec S16 32) a x).toNat < S128x18.size a := fun v219 v559 k2_hw623 => k2_hw623

def k2_chk624 (v219 : IVec S16 32) (v565 : IVec S16 32) : Prop :=
  (∀ a x, ((![v219, v565] : Fin 2 → IVec S16 32) a x).toNat < S128x18.size a)
theorem k2_idx624_inb : ∀ (v219 : IVec S16 32) (v565 : IVec S16 32) (k2_hw624 : k2_chk624 v219 v565), ∀ a x, ((![v219, v565] : Fin 2 → IVec S16 32) a x).toNat < S128x18.size a := fun v219 v565 k2_hw624 => k2_hw624

def k2_chk625 (v219 : IVec S16 32) (v571 : IVec S16 32) : Prop :=
  (∀ a x, ((![v219, v571] : Fin 2 → IVec S16 32) a x).toNat < S128x18.size a)
theorem k2_idx625_inb : ∀ (v219 : IVec S16 32) (v571 : IVec S16 32) (k2_hw625 : k2_chk625 v219 v571), ∀ a x, ((![v219, v571] : Fin 2 → IVec S16 32) a x).toNat < S128x18.size a := fun v219 v571 k2_hw625 => k2_hw625

def k2_chk626 (v219 : IVec S16 32) (v577 : IVec S16 32) : Prop :=
  (∀ a x, ((![v219, v577] : Fin 2 → IVec S16 32) a x).toNat < S128x18.size a)
theorem k2_idx626_inb : ∀ (v219 : IVec S16 32) (v577 : IVec S16 32) (k2_hw626 : k2_chk626 v219 v577), ∀ a x, ((![v219, v577] : Fin 2 → IVec S16 32) a x).toNat < S128x18.size a := fun v219 v577 k2_hw626 => k2_hw626

def k2_chk627 (v219 : IVec S16 32) (v583 : IVec S16 32) : Prop :=
  (∀ a x, ((![v219, v583] : Fin 2 → IVec S16 32) a x).toNat < S128x18.size a)
theorem k2_idx627_inb : ∀ (v219 : IVec S16 32) (v583 : IVec S16 32) (k2_hw627 : k2_chk627 v219 v583), ∀ a x, ((![v219, v583] : Fin 2 → IVec S16 32) a x).toNat < S128x18.size a := fun v219 v583 k2_hw627 => k2_hw627

def k2_chk628 (v219 : IVec S16 32) (v589 : IVec S16 32) : Prop :=
  (∀ a x, ((![v219, v589] : Fin 2 → IVec S16 32) a x).toNat < S128x18.size a)
theorem k2_idx628_inb : ∀ (v219 : IVec S16 32) (v589 : IVec S16 32) (k2_hw628 : k2_chk628 v219 v589), ∀ a x, ((![v219, v589] : Fin 2 → IVec S16 32) a x).toNat < S128x18.size a := fun v219 v589 k2_hw628 => k2_hw628

def k2_chk629 (v219 : IVec S16 32) (v595 : IVec S16 32) : Prop :=
  (∀ a x, ((![v219, v595] : Fin 2 → IVec S16 32) a x).toNat < S128x18.size a)
theorem k2_idx629_inb : ∀ (v219 : IVec S16 32) (v595 : IVec S16 32) (k2_hw629 : k2_chk629 v219 v595), ∀ a x, ((![v219, v595] : Fin 2 → IVec S16 32) a x).toNat < S128x18.size a := fun v219 v595 k2_hw629 => k2_hw629

def k2_chk630 (v219 : IVec S16 32) (v601 : IVec S16 32) : Prop :=
  (∀ a x, ((![v219, v601] : Fin 2 → IVec S16 32) a x).toNat < S128x18.size a)
theorem k2_idx630_inb : ∀ (v219 : IVec S16 32) (v601 : IVec S16 32) (k2_hw630 : k2_chk630 v219 v601), ∀ a x, ((![v219, v601] : Fin 2 → IVec S16 32) a x).toNat < S128x18.size a := fun v219 v601 k2_hw630 => k2_hw630

def k2_chk631 (v219 : IVec S16 32) (v607 : IVec S16 32) : Prop :=
  (∀ a x, ((![v219, v607] : Fin 2 → IVec S16 32) a x).toNat < S128x18.size a)
theorem k2_idx631_inb : ∀ (v219 : IVec S16 32) (v607 : IVec S16 32) (k2_hw631 : k2_chk631 v219 v607), ∀ a x, ((![v219, v607] : Fin 2 → IVec S16 32) a x).toNat < S128x18.size a := fun v219 v607 k2_hw631 => k2_hw631

def k2_chk632 (v219 : IVec S16 32) (v613 : IVec S16 32) : Prop :=
  (∀ a x, ((![v219, v613] : Fin 2 → IVec S16 32) a x).toNat < S128x18.size a)
theorem k2_idx632_inb : ∀ (v219 : IVec S16 32) (v613 : IVec S16 32) (k2_hw632 : k2_chk632 v219 v613), ∀ a x, ((![v219, v613] : Fin 2 → IVec S16 32) a x).toNat < S128x18.size a := fun v219 v613 k2_hw632 => k2_hw632

def k2_chk633 (v219 : IVec S16 32) (v619 : IVec S16 32) : Prop :=
  (∀ a x, ((![v219, v619] : Fin 2 → IVec S16 32) a x).toNat < S128x18.size a)
theorem k2_idx633_inb : ∀ (v219 : IVec S16 32) (v619 : IVec S16 32) (k2_hw633 : k2_chk633 v219 v619), ∀ a x, ((![v219, v619] : Fin 2 → IVec S16 32) a x).toNat < S128x18.size a := fun v219 v619 k2_hw633 => k2_hw633

def k2_chk634 (v219 : IVec S16 32) (v625 : IVec S16 32) : Prop :=
  (∀ a x, ((![v219, v625] : Fin 2 → IVec S16 32) a x).toNat < S128x18.size a)
theorem k2_idx634_inb : ∀ (v219 : IVec S16 32) (v625 : IVec S16 32) (k2_hw634 : k2_chk634 v219 v625), ∀ a x, ((![v219, v625] : Fin 2 → IVec S16 32) a x).toNat < S128x18.size a := fun v219 v625 k2_hw634 => k2_hw634

def k2_chk635 (v219 : IVec S16 32) (v631 : IVec S16 32) : Prop :=
  (∀ a x, ((![v219, v631] : Fin 2 → IVec S16 32) a x).toNat < S128x18.size a)
theorem k2_idx635_inb : ∀ (v219 : IVec S16 32) (v631 : IVec S16 32) (k2_hw635 : k2_chk635 v219 v631), ∀ a x, ((![v219, v631] : Fin 2 → IVec S16 32) a x).toNat < S128x18.size a := fun v219 v631 k2_hw635 => k2_hw635

def k2_chk636 (v219 : IVec S16 32) (v637 : IVec S16 32) : Prop :=
  (∀ a x, ((![v219, v637] : Fin 2 → IVec S16 32) a x).toNat < S128x18.size a)
theorem k2_idx636_inb : ∀ (v219 : IVec S16 32) (v637 : IVec S16 32) (k2_hw636 : k2_chk636 v219 v637), ∀ a x, ((![v219, v637] : Fin 2 → IVec S16 32) a x).toNat < S128x18.size a := fun v219 v637 k2_hw636 => k2_hw636

def k2_chk637 (v238 : IVec S16 32) (v645 : IVec S16 32) : Prop :=
  (∀ a x, ((![v238, v645] : Fin 2 → IVec S16 32) a x).toNat < S128x18.size a)
theorem k2_idx637_inb : ∀ (v238 : IVec S16 32) (v645 : IVec S16 32) (k2_hw637 : k2_chk637 v238 v645), ∀ a x, ((![v238, v645] : Fin 2 → IVec S16 32) a x).toNat < S128x18.size a := fun v238 v645 k2_hw637 => k2_hw637

def k2_chk638 (v238 : IVec S16 32) (v651 : IVec S16 32) : Prop :=
  (∀ a x, ((![v238, v651] : Fin 2 → IVec S16 32) a x).toNat < S128x18.size a)
theorem k2_idx638_inb : ∀ (v238 : IVec S16 32) (v651 : IVec S16 32) (k2_hw638 : k2_chk638 v238 v651), ∀ a x, ((![v238, v651] : Fin 2 → IVec S16 32) a x).toNat < S128x18.size a := fun v238 v651 k2_hw638 => k2_hw638

def k2_chk639 (v238 : IVec S16 32) (v657 : IVec S16 32) : Prop :=
  (∀ a x, ((![v238, v657] : Fin 2 → IVec S16 32) a x).toNat < S128x18.size a)
theorem k2_idx639_inb : ∀ (v238 : IVec S16 32) (v657 : IVec S16 32) (k2_hw639 : k2_chk639 v238 v657), ∀ a x, ((![v238, v657] : Fin 2 → IVec S16 32) a x).toNat < S128x18.size a := fun v238 v657 k2_hw639 => k2_hw639

def k2_chk640 (v238 : IVec S16 32) (v663 : IVec S16 32) : Prop :=
  (∀ a x, ((![v238, v663] : Fin 2 → IVec S16 32) a x).toNat < S128x18.size a)
theorem k2_idx640_inb : ∀ (v238 : IVec S16 32) (v663 : IVec S16 32) (k2_hw640 : k2_chk640 v238 v663), ∀ a x, ((![v238, v663] : Fin 2 → IVec S16 32) a x).toNat < S128x18.size a := fun v238 v663 k2_hw640 => k2_hw640

def k2_chk641 (v238 : IVec S16 32) (v669 : IVec S16 32) : Prop :=
  (∀ a x, ((![v238, v669] : Fin 2 → IVec S16 32) a x).toNat < S128x18.size a)
theorem k2_idx641_inb : ∀ (v238 : IVec S16 32) (v669 : IVec S16 32) (k2_hw641 : k2_chk641 v238 v669), ∀ a x, ((![v238, v669] : Fin 2 → IVec S16 32) a x).toNat < S128x18.size a := fun v238 v669 k2_hw641 => k2_hw641

def k2_chk642 (v238 : IVec S16 32) (v675 : IVec S16 32) : Prop :=
  (∀ a x, ((![v238, v675] : Fin 2 → IVec S16 32) a x).toNat < S128x18.size a)
theorem k2_idx642_inb : ∀ (v238 : IVec S16 32) (v675 : IVec S16 32) (k2_hw642 : k2_chk642 v238 v675), ∀ a x, ((![v238, v675] : Fin 2 → IVec S16 32) a x).toNat < S128x18.size a := fun v238 v675 k2_hw642 => k2_hw642

def k2_chk643 (v238 : IVec S16 32) (v681 : IVec S16 32) : Prop :=
  (∀ a x, ((![v238, v681] : Fin 2 → IVec S16 32) a x).toNat < S128x18.size a)
theorem k2_idx643_inb : ∀ (v238 : IVec S16 32) (v681 : IVec S16 32) (k2_hw643 : k2_chk643 v238 v681), ∀ a x, ((![v238, v681] : Fin 2 → IVec S16 32) a x).toNat < S128x18.size a := fun v238 v681 k2_hw643 => k2_hw643

def k2_chk644 (v238 : IVec S16 32) (v687 : IVec S16 32) : Prop :=
  (∀ a x, ((![v238, v687] : Fin 2 → IVec S16 32) a x).toNat < S128x18.size a)
theorem k2_idx644_inb : ∀ (v238 : IVec S16 32) (v687 : IVec S16 32) (k2_hw644 : k2_chk644 v238 v687), ∀ a x, ((![v238, v687] : Fin 2 → IVec S16 32) a x).toNat < S128x18.size a := fun v238 v687 k2_hw644 => k2_hw644

def k2_chk645 (v238 : IVec S16 32) (v693 : IVec S16 32) : Prop :=
  (∀ a x, ((![v238, v693] : Fin 2 → IVec S16 32) a x).toNat < S128x18.size a)
theorem k2_idx645_inb : ∀ (v238 : IVec S16 32) (v693 : IVec S16 32) (k2_hw645 : k2_chk645 v238 v693), ∀ a x, ((![v238, v693] : Fin 2 → IVec S16 32) a x).toNat < S128x18.size a := fun v238 v693 k2_hw645 => k2_hw645

def k2_chk646 (v238 : IVec S16 32) (v699 : IVec S16 32) : Prop :=
  (∀ a x, ((![v238, v699] : Fin 2 → IVec S16 32) a x).toNat < S128x18.size a)
theorem k2_idx646_inb : ∀ (v238 : IVec S16 32) (v699 : IVec S16 32) (k2_hw646 : k2_chk646 v238 v699), ∀ a x, ((![v238, v699] : Fin 2 → IVec S16 32) a x).toNat < S128x18.size a := fun v238 v699 k2_hw646 => k2_hw646

def k2_chk647 (v238 : IVec S16 32) (v705 : IVec S16 32) : Prop :=
  (∀ a x, ((![v238, v705] : Fin 2 → IVec S16 32) a x).toNat < S128x18.size a)
theorem k2_idx647_inb : ∀ (v238 : IVec S16 32) (v705 : IVec S16 32) (k2_hw647 : k2_chk647 v238 v705), ∀ a x, ((![v238, v705] : Fin 2 → IVec S16 32) a x).toNat < S128x18.size a := fun v238 v705 k2_hw647 => k2_hw647

def k2_chk648 (v238 : IVec S16 32) (v711 : IVec S16 32) : Prop :=
  (∀ a x, ((![v238, v711] : Fin 2 → IVec S16 32) a x).toNat < S128x18.size a)
theorem k2_idx648_inb : ∀ (v238 : IVec S16 32) (v711 : IVec S16 32) (k2_hw648 : k2_chk648 v238 v711), ∀ a x, ((![v238, v711] : Fin 2 → IVec S16 32) a x).toNat < S128x18.size a := fun v238 v711 k2_hw648 => k2_hw648

def k2_chk649 (v238 : IVec S16 32) (v717 : IVec S16 32) : Prop :=
  (∀ a x, ((![v238, v717] : Fin 2 → IVec S16 32) a x).toNat < S128x18.size a)
theorem k2_idx649_inb : ∀ (v238 : IVec S16 32) (v717 : IVec S16 32) (k2_hw649 : k2_chk649 v238 v717), ∀ a x, ((![v238, v717] : Fin 2 → IVec S16 32) a x).toNat < S128x18.size a := fun v238 v717 k2_hw649 => k2_hw649

def k2_chk650 (v238 : IVec S16 32) (v723 : IVec S16 32) : Prop :=
  (∀ a x, ((![v238, v723] : Fin 2 → IVec S16 32) a x).toNat < S128x18.size a)
theorem k2_idx650_inb : ∀ (v238 : IVec S16 32) (v723 : IVec S16 32) (k2_hw650 : k2_chk650 v238 v723), ∀ a x, ((![v238, v723] : Fin 2 → IVec S16 32) a x).toNat < S128x18.size a := fun v238 v723 k2_hw650 => k2_hw650

def k2_chk651 (v238 : IVec S16 32) (v729 : IVec S16 32) : Prop :=
  (∀ a x, ((![v238, v729] : Fin 2 → IVec S16 32) a x).toNat < S128x18.size a)
theorem k2_idx651_inb : ∀ (v238 : IVec S16 32) (v729 : IVec S16 32) (k2_hw651 : k2_chk651 v238 v729), ∀ a x, ((![v238, v729] : Fin 2 → IVec S16 32) a x).toNat < S128x18.size a := fun v238 v729 k2_hw651 => k2_hw651

def k2_chk652 (v238 : IVec S16 32) (v735 : IVec S16 32) : Prop :=
  (∀ a x, ((![v238, v735] : Fin 2 → IVec S16 32) a x).toNat < S128x18.size a)
theorem k2_idx652_inb : ∀ (v238 : IVec S16 32) (v735 : IVec S16 32) (k2_hw652 : k2_chk652 v238 v735), ∀ a x, ((![v238, v735] : Fin 2 → IVec S16 32) a x).toNat < S128x18.size a := fun v238 v735 k2_hw652 => k2_hw652

def k2_chk653 (v238 : IVec S16 32) (v741 : IVec S16 32) : Prop :=
  (∀ a x, ((![v238, v741] : Fin 2 → IVec S16 32) a x).toNat < S128x18.size a)
theorem k2_idx653_inb : ∀ (v238 : IVec S16 32) (v741 : IVec S16 32) (k2_hw653 : k2_chk653 v238 v741), ∀ a x, ((![v238, v741] : Fin 2 → IVec S16 32) a x).toNat < S128x18.size a := fun v238 v741 k2_hw653 => k2_hw653

def k2_chk654 (v238 : IVec S16 32) (v747 : IVec S16 32) : Prop :=
  (∀ a x, ((![v238, v747] : Fin 2 → IVec S16 32) a x).toNat < S128x18.size a)
theorem k2_idx654_inb : ∀ (v238 : IVec S16 32) (v747 : IVec S16 32) (k2_hw654 : k2_chk654 v238 v747), ∀ a x, ((![v238, v747] : Fin 2 → IVec S16 32) a x).toNat < S128x18.size a := fun v238 v747 k2_hw654 => k2_hw654

def k2_chk655 (v257 : IVec S16 32) (v755 : IVec S16 32) : Prop :=
  (∀ a x, ((![v257, v755] : Fin 2 → IVec S16 32) a x).toNat < S128x18.size a)
theorem k2_idx655_inb : ∀ (v257 : IVec S16 32) (v755 : IVec S16 32) (k2_hw655 : k2_chk655 v257 v755), ∀ a x, ((![v257, v755] : Fin 2 → IVec S16 32) a x).toNat < S128x18.size a := fun v257 v755 k2_hw655 => k2_hw655

def k2_chk656 (v257 : IVec S16 32) (v761 : IVec S16 32) : Prop :=
  (∀ a x, ((![v257, v761] : Fin 2 → IVec S16 32) a x).toNat < S128x18.size a)
theorem k2_idx656_inb : ∀ (v257 : IVec S16 32) (v761 : IVec S16 32) (k2_hw656 : k2_chk656 v257 v761), ∀ a x, ((![v257, v761] : Fin 2 → IVec S16 32) a x).toNat < S128x18.size a := fun v257 v761 k2_hw656 => k2_hw656

def k2_chk657 (v257 : IVec S16 32) (v767 : IVec S16 32) : Prop :=
  (∀ a x, ((![v257, v767] : Fin 2 → IVec S16 32) a x).toNat < S128x18.size a)
theorem k2_idx657_inb : ∀ (v257 : IVec S16 32) (v767 : IVec S16 32) (k2_hw657 : k2_chk657 v257 v767), ∀ a x, ((![v257, v767] : Fin 2 → IVec S16 32) a x).toNat < S128x18.size a := fun v257 v767 k2_hw657 => k2_hw657

def k2_chk658 (v257 : IVec S16 32) (v773 : IVec S16 32) : Prop :=
  (∀ a x, ((![v257, v773] : Fin 2 → IVec S16 32) a x).toNat < S128x18.size a)
theorem k2_idx658_inb : ∀ (v257 : IVec S16 32) (v773 : IVec S16 32) (k2_hw658 : k2_chk658 v257 v773), ∀ a x, ((![v257, v773] : Fin 2 → IVec S16 32) a x).toNat < S128x18.size a := fun v257 v773 k2_hw658 => k2_hw658

def k2_chk659 (v257 : IVec S16 32) (v779 : IVec S16 32) : Prop :=
  (∀ a x, ((![v257, v779] : Fin 2 → IVec S16 32) a x).toNat < S128x18.size a)
theorem k2_idx659_inb : ∀ (v257 : IVec S16 32) (v779 : IVec S16 32) (k2_hw659 : k2_chk659 v257 v779), ∀ a x, ((![v257, v779] : Fin 2 → IVec S16 32) a x).toNat < S128x18.size a := fun v257 v779 k2_hw659 => k2_hw659

def k2_chk660 (v257 : IVec S16 32) (v785 : IVec S16 32) : Prop :=
  (∀ a x, ((![v257, v785] : Fin 2 → IVec S16 32) a x).toNat < S128x18.size a)
theorem k2_idx660_inb : ∀ (v257 : IVec S16 32) (v785 : IVec S16 32) (k2_hw660 : k2_chk660 v257 v785), ∀ a x, ((![v257, v785] : Fin 2 → IVec S16 32) a x).toNat < S128x18.size a := fun v257 v785 k2_hw660 => k2_hw660

def k2_chk661 (v257 : IVec S16 32) (v791 : IVec S16 32) : Prop :=
  (∀ a x, ((![v257, v791] : Fin 2 → IVec S16 32) a x).toNat < S128x18.size a)
theorem k2_idx661_inb : ∀ (v257 : IVec S16 32) (v791 : IVec S16 32) (k2_hw661 : k2_chk661 v257 v791), ∀ a x, ((![v257, v791] : Fin 2 → IVec S16 32) a x).toNat < S128x18.size a := fun v257 v791 k2_hw661 => k2_hw661

def k2_chk662 (v257 : IVec S16 32) (v797 : IVec S16 32) : Prop :=
  (∀ a x, ((![v257, v797] : Fin 2 → IVec S16 32) a x).toNat < S128x18.size a)
theorem k2_idx662_inb : ∀ (v257 : IVec S16 32) (v797 : IVec S16 32) (k2_hw662 : k2_chk662 v257 v797), ∀ a x, ((![v257, v797] : Fin 2 → IVec S16 32) a x).toNat < S128x18.size a := fun v257 v797 k2_hw662 => k2_hw662

def k2_chk663 (v257 : IVec S16 32) (v803 : IVec S16 32) : Prop :=
  (∀ a x, ((![v257, v803] : Fin 2 → IVec S16 32) a x).toNat < S128x18.size a)
theorem k2_idx663_inb : ∀ (v257 : IVec S16 32) (v803 : IVec S16 32) (k2_hw663 : k2_chk663 v257 v803), ∀ a x, ((![v257, v803] : Fin 2 → IVec S16 32) a x).toNat < S128x18.size a := fun v257 v803 k2_hw663 => k2_hw663

def k2_chk664 (v257 : IVec S16 32) (v809 : IVec S16 32) : Prop :=
  (∀ a x, ((![v257, v809] : Fin 2 → IVec S16 32) a x).toNat < S128x18.size a)
theorem k2_idx664_inb : ∀ (v257 : IVec S16 32) (v809 : IVec S16 32) (k2_hw664 : k2_chk664 v257 v809), ∀ a x, ((![v257, v809] : Fin 2 → IVec S16 32) a x).toNat < S128x18.size a := fun v257 v809 k2_hw664 => k2_hw664

def k2_chk665 (v257 : IVec S16 32) (v815 : IVec S16 32) : Prop :=
  (∀ a x, ((![v257, v815] : Fin 2 → IVec S16 32) a x).toNat < S128x18.size a)
theorem k2_idx665_inb : ∀ (v257 : IVec S16 32) (v815 : IVec S16 32) (k2_hw665 : k2_chk665 v257 v815), ∀ a x, ((![v257, v815] : Fin 2 → IVec S16 32) a x).toNat < S128x18.size a := fun v257 v815 k2_hw665 => k2_hw665

def k2_chk666 (v257 : IVec S16 32) (v821 : IVec S16 32) : Prop :=
  (∀ a x, ((![v257, v821] : Fin 2 → IVec S16 32) a x).toNat < S128x18.size a)
theorem k2_idx666_inb : ∀ (v257 : IVec S16 32) (v821 : IVec S16 32) (k2_hw666 : k2_chk666 v257 v821), ∀ a x, ((![v257, v821] : Fin 2 → IVec S16 32) a x).toNat < S128x18.size a := fun v257 v821 k2_hw666 => k2_hw666

def k2_chk667 (v257 : IVec S16 32) (v827 : IVec S16 32) : Prop :=
  (∀ a x, ((![v257, v827] : Fin 2 → IVec S16 32) a x).toNat < S128x18.size a)
theorem k2_idx667_inb : ∀ (v257 : IVec S16 32) (v827 : IVec S16 32) (k2_hw667 : k2_chk667 v257 v827), ∀ a x, ((![v257, v827] : Fin 2 → IVec S16 32) a x).toNat < S128x18.size a := fun v257 v827 k2_hw667 => k2_hw667

def k2_chk668 (v257 : IVec S16 32) (v833 : IVec S16 32) : Prop :=
  (∀ a x, ((![v257, v833] : Fin 2 → IVec S16 32) a x).toNat < S128x18.size a)
theorem k2_idx668_inb : ∀ (v257 : IVec S16 32) (v833 : IVec S16 32) (k2_hw668 : k2_chk668 v257 v833), ∀ a x, ((![v257, v833] : Fin 2 → IVec S16 32) a x).toNat < S128x18.size a := fun v257 v833 k2_hw668 => k2_hw668

def k2_chk669 (v257 : IVec S16 32) (v839 : IVec S16 32) : Prop :=
  (∀ a x, ((![v257, v839] : Fin 2 → IVec S16 32) a x).toNat < S128x18.size a)
theorem k2_idx669_inb : ∀ (v257 : IVec S16 32) (v839 : IVec S16 32) (k2_hw669 : k2_chk669 v257 v839), ∀ a x, ((![v257, v839] : Fin 2 → IVec S16 32) a x).toNat < S128x18.size a := fun v257 v839 k2_hw669 => k2_hw669

def k2_chk670 (v257 : IVec S16 32) (v845 : IVec S16 32) : Prop :=
  (∀ a x, ((![v257, v845] : Fin 2 → IVec S16 32) a x).toNat < S128x18.size a)
theorem k2_idx670_inb : ∀ (v257 : IVec S16 32) (v845 : IVec S16 32) (k2_hw670 : k2_chk670 v257 v845), ∀ a x, ((![v257, v845] : Fin 2 → IVec S16 32) a x).toNat < S128x18.size a := fun v257 v845 k2_hw670 => k2_hw670

def k2_chk671 (v257 : IVec S16 32) (v851 : IVec S16 32) : Prop :=
  (∀ a x, ((![v257, v851] : Fin 2 → IVec S16 32) a x).toNat < S128x18.size a)
theorem k2_idx671_inb : ∀ (v257 : IVec S16 32) (v851 : IVec S16 32) (k2_hw671 : k2_chk671 v257 v851), ∀ a x, ((![v257, v851] : Fin 2 → IVec S16 32) a x).toNat < S128x18.size a := fun v257 v851 k2_hw671 => k2_hw671

def k2_chk672 (v257 : IVec S16 32) (v857 : IVec S16 32) : Prop :=
  (∀ a x, ((![v257, v857] : Fin 2 → IVec S16 32) a x).toNat < S128x18.size a)
theorem k2_idx672_inb : ∀ (v257 : IVec S16 32) (v857 : IVec S16 32) (k2_hw672 : k2_chk672 v257 v857), ∀ a x, ((![v257, v857] : Fin 2 → IVec S16 32) a x).toNat < S128x18.size a := fun v257 v857 k2_hw672 => k2_hw672
@[reducible] def k2_t9_loop : Scf.Loop 32 :=
  let c0_i32_114 : BitVec 32 := 0#32
  let c2_i32_115 : BitVec 32 := 2#32
  let v87 : BitVec 32 := Scalar.addi c0_i32_114 c2_i32_115
  let c1_i32_116 : BitVec 32 := 1#32
  ⟨c0_i32_114, v87, c1_i32_116⟩
def k2_off13 (k2_t9 : Fin k2_t9_loop.trips) (c0_i32_243 : BitVec 32) : Fin 1 → Nat :=
  let c896_i32_244 : BitVec 32 := 896#32
  let c0_i32_114 : BitVec 32 := 0#32
  let c1_i32_116 : BitVec 32 := 1#32
  let arg18 : BitVec 32 := Scf.iv c0_i32_114 c1_i32_116 k2_t9
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c896_i32_244 v184
  let v186 : Index := Scalar.indexCast v185
  ![v186.toNat]

def k2_chk673 (v200 : IVec S16 32) (v263 : IVec S16 32) : Prop :=
  (∀ a x, ((![v200, v263] : Fin 2 → IVec S16 32) a x).toNat < S128x128.size a)
theorem k2_idx673_inb : ∀ (v200 : IVec S16 32) (v263 : IVec S16 32) (k2_hw673 : k2_chk673 v200 v263), ∀ a x, ((![v200, v263] : Fin 2 → IVec S16 32) a x).toNat < S128x128.size a := fun v200 v263 k2_hw673 => k2_hw673

def k2_chk674 (v219 : IVec S16 32) (v270 : IVec S16 32) : Prop :=
  (∀ a x, ((![v219, v270] : Fin 2 → IVec S16 32) a x).toNat < S128x128.size a)
theorem k2_idx674_inb : ∀ (v219 : IVec S16 32) (v270 : IVec S16 32) (k2_hw674 : k2_chk674 v219 v270), ∀ a x, ((![v219, v270] : Fin 2 → IVec S16 32) a x).toNat < S128x128.size a := fun v219 v270 k2_hw674 => k2_hw674

def k2_chk675 (v238 : IVec S16 32) (v277 : IVec S16 32) : Prop :=
  (∀ a x, ((![v238, v277] : Fin 2 → IVec S16 32) a x).toNat < S128x128.size a)
theorem k2_idx675_inb : ∀ (v238 : IVec S16 32) (v277 : IVec S16 32) (k2_hw675 : k2_chk675 v238 v277), ∀ a x, ((![v238, v277] : Fin 2 → IVec S16 32) a x).toNat < S128x128.size a := fun v238 v277 k2_hw675 => k2_hw675

def k2_chk676 (v257 : IVec S16 32) (v284 : IVec S16 32) : Prop :=
  (∀ a x, ((![v257, v284] : Fin 2 → IVec S16 32) a x).toNat < S128x128.size a)
theorem k2_idx676_inb : ∀ (v257 : IVec S16 32) (v284 : IVec S16 32) (k2_hw676 : k2_chk676 v257 v284), ∀ a x, ((![v257, v284] : Fin 2 → IVec S16 32) a x).toNat < S128x128.size a := fun v257 v284 k2_hw676 => k2_hw676

def k2_chk677 (v200 : IVec S16 32) (v303 : IVec S16 32) : Prop :=
  (∀ a x, ((![v200, v303] : Fin 2 → IVec S16 32) a x).toNat < S128x128.size a)
theorem k2_idx677_inb : ∀ (v200 : IVec S16 32) (v303 : IVec S16 32) (k2_hw677 : k2_chk677 v200 v303), ∀ a x, ((![v200, v303] : Fin 2 → IVec S16 32) a x).toNat < S128x128.size a := fun v200 v303 k2_hw677 => k2_hw677

def k2_chk678 (v219 : IVec S16 32) (v310 : IVec S16 32) : Prop :=
  (∀ a x, ((![v219, v310] : Fin 2 → IVec S16 32) a x).toNat < S128x128.size a)
theorem k2_idx678_inb : ∀ (v219 : IVec S16 32) (v310 : IVec S16 32) (k2_hw678 : k2_chk678 v219 v310), ∀ a x, ((![v219, v310] : Fin 2 → IVec S16 32) a x).toNat < S128x128.size a := fun v219 v310 k2_hw678 => k2_hw678

def k2_chk679 (v238 : IVec S16 32) (v317 : IVec S16 32) : Prop :=
  (∀ a x, ((![v238, v317] : Fin 2 → IVec S16 32) a x).toNat < S128x128.size a)
theorem k2_idx679_inb : ∀ (v238 : IVec S16 32) (v317 : IVec S16 32) (k2_hw679 : k2_chk679 v238 v317), ∀ a x, ((![v238, v317] : Fin 2 → IVec S16 32) a x).toNat < S128x128.size a := fun v238 v317 k2_hw679 => k2_hw679

def k2_chk680 (v257 : IVec S16 32) (v324 : IVec S16 32) : Prop :=
  (∀ a x, ((![v257, v324] : Fin 2 → IVec S16 32) a x).toNat < S128x128.size a)
theorem k2_idx680_inb : ∀ (v257 : IVec S16 32) (v324 : IVec S16 32) (k2_hw680 : k2_chk680 v257 v324), ∀ a x, ((![v257, v324] : Fin 2 → IVec S16 32) a x).toNat < S128x128.size a := fun v257 v324 k2_hw680 => k2_hw680

def k2_chk681 (v200 : IVec S16 32) (v343 : IVec S16 32) : Prop :=
  (∀ a x, ((![v200, v343] : Fin 2 → IVec S16 32) a x).toNat < S128x128.size a)
theorem k2_idx681_inb : ∀ (v200 : IVec S16 32) (v343 : IVec S16 32) (k2_hw681 : k2_chk681 v200 v343), ∀ a x, ((![v200, v343] : Fin 2 → IVec S16 32) a x).toNat < S128x128.size a := fun v200 v343 k2_hw681 => k2_hw681

def k2_chk682 (v219 : IVec S16 32) (v350 : IVec S16 32) : Prop :=
  (∀ a x, ((![v219, v350] : Fin 2 → IVec S16 32) a x).toNat < S128x128.size a)
theorem k2_idx682_inb : ∀ (v219 : IVec S16 32) (v350 : IVec S16 32) (k2_hw682 : k2_chk682 v219 v350), ∀ a x, ((![v219, v350] : Fin 2 → IVec S16 32) a x).toNat < S128x128.size a := fun v219 v350 k2_hw682 => k2_hw682

def k2_chk683 (v238 : IVec S16 32) (v357 : IVec S16 32) : Prop :=
  (∀ a x, ((![v238, v357] : Fin 2 → IVec S16 32) a x).toNat < S128x128.size a)
theorem k2_idx683_inb : ∀ (v238 : IVec S16 32) (v357 : IVec S16 32) (k2_hw683 : k2_chk683 v238 v357), ∀ a x, ((![v238, v357] : Fin 2 → IVec S16 32) a x).toNat < S128x128.size a := fun v238 v357 k2_hw683 => k2_hw683

def k2_chk684 (v257 : IVec S16 32) (v364 : IVec S16 32) : Prop :=
  (∀ a x, ((![v257, v364] : Fin 2 → IVec S16 32) a x).toNat < S128x128.size a)
theorem k2_idx684_inb : ∀ (v257 : IVec S16 32) (v364 : IVec S16 32) (k2_hw684 : k2_chk684 v257 v364), ∀ a x, ((![v257, v364] : Fin 2 → IVec S16 32) a x).toNat < S128x128.size a := fun v257 v364 k2_hw684 => k2_hw684

def k2_chk685 (v200 : IVec S16 32) (v383 : IVec S16 32) : Prop :=
  (∀ a x, ((![v200, v383] : Fin 2 → IVec S16 32) a x).toNat < S128x128.size a)
theorem k2_idx685_inb : ∀ (v200 : IVec S16 32) (v383 : IVec S16 32) (k2_hw685 : k2_chk685 v200 v383), ∀ a x, ((![v200, v383] : Fin 2 → IVec S16 32) a x).toNat < S128x128.size a := fun v200 v383 k2_hw685 => k2_hw685

def k2_chk686 (v219 : IVec S16 32) (v390 : IVec S16 32) : Prop :=
  (∀ a x, ((![v219, v390] : Fin 2 → IVec S16 32) a x).toNat < S128x128.size a)
theorem k2_idx686_inb : ∀ (v219 : IVec S16 32) (v390 : IVec S16 32) (k2_hw686 : k2_chk686 v219 v390), ∀ a x, ((![v219, v390] : Fin 2 → IVec S16 32) a x).toNat < S128x128.size a := fun v219 v390 k2_hw686 => k2_hw686

def k2_chk687 (v238 : IVec S16 32) (v397 : IVec S16 32) : Prop :=
  (∀ a x, ((![v238, v397] : Fin 2 → IVec S16 32) a x).toNat < S128x128.size a)
theorem k2_idx687_inb : ∀ (v238 : IVec S16 32) (v397 : IVec S16 32) (k2_hw687 : k2_chk687 v238 v397), ∀ a x, ((![v238, v397] : Fin 2 → IVec S16 32) a x).toNat < S128x128.size a := fun v238 v397 k2_hw687 => k2_hw687

def k2_chk688 (v257 : IVec S16 32) (v404 : IVec S16 32) : Prop :=
  (∀ a x, ((![v257, v404] : Fin 2 → IVec S16 32) a x).toNat < S128x128.size a)
theorem k2_idx688_inb : ∀ (v257 : IVec S16 32) (v404 : IVec S16 32) (k2_hw688 : k2_chk688 v257 v404), ∀ a x, ((![v257, v404] : Fin 2 → IVec S16 32) a x).toNat < S128x128.size a := fun v257 v404 k2_hw688 => k2_hw688

def k2_chk689 (v200 : IVec S16 32) (v425 : IVec S16 32) : Prop :=
  (∀ a x, ((![v200, v425] : Fin 2 → IVec S16 32) a x).toNat < S128x18.size a)
theorem k2_idx689_inb : ∀ (v200 : IVec S16 32) (v425 : IVec S16 32) (k2_hw689 : k2_chk689 v200 v425), ∀ a x, ((![v200, v425] : Fin 2 → IVec S16 32) a x).toNat < S128x18.size a := fun v200 v425 k2_hw689 => k2_hw689

def k2_chk690 (v200 : IVec S16 32) (v431 : IVec S16 32) : Prop :=
  (∀ a x, ((![v200, v431] : Fin 2 → IVec S16 32) a x).toNat < S128x18.size a)
theorem k2_idx690_inb : ∀ (v200 : IVec S16 32) (v431 : IVec S16 32) (k2_hw690 : k2_chk690 v200 v431), ∀ a x, ((![v200, v431] : Fin 2 → IVec S16 32) a x).toNat < S128x18.size a := fun v200 v431 k2_hw690 => k2_hw690

def k2_chk691 (v200 : IVec S16 32) (v437 : IVec S16 32) : Prop :=
  (∀ a x, ((![v200, v437] : Fin 2 → IVec S16 32) a x).toNat < S128x18.size a)
theorem k2_idx691_inb : ∀ (v200 : IVec S16 32) (v437 : IVec S16 32) (k2_hw691 : k2_chk691 v200 v437), ∀ a x, ((![v200, v437] : Fin 2 → IVec S16 32) a x).toNat < S128x18.size a := fun v200 v437 k2_hw691 => k2_hw691

def k2_chk692 (v200 : IVec S16 32) (v443 : IVec S16 32) : Prop :=
  (∀ a x, ((![v200, v443] : Fin 2 → IVec S16 32) a x).toNat < S128x18.size a)
theorem k2_idx692_inb : ∀ (v200 : IVec S16 32) (v443 : IVec S16 32) (k2_hw692 : k2_chk692 v200 v443), ∀ a x, ((![v200, v443] : Fin 2 → IVec S16 32) a x).toNat < S128x18.size a := fun v200 v443 k2_hw692 => k2_hw692

def k2_chk693 (v200 : IVec S16 32) (v449 : IVec S16 32) : Prop :=
  (∀ a x, ((![v200, v449] : Fin 2 → IVec S16 32) a x).toNat < S128x18.size a)
theorem k2_idx693_inb : ∀ (v200 : IVec S16 32) (v449 : IVec S16 32) (k2_hw693 : k2_chk693 v200 v449), ∀ a x, ((![v200, v449] : Fin 2 → IVec S16 32) a x).toNat < S128x18.size a := fun v200 v449 k2_hw693 => k2_hw693

def k2_chk694 (v200 : IVec S16 32) (v455 : IVec S16 32) : Prop :=
  (∀ a x, ((![v200, v455] : Fin 2 → IVec S16 32) a x).toNat < S128x18.size a)
theorem k2_idx694_inb : ∀ (v200 : IVec S16 32) (v455 : IVec S16 32) (k2_hw694 : k2_chk694 v200 v455), ∀ a x, ((![v200, v455] : Fin 2 → IVec S16 32) a x).toNat < S128x18.size a := fun v200 v455 k2_hw694 => k2_hw694

def k2_chk695 (v200 : IVec S16 32) (v461 : IVec S16 32) : Prop :=
  (∀ a x, ((![v200, v461] : Fin 2 → IVec S16 32) a x).toNat < S128x18.size a)
theorem k2_idx695_inb : ∀ (v200 : IVec S16 32) (v461 : IVec S16 32) (k2_hw695 : k2_chk695 v200 v461), ∀ a x, ((![v200, v461] : Fin 2 → IVec S16 32) a x).toNat < S128x18.size a := fun v200 v461 k2_hw695 => k2_hw695

def k2_chk696 (v200 : IVec S16 32) (v467 : IVec S16 32) : Prop :=
  (∀ a x, ((![v200, v467] : Fin 2 → IVec S16 32) a x).toNat < S128x18.size a)
theorem k2_idx696_inb : ∀ (v200 : IVec S16 32) (v467 : IVec S16 32) (k2_hw696 : k2_chk696 v200 v467), ∀ a x, ((![v200, v467] : Fin 2 → IVec S16 32) a x).toNat < S128x18.size a := fun v200 v467 k2_hw696 => k2_hw696

def k2_chk697 (v200 : IVec S16 32) (v473 : IVec S16 32) : Prop :=
  (∀ a x, ((![v200, v473] : Fin 2 → IVec S16 32) a x).toNat < S128x18.size a)
theorem k2_idx697_inb : ∀ (v200 : IVec S16 32) (v473 : IVec S16 32) (k2_hw697 : k2_chk697 v200 v473), ∀ a x, ((![v200, v473] : Fin 2 → IVec S16 32) a x).toNat < S128x18.size a := fun v200 v473 k2_hw697 => k2_hw697

def k2_chk698 (v200 : IVec S16 32) (v479 : IVec S16 32) : Prop :=
  (∀ a x, ((![v200, v479] : Fin 2 → IVec S16 32) a x).toNat < S128x18.size a)
theorem k2_idx698_inb : ∀ (v200 : IVec S16 32) (v479 : IVec S16 32) (k2_hw698 : k2_chk698 v200 v479), ∀ a x, ((![v200, v479] : Fin 2 → IVec S16 32) a x).toNat < S128x18.size a := fun v200 v479 k2_hw698 => k2_hw698

def k2_chk699 (v200 : IVec S16 32) (v485 : IVec S16 32) : Prop :=
  (∀ a x, ((![v200, v485] : Fin 2 → IVec S16 32) a x).toNat < S128x18.size a)
theorem k2_idx699_inb : ∀ (v200 : IVec S16 32) (v485 : IVec S16 32) (k2_hw699 : k2_chk699 v200 v485), ∀ a x, ((![v200, v485] : Fin 2 → IVec S16 32) a x).toNat < S128x18.size a := fun v200 v485 k2_hw699 => k2_hw699

def k2_chk700 (v200 : IVec S16 32) (v491 : IVec S16 32) : Prop :=
  (∀ a x, ((![v200, v491] : Fin 2 → IVec S16 32) a x).toNat < S128x18.size a)
theorem k2_idx700_inb : ∀ (v200 : IVec S16 32) (v491 : IVec S16 32) (k2_hw700 : k2_chk700 v200 v491), ∀ a x, ((![v200, v491] : Fin 2 → IVec S16 32) a x).toNat < S128x18.size a := fun v200 v491 k2_hw700 => k2_hw700

def k2_chk701 (v200 : IVec S16 32) (v497 : IVec S16 32) : Prop :=
  (∀ a x, ((![v200, v497] : Fin 2 → IVec S16 32) a x).toNat < S128x18.size a)
theorem k2_idx701_inb : ∀ (v200 : IVec S16 32) (v497 : IVec S16 32) (k2_hw701 : k2_chk701 v200 v497), ∀ a x, ((![v200, v497] : Fin 2 → IVec S16 32) a x).toNat < S128x18.size a := fun v200 v497 k2_hw701 => k2_hw701

def k2_chk702 (v200 : IVec S16 32) (v503 : IVec S16 32) : Prop :=
  (∀ a x, ((![v200, v503] : Fin 2 → IVec S16 32) a x).toNat < S128x18.size a)
theorem k2_idx702_inb : ∀ (v200 : IVec S16 32) (v503 : IVec S16 32) (k2_hw702 : k2_chk702 v200 v503), ∀ a x, ((![v200, v503] : Fin 2 → IVec S16 32) a x).toNat < S128x18.size a := fun v200 v503 k2_hw702 => k2_hw702

def k2_chk703 (v200 : IVec S16 32) (v509 : IVec S16 32) : Prop :=
  (∀ a x, ((![v200, v509] : Fin 2 → IVec S16 32) a x).toNat < S128x18.size a)
theorem k2_idx703_inb : ∀ (v200 : IVec S16 32) (v509 : IVec S16 32) (k2_hw703 : k2_chk703 v200 v509), ∀ a x, ((![v200, v509] : Fin 2 → IVec S16 32) a x).toNat < S128x18.size a := fun v200 v509 k2_hw703 => k2_hw703

def k2_chk704 (v200 : IVec S16 32) (v515 : IVec S16 32) : Prop :=
  (∀ a x, ((![v200, v515] : Fin 2 → IVec S16 32) a x).toNat < S128x18.size a)
theorem k2_idx704_inb : ∀ (v200 : IVec S16 32) (v515 : IVec S16 32) (k2_hw704 : k2_chk704 v200 v515), ∀ a x, ((![v200, v515] : Fin 2 → IVec S16 32) a x).toNat < S128x18.size a := fun v200 v515 k2_hw704 => k2_hw704

def k2_chk705 (v200 : IVec S16 32) (v521 : IVec S16 32) : Prop :=
  (∀ a x, ((![v200, v521] : Fin 2 → IVec S16 32) a x).toNat < S128x18.size a)
theorem k2_idx705_inb : ∀ (v200 : IVec S16 32) (v521 : IVec S16 32) (k2_hw705 : k2_chk705 v200 v521), ∀ a x, ((![v200, v521] : Fin 2 → IVec S16 32) a x).toNat < S128x18.size a := fun v200 v521 k2_hw705 => k2_hw705

def k2_chk706 (v200 : IVec S16 32) (v527 : IVec S16 32) : Prop :=
  (∀ a x, ((![v200, v527] : Fin 2 → IVec S16 32) a x).toNat < S128x18.size a)
theorem k2_idx706_inb : ∀ (v200 : IVec S16 32) (v527 : IVec S16 32) (k2_hw706 : k2_chk706 v200 v527), ∀ a x, ((![v200, v527] : Fin 2 → IVec S16 32) a x).toNat < S128x18.size a := fun v200 v527 k2_hw706 => k2_hw706

def k2_chk707 (v219 : IVec S16 32) (v535 : IVec S16 32) : Prop :=
  (∀ a x, ((![v219, v535] : Fin 2 → IVec S16 32) a x).toNat < S128x18.size a)
theorem k2_idx707_inb : ∀ (v219 : IVec S16 32) (v535 : IVec S16 32) (k2_hw707 : k2_chk707 v219 v535), ∀ a x, ((![v219, v535] : Fin 2 → IVec S16 32) a x).toNat < S128x18.size a := fun v219 v535 k2_hw707 => k2_hw707

def k2_chk708 (v219 : IVec S16 32) (v541 : IVec S16 32) : Prop :=
  (∀ a x, ((![v219, v541] : Fin 2 → IVec S16 32) a x).toNat < S128x18.size a)
theorem k2_idx708_inb : ∀ (v219 : IVec S16 32) (v541 : IVec S16 32) (k2_hw708 : k2_chk708 v219 v541), ∀ a x, ((![v219, v541] : Fin 2 → IVec S16 32) a x).toNat < S128x18.size a := fun v219 v541 k2_hw708 => k2_hw708

def k2_chk709 (v219 : IVec S16 32) (v547 : IVec S16 32) : Prop :=
  (∀ a x, ((![v219, v547] : Fin 2 → IVec S16 32) a x).toNat < S128x18.size a)
theorem k2_idx709_inb : ∀ (v219 : IVec S16 32) (v547 : IVec S16 32) (k2_hw709 : k2_chk709 v219 v547), ∀ a x, ((![v219, v547] : Fin 2 → IVec S16 32) a x).toNat < S128x18.size a := fun v219 v547 k2_hw709 => k2_hw709

def k2_chk710 (v219 : IVec S16 32) (v553 : IVec S16 32) : Prop :=
  (∀ a x, ((![v219, v553] : Fin 2 → IVec S16 32) a x).toNat < S128x18.size a)
theorem k2_idx710_inb : ∀ (v219 : IVec S16 32) (v553 : IVec S16 32) (k2_hw710 : k2_chk710 v219 v553), ∀ a x, ((![v219, v553] : Fin 2 → IVec S16 32) a x).toNat < S128x18.size a := fun v219 v553 k2_hw710 => k2_hw710

def k2_chk711 (v219 : IVec S16 32) (v559 : IVec S16 32) : Prop :=
  (∀ a x, ((![v219, v559] : Fin 2 → IVec S16 32) a x).toNat < S128x18.size a)
theorem k2_idx711_inb : ∀ (v219 : IVec S16 32) (v559 : IVec S16 32) (k2_hw711 : k2_chk711 v219 v559), ∀ a x, ((![v219, v559] : Fin 2 → IVec S16 32) a x).toNat < S128x18.size a := fun v219 v559 k2_hw711 => k2_hw711

def k2_chk712 (v219 : IVec S16 32) (v565 : IVec S16 32) : Prop :=
  (∀ a x, ((![v219, v565] : Fin 2 → IVec S16 32) a x).toNat < S128x18.size a)
theorem k2_idx712_inb : ∀ (v219 : IVec S16 32) (v565 : IVec S16 32) (k2_hw712 : k2_chk712 v219 v565), ∀ a x, ((![v219, v565] : Fin 2 → IVec S16 32) a x).toNat < S128x18.size a := fun v219 v565 k2_hw712 => k2_hw712

def k2_chk713 (v219 : IVec S16 32) (v571 : IVec S16 32) : Prop :=
  (∀ a x, ((![v219, v571] : Fin 2 → IVec S16 32) a x).toNat < S128x18.size a)
theorem k2_idx713_inb : ∀ (v219 : IVec S16 32) (v571 : IVec S16 32) (k2_hw713 : k2_chk713 v219 v571), ∀ a x, ((![v219, v571] : Fin 2 → IVec S16 32) a x).toNat < S128x18.size a := fun v219 v571 k2_hw713 => k2_hw713

def k2_chk714 (v219 : IVec S16 32) (v577 : IVec S16 32) : Prop :=
  (∀ a x, ((![v219, v577] : Fin 2 → IVec S16 32) a x).toNat < S128x18.size a)
theorem k2_idx714_inb : ∀ (v219 : IVec S16 32) (v577 : IVec S16 32) (k2_hw714 : k2_chk714 v219 v577), ∀ a x, ((![v219, v577] : Fin 2 → IVec S16 32) a x).toNat < S128x18.size a := fun v219 v577 k2_hw714 => k2_hw714

def k2_chk715 (v219 : IVec S16 32) (v583 : IVec S16 32) : Prop :=
  (∀ a x, ((![v219, v583] : Fin 2 → IVec S16 32) a x).toNat < S128x18.size a)
theorem k2_idx715_inb : ∀ (v219 : IVec S16 32) (v583 : IVec S16 32) (k2_hw715 : k2_chk715 v219 v583), ∀ a x, ((![v219, v583] : Fin 2 → IVec S16 32) a x).toNat < S128x18.size a := fun v219 v583 k2_hw715 => k2_hw715

def k2_chk716 (v219 : IVec S16 32) (v589 : IVec S16 32) : Prop :=
  (∀ a x, ((![v219, v589] : Fin 2 → IVec S16 32) a x).toNat < S128x18.size a)
theorem k2_idx716_inb : ∀ (v219 : IVec S16 32) (v589 : IVec S16 32) (k2_hw716 : k2_chk716 v219 v589), ∀ a x, ((![v219, v589] : Fin 2 → IVec S16 32) a x).toNat < S128x18.size a := fun v219 v589 k2_hw716 => k2_hw716

def k2_chk717 (v219 : IVec S16 32) (v595 : IVec S16 32) : Prop :=
  (∀ a x, ((![v219, v595] : Fin 2 → IVec S16 32) a x).toNat < S128x18.size a)
theorem k2_idx717_inb : ∀ (v219 : IVec S16 32) (v595 : IVec S16 32) (k2_hw717 : k2_chk717 v219 v595), ∀ a x, ((![v219, v595] : Fin 2 → IVec S16 32) a x).toNat < S128x18.size a := fun v219 v595 k2_hw717 => k2_hw717

def k2_chk718 (v219 : IVec S16 32) (v601 : IVec S16 32) : Prop :=
  (∀ a x, ((![v219, v601] : Fin 2 → IVec S16 32) a x).toNat < S128x18.size a)
theorem k2_idx718_inb : ∀ (v219 : IVec S16 32) (v601 : IVec S16 32) (k2_hw718 : k2_chk718 v219 v601), ∀ a x, ((![v219, v601] : Fin 2 → IVec S16 32) a x).toNat < S128x18.size a := fun v219 v601 k2_hw718 => k2_hw718

def k2_chk719 (v219 : IVec S16 32) (v607 : IVec S16 32) : Prop :=
  (∀ a x, ((![v219, v607] : Fin 2 → IVec S16 32) a x).toNat < S128x18.size a)
theorem k2_idx719_inb : ∀ (v219 : IVec S16 32) (v607 : IVec S16 32) (k2_hw719 : k2_chk719 v219 v607), ∀ a x, ((![v219, v607] : Fin 2 → IVec S16 32) a x).toNat < S128x18.size a := fun v219 v607 k2_hw719 => k2_hw719

def k2_chk720 (v219 : IVec S16 32) (v613 : IVec S16 32) : Prop :=
  (∀ a x, ((![v219, v613] : Fin 2 → IVec S16 32) a x).toNat < S128x18.size a)
theorem k2_idx720_inb : ∀ (v219 : IVec S16 32) (v613 : IVec S16 32) (k2_hw720 : k2_chk720 v219 v613), ∀ a x, ((![v219, v613] : Fin 2 → IVec S16 32) a x).toNat < S128x18.size a := fun v219 v613 k2_hw720 => k2_hw720

def k2_chk721 (v219 : IVec S16 32) (v619 : IVec S16 32) : Prop :=
  (∀ a x, ((![v219, v619] : Fin 2 → IVec S16 32) a x).toNat < S128x18.size a)
theorem k2_idx721_inb : ∀ (v219 : IVec S16 32) (v619 : IVec S16 32) (k2_hw721 : k2_chk721 v219 v619), ∀ a x, ((![v219, v619] : Fin 2 → IVec S16 32) a x).toNat < S128x18.size a := fun v219 v619 k2_hw721 => k2_hw721

def k2_chk722 (v219 : IVec S16 32) (v625 : IVec S16 32) : Prop :=
  (∀ a x, ((![v219, v625] : Fin 2 → IVec S16 32) a x).toNat < S128x18.size a)
theorem k2_idx722_inb : ∀ (v219 : IVec S16 32) (v625 : IVec S16 32) (k2_hw722 : k2_chk722 v219 v625), ∀ a x, ((![v219, v625] : Fin 2 → IVec S16 32) a x).toNat < S128x18.size a := fun v219 v625 k2_hw722 => k2_hw722

def k2_chk723 (v219 : IVec S16 32) (v631 : IVec S16 32) : Prop :=
  (∀ a x, ((![v219, v631] : Fin 2 → IVec S16 32) a x).toNat < S128x18.size a)
theorem k2_idx723_inb : ∀ (v219 : IVec S16 32) (v631 : IVec S16 32) (k2_hw723 : k2_chk723 v219 v631), ∀ a x, ((![v219, v631] : Fin 2 → IVec S16 32) a x).toNat < S128x18.size a := fun v219 v631 k2_hw723 => k2_hw723

def k2_chk724 (v219 : IVec S16 32) (v637 : IVec S16 32) : Prop :=
  (∀ a x, ((![v219, v637] : Fin 2 → IVec S16 32) a x).toNat < S128x18.size a)
theorem k2_idx724_inb : ∀ (v219 : IVec S16 32) (v637 : IVec S16 32) (k2_hw724 : k2_chk724 v219 v637), ∀ a x, ((![v219, v637] : Fin 2 → IVec S16 32) a x).toNat < S128x18.size a := fun v219 v637 k2_hw724 => k2_hw724

def k2_chk725 (v238 : IVec S16 32) (v645 : IVec S16 32) : Prop :=
  (∀ a x, ((![v238, v645] : Fin 2 → IVec S16 32) a x).toNat < S128x18.size a)
theorem k2_idx725_inb : ∀ (v238 : IVec S16 32) (v645 : IVec S16 32) (k2_hw725 : k2_chk725 v238 v645), ∀ a x, ((![v238, v645] : Fin 2 → IVec S16 32) a x).toNat < S128x18.size a := fun v238 v645 k2_hw725 => k2_hw725

def k2_chk726 (v238 : IVec S16 32) (v651 : IVec S16 32) : Prop :=
  (∀ a x, ((![v238, v651] : Fin 2 → IVec S16 32) a x).toNat < S128x18.size a)
theorem k2_idx726_inb : ∀ (v238 : IVec S16 32) (v651 : IVec S16 32) (k2_hw726 : k2_chk726 v238 v651), ∀ a x, ((![v238, v651] : Fin 2 → IVec S16 32) a x).toNat < S128x18.size a := fun v238 v651 k2_hw726 => k2_hw726

def k2_chk727 (v238 : IVec S16 32) (v657 : IVec S16 32) : Prop :=
  (∀ a x, ((![v238, v657] : Fin 2 → IVec S16 32) a x).toNat < S128x18.size a)
theorem k2_idx727_inb : ∀ (v238 : IVec S16 32) (v657 : IVec S16 32) (k2_hw727 : k2_chk727 v238 v657), ∀ a x, ((![v238, v657] : Fin 2 → IVec S16 32) a x).toNat < S128x18.size a := fun v238 v657 k2_hw727 => k2_hw727

def k2_chk728 (v238 : IVec S16 32) (v663 : IVec S16 32) : Prop :=
  (∀ a x, ((![v238, v663] : Fin 2 → IVec S16 32) a x).toNat < S128x18.size a)
theorem k2_idx728_inb : ∀ (v238 : IVec S16 32) (v663 : IVec S16 32) (k2_hw728 : k2_chk728 v238 v663), ∀ a x, ((![v238, v663] : Fin 2 → IVec S16 32) a x).toNat < S128x18.size a := fun v238 v663 k2_hw728 => k2_hw728

def k2_chk729 (v238 : IVec S16 32) (v669 : IVec S16 32) : Prop :=
  (∀ a x, ((![v238, v669] : Fin 2 → IVec S16 32) a x).toNat < S128x18.size a)
theorem k2_idx729_inb : ∀ (v238 : IVec S16 32) (v669 : IVec S16 32) (k2_hw729 : k2_chk729 v238 v669), ∀ a x, ((![v238, v669] : Fin 2 → IVec S16 32) a x).toNat < S128x18.size a := fun v238 v669 k2_hw729 => k2_hw729

def k2_chk730 (v238 : IVec S16 32) (v675 : IVec S16 32) : Prop :=
  (∀ a x, ((![v238, v675] : Fin 2 → IVec S16 32) a x).toNat < S128x18.size a)
theorem k2_idx730_inb : ∀ (v238 : IVec S16 32) (v675 : IVec S16 32) (k2_hw730 : k2_chk730 v238 v675), ∀ a x, ((![v238, v675] : Fin 2 → IVec S16 32) a x).toNat < S128x18.size a := fun v238 v675 k2_hw730 => k2_hw730

def k2_chk731 (v238 : IVec S16 32) (v681 : IVec S16 32) : Prop :=
  (∀ a x, ((![v238, v681] : Fin 2 → IVec S16 32) a x).toNat < S128x18.size a)
theorem k2_idx731_inb : ∀ (v238 : IVec S16 32) (v681 : IVec S16 32) (k2_hw731 : k2_chk731 v238 v681), ∀ a x, ((![v238, v681] : Fin 2 → IVec S16 32) a x).toNat < S128x18.size a := fun v238 v681 k2_hw731 => k2_hw731

def k2_chk732 (v238 : IVec S16 32) (v687 : IVec S16 32) : Prop :=
  (∀ a x, ((![v238, v687] : Fin 2 → IVec S16 32) a x).toNat < S128x18.size a)
theorem k2_idx732_inb : ∀ (v238 : IVec S16 32) (v687 : IVec S16 32) (k2_hw732 : k2_chk732 v238 v687), ∀ a x, ((![v238, v687] : Fin 2 → IVec S16 32) a x).toNat < S128x18.size a := fun v238 v687 k2_hw732 => k2_hw732

def k2_chk733 (v238 : IVec S16 32) (v693 : IVec S16 32) : Prop :=
  (∀ a x, ((![v238, v693] : Fin 2 → IVec S16 32) a x).toNat < S128x18.size a)
theorem k2_idx733_inb : ∀ (v238 : IVec S16 32) (v693 : IVec S16 32) (k2_hw733 : k2_chk733 v238 v693), ∀ a x, ((![v238, v693] : Fin 2 → IVec S16 32) a x).toNat < S128x18.size a := fun v238 v693 k2_hw733 => k2_hw733

def k2_chk734 (v238 : IVec S16 32) (v699 : IVec S16 32) : Prop :=
  (∀ a x, ((![v238, v699] : Fin 2 → IVec S16 32) a x).toNat < S128x18.size a)
theorem k2_idx734_inb : ∀ (v238 : IVec S16 32) (v699 : IVec S16 32) (k2_hw734 : k2_chk734 v238 v699), ∀ a x, ((![v238, v699] : Fin 2 → IVec S16 32) a x).toNat < S128x18.size a := fun v238 v699 k2_hw734 => k2_hw734

def k2_chk735 (v238 : IVec S16 32) (v705 : IVec S16 32) : Prop :=
  (∀ a x, ((![v238, v705] : Fin 2 → IVec S16 32) a x).toNat < S128x18.size a)
theorem k2_idx735_inb : ∀ (v238 : IVec S16 32) (v705 : IVec S16 32) (k2_hw735 : k2_chk735 v238 v705), ∀ a x, ((![v238, v705] : Fin 2 → IVec S16 32) a x).toNat < S128x18.size a := fun v238 v705 k2_hw735 => k2_hw735

def k2_chk736 (v238 : IVec S16 32) (v711 : IVec S16 32) : Prop :=
  (∀ a x, ((![v238, v711] : Fin 2 → IVec S16 32) a x).toNat < S128x18.size a)
theorem k2_idx736_inb : ∀ (v238 : IVec S16 32) (v711 : IVec S16 32) (k2_hw736 : k2_chk736 v238 v711), ∀ a x, ((![v238, v711] : Fin 2 → IVec S16 32) a x).toNat < S128x18.size a := fun v238 v711 k2_hw736 => k2_hw736

def k2_chk737 (v238 : IVec S16 32) (v717 : IVec S16 32) : Prop :=
  (∀ a x, ((![v238, v717] : Fin 2 → IVec S16 32) a x).toNat < S128x18.size a)
theorem k2_idx737_inb : ∀ (v238 : IVec S16 32) (v717 : IVec S16 32) (k2_hw737 : k2_chk737 v238 v717), ∀ a x, ((![v238, v717] : Fin 2 → IVec S16 32) a x).toNat < S128x18.size a := fun v238 v717 k2_hw737 => k2_hw737

def k2_chk738 (v238 : IVec S16 32) (v723 : IVec S16 32) : Prop :=
  (∀ a x, ((![v238, v723] : Fin 2 → IVec S16 32) a x).toNat < S128x18.size a)
theorem k2_idx738_inb : ∀ (v238 : IVec S16 32) (v723 : IVec S16 32) (k2_hw738 : k2_chk738 v238 v723), ∀ a x, ((![v238, v723] : Fin 2 → IVec S16 32) a x).toNat < S128x18.size a := fun v238 v723 k2_hw738 => k2_hw738

def k2_chk739 (v238 : IVec S16 32) (v729 : IVec S16 32) : Prop :=
  (∀ a x, ((![v238, v729] : Fin 2 → IVec S16 32) a x).toNat < S128x18.size a)
theorem k2_idx739_inb : ∀ (v238 : IVec S16 32) (v729 : IVec S16 32) (k2_hw739 : k2_chk739 v238 v729), ∀ a x, ((![v238, v729] : Fin 2 → IVec S16 32) a x).toNat < S128x18.size a := fun v238 v729 k2_hw739 => k2_hw739

def k2_chk740 (v238 : IVec S16 32) (v735 : IVec S16 32) : Prop :=
  (∀ a x, ((![v238, v735] : Fin 2 → IVec S16 32) a x).toNat < S128x18.size a)
theorem k2_idx740_inb : ∀ (v238 : IVec S16 32) (v735 : IVec S16 32) (k2_hw740 : k2_chk740 v238 v735), ∀ a x, ((![v238, v735] : Fin 2 → IVec S16 32) a x).toNat < S128x18.size a := fun v238 v735 k2_hw740 => k2_hw740

def k2_chk741 (v238 : IVec S16 32) (v741 : IVec S16 32) : Prop :=
  (∀ a x, ((![v238, v741] : Fin 2 → IVec S16 32) a x).toNat < S128x18.size a)
theorem k2_idx741_inb : ∀ (v238 : IVec S16 32) (v741 : IVec S16 32) (k2_hw741 : k2_chk741 v238 v741), ∀ a x, ((![v238, v741] : Fin 2 → IVec S16 32) a x).toNat < S128x18.size a := fun v238 v741 k2_hw741 => k2_hw741

def k2_chk742 (v238 : IVec S16 32) (v747 : IVec S16 32) : Prop :=
  (∀ a x, ((![v238, v747] : Fin 2 → IVec S16 32) a x).toNat < S128x18.size a)
theorem k2_idx742_inb : ∀ (v238 : IVec S16 32) (v747 : IVec S16 32) (k2_hw742 : k2_chk742 v238 v747), ∀ a x, ((![v238, v747] : Fin 2 → IVec S16 32) a x).toNat < S128x18.size a := fun v238 v747 k2_hw742 => k2_hw742

def k2_chk743 (v257 : IVec S16 32) (v755 : IVec S16 32) : Prop :=
  (∀ a x, ((![v257, v755] : Fin 2 → IVec S16 32) a x).toNat < S128x18.size a)
theorem k2_idx743_inb : ∀ (v257 : IVec S16 32) (v755 : IVec S16 32) (k2_hw743 : k2_chk743 v257 v755), ∀ a x, ((![v257, v755] : Fin 2 → IVec S16 32) a x).toNat < S128x18.size a := fun v257 v755 k2_hw743 => k2_hw743

def k2_chk744 (v257 : IVec S16 32) (v761 : IVec S16 32) : Prop :=
  (∀ a x, ((![v257, v761] : Fin 2 → IVec S16 32) a x).toNat < S128x18.size a)
theorem k2_idx744_inb : ∀ (v257 : IVec S16 32) (v761 : IVec S16 32) (k2_hw744 : k2_chk744 v257 v761), ∀ a x, ((![v257, v761] : Fin 2 → IVec S16 32) a x).toNat < S128x18.size a := fun v257 v761 k2_hw744 => k2_hw744

def k2_chk745 (v257 : IVec S16 32) (v767 : IVec S16 32) : Prop :=
  (∀ a x, ((![v257, v767] : Fin 2 → IVec S16 32) a x).toNat < S128x18.size a)
theorem k2_idx745_inb : ∀ (v257 : IVec S16 32) (v767 : IVec S16 32) (k2_hw745 : k2_chk745 v257 v767), ∀ a x, ((![v257, v767] : Fin 2 → IVec S16 32) a x).toNat < S128x18.size a := fun v257 v767 k2_hw745 => k2_hw745

def k2_chk746 (v257 : IVec S16 32) (v773 : IVec S16 32) : Prop :=
  (∀ a x, ((![v257, v773] : Fin 2 → IVec S16 32) a x).toNat < S128x18.size a)
theorem k2_idx746_inb : ∀ (v257 : IVec S16 32) (v773 : IVec S16 32) (k2_hw746 : k2_chk746 v257 v773), ∀ a x, ((![v257, v773] : Fin 2 → IVec S16 32) a x).toNat < S128x18.size a := fun v257 v773 k2_hw746 => k2_hw746

def k2_chk747 (v257 : IVec S16 32) (v779 : IVec S16 32) : Prop :=
  (∀ a x, ((![v257, v779] : Fin 2 → IVec S16 32) a x).toNat < S128x18.size a)
theorem k2_idx747_inb : ∀ (v257 : IVec S16 32) (v779 : IVec S16 32) (k2_hw747 : k2_chk747 v257 v779), ∀ a x, ((![v257, v779] : Fin 2 → IVec S16 32) a x).toNat < S128x18.size a := fun v257 v779 k2_hw747 => k2_hw747

def k2_chk748 (v257 : IVec S16 32) (v785 : IVec S16 32) : Prop :=
  (∀ a x, ((![v257, v785] : Fin 2 → IVec S16 32) a x).toNat < S128x18.size a)
theorem k2_idx748_inb : ∀ (v257 : IVec S16 32) (v785 : IVec S16 32) (k2_hw748 : k2_chk748 v257 v785), ∀ a x, ((![v257, v785] : Fin 2 → IVec S16 32) a x).toNat < S128x18.size a := fun v257 v785 k2_hw748 => k2_hw748

def k2_chk749 (v257 : IVec S16 32) (v791 : IVec S16 32) : Prop :=
  (∀ a x, ((![v257, v791] : Fin 2 → IVec S16 32) a x).toNat < S128x18.size a)
theorem k2_idx749_inb : ∀ (v257 : IVec S16 32) (v791 : IVec S16 32) (k2_hw749 : k2_chk749 v257 v791), ∀ a x, ((![v257, v791] : Fin 2 → IVec S16 32) a x).toNat < S128x18.size a := fun v257 v791 k2_hw749 => k2_hw749

def k2_chk750 (v257 : IVec S16 32) (v797 : IVec S16 32) : Prop :=
  (∀ a x, ((![v257, v797] : Fin 2 → IVec S16 32) a x).toNat < S128x18.size a)
theorem k2_idx750_inb : ∀ (v257 : IVec S16 32) (v797 : IVec S16 32) (k2_hw750 : k2_chk750 v257 v797), ∀ a x, ((![v257, v797] : Fin 2 → IVec S16 32) a x).toNat < S128x18.size a := fun v257 v797 k2_hw750 => k2_hw750

def k2_chk751 (v257 : IVec S16 32) (v803 : IVec S16 32) : Prop :=
  (∀ a x, ((![v257, v803] : Fin 2 → IVec S16 32) a x).toNat < S128x18.size a)
theorem k2_idx751_inb : ∀ (v257 : IVec S16 32) (v803 : IVec S16 32) (k2_hw751 : k2_chk751 v257 v803), ∀ a x, ((![v257, v803] : Fin 2 → IVec S16 32) a x).toNat < S128x18.size a := fun v257 v803 k2_hw751 => k2_hw751

def k2_chk752 (v257 : IVec S16 32) (v809 : IVec S16 32) : Prop :=
  (∀ a x, ((![v257, v809] : Fin 2 → IVec S16 32) a x).toNat < S128x18.size a)
theorem k2_idx752_inb : ∀ (v257 : IVec S16 32) (v809 : IVec S16 32) (k2_hw752 : k2_chk752 v257 v809), ∀ a x, ((![v257, v809] : Fin 2 → IVec S16 32) a x).toNat < S128x18.size a := fun v257 v809 k2_hw752 => k2_hw752

def k2_chk753 (v257 : IVec S16 32) (v815 : IVec S16 32) : Prop :=
  (∀ a x, ((![v257, v815] : Fin 2 → IVec S16 32) a x).toNat < S128x18.size a)
theorem k2_idx753_inb : ∀ (v257 : IVec S16 32) (v815 : IVec S16 32) (k2_hw753 : k2_chk753 v257 v815), ∀ a x, ((![v257, v815] : Fin 2 → IVec S16 32) a x).toNat < S128x18.size a := fun v257 v815 k2_hw753 => k2_hw753

def k2_chk754 (v257 : IVec S16 32) (v821 : IVec S16 32) : Prop :=
  (∀ a x, ((![v257, v821] : Fin 2 → IVec S16 32) a x).toNat < S128x18.size a)
theorem k2_idx754_inb : ∀ (v257 : IVec S16 32) (v821 : IVec S16 32) (k2_hw754 : k2_chk754 v257 v821), ∀ a x, ((![v257, v821] : Fin 2 → IVec S16 32) a x).toNat < S128x18.size a := fun v257 v821 k2_hw754 => k2_hw754

def k2_chk755 (v257 : IVec S16 32) (v827 : IVec S16 32) : Prop :=
  (∀ a x, ((![v257, v827] : Fin 2 → IVec S16 32) a x).toNat < S128x18.size a)
theorem k2_idx755_inb : ∀ (v257 : IVec S16 32) (v827 : IVec S16 32) (k2_hw755 : k2_chk755 v257 v827), ∀ a x, ((![v257, v827] : Fin 2 → IVec S16 32) a x).toNat < S128x18.size a := fun v257 v827 k2_hw755 => k2_hw755

def k2_chk756 (v257 : IVec S16 32) (v833 : IVec S16 32) : Prop :=
  (∀ a x, ((![v257, v833] : Fin 2 → IVec S16 32) a x).toNat < S128x18.size a)
theorem k2_idx756_inb : ∀ (v257 : IVec S16 32) (v833 : IVec S16 32) (k2_hw756 : k2_chk756 v257 v833), ∀ a x, ((![v257, v833] : Fin 2 → IVec S16 32) a x).toNat < S128x18.size a := fun v257 v833 k2_hw756 => k2_hw756

def k2_chk757 (v257 : IVec S16 32) (v839 : IVec S16 32) : Prop :=
  (∀ a x, ((![v257, v839] : Fin 2 → IVec S16 32) a x).toNat < S128x18.size a)
theorem k2_idx757_inb : ∀ (v257 : IVec S16 32) (v839 : IVec S16 32) (k2_hw757 : k2_chk757 v257 v839), ∀ a x, ((![v257, v839] : Fin 2 → IVec S16 32) a x).toNat < S128x18.size a := fun v257 v839 k2_hw757 => k2_hw757

def k2_chk758 (v257 : IVec S16 32) (v845 : IVec S16 32) : Prop :=
  (∀ a x, ((![v257, v845] : Fin 2 → IVec S16 32) a x).toNat < S128x18.size a)
theorem k2_idx758_inb : ∀ (v257 : IVec S16 32) (v845 : IVec S16 32) (k2_hw758 : k2_chk758 v257 v845), ∀ a x, ((![v257, v845] : Fin 2 → IVec S16 32) a x).toNat < S128x18.size a := fun v257 v845 k2_hw758 => k2_hw758

def k2_chk759 (v257 : IVec S16 32) (v851 : IVec S16 32) : Prop :=
  (∀ a x, ((![v257, v851] : Fin 2 → IVec S16 32) a x).toNat < S128x18.size a)
theorem k2_idx759_inb : ∀ (v257 : IVec S16 32) (v851 : IVec S16 32) (k2_hw759 : k2_chk759 v257 v851), ∀ a x, ((![v257, v851] : Fin 2 → IVec S16 32) a x).toNat < S128x18.size a := fun v257 v851 k2_hw759 => k2_hw759

def k2_chk760 (v257 : IVec S16 32) (v857 : IVec S16 32) : Prop :=
  (∀ a x, ((![v257, v857] : Fin 2 → IVec S16 32) a x).toNat < S128x18.size a)
theorem k2_idx760_inb : ∀ (v257 : IVec S16 32) (v857 : IVec S16 32) (k2_hw760 : k2_chk760 v257 v857), ∀ a x, ((![v257, v857] : Fin 2 → IVec S16 32) a x).toNat < S128x18.size a := fun v257 v857 k2_hw760 => k2_hw760
@[reducible] def k2_t10_loop : Scf.Loop 32 :=
  let c0_i32_129 : BitVec 32 := 0#32
  let c2_i32_130 : BitVec 32 := 2#32
  let v98 : BitVec 32 := Scalar.addi c0_i32_129 c2_i32_130
  let c1_i32_131 : BitVec 32 := 1#32
  ⟨c0_i32_129, v98, c1_i32_131⟩
def k2_off14 (k2_t10 : Fin k2_t10_loop.trips) (c0_i32_243 : BitVec 32) : Fin 1 → Nat :=
  let c1024_i32_244 : BitVec 32 := 1024#32
  let c0_i32_129 : BitVec 32 := 0#32
  let c1_i32_131 : BitVec 32 := 1#32
  let arg18 : BitVec 32 := Scf.iv c0_i32_129 c1_i32_131 k2_t10
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c1024_i32_244 v184
  let v186 : Index := Scalar.indexCast v185
  ![v186.toNat]

def k2_chk761 (v200 : IVec S16 32) (v263 : IVec S16 32) : Prop :=
  (∀ a x, ((![v200, v263] : Fin 2 → IVec S16 32) a x).toNat < S128x128.size a)
theorem k2_idx761_inb : ∀ (v200 : IVec S16 32) (v263 : IVec S16 32) (k2_hw761 : k2_chk761 v200 v263), ∀ a x, ((![v200, v263] : Fin 2 → IVec S16 32) a x).toNat < S128x128.size a := fun v200 v263 k2_hw761 => k2_hw761

def k2_chk762 (v219 : IVec S16 32) (v270 : IVec S16 32) : Prop :=
  (∀ a x, ((![v219, v270] : Fin 2 → IVec S16 32) a x).toNat < S128x128.size a)
theorem k2_idx762_inb : ∀ (v219 : IVec S16 32) (v270 : IVec S16 32) (k2_hw762 : k2_chk762 v219 v270), ∀ a x, ((![v219, v270] : Fin 2 → IVec S16 32) a x).toNat < S128x128.size a := fun v219 v270 k2_hw762 => k2_hw762

def k2_chk763 (v238 : IVec S16 32) (v277 : IVec S16 32) : Prop :=
  (∀ a x, ((![v238, v277] : Fin 2 → IVec S16 32) a x).toNat < S128x128.size a)
theorem k2_idx763_inb : ∀ (v238 : IVec S16 32) (v277 : IVec S16 32) (k2_hw763 : k2_chk763 v238 v277), ∀ a x, ((![v238, v277] : Fin 2 → IVec S16 32) a x).toNat < S128x128.size a := fun v238 v277 k2_hw763 => k2_hw763

def k2_chk764 (v257 : IVec S16 32) (v284 : IVec S16 32) : Prop :=
  (∀ a x, ((![v257, v284] : Fin 2 → IVec S16 32) a x).toNat < S128x128.size a)
theorem k2_idx764_inb : ∀ (v257 : IVec S16 32) (v284 : IVec S16 32) (k2_hw764 : k2_chk764 v257 v284), ∀ a x, ((![v257, v284] : Fin 2 → IVec S16 32) a x).toNat < S128x128.size a := fun v257 v284 k2_hw764 => k2_hw764

def k2_chk765 (v200 : IVec S16 32) (v303 : IVec S16 32) : Prop :=
  (∀ a x, ((![v200, v303] : Fin 2 → IVec S16 32) a x).toNat < S128x128.size a)
theorem k2_idx765_inb : ∀ (v200 : IVec S16 32) (v303 : IVec S16 32) (k2_hw765 : k2_chk765 v200 v303), ∀ a x, ((![v200, v303] : Fin 2 → IVec S16 32) a x).toNat < S128x128.size a := fun v200 v303 k2_hw765 => k2_hw765

def k2_chk766 (v219 : IVec S16 32) (v310 : IVec S16 32) : Prop :=
  (∀ a x, ((![v219, v310] : Fin 2 → IVec S16 32) a x).toNat < S128x128.size a)
theorem k2_idx766_inb : ∀ (v219 : IVec S16 32) (v310 : IVec S16 32) (k2_hw766 : k2_chk766 v219 v310), ∀ a x, ((![v219, v310] : Fin 2 → IVec S16 32) a x).toNat < S128x128.size a := fun v219 v310 k2_hw766 => k2_hw766

def k2_chk767 (v238 : IVec S16 32) (v317 : IVec S16 32) : Prop :=
  (∀ a x, ((![v238, v317] : Fin 2 → IVec S16 32) a x).toNat < S128x128.size a)
theorem k2_idx767_inb : ∀ (v238 : IVec S16 32) (v317 : IVec S16 32) (k2_hw767 : k2_chk767 v238 v317), ∀ a x, ((![v238, v317] : Fin 2 → IVec S16 32) a x).toNat < S128x128.size a := fun v238 v317 k2_hw767 => k2_hw767

def k2_chk768 (v257 : IVec S16 32) (v324 : IVec S16 32) : Prop :=
  (∀ a x, ((![v257, v324] : Fin 2 → IVec S16 32) a x).toNat < S128x128.size a)
theorem k2_idx768_inb : ∀ (v257 : IVec S16 32) (v324 : IVec S16 32) (k2_hw768 : k2_chk768 v257 v324), ∀ a x, ((![v257, v324] : Fin 2 → IVec S16 32) a x).toNat < S128x128.size a := fun v257 v324 k2_hw768 => k2_hw768

def k2_chk769 (v200 : IVec S16 32) (v343 : IVec S16 32) : Prop :=
  (∀ a x, ((![v200, v343] : Fin 2 → IVec S16 32) a x).toNat < S128x128.size a)
theorem k2_idx769_inb : ∀ (v200 : IVec S16 32) (v343 : IVec S16 32) (k2_hw769 : k2_chk769 v200 v343), ∀ a x, ((![v200, v343] : Fin 2 → IVec S16 32) a x).toNat < S128x128.size a := fun v200 v343 k2_hw769 => k2_hw769

def k2_chk770 (v219 : IVec S16 32) (v350 : IVec S16 32) : Prop :=
  (∀ a x, ((![v219, v350] : Fin 2 → IVec S16 32) a x).toNat < S128x128.size a)
theorem k2_idx770_inb : ∀ (v219 : IVec S16 32) (v350 : IVec S16 32) (k2_hw770 : k2_chk770 v219 v350), ∀ a x, ((![v219, v350] : Fin 2 → IVec S16 32) a x).toNat < S128x128.size a := fun v219 v350 k2_hw770 => k2_hw770

def k2_chk771 (v238 : IVec S16 32) (v357 : IVec S16 32) : Prop :=
  (∀ a x, ((![v238, v357] : Fin 2 → IVec S16 32) a x).toNat < S128x128.size a)
theorem k2_idx771_inb : ∀ (v238 : IVec S16 32) (v357 : IVec S16 32) (k2_hw771 : k2_chk771 v238 v357), ∀ a x, ((![v238, v357] : Fin 2 → IVec S16 32) a x).toNat < S128x128.size a := fun v238 v357 k2_hw771 => k2_hw771

def k2_chk772 (v257 : IVec S16 32) (v364 : IVec S16 32) : Prop :=
  (∀ a x, ((![v257, v364] : Fin 2 → IVec S16 32) a x).toNat < S128x128.size a)
theorem k2_idx772_inb : ∀ (v257 : IVec S16 32) (v364 : IVec S16 32) (k2_hw772 : k2_chk772 v257 v364), ∀ a x, ((![v257, v364] : Fin 2 → IVec S16 32) a x).toNat < S128x128.size a := fun v257 v364 k2_hw772 => k2_hw772

def k2_chk773 (v200 : IVec S16 32) (v383 : IVec S16 32) : Prop :=
  (∀ a x, ((![v200, v383] : Fin 2 → IVec S16 32) a x).toNat < S128x128.size a)
theorem k2_idx773_inb : ∀ (v200 : IVec S16 32) (v383 : IVec S16 32) (k2_hw773 : k2_chk773 v200 v383), ∀ a x, ((![v200, v383] : Fin 2 → IVec S16 32) a x).toNat < S128x128.size a := fun v200 v383 k2_hw773 => k2_hw773

def k2_chk774 (v219 : IVec S16 32) (v390 : IVec S16 32) : Prop :=
  (∀ a x, ((![v219, v390] : Fin 2 → IVec S16 32) a x).toNat < S128x128.size a)
theorem k2_idx774_inb : ∀ (v219 : IVec S16 32) (v390 : IVec S16 32) (k2_hw774 : k2_chk774 v219 v390), ∀ a x, ((![v219, v390] : Fin 2 → IVec S16 32) a x).toNat < S128x128.size a := fun v219 v390 k2_hw774 => k2_hw774

def k2_chk775 (v238 : IVec S16 32) (v397 : IVec S16 32) : Prop :=
  (∀ a x, ((![v238, v397] : Fin 2 → IVec S16 32) a x).toNat < S128x128.size a)
theorem k2_idx775_inb : ∀ (v238 : IVec S16 32) (v397 : IVec S16 32) (k2_hw775 : k2_chk775 v238 v397), ∀ a x, ((![v238, v397] : Fin 2 → IVec S16 32) a x).toNat < S128x128.size a := fun v238 v397 k2_hw775 => k2_hw775

def k2_chk776 (v257 : IVec S16 32) (v404 : IVec S16 32) : Prop :=
  (∀ a x, ((![v257, v404] : Fin 2 → IVec S16 32) a x).toNat < S128x128.size a)
theorem k2_idx776_inb : ∀ (v257 : IVec S16 32) (v404 : IVec S16 32) (k2_hw776 : k2_chk776 v257 v404), ∀ a x, ((![v257, v404] : Fin 2 → IVec S16 32) a x).toNat < S128x128.size a := fun v257 v404 k2_hw776 => k2_hw776

def k2_chk777 (v200 : IVec S16 32) (v425 : IVec S16 32) : Prop :=
  (∀ a x, ((![v200, v425] : Fin 2 → IVec S16 32) a x).toNat < S128x18.size a)
theorem k2_idx777_inb : ∀ (v200 : IVec S16 32) (v425 : IVec S16 32) (k2_hw777 : k2_chk777 v200 v425), ∀ a x, ((![v200, v425] : Fin 2 → IVec S16 32) a x).toNat < S128x18.size a := fun v200 v425 k2_hw777 => k2_hw777

def k2_chk778 (v200 : IVec S16 32) (v431 : IVec S16 32) : Prop :=
  (∀ a x, ((![v200, v431] : Fin 2 → IVec S16 32) a x).toNat < S128x18.size a)
theorem k2_idx778_inb : ∀ (v200 : IVec S16 32) (v431 : IVec S16 32) (k2_hw778 : k2_chk778 v200 v431), ∀ a x, ((![v200, v431] : Fin 2 → IVec S16 32) a x).toNat < S128x18.size a := fun v200 v431 k2_hw778 => k2_hw778

def k2_chk779 (v200 : IVec S16 32) (v437 : IVec S16 32) : Prop :=
  (∀ a x, ((![v200, v437] : Fin 2 → IVec S16 32) a x).toNat < S128x18.size a)
theorem k2_idx779_inb : ∀ (v200 : IVec S16 32) (v437 : IVec S16 32) (k2_hw779 : k2_chk779 v200 v437), ∀ a x, ((![v200, v437] : Fin 2 → IVec S16 32) a x).toNat < S128x18.size a := fun v200 v437 k2_hw779 => k2_hw779

def k2_chk780 (v200 : IVec S16 32) (v443 : IVec S16 32) : Prop :=
  (∀ a x, ((![v200, v443] : Fin 2 → IVec S16 32) a x).toNat < S128x18.size a)
theorem k2_idx780_inb : ∀ (v200 : IVec S16 32) (v443 : IVec S16 32) (k2_hw780 : k2_chk780 v200 v443), ∀ a x, ((![v200, v443] : Fin 2 → IVec S16 32) a x).toNat < S128x18.size a := fun v200 v443 k2_hw780 => k2_hw780

def k2_chk781 (v200 : IVec S16 32) (v449 : IVec S16 32) : Prop :=
  (∀ a x, ((![v200, v449] : Fin 2 → IVec S16 32) a x).toNat < S128x18.size a)
theorem k2_idx781_inb : ∀ (v200 : IVec S16 32) (v449 : IVec S16 32) (k2_hw781 : k2_chk781 v200 v449), ∀ a x, ((![v200, v449] : Fin 2 → IVec S16 32) a x).toNat < S128x18.size a := fun v200 v449 k2_hw781 => k2_hw781

def k2_chk782 (v200 : IVec S16 32) (v455 : IVec S16 32) : Prop :=
  (∀ a x, ((![v200, v455] : Fin 2 → IVec S16 32) a x).toNat < S128x18.size a)
theorem k2_idx782_inb : ∀ (v200 : IVec S16 32) (v455 : IVec S16 32) (k2_hw782 : k2_chk782 v200 v455), ∀ a x, ((![v200, v455] : Fin 2 → IVec S16 32) a x).toNat < S128x18.size a := fun v200 v455 k2_hw782 => k2_hw782

def k2_chk783 (v200 : IVec S16 32) (v461 : IVec S16 32) : Prop :=
  (∀ a x, ((![v200, v461] : Fin 2 → IVec S16 32) a x).toNat < S128x18.size a)
theorem k2_idx783_inb : ∀ (v200 : IVec S16 32) (v461 : IVec S16 32) (k2_hw783 : k2_chk783 v200 v461), ∀ a x, ((![v200, v461] : Fin 2 → IVec S16 32) a x).toNat < S128x18.size a := fun v200 v461 k2_hw783 => k2_hw783

def k2_chk784 (v200 : IVec S16 32) (v467 : IVec S16 32) : Prop :=
  (∀ a x, ((![v200, v467] : Fin 2 → IVec S16 32) a x).toNat < S128x18.size a)
theorem k2_idx784_inb : ∀ (v200 : IVec S16 32) (v467 : IVec S16 32) (k2_hw784 : k2_chk784 v200 v467), ∀ a x, ((![v200, v467] : Fin 2 → IVec S16 32) a x).toNat < S128x18.size a := fun v200 v467 k2_hw784 => k2_hw784

def k2_chk785 (v200 : IVec S16 32) (v473 : IVec S16 32) : Prop :=
  (∀ a x, ((![v200, v473] : Fin 2 → IVec S16 32) a x).toNat < S128x18.size a)
theorem k2_idx785_inb : ∀ (v200 : IVec S16 32) (v473 : IVec S16 32) (k2_hw785 : k2_chk785 v200 v473), ∀ a x, ((![v200, v473] : Fin 2 → IVec S16 32) a x).toNat < S128x18.size a := fun v200 v473 k2_hw785 => k2_hw785

def k2_chk786 (v200 : IVec S16 32) (v479 : IVec S16 32) : Prop :=
  (∀ a x, ((![v200, v479] : Fin 2 → IVec S16 32) a x).toNat < S128x18.size a)
theorem k2_idx786_inb : ∀ (v200 : IVec S16 32) (v479 : IVec S16 32) (k2_hw786 : k2_chk786 v200 v479), ∀ a x, ((![v200, v479] : Fin 2 → IVec S16 32) a x).toNat < S128x18.size a := fun v200 v479 k2_hw786 => k2_hw786

def k2_chk787 (v200 : IVec S16 32) (v485 : IVec S16 32) : Prop :=
  (∀ a x, ((![v200, v485] : Fin 2 → IVec S16 32) a x).toNat < S128x18.size a)
theorem k2_idx787_inb : ∀ (v200 : IVec S16 32) (v485 : IVec S16 32) (k2_hw787 : k2_chk787 v200 v485), ∀ a x, ((![v200, v485] : Fin 2 → IVec S16 32) a x).toNat < S128x18.size a := fun v200 v485 k2_hw787 => k2_hw787

def k2_chk788 (v200 : IVec S16 32) (v491 : IVec S16 32) : Prop :=
  (∀ a x, ((![v200, v491] : Fin 2 → IVec S16 32) a x).toNat < S128x18.size a)
theorem k2_idx788_inb : ∀ (v200 : IVec S16 32) (v491 : IVec S16 32) (k2_hw788 : k2_chk788 v200 v491), ∀ a x, ((![v200, v491] : Fin 2 → IVec S16 32) a x).toNat < S128x18.size a := fun v200 v491 k2_hw788 => k2_hw788

def k2_chk789 (v200 : IVec S16 32) (v497 : IVec S16 32) : Prop :=
  (∀ a x, ((![v200, v497] : Fin 2 → IVec S16 32) a x).toNat < S128x18.size a)
theorem k2_idx789_inb : ∀ (v200 : IVec S16 32) (v497 : IVec S16 32) (k2_hw789 : k2_chk789 v200 v497), ∀ a x, ((![v200, v497] : Fin 2 → IVec S16 32) a x).toNat < S128x18.size a := fun v200 v497 k2_hw789 => k2_hw789

def k2_chk790 (v200 : IVec S16 32) (v503 : IVec S16 32) : Prop :=
  (∀ a x, ((![v200, v503] : Fin 2 → IVec S16 32) a x).toNat < S128x18.size a)
theorem k2_idx790_inb : ∀ (v200 : IVec S16 32) (v503 : IVec S16 32) (k2_hw790 : k2_chk790 v200 v503), ∀ a x, ((![v200, v503] : Fin 2 → IVec S16 32) a x).toNat < S128x18.size a := fun v200 v503 k2_hw790 => k2_hw790

def k2_chk791 (v200 : IVec S16 32) (v509 : IVec S16 32) : Prop :=
  (∀ a x, ((![v200, v509] : Fin 2 → IVec S16 32) a x).toNat < S128x18.size a)
theorem k2_idx791_inb : ∀ (v200 : IVec S16 32) (v509 : IVec S16 32) (k2_hw791 : k2_chk791 v200 v509), ∀ a x, ((![v200, v509] : Fin 2 → IVec S16 32) a x).toNat < S128x18.size a := fun v200 v509 k2_hw791 => k2_hw791

def k2_chk792 (v200 : IVec S16 32) (v515 : IVec S16 32) : Prop :=
  (∀ a x, ((![v200, v515] : Fin 2 → IVec S16 32) a x).toNat < S128x18.size a)
theorem k2_idx792_inb : ∀ (v200 : IVec S16 32) (v515 : IVec S16 32) (k2_hw792 : k2_chk792 v200 v515), ∀ a x, ((![v200, v515] : Fin 2 → IVec S16 32) a x).toNat < S128x18.size a := fun v200 v515 k2_hw792 => k2_hw792

def k2_chk793 (v200 : IVec S16 32) (v521 : IVec S16 32) : Prop :=
  (∀ a x, ((![v200, v521] : Fin 2 → IVec S16 32) a x).toNat < S128x18.size a)
theorem k2_idx793_inb : ∀ (v200 : IVec S16 32) (v521 : IVec S16 32) (k2_hw793 : k2_chk793 v200 v521), ∀ a x, ((![v200, v521] : Fin 2 → IVec S16 32) a x).toNat < S128x18.size a := fun v200 v521 k2_hw793 => k2_hw793

def k2_chk794 (v200 : IVec S16 32) (v527 : IVec S16 32) : Prop :=
  (∀ a x, ((![v200, v527] : Fin 2 → IVec S16 32) a x).toNat < S128x18.size a)
theorem k2_idx794_inb : ∀ (v200 : IVec S16 32) (v527 : IVec S16 32) (k2_hw794 : k2_chk794 v200 v527), ∀ a x, ((![v200, v527] : Fin 2 → IVec S16 32) a x).toNat < S128x18.size a := fun v200 v527 k2_hw794 => k2_hw794

def k2_chk795 (v219 : IVec S16 32) (v535 : IVec S16 32) : Prop :=
  (∀ a x, ((![v219, v535] : Fin 2 → IVec S16 32) a x).toNat < S128x18.size a)
theorem k2_idx795_inb : ∀ (v219 : IVec S16 32) (v535 : IVec S16 32) (k2_hw795 : k2_chk795 v219 v535), ∀ a x, ((![v219, v535] : Fin 2 → IVec S16 32) a x).toNat < S128x18.size a := fun v219 v535 k2_hw795 => k2_hw795

def k2_chk796 (v219 : IVec S16 32) (v541 : IVec S16 32) : Prop :=
  (∀ a x, ((![v219, v541] : Fin 2 → IVec S16 32) a x).toNat < S128x18.size a)
theorem k2_idx796_inb : ∀ (v219 : IVec S16 32) (v541 : IVec S16 32) (k2_hw796 : k2_chk796 v219 v541), ∀ a x, ((![v219, v541] : Fin 2 → IVec S16 32) a x).toNat < S128x18.size a := fun v219 v541 k2_hw796 => k2_hw796

def k2_chk797 (v219 : IVec S16 32) (v547 : IVec S16 32) : Prop :=
  (∀ a x, ((![v219, v547] : Fin 2 → IVec S16 32) a x).toNat < S128x18.size a)
theorem k2_idx797_inb : ∀ (v219 : IVec S16 32) (v547 : IVec S16 32) (k2_hw797 : k2_chk797 v219 v547), ∀ a x, ((![v219, v547] : Fin 2 → IVec S16 32) a x).toNat < S128x18.size a := fun v219 v547 k2_hw797 => k2_hw797

def k2_chk798 (v219 : IVec S16 32) (v553 : IVec S16 32) : Prop :=
  (∀ a x, ((![v219, v553] : Fin 2 → IVec S16 32) a x).toNat < S128x18.size a)
theorem k2_idx798_inb : ∀ (v219 : IVec S16 32) (v553 : IVec S16 32) (k2_hw798 : k2_chk798 v219 v553), ∀ a x, ((![v219, v553] : Fin 2 → IVec S16 32) a x).toNat < S128x18.size a := fun v219 v553 k2_hw798 => k2_hw798

def k2_chk799 (v219 : IVec S16 32) (v559 : IVec S16 32) : Prop :=
  (∀ a x, ((![v219, v559] : Fin 2 → IVec S16 32) a x).toNat < S128x18.size a)
theorem k2_idx799_inb : ∀ (v219 : IVec S16 32) (v559 : IVec S16 32) (k2_hw799 : k2_chk799 v219 v559), ∀ a x, ((![v219, v559] : Fin 2 → IVec S16 32) a x).toNat < S128x18.size a := fun v219 v559 k2_hw799 => k2_hw799

def k2_chk800 (v219 : IVec S16 32) (v565 : IVec S16 32) : Prop :=
  (∀ a x, ((![v219, v565] : Fin 2 → IVec S16 32) a x).toNat < S128x18.size a)
theorem k2_idx800_inb : ∀ (v219 : IVec S16 32) (v565 : IVec S16 32) (k2_hw800 : k2_chk800 v219 v565), ∀ a x, ((![v219, v565] : Fin 2 → IVec S16 32) a x).toNat < S128x18.size a := fun v219 v565 k2_hw800 => k2_hw800

def k2_chk801 (v219 : IVec S16 32) (v571 : IVec S16 32) : Prop :=
  (∀ a x, ((![v219, v571] : Fin 2 → IVec S16 32) a x).toNat < S128x18.size a)
theorem k2_idx801_inb : ∀ (v219 : IVec S16 32) (v571 : IVec S16 32) (k2_hw801 : k2_chk801 v219 v571), ∀ a x, ((![v219, v571] : Fin 2 → IVec S16 32) a x).toNat < S128x18.size a := fun v219 v571 k2_hw801 => k2_hw801

def k2_chk802 (v219 : IVec S16 32) (v577 : IVec S16 32) : Prop :=
  (∀ a x, ((![v219, v577] : Fin 2 → IVec S16 32) a x).toNat < S128x18.size a)
theorem k2_idx802_inb : ∀ (v219 : IVec S16 32) (v577 : IVec S16 32) (k2_hw802 : k2_chk802 v219 v577), ∀ a x, ((![v219, v577] : Fin 2 → IVec S16 32) a x).toNat < S128x18.size a := fun v219 v577 k2_hw802 => k2_hw802

def k2_chk803 (v219 : IVec S16 32) (v583 : IVec S16 32) : Prop :=
  (∀ a x, ((![v219, v583] : Fin 2 → IVec S16 32) a x).toNat < S128x18.size a)
theorem k2_idx803_inb : ∀ (v219 : IVec S16 32) (v583 : IVec S16 32) (k2_hw803 : k2_chk803 v219 v583), ∀ a x, ((![v219, v583] : Fin 2 → IVec S16 32) a x).toNat < S128x18.size a := fun v219 v583 k2_hw803 => k2_hw803

def k2_chk804 (v219 : IVec S16 32) (v589 : IVec S16 32) : Prop :=
  (∀ a x, ((![v219, v589] : Fin 2 → IVec S16 32) a x).toNat < S128x18.size a)
theorem k2_idx804_inb : ∀ (v219 : IVec S16 32) (v589 : IVec S16 32) (k2_hw804 : k2_chk804 v219 v589), ∀ a x, ((![v219, v589] : Fin 2 → IVec S16 32) a x).toNat < S128x18.size a := fun v219 v589 k2_hw804 => k2_hw804

def k2_chk805 (v219 : IVec S16 32) (v595 : IVec S16 32) : Prop :=
  (∀ a x, ((![v219, v595] : Fin 2 → IVec S16 32) a x).toNat < S128x18.size a)
theorem k2_idx805_inb : ∀ (v219 : IVec S16 32) (v595 : IVec S16 32) (k2_hw805 : k2_chk805 v219 v595), ∀ a x, ((![v219, v595] : Fin 2 → IVec S16 32) a x).toNat < S128x18.size a := fun v219 v595 k2_hw805 => k2_hw805

def k2_chk806 (v219 : IVec S16 32) (v601 : IVec S16 32) : Prop :=
  (∀ a x, ((![v219, v601] : Fin 2 → IVec S16 32) a x).toNat < S128x18.size a)
theorem k2_idx806_inb : ∀ (v219 : IVec S16 32) (v601 : IVec S16 32) (k2_hw806 : k2_chk806 v219 v601), ∀ a x, ((![v219, v601] : Fin 2 → IVec S16 32) a x).toNat < S128x18.size a := fun v219 v601 k2_hw806 => k2_hw806

def k2_chk807 (v219 : IVec S16 32) (v607 : IVec S16 32) : Prop :=
  (∀ a x, ((![v219, v607] : Fin 2 → IVec S16 32) a x).toNat < S128x18.size a)
theorem k2_idx807_inb : ∀ (v219 : IVec S16 32) (v607 : IVec S16 32) (k2_hw807 : k2_chk807 v219 v607), ∀ a x, ((![v219, v607] : Fin 2 → IVec S16 32) a x).toNat < S128x18.size a := fun v219 v607 k2_hw807 => k2_hw807

def k2_chk808 (v219 : IVec S16 32) (v613 : IVec S16 32) : Prop :=
  (∀ a x, ((![v219, v613] : Fin 2 → IVec S16 32) a x).toNat < S128x18.size a)
theorem k2_idx808_inb : ∀ (v219 : IVec S16 32) (v613 : IVec S16 32) (k2_hw808 : k2_chk808 v219 v613), ∀ a x, ((![v219, v613] : Fin 2 → IVec S16 32) a x).toNat < S128x18.size a := fun v219 v613 k2_hw808 => k2_hw808

def k2_chk809 (v219 : IVec S16 32) (v619 : IVec S16 32) : Prop :=
  (∀ a x, ((![v219, v619] : Fin 2 → IVec S16 32) a x).toNat < S128x18.size a)
theorem k2_idx809_inb : ∀ (v219 : IVec S16 32) (v619 : IVec S16 32) (k2_hw809 : k2_chk809 v219 v619), ∀ a x, ((![v219, v619] : Fin 2 → IVec S16 32) a x).toNat < S128x18.size a := fun v219 v619 k2_hw809 => k2_hw809

def k2_chk810 (v219 : IVec S16 32) (v625 : IVec S16 32) : Prop :=
  (∀ a x, ((![v219, v625] : Fin 2 → IVec S16 32) a x).toNat < S128x18.size a)
theorem k2_idx810_inb : ∀ (v219 : IVec S16 32) (v625 : IVec S16 32) (k2_hw810 : k2_chk810 v219 v625), ∀ a x, ((![v219, v625] : Fin 2 → IVec S16 32) a x).toNat < S128x18.size a := fun v219 v625 k2_hw810 => k2_hw810

def k2_chk811 (v219 : IVec S16 32) (v631 : IVec S16 32) : Prop :=
  (∀ a x, ((![v219, v631] : Fin 2 → IVec S16 32) a x).toNat < S128x18.size a)
theorem k2_idx811_inb : ∀ (v219 : IVec S16 32) (v631 : IVec S16 32) (k2_hw811 : k2_chk811 v219 v631), ∀ a x, ((![v219, v631] : Fin 2 → IVec S16 32) a x).toNat < S128x18.size a := fun v219 v631 k2_hw811 => k2_hw811

def k2_chk812 (v219 : IVec S16 32) (v637 : IVec S16 32) : Prop :=
  (∀ a x, ((![v219, v637] : Fin 2 → IVec S16 32) a x).toNat < S128x18.size a)
theorem k2_idx812_inb : ∀ (v219 : IVec S16 32) (v637 : IVec S16 32) (k2_hw812 : k2_chk812 v219 v637), ∀ a x, ((![v219, v637] : Fin 2 → IVec S16 32) a x).toNat < S128x18.size a := fun v219 v637 k2_hw812 => k2_hw812

def k2_chk813 (v238 : IVec S16 32) (v645 : IVec S16 32) : Prop :=
  (∀ a x, ((![v238, v645] : Fin 2 → IVec S16 32) a x).toNat < S128x18.size a)
theorem k2_idx813_inb : ∀ (v238 : IVec S16 32) (v645 : IVec S16 32) (k2_hw813 : k2_chk813 v238 v645), ∀ a x, ((![v238, v645] : Fin 2 → IVec S16 32) a x).toNat < S128x18.size a := fun v238 v645 k2_hw813 => k2_hw813

def k2_chk814 (v238 : IVec S16 32) (v651 : IVec S16 32) : Prop :=
  (∀ a x, ((![v238, v651] : Fin 2 → IVec S16 32) a x).toNat < S128x18.size a)
theorem k2_idx814_inb : ∀ (v238 : IVec S16 32) (v651 : IVec S16 32) (k2_hw814 : k2_chk814 v238 v651), ∀ a x, ((![v238, v651] : Fin 2 → IVec S16 32) a x).toNat < S128x18.size a := fun v238 v651 k2_hw814 => k2_hw814

def k2_chk815 (v238 : IVec S16 32) (v657 : IVec S16 32) : Prop :=
  (∀ a x, ((![v238, v657] : Fin 2 → IVec S16 32) a x).toNat < S128x18.size a)
theorem k2_idx815_inb : ∀ (v238 : IVec S16 32) (v657 : IVec S16 32) (k2_hw815 : k2_chk815 v238 v657), ∀ a x, ((![v238, v657] : Fin 2 → IVec S16 32) a x).toNat < S128x18.size a := fun v238 v657 k2_hw815 => k2_hw815

def k2_chk816 (v238 : IVec S16 32) (v663 : IVec S16 32) : Prop :=
  (∀ a x, ((![v238, v663] : Fin 2 → IVec S16 32) a x).toNat < S128x18.size a)
theorem k2_idx816_inb : ∀ (v238 : IVec S16 32) (v663 : IVec S16 32) (k2_hw816 : k2_chk816 v238 v663), ∀ a x, ((![v238, v663] : Fin 2 → IVec S16 32) a x).toNat < S128x18.size a := fun v238 v663 k2_hw816 => k2_hw816

def k2_chk817 (v238 : IVec S16 32) (v669 : IVec S16 32) : Prop :=
  (∀ a x, ((![v238, v669] : Fin 2 → IVec S16 32) a x).toNat < S128x18.size a)
theorem k2_idx817_inb : ∀ (v238 : IVec S16 32) (v669 : IVec S16 32) (k2_hw817 : k2_chk817 v238 v669), ∀ a x, ((![v238, v669] : Fin 2 → IVec S16 32) a x).toNat < S128x18.size a := fun v238 v669 k2_hw817 => k2_hw817

def k2_chk818 (v238 : IVec S16 32) (v675 : IVec S16 32) : Prop :=
  (∀ a x, ((![v238, v675] : Fin 2 → IVec S16 32) a x).toNat < S128x18.size a)
theorem k2_idx818_inb : ∀ (v238 : IVec S16 32) (v675 : IVec S16 32) (k2_hw818 : k2_chk818 v238 v675), ∀ a x, ((![v238, v675] : Fin 2 → IVec S16 32) a x).toNat < S128x18.size a := fun v238 v675 k2_hw818 => k2_hw818

def k2_chk819 (v238 : IVec S16 32) (v681 : IVec S16 32) : Prop :=
  (∀ a x, ((![v238, v681] : Fin 2 → IVec S16 32) a x).toNat < S128x18.size a)
theorem k2_idx819_inb : ∀ (v238 : IVec S16 32) (v681 : IVec S16 32) (k2_hw819 : k2_chk819 v238 v681), ∀ a x, ((![v238, v681] : Fin 2 → IVec S16 32) a x).toNat < S128x18.size a := fun v238 v681 k2_hw819 => k2_hw819

def k2_chk820 (v238 : IVec S16 32) (v687 : IVec S16 32) : Prop :=
  (∀ a x, ((![v238, v687] : Fin 2 → IVec S16 32) a x).toNat < S128x18.size a)
theorem k2_idx820_inb : ∀ (v238 : IVec S16 32) (v687 : IVec S16 32) (k2_hw820 : k2_chk820 v238 v687), ∀ a x, ((![v238, v687] : Fin 2 → IVec S16 32) a x).toNat < S128x18.size a := fun v238 v687 k2_hw820 => k2_hw820

def k2_chk821 (v238 : IVec S16 32) (v693 : IVec S16 32) : Prop :=
  (∀ a x, ((![v238, v693] : Fin 2 → IVec S16 32) a x).toNat < S128x18.size a)
theorem k2_idx821_inb : ∀ (v238 : IVec S16 32) (v693 : IVec S16 32) (k2_hw821 : k2_chk821 v238 v693), ∀ a x, ((![v238, v693] : Fin 2 → IVec S16 32) a x).toNat < S128x18.size a := fun v238 v693 k2_hw821 => k2_hw821

def k2_chk822 (v238 : IVec S16 32) (v699 : IVec S16 32) : Prop :=
  (∀ a x, ((![v238, v699] : Fin 2 → IVec S16 32) a x).toNat < S128x18.size a)
theorem k2_idx822_inb : ∀ (v238 : IVec S16 32) (v699 : IVec S16 32) (k2_hw822 : k2_chk822 v238 v699), ∀ a x, ((![v238, v699] : Fin 2 → IVec S16 32) a x).toNat < S128x18.size a := fun v238 v699 k2_hw822 => k2_hw822

def k2_chk823 (v238 : IVec S16 32) (v705 : IVec S16 32) : Prop :=
  (∀ a x, ((![v238, v705] : Fin 2 → IVec S16 32) a x).toNat < S128x18.size a)
theorem k2_idx823_inb : ∀ (v238 : IVec S16 32) (v705 : IVec S16 32) (k2_hw823 : k2_chk823 v238 v705), ∀ a x, ((![v238, v705] : Fin 2 → IVec S16 32) a x).toNat < S128x18.size a := fun v238 v705 k2_hw823 => k2_hw823

def k2_chk824 (v238 : IVec S16 32) (v711 : IVec S16 32) : Prop :=
  (∀ a x, ((![v238, v711] : Fin 2 → IVec S16 32) a x).toNat < S128x18.size a)
theorem k2_idx824_inb : ∀ (v238 : IVec S16 32) (v711 : IVec S16 32) (k2_hw824 : k2_chk824 v238 v711), ∀ a x, ((![v238, v711] : Fin 2 → IVec S16 32) a x).toNat < S128x18.size a := fun v238 v711 k2_hw824 => k2_hw824

def k2_chk825 (v238 : IVec S16 32) (v717 : IVec S16 32) : Prop :=
  (∀ a x, ((![v238, v717] : Fin 2 → IVec S16 32) a x).toNat < S128x18.size a)
theorem k2_idx825_inb : ∀ (v238 : IVec S16 32) (v717 : IVec S16 32) (k2_hw825 : k2_chk825 v238 v717), ∀ a x, ((![v238, v717] : Fin 2 → IVec S16 32) a x).toNat < S128x18.size a := fun v238 v717 k2_hw825 => k2_hw825

def k2_chk826 (v238 : IVec S16 32) (v723 : IVec S16 32) : Prop :=
  (∀ a x, ((![v238, v723] : Fin 2 → IVec S16 32) a x).toNat < S128x18.size a)
theorem k2_idx826_inb : ∀ (v238 : IVec S16 32) (v723 : IVec S16 32) (k2_hw826 : k2_chk826 v238 v723), ∀ a x, ((![v238, v723] : Fin 2 → IVec S16 32) a x).toNat < S128x18.size a := fun v238 v723 k2_hw826 => k2_hw826

def k2_chk827 (v238 : IVec S16 32) (v729 : IVec S16 32) : Prop :=
  (∀ a x, ((![v238, v729] : Fin 2 → IVec S16 32) a x).toNat < S128x18.size a)
theorem k2_idx827_inb : ∀ (v238 : IVec S16 32) (v729 : IVec S16 32) (k2_hw827 : k2_chk827 v238 v729), ∀ a x, ((![v238, v729] : Fin 2 → IVec S16 32) a x).toNat < S128x18.size a := fun v238 v729 k2_hw827 => k2_hw827

def k2_chk828 (v238 : IVec S16 32) (v735 : IVec S16 32) : Prop :=
  (∀ a x, ((![v238, v735] : Fin 2 → IVec S16 32) a x).toNat < S128x18.size a)
theorem k2_idx828_inb : ∀ (v238 : IVec S16 32) (v735 : IVec S16 32) (k2_hw828 : k2_chk828 v238 v735), ∀ a x, ((![v238, v735] : Fin 2 → IVec S16 32) a x).toNat < S128x18.size a := fun v238 v735 k2_hw828 => k2_hw828

def k2_chk829 (v238 : IVec S16 32) (v741 : IVec S16 32) : Prop :=
  (∀ a x, ((![v238, v741] : Fin 2 → IVec S16 32) a x).toNat < S128x18.size a)
theorem k2_idx829_inb : ∀ (v238 : IVec S16 32) (v741 : IVec S16 32) (k2_hw829 : k2_chk829 v238 v741), ∀ a x, ((![v238, v741] : Fin 2 → IVec S16 32) a x).toNat < S128x18.size a := fun v238 v741 k2_hw829 => k2_hw829

def k2_chk830 (v238 : IVec S16 32) (v747 : IVec S16 32) : Prop :=
  (∀ a x, ((![v238, v747] : Fin 2 → IVec S16 32) a x).toNat < S128x18.size a)
theorem k2_idx830_inb : ∀ (v238 : IVec S16 32) (v747 : IVec S16 32) (k2_hw830 : k2_chk830 v238 v747), ∀ a x, ((![v238, v747] : Fin 2 → IVec S16 32) a x).toNat < S128x18.size a := fun v238 v747 k2_hw830 => k2_hw830

def k2_chk831 (v257 : IVec S16 32) (v755 : IVec S16 32) : Prop :=
  (∀ a x, ((![v257, v755] : Fin 2 → IVec S16 32) a x).toNat < S128x18.size a)
theorem k2_idx831_inb : ∀ (v257 : IVec S16 32) (v755 : IVec S16 32) (k2_hw831 : k2_chk831 v257 v755), ∀ a x, ((![v257, v755] : Fin 2 → IVec S16 32) a x).toNat < S128x18.size a := fun v257 v755 k2_hw831 => k2_hw831

def k2_chk832 (v257 : IVec S16 32) (v761 : IVec S16 32) : Prop :=
  (∀ a x, ((![v257, v761] : Fin 2 → IVec S16 32) a x).toNat < S128x18.size a)
theorem k2_idx832_inb : ∀ (v257 : IVec S16 32) (v761 : IVec S16 32) (k2_hw832 : k2_chk832 v257 v761), ∀ a x, ((![v257, v761] : Fin 2 → IVec S16 32) a x).toNat < S128x18.size a := fun v257 v761 k2_hw832 => k2_hw832

def k2_chk833 (v257 : IVec S16 32) (v767 : IVec S16 32) : Prop :=
  (∀ a x, ((![v257, v767] : Fin 2 → IVec S16 32) a x).toNat < S128x18.size a)
theorem k2_idx833_inb : ∀ (v257 : IVec S16 32) (v767 : IVec S16 32) (k2_hw833 : k2_chk833 v257 v767), ∀ a x, ((![v257, v767] : Fin 2 → IVec S16 32) a x).toNat < S128x18.size a := fun v257 v767 k2_hw833 => k2_hw833

def k2_chk834 (v257 : IVec S16 32) (v773 : IVec S16 32) : Prop :=
  (∀ a x, ((![v257, v773] : Fin 2 → IVec S16 32) a x).toNat < S128x18.size a)
theorem k2_idx834_inb : ∀ (v257 : IVec S16 32) (v773 : IVec S16 32) (k2_hw834 : k2_chk834 v257 v773), ∀ a x, ((![v257, v773] : Fin 2 → IVec S16 32) a x).toNat < S128x18.size a := fun v257 v773 k2_hw834 => k2_hw834

def k2_chk835 (v257 : IVec S16 32) (v779 : IVec S16 32) : Prop :=
  (∀ a x, ((![v257, v779] : Fin 2 → IVec S16 32) a x).toNat < S128x18.size a)
theorem k2_idx835_inb : ∀ (v257 : IVec S16 32) (v779 : IVec S16 32) (k2_hw835 : k2_chk835 v257 v779), ∀ a x, ((![v257, v779] : Fin 2 → IVec S16 32) a x).toNat < S128x18.size a := fun v257 v779 k2_hw835 => k2_hw835

def k2_chk836 (v257 : IVec S16 32) (v785 : IVec S16 32) : Prop :=
  (∀ a x, ((![v257, v785] : Fin 2 → IVec S16 32) a x).toNat < S128x18.size a)
theorem k2_idx836_inb : ∀ (v257 : IVec S16 32) (v785 : IVec S16 32) (k2_hw836 : k2_chk836 v257 v785), ∀ a x, ((![v257, v785] : Fin 2 → IVec S16 32) a x).toNat < S128x18.size a := fun v257 v785 k2_hw836 => k2_hw836

def k2_chk837 (v257 : IVec S16 32) (v791 : IVec S16 32) : Prop :=
  (∀ a x, ((![v257, v791] : Fin 2 → IVec S16 32) a x).toNat < S128x18.size a)
theorem k2_idx837_inb : ∀ (v257 : IVec S16 32) (v791 : IVec S16 32) (k2_hw837 : k2_chk837 v257 v791), ∀ a x, ((![v257, v791] : Fin 2 → IVec S16 32) a x).toNat < S128x18.size a := fun v257 v791 k2_hw837 => k2_hw837

def k2_chk838 (v257 : IVec S16 32) (v797 : IVec S16 32) : Prop :=
  (∀ a x, ((![v257, v797] : Fin 2 → IVec S16 32) a x).toNat < S128x18.size a)
theorem k2_idx838_inb : ∀ (v257 : IVec S16 32) (v797 : IVec S16 32) (k2_hw838 : k2_chk838 v257 v797), ∀ a x, ((![v257, v797] : Fin 2 → IVec S16 32) a x).toNat < S128x18.size a := fun v257 v797 k2_hw838 => k2_hw838

def k2_chk839 (v257 : IVec S16 32) (v803 : IVec S16 32) : Prop :=
  (∀ a x, ((![v257, v803] : Fin 2 → IVec S16 32) a x).toNat < S128x18.size a)
theorem k2_idx839_inb : ∀ (v257 : IVec S16 32) (v803 : IVec S16 32) (k2_hw839 : k2_chk839 v257 v803), ∀ a x, ((![v257, v803] : Fin 2 → IVec S16 32) a x).toNat < S128x18.size a := fun v257 v803 k2_hw839 => k2_hw839

def k2_chk840 (v257 : IVec S16 32) (v809 : IVec S16 32) : Prop :=
  (∀ a x, ((![v257, v809] : Fin 2 → IVec S16 32) a x).toNat < S128x18.size a)
theorem k2_idx840_inb : ∀ (v257 : IVec S16 32) (v809 : IVec S16 32) (k2_hw840 : k2_chk840 v257 v809), ∀ a x, ((![v257, v809] : Fin 2 → IVec S16 32) a x).toNat < S128x18.size a := fun v257 v809 k2_hw840 => k2_hw840

def k2_chk841 (v257 : IVec S16 32) (v815 : IVec S16 32) : Prop :=
  (∀ a x, ((![v257, v815] : Fin 2 → IVec S16 32) a x).toNat < S128x18.size a)
theorem k2_idx841_inb : ∀ (v257 : IVec S16 32) (v815 : IVec S16 32) (k2_hw841 : k2_chk841 v257 v815), ∀ a x, ((![v257, v815] : Fin 2 → IVec S16 32) a x).toNat < S128x18.size a := fun v257 v815 k2_hw841 => k2_hw841

def k2_chk842 (v257 : IVec S16 32) (v821 : IVec S16 32) : Prop :=
  (∀ a x, ((![v257, v821] : Fin 2 → IVec S16 32) a x).toNat < S128x18.size a)
theorem k2_idx842_inb : ∀ (v257 : IVec S16 32) (v821 : IVec S16 32) (k2_hw842 : k2_chk842 v257 v821), ∀ a x, ((![v257, v821] : Fin 2 → IVec S16 32) a x).toNat < S128x18.size a := fun v257 v821 k2_hw842 => k2_hw842

def k2_chk843 (v257 : IVec S16 32) (v827 : IVec S16 32) : Prop :=
  (∀ a x, ((![v257, v827] : Fin 2 → IVec S16 32) a x).toNat < S128x18.size a)
theorem k2_idx843_inb : ∀ (v257 : IVec S16 32) (v827 : IVec S16 32) (k2_hw843 : k2_chk843 v257 v827), ∀ a x, ((![v257, v827] : Fin 2 → IVec S16 32) a x).toNat < S128x18.size a := fun v257 v827 k2_hw843 => k2_hw843

def k2_chk844 (v257 : IVec S16 32) (v833 : IVec S16 32) : Prop :=
  (∀ a x, ((![v257, v833] : Fin 2 → IVec S16 32) a x).toNat < S128x18.size a)
theorem k2_idx844_inb : ∀ (v257 : IVec S16 32) (v833 : IVec S16 32) (k2_hw844 : k2_chk844 v257 v833), ∀ a x, ((![v257, v833] : Fin 2 → IVec S16 32) a x).toNat < S128x18.size a := fun v257 v833 k2_hw844 => k2_hw844

def k2_chk845 (v257 : IVec S16 32) (v839 : IVec S16 32) : Prop :=
  (∀ a x, ((![v257, v839] : Fin 2 → IVec S16 32) a x).toNat < S128x18.size a)
theorem k2_idx845_inb : ∀ (v257 : IVec S16 32) (v839 : IVec S16 32) (k2_hw845 : k2_chk845 v257 v839), ∀ a x, ((![v257, v839] : Fin 2 → IVec S16 32) a x).toNat < S128x18.size a := fun v257 v839 k2_hw845 => k2_hw845

def k2_chk846 (v257 : IVec S16 32) (v845 : IVec S16 32) : Prop :=
  (∀ a x, ((![v257, v845] : Fin 2 → IVec S16 32) a x).toNat < S128x18.size a)
theorem k2_idx846_inb : ∀ (v257 : IVec S16 32) (v845 : IVec S16 32) (k2_hw846 : k2_chk846 v257 v845), ∀ a x, ((![v257, v845] : Fin 2 → IVec S16 32) a x).toNat < S128x18.size a := fun v257 v845 k2_hw846 => k2_hw846

def k2_chk847 (v257 : IVec S16 32) (v851 : IVec S16 32) : Prop :=
  (∀ a x, ((![v257, v851] : Fin 2 → IVec S16 32) a x).toNat < S128x18.size a)
theorem k2_idx847_inb : ∀ (v257 : IVec S16 32) (v851 : IVec S16 32) (k2_hw847 : k2_chk847 v257 v851), ∀ a x, ((![v257, v851] : Fin 2 → IVec S16 32) a x).toNat < S128x18.size a := fun v257 v851 k2_hw847 => k2_hw847

def k2_chk848 (v257 : IVec S16 32) (v857 : IVec S16 32) : Prop :=
  (∀ a x, ((![v257, v857] : Fin 2 → IVec S16 32) a x).toNat < S128x18.size a)
theorem k2_idx848_inb : ∀ (v257 : IVec S16 32) (v857 : IVec S16 32) (k2_hw848 : k2_chk848 v257 v857), ∀ a x, ((![v257, v857] : Fin 2 → IVec S16 32) a x).toNat < S128x18.size a := fun v257 v857 k2_hw848 => k2_hw848
@[reducible] def k2_t11_loop : Scf.Loop 32 :=
  let c0_i32_144 : BitVec 32 := 0#32
  let c2_i32_145 : BitVec 32 := 2#32
  let v109 : BitVec 32 := Scalar.addi c0_i32_144 c2_i32_145
  let c1_i32_146 : BitVec 32 := 1#32
  ⟨c0_i32_144, v109, c1_i32_146⟩
def k2_off15 (k2_t11 : Fin k2_t11_loop.trips) (c0_i32_243 : BitVec 32) : Fin 1 → Nat :=
  let c1152_i32_244 : BitVec 32 := 1152#32
  let c0_i32_144 : BitVec 32 := 0#32
  let c1_i32_146 : BitVec 32 := 1#32
  let arg18 : BitVec 32 := Scf.iv c0_i32_144 c1_i32_146 k2_t11
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c1152_i32_244 v184
  let v186 : Index := Scalar.indexCast v185
  ![v186.toNat]

def k2_chk849 (v200 : IVec S16 32) (v263 : IVec S16 32) : Prop :=
  (∀ a x, ((![v200, v263] : Fin 2 → IVec S16 32) a x).toNat < S128x128.size a)
theorem k2_idx849_inb : ∀ (v200 : IVec S16 32) (v263 : IVec S16 32) (k2_hw849 : k2_chk849 v200 v263), ∀ a x, ((![v200, v263] : Fin 2 → IVec S16 32) a x).toNat < S128x128.size a := fun v200 v263 k2_hw849 => k2_hw849

def k2_chk850 (v219 : IVec S16 32) (v270 : IVec S16 32) : Prop :=
  (∀ a x, ((![v219, v270] : Fin 2 → IVec S16 32) a x).toNat < S128x128.size a)
theorem k2_idx850_inb : ∀ (v219 : IVec S16 32) (v270 : IVec S16 32) (k2_hw850 : k2_chk850 v219 v270), ∀ a x, ((![v219, v270] : Fin 2 → IVec S16 32) a x).toNat < S128x128.size a := fun v219 v270 k2_hw850 => k2_hw850

def k2_chk851 (v238 : IVec S16 32) (v277 : IVec S16 32) : Prop :=
  (∀ a x, ((![v238, v277] : Fin 2 → IVec S16 32) a x).toNat < S128x128.size a)
theorem k2_idx851_inb : ∀ (v238 : IVec S16 32) (v277 : IVec S16 32) (k2_hw851 : k2_chk851 v238 v277), ∀ a x, ((![v238, v277] : Fin 2 → IVec S16 32) a x).toNat < S128x128.size a := fun v238 v277 k2_hw851 => k2_hw851

def k2_chk852 (v257 : IVec S16 32) (v284 : IVec S16 32) : Prop :=
  (∀ a x, ((![v257, v284] : Fin 2 → IVec S16 32) a x).toNat < S128x128.size a)
theorem k2_idx852_inb : ∀ (v257 : IVec S16 32) (v284 : IVec S16 32) (k2_hw852 : k2_chk852 v257 v284), ∀ a x, ((![v257, v284] : Fin 2 → IVec S16 32) a x).toNat < S128x128.size a := fun v257 v284 k2_hw852 => k2_hw852

def k2_chk853 (v200 : IVec S16 32) (v303 : IVec S16 32) : Prop :=
  (∀ a x, ((![v200, v303] : Fin 2 → IVec S16 32) a x).toNat < S128x128.size a)
theorem k2_idx853_inb : ∀ (v200 : IVec S16 32) (v303 : IVec S16 32) (k2_hw853 : k2_chk853 v200 v303), ∀ a x, ((![v200, v303] : Fin 2 → IVec S16 32) a x).toNat < S128x128.size a := fun v200 v303 k2_hw853 => k2_hw853

def k2_chk854 (v219 : IVec S16 32) (v310 : IVec S16 32) : Prop :=
  (∀ a x, ((![v219, v310] : Fin 2 → IVec S16 32) a x).toNat < S128x128.size a)
theorem k2_idx854_inb : ∀ (v219 : IVec S16 32) (v310 : IVec S16 32) (k2_hw854 : k2_chk854 v219 v310), ∀ a x, ((![v219, v310] : Fin 2 → IVec S16 32) a x).toNat < S128x128.size a := fun v219 v310 k2_hw854 => k2_hw854

def k2_chk855 (v238 : IVec S16 32) (v317 : IVec S16 32) : Prop :=
  (∀ a x, ((![v238, v317] : Fin 2 → IVec S16 32) a x).toNat < S128x128.size a)
theorem k2_idx855_inb : ∀ (v238 : IVec S16 32) (v317 : IVec S16 32) (k2_hw855 : k2_chk855 v238 v317), ∀ a x, ((![v238, v317] : Fin 2 → IVec S16 32) a x).toNat < S128x128.size a := fun v238 v317 k2_hw855 => k2_hw855

def k2_chk856 (v257 : IVec S16 32) (v324 : IVec S16 32) : Prop :=
  (∀ a x, ((![v257, v324] : Fin 2 → IVec S16 32) a x).toNat < S128x128.size a)
theorem k2_idx856_inb : ∀ (v257 : IVec S16 32) (v324 : IVec S16 32) (k2_hw856 : k2_chk856 v257 v324), ∀ a x, ((![v257, v324] : Fin 2 → IVec S16 32) a x).toNat < S128x128.size a := fun v257 v324 k2_hw856 => k2_hw856

def k2_chk857 (v200 : IVec S16 32) (v343 : IVec S16 32) : Prop :=
  (∀ a x, ((![v200, v343] : Fin 2 → IVec S16 32) a x).toNat < S128x128.size a)
theorem k2_idx857_inb : ∀ (v200 : IVec S16 32) (v343 : IVec S16 32) (k2_hw857 : k2_chk857 v200 v343), ∀ a x, ((![v200, v343] : Fin 2 → IVec S16 32) a x).toNat < S128x128.size a := fun v200 v343 k2_hw857 => k2_hw857

def k2_chk858 (v219 : IVec S16 32) (v350 : IVec S16 32) : Prop :=
  (∀ a x, ((![v219, v350] : Fin 2 → IVec S16 32) a x).toNat < S128x128.size a)
theorem k2_idx858_inb : ∀ (v219 : IVec S16 32) (v350 : IVec S16 32) (k2_hw858 : k2_chk858 v219 v350), ∀ a x, ((![v219, v350] : Fin 2 → IVec S16 32) a x).toNat < S128x128.size a := fun v219 v350 k2_hw858 => k2_hw858

def k2_chk859 (v238 : IVec S16 32) (v357 : IVec S16 32) : Prop :=
  (∀ a x, ((![v238, v357] : Fin 2 → IVec S16 32) a x).toNat < S128x128.size a)
theorem k2_idx859_inb : ∀ (v238 : IVec S16 32) (v357 : IVec S16 32) (k2_hw859 : k2_chk859 v238 v357), ∀ a x, ((![v238, v357] : Fin 2 → IVec S16 32) a x).toNat < S128x128.size a := fun v238 v357 k2_hw859 => k2_hw859

def k2_chk860 (v257 : IVec S16 32) (v364 : IVec S16 32) : Prop :=
  (∀ a x, ((![v257, v364] : Fin 2 → IVec S16 32) a x).toNat < S128x128.size a)
theorem k2_idx860_inb : ∀ (v257 : IVec S16 32) (v364 : IVec S16 32) (k2_hw860 : k2_chk860 v257 v364), ∀ a x, ((![v257, v364] : Fin 2 → IVec S16 32) a x).toNat < S128x128.size a := fun v257 v364 k2_hw860 => k2_hw860

def k2_chk861 (v200 : IVec S16 32) (v383 : IVec S16 32) : Prop :=
  (∀ a x, ((![v200, v383] : Fin 2 → IVec S16 32) a x).toNat < S128x128.size a)
theorem k2_idx861_inb : ∀ (v200 : IVec S16 32) (v383 : IVec S16 32) (k2_hw861 : k2_chk861 v200 v383), ∀ a x, ((![v200, v383] : Fin 2 → IVec S16 32) a x).toNat < S128x128.size a := fun v200 v383 k2_hw861 => k2_hw861

def k2_chk862 (v219 : IVec S16 32) (v390 : IVec S16 32) : Prop :=
  (∀ a x, ((![v219, v390] : Fin 2 → IVec S16 32) a x).toNat < S128x128.size a)
theorem k2_idx862_inb : ∀ (v219 : IVec S16 32) (v390 : IVec S16 32) (k2_hw862 : k2_chk862 v219 v390), ∀ a x, ((![v219, v390] : Fin 2 → IVec S16 32) a x).toNat < S128x128.size a := fun v219 v390 k2_hw862 => k2_hw862

def k2_chk863 (v238 : IVec S16 32) (v397 : IVec S16 32) : Prop :=
  (∀ a x, ((![v238, v397] : Fin 2 → IVec S16 32) a x).toNat < S128x128.size a)
theorem k2_idx863_inb : ∀ (v238 : IVec S16 32) (v397 : IVec S16 32) (k2_hw863 : k2_chk863 v238 v397), ∀ a x, ((![v238, v397] : Fin 2 → IVec S16 32) a x).toNat < S128x128.size a := fun v238 v397 k2_hw863 => k2_hw863

def k2_chk864 (v257 : IVec S16 32) (v404 : IVec S16 32) : Prop :=
  (∀ a x, ((![v257, v404] : Fin 2 → IVec S16 32) a x).toNat < S128x128.size a)
theorem k2_idx864_inb : ∀ (v257 : IVec S16 32) (v404 : IVec S16 32) (k2_hw864 : k2_chk864 v257 v404), ∀ a x, ((![v257, v404] : Fin 2 → IVec S16 32) a x).toNat < S128x128.size a := fun v257 v404 k2_hw864 => k2_hw864

def k2_chk865 (v200 : IVec S16 32) (v425 : IVec S16 32) : Prop :=
  (∀ a x, ((![v200, v425] : Fin 2 → IVec S16 32) a x).toNat < S128x18.size a)
theorem k2_idx865_inb : ∀ (v200 : IVec S16 32) (v425 : IVec S16 32) (k2_hw865 : k2_chk865 v200 v425), ∀ a x, ((![v200, v425] : Fin 2 → IVec S16 32) a x).toNat < S128x18.size a := fun v200 v425 k2_hw865 => k2_hw865

def k2_chk866 (v200 : IVec S16 32) (v431 : IVec S16 32) : Prop :=
  (∀ a x, ((![v200, v431] : Fin 2 → IVec S16 32) a x).toNat < S128x18.size a)
theorem k2_idx866_inb : ∀ (v200 : IVec S16 32) (v431 : IVec S16 32) (k2_hw866 : k2_chk866 v200 v431), ∀ a x, ((![v200, v431] : Fin 2 → IVec S16 32) a x).toNat < S128x18.size a := fun v200 v431 k2_hw866 => k2_hw866

def k2_chk867 (v200 : IVec S16 32) (v437 : IVec S16 32) : Prop :=
  (∀ a x, ((![v200, v437] : Fin 2 → IVec S16 32) a x).toNat < S128x18.size a)
theorem k2_idx867_inb : ∀ (v200 : IVec S16 32) (v437 : IVec S16 32) (k2_hw867 : k2_chk867 v200 v437), ∀ a x, ((![v200, v437] : Fin 2 → IVec S16 32) a x).toNat < S128x18.size a := fun v200 v437 k2_hw867 => k2_hw867

def k2_chk868 (v200 : IVec S16 32) (v443 : IVec S16 32) : Prop :=
  (∀ a x, ((![v200, v443] : Fin 2 → IVec S16 32) a x).toNat < S128x18.size a)
theorem k2_idx868_inb : ∀ (v200 : IVec S16 32) (v443 : IVec S16 32) (k2_hw868 : k2_chk868 v200 v443), ∀ a x, ((![v200, v443] : Fin 2 → IVec S16 32) a x).toNat < S128x18.size a := fun v200 v443 k2_hw868 => k2_hw868

def k2_chk869 (v200 : IVec S16 32) (v449 : IVec S16 32) : Prop :=
  (∀ a x, ((![v200, v449] : Fin 2 → IVec S16 32) a x).toNat < S128x18.size a)
theorem k2_idx869_inb : ∀ (v200 : IVec S16 32) (v449 : IVec S16 32) (k2_hw869 : k2_chk869 v200 v449), ∀ a x, ((![v200, v449] : Fin 2 → IVec S16 32) a x).toNat < S128x18.size a := fun v200 v449 k2_hw869 => k2_hw869

def k2_chk870 (v200 : IVec S16 32) (v455 : IVec S16 32) : Prop :=
  (∀ a x, ((![v200, v455] : Fin 2 → IVec S16 32) a x).toNat < S128x18.size a)
theorem k2_idx870_inb : ∀ (v200 : IVec S16 32) (v455 : IVec S16 32) (k2_hw870 : k2_chk870 v200 v455), ∀ a x, ((![v200, v455] : Fin 2 → IVec S16 32) a x).toNat < S128x18.size a := fun v200 v455 k2_hw870 => k2_hw870

def k2_chk871 (v200 : IVec S16 32) (v461 : IVec S16 32) : Prop :=
  (∀ a x, ((![v200, v461] : Fin 2 → IVec S16 32) a x).toNat < S128x18.size a)
theorem k2_idx871_inb : ∀ (v200 : IVec S16 32) (v461 : IVec S16 32) (k2_hw871 : k2_chk871 v200 v461), ∀ a x, ((![v200, v461] : Fin 2 → IVec S16 32) a x).toNat < S128x18.size a := fun v200 v461 k2_hw871 => k2_hw871

def k2_chk872 (v200 : IVec S16 32) (v467 : IVec S16 32) : Prop :=
  (∀ a x, ((![v200, v467] : Fin 2 → IVec S16 32) a x).toNat < S128x18.size a)
theorem k2_idx872_inb : ∀ (v200 : IVec S16 32) (v467 : IVec S16 32) (k2_hw872 : k2_chk872 v200 v467), ∀ a x, ((![v200, v467] : Fin 2 → IVec S16 32) a x).toNat < S128x18.size a := fun v200 v467 k2_hw872 => k2_hw872

def k2_chk873 (v200 : IVec S16 32) (v473 : IVec S16 32) : Prop :=
  (∀ a x, ((![v200, v473] : Fin 2 → IVec S16 32) a x).toNat < S128x18.size a)
theorem k2_idx873_inb : ∀ (v200 : IVec S16 32) (v473 : IVec S16 32) (k2_hw873 : k2_chk873 v200 v473), ∀ a x, ((![v200, v473] : Fin 2 → IVec S16 32) a x).toNat < S128x18.size a := fun v200 v473 k2_hw873 => k2_hw873

def k2_chk874 (v200 : IVec S16 32) (v479 : IVec S16 32) : Prop :=
  (∀ a x, ((![v200, v479] : Fin 2 → IVec S16 32) a x).toNat < S128x18.size a)
theorem k2_idx874_inb : ∀ (v200 : IVec S16 32) (v479 : IVec S16 32) (k2_hw874 : k2_chk874 v200 v479), ∀ a x, ((![v200, v479] : Fin 2 → IVec S16 32) a x).toNat < S128x18.size a := fun v200 v479 k2_hw874 => k2_hw874

def k2_chk875 (v200 : IVec S16 32) (v485 : IVec S16 32) : Prop :=
  (∀ a x, ((![v200, v485] : Fin 2 → IVec S16 32) a x).toNat < S128x18.size a)
theorem k2_idx875_inb : ∀ (v200 : IVec S16 32) (v485 : IVec S16 32) (k2_hw875 : k2_chk875 v200 v485), ∀ a x, ((![v200, v485] : Fin 2 → IVec S16 32) a x).toNat < S128x18.size a := fun v200 v485 k2_hw875 => k2_hw875

def k2_chk876 (v200 : IVec S16 32) (v491 : IVec S16 32) : Prop :=
  (∀ a x, ((![v200, v491] : Fin 2 → IVec S16 32) a x).toNat < S128x18.size a)
theorem k2_idx876_inb : ∀ (v200 : IVec S16 32) (v491 : IVec S16 32) (k2_hw876 : k2_chk876 v200 v491), ∀ a x, ((![v200, v491] : Fin 2 → IVec S16 32) a x).toNat < S128x18.size a := fun v200 v491 k2_hw876 => k2_hw876

def k2_chk877 (v200 : IVec S16 32) (v497 : IVec S16 32) : Prop :=
  (∀ a x, ((![v200, v497] : Fin 2 → IVec S16 32) a x).toNat < S128x18.size a)
theorem k2_idx877_inb : ∀ (v200 : IVec S16 32) (v497 : IVec S16 32) (k2_hw877 : k2_chk877 v200 v497), ∀ a x, ((![v200, v497] : Fin 2 → IVec S16 32) a x).toNat < S128x18.size a := fun v200 v497 k2_hw877 => k2_hw877

def k2_chk878 (v200 : IVec S16 32) (v503 : IVec S16 32) : Prop :=
  (∀ a x, ((![v200, v503] : Fin 2 → IVec S16 32) a x).toNat < S128x18.size a)
theorem k2_idx878_inb : ∀ (v200 : IVec S16 32) (v503 : IVec S16 32) (k2_hw878 : k2_chk878 v200 v503), ∀ a x, ((![v200, v503] : Fin 2 → IVec S16 32) a x).toNat < S128x18.size a := fun v200 v503 k2_hw878 => k2_hw878

def k2_chk879 (v200 : IVec S16 32) (v509 : IVec S16 32) : Prop :=
  (∀ a x, ((![v200, v509] : Fin 2 → IVec S16 32) a x).toNat < S128x18.size a)
theorem k2_idx879_inb : ∀ (v200 : IVec S16 32) (v509 : IVec S16 32) (k2_hw879 : k2_chk879 v200 v509), ∀ a x, ((![v200, v509] : Fin 2 → IVec S16 32) a x).toNat < S128x18.size a := fun v200 v509 k2_hw879 => k2_hw879

def k2_chk880 (v200 : IVec S16 32) (v515 : IVec S16 32) : Prop :=
  (∀ a x, ((![v200, v515] : Fin 2 → IVec S16 32) a x).toNat < S128x18.size a)
theorem k2_idx880_inb : ∀ (v200 : IVec S16 32) (v515 : IVec S16 32) (k2_hw880 : k2_chk880 v200 v515), ∀ a x, ((![v200, v515] : Fin 2 → IVec S16 32) a x).toNat < S128x18.size a := fun v200 v515 k2_hw880 => k2_hw880

def k2_chk881 (v200 : IVec S16 32) (v521 : IVec S16 32) : Prop :=
  (∀ a x, ((![v200, v521] : Fin 2 → IVec S16 32) a x).toNat < S128x18.size a)
theorem k2_idx881_inb : ∀ (v200 : IVec S16 32) (v521 : IVec S16 32) (k2_hw881 : k2_chk881 v200 v521), ∀ a x, ((![v200, v521] : Fin 2 → IVec S16 32) a x).toNat < S128x18.size a := fun v200 v521 k2_hw881 => k2_hw881

def k2_chk882 (v200 : IVec S16 32) (v527 : IVec S16 32) : Prop :=
  (∀ a x, ((![v200, v527] : Fin 2 → IVec S16 32) a x).toNat < S128x18.size a)
theorem k2_idx882_inb : ∀ (v200 : IVec S16 32) (v527 : IVec S16 32) (k2_hw882 : k2_chk882 v200 v527), ∀ a x, ((![v200, v527] : Fin 2 → IVec S16 32) a x).toNat < S128x18.size a := fun v200 v527 k2_hw882 => k2_hw882

def k2_chk883 (v219 : IVec S16 32) (v535 : IVec S16 32) : Prop :=
  (∀ a x, ((![v219, v535] : Fin 2 → IVec S16 32) a x).toNat < S128x18.size a)
theorem k2_idx883_inb : ∀ (v219 : IVec S16 32) (v535 : IVec S16 32) (k2_hw883 : k2_chk883 v219 v535), ∀ a x, ((![v219, v535] : Fin 2 → IVec S16 32) a x).toNat < S128x18.size a := fun v219 v535 k2_hw883 => k2_hw883

def k2_chk884 (v219 : IVec S16 32) (v541 : IVec S16 32) : Prop :=
  (∀ a x, ((![v219, v541] : Fin 2 → IVec S16 32) a x).toNat < S128x18.size a)
theorem k2_idx884_inb : ∀ (v219 : IVec S16 32) (v541 : IVec S16 32) (k2_hw884 : k2_chk884 v219 v541), ∀ a x, ((![v219, v541] : Fin 2 → IVec S16 32) a x).toNat < S128x18.size a := fun v219 v541 k2_hw884 => k2_hw884

def k2_chk885 (v219 : IVec S16 32) (v547 : IVec S16 32) : Prop :=
  (∀ a x, ((![v219, v547] : Fin 2 → IVec S16 32) a x).toNat < S128x18.size a)
theorem k2_idx885_inb : ∀ (v219 : IVec S16 32) (v547 : IVec S16 32) (k2_hw885 : k2_chk885 v219 v547), ∀ a x, ((![v219, v547] : Fin 2 → IVec S16 32) a x).toNat < S128x18.size a := fun v219 v547 k2_hw885 => k2_hw885

def k2_chk886 (v219 : IVec S16 32) (v553 : IVec S16 32) : Prop :=
  (∀ a x, ((![v219, v553] : Fin 2 → IVec S16 32) a x).toNat < S128x18.size a)
theorem k2_idx886_inb : ∀ (v219 : IVec S16 32) (v553 : IVec S16 32) (k2_hw886 : k2_chk886 v219 v553), ∀ a x, ((![v219, v553] : Fin 2 → IVec S16 32) a x).toNat < S128x18.size a := fun v219 v553 k2_hw886 => k2_hw886

def k2_chk887 (v219 : IVec S16 32) (v559 : IVec S16 32) : Prop :=
  (∀ a x, ((![v219, v559] : Fin 2 → IVec S16 32) a x).toNat < S128x18.size a)
theorem k2_idx887_inb : ∀ (v219 : IVec S16 32) (v559 : IVec S16 32) (k2_hw887 : k2_chk887 v219 v559), ∀ a x, ((![v219, v559] : Fin 2 → IVec S16 32) a x).toNat < S128x18.size a := fun v219 v559 k2_hw887 => k2_hw887

def k2_chk888 (v219 : IVec S16 32) (v565 : IVec S16 32) : Prop :=
  (∀ a x, ((![v219, v565] : Fin 2 → IVec S16 32) a x).toNat < S128x18.size a)
theorem k2_idx888_inb : ∀ (v219 : IVec S16 32) (v565 : IVec S16 32) (k2_hw888 : k2_chk888 v219 v565), ∀ a x, ((![v219, v565] : Fin 2 → IVec S16 32) a x).toNat < S128x18.size a := fun v219 v565 k2_hw888 => k2_hw888

def k2_chk889 (v219 : IVec S16 32) (v571 : IVec S16 32) : Prop :=
  (∀ a x, ((![v219, v571] : Fin 2 → IVec S16 32) a x).toNat < S128x18.size a)
theorem k2_idx889_inb : ∀ (v219 : IVec S16 32) (v571 : IVec S16 32) (k2_hw889 : k2_chk889 v219 v571), ∀ a x, ((![v219, v571] : Fin 2 → IVec S16 32) a x).toNat < S128x18.size a := fun v219 v571 k2_hw889 => k2_hw889

def k2_chk890 (v219 : IVec S16 32) (v577 : IVec S16 32) : Prop :=
  (∀ a x, ((![v219, v577] : Fin 2 → IVec S16 32) a x).toNat < S128x18.size a)
theorem k2_idx890_inb : ∀ (v219 : IVec S16 32) (v577 : IVec S16 32) (k2_hw890 : k2_chk890 v219 v577), ∀ a x, ((![v219, v577] : Fin 2 → IVec S16 32) a x).toNat < S128x18.size a := fun v219 v577 k2_hw890 => k2_hw890

def k2_chk891 (v219 : IVec S16 32) (v583 : IVec S16 32) : Prop :=
  (∀ a x, ((![v219, v583] : Fin 2 → IVec S16 32) a x).toNat < S128x18.size a)
theorem k2_idx891_inb : ∀ (v219 : IVec S16 32) (v583 : IVec S16 32) (k2_hw891 : k2_chk891 v219 v583), ∀ a x, ((![v219, v583] : Fin 2 → IVec S16 32) a x).toNat < S128x18.size a := fun v219 v583 k2_hw891 => k2_hw891

def k2_chk892 (v219 : IVec S16 32) (v589 : IVec S16 32) : Prop :=
  (∀ a x, ((![v219, v589] : Fin 2 → IVec S16 32) a x).toNat < S128x18.size a)
theorem k2_idx892_inb : ∀ (v219 : IVec S16 32) (v589 : IVec S16 32) (k2_hw892 : k2_chk892 v219 v589), ∀ a x, ((![v219, v589] : Fin 2 → IVec S16 32) a x).toNat < S128x18.size a := fun v219 v589 k2_hw892 => k2_hw892

def k2_chk893 (v219 : IVec S16 32) (v595 : IVec S16 32) : Prop :=
  (∀ a x, ((![v219, v595] : Fin 2 → IVec S16 32) a x).toNat < S128x18.size a)
theorem k2_idx893_inb : ∀ (v219 : IVec S16 32) (v595 : IVec S16 32) (k2_hw893 : k2_chk893 v219 v595), ∀ a x, ((![v219, v595] : Fin 2 → IVec S16 32) a x).toNat < S128x18.size a := fun v219 v595 k2_hw893 => k2_hw893

def k2_chk894 (v219 : IVec S16 32) (v601 : IVec S16 32) : Prop :=
  (∀ a x, ((![v219, v601] : Fin 2 → IVec S16 32) a x).toNat < S128x18.size a)
theorem k2_idx894_inb : ∀ (v219 : IVec S16 32) (v601 : IVec S16 32) (k2_hw894 : k2_chk894 v219 v601), ∀ a x, ((![v219, v601] : Fin 2 → IVec S16 32) a x).toNat < S128x18.size a := fun v219 v601 k2_hw894 => k2_hw894

def k2_chk895 (v219 : IVec S16 32) (v607 : IVec S16 32) : Prop :=
  (∀ a x, ((![v219, v607] : Fin 2 → IVec S16 32) a x).toNat < S128x18.size a)
theorem k2_idx895_inb : ∀ (v219 : IVec S16 32) (v607 : IVec S16 32) (k2_hw895 : k2_chk895 v219 v607), ∀ a x, ((![v219, v607] : Fin 2 → IVec S16 32) a x).toNat < S128x18.size a := fun v219 v607 k2_hw895 => k2_hw895

def k2_chk896 (v219 : IVec S16 32) (v613 : IVec S16 32) : Prop :=
  (∀ a x, ((![v219, v613] : Fin 2 → IVec S16 32) a x).toNat < S128x18.size a)
theorem k2_idx896_inb : ∀ (v219 : IVec S16 32) (v613 : IVec S16 32) (k2_hw896 : k2_chk896 v219 v613), ∀ a x, ((![v219, v613] : Fin 2 → IVec S16 32) a x).toNat < S128x18.size a := fun v219 v613 k2_hw896 => k2_hw896

def k2_chk897 (v219 : IVec S16 32) (v619 : IVec S16 32) : Prop :=
  (∀ a x, ((![v219, v619] : Fin 2 → IVec S16 32) a x).toNat < S128x18.size a)
theorem k2_idx897_inb : ∀ (v219 : IVec S16 32) (v619 : IVec S16 32) (k2_hw897 : k2_chk897 v219 v619), ∀ a x, ((![v219, v619] : Fin 2 → IVec S16 32) a x).toNat < S128x18.size a := fun v219 v619 k2_hw897 => k2_hw897

def k2_chk898 (v219 : IVec S16 32) (v625 : IVec S16 32) : Prop :=
  (∀ a x, ((![v219, v625] : Fin 2 → IVec S16 32) a x).toNat < S128x18.size a)
theorem k2_idx898_inb : ∀ (v219 : IVec S16 32) (v625 : IVec S16 32) (k2_hw898 : k2_chk898 v219 v625), ∀ a x, ((![v219, v625] : Fin 2 → IVec S16 32) a x).toNat < S128x18.size a := fun v219 v625 k2_hw898 => k2_hw898

def k2_chk899 (v219 : IVec S16 32) (v631 : IVec S16 32) : Prop :=
  (∀ a x, ((![v219, v631] : Fin 2 → IVec S16 32) a x).toNat < S128x18.size a)
theorem k2_idx899_inb : ∀ (v219 : IVec S16 32) (v631 : IVec S16 32) (k2_hw899 : k2_chk899 v219 v631), ∀ a x, ((![v219, v631] : Fin 2 → IVec S16 32) a x).toNat < S128x18.size a := fun v219 v631 k2_hw899 => k2_hw899

def k2_chk900 (v219 : IVec S16 32) (v637 : IVec S16 32) : Prop :=
  (∀ a x, ((![v219, v637] : Fin 2 → IVec S16 32) a x).toNat < S128x18.size a)
theorem k2_idx900_inb : ∀ (v219 : IVec S16 32) (v637 : IVec S16 32) (k2_hw900 : k2_chk900 v219 v637), ∀ a x, ((![v219, v637] : Fin 2 → IVec S16 32) a x).toNat < S128x18.size a := fun v219 v637 k2_hw900 => k2_hw900

def k2_chk901 (v238 : IVec S16 32) (v645 : IVec S16 32) : Prop :=
  (∀ a x, ((![v238, v645] : Fin 2 → IVec S16 32) a x).toNat < S128x18.size a)
theorem k2_idx901_inb : ∀ (v238 : IVec S16 32) (v645 : IVec S16 32) (k2_hw901 : k2_chk901 v238 v645), ∀ a x, ((![v238, v645] : Fin 2 → IVec S16 32) a x).toNat < S128x18.size a := fun v238 v645 k2_hw901 => k2_hw901

def k2_chk902 (v238 : IVec S16 32) (v651 : IVec S16 32) : Prop :=
  (∀ a x, ((![v238, v651] : Fin 2 → IVec S16 32) a x).toNat < S128x18.size a)
theorem k2_idx902_inb : ∀ (v238 : IVec S16 32) (v651 : IVec S16 32) (k2_hw902 : k2_chk902 v238 v651), ∀ a x, ((![v238, v651] : Fin 2 → IVec S16 32) a x).toNat < S128x18.size a := fun v238 v651 k2_hw902 => k2_hw902

def k2_chk903 (v238 : IVec S16 32) (v657 : IVec S16 32) : Prop :=
  (∀ a x, ((![v238, v657] : Fin 2 → IVec S16 32) a x).toNat < S128x18.size a)
theorem k2_idx903_inb : ∀ (v238 : IVec S16 32) (v657 : IVec S16 32) (k2_hw903 : k2_chk903 v238 v657), ∀ a x, ((![v238, v657] : Fin 2 → IVec S16 32) a x).toNat < S128x18.size a := fun v238 v657 k2_hw903 => k2_hw903

def k2_chk904 (v238 : IVec S16 32) (v663 : IVec S16 32) : Prop :=
  (∀ a x, ((![v238, v663] : Fin 2 → IVec S16 32) a x).toNat < S128x18.size a)
theorem k2_idx904_inb : ∀ (v238 : IVec S16 32) (v663 : IVec S16 32) (k2_hw904 : k2_chk904 v238 v663), ∀ a x, ((![v238, v663] : Fin 2 → IVec S16 32) a x).toNat < S128x18.size a := fun v238 v663 k2_hw904 => k2_hw904

def k2_chk905 (v238 : IVec S16 32) (v669 : IVec S16 32) : Prop :=
  (∀ a x, ((![v238, v669] : Fin 2 → IVec S16 32) a x).toNat < S128x18.size a)
theorem k2_idx905_inb : ∀ (v238 : IVec S16 32) (v669 : IVec S16 32) (k2_hw905 : k2_chk905 v238 v669), ∀ a x, ((![v238, v669] : Fin 2 → IVec S16 32) a x).toNat < S128x18.size a := fun v238 v669 k2_hw905 => k2_hw905

def k2_chk906 (v238 : IVec S16 32) (v675 : IVec S16 32) : Prop :=
  (∀ a x, ((![v238, v675] : Fin 2 → IVec S16 32) a x).toNat < S128x18.size a)
theorem k2_idx906_inb : ∀ (v238 : IVec S16 32) (v675 : IVec S16 32) (k2_hw906 : k2_chk906 v238 v675), ∀ a x, ((![v238, v675] : Fin 2 → IVec S16 32) a x).toNat < S128x18.size a := fun v238 v675 k2_hw906 => k2_hw906

def k2_chk907 (v238 : IVec S16 32) (v681 : IVec S16 32) : Prop :=
  (∀ a x, ((![v238, v681] : Fin 2 → IVec S16 32) a x).toNat < S128x18.size a)
theorem k2_idx907_inb : ∀ (v238 : IVec S16 32) (v681 : IVec S16 32) (k2_hw907 : k2_chk907 v238 v681), ∀ a x, ((![v238, v681] : Fin 2 → IVec S16 32) a x).toNat < S128x18.size a := fun v238 v681 k2_hw907 => k2_hw907

def k2_chk908 (v238 : IVec S16 32) (v687 : IVec S16 32) : Prop :=
  (∀ a x, ((![v238, v687] : Fin 2 → IVec S16 32) a x).toNat < S128x18.size a)
theorem k2_idx908_inb : ∀ (v238 : IVec S16 32) (v687 : IVec S16 32) (k2_hw908 : k2_chk908 v238 v687), ∀ a x, ((![v238, v687] : Fin 2 → IVec S16 32) a x).toNat < S128x18.size a := fun v238 v687 k2_hw908 => k2_hw908

def k2_chk909 (v238 : IVec S16 32) (v693 : IVec S16 32) : Prop :=
  (∀ a x, ((![v238, v693] : Fin 2 → IVec S16 32) a x).toNat < S128x18.size a)
theorem k2_idx909_inb : ∀ (v238 : IVec S16 32) (v693 : IVec S16 32) (k2_hw909 : k2_chk909 v238 v693), ∀ a x, ((![v238, v693] : Fin 2 → IVec S16 32) a x).toNat < S128x18.size a := fun v238 v693 k2_hw909 => k2_hw909

def k2_chk910 (v238 : IVec S16 32) (v699 : IVec S16 32) : Prop :=
  (∀ a x, ((![v238, v699] : Fin 2 → IVec S16 32) a x).toNat < S128x18.size a)
theorem k2_idx910_inb : ∀ (v238 : IVec S16 32) (v699 : IVec S16 32) (k2_hw910 : k2_chk910 v238 v699), ∀ a x, ((![v238, v699] : Fin 2 → IVec S16 32) a x).toNat < S128x18.size a := fun v238 v699 k2_hw910 => k2_hw910

def k2_chk911 (v238 : IVec S16 32) (v705 : IVec S16 32) : Prop :=
  (∀ a x, ((![v238, v705] : Fin 2 → IVec S16 32) a x).toNat < S128x18.size a)
theorem k2_idx911_inb : ∀ (v238 : IVec S16 32) (v705 : IVec S16 32) (k2_hw911 : k2_chk911 v238 v705), ∀ a x, ((![v238, v705] : Fin 2 → IVec S16 32) a x).toNat < S128x18.size a := fun v238 v705 k2_hw911 => k2_hw911

def k2_chk912 (v238 : IVec S16 32) (v711 : IVec S16 32) : Prop :=
  (∀ a x, ((![v238, v711] : Fin 2 → IVec S16 32) a x).toNat < S128x18.size a)
theorem k2_idx912_inb : ∀ (v238 : IVec S16 32) (v711 : IVec S16 32) (k2_hw912 : k2_chk912 v238 v711), ∀ a x, ((![v238, v711] : Fin 2 → IVec S16 32) a x).toNat < S128x18.size a := fun v238 v711 k2_hw912 => k2_hw912

def k2_chk913 (v238 : IVec S16 32) (v717 : IVec S16 32) : Prop :=
  (∀ a x, ((![v238, v717] : Fin 2 → IVec S16 32) a x).toNat < S128x18.size a)
theorem k2_idx913_inb : ∀ (v238 : IVec S16 32) (v717 : IVec S16 32) (k2_hw913 : k2_chk913 v238 v717), ∀ a x, ((![v238, v717] : Fin 2 → IVec S16 32) a x).toNat < S128x18.size a := fun v238 v717 k2_hw913 => k2_hw913

def k2_chk914 (v238 : IVec S16 32) (v723 : IVec S16 32) : Prop :=
  (∀ a x, ((![v238, v723] : Fin 2 → IVec S16 32) a x).toNat < S128x18.size a)
theorem k2_idx914_inb : ∀ (v238 : IVec S16 32) (v723 : IVec S16 32) (k2_hw914 : k2_chk914 v238 v723), ∀ a x, ((![v238, v723] : Fin 2 → IVec S16 32) a x).toNat < S128x18.size a := fun v238 v723 k2_hw914 => k2_hw914

def k2_chk915 (v238 : IVec S16 32) (v729 : IVec S16 32) : Prop :=
  (∀ a x, ((![v238, v729] : Fin 2 → IVec S16 32) a x).toNat < S128x18.size a)
theorem k2_idx915_inb : ∀ (v238 : IVec S16 32) (v729 : IVec S16 32) (k2_hw915 : k2_chk915 v238 v729), ∀ a x, ((![v238, v729] : Fin 2 → IVec S16 32) a x).toNat < S128x18.size a := fun v238 v729 k2_hw915 => k2_hw915

def k2_chk916 (v238 : IVec S16 32) (v735 : IVec S16 32) : Prop :=
  (∀ a x, ((![v238, v735] : Fin 2 → IVec S16 32) a x).toNat < S128x18.size a)
theorem k2_idx916_inb : ∀ (v238 : IVec S16 32) (v735 : IVec S16 32) (k2_hw916 : k2_chk916 v238 v735), ∀ a x, ((![v238, v735] : Fin 2 → IVec S16 32) a x).toNat < S128x18.size a := fun v238 v735 k2_hw916 => k2_hw916

def k2_chk917 (v238 : IVec S16 32) (v741 : IVec S16 32) : Prop :=
  (∀ a x, ((![v238, v741] : Fin 2 → IVec S16 32) a x).toNat < S128x18.size a)
theorem k2_idx917_inb : ∀ (v238 : IVec S16 32) (v741 : IVec S16 32) (k2_hw917 : k2_chk917 v238 v741), ∀ a x, ((![v238, v741] : Fin 2 → IVec S16 32) a x).toNat < S128x18.size a := fun v238 v741 k2_hw917 => k2_hw917

def k2_chk918 (v238 : IVec S16 32) (v747 : IVec S16 32) : Prop :=
  (∀ a x, ((![v238, v747] : Fin 2 → IVec S16 32) a x).toNat < S128x18.size a)
theorem k2_idx918_inb : ∀ (v238 : IVec S16 32) (v747 : IVec S16 32) (k2_hw918 : k2_chk918 v238 v747), ∀ a x, ((![v238, v747] : Fin 2 → IVec S16 32) a x).toNat < S128x18.size a := fun v238 v747 k2_hw918 => k2_hw918

def k2_chk919 (v257 : IVec S16 32) (v755 : IVec S16 32) : Prop :=
  (∀ a x, ((![v257, v755] : Fin 2 → IVec S16 32) a x).toNat < S128x18.size a)
theorem k2_idx919_inb : ∀ (v257 : IVec S16 32) (v755 : IVec S16 32) (k2_hw919 : k2_chk919 v257 v755), ∀ a x, ((![v257, v755] : Fin 2 → IVec S16 32) a x).toNat < S128x18.size a := fun v257 v755 k2_hw919 => k2_hw919

def k2_chk920 (v257 : IVec S16 32) (v761 : IVec S16 32) : Prop :=
  (∀ a x, ((![v257, v761] : Fin 2 → IVec S16 32) a x).toNat < S128x18.size a)
theorem k2_idx920_inb : ∀ (v257 : IVec S16 32) (v761 : IVec S16 32) (k2_hw920 : k2_chk920 v257 v761), ∀ a x, ((![v257, v761] : Fin 2 → IVec S16 32) a x).toNat < S128x18.size a := fun v257 v761 k2_hw920 => k2_hw920

def k2_chk921 (v257 : IVec S16 32) (v767 : IVec S16 32) : Prop :=
  (∀ a x, ((![v257, v767] : Fin 2 → IVec S16 32) a x).toNat < S128x18.size a)
theorem k2_idx921_inb : ∀ (v257 : IVec S16 32) (v767 : IVec S16 32) (k2_hw921 : k2_chk921 v257 v767), ∀ a x, ((![v257, v767] : Fin 2 → IVec S16 32) a x).toNat < S128x18.size a := fun v257 v767 k2_hw921 => k2_hw921

def k2_chk922 (v257 : IVec S16 32) (v773 : IVec S16 32) : Prop :=
  (∀ a x, ((![v257, v773] : Fin 2 → IVec S16 32) a x).toNat < S128x18.size a)
theorem k2_idx922_inb : ∀ (v257 : IVec S16 32) (v773 : IVec S16 32) (k2_hw922 : k2_chk922 v257 v773), ∀ a x, ((![v257, v773] : Fin 2 → IVec S16 32) a x).toNat < S128x18.size a := fun v257 v773 k2_hw922 => k2_hw922

def k2_chk923 (v257 : IVec S16 32) (v779 : IVec S16 32) : Prop :=
  (∀ a x, ((![v257, v779] : Fin 2 → IVec S16 32) a x).toNat < S128x18.size a)
theorem k2_idx923_inb : ∀ (v257 : IVec S16 32) (v779 : IVec S16 32) (k2_hw923 : k2_chk923 v257 v779), ∀ a x, ((![v257, v779] : Fin 2 → IVec S16 32) a x).toNat < S128x18.size a := fun v257 v779 k2_hw923 => k2_hw923

def k2_chk924 (v257 : IVec S16 32) (v785 : IVec S16 32) : Prop :=
  (∀ a x, ((![v257, v785] : Fin 2 → IVec S16 32) a x).toNat < S128x18.size a)
theorem k2_idx924_inb : ∀ (v257 : IVec S16 32) (v785 : IVec S16 32) (k2_hw924 : k2_chk924 v257 v785), ∀ a x, ((![v257, v785] : Fin 2 → IVec S16 32) a x).toNat < S128x18.size a := fun v257 v785 k2_hw924 => k2_hw924

def k2_chk925 (v257 : IVec S16 32) (v791 : IVec S16 32) : Prop :=
  (∀ a x, ((![v257, v791] : Fin 2 → IVec S16 32) a x).toNat < S128x18.size a)
theorem k2_idx925_inb : ∀ (v257 : IVec S16 32) (v791 : IVec S16 32) (k2_hw925 : k2_chk925 v257 v791), ∀ a x, ((![v257, v791] : Fin 2 → IVec S16 32) a x).toNat < S128x18.size a := fun v257 v791 k2_hw925 => k2_hw925

def k2_chk926 (v257 : IVec S16 32) (v797 : IVec S16 32) : Prop :=
  (∀ a x, ((![v257, v797] : Fin 2 → IVec S16 32) a x).toNat < S128x18.size a)
theorem k2_idx926_inb : ∀ (v257 : IVec S16 32) (v797 : IVec S16 32) (k2_hw926 : k2_chk926 v257 v797), ∀ a x, ((![v257, v797] : Fin 2 → IVec S16 32) a x).toNat < S128x18.size a := fun v257 v797 k2_hw926 => k2_hw926

def k2_chk927 (v257 : IVec S16 32) (v803 : IVec S16 32) : Prop :=
  (∀ a x, ((![v257, v803] : Fin 2 → IVec S16 32) a x).toNat < S128x18.size a)
theorem k2_idx927_inb : ∀ (v257 : IVec S16 32) (v803 : IVec S16 32) (k2_hw927 : k2_chk927 v257 v803), ∀ a x, ((![v257, v803] : Fin 2 → IVec S16 32) a x).toNat < S128x18.size a := fun v257 v803 k2_hw927 => k2_hw927

def k2_chk928 (v257 : IVec S16 32) (v809 : IVec S16 32) : Prop :=
  (∀ a x, ((![v257, v809] : Fin 2 → IVec S16 32) a x).toNat < S128x18.size a)
theorem k2_idx928_inb : ∀ (v257 : IVec S16 32) (v809 : IVec S16 32) (k2_hw928 : k2_chk928 v257 v809), ∀ a x, ((![v257, v809] : Fin 2 → IVec S16 32) a x).toNat < S128x18.size a := fun v257 v809 k2_hw928 => k2_hw928

def k2_chk929 (v257 : IVec S16 32) (v815 : IVec S16 32) : Prop :=
  (∀ a x, ((![v257, v815] : Fin 2 → IVec S16 32) a x).toNat < S128x18.size a)
theorem k2_idx929_inb : ∀ (v257 : IVec S16 32) (v815 : IVec S16 32) (k2_hw929 : k2_chk929 v257 v815), ∀ a x, ((![v257, v815] : Fin 2 → IVec S16 32) a x).toNat < S128x18.size a := fun v257 v815 k2_hw929 => k2_hw929

def k2_chk930 (v257 : IVec S16 32) (v821 : IVec S16 32) : Prop :=
  (∀ a x, ((![v257, v821] : Fin 2 → IVec S16 32) a x).toNat < S128x18.size a)
theorem k2_idx930_inb : ∀ (v257 : IVec S16 32) (v821 : IVec S16 32) (k2_hw930 : k2_chk930 v257 v821), ∀ a x, ((![v257, v821] : Fin 2 → IVec S16 32) a x).toNat < S128x18.size a := fun v257 v821 k2_hw930 => k2_hw930

def k2_chk931 (v257 : IVec S16 32) (v827 : IVec S16 32) : Prop :=
  (∀ a x, ((![v257, v827] : Fin 2 → IVec S16 32) a x).toNat < S128x18.size a)
theorem k2_idx931_inb : ∀ (v257 : IVec S16 32) (v827 : IVec S16 32) (k2_hw931 : k2_chk931 v257 v827), ∀ a x, ((![v257, v827] : Fin 2 → IVec S16 32) a x).toNat < S128x18.size a := fun v257 v827 k2_hw931 => k2_hw931

def k2_chk932 (v257 : IVec S16 32) (v833 : IVec S16 32) : Prop :=
  (∀ a x, ((![v257, v833] : Fin 2 → IVec S16 32) a x).toNat < S128x18.size a)
theorem k2_idx932_inb : ∀ (v257 : IVec S16 32) (v833 : IVec S16 32) (k2_hw932 : k2_chk932 v257 v833), ∀ a x, ((![v257, v833] : Fin 2 → IVec S16 32) a x).toNat < S128x18.size a := fun v257 v833 k2_hw932 => k2_hw932

def k2_chk933 (v257 : IVec S16 32) (v839 : IVec S16 32) : Prop :=
  (∀ a x, ((![v257, v839] : Fin 2 → IVec S16 32) a x).toNat < S128x18.size a)
theorem k2_idx933_inb : ∀ (v257 : IVec S16 32) (v839 : IVec S16 32) (k2_hw933 : k2_chk933 v257 v839), ∀ a x, ((![v257, v839] : Fin 2 → IVec S16 32) a x).toNat < S128x18.size a := fun v257 v839 k2_hw933 => k2_hw933

def k2_chk934 (v257 : IVec S16 32) (v845 : IVec S16 32) : Prop :=
  (∀ a x, ((![v257, v845] : Fin 2 → IVec S16 32) a x).toNat < S128x18.size a)
theorem k2_idx934_inb : ∀ (v257 : IVec S16 32) (v845 : IVec S16 32) (k2_hw934 : k2_chk934 v257 v845), ∀ a x, ((![v257, v845] : Fin 2 → IVec S16 32) a x).toNat < S128x18.size a := fun v257 v845 k2_hw934 => k2_hw934

def k2_chk935 (v257 : IVec S16 32) (v851 : IVec S16 32) : Prop :=
  (∀ a x, ((![v257, v851] : Fin 2 → IVec S16 32) a x).toNat < S128x18.size a)
theorem k2_idx935_inb : ∀ (v257 : IVec S16 32) (v851 : IVec S16 32) (k2_hw935 : k2_chk935 v257 v851), ∀ a x, ((![v257, v851] : Fin 2 → IVec S16 32) a x).toNat < S128x18.size a := fun v257 v851 k2_hw935 => k2_hw935

def k2_chk936 (v257 : IVec S16 32) (v857 : IVec S16 32) : Prop :=
  (∀ a x, ((![v257, v857] : Fin 2 → IVec S16 32) a x).toNat < S128x18.size a)
theorem k2_idx936_inb : ∀ (v257 : IVec S16 32) (v857 : IVec S16 32) (k2_hw936 : k2_chk936 v257 v857), ∀ a x, ((![v257, v857] : Fin 2 → IVec S16 32) a x).toNat < S128x18.size a := fun v257 v857 k2_hw936 => k2_hw936
@[reducible] def k2_t12_loop : Scf.Loop 32 :=
  let c0_i32_159 : BitVec 32 := 0#32
  let c2_i32_160 : BitVec 32 := 2#32
  let v120 : BitVec 32 := Scalar.addi c0_i32_159 c2_i32_160
  let c1_i32_161 : BitVec 32 := 1#32
  ⟨c0_i32_159, v120, c1_i32_161⟩
def k2_off16 (k2_t12 : Fin k2_t12_loop.trips) (c0_i32_243 : BitVec 32) : Fin 1 → Nat :=
  let c1280_i32_244 : BitVec 32 := 1280#32
  let c0_i32_159 : BitVec 32 := 0#32
  let c1_i32_161 : BitVec 32 := 1#32
  let arg18 : BitVec 32 := Scf.iv c0_i32_159 c1_i32_161 k2_t12
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c1280_i32_244 v184
  let v186 : Index := Scalar.indexCast v185
  ![v186.toNat]

def k2_chk937 (v200 : IVec S16 32) (v263 : IVec S16 32) : Prop :=
  (∀ a x, ((![v200, v263] : Fin 2 → IVec S16 32) a x).toNat < S128x128.size a)
theorem k2_idx937_inb : ∀ (v200 : IVec S16 32) (v263 : IVec S16 32) (k2_hw937 : k2_chk937 v200 v263), ∀ a x, ((![v200, v263] : Fin 2 → IVec S16 32) a x).toNat < S128x128.size a := fun v200 v263 k2_hw937 => k2_hw937

def k2_chk938 (v219 : IVec S16 32) (v270 : IVec S16 32) : Prop :=
  (∀ a x, ((![v219, v270] : Fin 2 → IVec S16 32) a x).toNat < S128x128.size a)
theorem k2_idx938_inb : ∀ (v219 : IVec S16 32) (v270 : IVec S16 32) (k2_hw938 : k2_chk938 v219 v270), ∀ a x, ((![v219, v270] : Fin 2 → IVec S16 32) a x).toNat < S128x128.size a := fun v219 v270 k2_hw938 => k2_hw938

def k2_chk939 (v238 : IVec S16 32) (v277 : IVec S16 32) : Prop :=
  (∀ a x, ((![v238, v277] : Fin 2 → IVec S16 32) a x).toNat < S128x128.size a)
theorem k2_idx939_inb : ∀ (v238 : IVec S16 32) (v277 : IVec S16 32) (k2_hw939 : k2_chk939 v238 v277), ∀ a x, ((![v238, v277] : Fin 2 → IVec S16 32) a x).toNat < S128x128.size a := fun v238 v277 k2_hw939 => k2_hw939

def k2_chk940 (v257 : IVec S16 32) (v284 : IVec S16 32) : Prop :=
  (∀ a x, ((![v257, v284] : Fin 2 → IVec S16 32) a x).toNat < S128x128.size a)
theorem k2_idx940_inb : ∀ (v257 : IVec S16 32) (v284 : IVec S16 32) (k2_hw940 : k2_chk940 v257 v284), ∀ a x, ((![v257, v284] : Fin 2 → IVec S16 32) a x).toNat < S128x128.size a := fun v257 v284 k2_hw940 => k2_hw940

def k2_chk941 (v200 : IVec S16 32) (v303 : IVec S16 32) : Prop :=
  (∀ a x, ((![v200, v303] : Fin 2 → IVec S16 32) a x).toNat < S128x128.size a)
theorem k2_idx941_inb : ∀ (v200 : IVec S16 32) (v303 : IVec S16 32) (k2_hw941 : k2_chk941 v200 v303), ∀ a x, ((![v200, v303] : Fin 2 → IVec S16 32) a x).toNat < S128x128.size a := fun v200 v303 k2_hw941 => k2_hw941

def k2_chk942 (v219 : IVec S16 32) (v310 : IVec S16 32) : Prop :=
  (∀ a x, ((![v219, v310] : Fin 2 → IVec S16 32) a x).toNat < S128x128.size a)
theorem k2_idx942_inb : ∀ (v219 : IVec S16 32) (v310 : IVec S16 32) (k2_hw942 : k2_chk942 v219 v310), ∀ a x, ((![v219, v310] : Fin 2 → IVec S16 32) a x).toNat < S128x128.size a := fun v219 v310 k2_hw942 => k2_hw942

def k2_chk943 (v238 : IVec S16 32) (v317 : IVec S16 32) : Prop :=
  (∀ a x, ((![v238, v317] : Fin 2 → IVec S16 32) a x).toNat < S128x128.size a)
theorem k2_idx943_inb : ∀ (v238 : IVec S16 32) (v317 : IVec S16 32) (k2_hw943 : k2_chk943 v238 v317), ∀ a x, ((![v238, v317] : Fin 2 → IVec S16 32) a x).toNat < S128x128.size a := fun v238 v317 k2_hw943 => k2_hw943

def k2_chk944 (v257 : IVec S16 32) (v324 : IVec S16 32) : Prop :=
  (∀ a x, ((![v257, v324] : Fin 2 → IVec S16 32) a x).toNat < S128x128.size a)
theorem k2_idx944_inb : ∀ (v257 : IVec S16 32) (v324 : IVec S16 32) (k2_hw944 : k2_chk944 v257 v324), ∀ a x, ((![v257, v324] : Fin 2 → IVec S16 32) a x).toNat < S128x128.size a := fun v257 v324 k2_hw944 => k2_hw944

def k2_chk945 (v200 : IVec S16 32) (v343 : IVec S16 32) : Prop :=
  (∀ a x, ((![v200, v343] : Fin 2 → IVec S16 32) a x).toNat < S128x128.size a)
theorem k2_idx945_inb : ∀ (v200 : IVec S16 32) (v343 : IVec S16 32) (k2_hw945 : k2_chk945 v200 v343), ∀ a x, ((![v200, v343] : Fin 2 → IVec S16 32) a x).toNat < S128x128.size a := fun v200 v343 k2_hw945 => k2_hw945

def k2_chk946 (v219 : IVec S16 32) (v350 : IVec S16 32) : Prop :=
  (∀ a x, ((![v219, v350] : Fin 2 → IVec S16 32) a x).toNat < S128x128.size a)
theorem k2_idx946_inb : ∀ (v219 : IVec S16 32) (v350 : IVec S16 32) (k2_hw946 : k2_chk946 v219 v350), ∀ a x, ((![v219, v350] : Fin 2 → IVec S16 32) a x).toNat < S128x128.size a := fun v219 v350 k2_hw946 => k2_hw946

def k2_chk947 (v238 : IVec S16 32) (v357 : IVec S16 32) : Prop :=
  (∀ a x, ((![v238, v357] : Fin 2 → IVec S16 32) a x).toNat < S128x128.size a)
theorem k2_idx947_inb : ∀ (v238 : IVec S16 32) (v357 : IVec S16 32) (k2_hw947 : k2_chk947 v238 v357), ∀ a x, ((![v238, v357] : Fin 2 → IVec S16 32) a x).toNat < S128x128.size a := fun v238 v357 k2_hw947 => k2_hw947

def k2_chk948 (v257 : IVec S16 32) (v364 : IVec S16 32) : Prop :=
  (∀ a x, ((![v257, v364] : Fin 2 → IVec S16 32) a x).toNat < S128x128.size a)
theorem k2_idx948_inb : ∀ (v257 : IVec S16 32) (v364 : IVec S16 32) (k2_hw948 : k2_chk948 v257 v364), ∀ a x, ((![v257, v364] : Fin 2 → IVec S16 32) a x).toNat < S128x128.size a := fun v257 v364 k2_hw948 => k2_hw948

def k2_chk949 (v200 : IVec S16 32) (v383 : IVec S16 32) : Prop :=
  (∀ a x, ((![v200, v383] : Fin 2 → IVec S16 32) a x).toNat < S128x128.size a)
theorem k2_idx949_inb : ∀ (v200 : IVec S16 32) (v383 : IVec S16 32) (k2_hw949 : k2_chk949 v200 v383), ∀ a x, ((![v200, v383] : Fin 2 → IVec S16 32) a x).toNat < S128x128.size a := fun v200 v383 k2_hw949 => k2_hw949

def k2_chk950 (v219 : IVec S16 32) (v390 : IVec S16 32) : Prop :=
  (∀ a x, ((![v219, v390] : Fin 2 → IVec S16 32) a x).toNat < S128x128.size a)
theorem k2_idx950_inb : ∀ (v219 : IVec S16 32) (v390 : IVec S16 32) (k2_hw950 : k2_chk950 v219 v390), ∀ a x, ((![v219, v390] : Fin 2 → IVec S16 32) a x).toNat < S128x128.size a := fun v219 v390 k2_hw950 => k2_hw950

def k2_chk951 (v238 : IVec S16 32) (v397 : IVec S16 32) : Prop :=
  (∀ a x, ((![v238, v397] : Fin 2 → IVec S16 32) a x).toNat < S128x128.size a)
theorem k2_idx951_inb : ∀ (v238 : IVec S16 32) (v397 : IVec S16 32) (k2_hw951 : k2_chk951 v238 v397), ∀ a x, ((![v238, v397] : Fin 2 → IVec S16 32) a x).toNat < S128x128.size a := fun v238 v397 k2_hw951 => k2_hw951

def k2_chk952 (v257 : IVec S16 32) (v404 : IVec S16 32) : Prop :=
  (∀ a x, ((![v257, v404] : Fin 2 → IVec S16 32) a x).toNat < S128x128.size a)
theorem k2_idx952_inb : ∀ (v257 : IVec S16 32) (v404 : IVec S16 32) (k2_hw952 : k2_chk952 v257 v404), ∀ a x, ((![v257, v404] : Fin 2 → IVec S16 32) a x).toNat < S128x128.size a := fun v257 v404 k2_hw952 => k2_hw952

def k2_chk953 (v200 : IVec S16 32) (v425 : IVec S16 32) : Prop :=
  (∀ a x, ((![v200, v425] : Fin 2 → IVec S16 32) a x).toNat < S128x18.size a)
theorem k2_idx953_inb : ∀ (v200 : IVec S16 32) (v425 : IVec S16 32) (k2_hw953 : k2_chk953 v200 v425), ∀ a x, ((![v200, v425] : Fin 2 → IVec S16 32) a x).toNat < S128x18.size a := fun v200 v425 k2_hw953 => k2_hw953

def k2_chk954 (v200 : IVec S16 32) (v431 : IVec S16 32) : Prop :=
  (∀ a x, ((![v200, v431] : Fin 2 → IVec S16 32) a x).toNat < S128x18.size a)
theorem k2_idx954_inb : ∀ (v200 : IVec S16 32) (v431 : IVec S16 32) (k2_hw954 : k2_chk954 v200 v431), ∀ a x, ((![v200, v431] : Fin 2 → IVec S16 32) a x).toNat < S128x18.size a := fun v200 v431 k2_hw954 => k2_hw954

def k2_chk955 (v200 : IVec S16 32) (v437 : IVec S16 32) : Prop :=
  (∀ a x, ((![v200, v437] : Fin 2 → IVec S16 32) a x).toNat < S128x18.size a)
theorem k2_idx955_inb : ∀ (v200 : IVec S16 32) (v437 : IVec S16 32) (k2_hw955 : k2_chk955 v200 v437), ∀ a x, ((![v200, v437] : Fin 2 → IVec S16 32) a x).toNat < S128x18.size a := fun v200 v437 k2_hw955 => k2_hw955

def k2_chk956 (v200 : IVec S16 32) (v443 : IVec S16 32) : Prop :=
  (∀ a x, ((![v200, v443] : Fin 2 → IVec S16 32) a x).toNat < S128x18.size a)
theorem k2_idx956_inb : ∀ (v200 : IVec S16 32) (v443 : IVec S16 32) (k2_hw956 : k2_chk956 v200 v443), ∀ a x, ((![v200, v443] : Fin 2 → IVec S16 32) a x).toNat < S128x18.size a := fun v200 v443 k2_hw956 => k2_hw956

def k2_chk957 (v200 : IVec S16 32) (v449 : IVec S16 32) : Prop :=
  (∀ a x, ((![v200, v449] : Fin 2 → IVec S16 32) a x).toNat < S128x18.size a)
theorem k2_idx957_inb : ∀ (v200 : IVec S16 32) (v449 : IVec S16 32) (k2_hw957 : k2_chk957 v200 v449), ∀ a x, ((![v200, v449] : Fin 2 → IVec S16 32) a x).toNat < S128x18.size a := fun v200 v449 k2_hw957 => k2_hw957

def k2_chk958 (v200 : IVec S16 32) (v455 : IVec S16 32) : Prop :=
  (∀ a x, ((![v200, v455] : Fin 2 → IVec S16 32) a x).toNat < S128x18.size a)
theorem k2_idx958_inb : ∀ (v200 : IVec S16 32) (v455 : IVec S16 32) (k2_hw958 : k2_chk958 v200 v455), ∀ a x, ((![v200, v455] : Fin 2 → IVec S16 32) a x).toNat < S128x18.size a := fun v200 v455 k2_hw958 => k2_hw958

def k2_chk959 (v200 : IVec S16 32) (v461 : IVec S16 32) : Prop :=
  (∀ a x, ((![v200, v461] : Fin 2 → IVec S16 32) a x).toNat < S128x18.size a)
theorem k2_idx959_inb : ∀ (v200 : IVec S16 32) (v461 : IVec S16 32) (k2_hw959 : k2_chk959 v200 v461), ∀ a x, ((![v200, v461] : Fin 2 → IVec S16 32) a x).toNat < S128x18.size a := fun v200 v461 k2_hw959 => k2_hw959

def k2_chk960 (v200 : IVec S16 32) (v467 : IVec S16 32) : Prop :=
  (∀ a x, ((![v200, v467] : Fin 2 → IVec S16 32) a x).toNat < S128x18.size a)
theorem k2_idx960_inb : ∀ (v200 : IVec S16 32) (v467 : IVec S16 32) (k2_hw960 : k2_chk960 v200 v467), ∀ a x, ((![v200, v467] : Fin 2 → IVec S16 32) a x).toNat < S128x18.size a := fun v200 v467 k2_hw960 => k2_hw960

def k2_chk961 (v200 : IVec S16 32) (v473 : IVec S16 32) : Prop :=
  (∀ a x, ((![v200, v473] : Fin 2 → IVec S16 32) a x).toNat < S128x18.size a)
theorem k2_idx961_inb : ∀ (v200 : IVec S16 32) (v473 : IVec S16 32) (k2_hw961 : k2_chk961 v200 v473), ∀ a x, ((![v200, v473] : Fin 2 → IVec S16 32) a x).toNat < S128x18.size a := fun v200 v473 k2_hw961 => k2_hw961

def k2_chk962 (v200 : IVec S16 32) (v479 : IVec S16 32) : Prop :=
  (∀ a x, ((![v200, v479] : Fin 2 → IVec S16 32) a x).toNat < S128x18.size a)
theorem k2_idx962_inb : ∀ (v200 : IVec S16 32) (v479 : IVec S16 32) (k2_hw962 : k2_chk962 v200 v479), ∀ a x, ((![v200, v479] : Fin 2 → IVec S16 32) a x).toNat < S128x18.size a := fun v200 v479 k2_hw962 => k2_hw962

def k2_chk963 (v200 : IVec S16 32) (v485 : IVec S16 32) : Prop :=
  (∀ a x, ((![v200, v485] : Fin 2 → IVec S16 32) a x).toNat < S128x18.size a)
theorem k2_idx963_inb : ∀ (v200 : IVec S16 32) (v485 : IVec S16 32) (k2_hw963 : k2_chk963 v200 v485), ∀ a x, ((![v200, v485] : Fin 2 → IVec S16 32) a x).toNat < S128x18.size a := fun v200 v485 k2_hw963 => k2_hw963

def k2_chk964 (v200 : IVec S16 32) (v491 : IVec S16 32) : Prop :=
  (∀ a x, ((![v200, v491] : Fin 2 → IVec S16 32) a x).toNat < S128x18.size a)
theorem k2_idx964_inb : ∀ (v200 : IVec S16 32) (v491 : IVec S16 32) (k2_hw964 : k2_chk964 v200 v491), ∀ a x, ((![v200, v491] : Fin 2 → IVec S16 32) a x).toNat < S128x18.size a := fun v200 v491 k2_hw964 => k2_hw964

def k2_chk965 (v200 : IVec S16 32) (v497 : IVec S16 32) : Prop :=
  (∀ a x, ((![v200, v497] : Fin 2 → IVec S16 32) a x).toNat < S128x18.size a)
theorem k2_idx965_inb : ∀ (v200 : IVec S16 32) (v497 : IVec S16 32) (k2_hw965 : k2_chk965 v200 v497), ∀ a x, ((![v200, v497] : Fin 2 → IVec S16 32) a x).toNat < S128x18.size a := fun v200 v497 k2_hw965 => k2_hw965

def k2_chk966 (v200 : IVec S16 32) (v503 : IVec S16 32) : Prop :=
  (∀ a x, ((![v200, v503] : Fin 2 → IVec S16 32) a x).toNat < S128x18.size a)
theorem k2_idx966_inb : ∀ (v200 : IVec S16 32) (v503 : IVec S16 32) (k2_hw966 : k2_chk966 v200 v503), ∀ a x, ((![v200, v503] : Fin 2 → IVec S16 32) a x).toNat < S128x18.size a := fun v200 v503 k2_hw966 => k2_hw966

def k2_chk967 (v200 : IVec S16 32) (v509 : IVec S16 32) : Prop :=
  (∀ a x, ((![v200, v509] : Fin 2 → IVec S16 32) a x).toNat < S128x18.size a)
theorem k2_idx967_inb : ∀ (v200 : IVec S16 32) (v509 : IVec S16 32) (k2_hw967 : k2_chk967 v200 v509), ∀ a x, ((![v200, v509] : Fin 2 → IVec S16 32) a x).toNat < S128x18.size a := fun v200 v509 k2_hw967 => k2_hw967

def k2_chk968 (v200 : IVec S16 32) (v515 : IVec S16 32) : Prop :=
  (∀ a x, ((![v200, v515] : Fin 2 → IVec S16 32) a x).toNat < S128x18.size a)
theorem k2_idx968_inb : ∀ (v200 : IVec S16 32) (v515 : IVec S16 32) (k2_hw968 : k2_chk968 v200 v515), ∀ a x, ((![v200, v515] : Fin 2 → IVec S16 32) a x).toNat < S128x18.size a := fun v200 v515 k2_hw968 => k2_hw968

def k2_chk969 (v200 : IVec S16 32) (v521 : IVec S16 32) : Prop :=
  (∀ a x, ((![v200, v521] : Fin 2 → IVec S16 32) a x).toNat < S128x18.size a)
theorem k2_idx969_inb : ∀ (v200 : IVec S16 32) (v521 : IVec S16 32) (k2_hw969 : k2_chk969 v200 v521), ∀ a x, ((![v200, v521] : Fin 2 → IVec S16 32) a x).toNat < S128x18.size a := fun v200 v521 k2_hw969 => k2_hw969

def k2_chk970 (v200 : IVec S16 32) (v527 : IVec S16 32) : Prop :=
  (∀ a x, ((![v200, v527] : Fin 2 → IVec S16 32) a x).toNat < S128x18.size a)
theorem k2_idx970_inb : ∀ (v200 : IVec S16 32) (v527 : IVec S16 32) (k2_hw970 : k2_chk970 v200 v527), ∀ a x, ((![v200, v527] : Fin 2 → IVec S16 32) a x).toNat < S128x18.size a := fun v200 v527 k2_hw970 => k2_hw970

def k2_chk971 (v219 : IVec S16 32) (v535 : IVec S16 32) : Prop :=
  (∀ a x, ((![v219, v535] : Fin 2 → IVec S16 32) a x).toNat < S128x18.size a)
theorem k2_idx971_inb : ∀ (v219 : IVec S16 32) (v535 : IVec S16 32) (k2_hw971 : k2_chk971 v219 v535), ∀ a x, ((![v219, v535] : Fin 2 → IVec S16 32) a x).toNat < S128x18.size a := fun v219 v535 k2_hw971 => k2_hw971

def k2_chk972 (v219 : IVec S16 32) (v541 : IVec S16 32) : Prop :=
  (∀ a x, ((![v219, v541] : Fin 2 → IVec S16 32) a x).toNat < S128x18.size a)
theorem k2_idx972_inb : ∀ (v219 : IVec S16 32) (v541 : IVec S16 32) (k2_hw972 : k2_chk972 v219 v541), ∀ a x, ((![v219, v541] : Fin 2 → IVec S16 32) a x).toNat < S128x18.size a := fun v219 v541 k2_hw972 => k2_hw972

def k2_chk973 (v219 : IVec S16 32) (v547 : IVec S16 32) : Prop :=
  (∀ a x, ((![v219, v547] : Fin 2 → IVec S16 32) a x).toNat < S128x18.size a)
theorem k2_idx973_inb : ∀ (v219 : IVec S16 32) (v547 : IVec S16 32) (k2_hw973 : k2_chk973 v219 v547), ∀ a x, ((![v219, v547] : Fin 2 → IVec S16 32) a x).toNat < S128x18.size a := fun v219 v547 k2_hw973 => k2_hw973

def k2_chk974 (v219 : IVec S16 32) (v553 : IVec S16 32) : Prop :=
  (∀ a x, ((![v219, v553] : Fin 2 → IVec S16 32) a x).toNat < S128x18.size a)
theorem k2_idx974_inb : ∀ (v219 : IVec S16 32) (v553 : IVec S16 32) (k2_hw974 : k2_chk974 v219 v553), ∀ a x, ((![v219, v553] : Fin 2 → IVec S16 32) a x).toNat < S128x18.size a := fun v219 v553 k2_hw974 => k2_hw974

def k2_chk975 (v219 : IVec S16 32) (v559 : IVec S16 32) : Prop :=
  (∀ a x, ((![v219, v559] : Fin 2 → IVec S16 32) a x).toNat < S128x18.size a)
theorem k2_idx975_inb : ∀ (v219 : IVec S16 32) (v559 : IVec S16 32) (k2_hw975 : k2_chk975 v219 v559), ∀ a x, ((![v219, v559] : Fin 2 → IVec S16 32) a x).toNat < S128x18.size a := fun v219 v559 k2_hw975 => k2_hw975

def k2_chk976 (v219 : IVec S16 32) (v565 : IVec S16 32) : Prop :=
  (∀ a x, ((![v219, v565] : Fin 2 → IVec S16 32) a x).toNat < S128x18.size a)
theorem k2_idx976_inb : ∀ (v219 : IVec S16 32) (v565 : IVec S16 32) (k2_hw976 : k2_chk976 v219 v565), ∀ a x, ((![v219, v565] : Fin 2 → IVec S16 32) a x).toNat < S128x18.size a := fun v219 v565 k2_hw976 => k2_hw976

def k2_chk977 (v219 : IVec S16 32) (v571 : IVec S16 32) : Prop :=
  (∀ a x, ((![v219, v571] : Fin 2 → IVec S16 32) a x).toNat < S128x18.size a)
theorem k2_idx977_inb : ∀ (v219 : IVec S16 32) (v571 : IVec S16 32) (k2_hw977 : k2_chk977 v219 v571), ∀ a x, ((![v219, v571] : Fin 2 → IVec S16 32) a x).toNat < S128x18.size a := fun v219 v571 k2_hw977 => k2_hw977

def k2_chk978 (v219 : IVec S16 32) (v577 : IVec S16 32) : Prop :=
  (∀ a x, ((![v219, v577] : Fin 2 → IVec S16 32) a x).toNat < S128x18.size a)
theorem k2_idx978_inb : ∀ (v219 : IVec S16 32) (v577 : IVec S16 32) (k2_hw978 : k2_chk978 v219 v577), ∀ a x, ((![v219, v577] : Fin 2 → IVec S16 32) a x).toNat < S128x18.size a := fun v219 v577 k2_hw978 => k2_hw978

def k2_chk979 (v219 : IVec S16 32) (v583 : IVec S16 32) : Prop :=
  (∀ a x, ((![v219, v583] : Fin 2 → IVec S16 32) a x).toNat < S128x18.size a)
theorem k2_idx979_inb : ∀ (v219 : IVec S16 32) (v583 : IVec S16 32) (k2_hw979 : k2_chk979 v219 v583), ∀ a x, ((![v219, v583] : Fin 2 → IVec S16 32) a x).toNat < S128x18.size a := fun v219 v583 k2_hw979 => k2_hw979

def k2_chk980 (v219 : IVec S16 32) (v589 : IVec S16 32) : Prop :=
  (∀ a x, ((![v219, v589] : Fin 2 → IVec S16 32) a x).toNat < S128x18.size a)
theorem k2_idx980_inb : ∀ (v219 : IVec S16 32) (v589 : IVec S16 32) (k2_hw980 : k2_chk980 v219 v589), ∀ a x, ((![v219, v589] : Fin 2 → IVec S16 32) a x).toNat < S128x18.size a := fun v219 v589 k2_hw980 => k2_hw980

def k2_chk981 (v219 : IVec S16 32) (v595 : IVec S16 32) : Prop :=
  (∀ a x, ((![v219, v595] : Fin 2 → IVec S16 32) a x).toNat < S128x18.size a)
theorem k2_idx981_inb : ∀ (v219 : IVec S16 32) (v595 : IVec S16 32) (k2_hw981 : k2_chk981 v219 v595), ∀ a x, ((![v219, v595] : Fin 2 → IVec S16 32) a x).toNat < S128x18.size a := fun v219 v595 k2_hw981 => k2_hw981

def k2_chk982 (v219 : IVec S16 32) (v601 : IVec S16 32) : Prop :=
  (∀ a x, ((![v219, v601] : Fin 2 → IVec S16 32) a x).toNat < S128x18.size a)
theorem k2_idx982_inb : ∀ (v219 : IVec S16 32) (v601 : IVec S16 32) (k2_hw982 : k2_chk982 v219 v601), ∀ a x, ((![v219, v601] : Fin 2 → IVec S16 32) a x).toNat < S128x18.size a := fun v219 v601 k2_hw982 => k2_hw982

def k2_chk983 (v219 : IVec S16 32) (v607 : IVec S16 32) : Prop :=
  (∀ a x, ((![v219, v607] : Fin 2 → IVec S16 32) a x).toNat < S128x18.size a)
theorem k2_idx983_inb : ∀ (v219 : IVec S16 32) (v607 : IVec S16 32) (k2_hw983 : k2_chk983 v219 v607), ∀ a x, ((![v219, v607] : Fin 2 → IVec S16 32) a x).toNat < S128x18.size a := fun v219 v607 k2_hw983 => k2_hw983

def k2_chk984 (v219 : IVec S16 32) (v613 : IVec S16 32) : Prop :=
  (∀ a x, ((![v219, v613] : Fin 2 → IVec S16 32) a x).toNat < S128x18.size a)
theorem k2_idx984_inb : ∀ (v219 : IVec S16 32) (v613 : IVec S16 32) (k2_hw984 : k2_chk984 v219 v613), ∀ a x, ((![v219, v613] : Fin 2 → IVec S16 32) a x).toNat < S128x18.size a := fun v219 v613 k2_hw984 => k2_hw984

def k2_chk985 (v219 : IVec S16 32) (v619 : IVec S16 32) : Prop :=
  (∀ a x, ((![v219, v619] : Fin 2 → IVec S16 32) a x).toNat < S128x18.size a)
theorem k2_idx985_inb : ∀ (v219 : IVec S16 32) (v619 : IVec S16 32) (k2_hw985 : k2_chk985 v219 v619), ∀ a x, ((![v219, v619] : Fin 2 → IVec S16 32) a x).toNat < S128x18.size a := fun v219 v619 k2_hw985 => k2_hw985

def k2_chk986 (v219 : IVec S16 32) (v625 : IVec S16 32) : Prop :=
  (∀ a x, ((![v219, v625] : Fin 2 → IVec S16 32) a x).toNat < S128x18.size a)
theorem k2_idx986_inb : ∀ (v219 : IVec S16 32) (v625 : IVec S16 32) (k2_hw986 : k2_chk986 v219 v625), ∀ a x, ((![v219, v625] : Fin 2 → IVec S16 32) a x).toNat < S128x18.size a := fun v219 v625 k2_hw986 => k2_hw986

def k2_chk987 (v219 : IVec S16 32) (v631 : IVec S16 32) : Prop :=
  (∀ a x, ((![v219, v631] : Fin 2 → IVec S16 32) a x).toNat < S128x18.size a)
theorem k2_idx987_inb : ∀ (v219 : IVec S16 32) (v631 : IVec S16 32) (k2_hw987 : k2_chk987 v219 v631), ∀ a x, ((![v219, v631] : Fin 2 → IVec S16 32) a x).toNat < S128x18.size a := fun v219 v631 k2_hw987 => k2_hw987

def k2_chk988 (v219 : IVec S16 32) (v637 : IVec S16 32) : Prop :=
  (∀ a x, ((![v219, v637] : Fin 2 → IVec S16 32) a x).toNat < S128x18.size a)
theorem k2_idx988_inb : ∀ (v219 : IVec S16 32) (v637 : IVec S16 32) (k2_hw988 : k2_chk988 v219 v637), ∀ a x, ((![v219, v637] : Fin 2 → IVec S16 32) a x).toNat < S128x18.size a := fun v219 v637 k2_hw988 => k2_hw988

def k2_chk989 (v238 : IVec S16 32) (v645 : IVec S16 32) : Prop :=
  (∀ a x, ((![v238, v645] : Fin 2 → IVec S16 32) a x).toNat < S128x18.size a)
theorem k2_idx989_inb : ∀ (v238 : IVec S16 32) (v645 : IVec S16 32) (k2_hw989 : k2_chk989 v238 v645), ∀ a x, ((![v238, v645] : Fin 2 → IVec S16 32) a x).toNat < S128x18.size a := fun v238 v645 k2_hw989 => k2_hw989

def k2_chk990 (v238 : IVec S16 32) (v651 : IVec S16 32) : Prop :=
  (∀ a x, ((![v238, v651] : Fin 2 → IVec S16 32) a x).toNat < S128x18.size a)
theorem k2_idx990_inb : ∀ (v238 : IVec S16 32) (v651 : IVec S16 32) (k2_hw990 : k2_chk990 v238 v651), ∀ a x, ((![v238, v651] : Fin 2 → IVec S16 32) a x).toNat < S128x18.size a := fun v238 v651 k2_hw990 => k2_hw990

def k2_chk991 (v238 : IVec S16 32) (v657 : IVec S16 32) : Prop :=
  (∀ a x, ((![v238, v657] : Fin 2 → IVec S16 32) a x).toNat < S128x18.size a)
theorem k2_idx991_inb : ∀ (v238 : IVec S16 32) (v657 : IVec S16 32) (k2_hw991 : k2_chk991 v238 v657), ∀ a x, ((![v238, v657] : Fin 2 → IVec S16 32) a x).toNat < S128x18.size a := fun v238 v657 k2_hw991 => k2_hw991

def k2_chk992 (v238 : IVec S16 32) (v663 : IVec S16 32) : Prop :=
  (∀ a x, ((![v238, v663] : Fin 2 → IVec S16 32) a x).toNat < S128x18.size a)
theorem k2_idx992_inb : ∀ (v238 : IVec S16 32) (v663 : IVec S16 32) (k2_hw992 : k2_chk992 v238 v663), ∀ a x, ((![v238, v663] : Fin 2 → IVec S16 32) a x).toNat < S128x18.size a := fun v238 v663 k2_hw992 => k2_hw992

def k2_chk993 (v238 : IVec S16 32) (v669 : IVec S16 32) : Prop :=
  (∀ a x, ((![v238, v669] : Fin 2 → IVec S16 32) a x).toNat < S128x18.size a)
theorem k2_idx993_inb : ∀ (v238 : IVec S16 32) (v669 : IVec S16 32) (k2_hw993 : k2_chk993 v238 v669), ∀ a x, ((![v238, v669] : Fin 2 → IVec S16 32) a x).toNat < S128x18.size a := fun v238 v669 k2_hw993 => k2_hw993

def k2_chk994 (v238 : IVec S16 32) (v675 : IVec S16 32) : Prop :=
  (∀ a x, ((![v238, v675] : Fin 2 → IVec S16 32) a x).toNat < S128x18.size a)
theorem k2_idx994_inb : ∀ (v238 : IVec S16 32) (v675 : IVec S16 32) (k2_hw994 : k2_chk994 v238 v675), ∀ a x, ((![v238, v675] : Fin 2 → IVec S16 32) a x).toNat < S128x18.size a := fun v238 v675 k2_hw994 => k2_hw994

def k2_chk995 (v238 : IVec S16 32) (v681 : IVec S16 32) : Prop :=
  (∀ a x, ((![v238, v681] : Fin 2 → IVec S16 32) a x).toNat < S128x18.size a)
theorem k2_idx995_inb : ∀ (v238 : IVec S16 32) (v681 : IVec S16 32) (k2_hw995 : k2_chk995 v238 v681), ∀ a x, ((![v238, v681] : Fin 2 → IVec S16 32) a x).toNat < S128x18.size a := fun v238 v681 k2_hw995 => k2_hw995

def k2_chk996 (v238 : IVec S16 32) (v687 : IVec S16 32) : Prop :=
  (∀ a x, ((![v238, v687] : Fin 2 → IVec S16 32) a x).toNat < S128x18.size a)
theorem k2_idx996_inb : ∀ (v238 : IVec S16 32) (v687 : IVec S16 32) (k2_hw996 : k2_chk996 v238 v687), ∀ a x, ((![v238, v687] : Fin 2 → IVec S16 32) a x).toNat < S128x18.size a := fun v238 v687 k2_hw996 => k2_hw996

def k2_chk997 (v238 : IVec S16 32) (v693 : IVec S16 32) : Prop :=
  (∀ a x, ((![v238, v693] : Fin 2 → IVec S16 32) a x).toNat < S128x18.size a)
theorem k2_idx997_inb : ∀ (v238 : IVec S16 32) (v693 : IVec S16 32) (k2_hw997 : k2_chk997 v238 v693), ∀ a x, ((![v238, v693] : Fin 2 → IVec S16 32) a x).toNat < S128x18.size a := fun v238 v693 k2_hw997 => k2_hw997

def k2_chk998 (v238 : IVec S16 32) (v699 : IVec S16 32) : Prop :=
  (∀ a x, ((![v238, v699] : Fin 2 → IVec S16 32) a x).toNat < S128x18.size a)
theorem k2_idx998_inb : ∀ (v238 : IVec S16 32) (v699 : IVec S16 32) (k2_hw998 : k2_chk998 v238 v699), ∀ a x, ((![v238, v699] : Fin 2 → IVec S16 32) a x).toNat < S128x18.size a := fun v238 v699 k2_hw998 => k2_hw998

def k2_chk999 (v238 : IVec S16 32) (v705 : IVec S16 32) : Prop :=
  (∀ a x, ((![v238, v705] : Fin 2 → IVec S16 32) a x).toNat < S128x18.size a)
theorem k2_idx999_inb : ∀ (v238 : IVec S16 32) (v705 : IVec S16 32) (k2_hw999 : k2_chk999 v238 v705), ∀ a x, ((![v238, v705] : Fin 2 → IVec S16 32) a x).toNat < S128x18.size a := fun v238 v705 k2_hw999 => k2_hw999

def k2_chk1000 (v238 : IVec S16 32) (v711 : IVec S16 32) : Prop :=
  (∀ a x, ((![v238, v711] : Fin 2 → IVec S16 32) a x).toNat < S128x18.size a)
theorem k2_idx1000_inb : ∀ (v238 : IVec S16 32) (v711 : IVec S16 32) (k2_hw1000 : k2_chk1000 v238 v711), ∀ a x, ((![v238, v711] : Fin 2 → IVec S16 32) a x).toNat < S128x18.size a := fun v238 v711 k2_hw1000 => k2_hw1000

def k2_chk1001 (v238 : IVec S16 32) (v717 : IVec S16 32) : Prop :=
  (∀ a x, ((![v238, v717] : Fin 2 → IVec S16 32) a x).toNat < S128x18.size a)
theorem k2_idx1001_inb : ∀ (v238 : IVec S16 32) (v717 : IVec S16 32) (k2_hw1001 : k2_chk1001 v238 v717), ∀ a x, ((![v238, v717] : Fin 2 → IVec S16 32) a x).toNat < S128x18.size a := fun v238 v717 k2_hw1001 => k2_hw1001

def k2_chk1002 (v238 : IVec S16 32) (v723 : IVec S16 32) : Prop :=
  (∀ a x, ((![v238, v723] : Fin 2 → IVec S16 32) a x).toNat < S128x18.size a)
theorem k2_idx1002_inb : ∀ (v238 : IVec S16 32) (v723 : IVec S16 32) (k2_hw1002 : k2_chk1002 v238 v723), ∀ a x, ((![v238, v723] : Fin 2 → IVec S16 32) a x).toNat < S128x18.size a := fun v238 v723 k2_hw1002 => k2_hw1002

def k2_chk1003 (v238 : IVec S16 32) (v729 : IVec S16 32) : Prop :=
  (∀ a x, ((![v238, v729] : Fin 2 → IVec S16 32) a x).toNat < S128x18.size a)
theorem k2_idx1003_inb : ∀ (v238 : IVec S16 32) (v729 : IVec S16 32) (k2_hw1003 : k2_chk1003 v238 v729), ∀ a x, ((![v238, v729] : Fin 2 → IVec S16 32) a x).toNat < S128x18.size a := fun v238 v729 k2_hw1003 => k2_hw1003

def k2_chk1004 (v238 : IVec S16 32) (v735 : IVec S16 32) : Prop :=
  (∀ a x, ((![v238, v735] : Fin 2 → IVec S16 32) a x).toNat < S128x18.size a)
theorem k2_idx1004_inb : ∀ (v238 : IVec S16 32) (v735 : IVec S16 32) (k2_hw1004 : k2_chk1004 v238 v735), ∀ a x, ((![v238, v735] : Fin 2 → IVec S16 32) a x).toNat < S128x18.size a := fun v238 v735 k2_hw1004 => k2_hw1004

def k2_chk1005 (v238 : IVec S16 32) (v741 : IVec S16 32) : Prop :=
  (∀ a x, ((![v238, v741] : Fin 2 → IVec S16 32) a x).toNat < S128x18.size a)
theorem k2_idx1005_inb : ∀ (v238 : IVec S16 32) (v741 : IVec S16 32) (k2_hw1005 : k2_chk1005 v238 v741), ∀ a x, ((![v238, v741] : Fin 2 → IVec S16 32) a x).toNat < S128x18.size a := fun v238 v741 k2_hw1005 => k2_hw1005

def k2_chk1006 (v238 : IVec S16 32) (v747 : IVec S16 32) : Prop :=
  (∀ a x, ((![v238, v747] : Fin 2 → IVec S16 32) a x).toNat < S128x18.size a)
theorem k2_idx1006_inb : ∀ (v238 : IVec S16 32) (v747 : IVec S16 32) (k2_hw1006 : k2_chk1006 v238 v747), ∀ a x, ((![v238, v747] : Fin 2 → IVec S16 32) a x).toNat < S128x18.size a := fun v238 v747 k2_hw1006 => k2_hw1006

def k2_chk1007 (v257 : IVec S16 32) (v755 : IVec S16 32) : Prop :=
  (∀ a x, ((![v257, v755] : Fin 2 → IVec S16 32) a x).toNat < S128x18.size a)
theorem k2_idx1007_inb : ∀ (v257 : IVec S16 32) (v755 : IVec S16 32) (k2_hw1007 : k2_chk1007 v257 v755), ∀ a x, ((![v257, v755] : Fin 2 → IVec S16 32) a x).toNat < S128x18.size a := fun v257 v755 k2_hw1007 => k2_hw1007

def k2_chk1008 (v257 : IVec S16 32) (v761 : IVec S16 32) : Prop :=
  (∀ a x, ((![v257, v761] : Fin 2 → IVec S16 32) a x).toNat < S128x18.size a)
theorem k2_idx1008_inb : ∀ (v257 : IVec S16 32) (v761 : IVec S16 32) (k2_hw1008 : k2_chk1008 v257 v761), ∀ a x, ((![v257, v761] : Fin 2 → IVec S16 32) a x).toNat < S128x18.size a := fun v257 v761 k2_hw1008 => k2_hw1008

def k2_chk1009 (v257 : IVec S16 32) (v767 : IVec S16 32) : Prop :=
  (∀ a x, ((![v257, v767] : Fin 2 → IVec S16 32) a x).toNat < S128x18.size a)
theorem k2_idx1009_inb : ∀ (v257 : IVec S16 32) (v767 : IVec S16 32) (k2_hw1009 : k2_chk1009 v257 v767), ∀ a x, ((![v257, v767] : Fin 2 → IVec S16 32) a x).toNat < S128x18.size a := fun v257 v767 k2_hw1009 => k2_hw1009

def k2_chk1010 (v257 : IVec S16 32) (v773 : IVec S16 32) : Prop :=
  (∀ a x, ((![v257, v773] : Fin 2 → IVec S16 32) a x).toNat < S128x18.size a)
theorem k2_idx1010_inb : ∀ (v257 : IVec S16 32) (v773 : IVec S16 32) (k2_hw1010 : k2_chk1010 v257 v773), ∀ a x, ((![v257, v773] : Fin 2 → IVec S16 32) a x).toNat < S128x18.size a := fun v257 v773 k2_hw1010 => k2_hw1010

def k2_chk1011 (v257 : IVec S16 32) (v779 : IVec S16 32) : Prop :=
  (∀ a x, ((![v257, v779] : Fin 2 → IVec S16 32) a x).toNat < S128x18.size a)
theorem k2_idx1011_inb : ∀ (v257 : IVec S16 32) (v779 : IVec S16 32) (k2_hw1011 : k2_chk1011 v257 v779), ∀ a x, ((![v257, v779] : Fin 2 → IVec S16 32) a x).toNat < S128x18.size a := fun v257 v779 k2_hw1011 => k2_hw1011

def k2_chk1012 (v257 : IVec S16 32) (v785 : IVec S16 32) : Prop :=
  (∀ a x, ((![v257, v785] : Fin 2 → IVec S16 32) a x).toNat < S128x18.size a)
theorem k2_idx1012_inb : ∀ (v257 : IVec S16 32) (v785 : IVec S16 32) (k2_hw1012 : k2_chk1012 v257 v785), ∀ a x, ((![v257, v785] : Fin 2 → IVec S16 32) a x).toNat < S128x18.size a := fun v257 v785 k2_hw1012 => k2_hw1012

def k2_chk1013 (v257 : IVec S16 32) (v791 : IVec S16 32) : Prop :=
  (∀ a x, ((![v257, v791] : Fin 2 → IVec S16 32) a x).toNat < S128x18.size a)
theorem k2_idx1013_inb : ∀ (v257 : IVec S16 32) (v791 : IVec S16 32) (k2_hw1013 : k2_chk1013 v257 v791), ∀ a x, ((![v257, v791] : Fin 2 → IVec S16 32) a x).toNat < S128x18.size a := fun v257 v791 k2_hw1013 => k2_hw1013

def k2_chk1014 (v257 : IVec S16 32) (v797 : IVec S16 32) : Prop :=
  (∀ a x, ((![v257, v797] : Fin 2 → IVec S16 32) a x).toNat < S128x18.size a)
theorem k2_idx1014_inb : ∀ (v257 : IVec S16 32) (v797 : IVec S16 32) (k2_hw1014 : k2_chk1014 v257 v797), ∀ a x, ((![v257, v797] : Fin 2 → IVec S16 32) a x).toNat < S128x18.size a := fun v257 v797 k2_hw1014 => k2_hw1014

def k2_chk1015 (v257 : IVec S16 32) (v803 : IVec S16 32) : Prop :=
  (∀ a x, ((![v257, v803] : Fin 2 → IVec S16 32) a x).toNat < S128x18.size a)
theorem k2_idx1015_inb : ∀ (v257 : IVec S16 32) (v803 : IVec S16 32) (k2_hw1015 : k2_chk1015 v257 v803), ∀ a x, ((![v257, v803] : Fin 2 → IVec S16 32) a x).toNat < S128x18.size a := fun v257 v803 k2_hw1015 => k2_hw1015

def k2_chk1016 (v257 : IVec S16 32) (v809 : IVec S16 32) : Prop :=
  (∀ a x, ((![v257, v809] : Fin 2 → IVec S16 32) a x).toNat < S128x18.size a)
theorem k2_idx1016_inb : ∀ (v257 : IVec S16 32) (v809 : IVec S16 32) (k2_hw1016 : k2_chk1016 v257 v809), ∀ a x, ((![v257, v809] : Fin 2 → IVec S16 32) a x).toNat < S128x18.size a := fun v257 v809 k2_hw1016 => k2_hw1016

def k2_chk1017 (v257 : IVec S16 32) (v815 : IVec S16 32) : Prop :=
  (∀ a x, ((![v257, v815] : Fin 2 → IVec S16 32) a x).toNat < S128x18.size a)
theorem k2_idx1017_inb : ∀ (v257 : IVec S16 32) (v815 : IVec S16 32) (k2_hw1017 : k2_chk1017 v257 v815), ∀ a x, ((![v257, v815] : Fin 2 → IVec S16 32) a x).toNat < S128x18.size a := fun v257 v815 k2_hw1017 => k2_hw1017

def k2_chk1018 (v257 : IVec S16 32) (v821 : IVec S16 32) : Prop :=
  (∀ a x, ((![v257, v821] : Fin 2 → IVec S16 32) a x).toNat < S128x18.size a)
theorem k2_idx1018_inb : ∀ (v257 : IVec S16 32) (v821 : IVec S16 32) (k2_hw1018 : k2_chk1018 v257 v821), ∀ a x, ((![v257, v821] : Fin 2 → IVec S16 32) a x).toNat < S128x18.size a := fun v257 v821 k2_hw1018 => k2_hw1018

def k2_chk1019 (v257 : IVec S16 32) (v827 : IVec S16 32) : Prop :=
  (∀ a x, ((![v257, v827] : Fin 2 → IVec S16 32) a x).toNat < S128x18.size a)
theorem k2_idx1019_inb : ∀ (v257 : IVec S16 32) (v827 : IVec S16 32) (k2_hw1019 : k2_chk1019 v257 v827), ∀ a x, ((![v257, v827] : Fin 2 → IVec S16 32) a x).toNat < S128x18.size a := fun v257 v827 k2_hw1019 => k2_hw1019

def k2_chk1020 (v257 : IVec S16 32) (v833 : IVec S16 32) : Prop :=
  (∀ a x, ((![v257, v833] : Fin 2 → IVec S16 32) a x).toNat < S128x18.size a)
theorem k2_idx1020_inb : ∀ (v257 : IVec S16 32) (v833 : IVec S16 32) (k2_hw1020 : k2_chk1020 v257 v833), ∀ a x, ((![v257, v833] : Fin 2 → IVec S16 32) a x).toNat < S128x18.size a := fun v257 v833 k2_hw1020 => k2_hw1020

def k2_chk1021 (v257 : IVec S16 32) (v839 : IVec S16 32) : Prop :=
  (∀ a x, ((![v257, v839] : Fin 2 → IVec S16 32) a x).toNat < S128x18.size a)
theorem k2_idx1021_inb : ∀ (v257 : IVec S16 32) (v839 : IVec S16 32) (k2_hw1021 : k2_chk1021 v257 v839), ∀ a x, ((![v257, v839] : Fin 2 → IVec S16 32) a x).toNat < S128x18.size a := fun v257 v839 k2_hw1021 => k2_hw1021

def k2_chk1022 (v257 : IVec S16 32) (v845 : IVec S16 32) : Prop :=
  (∀ a x, ((![v257, v845] : Fin 2 → IVec S16 32) a x).toNat < S128x18.size a)
theorem k2_idx1022_inb : ∀ (v257 : IVec S16 32) (v845 : IVec S16 32) (k2_hw1022 : k2_chk1022 v257 v845), ∀ a x, ((![v257, v845] : Fin 2 → IVec S16 32) a x).toNat < S128x18.size a := fun v257 v845 k2_hw1022 => k2_hw1022

def k2_chk1023 (v257 : IVec S16 32) (v851 : IVec S16 32) : Prop :=
  (∀ a x, ((![v257, v851] : Fin 2 → IVec S16 32) a x).toNat < S128x18.size a)
theorem k2_idx1023_inb : ∀ (v257 : IVec S16 32) (v851 : IVec S16 32) (k2_hw1023 : k2_chk1023 v257 v851), ∀ a x, ((![v257, v851] : Fin 2 → IVec S16 32) a x).toNat < S128x18.size a := fun v257 v851 k2_hw1023 => k2_hw1023

def k2_chk1024 (v257 : IVec S16 32) (v857 : IVec S16 32) : Prop :=
  (∀ a x, ((![v257, v857] : Fin 2 → IVec S16 32) a x).toNat < S128x18.size a)
theorem k2_idx1024_inb : ∀ (v257 : IVec S16 32) (v857 : IVec S16 32) (k2_hw1024 : k2_chk1024 v257 v857), ∀ a x, ((![v257, v857] : Fin 2 → IVec S16 32) a x).toNat < S128x18.size a := fun v257 v857 k2_hw1024 => k2_hw1024
@[reducible] def k2_t13_loop : Scf.Loop 32 :=
  let c0_i32_174 : BitVec 32 := 0#32
  let c2_i32_175 : BitVec 32 := 2#32
  let v131 : BitVec 32 := Scalar.addi c0_i32_174 c2_i32_175
  let c1_i32_176 : BitVec 32 := 1#32
  ⟨c0_i32_174, v131, c1_i32_176⟩
def k2_off17 (k2_t13 : Fin k2_t13_loop.trips) (c0_i32_243 : BitVec 32) : Fin 1 → Nat :=
  let c1408_i32_244 : BitVec 32 := 1408#32
  let c0_i32_174 : BitVec 32 := 0#32
  let c1_i32_176 : BitVec 32 := 1#32
  let arg18 : BitVec 32 := Scf.iv c0_i32_174 c1_i32_176 k2_t13
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c1408_i32_244 v184
  let v186 : Index := Scalar.indexCast v185
  ![v186.toNat]

def k2_chk1025 (v200 : IVec S16 32) (v263 : IVec S16 32) : Prop :=
  (∀ a x, ((![v200, v263] : Fin 2 → IVec S16 32) a x).toNat < S128x128.size a)
theorem k2_idx1025_inb : ∀ (v200 : IVec S16 32) (v263 : IVec S16 32) (k2_hw1025 : k2_chk1025 v200 v263), ∀ a x, ((![v200, v263] : Fin 2 → IVec S16 32) a x).toNat < S128x128.size a := fun v200 v263 k2_hw1025 => k2_hw1025

def k2_chk1026 (v219 : IVec S16 32) (v270 : IVec S16 32) : Prop :=
  (∀ a x, ((![v219, v270] : Fin 2 → IVec S16 32) a x).toNat < S128x128.size a)
theorem k2_idx1026_inb : ∀ (v219 : IVec S16 32) (v270 : IVec S16 32) (k2_hw1026 : k2_chk1026 v219 v270), ∀ a x, ((![v219, v270] : Fin 2 → IVec S16 32) a x).toNat < S128x128.size a := fun v219 v270 k2_hw1026 => k2_hw1026

def k2_chk1027 (v238 : IVec S16 32) (v277 : IVec S16 32) : Prop :=
  (∀ a x, ((![v238, v277] : Fin 2 → IVec S16 32) a x).toNat < S128x128.size a)
theorem k2_idx1027_inb : ∀ (v238 : IVec S16 32) (v277 : IVec S16 32) (k2_hw1027 : k2_chk1027 v238 v277), ∀ a x, ((![v238, v277] : Fin 2 → IVec S16 32) a x).toNat < S128x128.size a := fun v238 v277 k2_hw1027 => k2_hw1027

def k2_chk1028 (v257 : IVec S16 32) (v284 : IVec S16 32) : Prop :=
  (∀ a x, ((![v257, v284] : Fin 2 → IVec S16 32) a x).toNat < S128x128.size a)
theorem k2_idx1028_inb : ∀ (v257 : IVec S16 32) (v284 : IVec S16 32) (k2_hw1028 : k2_chk1028 v257 v284), ∀ a x, ((![v257, v284] : Fin 2 → IVec S16 32) a x).toNat < S128x128.size a := fun v257 v284 k2_hw1028 => k2_hw1028

def k2_chk1029 (v200 : IVec S16 32) (v303 : IVec S16 32) : Prop :=
  (∀ a x, ((![v200, v303] : Fin 2 → IVec S16 32) a x).toNat < S128x128.size a)
theorem k2_idx1029_inb : ∀ (v200 : IVec S16 32) (v303 : IVec S16 32) (k2_hw1029 : k2_chk1029 v200 v303), ∀ a x, ((![v200, v303] : Fin 2 → IVec S16 32) a x).toNat < S128x128.size a := fun v200 v303 k2_hw1029 => k2_hw1029

def k2_chk1030 (v219 : IVec S16 32) (v310 : IVec S16 32) : Prop :=
  (∀ a x, ((![v219, v310] : Fin 2 → IVec S16 32) a x).toNat < S128x128.size a)
theorem k2_idx1030_inb : ∀ (v219 : IVec S16 32) (v310 : IVec S16 32) (k2_hw1030 : k2_chk1030 v219 v310), ∀ a x, ((![v219, v310] : Fin 2 → IVec S16 32) a x).toNat < S128x128.size a := fun v219 v310 k2_hw1030 => k2_hw1030

def k2_chk1031 (v238 : IVec S16 32) (v317 : IVec S16 32) : Prop :=
  (∀ a x, ((![v238, v317] : Fin 2 → IVec S16 32) a x).toNat < S128x128.size a)
theorem k2_idx1031_inb : ∀ (v238 : IVec S16 32) (v317 : IVec S16 32) (k2_hw1031 : k2_chk1031 v238 v317), ∀ a x, ((![v238, v317] : Fin 2 → IVec S16 32) a x).toNat < S128x128.size a := fun v238 v317 k2_hw1031 => k2_hw1031

def k2_chk1032 (v257 : IVec S16 32) (v324 : IVec S16 32) : Prop :=
  (∀ a x, ((![v257, v324] : Fin 2 → IVec S16 32) a x).toNat < S128x128.size a)
theorem k2_idx1032_inb : ∀ (v257 : IVec S16 32) (v324 : IVec S16 32) (k2_hw1032 : k2_chk1032 v257 v324), ∀ a x, ((![v257, v324] : Fin 2 → IVec S16 32) a x).toNat < S128x128.size a := fun v257 v324 k2_hw1032 => k2_hw1032

def k2_chk1033 (v200 : IVec S16 32) (v343 : IVec S16 32) : Prop :=
  (∀ a x, ((![v200, v343] : Fin 2 → IVec S16 32) a x).toNat < S128x128.size a)
theorem k2_idx1033_inb : ∀ (v200 : IVec S16 32) (v343 : IVec S16 32) (k2_hw1033 : k2_chk1033 v200 v343), ∀ a x, ((![v200, v343] : Fin 2 → IVec S16 32) a x).toNat < S128x128.size a := fun v200 v343 k2_hw1033 => k2_hw1033

def k2_chk1034 (v219 : IVec S16 32) (v350 : IVec S16 32) : Prop :=
  (∀ a x, ((![v219, v350] : Fin 2 → IVec S16 32) a x).toNat < S128x128.size a)
theorem k2_idx1034_inb : ∀ (v219 : IVec S16 32) (v350 : IVec S16 32) (k2_hw1034 : k2_chk1034 v219 v350), ∀ a x, ((![v219, v350] : Fin 2 → IVec S16 32) a x).toNat < S128x128.size a := fun v219 v350 k2_hw1034 => k2_hw1034

def k2_chk1035 (v238 : IVec S16 32) (v357 : IVec S16 32) : Prop :=
  (∀ a x, ((![v238, v357] : Fin 2 → IVec S16 32) a x).toNat < S128x128.size a)
theorem k2_idx1035_inb : ∀ (v238 : IVec S16 32) (v357 : IVec S16 32) (k2_hw1035 : k2_chk1035 v238 v357), ∀ a x, ((![v238, v357] : Fin 2 → IVec S16 32) a x).toNat < S128x128.size a := fun v238 v357 k2_hw1035 => k2_hw1035

def k2_chk1036 (v257 : IVec S16 32) (v364 : IVec S16 32) : Prop :=
  (∀ a x, ((![v257, v364] : Fin 2 → IVec S16 32) a x).toNat < S128x128.size a)
theorem k2_idx1036_inb : ∀ (v257 : IVec S16 32) (v364 : IVec S16 32) (k2_hw1036 : k2_chk1036 v257 v364), ∀ a x, ((![v257, v364] : Fin 2 → IVec S16 32) a x).toNat < S128x128.size a := fun v257 v364 k2_hw1036 => k2_hw1036

def k2_chk1037 (v200 : IVec S16 32) (v383 : IVec S16 32) : Prop :=
  (∀ a x, ((![v200, v383] : Fin 2 → IVec S16 32) a x).toNat < S128x128.size a)
theorem k2_idx1037_inb : ∀ (v200 : IVec S16 32) (v383 : IVec S16 32) (k2_hw1037 : k2_chk1037 v200 v383), ∀ a x, ((![v200, v383] : Fin 2 → IVec S16 32) a x).toNat < S128x128.size a := fun v200 v383 k2_hw1037 => k2_hw1037

def k2_chk1038 (v219 : IVec S16 32) (v390 : IVec S16 32) : Prop :=
  (∀ a x, ((![v219, v390] : Fin 2 → IVec S16 32) a x).toNat < S128x128.size a)
theorem k2_idx1038_inb : ∀ (v219 : IVec S16 32) (v390 : IVec S16 32) (k2_hw1038 : k2_chk1038 v219 v390), ∀ a x, ((![v219, v390] : Fin 2 → IVec S16 32) a x).toNat < S128x128.size a := fun v219 v390 k2_hw1038 => k2_hw1038

def k2_chk1039 (v238 : IVec S16 32) (v397 : IVec S16 32) : Prop :=
  (∀ a x, ((![v238, v397] : Fin 2 → IVec S16 32) a x).toNat < S128x128.size a)
theorem k2_idx1039_inb : ∀ (v238 : IVec S16 32) (v397 : IVec S16 32) (k2_hw1039 : k2_chk1039 v238 v397), ∀ a x, ((![v238, v397] : Fin 2 → IVec S16 32) a x).toNat < S128x128.size a := fun v238 v397 k2_hw1039 => k2_hw1039

def k2_chk1040 (v257 : IVec S16 32) (v404 : IVec S16 32) : Prop :=
  (∀ a x, ((![v257, v404] : Fin 2 → IVec S16 32) a x).toNat < S128x128.size a)
theorem k2_idx1040_inb : ∀ (v257 : IVec S16 32) (v404 : IVec S16 32) (k2_hw1040 : k2_chk1040 v257 v404), ∀ a x, ((![v257, v404] : Fin 2 → IVec S16 32) a x).toNat < S128x128.size a := fun v257 v404 k2_hw1040 => k2_hw1040

def k2_chk1041 (v200 : IVec S16 32) (v425 : IVec S16 32) : Prop :=
  (∀ a x, ((![v200, v425] : Fin 2 → IVec S16 32) a x).toNat < S128x18.size a)
theorem k2_idx1041_inb : ∀ (v200 : IVec S16 32) (v425 : IVec S16 32) (k2_hw1041 : k2_chk1041 v200 v425), ∀ a x, ((![v200, v425] : Fin 2 → IVec S16 32) a x).toNat < S128x18.size a := fun v200 v425 k2_hw1041 => k2_hw1041

def k2_chk1042 (v200 : IVec S16 32) (v431 : IVec S16 32) : Prop :=
  (∀ a x, ((![v200, v431] : Fin 2 → IVec S16 32) a x).toNat < S128x18.size a)
theorem k2_idx1042_inb : ∀ (v200 : IVec S16 32) (v431 : IVec S16 32) (k2_hw1042 : k2_chk1042 v200 v431), ∀ a x, ((![v200, v431] : Fin 2 → IVec S16 32) a x).toNat < S128x18.size a := fun v200 v431 k2_hw1042 => k2_hw1042

def k2_chk1043 (v200 : IVec S16 32) (v437 : IVec S16 32) : Prop :=
  (∀ a x, ((![v200, v437] : Fin 2 → IVec S16 32) a x).toNat < S128x18.size a)
theorem k2_idx1043_inb : ∀ (v200 : IVec S16 32) (v437 : IVec S16 32) (k2_hw1043 : k2_chk1043 v200 v437), ∀ a x, ((![v200, v437] : Fin 2 → IVec S16 32) a x).toNat < S128x18.size a := fun v200 v437 k2_hw1043 => k2_hw1043

def k2_chk1044 (v200 : IVec S16 32) (v443 : IVec S16 32) : Prop :=
  (∀ a x, ((![v200, v443] : Fin 2 → IVec S16 32) a x).toNat < S128x18.size a)
theorem k2_idx1044_inb : ∀ (v200 : IVec S16 32) (v443 : IVec S16 32) (k2_hw1044 : k2_chk1044 v200 v443), ∀ a x, ((![v200, v443] : Fin 2 → IVec S16 32) a x).toNat < S128x18.size a := fun v200 v443 k2_hw1044 => k2_hw1044

def k2_chk1045 (v200 : IVec S16 32) (v449 : IVec S16 32) : Prop :=
  (∀ a x, ((![v200, v449] : Fin 2 → IVec S16 32) a x).toNat < S128x18.size a)
theorem k2_idx1045_inb : ∀ (v200 : IVec S16 32) (v449 : IVec S16 32) (k2_hw1045 : k2_chk1045 v200 v449), ∀ a x, ((![v200, v449] : Fin 2 → IVec S16 32) a x).toNat < S128x18.size a := fun v200 v449 k2_hw1045 => k2_hw1045

def k2_chk1046 (v200 : IVec S16 32) (v455 : IVec S16 32) : Prop :=
  (∀ a x, ((![v200, v455] : Fin 2 → IVec S16 32) a x).toNat < S128x18.size a)
theorem k2_idx1046_inb : ∀ (v200 : IVec S16 32) (v455 : IVec S16 32) (k2_hw1046 : k2_chk1046 v200 v455), ∀ a x, ((![v200, v455] : Fin 2 → IVec S16 32) a x).toNat < S128x18.size a := fun v200 v455 k2_hw1046 => k2_hw1046

def k2_chk1047 (v200 : IVec S16 32) (v461 : IVec S16 32) : Prop :=
  (∀ a x, ((![v200, v461] : Fin 2 → IVec S16 32) a x).toNat < S128x18.size a)
theorem k2_idx1047_inb : ∀ (v200 : IVec S16 32) (v461 : IVec S16 32) (k2_hw1047 : k2_chk1047 v200 v461), ∀ a x, ((![v200, v461] : Fin 2 → IVec S16 32) a x).toNat < S128x18.size a := fun v200 v461 k2_hw1047 => k2_hw1047

def k2_chk1048 (v200 : IVec S16 32) (v467 : IVec S16 32) : Prop :=
  (∀ a x, ((![v200, v467] : Fin 2 → IVec S16 32) a x).toNat < S128x18.size a)
theorem k2_idx1048_inb : ∀ (v200 : IVec S16 32) (v467 : IVec S16 32) (k2_hw1048 : k2_chk1048 v200 v467), ∀ a x, ((![v200, v467] : Fin 2 → IVec S16 32) a x).toNat < S128x18.size a := fun v200 v467 k2_hw1048 => k2_hw1048

def k2_chk1049 (v200 : IVec S16 32) (v473 : IVec S16 32) : Prop :=
  (∀ a x, ((![v200, v473] : Fin 2 → IVec S16 32) a x).toNat < S128x18.size a)
theorem k2_idx1049_inb : ∀ (v200 : IVec S16 32) (v473 : IVec S16 32) (k2_hw1049 : k2_chk1049 v200 v473), ∀ a x, ((![v200, v473] : Fin 2 → IVec S16 32) a x).toNat < S128x18.size a := fun v200 v473 k2_hw1049 => k2_hw1049

def k2_chk1050 (v200 : IVec S16 32) (v479 : IVec S16 32) : Prop :=
  (∀ a x, ((![v200, v479] : Fin 2 → IVec S16 32) a x).toNat < S128x18.size a)
theorem k2_idx1050_inb : ∀ (v200 : IVec S16 32) (v479 : IVec S16 32) (k2_hw1050 : k2_chk1050 v200 v479), ∀ a x, ((![v200, v479] : Fin 2 → IVec S16 32) a x).toNat < S128x18.size a := fun v200 v479 k2_hw1050 => k2_hw1050

def k2_chk1051 (v200 : IVec S16 32) (v485 : IVec S16 32) : Prop :=
  (∀ a x, ((![v200, v485] : Fin 2 → IVec S16 32) a x).toNat < S128x18.size a)
theorem k2_idx1051_inb : ∀ (v200 : IVec S16 32) (v485 : IVec S16 32) (k2_hw1051 : k2_chk1051 v200 v485), ∀ a x, ((![v200, v485] : Fin 2 → IVec S16 32) a x).toNat < S128x18.size a := fun v200 v485 k2_hw1051 => k2_hw1051

def k2_chk1052 (v200 : IVec S16 32) (v491 : IVec S16 32) : Prop :=
  (∀ a x, ((![v200, v491] : Fin 2 → IVec S16 32) a x).toNat < S128x18.size a)
theorem k2_idx1052_inb : ∀ (v200 : IVec S16 32) (v491 : IVec S16 32) (k2_hw1052 : k2_chk1052 v200 v491), ∀ a x, ((![v200, v491] : Fin 2 → IVec S16 32) a x).toNat < S128x18.size a := fun v200 v491 k2_hw1052 => k2_hw1052

def k2_chk1053 (v200 : IVec S16 32) (v497 : IVec S16 32) : Prop :=
  (∀ a x, ((![v200, v497] : Fin 2 → IVec S16 32) a x).toNat < S128x18.size a)
theorem k2_idx1053_inb : ∀ (v200 : IVec S16 32) (v497 : IVec S16 32) (k2_hw1053 : k2_chk1053 v200 v497), ∀ a x, ((![v200, v497] : Fin 2 → IVec S16 32) a x).toNat < S128x18.size a := fun v200 v497 k2_hw1053 => k2_hw1053

def k2_chk1054 (v200 : IVec S16 32) (v503 : IVec S16 32) : Prop :=
  (∀ a x, ((![v200, v503] : Fin 2 → IVec S16 32) a x).toNat < S128x18.size a)
theorem k2_idx1054_inb : ∀ (v200 : IVec S16 32) (v503 : IVec S16 32) (k2_hw1054 : k2_chk1054 v200 v503), ∀ a x, ((![v200, v503] : Fin 2 → IVec S16 32) a x).toNat < S128x18.size a := fun v200 v503 k2_hw1054 => k2_hw1054

def k2_chk1055 (v200 : IVec S16 32) (v509 : IVec S16 32) : Prop :=
  (∀ a x, ((![v200, v509] : Fin 2 → IVec S16 32) a x).toNat < S128x18.size a)
theorem k2_idx1055_inb : ∀ (v200 : IVec S16 32) (v509 : IVec S16 32) (k2_hw1055 : k2_chk1055 v200 v509), ∀ a x, ((![v200, v509] : Fin 2 → IVec S16 32) a x).toNat < S128x18.size a := fun v200 v509 k2_hw1055 => k2_hw1055

def k2_chk1056 (v200 : IVec S16 32) (v515 : IVec S16 32) : Prop :=
  (∀ a x, ((![v200, v515] : Fin 2 → IVec S16 32) a x).toNat < S128x18.size a)
theorem k2_idx1056_inb : ∀ (v200 : IVec S16 32) (v515 : IVec S16 32) (k2_hw1056 : k2_chk1056 v200 v515), ∀ a x, ((![v200, v515] : Fin 2 → IVec S16 32) a x).toNat < S128x18.size a := fun v200 v515 k2_hw1056 => k2_hw1056

def k2_chk1057 (v200 : IVec S16 32) (v521 : IVec S16 32) : Prop :=
  (∀ a x, ((![v200, v521] : Fin 2 → IVec S16 32) a x).toNat < S128x18.size a)
theorem k2_idx1057_inb : ∀ (v200 : IVec S16 32) (v521 : IVec S16 32) (k2_hw1057 : k2_chk1057 v200 v521), ∀ a x, ((![v200, v521] : Fin 2 → IVec S16 32) a x).toNat < S128x18.size a := fun v200 v521 k2_hw1057 => k2_hw1057

def k2_chk1058 (v200 : IVec S16 32) (v527 : IVec S16 32) : Prop :=
  (∀ a x, ((![v200, v527] : Fin 2 → IVec S16 32) a x).toNat < S128x18.size a)
theorem k2_idx1058_inb : ∀ (v200 : IVec S16 32) (v527 : IVec S16 32) (k2_hw1058 : k2_chk1058 v200 v527), ∀ a x, ((![v200, v527] : Fin 2 → IVec S16 32) a x).toNat < S128x18.size a := fun v200 v527 k2_hw1058 => k2_hw1058

def k2_chk1059 (v219 : IVec S16 32) (v535 : IVec S16 32) : Prop :=
  (∀ a x, ((![v219, v535] : Fin 2 → IVec S16 32) a x).toNat < S128x18.size a)
theorem k2_idx1059_inb : ∀ (v219 : IVec S16 32) (v535 : IVec S16 32) (k2_hw1059 : k2_chk1059 v219 v535), ∀ a x, ((![v219, v535] : Fin 2 → IVec S16 32) a x).toNat < S128x18.size a := fun v219 v535 k2_hw1059 => k2_hw1059

def k2_chk1060 (v219 : IVec S16 32) (v541 : IVec S16 32) : Prop :=
  (∀ a x, ((![v219, v541] : Fin 2 → IVec S16 32) a x).toNat < S128x18.size a)
theorem k2_idx1060_inb : ∀ (v219 : IVec S16 32) (v541 : IVec S16 32) (k2_hw1060 : k2_chk1060 v219 v541), ∀ a x, ((![v219, v541] : Fin 2 → IVec S16 32) a x).toNat < S128x18.size a := fun v219 v541 k2_hw1060 => k2_hw1060

def k2_chk1061 (v219 : IVec S16 32) (v547 : IVec S16 32) : Prop :=
  (∀ a x, ((![v219, v547] : Fin 2 → IVec S16 32) a x).toNat < S128x18.size a)
theorem k2_idx1061_inb : ∀ (v219 : IVec S16 32) (v547 : IVec S16 32) (k2_hw1061 : k2_chk1061 v219 v547), ∀ a x, ((![v219, v547] : Fin 2 → IVec S16 32) a x).toNat < S128x18.size a := fun v219 v547 k2_hw1061 => k2_hw1061

def k2_chk1062 (v219 : IVec S16 32) (v553 : IVec S16 32) : Prop :=
  (∀ a x, ((![v219, v553] : Fin 2 → IVec S16 32) a x).toNat < S128x18.size a)
theorem k2_idx1062_inb : ∀ (v219 : IVec S16 32) (v553 : IVec S16 32) (k2_hw1062 : k2_chk1062 v219 v553), ∀ a x, ((![v219, v553] : Fin 2 → IVec S16 32) a x).toNat < S128x18.size a := fun v219 v553 k2_hw1062 => k2_hw1062

def k2_chk1063 (v219 : IVec S16 32) (v559 : IVec S16 32) : Prop :=
  (∀ a x, ((![v219, v559] : Fin 2 → IVec S16 32) a x).toNat < S128x18.size a)
theorem k2_idx1063_inb : ∀ (v219 : IVec S16 32) (v559 : IVec S16 32) (k2_hw1063 : k2_chk1063 v219 v559), ∀ a x, ((![v219, v559] : Fin 2 → IVec S16 32) a x).toNat < S128x18.size a := fun v219 v559 k2_hw1063 => k2_hw1063

def k2_chk1064 (v219 : IVec S16 32) (v565 : IVec S16 32) : Prop :=
  (∀ a x, ((![v219, v565] : Fin 2 → IVec S16 32) a x).toNat < S128x18.size a)
theorem k2_idx1064_inb : ∀ (v219 : IVec S16 32) (v565 : IVec S16 32) (k2_hw1064 : k2_chk1064 v219 v565), ∀ a x, ((![v219, v565] : Fin 2 → IVec S16 32) a x).toNat < S128x18.size a := fun v219 v565 k2_hw1064 => k2_hw1064

def k2_chk1065 (v219 : IVec S16 32) (v571 : IVec S16 32) : Prop :=
  (∀ a x, ((![v219, v571] : Fin 2 → IVec S16 32) a x).toNat < S128x18.size a)
theorem k2_idx1065_inb : ∀ (v219 : IVec S16 32) (v571 : IVec S16 32) (k2_hw1065 : k2_chk1065 v219 v571), ∀ a x, ((![v219, v571] : Fin 2 → IVec S16 32) a x).toNat < S128x18.size a := fun v219 v571 k2_hw1065 => k2_hw1065

def k2_chk1066 (v219 : IVec S16 32) (v577 : IVec S16 32) : Prop :=
  (∀ a x, ((![v219, v577] : Fin 2 → IVec S16 32) a x).toNat < S128x18.size a)
theorem k2_idx1066_inb : ∀ (v219 : IVec S16 32) (v577 : IVec S16 32) (k2_hw1066 : k2_chk1066 v219 v577), ∀ a x, ((![v219, v577] : Fin 2 → IVec S16 32) a x).toNat < S128x18.size a := fun v219 v577 k2_hw1066 => k2_hw1066

def k2_chk1067 (v219 : IVec S16 32) (v583 : IVec S16 32) : Prop :=
  (∀ a x, ((![v219, v583] : Fin 2 → IVec S16 32) a x).toNat < S128x18.size a)
theorem k2_idx1067_inb : ∀ (v219 : IVec S16 32) (v583 : IVec S16 32) (k2_hw1067 : k2_chk1067 v219 v583), ∀ a x, ((![v219, v583] : Fin 2 → IVec S16 32) a x).toNat < S128x18.size a := fun v219 v583 k2_hw1067 => k2_hw1067

def k2_chk1068 (v219 : IVec S16 32) (v589 : IVec S16 32) : Prop :=
  (∀ a x, ((![v219, v589] : Fin 2 → IVec S16 32) a x).toNat < S128x18.size a)
theorem k2_idx1068_inb : ∀ (v219 : IVec S16 32) (v589 : IVec S16 32) (k2_hw1068 : k2_chk1068 v219 v589), ∀ a x, ((![v219, v589] : Fin 2 → IVec S16 32) a x).toNat < S128x18.size a := fun v219 v589 k2_hw1068 => k2_hw1068

def k2_chk1069 (v219 : IVec S16 32) (v595 : IVec S16 32) : Prop :=
  (∀ a x, ((![v219, v595] : Fin 2 → IVec S16 32) a x).toNat < S128x18.size a)
theorem k2_idx1069_inb : ∀ (v219 : IVec S16 32) (v595 : IVec S16 32) (k2_hw1069 : k2_chk1069 v219 v595), ∀ a x, ((![v219, v595] : Fin 2 → IVec S16 32) a x).toNat < S128x18.size a := fun v219 v595 k2_hw1069 => k2_hw1069

def k2_chk1070 (v219 : IVec S16 32) (v601 : IVec S16 32) : Prop :=
  (∀ a x, ((![v219, v601] : Fin 2 → IVec S16 32) a x).toNat < S128x18.size a)
theorem k2_idx1070_inb : ∀ (v219 : IVec S16 32) (v601 : IVec S16 32) (k2_hw1070 : k2_chk1070 v219 v601), ∀ a x, ((![v219, v601] : Fin 2 → IVec S16 32) a x).toNat < S128x18.size a := fun v219 v601 k2_hw1070 => k2_hw1070

def k2_chk1071 (v219 : IVec S16 32) (v607 : IVec S16 32) : Prop :=
  (∀ a x, ((![v219, v607] : Fin 2 → IVec S16 32) a x).toNat < S128x18.size a)
theorem k2_idx1071_inb : ∀ (v219 : IVec S16 32) (v607 : IVec S16 32) (k2_hw1071 : k2_chk1071 v219 v607), ∀ a x, ((![v219, v607] : Fin 2 → IVec S16 32) a x).toNat < S128x18.size a := fun v219 v607 k2_hw1071 => k2_hw1071

def k2_chk1072 (v219 : IVec S16 32) (v613 : IVec S16 32) : Prop :=
  (∀ a x, ((![v219, v613] : Fin 2 → IVec S16 32) a x).toNat < S128x18.size a)
theorem k2_idx1072_inb : ∀ (v219 : IVec S16 32) (v613 : IVec S16 32) (k2_hw1072 : k2_chk1072 v219 v613), ∀ a x, ((![v219, v613] : Fin 2 → IVec S16 32) a x).toNat < S128x18.size a := fun v219 v613 k2_hw1072 => k2_hw1072

def k2_chk1073 (v219 : IVec S16 32) (v619 : IVec S16 32) : Prop :=
  (∀ a x, ((![v219, v619] : Fin 2 → IVec S16 32) a x).toNat < S128x18.size a)
theorem k2_idx1073_inb : ∀ (v219 : IVec S16 32) (v619 : IVec S16 32) (k2_hw1073 : k2_chk1073 v219 v619), ∀ a x, ((![v219, v619] : Fin 2 → IVec S16 32) a x).toNat < S128x18.size a := fun v219 v619 k2_hw1073 => k2_hw1073

def k2_chk1074 (v219 : IVec S16 32) (v625 : IVec S16 32) : Prop :=
  (∀ a x, ((![v219, v625] : Fin 2 → IVec S16 32) a x).toNat < S128x18.size a)
theorem k2_idx1074_inb : ∀ (v219 : IVec S16 32) (v625 : IVec S16 32) (k2_hw1074 : k2_chk1074 v219 v625), ∀ a x, ((![v219, v625] : Fin 2 → IVec S16 32) a x).toNat < S128x18.size a := fun v219 v625 k2_hw1074 => k2_hw1074

def k2_chk1075 (v219 : IVec S16 32) (v631 : IVec S16 32) : Prop :=
  (∀ a x, ((![v219, v631] : Fin 2 → IVec S16 32) a x).toNat < S128x18.size a)
theorem k2_idx1075_inb : ∀ (v219 : IVec S16 32) (v631 : IVec S16 32) (k2_hw1075 : k2_chk1075 v219 v631), ∀ a x, ((![v219, v631] : Fin 2 → IVec S16 32) a x).toNat < S128x18.size a := fun v219 v631 k2_hw1075 => k2_hw1075

def k2_chk1076 (v219 : IVec S16 32) (v637 : IVec S16 32) : Prop :=
  (∀ a x, ((![v219, v637] : Fin 2 → IVec S16 32) a x).toNat < S128x18.size a)
theorem k2_idx1076_inb : ∀ (v219 : IVec S16 32) (v637 : IVec S16 32) (k2_hw1076 : k2_chk1076 v219 v637), ∀ a x, ((![v219, v637] : Fin 2 → IVec S16 32) a x).toNat < S128x18.size a := fun v219 v637 k2_hw1076 => k2_hw1076

def k2_chk1077 (v238 : IVec S16 32) (v645 : IVec S16 32) : Prop :=
  (∀ a x, ((![v238, v645] : Fin 2 → IVec S16 32) a x).toNat < S128x18.size a)
theorem k2_idx1077_inb : ∀ (v238 : IVec S16 32) (v645 : IVec S16 32) (k2_hw1077 : k2_chk1077 v238 v645), ∀ a x, ((![v238, v645] : Fin 2 → IVec S16 32) a x).toNat < S128x18.size a := fun v238 v645 k2_hw1077 => k2_hw1077

def k2_chk1078 (v238 : IVec S16 32) (v651 : IVec S16 32) : Prop :=
  (∀ a x, ((![v238, v651] : Fin 2 → IVec S16 32) a x).toNat < S128x18.size a)
theorem k2_idx1078_inb : ∀ (v238 : IVec S16 32) (v651 : IVec S16 32) (k2_hw1078 : k2_chk1078 v238 v651), ∀ a x, ((![v238, v651] : Fin 2 → IVec S16 32) a x).toNat < S128x18.size a := fun v238 v651 k2_hw1078 => k2_hw1078

def k2_chk1079 (v238 : IVec S16 32) (v657 : IVec S16 32) : Prop :=
  (∀ a x, ((![v238, v657] : Fin 2 → IVec S16 32) a x).toNat < S128x18.size a)
theorem k2_idx1079_inb : ∀ (v238 : IVec S16 32) (v657 : IVec S16 32) (k2_hw1079 : k2_chk1079 v238 v657), ∀ a x, ((![v238, v657] : Fin 2 → IVec S16 32) a x).toNat < S128x18.size a := fun v238 v657 k2_hw1079 => k2_hw1079

def k2_chk1080 (v238 : IVec S16 32) (v663 : IVec S16 32) : Prop :=
  (∀ a x, ((![v238, v663] : Fin 2 → IVec S16 32) a x).toNat < S128x18.size a)
theorem k2_idx1080_inb : ∀ (v238 : IVec S16 32) (v663 : IVec S16 32) (k2_hw1080 : k2_chk1080 v238 v663), ∀ a x, ((![v238, v663] : Fin 2 → IVec S16 32) a x).toNat < S128x18.size a := fun v238 v663 k2_hw1080 => k2_hw1080

def k2_chk1081 (v238 : IVec S16 32) (v669 : IVec S16 32) : Prop :=
  (∀ a x, ((![v238, v669] : Fin 2 → IVec S16 32) a x).toNat < S128x18.size a)
theorem k2_idx1081_inb : ∀ (v238 : IVec S16 32) (v669 : IVec S16 32) (k2_hw1081 : k2_chk1081 v238 v669), ∀ a x, ((![v238, v669] : Fin 2 → IVec S16 32) a x).toNat < S128x18.size a := fun v238 v669 k2_hw1081 => k2_hw1081

def k2_chk1082 (v238 : IVec S16 32) (v675 : IVec S16 32) : Prop :=
  (∀ a x, ((![v238, v675] : Fin 2 → IVec S16 32) a x).toNat < S128x18.size a)
theorem k2_idx1082_inb : ∀ (v238 : IVec S16 32) (v675 : IVec S16 32) (k2_hw1082 : k2_chk1082 v238 v675), ∀ a x, ((![v238, v675] : Fin 2 → IVec S16 32) a x).toNat < S128x18.size a := fun v238 v675 k2_hw1082 => k2_hw1082

def k2_chk1083 (v238 : IVec S16 32) (v681 : IVec S16 32) : Prop :=
  (∀ a x, ((![v238, v681] : Fin 2 → IVec S16 32) a x).toNat < S128x18.size a)
theorem k2_idx1083_inb : ∀ (v238 : IVec S16 32) (v681 : IVec S16 32) (k2_hw1083 : k2_chk1083 v238 v681), ∀ a x, ((![v238, v681] : Fin 2 → IVec S16 32) a x).toNat < S128x18.size a := fun v238 v681 k2_hw1083 => k2_hw1083

def k2_chk1084 (v238 : IVec S16 32) (v687 : IVec S16 32) : Prop :=
  (∀ a x, ((![v238, v687] : Fin 2 → IVec S16 32) a x).toNat < S128x18.size a)
theorem k2_idx1084_inb : ∀ (v238 : IVec S16 32) (v687 : IVec S16 32) (k2_hw1084 : k2_chk1084 v238 v687), ∀ a x, ((![v238, v687] : Fin 2 → IVec S16 32) a x).toNat < S128x18.size a := fun v238 v687 k2_hw1084 => k2_hw1084

def k2_chk1085 (v238 : IVec S16 32) (v693 : IVec S16 32) : Prop :=
  (∀ a x, ((![v238, v693] : Fin 2 → IVec S16 32) a x).toNat < S128x18.size a)
theorem k2_idx1085_inb : ∀ (v238 : IVec S16 32) (v693 : IVec S16 32) (k2_hw1085 : k2_chk1085 v238 v693), ∀ a x, ((![v238, v693] : Fin 2 → IVec S16 32) a x).toNat < S128x18.size a := fun v238 v693 k2_hw1085 => k2_hw1085

def k2_chk1086 (v238 : IVec S16 32) (v699 : IVec S16 32) : Prop :=
  (∀ a x, ((![v238, v699] : Fin 2 → IVec S16 32) a x).toNat < S128x18.size a)
theorem k2_idx1086_inb : ∀ (v238 : IVec S16 32) (v699 : IVec S16 32) (k2_hw1086 : k2_chk1086 v238 v699), ∀ a x, ((![v238, v699] : Fin 2 → IVec S16 32) a x).toNat < S128x18.size a := fun v238 v699 k2_hw1086 => k2_hw1086

def k2_chk1087 (v238 : IVec S16 32) (v705 : IVec S16 32) : Prop :=
  (∀ a x, ((![v238, v705] : Fin 2 → IVec S16 32) a x).toNat < S128x18.size a)
theorem k2_idx1087_inb : ∀ (v238 : IVec S16 32) (v705 : IVec S16 32) (k2_hw1087 : k2_chk1087 v238 v705), ∀ a x, ((![v238, v705] : Fin 2 → IVec S16 32) a x).toNat < S128x18.size a := fun v238 v705 k2_hw1087 => k2_hw1087

def k2_chk1088 (v238 : IVec S16 32) (v711 : IVec S16 32) : Prop :=
  (∀ a x, ((![v238, v711] : Fin 2 → IVec S16 32) a x).toNat < S128x18.size a)
theorem k2_idx1088_inb : ∀ (v238 : IVec S16 32) (v711 : IVec S16 32) (k2_hw1088 : k2_chk1088 v238 v711), ∀ a x, ((![v238, v711] : Fin 2 → IVec S16 32) a x).toNat < S128x18.size a := fun v238 v711 k2_hw1088 => k2_hw1088

def k2_chk1089 (v238 : IVec S16 32) (v717 : IVec S16 32) : Prop :=
  (∀ a x, ((![v238, v717] : Fin 2 → IVec S16 32) a x).toNat < S128x18.size a)
theorem k2_idx1089_inb : ∀ (v238 : IVec S16 32) (v717 : IVec S16 32) (k2_hw1089 : k2_chk1089 v238 v717), ∀ a x, ((![v238, v717] : Fin 2 → IVec S16 32) a x).toNat < S128x18.size a := fun v238 v717 k2_hw1089 => k2_hw1089

def k2_chk1090 (v238 : IVec S16 32) (v723 : IVec S16 32) : Prop :=
  (∀ a x, ((![v238, v723] : Fin 2 → IVec S16 32) a x).toNat < S128x18.size a)
theorem k2_idx1090_inb : ∀ (v238 : IVec S16 32) (v723 : IVec S16 32) (k2_hw1090 : k2_chk1090 v238 v723), ∀ a x, ((![v238, v723] : Fin 2 → IVec S16 32) a x).toNat < S128x18.size a := fun v238 v723 k2_hw1090 => k2_hw1090

def k2_chk1091 (v238 : IVec S16 32) (v729 : IVec S16 32) : Prop :=
  (∀ a x, ((![v238, v729] : Fin 2 → IVec S16 32) a x).toNat < S128x18.size a)
theorem k2_idx1091_inb : ∀ (v238 : IVec S16 32) (v729 : IVec S16 32) (k2_hw1091 : k2_chk1091 v238 v729), ∀ a x, ((![v238, v729] : Fin 2 → IVec S16 32) a x).toNat < S128x18.size a := fun v238 v729 k2_hw1091 => k2_hw1091

def k2_chk1092 (v238 : IVec S16 32) (v735 : IVec S16 32) : Prop :=
  (∀ a x, ((![v238, v735] : Fin 2 → IVec S16 32) a x).toNat < S128x18.size a)
theorem k2_idx1092_inb : ∀ (v238 : IVec S16 32) (v735 : IVec S16 32) (k2_hw1092 : k2_chk1092 v238 v735), ∀ a x, ((![v238, v735] : Fin 2 → IVec S16 32) a x).toNat < S128x18.size a := fun v238 v735 k2_hw1092 => k2_hw1092

def k2_chk1093 (v238 : IVec S16 32) (v741 : IVec S16 32) : Prop :=
  (∀ a x, ((![v238, v741] : Fin 2 → IVec S16 32) a x).toNat < S128x18.size a)
theorem k2_idx1093_inb : ∀ (v238 : IVec S16 32) (v741 : IVec S16 32) (k2_hw1093 : k2_chk1093 v238 v741), ∀ a x, ((![v238, v741] : Fin 2 → IVec S16 32) a x).toNat < S128x18.size a := fun v238 v741 k2_hw1093 => k2_hw1093

def k2_chk1094 (v238 : IVec S16 32) (v747 : IVec S16 32) : Prop :=
  (∀ a x, ((![v238, v747] : Fin 2 → IVec S16 32) a x).toNat < S128x18.size a)
theorem k2_idx1094_inb : ∀ (v238 : IVec S16 32) (v747 : IVec S16 32) (k2_hw1094 : k2_chk1094 v238 v747), ∀ a x, ((![v238, v747] : Fin 2 → IVec S16 32) a x).toNat < S128x18.size a := fun v238 v747 k2_hw1094 => k2_hw1094

def k2_chk1095 (v257 : IVec S16 32) (v755 : IVec S16 32) : Prop :=
  (∀ a x, ((![v257, v755] : Fin 2 → IVec S16 32) a x).toNat < S128x18.size a)
theorem k2_idx1095_inb : ∀ (v257 : IVec S16 32) (v755 : IVec S16 32) (k2_hw1095 : k2_chk1095 v257 v755), ∀ a x, ((![v257, v755] : Fin 2 → IVec S16 32) a x).toNat < S128x18.size a := fun v257 v755 k2_hw1095 => k2_hw1095

def k2_chk1096 (v257 : IVec S16 32) (v761 : IVec S16 32) : Prop :=
  (∀ a x, ((![v257, v761] : Fin 2 → IVec S16 32) a x).toNat < S128x18.size a)
theorem k2_idx1096_inb : ∀ (v257 : IVec S16 32) (v761 : IVec S16 32) (k2_hw1096 : k2_chk1096 v257 v761), ∀ a x, ((![v257, v761] : Fin 2 → IVec S16 32) a x).toNat < S128x18.size a := fun v257 v761 k2_hw1096 => k2_hw1096

def k2_chk1097 (v257 : IVec S16 32) (v767 : IVec S16 32) : Prop :=
  (∀ a x, ((![v257, v767] : Fin 2 → IVec S16 32) a x).toNat < S128x18.size a)
theorem k2_idx1097_inb : ∀ (v257 : IVec S16 32) (v767 : IVec S16 32) (k2_hw1097 : k2_chk1097 v257 v767), ∀ a x, ((![v257, v767] : Fin 2 → IVec S16 32) a x).toNat < S128x18.size a := fun v257 v767 k2_hw1097 => k2_hw1097

def k2_chk1098 (v257 : IVec S16 32) (v773 : IVec S16 32) : Prop :=
  (∀ a x, ((![v257, v773] : Fin 2 → IVec S16 32) a x).toNat < S128x18.size a)
theorem k2_idx1098_inb : ∀ (v257 : IVec S16 32) (v773 : IVec S16 32) (k2_hw1098 : k2_chk1098 v257 v773), ∀ a x, ((![v257, v773] : Fin 2 → IVec S16 32) a x).toNat < S128x18.size a := fun v257 v773 k2_hw1098 => k2_hw1098

def k2_chk1099 (v257 : IVec S16 32) (v779 : IVec S16 32) : Prop :=
  (∀ a x, ((![v257, v779] : Fin 2 → IVec S16 32) a x).toNat < S128x18.size a)
theorem k2_idx1099_inb : ∀ (v257 : IVec S16 32) (v779 : IVec S16 32) (k2_hw1099 : k2_chk1099 v257 v779), ∀ a x, ((![v257, v779] : Fin 2 → IVec S16 32) a x).toNat < S128x18.size a := fun v257 v779 k2_hw1099 => k2_hw1099

def k2_chk1100 (v257 : IVec S16 32) (v785 : IVec S16 32) : Prop :=
  (∀ a x, ((![v257, v785] : Fin 2 → IVec S16 32) a x).toNat < S128x18.size a)
theorem k2_idx1100_inb : ∀ (v257 : IVec S16 32) (v785 : IVec S16 32) (k2_hw1100 : k2_chk1100 v257 v785), ∀ a x, ((![v257, v785] : Fin 2 → IVec S16 32) a x).toNat < S128x18.size a := fun v257 v785 k2_hw1100 => k2_hw1100

def k2_chk1101 (v257 : IVec S16 32) (v791 : IVec S16 32) : Prop :=
  (∀ a x, ((![v257, v791] : Fin 2 → IVec S16 32) a x).toNat < S128x18.size a)
theorem k2_idx1101_inb : ∀ (v257 : IVec S16 32) (v791 : IVec S16 32) (k2_hw1101 : k2_chk1101 v257 v791), ∀ a x, ((![v257, v791] : Fin 2 → IVec S16 32) a x).toNat < S128x18.size a := fun v257 v791 k2_hw1101 => k2_hw1101

def k2_chk1102 (v257 : IVec S16 32) (v797 : IVec S16 32) : Prop :=
  (∀ a x, ((![v257, v797] : Fin 2 → IVec S16 32) a x).toNat < S128x18.size a)
theorem k2_idx1102_inb : ∀ (v257 : IVec S16 32) (v797 : IVec S16 32) (k2_hw1102 : k2_chk1102 v257 v797), ∀ a x, ((![v257, v797] : Fin 2 → IVec S16 32) a x).toNat < S128x18.size a := fun v257 v797 k2_hw1102 => k2_hw1102

def k2_chk1103 (v257 : IVec S16 32) (v803 : IVec S16 32) : Prop :=
  (∀ a x, ((![v257, v803] : Fin 2 → IVec S16 32) a x).toNat < S128x18.size a)
theorem k2_idx1103_inb : ∀ (v257 : IVec S16 32) (v803 : IVec S16 32) (k2_hw1103 : k2_chk1103 v257 v803), ∀ a x, ((![v257, v803] : Fin 2 → IVec S16 32) a x).toNat < S128x18.size a := fun v257 v803 k2_hw1103 => k2_hw1103

def k2_chk1104 (v257 : IVec S16 32) (v809 : IVec S16 32) : Prop :=
  (∀ a x, ((![v257, v809] : Fin 2 → IVec S16 32) a x).toNat < S128x18.size a)
theorem k2_idx1104_inb : ∀ (v257 : IVec S16 32) (v809 : IVec S16 32) (k2_hw1104 : k2_chk1104 v257 v809), ∀ a x, ((![v257, v809] : Fin 2 → IVec S16 32) a x).toNat < S128x18.size a := fun v257 v809 k2_hw1104 => k2_hw1104

def k2_chk1105 (v257 : IVec S16 32) (v815 : IVec S16 32) : Prop :=
  (∀ a x, ((![v257, v815] : Fin 2 → IVec S16 32) a x).toNat < S128x18.size a)
theorem k2_idx1105_inb : ∀ (v257 : IVec S16 32) (v815 : IVec S16 32) (k2_hw1105 : k2_chk1105 v257 v815), ∀ a x, ((![v257, v815] : Fin 2 → IVec S16 32) a x).toNat < S128x18.size a := fun v257 v815 k2_hw1105 => k2_hw1105

def k2_chk1106 (v257 : IVec S16 32) (v821 : IVec S16 32) : Prop :=
  (∀ a x, ((![v257, v821] : Fin 2 → IVec S16 32) a x).toNat < S128x18.size a)
theorem k2_idx1106_inb : ∀ (v257 : IVec S16 32) (v821 : IVec S16 32) (k2_hw1106 : k2_chk1106 v257 v821), ∀ a x, ((![v257, v821] : Fin 2 → IVec S16 32) a x).toNat < S128x18.size a := fun v257 v821 k2_hw1106 => k2_hw1106

def k2_chk1107 (v257 : IVec S16 32) (v827 : IVec S16 32) : Prop :=
  (∀ a x, ((![v257, v827] : Fin 2 → IVec S16 32) a x).toNat < S128x18.size a)
theorem k2_idx1107_inb : ∀ (v257 : IVec S16 32) (v827 : IVec S16 32) (k2_hw1107 : k2_chk1107 v257 v827), ∀ a x, ((![v257, v827] : Fin 2 → IVec S16 32) a x).toNat < S128x18.size a := fun v257 v827 k2_hw1107 => k2_hw1107

def k2_chk1108 (v257 : IVec S16 32) (v833 : IVec S16 32) : Prop :=
  (∀ a x, ((![v257, v833] : Fin 2 → IVec S16 32) a x).toNat < S128x18.size a)
theorem k2_idx1108_inb : ∀ (v257 : IVec S16 32) (v833 : IVec S16 32) (k2_hw1108 : k2_chk1108 v257 v833), ∀ a x, ((![v257, v833] : Fin 2 → IVec S16 32) a x).toNat < S128x18.size a := fun v257 v833 k2_hw1108 => k2_hw1108

def k2_chk1109 (v257 : IVec S16 32) (v839 : IVec S16 32) : Prop :=
  (∀ a x, ((![v257, v839] : Fin 2 → IVec S16 32) a x).toNat < S128x18.size a)
theorem k2_idx1109_inb : ∀ (v257 : IVec S16 32) (v839 : IVec S16 32) (k2_hw1109 : k2_chk1109 v257 v839), ∀ a x, ((![v257, v839] : Fin 2 → IVec S16 32) a x).toNat < S128x18.size a := fun v257 v839 k2_hw1109 => k2_hw1109

def k2_chk1110 (v257 : IVec S16 32) (v845 : IVec S16 32) : Prop :=
  (∀ a x, ((![v257, v845] : Fin 2 → IVec S16 32) a x).toNat < S128x18.size a)
theorem k2_idx1110_inb : ∀ (v257 : IVec S16 32) (v845 : IVec S16 32) (k2_hw1110 : k2_chk1110 v257 v845), ∀ a x, ((![v257, v845] : Fin 2 → IVec S16 32) a x).toNat < S128x18.size a := fun v257 v845 k2_hw1110 => k2_hw1110

def k2_chk1111 (v257 : IVec S16 32) (v851 : IVec S16 32) : Prop :=
  (∀ a x, ((![v257, v851] : Fin 2 → IVec S16 32) a x).toNat < S128x18.size a)
theorem k2_idx1111_inb : ∀ (v257 : IVec S16 32) (v851 : IVec S16 32) (k2_hw1111 : k2_chk1111 v257 v851), ∀ a x, ((![v257, v851] : Fin 2 → IVec S16 32) a x).toNat < S128x18.size a := fun v257 v851 k2_hw1111 => k2_hw1111

def k2_chk1112 (v257 : IVec S16 32) (v857 : IVec S16 32) : Prop :=
  (∀ a x, ((![v257, v857] : Fin 2 → IVec S16 32) a x).toNat < S128x18.size a)
theorem k2_idx1112_inb : ∀ (v257 : IVec S16 32) (v857 : IVec S16 32) (k2_hw1112 : k2_chk1112 v257 v857), ∀ a x, ((![v257, v857] : Fin 2 → IVec S16 32) a x).toNat < S128x18.size a := fun v257 v857 k2_hw1112 => k2_hw1112
@[reducible] def k2_t14_loop : Scf.Loop 32 :=
  let c0_i32_189 : BitVec 32 := 0#32
  let c2_i32_190 : BitVec 32 := 2#32
  let v142 : BitVec 32 := Scalar.addi c0_i32_189 c2_i32_190
  let c1_i32_191 : BitVec 32 := 1#32
  ⟨c0_i32_189, v142, c1_i32_191⟩
def k2_off18 (k2_t14 : Fin k2_t14_loop.trips) (c0_i32_243 : BitVec 32) : Fin 1 → Nat :=
  let c1536_i32_244 : BitVec 32 := 1536#32
  let c0_i32_189 : BitVec 32 := 0#32
  let c1_i32_191 : BitVec 32 := 1#32
  let arg18 : BitVec 32 := Scf.iv c0_i32_189 c1_i32_191 k2_t14
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c1536_i32_244 v184
  let v186 : Index := Scalar.indexCast v185
  ![v186.toNat]

def k2_chk1113 (v200 : IVec S16 32) (v263 : IVec S16 32) : Prop :=
  (∀ a x, ((![v200, v263] : Fin 2 → IVec S16 32) a x).toNat < S128x128.size a)
theorem k2_idx1113_inb : ∀ (v200 : IVec S16 32) (v263 : IVec S16 32) (k2_hw1113 : k2_chk1113 v200 v263), ∀ a x, ((![v200, v263] : Fin 2 → IVec S16 32) a x).toNat < S128x128.size a := fun v200 v263 k2_hw1113 => k2_hw1113

def k2_chk1114 (v219 : IVec S16 32) (v270 : IVec S16 32) : Prop :=
  (∀ a x, ((![v219, v270] : Fin 2 → IVec S16 32) a x).toNat < S128x128.size a)
theorem k2_idx1114_inb : ∀ (v219 : IVec S16 32) (v270 : IVec S16 32) (k2_hw1114 : k2_chk1114 v219 v270), ∀ a x, ((![v219, v270] : Fin 2 → IVec S16 32) a x).toNat < S128x128.size a := fun v219 v270 k2_hw1114 => k2_hw1114

def k2_chk1115 (v238 : IVec S16 32) (v277 : IVec S16 32) : Prop :=
  (∀ a x, ((![v238, v277] : Fin 2 → IVec S16 32) a x).toNat < S128x128.size a)
theorem k2_idx1115_inb : ∀ (v238 : IVec S16 32) (v277 : IVec S16 32) (k2_hw1115 : k2_chk1115 v238 v277), ∀ a x, ((![v238, v277] : Fin 2 → IVec S16 32) a x).toNat < S128x128.size a := fun v238 v277 k2_hw1115 => k2_hw1115

def k2_chk1116 (v257 : IVec S16 32) (v284 : IVec S16 32) : Prop :=
  (∀ a x, ((![v257, v284] : Fin 2 → IVec S16 32) a x).toNat < S128x128.size a)
theorem k2_idx1116_inb : ∀ (v257 : IVec S16 32) (v284 : IVec S16 32) (k2_hw1116 : k2_chk1116 v257 v284), ∀ a x, ((![v257, v284] : Fin 2 → IVec S16 32) a x).toNat < S128x128.size a := fun v257 v284 k2_hw1116 => k2_hw1116

def k2_chk1117 (v200 : IVec S16 32) (v303 : IVec S16 32) : Prop :=
  (∀ a x, ((![v200, v303] : Fin 2 → IVec S16 32) a x).toNat < S128x128.size a)
theorem k2_idx1117_inb : ∀ (v200 : IVec S16 32) (v303 : IVec S16 32) (k2_hw1117 : k2_chk1117 v200 v303), ∀ a x, ((![v200, v303] : Fin 2 → IVec S16 32) a x).toNat < S128x128.size a := fun v200 v303 k2_hw1117 => k2_hw1117

def k2_chk1118 (v219 : IVec S16 32) (v310 : IVec S16 32) : Prop :=
  (∀ a x, ((![v219, v310] : Fin 2 → IVec S16 32) a x).toNat < S128x128.size a)
theorem k2_idx1118_inb : ∀ (v219 : IVec S16 32) (v310 : IVec S16 32) (k2_hw1118 : k2_chk1118 v219 v310), ∀ a x, ((![v219, v310] : Fin 2 → IVec S16 32) a x).toNat < S128x128.size a := fun v219 v310 k2_hw1118 => k2_hw1118

def k2_chk1119 (v238 : IVec S16 32) (v317 : IVec S16 32) : Prop :=
  (∀ a x, ((![v238, v317] : Fin 2 → IVec S16 32) a x).toNat < S128x128.size a)
theorem k2_idx1119_inb : ∀ (v238 : IVec S16 32) (v317 : IVec S16 32) (k2_hw1119 : k2_chk1119 v238 v317), ∀ a x, ((![v238, v317] : Fin 2 → IVec S16 32) a x).toNat < S128x128.size a := fun v238 v317 k2_hw1119 => k2_hw1119

def k2_chk1120 (v257 : IVec S16 32) (v324 : IVec S16 32) : Prop :=
  (∀ a x, ((![v257, v324] : Fin 2 → IVec S16 32) a x).toNat < S128x128.size a)
theorem k2_idx1120_inb : ∀ (v257 : IVec S16 32) (v324 : IVec S16 32) (k2_hw1120 : k2_chk1120 v257 v324), ∀ a x, ((![v257, v324] : Fin 2 → IVec S16 32) a x).toNat < S128x128.size a := fun v257 v324 k2_hw1120 => k2_hw1120

def k2_chk1121 (v200 : IVec S16 32) (v343 : IVec S16 32) : Prop :=
  (∀ a x, ((![v200, v343] : Fin 2 → IVec S16 32) a x).toNat < S128x128.size a)
theorem k2_idx1121_inb : ∀ (v200 : IVec S16 32) (v343 : IVec S16 32) (k2_hw1121 : k2_chk1121 v200 v343), ∀ a x, ((![v200, v343] : Fin 2 → IVec S16 32) a x).toNat < S128x128.size a := fun v200 v343 k2_hw1121 => k2_hw1121

def k2_chk1122 (v219 : IVec S16 32) (v350 : IVec S16 32) : Prop :=
  (∀ a x, ((![v219, v350] : Fin 2 → IVec S16 32) a x).toNat < S128x128.size a)
theorem k2_idx1122_inb : ∀ (v219 : IVec S16 32) (v350 : IVec S16 32) (k2_hw1122 : k2_chk1122 v219 v350), ∀ a x, ((![v219, v350] : Fin 2 → IVec S16 32) a x).toNat < S128x128.size a := fun v219 v350 k2_hw1122 => k2_hw1122

def k2_chk1123 (v238 : IVec S16 32) (v357 : IVec S16 32) : Prop :=
  (∀ a x, ((![v238, v357] : Fin 2 → IVec S16 32) a x).toNat < S128x128.size a)
theorem k2_idx1123_inb : ∀ (v238 : IVec S16 32) (v357 : IVec S16 32) (k2_hw1123 : k2_chk1123 v238 v357), ∀ a x, ((![v238, v357] : Fin 2 → IVec S16 32) a x).toNat < S128x128.size a := fun v238 v357 k2_hw1123 => k2_hw1123

def k2_chk1124 (v257 : IVec S16 32) (v364 : IVec S16 32) : Prop :=
  (∀ a x, ((![v257, v364] : Fin 2 → IVec S16 32) a x).toNat < S128x128.size a)
theorem k2_idx1124_inb : ∀ (v257 : IVec S16 32) (v364 : IVec S16 32) (k2_hw1124 : k2_chk1124 v257 v364), ∀ a x, ((![v257, v364] : Fin 2 → IVec S16 32) a x).toNat < S128x128.size a := fun v257 v364 k2_hw1124 => k2_hw1124

def k2_chk1125 (v200 : IVec S16 32) (v383 : IVec S16 32) : Prop :=
  (∀ a x, ((![v200, v383] : Fin 2 → IVec S16 32) a x).toNat < S128x128.size a)
theorem k2_idx1125_inb : ∀ (v200 : IVec S16 32) (v383 : IVec S16 32) (k2_hw1125 : k2_chk1125 v200 v383), ∀ a x, ((![v200, v383] : Fin 2 → IVec S16 32) a x).toNat < S128x128.size a := fun v200 v383 k2_hw1125 => k2_hw1125

def k2_chk1126 (v219 : IVec S16 32) (v390 : IVec S16 32) : Prop :=
  (∀ a x, ((![v219, v390] : Fin 2 → IVec S16 32) a x).toNat < S128x128.size a)
theorem k2_idx1126_inb : ∀ (v219 : IVec S16 32) (v390 : IVec S16 32) (k2_hw1126 : k2_chk1126 v219 v390), ∀ a x, ((![v219, v390] : Fin 2 → IVec S16 32) a x).toNat < S128x128.size a := fun v219 v390 k2_hw1126 => k2_hw1126

def k2_chk1127 (v238 : IVec S16 32) (v397 : IVec S16 32) : Prop :=
  (∀ a x, ((![v238, v397] : Fin 2 → IVec S16 32) a x).toNat < S128x128.size a)
theorem k2_idx1127_inb : ∀ (v238 : IVec S16 32) (v397 : IVec S16 32) (k2_hw1127 : k2_chk1127 v238 v397), ∀ a x, ((![v238, v397] : Fin 2 → IVec S16 32) a x).toNat < S128x128.size a := fun v238 v397 k2_hw1127 => k2_hw1127

def k2_chk1128 (v257 : IVec S16 32) (v404 : IVec S16 32) : Prop :=
  (∀ a x, ((![v257, v404] : Fin 2 → IVec S16 32) a x).toNat < S128x128.size a)
theorem k2_idx1128_inb : ∀ (v257 : IVec S16 32) (v404 : IVec S16 32) (k2_hw1128 : k2_chk1128 v257 v404), ∀ a x, ((![v257, v404] : Fin 2 → IVec S16 32) a x).toNat < S128x128.size a := fun v257 v404 k2_hw1128 => k2_hw1128

def k2_chk1129 (v200 : IVec S16 32) (v425 : IVec S16 32) : Prop :=
  (∀ a x, ((![v200, v425] : Fin 2 → IVec S16 32) a x).toNat < S128x18.size a)
theorem k2_idx1129_inb : ∀ (v200 : IVec S16 32) (v425 : IVec S16 32) (k2_hw1129 : k2_chk1129 v200 v425), ∀ a x, ((![v200, v425] : Fin 2 → IVec S16 32) a x).toNat < S128x18.size a := fun v200 v425 k2_hw1129 => k2_hw1129

def k2_chk1130 (v200 : IVec S16 32) (v431 : IVec S16 32) : Prop :=
  (∀ a x, ((![v200, v431] : Fin 2 → IVec S16 32) a x).toNat < S128x18.size a)
theorem k2_idx1130_inb : ∀ (v200 : IVec S16 32) (v431 : IVec S16 32) (k2_hw1130 : k2_chk1130 v200 v431), ∀ a x, ((![v200, v431] : Fin 2 → IVec S16 32) a x).toNat < S128x18.size a := fun v200 v431 k2_hw1130 => k2_hw1130

def k2_chk1131 (v200 : IVec S16 32) (v437 : IVec S16 32) : Prop :=
  (∀ a x, ((![v200, v437] : Fin 2 → IVec S16 32) a x).toNat < S128x18.size a)
theorem k2_idx1131_inb : ∀ (v200 : IVec S16 32) (v437 : IVec S16 32) (k2_hw1131 : k2_chk1131 v200 v437), ∀ a x, ((![v200, v437] : Fin 2 → IVec S16 32) a x).toNat < S128x18.size a := fun v200 v437 k2_hw1131 => k2_hw1131

def k2_chk1132 (v200 : IVec S16 32) (v443 : IVec S16 32) : Prop :=
  (∀ a x, ((![v200, v443] : Fin 2 → IVec S16 32) a x).toNat < S128x18.size a)
theorem k2_idx1132_inb : ∀ (v200 : IVec S16 32) (v443 : IVec S16 32) (k2_hw1132 : k2_chk1132 v200 v443), ∀ a x, ((![v200, v443] : Fin 2 → IVec S16 32) a x).toNat < S128x18.size a := fun v200 v443 k2_hw1132 => k2_hw1132

def k2_chk1133 (v200 : IVec S16 32) (v449 : IVec S16 32) : Prop :=
  (∀ a x, ((![v200, v449] : Fin 2 → IVec S16 32) a x).toNat < S128x18.size a)
theorem k2_idx1133_inb : ∀ (v200 : IVec S16 32) (v449 : IVec S16 32) (k2_hw1133 : k2_chk1133 v200 v449), ∀ a x, ((![v200, v449] : Fin 2 → IVec S16 32) a x).toNat < S128x18.size a := fun v200 v449 k2_hw1133 => k2_hw1133

def k2_chk1134 (v200 : IVec S16 32) (v455 : IVec S16 32) : Prop :=
  (∀ a x, ((![v200, v455] : Fin 2 → IVec S16 32) a x).toNat < S128x18.size a)
theorem k2_idx1134_inb : ∀ (v200 : IVec S16 32) (v455 : IVec S16 32) (k2_hw1134 : k2_chk1134 v200 v455), ∀ a x, ((![v200, v455] : Fin 2 → IVec S16 32) a x).toNat < S128x18.size a := fun v200 v455 k2_hw1134 => k2_hw1134

def k2_chk1135 (v200 : IVec S16 32) (v461 : IVec S16 32) : Prop :=
  (∀ a x, ((![v200, v461] : Fin 2 → IVec S16 32) a x).toNat < S128x18.size a)
theorem k2_idx1135_inb : ∀ (v200 : IVec S16 32) (v461 : IVec S16 32) (k2_hw1135 : k2_chk1135 v200 v461), ∀ a x, ((![v200, v461] : Fin 2 → IVec S16 32) a x).toNat < S128x18.size a := fun v200 v461 k2_hw1135 => k2_hw1135

def k2_chk1136 (v200 : IVec S16 32) (v467 : IVec S16 32) : Prop :=
  (∀ a x, ((![v200, v467] : Fin 2 → IVec S16 32) a x).toNat < S128x18.size a)
theorem k2_idx1136_inb : ∀ (v200 : IVec S16 32) (v467 : IVec S16 32) (k2_hw1136 : k2_chk1136 v200 v467), ∀ a x, ((![v200, v467] : Fin 2 → IVec S16 32) a x).toNat < S128x18.size a := fun v200 v467 k2_hw1136 => k2_hw1136

def k2_chk1137 (v200 : IVec S16 32) (v473 : IVec S16 32) : Prop :=
  (∀ a x, ((![v200, v473] : Fin 2 → IVec S16 32) a x).toNat < S128x18.size a)
theorem k2_idx1137_inb : ∀ (v200 : IVec S16 32) (v473 : IVec S16 32) (k2_hw1137 : k2_chk1137 v200 v473), ∀ a x, ((![v200, v473] : Fin 2 → IVec S16 32) a x).toNat < S128x18.size a := fun v200 v473 k2_hw1137 => k2_hw1137

def k2_chk1138 (v200 : IVec S16 32) (v479 : IVec S16 32) : Prop :=
  (∀ a x, ((![v200, v479] : Fin 2 → IVec S16 32) a x).toNat < S128x18.size a)
theorem k2_idx1138_inb : ∀ (v200 : IVec S16 32) (v479 : IVec S16 32) (k2_hw1138 : k2_chk1138 v200 v479), ∀ a x, ((![v200, v479] : Fin 2 → IVec S16 32) a x).toNat < S128x18.size a := fun v200 v479 k2_hw1138 => k2_hw1138

def k2_chk1139 (v200 : IVec S16 32) (v485 : IVec S16 32) : Prop :=
  (∀ a x, ((![v200, v485] : Fin 2 → IVec S16 32) a x).toNat < S128x18.size a)
theorem k2_idx1139_inb : ∀ (v200 : IVec S16 32) (v485 : IVec S16 32) (k2_hw1139 : k2_chk1139 v200 v485), ∀ a x, ((![v200, v485] : Fin 2 → IVec S16 32) a x).toNat < S128x18.size a := fun v200 v485 k2_hw1139 => k2_hw1139

def k2_chk1140 (v200 : IVec S16 32) (v491 : IVec S16 32) : Prop :=
  (∀ a x, ((![v200, v491] : Fin 2 → IVec S16 32) a x).toNat < S128x18.size a)
theorem k2_idx1140_inb : ∀ (v200 : IVec S16 32) (v491 : IVec S16 32) (k2_hw1140 : k2_chk1140 v200 v491), ∀ a x, ((![v200, v491] : Fin 2 → IVec S16 32) a x).toNat < S128x18.size a := fun v200 v491 k2_hw1140 => k2_hw1140

def k2_chk1141 (v200 : IVec S16 32) (v497 : IVec S16 32) : Prop :=
  (∀ a x, ((![v200, v497] : Fin 2 → IVec S16 32) a x).toNat < S128x18.size a)
theorem k2_idx1141_inb : ∀ (v200 : IVec S16 32) (v497 : IVec S16 32) (k2_hw1141 : k2_chk1141 v200 v497), ∀ a x, ((![v200, v497] : Fin 2 → IVec S16 32) a x).toNat < S128x18.size a := fun v200 v497 k2_hw1141 => k2_hw1141

def k2_chk1142 (v200 : IVec S16 32) (v503 : IVec S16 32) : Prop :=
  (∀ a x, ((![v200, v503] : Fin 2 → IVec S16 32) a x).toNat < S128x18.size a)
theorem k2_idx1142_inb : ∀ (v200 : IVec S16 32) (v503 : IVec S16 32) (k2_hw1142 : k2_chk1142 v200 v503), ∀ a x, ((![v200, v503] : Fin 2 → IVec S16 32) a x).toNat < S128x18.size a := fun v200 v503 k2_hw1142 => k2_hw1142

def k2_chk1143 (v200 : IVec S16 32) (v509 : IVec S16 32) : Prop :=
  (∀ a x, ((![v200, v509] : Fin 2 → IVec S16 32) a x).toNat < S128x18.size a)
theorem k2_idx1143_inb : ∀ (v200 : IVec S16 32) (v509 : IVec S16 32) (k2_hw1143 : k2_chk1143 v200 v509), ∀ a x, ((![v200, v509] : Fin 2 → IVec S16 32) a x).toNat < S128x18.size a := fun v200 v509 k2_hw1143 => k2_hw1143

def k2_chk1144 (v200 : IVec S16 32) (v515 : IVec S16 32) : Prop :=
  (∀ a x, ((![v200, v515] : Fin 2 → IVec S16 32) a x).toNat < S128x18.size a)
theorem k2_idx1144_inb : ∀ (v200 : IVec S16 32) (v515 : IVec S16 32) (k2_hw1144 : k2_chk1144 v200 v515), ∀ a x, ((![v200, v515] : Fin 2 → IVec S16 32) a x).toNat < S128x18.size a := fun v200 v515 k2_hw1144 => k2_hw1144

def k2_chk1145 (v200 : IVec S16 32) (v521 : IVec S16 32) : Prop :=
  (∀ a x, ((![v200, v521] : Fin 2 → IVec S16 32) a x).toNat < S128x18.size a)
theorem k2_idx1145_inb : ∀ (v200 : IVec S16 32) (v521 : IVec S16 32) (k2_hw1145 : k2_chk1145 v200 v521), ∀ a x, ((![v200, v521] : Fin 2 → IVec S16 32) a x).toNat < S128x18.size a := fun v200 v521 k2_hw1145 => k2_hw1145

def k2_chk1146 (v200 : IVec S16 32) (v527 : IVec S16 32) : Prop :=
  (∀ a x, ((![v200, v527] : Fin 2 → IVec S16 32) a x).toNat < S128x18.size a)
theorem k2_idx1146_inb : ∀ (v200 : IVec S16 32) (v527 : IVec S16 32) (k2_hw1146 : k2_chk1146 v200 v527), ∀ a x, ((![v200, v527] : Fin 2 → IVec S16 32) a x).toNat < S128x18.size a := fun v200 v527 k2_hw1146 => k2_hw1146

def k2_chk1147 (v219 : IVec S16 32) (v535 : IVec S16 32) : Prop :=
  (∀ a x, ((![v219, v535] : Fin 2 → IVec S16 32) a x).toNat < S128x18.size a)
theorem k2_idx1147_inb : ∀ (v219 : IVec S16 32) (v535 : IVec S16 32) (k2_hw1147 : k2_chk1147 v219 v535), ∀ a x, ((![v219, v535] : Fin 2 → IVec S16 32) a x).toNat < S128x18.size a := fun v219 v535 k2_hw1147 => k2_hw1147

def k2_chk1148 (v219 : IVec S16 32) (v541 : IVec S16 32) : Prop :=
  (∀ a x, ((![v219, v541] : Fin 2 → IVec S16 32) a x).toNat < S128x18.size a)
theorem k2_idx1148_inb : ∀ (v219 : IVec S16 32) (v541 : IVec S16 32) (k2_hw1148 : k2_chk1148 v219 v541), ∀ a x, ((![v219, v541] : Fin 2 → IVec S16 32) a x).toNat < S128x18.size a := fun v219 v541 k2_hw1148 => k2_hw1148

def k2_chk1149 (v219 : IVec S16 32) (v547 : IVec S16 32) : Prop :=
  (∀ a x, ((![v219, v547] : Fin 2 → IVec S16 32) a x).toNat < S128x18.size a)
theorem k2_idx1149_inb : ∀ (v219 : IVec S16 32) (v547 : IVec S16 32) (k2_hw1149 : k2_chk1149 v219 v547), ∀ a x, ((![v219, v547] : Fin 2 → IVec S16 32) a x).toNat < S128x18.size a := fun v219 v547 k2_hw1149 => k2_hw1149

def k2_chk1150 (v219 : IVec S16 32) (v553 : IVec S16 32) : Prop :=
  (∀ a x, ((![v219, v553] : Fin 2 → IVec S16 32) a x).toNat < S128x18.size a)
theorem k2_idx1150_inb : ∀ (v219 : IVec S16 32) (v553 : IVec S16 32) (k2_hw1150 : k2_chk1150 v219 v553), ∀ a x, ((![v219, v553] : Fin 2 → IVec S16 32) a x).toNat < S128x18.size a := fun v219 v553 k2_hw1150 => k2_hw1150

def k2_chk1151 (v219 : IVec S16 32) (v559 : IVec S16 32) : Prop :=
  (∀ a x, ((![v219, v559] : Fin 2 → IVec S16 32) a x).toNat < S128x18.size a)
theorem k2_idx1151_inb : ∀ (v219 : IVec S16 32) (v559 : IVec S16 32) (k2_hw1151 : k2_chk1151 v219 v559), ∀ a x, ((![v219, v559] : Fin 2 → IVec S16 32) a x).toNat < S128x18.size a := fun v219 v559 k2_hw1151 => k2_hw1151

def k2_chk1152 (v219 : IVec S16 32) (v565 : IVec S16 32) : Prop :=
  (∀ a x, ((![v219, v565] : Fin 2 → IVec S16 32) a x).toNat < S128x18.size a)
theorem k2_idx1152_inb : ∀ (v219 : IVec S16 32) (v565 : IVec S16 32) (k2_hw1152 : k2_chk1152 v219 v565), ∀ a x, ((![v219, v565] : Fin 2 → IVec S16 32) a x).toNat < S128x18.size a := fun v219 v565 k2_hw1152 => k2_hw1152

def k2_chk1153 (v219 : IVec S16 32) (v571 : IVec S16 32) : Prop :=
  (∀ a x, ((![v219, v571] : Fin 2 → IVec S16 32) a x).toNat < S128x18.size a)
theorem k2_idx1153_inb : ∀ (v219 : IVec S16 32) (v571 : IVec S16 32) (k2_hw1153 : k2_chk1153 v219 v571), ∀ a x, ((![v219, v571] : Fin 2 → IVec S16 32) a x).toNat < S128x18.size a := fun v219 v571 k2_hw1153 => k2_hw1153

def k2_chk1154 (v219 : IVec S16 32) (v577 : IVec S16 32) : Prop :=
  (∀ a x, ((![v219, v577] : Fin 2 → IVec S16 32) a x).toNat < S128x18.size a)
theorem k2_idx1154_inb : ∀ (v219 : IVec S16 32) (v577 : IVec S16 32) (k2_hw1154 : k2_chk1154 v219 v577), ∀ a x, ((![v219, v577] : Fin 2 → IVec S16 32) a x).toNat < S128x18.size a := fun v219 v577 k2_hw1154 => k2_hw1154

def k2_chk1155 (v219 : IVec S16 32) (v583 : IVec S16 32) : Prop :=
  (∀ a x, ((![v219, v583] : Fin 2 → IVec S16 32) a x).toNat < S128x18.size a)
theorem k2_idx1155_inb : ∀ (v219 : IVec S16 32) (v583 : IVec S16 32) (k2_hw1155 : k2_chk1155 v219 v583), ∀ a x, ((![v219, v583] : Fin 2 → IVec S16 32) a x).toNat < S128x18.size a := fun v219 v583 k2_hw1155 => k2_hw1155

def k2_chk1156 (v219 : IVec S16 32) (v589 : IVec S16 32) : Prop :=
  (∀ a x, ((![v219, v589] : Fin 2 → IVec S16 32) a x).toNat < S128x18.size a)
theorem k2_idx1156_inb : ∀ (v219 : IVec S16 32) (v589 : IVec S16 32) (k2_hw1156 : k2_chk1156 v219 v589), ∀ a x, ((![v219, v589] : Fin 2 → IVec S16 32) a x).toNat < S128x18.size a := fun v219 v589 k2_hw1156 => k2_hw1156

def k2_chk1157 (v219 : IVec S16 32) (v595 : IVec S16 32) : Prop :=
  (∀ a x, ((![v219, v595] : Fin 2 → IVec S16 32) a x).toNat < S128x18.size a)
theorem k2_idx1157_inb : ∀ (v219 : IVec S16 32) (v595 : IVec S16 32) (k2_hw1157 : k2_chk1157 v219 v595), ∀ a x, ((![v219, v595] : Fin 2 → IVec S16 32) a x).toNat < S128x18.size a := fun v219 v595 k2_hw1157 => k2_hw1157

def k2_chk1158 (v219 : IVec S16 32) (v601 : IVec S16 32) : Prop :=
  (∀ a x, ((![v219, v601] : Fin 2 → IVec S16 32) a x).toNat < S128x18.size a)
theorem k2_idx1158_inb : ∀ (v219 : IVec S16 32) (v601 : IVec S16 32) (k2_hw1158 : k2_chk1158 v219 v601), ∀ a x, ((![v219, v601] : Fin 2 → IVec S16 32) a x).toNat < S128x18.size a := fun v219 v601 k2_hw1158 => k2_hw1158

def k2_chk1159 (v219 : IVec S16 32) (v607 : IVec S16 32) : Prop :=
  (∀ a x, ((![v219, v607] : Fin 2 → IVec S16 32) a x).toNat < S128x18.size a)
theorem k2_idx1159_inb : ∀ (v219 : IVec S16 32) (v607 : IVec S16 32) (k2_hw1159 : k2_chk1159 v219 v607), ∀ a x, ((![v219, v607] : Fin 2 → IVec S16 32) a x).toNat < S128x18.size a := fun v219 v607 k2_hw1159 => k2_hw1159

def k2_chk1160 (v219 : IVec S16 32) (v613 : IVec S16 32) : Prop :=
  (∀ a x, ((![v219, v613] : Fin 2 → IVec S16 32) a x).toNat < S128x18.size a)
theorem k2_idx1160_inb : ∀ (v219 : IVec S16 32) (v613 : IVec S16 32) (k2_hw1160 : k2_chk1160 v219 v613), ∀ a x, ((![v219, v613] : Fin 2 → IVec S16 32) a x).toNat < S128x18.size a := fun v219 v613 k2_hw1160 => k2_hw1160

def k2_chk1161 (v219 : IVec S16 32) (v619 : IVec S16 32) : Prop :=
  (∀ a x, ((![v219, v619] : Fin 2 → IVec S16 32) a x).toNat < S128x18.size a)
theorem k2_idx1161_inb : ∀ (v219 : IVec S16 32) (v619 : IVec S16 32) (k2_hw1161 : k2_chk1161 v219 v619), ∀ a x, ((![v219, v619] : Fin 2 → IVec S16 32) a x).toNat < S128x18.size a := fun v219 v619 k2_hw1161 => k2_hw1161

def k2_chk1162 (v219 : IVec S16 32) (v625 : IVec S16 32) : Prop :=
  (∀ a x, ((![v219, v625] : Fin 2 → IVec S16 32) a x).toNat < S128x18.size a)
theorem k2_idx1162_inb : ∀ (v219 : IVec S16 32) (v625 : IVec S16 32) (k2_hw1162 : k2_chk1162 v219 v625), ∀ a x, ((![v219, v625] : Fin 2 → IVec S16 32) a x).toNat < S128x18.size a := fun v219 v625 k2_hw1162 => k2_hw1162

def k2_chk1163 (v219 : IVec S16 32) (v631 : IVec S16 32) : Prop :=
  (∀ a x, ((![v219, v631] : Fin 2 → IVec S16 32) a x).toNat < S128x18.size a)
theorem k2_idx1163_inb : ∀ (v219 : IVec S16 32) (v631 : IVec S16 32) (k2_hw1163 : k2_chk1163 v219 v631), ∀ a x, ((![v219, v631] : Fin 2 → IVec S16 32) a x).toNat < S128x18.size a := fun v219 v631 k2_hw1163 => k2_hw1163

def k2_chk1164 (v219 : IVec S16 32) (v637 : IVec S16 32) : Prop :=
  (∀ a x, ((![v219, v637] : Fin 2 → IVec S16 32) a x).toNat < S128x18.size a)
theorem k2_idx1164_inb : ∀ (v219 : IVec S16 32) (v637 : IVec S16 32) (k2_hw1164 : k2_chk1164 v219 v637), ∀ a x, ((![v219, v637] : Fin 2 → IVec S16 32) a x).toNat < S128x18.size a := fun v219 v637 k2_hw1164 => k2_hw1164

def k2_chk1165 (v238 : IVec S16 32) (v645 : IVec S16 32) : Prop :=
  (∀ a x, ((![v238, v645] : Fin 2 → IVec S16 32) a x).toNat < S128x18.size a)
theorem k2_idx1165_inb : ∀ (v238 : IVec S16 32) (v645 : IVec S16 32) (k2_hw1165 : k2_chk1165 v238 v645), ∀ a x, ((![v238, v645] : Fin 2 → IVec S16 32) a x).toNat < S128x18.size a := fun v238 v645 k2_hw1165 => k2_hw1165

def k2_chk1166 (v238 : IVec S16 32) (v651 : IVec S16 32) : Prop :=
  (∀ a x, ((![v238, v651] : Fin 2 → IVec S16 32) a x).toNat < S128x18.size a)
theorem k2_idx1166_inb : ∀ (v238 : IVec S16 32) (v651 : IVec S16 32) (k2_hw1166 : k2_chk1166 v238 v651), ∀ a x, ((![v238, v651] : Fin 2 → IVec S16 32) a x).toNat < S128x18.size a := fun v238 v651 k2_hw1166 => k2_hw1166

def k2_chk1167 (v238 : IVec S16 32) (v657 : IVec S16 32) : Prop :=
  (∀ a x, ((![v238, v657] : Fin 2 → IVec S16 32) a x).toNat < S128x18.size a)
theorem k2_idx1167_inb : ∀ (v238 : IVec S16 32) (v657 : IVec S16 32) (k2_hw1167 : k2_chk1167 v238 v657), ∀ a x, ((![v238, v657] : Fin 2 → IVec S16 32) a x).toNat < S128x18.size a := fun v238 v657 k2_hw1167 => k2_hw1167

def k2_chk1168 (v238 : IVec S16 32) (v663 : IVec S16 32) : Prop :=
  (∀ a x, ((![v238, v663] : Fin 2 → IVec S16 32) a x).toNat < S128x18.size a)
theorem k2_idx1168_inb : ∀ (v238 : IVec S16 32) (v663 : IVec S16 32) (k2_hw1168 : k2_chk1168 v238 v663), ∀ a x, ((![v238, v663] : Fin 2 → IVec S16 32) a x).toNat < S128x18.size a := fun v238 v663 k2_hw1168 => k2_hw1168

def k2_chk1169 (v238 : IVec S16 32) (v669 : IVec S16 32) : Prop :=
  (∀ a x, ((![v238, v669] : Fin 2 → IVec S16 32) a x).toNat < S128x18.size a)
theorem k2_idx1169_inb : ∀ (v238 : IVec S16 32) (v669 : IVec S16 32) (k2_hw1169 : k2_chk1169 v238 v669), ∀ a x, ((![v238, v669] : Fin 2 → IVec S16 32) a x).toNat < S128x18.size a := fun v238 v669 k2_hw1169 => k2_hw1169

def k2_chk1170 (v238 : IVec S16 32) (v675 : IVec S16 32) : Prop :=
  (∀ a x, ((![v238, v675] : Fin 2 → IVec S16 32) a x).toNat < S128x18.size a)
theorem k2_idx1170_inb : ∀ (v238 : IVec S16 32) (v675 : IVec S16 32) (k2_hw1170 : k2_chk1170 v238 v675), ∀ a x, ((![v238, v675] : Fin 2 → IVec S16 32) a x).toNat < S128x18.size a := fun v238 v675 k2_hw1170 => k2_hw1170

def k2_chk1171 (v238 : IVec S16 32) (v681 : IVec S16 32) : Prop :=
  (∀ a x, ((![v238, v681] : Fin 2 → IVec S16 32) a x).toNat < S128x18.size a)
theorem k2_idx1171_inb : ∀ (v238 : IVec S16 32) (v681 : IVec S16 32) (k2_hw1171 : k2_chk1171 v238 v681), ∀ a x, ((![v238, v681] : Fin 2 → IVec S16 32) a x).toNat < S128x18.size a := fun v238 v681 k2_hw1171 => k2_hw1171

def k2_chk1172 (v238 : IVec S16 32) (v687 : IVec S16 32) : Prop :=
  (∀ a x, ((![v238, v687] : Fin 2 → IVec S16 32) a x).toNat < S128x18.size a)
theorem k2_idx1172_inb : ∀ (v238 : IVec S16 32) (v687 : IVec S16 32) (k2_hw1172 : k2_chk1172 v238 v687), ∀ a x, ((![v238, v687] : Fin 2 → IVec S16 32) a x).toNat < S128x18.size a := fun v238 v687 k2_hw1172 => k2_hw1172

def k2_chk1173 (v238 : IVec S16 32) (v693 : IVec S16 32) : Prop :=
  (∀ a x, ((![v238, v693] : Fin 2 → IVec S16 32) a x).toNat < S128x18.size a)
theorem k2_idx1173_inb : ∀ (v238 : IVec S16 32) (v693 : IVec S16 32) (k2_hw1173 : k2_chk1173 v238 v693), ∀ a x, ((![v238, v693] : Fin 2 → IVec S16 32) a x).toNat < S128x18.size a := fun v238 v693 k2_hw1173 => k2_hw1173

def k2_chk1174 (v238 : IVec S16 32) (v699 : IVec S16 32) : Prop :=
  (∀ a x, ((![v238, v699] : Fin 2 → IVec S16 32) a x).toNat < S128x18.size a)
theorem k2_idx1174_inb : ∀ (v238 : IVec S16 32) (v699 : IVec S16 32) (k2_hw1174 : k2_chk1174 v238 v699), ∀ a x, ((![v238, v699] : Fin 2 → IVec S16 32) a x).toNat < S128x18.size a := fun v238 v699 k2_hw1174 => k2_hw1174

def k2_chk1175 (v238 : IVec S16 32) (v705 : IVec S16 32) : Prop :=
  (∀ a x, ((![v238, v705] : Fin 2 → IVec S16 32) a x).toNat < S128x18.size a)
theorem k2_idx1175_inb : ∀ (v238 : IVec S16 32) (v705 : IVec S16 32) (k2_hw1175 : k2_chk1175 v238 v705), ∀ a x, ((![v238, v705] : Fin 2 → IVec S16 32) a x).toNat < S128x18.size a := fun v238 v705 k2_hw1175 => k2_hw1175

def k2_chk1176 (v238 : IVec S16 32) (v711 : IVec S16 32) : Prop :=
  (∀ a x, ((![v238, v711] : Fin 2 → IVec S16 32) a x).toNat < S128x18.size a)
theorem k2_idx1176_inb : ∀ (v238 : IVec S16 32) (v711 : IVec S16 32) (k2_hw1176 : k2_chk1176 v238 v711), ∀ a x, ((![v238, v711] : Fin 2 → IVec S16 32) a x).toNat < S128x18.size a := fun v238 v711 k2_hw1176 => k2_hw1176

def k2_chk1177 (v238 : IVec S16 32) (v717 : IVec S16 32) : Prop :=
  (∀ a x, ((![v238, v717] : Fin 2 → IVec S16 32) a x).toNat < S128x18.size a)
theorem k2_idx1177_inb : ∀ (v238 : IVec S16 32) (v717 : IVec S16 32) (k2_hw1177 : k2_chk1177 v238 v717), ∀ a x, ((![v238, v717] : Fin 2 → IVec S16 32) a x).toNat < S128x18.size a := fun v238 v717 k2_hw1177 => k2_hw1177

def k2_chk1178 (v238 : IVec S16 32) (v723 : IVec S16 32) : Prop :=
  (∀ a x, ((![v238, v723] : Fin 2 → IVec S16 32) a x).toNat < S128x18.size a)
theorem k2_idx1178_inb : ∀ (v238 : IVec S16 32) (v723 : IVec S16 32) (k2_hw1178 : k2_chk1178 v238 v723), ∀ a x, ((![v238, v723] : Fin 2 → IVec S16 32) a x).toNat < S128x18.size a := fun v238 v723 k2_hw1178 => k2_hw1178

def k2_chk1179 (v238 : IVec S16 32) (v729 : IVec S16 32) : Prop :=
  (∀ a x, ((![v238, v729] : Fin 2 → IVec S16 32) a x).toNat < S128x18.size a)
theorem k2_idx1179_inb : ∀ (v238 : IVec S16 32) (v729 : IVec S16 32) (k2_hw1179 : k2_chk1179 v238 v729), ∀ a x, ((![v238, v729] : Fin 2 → IVec S16 32) a x).toNat < S128x18.size a := fun v238 v729 k2_hw1179 => k2_hw1179

def k2_chk1180 (v238 : IVec S16 32) (v735 : IVec S16 32) : Prop :=
  (∀ a x, ((![v238, v735] : Fin 2 → IVec S16 32) a x).toNat < S128x18.size a)
theorem k2_idx1180_inb : ∀ (v238 : IVec S16 32) (v735 : IVec S16 32) (k2_hw1180 : k2_chk1180 v238 v735), ∀ a x, ((![v238, v735] : Fin 2 → IVec S16 32) a x).toNat < S128x18.size a := fun v238 v735 k2_hw1180 => k2_hw1180

def k2_chk1181 (v238 : IVec S16 32) (v741 : IVec S16 32) : Prop :=
  (∀ a x, ((![v238, v741] : Fin 2 → IVec S16 32) a x).toNat < S128x18.size a)
theorem k2_idx1181_inb : ∀ (v238 : IVec S16 32) (v741 : IVec S16 32) (k2_hw1181 : k2_chk1181 v238 v741), ∀ a x, ((![v238, v741] : Fin 2 → IVec S16 32) a x).toNat < S128x18.size a := fun v238 v741 k2_hw1181 => k2_hw1181

def k2_chk1182 (v238 : IVec S16 32) (v747 : IVec S16 32) : Prop :=
  (∀ a x, ((![v238, v747] : Fin 2 → IVec S16 32) a x).toNat < S128x18.size a)
theorem k2_idx1182_inb : ∀ (v238 : IVec S16 32) (v747 : IVec S16 32) (k2_hw1182 : k2_chk1182 v238 v747), ∀ a x, ((![v238, v747] : Fin 2 → IVec S16 32) a x).toNat < S128x18.size a := fun v238 v747 k2_hw1182 => k2_hw1182

def k2_chk1183 (v257 : IVec S16 32) (v755 : IVec S16 32) : Prop :=
  (∀ a x, ((![v257, v755] : Fin 2 → IVec S16 32) a x).toNat < S128x18.size a)
theorem k2_idx1183_inb : ∀ (v257 : IVec S16 32) (v755 : IVec S16 32) (k2_hw1183 : k2_chk1183 v257 v755), ∀ a x, ((![v257, v755] : Fin 2 → IVec S16 32) a x).toNat < S128x18.size a := fun v257 v755 k2_hw1183 => k2_hw1183

def k2_chk1184 (v257 : IVec S16 32) (v761 : IVec S16 32) : Prop :=
  (∀ a x, ((![v257, v761] : Fin 2 → IVec S16 32) a x).toNat < S128x18.size a)
theorem k2_idx1184_inb : ∀ (v257 : IVec S16 32) (v761 : IVec S16 32) (k2_hw1184 : k2_chk1184 v257 v761), ∀ a x, ((![v257, v761] : Fin 2 → IVec S16 32) a x).toNat < S128x18.size a := fun v257 v761 k2_hw1184 => k2_hw1184

def k2_chk1185 (v257 : IVec S16 32) (v767 : IVec S16 32) : Prop :=
  (∀ a x, ((![v257, v767] : Fin 2 → IVec S16 32) a x).toNat < S128x18.size a)
theorem k2_idx1185_inb : ∀ (v257 : IVec S16 32) (v767 : IVec S16 32) (k2_hw1185 : k2_chk1185 v257 v767), ∀ a x, ((![v257, v767] : Fin 2 → IVec S16 32) a x).toNat < S128x18.size a := fun v257 v767 k2_hw1185 => k2_hw1185

def k2_chk1186 (v257 : IVec S16 32) (v773 : IVec S16 32) : Prop :=
  (∀ a x, ((![v257, v773] : Fin 2 → IVec S16 32) a x).toNat < S128x18.size a)
theorem k2_idx1186_inb : ∀ (v257 : IVec S16 32) (v773 : IVec S16 32) (k2_hw1186 : k2_chk1186 v257 v773), ∀ a x, ((![v257, v773] : Fin 2 → IVec S16 32) a x).toNat < S128x18.size a := fun v257 v773 k2_hw1186 => k2_hw1186

def k2_chk1187 (v257 : IVec S16 32) (v779 : IVec S16 32) : Prop :=
  (∀ a x, ((![v257, v779] : Fin 2 → IVec S16 32) a x).toNat < S128x18.size a)
theorem k2_idx1187_inb : ∀ (v257 : IVec S16 32) (v779 : IVec S16 32) (k2_hw1187 : k2_chk1187 v257 v779), ∀ a x, ((![v257, v779] : Fin 2 → IVec S16 32) a x).toNat < S128x18.size a := fun v257 v779 k2_hw1187 => k2_hw1187

def k2_chk1188 (v257 : IVec S16 32) (v785 : IVec S16 32) : Prop :=
  (∀ a x, ((![v257, v785] : Fin 2 → IVec S16 32) a x).toNat < S128x18.size a)
theorem k2_idx1188_inb : ∀ (v257 : IVec S16 32) (v785 : IVec S16 32) (k2_hw1188 : k2_chk1188 v257 v785), ∀ a x, ((![v257, v785] : Fin 2 → IVec S16 32) a x).toNat < S128x18.size a := fun v257 v785 k2_hw1188 => k2_hw1188

def k2_chk1189 (v257 : IVec S16 32) (v791 : IVec S16 32) : Prop :=
  (∀ a x, ((![v257, v791] : Fin 2 → IVec S16 32) a x).toNat < S128x18.size a)
theorem k2_idx1189_inb : ∀ (v257 : IVec S16 32) (v791 : IVec S16 32) (k2_hw1189 : k2_chk1189 v257 v791), ∀ a x, ((![v257, v791] : Fin 2 → IVec S16 32) a x).toNat < S128x18.size a := fun v257 v791 k2_hw1189 => k2_hw1189

def k2_chk1190 (v257 : IVec S16 32) (v797 : IVec S16 32) : Prop :=
  (∀ a x, ((![v257, v797] : Fin 2 → IVec S16 32) a x).toNat < S128x18.size a)
theorem k2_idx1190_inb : ∀ (v257 : IVec S16 32) (v797 : IVec S16 32) (k2_hw1190 : k2_chk1190 v257 v797), ∀ a x, ((![v257, v797] : Fin 2 → IVec S16 32) a x).toNat < S128x18.size a := fun v257 v797 k2_hw1190 => k2_hw1190

def k2_chk1191 (v257 : IVec S16 32) (v803 : IVec S16 32) : Prop :=
  (∀ a x, ((![v257, v803] : Fin 2 → IVec S16 32) a x).toNat < S128x18.size a)
theorem k2_idx1191_inb : ∀ (v257 : IVec S16 32) (v803 : IVec S16 32) (k2_hw1191 : k2_chk1191 v257 v803), ∀ a x, ((![v257, v803] : Fin 2 → IVec S16 32) a x).toNat < S128x18.size a := fun v257 v803 k2_hw1191 => k2_hw1191

def k2_chk1192 (v257 : IVec S16 32) (v809 : IVec S16 32) : Prop :=
  (∀ a x, ((![v257, v809] : Fin 2 → IVec S16 32) a x).toNat < S128x18.size a)
theorem k2_idx1192_inb : ∀ (v257 : IVec S16 32) (v809 : IVec S16 32) (k2_hw1192 : k2_chk1192 v257 v809), ∀ a x, ((![v257, v809] : Fin 2 → IVec S16 32) a x).toNat < S128x18.size a := fun v257 v809 k2_hw1192 => k2_hw1192

def k2_chk1193 (v257 : IVec S16 32) (v815 : IVec S16 32) : Prop :=
  (∀ a x, ((![v257, v815] : Fin 2 → IVec S16 32) a x).toNat < S128x18.size a)
theorem k2_idx1193_inb : ∀ (v257 : IVec S16 32) (v815 : IVec S16 32) (k2_hw1193 : k2_chk1193 v257 v815), ∀ a x, ((![v257, v815] : Fin 2 → IVec S16 32) a x).toNat < S128x18.size a := fun v257 v815 k2_hw1193 => k2_hw1193

def k2_chk1194 (v257 : IVec S16 32) (v821 : IVec S16 32) : Prop :=
  (∀ a x, ((![v257, v821] : Fin 2 → IVec S16 32) a x).toNat < S128x18.size a)
theorem k2_idx1194_inb : ∀ (v257 : IVec S16 32) (v821 : IVec S16 32) (k2_hw1194 : k2_chk1194 v257 v821), ∀ a x, ((![v257, v821] : Fin 2 → IVec S16 32) a x).toNat < S128x18.size a := fun v257 v821 k2_hw1194 => k2_hw1194

def k2_chk1195 (v257 : IVec S16 32) (v827 : IVec S16 32) : Prop :=
  (∀ a x, ((![v257, v827] : Fin 2 → IVec S16 32) a x).toNat < S128x18.size a)
theorem k2_idx1195_inb : ∀ (v257 : IVec S16 32) (v827 : IVec S16 32) (k2_hw1195 : k2_chk1195 v257 v827), ∀ a x, ((![v257, v827] : Fin 2 → IVec S16 32) a x).toNat < S128x18.size a := fun v257 v827 k2_hw1195 => k2_hw1195

def k2_chk1196 (v257 : IVec S16 32) (v833 : IVec S16 32) : Prop :=
  (∀ a x, ((![v257, v833] : Fin 2 → IVec S16 32) a x).toNat < S128x18.size a)
theorem k2_idx1196_inb : ∀ (v257 : IVec S16 32) (v833 : IVec S16 32) (k2_hw1196 : k2_chk1196 v257 v833), ∀ a x, ((![v257, v833] : Fin 2 → IVec S16 32) a x).toNat < S128x18.size a := fun v257 v833 k2_hw1196 => k2_hw1196

def k2_chk1197 (v257 : IVec S16 32) (v839 : IVec S16 32) : Prop :=
  (∀ a x, ((![v257, v839] : Fin 2 → IVec S16 32) a x).toNat < S128x18.size a)
theorem k2_idx1197_inb : ∀ (v257 : IVec S16 32) (v839 : IVec S16 32) (k2_hw1197 : k2_chk1197 v257 v839), ∀ a x, ((![v257, v839] : Fin 2 → IVec S16 32) a x).toNat < S128x18.size a := fun v257 v839 k2_hw1197 => k2_hw1197

def k2_chk1198 (v257 : IVec S16 32) (v845 : IVec S16 32) : Prop :=
  (∀ a x, ((![v257, v845] : Fin 2 → IVec S16 32) a x).toNat < S128x18.size a)
theorem k2_idx1198_inb : ∀ (v257 : IVec S16 32) (v845 : IVec S16 32) (k2_hw1198 : k2_chk1198 v257 v845), ∀ a x, ((![v257, v845] : Fin 2 → IVec S16 32) a x).toNat < S128x18.size a := fun v257 v845 k2_hw1198 => k2_hw1198

def k2_chk1199 (v257 : IVec S16 32) (v851 : IVec S16 32) : Prop :=
  (∀ a x, ((![v257, v851] : Fin 2 → IVec S16 32) a x).toNat < S128x18.size a)
theorem k2_idx1199_inb : ∀ (v257 : IVec S16 32) (v851 : IVec S16 32) (k2_hw1199 : k2_chk1199 v257 v851), ∀ a x, ((![v257, v851] : Fin 2 → IVec S16 32) a x).toNat < S128x18.size a := fun v257 v851 k2_hw1199 => k2_hw1199

def k2_chk1200 (v257 : IVec S16 32) (v857 : IVec S16 32) : Prop :=
  (∀ a x, ((![v257, v857] : Fin 2 → IVec S16 32) a x).toNat < S128x18.size a)
theorem k2_idx1200_inb : ∀ (v257 : IVec S16 32) (v857 : IVec S16 32) (k2_hw1200 : k2_chk1200 v257 v857), ∀ a x, ((![v257, v857] : Fin 2 → IVec S16 32) a x).toNat < S128x18.size a := fun v257 v857 k2_hw1200 => k2_hw1200
@[reducible] def k2_t15_loop : Scf.Loop 32 :=
  let c0_i32_204 : BitVec 32 := 0#32
  let c2_i32_205 : BitVec 32 := 2#32
  let v153 : BitVec 32 := Scalar.addi c0_i32_204 c2_i32_205
  let c1_i32_206 : BitVec 32 := 1#32
  ⟨c0_i32_204, v153, c1_i32_206⟩
def k2_off19 (k2_t15 : Fin k2_t15_loop.trips) (c0_i32_243 : BitVec 32) : Fin 1 → Nat :=
  let c1664_i32_244 : BitVec 32 := 1664#32
  let c0_i32_204 : BitVec 32 := 0#32
  let c1_i32_206 : BitVec 32 := 1#32
  let arg18 : BitVec 32 := Scf.iv c0_i32_204 c1_i32_206 k2_t15
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c1664_i32_244 v184
  let v186 : Index := Scalar.indexCast v185
  ![v186.toNat]

def k2_chk1201 (v200 : IVec S16 32) (v263 : IVec S16 32) : Prop :=
  (∀ a x, ((![v200, v263] : Fin 2 → IVec S16 32) a x).toNat < S128x128.size a)
theorem k2_idx1201_inb : ∀ (v200 : IVec S16 32) (v263 : IVec S16 32) (k2_hw1201 : k2_chk1201 v200 v263), ∀ a x, ((![v200, v263] : Fin 2 → IVec S16 32) a x).toNat < S128x128.size a := fun v200 v263 k2_hw1201 => k2_hw1201

def k2_chk1202 (v219 : IVec S16 32) (v270 : IVec S16 32) : Prop :=
  (∀ a x, ((![v219, v270] : Fin 2 → IVec S16 32) a x).toNat < S128x128.size a)
theorem k2_idx1202_inb : ∀ (v219 : IVec S16 32) (v270 : IVec S16 32) (k2_hw1202 : k2_chk1202 v219 v270), ∀ a x, ((![v219, v270] : Fin 2 → IVec S16 32) a x).toNat < S128x128.size a := fun v219 v270 k2_hw1202 => k2_hw1202

def k2_chk1203 (v238 : IVec S16 32) (v277 : IVec S16 32) : Prop :=
  (∀ a x, ((![v238, v277] : Fin 2 → IVec S16 32) a x).toNat < S128x128.size a)
theorem k2_idx1203_inb : ∀ (v238 : IVec S16 32) (v277 : IVec S16 32) (k2_hw1203 : k2_chk1203 v238 v277), ∀ a x, ((![v238, v277] : Fin 2 → IVec S16 32) a x).toNat < S128x128.size a := fun v238 v277 k2_hw1203 => k2_hw1203

def k2_chk1204 (v257 : IVec S16 32) (v284 : IVec S16 32) : Prop :=
  (∀ a x, ((![v257, v284] : Fin 2 → IVec S16 32) a x).toNat < S128x128.size a)
theorem k2_idx1204_inb : ∀ (v257 : IVec S16 32) (v284 : IVec S16 32) (k2_hw1204 : k2_chk1204 v257 v284), ∀ a x, ((![v257, v284] : Fin 2 → IVec S16 32) a x).toNat < S128x128.size a := fun v257 v284 k2_hw1204 => k2_hw1204

def k2_chk1205 (v200 : IVec S16 32) (v303 : IVec S16 32) : Prop :=
  (∀ a x, ((![v200, v303] : Fin 2 → IVec S16 32) a x).toNat < S128x128.size a)
theorem k2_idx1205_inb : ∀ (v200 : IVec S16 32) (v303 : IVec S16 32) (k2_hw1205 : k2_chk1205 v200 v303), ∀ a x, ((![v200, v303] : Fin 2 → IVec S16 32) a x).toNat < S128x128.size a := fun v200 v303 k2_hw1205 => k2_hw1205

def k2_chk1206 (v219 : IVec S16 32) (v310 : IVec S16 32) : Prop :=
  (∀ a x, ((![v219, v310] : Fin 2 → IVec S16 32) a x).toNat < S128x128.size a)
theorem k2_idx1206_inb : ∀ (v219 : IVec S16 32) (v310 : IVec S16 32) (k2_hw1206 : k2_chk1206 v219 v310), ∀ a x, ((![v219, v310] : Fin 2 → IVec S16 32) a x).toNat < S128x128.size a := fun v219 v310 k2_hw1206 => k2_hw1206

def k2_chk1207 (v238 : IVec S16 32) (v317 : IVec S16 32) : Prop :=
  (∀ a x, ((![v238, v317] : Fin 2 → IVec S16 32) a x).toNat < S128x128.size a)
theorem k2_idx1207_inb : ∀ (v238 : IVec S16 32) (v317 : IVec S16 32) (k2_hw1207 : k2_chk1207 v238 v317), ∀ a x, ((![v238, v317] : Fin 2 → IVec S16 32) a x).toNat < S128x128.size a := fun v238 v317 k2_hw1207 => k2_hw1207

def k2_chk1208 (v257 : IVec S16 32) (v324 : IVec S16 32) : Prop :=
  (∀ a x, ((![v257, v324] : Fin 2 → IVec S16 32) a x).toNat < S128x128.size a)
theorem k2_idx1208_inb : ∀ (v257 : IVec S16 32) (v324 : IVec S16 32) (k2_hw1208 : k2_chk1208 v257 v324), ∀ a x, ((![v257, v324] : Fin 2 → IVec S16 32) a x).toNat < S128x128.size a := fun v257 v324 k2_hw1208 => k2_hw1208

def k2_chk1209 (v200 : IVec S16 32) (v343 : IVec S16 32) : Prop :=
  (∀ a x, ((![v200, v343] : Fin 2 → IVec S16 32) a x).toNat < S128x128.size a)
theorem k2_idx1209_inb : ∀ (v200 : IVec S16 32) (v343 : IVec S16 32) (k2_hw1209 : k2_chk1209 v200 v343), ∀ a x, ((![v200, v343] : Fin 2 → IVec S16 32) a x).toNat < S128x128.size a := fun v200 v343 k2_hw1209 => k2_hw1209

def k2_chk1210 (v219 : IVec S16 32) (v350 : IVec S16 32) : Prop :=
  (∀ a x, ((![v219, v350] : Fin 2 → IVec S16 32) a x).toNat < S128x128.size a)
theorem k2_idx1210_inb : ∀ (v219 : IVec S16 32) (v350 : IVec S16 32) (k2_hw1210 : k2_chk1210 v219 v350), ∀ a x, ((![v219, v350] : Fin 2 → IVec S16 32) a x).toNat < S128x128.size a := fun v219 v350 k2_hw1210 => k2_hw1210

def k2_chk1211 (v238 : IVec S16 32) (v357 : IVec S16 32) : Prop :=
  (∀ a x, ((![v238, v357] : Fin 2 → IVec S16 32) a x).toNat < S128x128.size a)
theorem k2_idx1211_inb : ∀ (v238 : IVec S16 32) (v357 : IVec S16 32) (k2_hw1211 : k2_chk1211 v238 v357), ∀ a x, ((![v238, v357] : Fin 2 → IVec S16 32) a x).toNat < S128x128.size a := fun v238 v357 k2_hw1211 => k2_hw1211

def k2_chk1212 (v257 : IVec S16 32) (v364 : IVec S16 32) : Prop :=
  (∀ a x, ((![v257, v364] : Fin 2 → IVec S16 32) a x).toNat < S128x128.size a)
theorem k2_idx1212_inb : ∀ (v257 : IVec S16 32) (v364 : IVec S16 32) (k2_hw1212 : k2_chk1212 v257 v364), ∀ a x, ((![v257, v364] : Fin 2 → IVec S16 32) a x).toNat < S128x128.size a := fun v257 v364 k2_hw1212 => k2_hw1212

def k2_chk1213 (v200 : IVec S16 32) (v383 : IVec S16 32) : Prop :=
  (∀ a x, ((![v200, v383] : Fin 2 → IVec S16 32) a x).toNat < S128x128.size a)
theorem k2_idx1213_inb : ∀ (v200 : IVec S16 32) (v383 : IVec S16 32) (k2_hw1213 : k2_chk1213 v200 v383), ∀ a x, ((![v200, v383] : Fin 2 → IVec S16 32) a x).toNat < S128x128.size a := fun v200 v383 k2_hw1213 => k2_hw1213

def k2_chk1214 (v219 : IVec S16 32) (v390 : IVec S16 32) : Prop :=
  (∀ a x, ((![v219, v390] : Fin 2 → IVec S16 32) a x).toNat < S128x128.size a)
theorem k2_idx1214_inb : ∀ (v219 : IVec S16 32) (v390 : IVec S16 32) (k2_hw1214 : k2_chk1214 v219 v390), ∀ a x, ((![v219, v390] : Fin 2 → IVec S16 32) a x).toNat < S128x128.size a := fun v219 v390 k2_hw1214 => k2_hw1214

def k2_chk1215 (v238 : IVec S16 32) (v397 : IVec S16 32) : Prop :=
  (∀ a x, ((![v238, v397] : Fin 2 → IVec S16 32) a x).toNat < S128x128.size a)
theorem k2_idx1215_inb : ∀ (v238 : IVec S16 32) (v397 : IVec S16 32) (k2_hw1215 : k2_chk1215 v238 v397), ∀ a x, ((![v238, v397] : Fin 2 → IVec S16 32) a x).toNat < S128x128.size a := fun v238 v397 k2_hw1215 => k2_hw1215

def k2_chk1216 (v257 : IVec S16 32) (v404 : IVec S16 32) : Prop :=
  (∀ a x, ((![v257, v404] : Fin 2 → IVec S16 32) a x).toNat < S128x128.size a)
theorem k2_idx1216_inb : ∀ (v257 : IVec S16 32) (v404 : IVec S16 32) (k2_hw1216 : k2_chk1216 v257 v404), ∀ a x, ((![v257, v404] : Fin 2 → IVec S16 32) a x).toNat < S128x128.size a := fun v257 v404 k2_hw1216 => k2_hw1216

def k2_chk1217 (v200 : IVec S16 32) (v425 : IVec S16 32) : Prop :=
  (∀ a x, ((![v200, v425] : Fin 2 → IVec S16 32) a x).toNat < S128x18.size a)
theorem k2_idx1217_inb : ∀ (v200 : IVec S16 32) (v425 : IVec S16 32) (k2_hw1217 : k2_chk1217 v200 v425), ∀ a x, ((![v200, v425] : Fin 2 → IVec S16 32) a x).toNat < S128x18.size a := fun v200 v425 k2_hw1217 => k2_hw1217

def k2_chk1218 (v200 : IVec S16 32) (v431 : IVec S16 32) : Prop :=
  (∀ a x, ((![v200, v431] : Fin 2 → IVec S16 32) a x).toNat < S128x18.size a)
theorem k2_idx1218_inb : ∀ (v200 : IVec S16 32) (v431 : IVec S16 32) (k2_hw1218 : k2_chk1218 v200 v431), ∀ a x, ((![v200, v431] : Fin 2 → IVec S16 32) a x).toNat < S128x18.size a := fun v200 v431 k2_hw1218 => k2_hw1218

def k2_chk1219 (v200 : IVec S16 32) (v437 : IVec S16 32) : Prop :=
  (∀ a x, ((![v200, v437] : Fin 2 → IVec S16 32) a x).toNat < S128x18.size a)
theorem k2_idx1219_inb : ∀ (v200 : IVec S16 32) (v437 : IVec S16 32) (k2_hw1219 : k2_chk1219 v200 v437), ∀ a x, ((![v200, v437] : Fin 2 → IVec S16 32) a x).toNat < S128x18.size a := fun v200 v437 k2_hw1219 => k2_hw1219

def k2_chk1220 (v200 : IVec S16 32) (v443 : IVec S16 32) : Prop :=
  (∀ a x, ((![v200, v443] : Fin 2 → IVec S16 32) a x).toNat < S128x18.size a)
theorem k2_idx1220_inb : ∀ (v200 : IVec S16 32) (v443 : IVec S16 32) (k2_hw1220 : k2_chk1220 v200 v443), ∀ a x, ((![v200, v443] : Fin 2 → IVec S16 32) a x).toNat < S128x18.size a := fun v200 v443 k2_hw1220 => k2_hw1220

def k2_chk1221 (v200 : IVec S16 32) (v449 : IVec S16 32) : Prop :=
  (∀ a x, ((![v200, v449] : Fin 2 → IVec S16 32) a x).toNat < S128x18.size a)
theorem k2_idx1221_inb : ∀ (v200 : IVec S16 32) (v449 : IVec S16 32) (k2_hw1221 : k2_chk1221 v200 v449), ∀ a x, ((![v200, v449] : Fin 2 → IVec S16 32) a x).toNat < S128x18.size a := fun v200 v449 k2_hw1221 => k2_hw1221

def k2_chk1222 (v200 : IVec S16 32) (v455 : IVec S16 32) : Prop :=
  (∀ a x, ((![v200, v455] : Fin 2 → IVec S16 32) a x).toNat < S128x18.size a)
theorem k2_idx1222_inb : ∀ (v200 : IVec S16 32) (v455 : IVec S16 32) (k2_hw1222 : k2_chk1222 v200 v455), ∀ a x, ((![v200, v455] : Fin 2 → IVec S16 32) a x).toNat < S128x18.size a := fun v200 v455 k2_hw1222 => k2_hw1222

def k2_chk1223 (v200 : IVec S16 32) (v461 : IVec S16 32) : Prop :=
  (∀ a x, ((![v200, v461] : Fin 2 → IVec S16 32) a x).toNat < S128x18.size a)
theorem k2_idx1223_inb : ∀ (v200 : IVec S16 32) (v461 : IVec S16 32) (k2_hw1223 : k2_chk1223 v200 v461), ∀ a x, ((![v200, v461] : Fin 2 → IVec S16 32) a x).toNat < S128x18.size a := fun v200 v461 k2_hw1223 => k2_hw1223

def k2_chk1224 (v200 : IVec S16 32) (v467 : IVec S16 32) : Prop :=
  (∀ a x, ((![v200, v467] : Fin 2 → IVec S16 32) a x).toNat < S128x18.size a)
theorem k2_idx1224_inb : ∀ (v200 : IVec S16 32) (v467 : IVec S16 32) (k2_hw1224 : k2_chk1224 v200 v467), ∀ a x, ((![v200, v467] : Fin 2 → IVec S16 32) a x).toNat < S128x18.size a := fun v200 v467 k2_hw1224 => k2_hw1224

def k2_chk1225 (v200 : IVec S16 32) (v473 : IVec S16 32) : Prop :=
  (∀ a x, ((![v200, v473] : Fin 2 → IVec S16 32) a x).toNat < S128x18.size a)
theorem k2_idx1225_inb : ∀ (v200 : IVec S16 32) (v473 : IVec S16 32) (k2_hw1225 : k2_chk1225 v200 v473), ∀ a x, ((![v200, v473] : Fin 2 → IVec S16 32) a x).toNat < S128x18.size a := fun v200 v473 k2_hw1225 => k2_hw1225

def k2_chk1226 (v200 : IVec S16 32) (v479 : IVec S16 32) : Prop :=
  (∀ a x, ((![v200, v479] : Fin 2 → IVec S16 32) a x).toNat < S128x18.size a)
theorem k2_idx1226_inb : ∀ (v200 : IVec S16 32) (v479 : IVec S16 32) (k2_hw1226 : k2_chk1226 v200 v479), ∀ a x, ((![v200, v479] : Fin 2 → IVec S16 32) a x).toNat < S128x18.size a := fun v200 v479 k2_hw1226 => k2_hw1226

def k2_chk1227 (v200 : IVec S16 32) (v485 : IVec S16 32) : Prop :=
  (∀ a x, ((![v200, v485] : Fin 2 → IVec S16 32) a x).toNat < S128x18.size a)
theorem k2_idx1227_inb : ∀ (v200 : IVec S16 32) (v485 : IVec S16 32) (k2_hw1227 : k2_chk1227 v200 v485), ∀ a x, ((![v200, v485] : Fin 2 → IVec S16 32) a x).toNat < S128x18.size a := fun v200 v485 k2_hw1227 => k2_hw1227

def k2_chk1228 (v200 : IVec S16 32) (v491 : IVec S16 32) : Prop :=
  (∀ a x, ((![v200, v491] : Fin 2 → IVec S16 32) a x).toNat < S128x18.size a)
theorem k2_idx1228_inb : ∀ (v200 : IVec S16 32) (v491 : IVec S16 32) (k2_hw1228 : k2_chk1228 v200 v491), ∀ a x, ((![v200, v491] : Fin 2 → IVec S16 32) a x).toNat < S128x18.size a := fun v200 v491 k2_hw1228 => k2_hw1228

def k2_chk1229 (v200 : IVec S16 32) (v497 : IVec S16 32) : Prop :=
  (∀ a x, ((![v200, v497] : Fin 2 → IVec S16 32) a x).toNat < S128x18.size a)
theorem k2_idx1229_inb : ∀ (v200 : IVec S16 32) (v497 : IVec S16 32) (k2_hw1229 : k2_chk1229 v200 v497), ∀ a x, ((![v200, v497] : Fin 2 → IVec S16 32) a x).toNat < S128x18.size a := fun v200 v497 k2_hw1229 => k2_hw1229

def k2_chk1230 (v200 : IVec S16 32) (v503 : IVec S16 32) : Prop :=
  (∀ a x, ((![v200, v503] : Fin 2 → IVec S16 32) a x).toNat < S128x18.size a)
theorem k2_idx1230_inb : ∀ (v200 : IVec S16 32) (v503 : IVec S16 32) (k2_hw1230 : k2_chk1230 v200 v503), ∀ a x, ((![v200, v503] : Fin 2 → IVec S16 32) a x).toNat < S128x18.size a := fun v200 v503 k2_hw1230 => k2_hw1230

def k2_chk1231 (v200 : IVec S16 32) (v509 : IVec S16 32) : Prop :=
  (∀ a x, ((![v200, v509] : Fin 2 → IVec S16 32) a x).toNat < S128x18.size a)
theorem k2_idx1231_inb : ∀ (v200 : IVec S16 32) (v509 : IVec S16 32) (k2_hw1231 : k2_chk1231 v200 v509), ∀ a x, ((![v200, v509] : Fin 2 → IVec S16 32) a x).toNat < S128x18.size a := fun v200 v509 k2_hw1231 => k2_hw1231

def k2_chk1232 (v200 : IVec S16 32) (v515 : IVec S16 32) : Prop :=
  (∀ a x, ((![v200, v515] : Fin 2 → IVec S16 32) a x).toNat < S128x18.size a)
theorem k2_idx1232_inb : ∀ (v200 : IVec S16 32) (v515 : IVec S16 32) (k2_hw1232 : k2_chk1232 v200 v515), ∀ a x, ((![v200, v515] : Fin 2 → IVec S16 32) a x).toNat < S128x18.size a := fun v200 v515 k2_hw1232 => k2_hw1232

def k2_chk1233 (v200 : IVec S16 32) (v521 : IVec S16 32) : Prop :=
  (∀ a x, ((![v200, v521] : Fin 2 → IVec S16 32) a x).toNat < S128x18.size a)
theorem k2_idx1233_inb : ∀ (v200 : IVec S16 32) (v521 : IVec S16 32) (k2_hw1233 : k2_chk1233 v200 v521), ∀ a x, ((![v200, v521] : Fin 2 → IVec S16 32) a x).toNat < S128x18.size a := fun v200 v521 k2_hw1233 => k2_hw1233

def k2_chk1234 (v200 : IVec S16 32) (v527 : IVec S16 32) : Prop :=
  (∀ a x, ((![v200, v527] : Fin 2 → IVec S16 32) a x).toNat < S128x18.size a)
theorem k2_idx1234_inb : ∀ (v200 : IVec S16 32) (v527 : IVec S16 32) (k2_hw1234 : k2_chk1234 v200 v527), ∀ a x, ((![v200, v527] : Fin 2 → IVec S16 32) a x).toNat < S128x18.size a := fun v200 v527 k2_hw1234 => k2_hw1234

def k2_chk1235 (v219 : IVec S16 32) (v535 : IVec S16 32) : Prop :=
  (∀ a x, ((![v219, v535] : Fin 2 → IVec S16 32) a x).toNat < S128x18.size a)
theorem k2_idx1235_inb : ∀ (v219 : IVec S16 32) (v535 : IVec S16 32) (k2_hw1235 : k2_chk1235 v219 v535), ∀ a x, ((![v219, v535] : Fin 2 → IVec S16 32) a x).toNat < S128x18.size a := fun v219 v535 k2_hw1235 => k2_hw1235

def k2_chk1236 (v219 : IVec S16 32) (v541 : IVec S16 32) : Prop :=
  (∀ a x, ((![v219, v541] : Fin 2 → IVec S16 32) a x).toNat < S128x18.size a)
theorem k2_idx1236_inb : ∀ (v219 : IVec S16 32) (v541 : IVec S16 32) (k2_hw1236 : k2_chk1236 v219 v541), ∀ a x, ((![v219, v541] : Fin 2 → IVec S16 32) a x).toNat < S128x18.size a := fun v219 v541 k2_hw1236 => k2_hw1236

def k2_chk1237 (v219 : IVec S16 32) (v547 : IVec S16 32) : Prop :=
  (∀ a x, ((![v219, v547] : Fin 2 → IVec S16 32) a x).toNat < S128x18.size a)
theorem k2_idx1237_inb : ∀ (v219 : IVec S16 32) (v547 : IVec S16 32) (k2_hw1237 : k2_chk1237 v219 v547), ∀ a x, ((![v219, v547] : Fin 2 → IVec S16 32) a x).toNat < S128x18.size a := fun v219 v547 k2_hw1237 => k2_hw1237

def k2_chk1238 (v219 : IVec S16 32) (v553 : IVec S16 32) : Prop :=
  (∀ a x, ((![v219, v553] : Fin 2 → IVec S16 32) a x).toNat < S128x18.size a)
theorem k2_idx1238_inb : ∀ (v219 : IVec S16 32) (v553 : IVec S16 32) (k2_hw1238 : k2_chk1238 v219 v553), ∀ a x, ((![v219, v553] : Fin 2 → IVec S16 32) a x).toNat < S128x18.size a := fun v219 v553 k2_hw1238 => k2_hw1238

def k2_chk1239 (v219 : IVec S16 32) (v559 : IVec S16 32) : Prop :=
  (∀ a x, ((![v219, v559] : Fin 2 → IVec S16 32) a x).toNat < S128x18.size a)
theorem k2_idx1239_inb : ∀ (v219 : IVec S16 32) (v559 : IVec S16 32) (k2_hw1239 : k2_chk1239 v219 v559), ∀ a x, ((![v219, v559] : Fin 2 → IVec S16 32) a x).toNat < S128x18.size a := fun v219 v559 k2_hw1239 => k2_hw1239

def k2_chk1240 (v219 : IVec S16 32) (v565 : IVec S16 32) : Prop :=
  (∀ a x, ((![v219, v565] : Fin 2 → IVec S16 32) a x).toNat < S128x18.size a)
theorem k2_idx1240_inb : ∀ (v219 : IVec S16 32) (v565 : IVec S16 32) (k2_hw1240 : k2_chk1240 v219 v565), ∀ a x, ((![v219, v565] : Fin 2 → IVec S16 32) a x).toNat < S128x18.size a := fun v219 v565 k2_hw1240 => k2_hw1240

def k2_chk1241 (v219 : IVec S16 32) (v571 : IVec S16 32) : Prop :=
  (∀ a x, ((![v219, v571] : Fin 2 → IVec S16 32) a x).toNat < S128x18.size a)
theorem k2_idx1241_inb : ∀ (v219 : IVec S16 32) (v571 : IVec S16 32) (k2_hw1241 : k2_chk1241 v219 v571), ∀ a x, ((![v219, v571] : Fin 2 → IVec S16 32) a x).toNat < S128x18.size a := fun v219 v571 k2_hw1241 => k2_hw1241

def k2_chk1242 (v219 : IVec S16 32) (v577 : IVec S16 32) : Prop :=
  (∀ a x, ((![v219, v577] : Fin 2 → IVec S16 32) a x).toNat < S128x18.size a)
theorem k2_idx1242_inb : ∀ (v219 : IVec S16 32) (v577 : IVec S16 32) (k2_hw1242 : k2_chk1242 v219 v577), ∀ a x, ((![v219, v577] : Fin 2 → IVec S16 32) a x).toNat < S128x18.size a := fun v219 v577 k2_hw1242 => k2_hw1242

def k2_chk1243 (v219 : IVec S16 32) (v583 : IVec S16 32) : Prop :=
  (∀ a x, ((![v219, v583] : Fin 2 → IVec S16 32) a x).toNat < S128x18.size a)
theorem k2_idx1243_inb : ∀ (v219 : IVec S16 32) (v583 : IVec S16 32) (k2_hw1243 : k2_chk1243 v219 v583), ∀ a x, ((![v219, v583] : Fin 2 → IVec S16 32) a x).toNat < S128x18.size a := fun v219 v583 k2_hw1243 => k2_hw1243

def k2_chk1244 (v219 : IVec S16 32) (v589 : IVec S16 32) : Prop :=
  (∀ a x, ((![v219, v589] : Fin 2 → IVec S16 32) a x).toNat < S128x18.size a)
theorem k2_idx1244_inb : ∀ (v219 : IVec S16 32) (v589 : IVec S16 32) (k2_hw1244 : k2_chk1244 v219 v589), ∀ a x, ((![v219, v589] : Fin 2 → IVec S16 32) a x).toNat < S128x18.size a := fun v219 v589 k2_hw1244 => k2_hw1244

def k2_chk1245 (v219 : IVec S16 32) (v595 : IVec S16 32) : Prop :=
  (∀ a x, ((![v219, v595] : Fin 2 → IVec S16 32) a x).toNat < S128x18.size a)
theorem k2_idx1245_inb : ∀ (v219 : IVec S16 32) (v595 : IVec S16 32) (k2_hw1245 : k2_chk1245 v219 v595), ∀ a x, ((![v219, v595] : Fin 2 → IVec S16 32) a x).toNat < S128x18.size a := fun v219 v595 k2_hw1245 => k2_hw1245

def k2_chk1246 (v219 : IVec S16 32) (v601 : IVec S16 32) : Prop :=
  (∀ a x, ((![v219, v601] : Fin 2 → IVec S16 32) a x).toNat < S128x18.size a)
theorem k2_idx1246_inb : ∀ (v219 : IVec S16 32) (v601 : IVec S16 32) (k2_hw1246 : k2_chk1246 v219 v601), ∀ a x, ((![v219, v601] : Fin 2 → IVec S16 32) a x).toNat < S128x18.size a := fun v219 v601 k2_hw1246 => k2_hw1246

def k2_chk1247 (v219 : IVec S16 32) (v607 : IVec S16 32) : Prop :=
  (∀ a x, ((![v219, v607] : Fin 2 → IVec S16 32) a x).toNat < S128x18.size a)
theorem k2_idx1247_inb : ∀ (v219 : IVec S16 32) (v607 : IVec S16 32) (k2_hw1247 : k2_chk1247 v219 v607), ∀ a x, ((![v219, v607] : Fin 2 → IVec S16 32) a x).toNat < S128x18.size a := fun v219 v607 k2_hw1247 => k2_hw1247

def k2_chk1248 (v219 : IVec S16 32) (v613 : IVec S16 32) : Prop :=
  (∀ a x, ((![v219, v613] : Fin 2 → IVec S16 32) a x).toNat < S128x18.size a)
theorem k2_idx1248_inb : ∀ (v219 : IVec S16 32) (v613 : IVec S16 32) (k2_hw1248 : k2_chk1248 v219 v613), ∀ a x, ((![v219, v613] : Fin 2 → IVec S16 32) a x).toNat < S128x18.size a := fun v219 v613 k2_hw1248 => k2_hw1248

def k2_chk1249 (v219 : IVec S16 32) (v619 : IVec S16 32) : Prop :=
  (∀ a x, ((![v219, v619] : Fin 2 → IVec S16 32) a x).toNat < S128x18.size a)
theorem k2_idx1249_inb : ∀ (v219 : IVec S16 32) (v619 : IVec S16 32) (k2_hw1249 : k2_chk1249 v219 v619), ∀ a x, ((![v219, v619] : Fin 2 → IVec S16 32) a x).toNat < S128x18.size a := fun v219 v619 k2_hw1249 => k2_hw1249

def k2_chk1250 (v219 : IVec S16 32) (v625 : IVec S16 32) : Prop :=
  (∀ a x, ((![v219, v625] : Fin 2 → IVec S16 32) a x).toNat < S128x18.size a)
theorem k2_idx1250_inb : ∀ (v219 : IVec S16 32) (v625 : IVec S16 32) (k2_hw1250 : k2_chk1250 v219 v625), ∀ a x, ((![v219, v625] : Fin 2 → IVec S16 32) a x).toNat < S128x18.size a := fun v219 v625 k2_hw1250 => k2_hw1250

def k2_chk1251 (v219 : IVec S16 32) (v631 : IVec S16 32) : Prop :=
  (∀ a x, ((![v219, v631] : Fin 2 → IVec S16 32) a x).toNat < S128x18.size a)
theorem k2_idx1251_inb : ∀ (v219 : IVec S16 32) (v631 : IVec S16 32) (k2_hw1251 : k2_chk1251 v219 v631), ∀ a x, ((![v219, v631] : Fin 2 → IVec S16 32) a x).toNat < S128x18.size a := fun v219 v631 k2_hw1251 => k2_hw1251

def k2_chk1252 (v219 : IVec S16 32) (v637 : IVec S16 32) : Prop :=
  (∀ a x, ((![v219, v637] : Fin 2 → IVec S16 32) a x).toNat < S128x18.size a)
theorem k2_idx1252_inb : ∀ (v219 : IVec S16 32) (v637 : IVec S16 32) (k2_hw1252 : k2_chk1252 v219 v637), ∀ a x, ((![v219, v637] : Fin 2 → IVec S16 32) a x).toNat < S128x18.size a := fun v219 v637 k2_hw1252 => k2_hw1252

def k2_chk1253 (v238 : IVec S16 32) (v645 : IVec S16 32) : Prop :=
  (∀ a x, ((![v238, v645] : Fin 2 → IVec S16 32) a x).toNat < S128x18.size a)
theorem k2_idx1253_inb : ∀ (v238 : IVec S16 32) (v645 : IVec S16 32) (k2_hw1253 : k2_chk1253 v238 v645), ∀ a x, ((![v238, v645] : Fin 2 → IVec S16 32) a x).toNat < S128x18.size a := fun v238 v645 k2_hw1253 => k2_hw1253

def k2_chk1254 (v238 : IVec S16 32) (v651 : IVec S16 32) : Prop :=
  (∀ a x, ((![v238, v651] : Fin 2 → IVec S16 32) a x).toNat < S128x18.size a)
theorem k2_idx1254_inb : ∀ (v238 : IVec S16 32) (v651 : IVec S16 32) (k2_hw1254 : k2_chk1254 v238 v651), ∀ a x, ((![v238, v651] : Fin 2 → IVec S16 32) a x).toNat < S128x18.size a := fun v238 v651 k2_hw1254 => k2_hw1254

def k2_chk1255 (v238 : IVec S16 32) (v657 : IVec S16 32) : Prop :=
  (∀ a x, ((![v238, v657] : Fin 2 → IVec S16 32) a x).toNat < S128x18.size a)
theorem k2_idx1255_inb : ∀ (v238 : IVec S16 32) (v657 : IVec S16 32) (k2_hw1255 : k2_chk1255 v238 v657), ∀ a x, ((![v238, v657] : Fin 2 → IVec S16 32) a x).toNat < S128x18.size a := fun v238 v657 k2_hw1255 => k2_hw1255

def k2_chk1256 (v238 : IVec S16 32) (v663 : IVec S16 32) : Prop :=
  (∀ a x, ((![v238, v663] : Fin 2 → IVec S16 32) a x).toNat < S128x18.size a)
theorem k2_idx1256_inb : ∀ (v238 : IVec S16 32) (v663 : IVec S16 32) (k2_hw1256 : k2_chk1256 v238 v663), ∀ a x, ((![v238, v663] : Fin 2 → IVec S16 32) a x).toNat < S128x18.size a := fun v238 v663 k2_hw1256 => k2_hw1256

def k2_chk1257 (v238 : IVec S16 32) (v669 : IVec S16 32) : Prop :=
  (∀ a x, ((![v238, v669] : Fin 2 → IVec S16 32) a x).toNat < S128x18.size a)
theorem k2_idx1257_inb : ∀ (v238 : IVec S16 32) (v669 : IVec S16 32) (k2_hw1257 : k2_chk1257 v238 v669), ∀ a x, ((![v238, v669] : Fin 2 → IVec S16 32) a x).toNat < S128x18.size a := fun v238 v669 k2_hw1257 => k2_hw1257

def k2_chk1258 (v238 : IVec S16 32) (v675 : IVec S16 32) : Prop :=
  (∀ a x, ((![v238, v675] : Fin 2 → IVec S16 32) a x).toNat < S128x18.size a)
theorem k2_idx1258_inb : ∀ (v238 : IVec S16 32) (v675 : IVec S16 32) (k2_hw1258 : k2_chk1258 v238 v675), ∀ a x, ((![v238, v675] : Fin 2 → IVec S16 32) a x).toNat < S128x18.size a := fun v238 v675 k2_hw1258 => k2_hw1258

def k2_chk1259 (v238 : IVec S16 32) (v681 : IVec S16 32) : Prop :=
  (∀ a x, ((![v238, v681] : Fin 2 → IVec S16 32) a x).toNat < S128x18.size a)
theorem k2_idx1259_inb : ∀ (v238 : IVec S16 32) (v681 : IVec S16 32) (k2_hw1259 : k2_chk1259 v238 v681), ∀ a x, ((![v238, v681] : Fin 2 → IVec S16 32) a x).toNat < S128x18.size a := fun v238 v681 k2_hw1259 => k2_hw1259

def k2_chk1260 (v238 : IVec S16 32) (v687 : IVec S16 32) : Prop :=
  (∀ a x, ((![v238, v687] : Fin 2 → IVec S16 32) a x).toNat < S128x18.size a)
theorem k2_idx1260_inb : ∀ (v238 : IVec S16 32) (v687 : IVec S16 32) (k2_hw1260 : k2_chk1260 v238 v687), ∀ a x, ((![v238, v687] : Fin 2 → IVec S16 32) a x).toNat < S128x18.size a := fun v238 v687 k2_hw1260 => k2_hw1260

def k2_chk1261 (v238 : IVec S16 32) (v693 : IVec S16 32) : Prop :=
  (∀ a x, ((![v238, v693] : Fin 2 → IVec S16 32) a x).toNat < S128x18.size a)
theorem k2_idx1261_inb : ∀ (v238 : IVec S16 32) (v693 : IVec S16 32) (k2_hw1261 : k2_chk1261 v238 v693), ∀ a x, ((![v238, v693] : Fin 2 → IVec S16 32) a x).toNat < S128x18.size a := fun v238 v693 k2_hw1261 => k2_hw1261

def k2_chk1262 (v238 : IVec S16 32) (v699 : IVec S16 32) : Prop :=
  (∀ a x, ((![v238, v699] : Fin 2 → IVec S16 32) a x).toNat < S128x18.size a)
theorem k2_idx1262_inb : ∀ (v238 : IVec S16 32) (v699 : IVec S16 32) (k2_hw1262 : k2_chk1262 v238 v699), ∀ a x, ((![v238, v699] : Fin 2 → IVec S16 32) a x).toNat < S128x18.size a := fun v238 v699 k2_hw1262 => k2_hw1262

def k2_chk1263 (v238 : IVec S16 32) (v705 : IVec S16 32) : Prop :=
  (∀ a x, ((![v238, v705] : Fin 2 → IVec S16 32) a x).toNat < S128x18.size a)
theorem k2_idx1263_inb : ∀ (v238 : IVec S16 32) (v705 : IVec S16 32) (k2_hw1263 : k2_chk1263 v238 v705), ∀ a x, ((![v238, v705] : Fin 2 → IVec S16 32) a x).toNat < S128x18.size a := fun v238 v705 k2_hw1263 => k2_hw1263

def k2_chk1264 (v238 : IVec S16 32) (v711 : IVec S16 32) : Prop :=
  (∀ a x, ((![v238, v711] : Fin 2 → IVec S16 32) a x).toNat < S128x18.size a)
theorem k2_idx1264_inb : ∀ (v238 : IVec S16 32) (v711 : IVec S16 32) (k2_hw1264 : k2_chk1264 v238 v711), ∀ a x, ((![v238, v711] : Fin 2 → IVec S16 32) a x).toNat < S128x18.size a := fun v238 v711 k2_hw1264 => k2_hw1264

def k2_chk1265 (v238 : IVec S16 32) (v717 : IVec S16 32) : Prop :=
  (∀ a x, ((![v238, v717] : Fin 2 → IVec S16 32) a x).toNat < S128x18.size a)
theorem k2_idx1265_inb : ∀ (v238 : IVec S16 32) (v717 : IVec S16 32) (k2_hw1265 : k2_chk1265 v238 v717), ∀ a x, ((![v238, v717] : Fin 2 → IVec S16 32) a x).toNat < S128x18.size a := fun v238 v717 k2_hw1265 => k2_hw1265

def k2_chk1266 (v238 : IVec S16 32) (v723 : IVec S16 32) : Prop :=
  (∀ a x, ((![v238, v723] : Fin 2 → IVec S16 32) a x).toNat < S128x18.size a)
theorem k2_idx1266_inb : ∀ (v238 : IVec S16 32) (v723 : IVec S16 32) (k2_hw1266 : k2_chk1266 v238 v723), ∀ a x, ((![v238, v723] : Fin 2 → IVec S16 32) a x).toNat < S128x18.size a := fun v238 v723 k2_hw1266 => k2_hw1266

def k2_chk1267 (v238 : IVec S16 32) (v729 : IVec S16 32) : Prop :=
  (∀ a x, ((![v238, v729] : Fin 2 → IVec S16 32) a x).toNat < S128x18.size a)
theorem k2_idx1267_inb : ∀ (v238 : IVec S16 32) (v729 : IVec S16 32) (k2_hw1267 : k2_chk1267 v238 v729), ∀ a x, ((![v238, v729] : Fin 2 → IVec S16 32) a x).toNat < S128x18.size a := fun v238 v729 k2_hw1267 => k2_hw1267

def k2_chk1268 (v238 : IVec S16 32) (v735 : IVec S16 32) : Prop :=
  (∀ a x, ((![v238, v735] : Fin 2 → IVec S16 32) a x).toNat < S128x18.size a)
theorem k2_idx1268_inb : ∀ (v238 : IVec S16 32) (v735 : IVec S16 32) (k2_hw1268 : k2_chk1268 v238 v735), ∀ a x, ((![v238, v735] : Fin 2 → IVec S16 32) a x).toNat < S128x18.size a := fun v238 v735 k2_hw1268 => k2_hw1268

def k2_chk1269 (v238 : IVec S16 32) (v741 : IVec S16 32) : Prop :=
  (∀ a x, ((![v238, v741] : Fin 2 → IVec S16 32) a x).toNat < S128x18.size a)
theorem k2_idx1269_inb : ∀ (v238 : IVec S16 32) (v741 : IVec S16 32) (k2_hw1269 : k2_chk1269 v238 v741), ∀ a x, ((![v238, v741] : Fin 2 → IVec S16 32) a x).toNat < S128x18.size a := fun v238 v741 k2_hw1269 => k2_hw1269

def k2_chk1270 (v238 : IVec S16 32) (v747 : IVec S16 32) : Prop :=
  (∀ a x, ((![v238, v747] : Fin 2 → IVec S16 32) a x).toNat < S128x18.size a)
theorem k2_idx1270_inb : ∀ (v238 : IVec S16 32) (v747 : IVec S16 32) (k2_hw1270 : k2_chk1270 v238 v747), ∀ a x, ((![v238, v747] : Fin 2 → IVec S16 32) a x).toNat < S128x18.size a := fun v238 v747 k2_hw1270 => k2_hw1270

def k2_chk1271 (v257 : IVec S16 32) (v755 : IVec S16 32) : Prop :=
  (∀ a x, ((![v257, v755] : Fin 2 → IVec S16 32) a x).toNat < S128x18.size a)
theorem k2_idx1271_inb : ∀ (v257 : IVec S16 32) (v755 : IVec S16 32) (k2_hw1271 : k2_chk1271 v257 v755), ∀ a x, ((![v257, v755] : Fin 2 → IVec S16 32) a x).toNat < S128x18.size a := fun v257 v755 k2_hw1271 => k2_hw1271

def k2_chk1272 (v257 : IVec S16 32) (v761 : IVec S16 32) : Prop :=
  (∀ a x, ((![v257, v761] : Fin 2 → IVec S16 32) a x).toNat < S128x18.size a)
theorem k2_idx1272_inb : ∀ (v257 : IVec S16 32) (v761 : IVec S16 32) (k2_hw1272 : k2_chk1272 v257 v761), ∀ a x, ((![v257, v761] : Fin 2 → IVec S16 32) a x).toNat < S128x18.size a := fun v257 v761 k2_hw1272 => k2_hw1272

def k2_chk1273 (v257 : IVec S16 32) (v767 : IVec S16 32) : Prop :=
  (∀ a x, ((![v257, v767] : Fin 2 → IVec S16 32) a x).toNat < S128x18.size a)
theorem k2_idx1273_inb : ∀ (v257 : IVec S16 32) (v767 : IVec S16 32) (k2_hw1273 : k2_chk1273 v257 v767), ∀ a x, ((![v257, v767] : Fin 2 → IVec S16 32) a x).toNat < S128x18.size a := fun v257 v767 k2_hw1273 => k2_hw1273

def k2_chk1274 (v257 : IVec S16 32) (v773 : IVec S16 32) : Prop :=
  (∀ a x, ((![v257, v773] : Fin 2 → IVec S16 32) a x).toNat < S128x18.size a)
theorem k2_idx1274_inb : ∀ (v257 : IVec S16 32) (v773 : IVec S16 32) (k2_hw1274 : k2_chk1274 v257 v773), ∀ a x, ((![v257, v773] : Fin 2 → IVec S16 32) a x).toNat < S128x18.size a := fun v257 v773 k2_hw1274 => k2_hw1274

def k2_chk1275 (v257 : IVec S16 32) (v779 : IVec S16 32) : Prop :=
  (∀ a x, ((![v257, v779] : Fin 2 → IVec S16 32) a x).toNat < S128x18.size a)
theorem k2_idx1275_inb : ∀ (v257 : IVec S16 32) (v779 : IVec S16 32) (k2_hw1275 : k2_chk1275 v257 v779), ∀ a x, ((![v257, v779] : Fin 2 → IVec S16 32) a x).toNat < S128x18.size a := fun v257 v779 k2_hw1275 => k2_hw1275

def k2_chk1276 (v257 : IVec S16 32) (v785 : IVec S16 32) : Prop :=
  (∀ a x, ((![v257, v785] : Fin 2 → IVec S16 32) a x).toNat < S128x18.size a)
theorem k2_idx1276_inb : ∀ (v257 : IVec S16 32) (v785 : IVec S16 32) (k2_hw1276 : k2_chk1276 v257 v785), ∀ a x, ((![v257, v785] : Fin 2 → IVec S16 32) a x).toNat < S128x18.size a := fun v257 v785 k2_hw1276 => k2_hw1276

def k2_chk1277 (v257 : IVec S16 32) (v791 : IVec S16 32) : Prop :=
  (∀ a x, ((![v257, v791] : Fin 2 → IVec S16 32) a x).toNat < S128x18.size a)
theorem k2_idx1277_inb : ∀ (v257 : IVec S16 32) (v791 : IVec S16 32) (k2_hw1277 : k2_chk1277 v257 v791), ∀ a x, ((![v257, v791] : Fin 2 → IVec S16 32) a x).toNat < S128x18.size a := fun v257 v791 k2_hw1277 => k2_hw1277

def k2_chk1278 (v257 : IVec S16 32) (v797 : IVec S16 32) : Prop :=
  (∀ a x, ((![v257, v797] : Fin 2 → IVec S16 32) a x).toNat < S128x18.size a)
theorem k2_idx1278_inb : ∀ (v257 : IVec S16 32) (v797 : IVec S16 32) (k2_hw1278 : k2_chk1278 v257 v797), ∀ a x, ((![v257, v797] : Fin 2 → IVec S16 32) a x).toNat < S128x18.size a := fun v257 v797 k2_hw1278 => k2_hw1278

def k2_chk1279 (v257 : IVec S16 32) (v803 : IVec S16 32) : Prop :=
  (∀ a x, ((![v257, v803] : Fin 2 → IVec S16 32) a x).toNat < S128x18.size a)
theorem k2_idx1279_inb : ∀ (v257 : IVec S16 32) (v803 : IVec S16 32) (k2_hw1279 : k2_chk1279 v257 v803), ∀ a x, ((![v257, v803] : Fin 2 → IVec S16 32) a x).toNat < S128x18.size a := fun v257 v803 k2_hw1279 => k2_hw1279

def k2_chk1280 (v257 : IVec S16 32) (v809 : IVec S16 32) : Prop :=
  (∀ a x, ((![v257, v809] : Fin 2 → IVec S16 32) a x).toNat < S128x18.size a)
theorem k2_idx1280_inb : ∀ (v257 : IVec S16 32) (v809 : IVec S16 32) (k2_hw1280 : k2_chk1280 v257 v809), ∀ a x, ((![v257, v809] : Fin 2 → IVec S16 32) a x).toNat < S128x18.size a := fun v257 v809 k2_hw1280 => k2_hw1280

def k2_chk1281 (v257 : IVec S16 32) (v815 : IVec S16 32) : Prop :=
  (∀ a x, ((![v257, v815] : Fin 2 → IVec S16 32) a x).toNat < S128x18.size a)
theorem k2_idx1281_inb : ∀ (v257 : IVec S16 32) (v815 : IVec S16 32) (k2_hw1281 : k2_chk1281 v257 v815), ∀ a x, ((![v257, v815] : Fin 2 → IVec S16 32) a x).toNat < S128x18.size a := fun v257 v815 k2_hw1281 => k2_hw1281

def k2_chk1282 (v257 : IVec S16 32) (v821 : IVec S16 32) : Prop :=
  (∀ a x, ((![v257, v821] : Fin 2 → IVec S16 32) a x).toNat < S128x18.size a)
theorem k2_idx1282_inb : ∀ (v257 : IVec S16 32) (v821 : IVec S16 32) (k2_hw1282 : k2_chk1282 v257 v821), ∀ a x, ((![v257, v821] : Fin 2 → IVec S16 32) a x).toNat < S128x18.size a := fun v257 v821 k2_hw1282 => k2_hw1282

def k2_chk1283 (v257 : IVec S16 32) (v827 : IVec S16 32) : Prop :=
  (∀ a x, ((![v257, v827] : Fin 2 → IVec S16 32) a x).toNat < S128x18.size a)
theorem k2_idx1283_inb : ∀ (v257 : IVec S16 32) (v827 : IVec S16 32) (k2_hw1283 : k2_chk1283 v257 v827), ∀ a x, ((![v257, v827] : Fin 2 → IVec S16 32) a x).toNat < S128x18.size a := fun v257 v827 k2_hw1283 => k2_hw1283

def k2_chk1284 (v257 : IVec S16 32) (v833 : IVec S16 32) : Prop :=
  (∀ a x, ((![v257, v833] : Fin 2 → IVec S16 32) a x).toNat < S128x18.size a)
theorem k2_idx1284_inb : ∀ (v257 : IVec S16 32) (v833 : IVec S16 32) (k2_hw1284 : k2_chk1284 v257 v833), ∀ a x, ((![v257, v833] : Fin 2 → IVec S16 32) a x).toNat < S128x18.size a := fun v257 v833 k2_hw1284 => k2_hw1284

def k2_chk1285 (v257 : IVec S16 32) (v839 : IVec S16 32) : Prop :=
  (∀ a x, ((![v257, v839] : Fin 2 → IVec S16 32) a x).toNat < S128x18.size a)
theorem k2_idx1285_inb : ∀ (v257 : IVec S16 32) (v839 : IVec S16 32) (k2_hw1285 : k2_chk1285 v257 v839), ∀ a x, ((![v257, v839] : Fin 2 → IVec S16 32) a x).toNat < S128x18.size a := fun v257 v839 k2_hw1285 => k2_hw1285

def k2_chk1286 (v257 : IVec S16 32) (v845 : IVec S16 32) : Prop :=
  (∀ a x, ((![v257, v845] : Fin 2 → IVec S16 32) a x).toNat < S128x18.size a)
theorem k2_idx1286_inb : ∀ (v257 : IVec S16 32) (v845 : IVec S16 32) (k2_hw1286 : k2_chk1286 v257 v845), ∀ a x, ((![v257, v845] : Fin 2 → IVec S16 32) a x).toNat < S128x18.size a := fun v257 v845 k2_hw1286 => k2_hw1286

def k2_chk1287 (v257 : IVec S16 32) (v851 : IVec S16 32) : Prop :=
  (∀ a x, ((![v257, v851] : Fin 2 → IVec S16 32) a x).toNat < S128x18.size a)
theorem k2_idx1287_inb : ∀ (v257 : IVec S16 32) (v851 : IVec S16 32) (k2_hw1287 : k2_chk1287 v257 v851), ∀ a x, ((![v257, v851] : Fin 2 → IVec S16 32) a x).toNat < S128x18.size a := fun v257 v851 k2_hw1287 => k2_hw1287

def k2_chk1288 (v257 : IVec S16 32) (v857 : IVec S16 32) : Prop :=
  (∀ a x, ((![v257, v857] : Fin 2 → IVec S16 32) a x).toNat < S128x18.size a)
theorem k2_idx1288_inb : ∀ (v257 : IVec S16 32) (v857 : IVec S16 32) (k2_hw1288 : k2_chk1288 v257 v857), ∀ a x, ((![v257, v857] : Fin 2 → IVec S16 32) a x).toNat < S128x18.size a := fun v257 v857 k2_hw1288 => k2_hw1288
@[reducible] def k2_t16_loop : Scf.Loop 32 :=
  let c0_i32_219 : BitVec 32 := 0#32
  let c2_i32_220 : BitVec 32 := 2#32
  let v164 : BitVec 32 := Scalar.addi c0_i32_219 c2_i32_220
  let c1_i32_221 : BitVec 32 := 1#32
  ⟨c0_i32_219, v164, c1_i32_221⟩
def k2_off20 (k2_t16 : Fin k2_t16_loop.trips) (c0_i32_243 : BitVec 32) : Fin 1 → Nat :=
  let c1792_i32_244 : BitVec 32 := 1792#32
  let c0_i32_219 : BitVec 32 := 0#32
  let c1_i32_221 : BitVec 32 := 1#32
  let arg18 : BitVec 32 := Scf.iv c0_i32_219 c1_i32_221 k2_t16
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c1792_i32_244 v184
  let v186 : Index := Scalar.indexCast v185
  ![v186.toNat]

def k2_chk1289 (v200 : IVec S16 32) (v263 : IVec S16 32) : Prop :=
  (∀ a x, ((![v200, v263] : Fin 2 → IVec S16 32) a x).toNat < S128x128.size a)
theorem k2_idx1289_inb : ∀ (v200 : IVec S16 32) (v263 : IVec S16 32) (k2_hw1289 : k2_chk1289 v200 v263), ∀ a x, ((![v200, v263] : Fin 2 → IVec S16 32) a x).toNat < S128x128.size a := fun v200 v263 k2_hw1289 => k2_hw1289

def k2_chk1290 (v219 : IVec S16 32) (v270 : IVec S16 32) : Prop :=
  (∀ a x, ((![v219, v270] : Fin 2 → IVec S16 32) a x).toNat < S128x128.size a)
theorem k2_idx1290_inb : ∀ (v219 : IVec S16 32) (v270 : IVec S16 32) (k2_hw1290 : k2_chk1290 v219 v270), ∀ a x, ((![v219, v270] : Fin 2 → IVec S16 32) a x).toNat < S128x128.size a := fun v219 v270 k2_hw1290 => k2_hw1290

def k2_chk1291 (v238 : IVec S16 32) (v277 : IVec S16 32) : Prop :=
  (∀ a x, ((![v238, v277] : Fin 2 → IVec S16 32) a x).toNat < S128x128.size a)
theorem k2_idx1291_inb : ∀ (v238 : IVec S16 32) (v277 : IVec S16 32) (k2_hw1291 : k2_chk1291 v238 v277), ∀ a x, ((![v238, v277] : Fin 2 → IVec S16 32) a x).toNat < S128x128.size a := fun v238 v277 k2_hw1291 => k2_hw1291

def k2_chk1292 (v257 : IVec S16 32) (v284 : IVec S16 32) : Prop :=
  (∀ a x, ((![v257, v284] : Fin 2 → IVec S16 32) a x).toNat < S128x128.size a)
theorem k2_idx1292_inb : ∀ (v257 : IVec S16 32) (v284 : IVec S16 32) (k2_hw1292 : k2_chk1292 v257 v284), ∀ a x, ((![v257, v284] : Fin 2 → IVec S16 32) a x).toNat < S128x128.size a := fun v257 v284 k2_hw1292 => k2_hw1292

def k2_chk1293 (v200 : IVec S16 32) (v303 : IVec S16 32) : Prop :=
  (∀ a x, ((![v200, v303] : Fin 2 → IVec S16 32) a x).toNat < S128x128.size a)
theorem k2_idx1293_inb : ∀ (v200 : IVec S16 32) (v303 : IVec S16 32) (k2_hw1293 : k2_chk1293 v200 v303), ∀ a x, ((![v200, v303] : Fin 2 → IVec S16 32) a x).toNat < S128x128.size a := fun v200 v303 k2_hw1293 => k2_hw1293

def k2_chk1294 (v219 : IVec S16 32) (v310 : IVec S16 32) : Prop :=
  (∀ a x, ((![v219, v310] : Fin 2 → IVec S16 32) a x).toNat < S128x128.size a)
theorem k2_idx1294_inb : ∀ (v219 : IVec S16 32) (v310 : IVec S16 32) (k2_hw1294 : k2_chk1294 v219 v310), ∀ a x, ((![v219, v310] : Fin 2 → IVec S16 32) a x).toNat < S128x128.size a := fun v219 v310 k2_hw1294 => k2_hw1294

def k2_chk1295 (v238 : IVec S16 32) (v317 : IVec S16 32) : Prop :=
  (∀ a x, ((![v238, v317] : Fin 2 → IVec S16 32) a x).toNat < S128x128.size a)
theorem k2_idx1295_inb : ∀ (v238 : IVec S16 32) (v317 : IVec S16 32) (k2_hw1295 : k2_chk1295 v238 v317), ∀ a x, ((![v238, v317] : Fin 2 → IVec S16 32) a x).toNat < S128x128.size a := fun v238 v317 k2_hw1295 => k2_hw1295

def k2_chk1296 (v257 : IVec S16 32) (v324 : IVec S16 32) : Prop :=
  (∀ a x, ((![v257, v324] : Fin 2 → IVec S16 32) a x).toNat < S128x128.size a)
theorem k2_idx1296_inb : ∀ (v257 : IVec S16 32) (v324 : IVec S16 32) (k2_hw1296 : k2_chk1296 v257 v324), ∀ a x, ((![v257, v324] : Fin 2 → IVec S16 32) a x).toNat < S128x128.size a := fun v257 v324 k2_hw1296 => k2_hw1296

def k2_chk1297 (v200 : IVec S16 32) (v343 : IVec S16 32) : Prop :=
  (∀ a x, ((![v200, v343] : Fin 2 → IVec S16 32) a x).toNat < S128x128.size a)
theorem k2_idx1297_inb : ∀ (v200 : IVec S16 32) (v343 : IVec S16 32) (k2_hw1297 : k2_chk1297 v200 v343), ∀ a x, ((![v200, v343] : Fin 2 → IVec S16 32) a x).toNat < S128x128.size a := fun v200 v343 k2_hw1297 => k2_hw1297

def k2_chk1298 (v219 : IVec S16 32) (v350 : IVec S16 32) : Prop :=
  (∀ a x, ((![v219, v350] : Fin 2 → IVec S16 32) a x).toNat < S128x128.size a)
theorem k2_idx1298_inb : ∀ (v219 : IVec S16 32) (v350 : IVec S16 32) (k2_hw1298 : k2_chk1298 v219 v350), ∀ a x, ((![v219, v350] : Fin 2 → IVec S16 32) a x).toNat < S128x128.size a := fun v219 v350 k2_hw1298 => k2_hw1298

def k2_chk1299 (v238 : IVec S16 32) (v357 : IVec S16 32) : Prop :=
  (∀ a x, ((![v238, v357] : Fin 2 → IVec S16 32) a x).toNat < S128x128.size a)
theorem k2_idx1299_inb : ∀ (v238 : IVec S16 32) (v357 : IVec S16 32) (k2_hw1299 : k2_chk1299 v238 v357), ∀ a x, ((![v238, v357] : Fin 2 → IVec S16 32) a x).toNat < S128x128.size a := fun v238 v357 k2_hw1299 => k2_hw1299

def k2_chk1300 (v257 : IVec S16 32) (v364 : IVec S16 32) : Prop :=
  (∀ a x, ((![v257, v364] : Fin 2 → IVec S16 32) a x).toNat < S128x128.size a)
theorem k2_idx1300_inb : ∀ (v257 : IVec S16 32) (v364 : IVec S16 32) (k2_hw1300 : k2_chk1300 v257 v364), ∀ a x, ((![v257, v364] : Fin 2 → IVec S16 32) a x).toNat < S128x128.size a := fun v257 v364 k2_hw1300 => k2_hw1300

def k2_chk1301 (v200 : IVec S16 32) (v383 : IVec S16 32) : Prop :=
  (∀ a x, ((![v200, v383] : Fin 2 → IVec S16 32) a x).toNat < S128x128.size a)
theorem k2_idx1301_inb : ∀ (v200 : IVec S16 32) (v383 : IVec S16 32) (k2_hw1301 : k2_chk1301 v200 v383), ∀ a x, ((![v200, v383] : Fin 2 → IVec S16 32) a x).toNat < S128x128.size a := fun v200 v383 k2_hw1301 => k2_hw1301

def k2_chk1302 (v219 : IVec S16 32) (v390 : IVec S16 32) : Prop :=
  (∀ a x, ((![v219, v390] : Fin 2 → IVec S16 32) a x).toNat < S128x128.size a)
theorem k2_idx1302_inb : ∀ (v219 : IVec S16 32) (v390 : IVec S16 32) (k2_hw1302 : k2_chk1302 v219 v390), ∀ a x, ((![v219, v390] : Fin 2 → IVec S16 32) a x).toNat < S128x128.size a := fun v219 v390 k2_hw1302 => k2_hw1302

def k2_chk1303 (v238 : IVec S16 32) (v397 : IVec S16 32) : Prop :=
  (∀ a x, ((![v238, v397] : Fin 2 → IVec S16 32) a x).toNat < S128x128.size a)
theorem k2_idx1303_inb : ∀ (v238 : IVec S16 32) (v397 : IVec S16 32) (k2_hw1303 : k2_chk1303 v238 v397), ∀ a x, ((![v238, v397] : Fin 2 → IVec S16 32) a x).toNat < S128x128.size a := fun v238 v397 k2_hw1303 => k2_hw1303

def k2_chk1304 (v257 : IVec S16 32) (v404 : IVec S16 32) : Prop :=
  (∀ a x, ((![v257, v404] : Fin 2 → IVec S16 32) a x).toNat < S128x128.size a)
theorem k2_idx1304_inb : ∀ (v257 : IVec S16 32) (v404 : IVec S16 32) (k2_hw1304 : k2_chk1304 v257 v404), ∀ a x, ((![v257, v404] : Fin 2 → IVec S16 32) a x).toNat < S128x128.size a := fun v257 v404 k2_hw1304 => k2_hw1304

def k2_chk1305 (v200 : IVec S16 32) (v425 : IVec S16 32) : Prop :=
  (∀ a x, ((![v200, v425] : Fin 2 → IVec S16 32) a x).toNat < S128x18.size a)
theorem k2_idx1305_inb : ∀ (v200 : IVec S16 32) (v425 : IVec S16 32) (k2_hw1305 : k2_chk1305 v200 v425), ∀ a x, ((![v200, v425] : Fin 2 → IVec S16 32) a x).toNat < S128x18.size a := fun v200 v425 k2_hw1305 => k2_hw1305

def k2_chk1306 (v200 : IVec S16 32) (v431 : IVec S16 32) : Prop :=
  (∀ a x, ((![v200, v431] : Fin 2 → IVec S16 32) a x).toNat < S128x18.size a)
theorem k2_idx1306_inb : ∀ (v200 : IVec S16 32) (v431 : IVec S16 32) (k2_hw1306 : k2_chk1306 v200 v431), ∀ a x, ((![v200, v431] : Fin 2 → IVec S16 32) a x).toNat < S128x18.size a := fun v200 v431 k2_hw1306 => k2_hw1306

def k2_chk1307 (v200 : IVec S16 32) (v437 : IVec S16 32) : Prop :=
  (∀ a x, ((![v200, v437] : Fin 2 → IVec S16 32) a x).toNat < S128x18.size a)
theorem k2_idx1307_inb : ∀ (v200 : IVec S16 32) (v437 : IVec S16 32) (k2_hw1307 : k2_chk1307 v200 v437), ∀ a x, ((![v200, v437] : Fin 2 → IVec S16 32) a x).toNat < S128x18.size a := fun v200 v437 k2_hw1307 => k2_hw1307

def k2_chk1308 (v200 : IVec S16 32) (v443 : IVec S16 32) : Prop :=
  (∀ a x, ((![v200, v443] : Fin 2 → IVec S16 32) a x).toNat < S128x18.size a)
theorem k2_idx1308_inb : ∀ (v200 : IVec S16 32) (v443 : IVec S16 32) (k2_hw1308 : k2_chk1308 v200 v443), ∀ a x, ((![v200, v443] : Fin 2 → IVec S16 32) a x).toNat < S128x18.size a := fun v200 v443 k2_hw1308 => k2_hw1308

def k2_chk1309 (v200 : IVec S16 32) (v449 : IVec S16 32) : Prop :=
  (∀ a x, ((![v200, v449] : Fin 2 → IVec S16 32) a x).toNat < S128x18.size a)
theorem k2_idx1309_inb : ∀ (v200 : IVec S16 32) (v449 : IVec S16 32) (k2_hw1309 : k2_chk1309 v200 v449), ∀ a x, ((![v200, v449] : Fin 2 → IVec S16 32) a x).toNat < S128x18.size a := fun v200 v449 k2_hw1309 => k2_hw1309

def k2_chk1310 (v200 : IVec S16 32) (v455 : IVec S16 32) : Prop :=
  (∀ a x, ((![v200, v455] : Fin 2 → IVec S16 32) a x).toNat < S128x18.size a)
theorem k2_idx1310_inb : ∀ (v200 : IVec S16 32) (v455 : IVec S16 32) (k2_hw1310 : k2_chk1310 v200 v455), ∀ a x, ((![v200, v455] : Fin 2 → IVec S16 32) a x).toNat < S128x18.size a := fun v200 v455 k2_hw1310 => k2_hw1310

def k2_chk1311 (v200 : IVec S16 32) (v461 : IVec S16 32) : Prop :=
  (∀ a x, ((![v200, v461] : Fin 2 → IVec S16 32) a x).toNat < S128x18.size a)
theorem k2_idx1311_inb : ∀ (v200 : IVec S16 32) (v461 : IVec S16 32) (k2_hw1311 : k2_chk1311 v200 v461), ∀ a x, ((![v200, v461] : Fin 2 → IVec S16 32) a x).toNat < S128x18.size a := fun v200 v461 k2_hw1311 => k2_hw1311

def k2_chk1312 (v200 : IVec S16 32) (v467 : IVec S16 32) : Prop :=
  (∀ a x, ((![v200, v467] : Fin 2 → IVec S16 32) a x).toNat < S128x18.size a)
theorem k2_idx1312_inb : ∀ (v200 : IVec S16 32) (v467 : IVec S16 32) (k2_hw1312 : k2_chk1312 v200 v467), ∀ a x, ((![v200, v467] : Fin 2 → IVec S16 32) a x).toNat < S128x18.size a := fun v200 v467 k2_hw1312 => k2_hw1312

def k2_chk1313 (v200 : IVec S16 32) (v473 : IVec S16 32) : Prop :=
  (∀ a x, ((![v200, v473] : Fin 2 → IVec S16 32) a x).toNat < S128x18.size a)
theorem k2_idx1313_inb : ∀ (v200 : IVec S16 32) (v473 : IVec S16 32) (k2_hw1313 : k2_chk1313 v200 v473), ∀ a x, ((![v200, v473] : Fin 2 → IVec S16 32) a x).toNat < S128x18.size a := fun v200 v473 k2_hw1313 => k2_hw1313

def k2_chk1314 (v200 : IVec S16 32) (v479 : IVec S16 32) : Prop :=
  (∀ a x, ((![v200, v479] : Fin 2 → IVec S16 32) a x).toNat < S128x18.size a)
theorem k2_idx1314_inb : ∀ (v200 : IVec S16 32) (v479 : IVec S16 32) (k2_hw1314 : k2_chk1314 v200 v479), ∀ a x, ((![v200, v479] : Fin 2 → IVec S16 32) a x).toNat < S128x18.size a := fun v200 v479 k2_hw1314 => k2_hw1314

def k2_chk1315 (v200 : IVec S16 32) (v485 : IVec S16 32) : Prop :=
  (∀ a x, ((![v200, v485] : Fin 2 → IVec S16 32) a x).toNat < S128x18.size a)
theorem k2_idx1315_inb : ∀ (v200 : IVec S16 32) (v485 : IVec S16 32) (k2_hw1315 : k2_chk1315 v200 v485), ∀ a x, ((![v200, v485] : Fin 2 → IVec S16 32) a x).toNat < S128x18.size a := fun v200 v485 k2_hw1315 => k2_hw1315

def k2_chk1316 (v200 : IVec S16 32) (v491 : IVec S16 32) : Prop :=
  (∀ a x, ((![v200, v491] : Fin 2 → IVec S16 32) a x).toNat < S128x18.size a)
theorem k2_idx1316_inb : ∀ (v200 : IVec S16 32) (v491 : IVec S16 32) (k2_hw1316 : k2_chk1316 v200 v491), ∀ a x, ((![v200, v491] : Fin 2 → IVec S16 32) a x).toNat < S128x18.size a := fun v200 v491 k2_hw1316 => k2_hw1316

def k2_chk1317 (v200 : IVec S16 32) (v497 : IVec S16 32) : Prop :=
  (∀ a x, ((![v200, v497] : Fin 2 → IVec S16 32) a x).toNat < S128x18.size a)
theorem k2_idx1317_inb : ∀ (v200 : IVec S16 32) (v497 : IVec S16 32) (k2_hw1317 : k2_chk1317 v200 v497), ∀ a x, ((![v200, v497] : Fin 2 → IVec S16 32) a x).toNat < S128x18.size a := fun v200 v497 k2_hw1317 => k2_hw1317

def k2_chk1318 (v200 : IVec S16 32) (v503 : IVec S16 32) : Prop :=
  (∀ a x, ((![v200, v503] : Fin 2 → IVec S16 32) a x).toNat < S128x18.size a)
theorem k2_idx1318_inb : ∀ (v200 : IVec S16 32) (v503 : IVec S16 32) (k2_hw1318 : k2_chk1318 v200 v503), ∀ a x, ((![v200, v503] : Fin 2 → IVec S16 32) a x).toNat < S128x18.size a := fun v200 v503 k2_hw1318 => k2_hw1318

def k2_chk1319 (v200 : IVec S16 32) (v509 : IVec S16 32) : Prop :=
  (∀ a x, ((![v200, v509] : Fin 2 → IVec S16 32) a x).toNat < S128x18.size a)
theorem k2_idx1319_inb : ∀ (v200 : IVec S16 32) (v509 : IVec S16 32) (k2_hw1319 : k2_chk1319 v200 v509), ∀ a x, ((![v200, v509] : Fin 2 → IVec S16 32) a x).toNat < S128x18.size a := fun v200 v509 k2_hw1319 => k2_hw1319

def k2_chk1320 (v200 : IVec S16 32) (v515 : IVec S16 32) : Prop :=
  (∀ a x, ((![v200, v515] : Fin 2 → IVec S16 32) a x).toNat < S128x18.size a)
theorem k2_idx1320_inb : ∀ (v200 : IVec S16 32) (v515 : IVec S16 32) (k2_hw1320 : k2_chk1320 v200 v515), ∀ a x, ((![v200, v515] : Fin 2 → IVec S16 32) a x).toNat < S128x18.size a := fun v200 v515 k2_hw1320 => k2_hw1320

def k2_chk1321 (v200 : IVec S16 32) (v521 : IVec S16 32) : Prop :=
  (∀ a x, ((![v200, v521] : Fin 2 → IVec S16 32) a x).toNat < S128x18.size a)
theorem k2_idx1321_inb : ∀ (v200 : IVec S16 32) (v521 : IVec S16 32) (k2_hw1321 : k2_chk1321 v200 v521), ∀ a x, ((![v200, v521] : Fin 2 → IVec S16 32) a x).toNat < S128x18.size a := fun v200 v521 k2_hw1321 => k2_hw1321

def k2_chk1322 (v200 : IVec S16 32) (v527 : IVec S16 32) : Prop :=
  (∀ a x, ((![v200, v527] : Fin 2 → IVec S16 32) a x).toNat < S128x18.size a)
theorem k2_idx1322_inb : ∀ (v200 : IVec S16 32) (v527 : IVec S16 32) (k2_hw1322 : k2_chk1322 v200 v527), ∀ a x, ((![v200, v527] : Fin 2 → IVec S16 32) a x).toNat < S128x18.size a := fun v200 v527 k2_hw1322 => k2_hw1322

def k2_chk1323 (v219 : IVec S16 32) (v535 : IVec S16 32) : Prop :=
  (∀ a x, ((![v219, v535] : Fin 2 → IVec S16 32) a x).toNat < S128x18.size a)
theorem k2_idx1323_inb : ∀ (v219 : IVec S16 32) (v535 : IVec S16 32) (k2_hw1323 : k2_chk1323 v219 v535), ∀ a x, ((![v219, v535] : Fin 2 → IVec S16 32) a x).toNat < S128x18.size a := fun v219 v535 k2_hw1323 => k2_hw1323

def k2_chk1324 (v219 : IVec S16 32) (v541 : IVec S16 32) : Prop :=
  (∀ a x, ((![v219, v541] : Fin 2 → IVec S16 32) a x).toNat < S128x18.size a)
theorem k2_idx1324_inb : ∀ (v219 : IVec S16 32) (v541 : IVec S16 32) (k2_hw1324 : k2_chk1324 v219 v541), ∀ a x, ((![v219, v541] : Fin 2 → IVec S16 32) a x).toNat < S128x18.size a := fun v219 v541 k2_hw1324 => k2_hw1324

def k2_chk1325 (v219 : IVec S16 32) (v547 : IVec S16 32) : Prop :=
  (∀ a x, ((![v219, v547] : Fin 2 → IVec S16 32) a x).toNat < S128x18.size a)
theorem k2_idx1325_inb : ∀ (v219 : IVec S16 32) (v547 : IVec S16 32) (k2_hw1325 : k2_chk1325 v219 v547), ∀ a x, ((![v219, v547] : Fin 2 → IVec S16 32) a x).toNat < S128x18.size a := fun v219 v547 k2_hw1325 => k2_hw1325

def k2_chk1326 (v219 : IVec S16 32) (v553 : IVec S16 32) : Prop :=
  (∀ a x, ((![v219, v553] : Fin 2 → IVec S16 32) a x).toNat < S128x18.size a)
theorem k2_idx1326_inb : ∀ (v219 : IVec S16 32) (v553 : IVec S16 32) (k2_hw1326 : k2_chk1326 v219 v553), ∀ a x, ((![v219, v553] : Fin 2 → IVec S16 32) a x).toNat < S128x18.size a := fun v219 v553 k2_hw1326 => k2_hw1326

def k2_chk1327 (v219 : IVec S16 32) (v559 : IVec S16 32) : Prop :=
  (∀ a x, ((![v219, v559] : Fin 2 → IVec S16 32) a x).toNat < S128x18.size a)
theorem k2_idx1327_inb : ∀ (v219 : IVec S16 32) (v559 : IVec S16 32) (k2_hw1327 : k2_chk1327 v219 v559), ∀ a x, ((![v219, v559] : Fin 2 → IVec S16 32) a x).toNat < S128x18.size a := fun v219 v559 k2_hw1327 => k2_hw1327

def k2_chk1328 (v219 : IVec S16 32) (v565 : IVec S16 32) : Prop :=
  (∀ a x, ((![v219, v565] : Fin 2 → IVec S16 32) a x).toNat < S128x18.size a)
theorem k2_idx1328_inb : ∀ (v219 : IVec S16 32) (v565 : IVec S16 32) (k2_hw1328 : k2_chk1328 v219 v565), ∀ a x, ((![v219, v565] : Fin 2 → IVec S16 32) a x).toNat < S128x18.size a := fun v219 v565 k2_hw1328 => k2_hw1328

def k2_chk1329 (v219 : IVec S16 32) (v571 : IVec S16 32) : Prop :=
  (∀ a x, ((![v219, v571] : Fin 2 → IVec S16 32) a x).toNat < S128x18.size a)
theorem k2_idx1329_inb : ∀ (v219 : IVec S16 32) (v571 : IVec S16 32) (k2_hw1329 : k2_chk1329 v219 v571), ∀ a x, ((![v219, v571] : Fin 2 → IVec S16 32) a x).toNat < S128x18.size a := fun v219 v571 k2_hw1329 => k2_hw1329

def k2_chk1330 (v219 : IVec S16 32) (v577 : IVec S16 32) : Prop :=
  (∀ a x, ((![v219, v577] : Fin 2 → IVec S16 32) a x).toNat < S128x18.size a)
theorem k2_idx1330_inb : ∀ (v219 : IVec S16 32) (v577 : IVec S16 32) (k2_hw1330 : k2_chk1330 v219 v577), ∀ a x, ((![v219, v577] : Fin 2 → IVec S16 32) a x).toNat < S128x18.size a := fun v219 v577 k2_hw1330 => k2_hw1330

def k2_chk1331 (v219 : IVec S16 32) (v583 : IVec S16 32) : Prop :=
  (∀ a x, ((![v219, v583] : Fin 2 → IVec S16 32) a x).toNat < S128x18.size a)
theorem k2_idx1331_inb : ∀ (v219 : IVec S16 32) (v583 : IVec S16 32) (k2_hw1331 : k2_chk1331 v219 v583), ∀ a x, ((![v219, v583] : Fin 2 → IVec S16 32) a x).toNat < S128x18.size a := fun v219 v583 k2_hw1331 => k2_hw1331

def k2_chk1332 (v219 : IVec S16 32) (v589 : IVec S16 32) : Prop :=
  (∀ a x, ((![v219, v589] : Fin 2 → IVec S16 32) a x).toNat < S128x18.size a)
theorem k2_idx1332_inb : ∀ (v219 : IVec S16 32) (v589 : IVec S16 32) (k2_hw1332 : k2_chk1332 v219 v589), ∀ a x, ((![v219, v589] : Fin 2 → IVec S16 32) a x).toNat < S128x18.size a := fun v219 v589 k2_hw1332 => k2_hw1332

def k2_chk1333 (v219 : IVec S16 32) (v595 : IVec S16 32) : Prop :=
  (∀ a x, ((![v219, v595] : Fin 2 → IVec S16 32) a x).toNat < S128x18.size a)
theorem k2_idx1333_inb : ∀ (v219 : IVec S16 32) (v595 : IVec S16 32) (k2_hw1333 : k2_chk1333 v219 v595), ∀ a x, ((![v219, v595] : Fin 2 → IVec S16 32) a x).toNat < S128x18.size a := fun v219 v595 k2_hw1333 => k2_hw1333

def k2_chk1334 (v219 : IVec S16 32) (v601 : IVec S16 32) : Prop :=
  (∀ a x, ((![v219, v601] : Fin 2 → IVec S16 32) a x).toNat < S128x18.size a)
theorem k2_idx1334_inb : ∀ (v219 : IVec S16 32) (v601 : IVec S16 32) (k2_hw1334 : k2_chk1334 v219 v601), ∀ a x, ((![v219, v601] : Fin 2 → IVec S16 32) a x).toNat < S128x18.size a := fun v219 v601 k2_hw1334 => k2_hw1334

def k2_chk1335 (v219 : IVec S16 32) (v607 : IVec S16 32) : Prop :=
  (∀ a x, ((![v219, v607] : Fin 2 → IVec S16 32) a x).toNat < S128x18.size a)
theorem k2_idx1335_inb : ∀ (v219 : IVec S16 32) (v607 : IVec S16 32) (k2_hw1335 : k2_chk1335 v219 v607), ∀ a x, ((![v219, v607] : Fin 2 → IVec S16 32) a x).toNat < S128x18.size a := fun v219 v607 k2_hw1335 => k2_hw1335

def k2_chk1336 (v219 : IVec S16 32) (v613 : IVec S16 32) : Prop :=
  (∀ a x, ((![v219, v613] : Fin 2 → IVec S16 32) a x).toNat < S128x18.size a)
theorem k2_idx1336_inb : ∀ (v219 : IVec S16 32) (v613 : IVec S16 32) (k2_hw1336 : k2_chk1336 v219 v613), ∀ a x, ((![v219, v613] : Fin 2 → IVec S16 32) a x).toNat < S128x18.size a := fun v219 v613 k2_hw1336 => k2_hw1336

def k2_chk1337 (v219 : IVec S16 32) (v619 : IVec S16 32) : Prop :=
  (∀ a x, ((![v219, v619] : Fin 2 → IVec S16 32) a x).toNat < S128x18.size a)
theorem k2_idx1337_inb : ∀ (v219 : IVec S16 32) (v619 : IVec S16 32) (k2_hw1337 : k2_chk1337 v219 v619), ∀ a x, ((![v219, v619] : Fin 2 → IVec S16 32) a x).toNat < S128x18.size a := fun v219 v619 k2_hw1337 => k2_hw1337

def k2_chk1338 (v219 : IVec S16 32) (v625 : IVec S16 32) : Prop :=
  (∀ a x, ((![v219, v625] : Fin 2 → IVec S16 32) a x).toNat < S128x18.size a)
theorem k2_idx1338_inb : ∀ (v219 : IVec S16 32) (v625 : IVec S16 32) (k2_hw1338 : k2_chk1338 v219 v625), ∀ a x, ((![v219, v625] : Fin 2 → IVec S16 32) a x).toNat < S128x18.size a := fun v219 v625 k2_hw1338 => k2_hw1338

def k2_chk1339 (v219 : IVec S16 32) (v631 : IVec S16 32) : Prop :=
  (∀ a x, ((![v219, v631] : Fin 2 → IVec S16 32) a x).toNat < S128x18.size a)
theorem k2_idx1339_inb : ∀ (v219 : IVec S16 32) (v631 : IVec S16 32) (k2_hw1339 : k2_chk1339 v219 v631), ∀ a x, ((![v219, v631] : Fin 2 → IVec S16 32) a x).toNat < S128x18.size a := fun v219 v631 k2_hw1339 => k2_hw1339

def k2_chk1340 (v219 : IVec S16 32) (v637 : IVec S16 32) : Prop :=
  (∀ a x, ((![v219, v637] : Fin 2 → IVec S16 32) a x).toNat < S128x18.size a)
theorem k2_idx1340_inb : ∀ (v219 : IVec S16 32) (v637 : IVec S16 32) (k2_hw1340 : k2_chk1340 v219 v637), ∀ a x, ((![v219, v637] : Fin 2 → IVec S16 32) a x).toNat < S128x18.size a := fun v219 v637 k2_hw1340 => k2_hw1340

def k2_chk1341 (v238 : IVec S16 32) (v645 : IVec S16 32) : Prop :=
  (∀ a x, ((![v238, v645] : Fin 2 → IVec S16 32) a x).toNat < S128x18.size a)
theorem k2_idx1341_inb : ∀ (v238 : IVec S16 32) (v645 : IVec S16 32) (k2_hw1341 : k2_chk1341 v238 v645), ∀ a x, ((![v238, v645] : Fin 2 → IVec S16 32) a x).toNat < S128x18.size a := fun v238 v645 k2_hw1341 => k2_hw1341

def k2_chk1342 (v238 : IVec S16 32) (v651 : IVec S16 32) : Prop :=
  (∀ a x, ((![v238, v651] : Fin 2 → IVec S16 32) a x).toNat < S128x18.size a)
theorem k2_idx1342_inb : ∀ (v238 : IVec S16 32) (v651 : IVec S16 32) (k2_hw1342 : k2_chk1342 v238 v651), ∀ a x, ((![v238, v651] : Fin 2 → IVec S16 32) a x).toNat < S128x18.size a := fun v238 v651 k2_hw1342 => k2_hw1342

def k2_chk1343 (v238 : IVec S16 32) (v657 : IVec S16 32) : Prop :=
  (∀ a x, ((![v238, v657] : Fin 2 → IVec S16 32) a x).toNat < S128x18.size a)
theorem k2_idx1343_inb : ∀ (v238 : IVec S16 32) (v657 : IVec S16 32) (k2_hw1343 : k2_chk1343 v238 v657), ∀ a x, ((![v238, v657] : Fin 2 → IVec S16 32) a x).toNat < S128x18.size a := fun v238 v657 k2_hw1343 => k2_hw1343

def k2_chk1344 (v238 : IVec S16 32) (v663 : IVec S16 32) : Prop :=
  (∀ a x, ((![v238, v663] : Fin 2 → IVec S16 32) a x).toNat < S128x18.size a)
theorem k2_idx1344_inb : ∀ (v238 : IVec S16 32) (v663 : IVec S16 32) (k2_hw1344 : k2_chk1344 v238 v663), ∀ a x, ((![v238, v663] : Fin 2 → IVec S16 32) a x).toNat < S128x18.size a := fun v238 v663 k2_hw1344 => k2_hw1344

def k2_chk1345 (v238 : IVec S16 32) (v669 : IVec S16 32) : Prop :=
  (∀ a x, ((![v238, v669] : Fin 2 → IVec S16 32) a x).toNat < S128x18.size a)
theorem k2_idx1345_inb : ∀ (v238 : IVec S16 32) (v669 : IVec S16 32) (k2_hw1345 : k2_chk1345 v238 v669), ∀ a x, ((![v238, v669] : Fin 2 → IVec S16 32) a x).toNat < S128x18.size a := fun v238 v669 k2_hw1345 => k2_hw1345

def k2_chk1346 (v238 : IVec S16 32) (v675 : IVec S16 32) : Prop :=
  (∀ a x, ((![v238, v675] : Fin 2 → IVec S16 32) a x).toNat < S128x18.size a)
theorem k2_idx1346_inb : ∀ (v238 : IVec S16 32) (v675 : IVec S16 32) (k2_hw1346 : k2_chk1346 v238 v675), ∀ a x, ((![v238, v675] : Fin 2 → IVec S16 32) a x).toNat < S128x18.size a := fun v238 v675 k2_hw1346 => k2_hw1346

def k2_chk1347 (v238 : IVec S16 32) (v681 : IVec S16 32) : Prop :=
  (∀ a x, ((![v238, v681] : Fin 2 → IVec S16 32) a x).toNat < S128x18.size a)
theorem k2_idx1347_inb : ∀ (v238 : IVec S16 32) (v681 : IVec S16 32) (k2_hw1347 : k2_chk1347 v238 v681), ∀ a x, ((![v238, v681] : Fin 2 → IVec S16 32) a x).toNat < S128x18.size a := fun v238 v681 k2_hw1347 => k2_hw1347

def k2_chk1348 (v238 : IVec S16 32) (v687 : IVec S16 32) : Prop :=
  (∀ a x, ((![v238, v687] : Fin 2 → IVec S16 32) a x).toNat < S128x18.size a)
theorem k2_idx1348_inb : ∀ (v238 : IVec S16 32) (v687 : IVec S16 32) (k2_hw1348 : k2_chk1348 v238 v687), ∀ a x, ((![v238, v687] : Fin 2 → IVec S16 32) a x).toNat < S128x18.size a := fun v238 v687 k2_hw1348 => k2_hw1348

def k2_chk1349 (v238 : IVec S16 32) (v693 : IVec S16 32) : Prop :=
  (∀ a x, ((![v238, v693] : Fin 2 → IVec S16 32) a x).toNat < S128x18.size a)
theorem k2_idx1349_inb : ∀ (v238 : IVec S16 32) (v693 : IVec S16 32) (k2_hw1349 : k2_chk1349 v238 v693), ∀ a x, ((![v238, v693] : Fin 2 → IVec S16 32) a x).toNat < S128x18.size a := fun v238 v693 k2_hw1349 => k2_hw1349

def k2_chk1350 (v238 : IVec S16 32) (v699 : IVec S16 32) : Prop :=
  (∀ a x, ((![v238, v699] : Fin 2 → IVec S16 32) a x).toNat < S128x18.size a)
theorem k2_idx1350_inb : ∀ (v238 : IVec S16 32) (v699 : IVec S16 32) (k2_hw1350 : k2_chk1350 v238 v699), ∀ a x, ((![v238, v699] : Fin 2 → IVec S16 32) a x).toNat < S128x18.size a := fun v238 v699 k2_hw1350 => k2_hw1350

def k2_chk1351 (v238 : IVec S16 32) (v705 : IVec S16 32) : Prop :=
  (∀ a x, ((![v238, v705] : Fin 2 → IVec S16 32) a x).toNat < S128x18.size a)
theorem k2_idx1351_inb : ∀ (v238 : IVec S16 32) (v705 : IVec S16 32) (k2_hw1351 : k2_chk1351 v238 v705), ∀ a x, ((![v238, v705] : Fin 2 → IVec S16 32) a x).toNat < S128x18.size a := fun v238 v705 k2_hw1351 => k2_hw1351

def k2_chk1352 (v238 : IVec S16 32) (v711 : IVec S16 32) : Prop :=
  (∀ a x, ((![v238, v711] : Fin 2 → IVec S16 32) a x).toNat < S128x18.size a)
theorem k2_idx1352_inb : ∀ (v238 : IVec S16 32) (v711 : IVec S16 32) (k2_hw1352 : k2_chk1352 v238 v711), ∀ a x, ((![v238, v711] : Fin 2 → IVec S16 32) a x).toNat < S128x18.size a := fun v238 v711 k2_hw1352 => k2_hw1352

def k2_chk1353 (v238 : IVec S16 32) (v717 : IVec S16 32) : Prop :=
  (∀ a x, ((![v238, v717] : Fin 2 → IVec S16 32) a x).toNat < S128x18.size a)
theorem k2_idx1353_inb : ∀ (v238 : IVec S16 32) (v717 : IVec S16 32) (k2_hw1353 : k2_chk1353 v238 v717), ∀ a x, ((![v238, v717] : Fin 2 → IVec S16 32) a x).toNat < S128x18.size a := fun v238 v717 k2_hw1353 => k2_hw1353

def k2_chk1354 (v238 : IVec S16 32) (v723 : IVec S16 32) : Prop :=
  (∀ a x, ((![v238, v723] : Fin 2 → IVec S16 32) a x).toNat < S128x18.size a)
theorem k2_idx1354_inb : ∀ (v238 : IVec S16 32) (v723 : IVec S16 32) (k2_hw1354 : k2_chk1354 v238 v723), ∀ a x, ((![v238, v723] : Fin 2 → IVec S16 32) a x).toNat < S128x18.size a := fun v238 v723 k2_hw1354 => k2_hw1354

def k2_chk1355 (v238 : IVec S16 32) (v729 : IVec S16 32) : Prop :=
  (∀ a x, ((![v238, v729] : Fin 2 → IVec S16 32) a x).toNat < S128x18.size a)
theorem k2_idx1355_inb : ∀ (v238 : IVec S16 32) (v729 : IVec S16 32) (k2_hw1355 : k2_chk1355 v238 v729), ∀ a x, ((![v238, v729] : Fin 2 → IVec S16 32) a x).toNat < S128x18.size a := fun v238 v729 k2_hw1355 => k2_hw1355

def k2_chk1356 (v238 : IVec S16 32) (v735 : IVec S16 32) : Prop :=
  (∀ a x, ((![v238, v735] : Fin 2 → IVec S16 32) a x).toNat < S128x18.size a)
theorem k2_idx1356_inb : ∀ (v238 : IVec S16 32) (v735 : IVec S16 32) (k2_hw1356 : k2_chk1356 v238 v735), ∀ a x, ((![v238, v735] : Fin 2 → IVec S16 32) a x).toNat < S128x18.size a := fun v238 v735 k2_hw1356 => k2_hw1356

def k2_chk1357 (v238 : IVec S16 32) (v741 : IVec S16 32) : Prop :=
  (∀ a x, ((![v238, v741] : Fin 2 → IVec S16 32) a x).toNat < S128x18.size a)
theorem k2_idx1357_inb : ∀ (v238 : IVec S16 32) (v741 : IVec S16 32) (k2_hw1357 : k2_chk1357 v238 v741), ∀ a x, ((![v238, v741] : Fin 2 → IVec S16 32) a x).toNat < S128x18.size a := fun v238 v741 k2_hw1357 => k2_hw1357

def k2_chk1358 (v238 : IVec S16 32) (v747 : IVec S16 32) : Prop :=
  (∀ a x, ((![v238, v747] : Fin 2 → IVec S16 32) a x).toNat < S128x18.size a)
theorem k2_idx1358_inb : ∀ (v238 : IVec S16 32) (v747 : IVec S16 32) (k2_hw1358 : k2_chk1358 v238 v747), ∀ a x, ((![v238, v747] : Fin 2 → IVec S16 32) a x).toNat < S128x18.size a := fun v238 v747 k2_hw1358 => k2_hw1358

def k2_chk1359 (v257 : IVec S16 32) (v755 : IVec S16 32) : Prop :=
  (∀ a x, ((![v257, v755] : Fin 2 → IVec S16 32) a x).toNat < S128x18.size a)
theorem k2_idx1359_inb : ∀ (v257 : IVec S16 32) (v755 : IVec S16 32) (k2_hw1359 : k2_chk1359 v257 v755), ∀ a x, ((![v257, v755] : Fin 2 → IVec S16 32) a x).toNat < S128x18.size a := fun v257 v755 k2_hw1359 => k2_hw1359

def k2_chk1360 (v257 : IVec S16 32) (v761 : IVec S16 32) : Prop :=
  (∀ a x, ((![v257, v761] : Fin 2 → IVec S16 32) a x).toNat < S128x18.size a)
theorem k2_idx1360_inb : ∀ (v257 : IVec S16 32) (v761 : IVec S16 32) (k2_hw1360 : k2_chk1360 v257 v761), ∀ a x, ((![v257, v761] : Fin 2 → IVec S16 32) a x).toNat < S128x18.size a := fun v257 v761 k2_hw1360 => k2_hw1360

def k2_chk1361 (v257 : IVec S16 32) (v767 : IVec S16 32) : Prop :=
  (∀ a x, ((![v257, v767] : Fin 2 → IVec S16 32) a x).toNat < S128x18.size a)
theorem k2_idx1361_inb : ∀ (v257 : IVec S16 32) (v767 : IVec S16 32) (k2_hw1361 : k2_chk1361 v257 v767), ∀ a x, ((![v257, v767] : Fin 2 → IVec S16 32) a x).toNat < S128x18.size a := fun v257 v767 k2_hw1361 => k2_hw1361

def k2_chk1362 (v257 : IVec S16 32) (v773 : IVec S16 32) : Prop :=
  (∀ a x, ((![v257, v773] : Fin 2 → IVec S16 32) a x).toNat < S128x18.size a)
theorem k2_idx1362_inb : ∀ (v257 : IVec S16 32) (v773 : IVec S16 32) (k2_hw1362 : k2_chk1362 v257 v773), ∀ a x, ((![v257, v773] : Fin 2 → IVec S16 32) a x).toNat < S128x18.size a := fun v257 v773 k2_hw1362 => k2_hw1362

def k2_chk1363 (v257 : IVec S16 32) (v779 : IVec S16 32) : Prop :=
  (∀ a x, ((![v257, v779] : Fin 2 → IVec S16 32) a x).toNat < S128x18.size a)
theorem k2_idx1363_inb : ∀ (v257 : IVec S16 32) (v779 : IVec S16 32) (k2_hw1363 : k2_chk1363 v257 v779), ∀ a x, ((![v257, v779] : Fin 2 → IVec S16 32) a x).toNat < S128x18.size a := fun v257 v779 k2_hw1363 => k2_hw1363

def k2_chk1364 (v257 : IVec S16 32) (v785 : IVec S16 32) : Prop :=
  (∀ a x, ((![v257, v785] : Fin 2 → IVec S16 32) a x).toNat < S128x18.size a)
theorem k2_idx1364_inb : ∀ (v257 : IVec S16 32) (v785 : IVec S16 32) (k2_hw1364 : k2_chk1364 v257 v785), ∀ a x, ((![v257, v785] : Fin 2 → IVec S16 32) a x).toNat < S128x18.size a := fun v257 v785 k2_hw1364 => k2_hw1364

def k2_chk1365 (v257 : IVec S16 32) (v791 : IVec S16 32) : Prop :=
  (∀ a x, ((![v257, v791] : Fin 2 → IVec S16 32) a x).toNat < S128x18.size a)
theorem k2_idx1365_inb : ∀ (v257 : IVec S16 32) (v791 : IVec S16 32) (k2_hw1365 : k2_chk1365 v257 v791), ∀ a x, ((![v257, v791] : Fin 2 → IVec S16 32) a x).toNat < S128x18.size a := fun v257 v791 k2_hw1365 => k2_hw1365

def k2_chk1366 (v257 : IVec S16 32) (v797 : IVec S16 32) : Prop :=
  (∀ a x, ((![v257, v797] : Fin 2 → IVec S16 32) a x).toNat < S128x18.size a)
theorem k2_idx1366_inb : ∀ (v257 : IVec S16 32) (v797 : IVec S16 32) (k2_hw1366 : k2_chk1366 v257 v797), ∀ a x, ((![v257, v797] : Fin 2 → IVec S16 32) a x).toNat < S128x18.size a := fun v257 v797 k2_hw1366 => k2_hw1366

def k2_chk1367 (v257 : IVec S16 32) (v803 : IVec S16 32) : Prop :=
  (∀ a x, ((![v257, v803] : Fin 2 → IVec S16 32) a x).toNat < S128x18.size a)
theorem k2_idx1367_inb : ∀ (v257 : IVec S16 32) (v803 : IVec S16 32) (k2_hw1367 : k2_chk1367 v257 v803), ∀ a x, ((![v257, v803] : Fin 2 → IVec S16 32) a x).toNat < S128x18.size a := fun v257 v803 k2_hw1367 => k2_hw1367

def k2_chk1368 (v257 : IVec S16 32) (v809 : IVec S16 32) : Prop :=
  (∀ a x, ((![v257, v809] : Fin 2 → IVec S16 32) a x).toNat < S128x18.size a)
theorem k2_idx1368_inb : ∀ (v257 : IVec S16 32) (v809 : IVec S16 32) (k2_hw1368 : k2_chk1368 v257 v809), ∀ a x, ((![v257, v809] : Fin 2 → IVec S16 32) a x).toNat < S128x18.size a := fun v257 v809 k2_hw1368 => k2_hw1368

def k2_chk1369 (v257 : IVec S16 32) (v815 : IVec S16 32) : Prop :=
  (∀ a x, ((![v257, v815] : Fin 2 → IVec S16 32) a x).toNat < S128x18.size a)
theorem k2_idx1369_inb : ∀ (v257 : IVec S16 32) (v815 : IVec S16 32) (k2_hw1369 : k2_chk1369 v257 v815), ∀ a x, ((![v257, v815] : Fin 2 → IVec S16 32) a x).toNat < S128x18.size a := fun v257 v815 k2_hw1369 => k2_hw1369

def k2_chk1370 (v257 : IVec S16 32) (v821 : IVec S16 32) : Prop :=
  (∀ a x, ((![v257, v821] : Fin 2 → IVec S16 32) a x).toNat < S128x18.size a)
theorem k2_idx1370_inb : ∀ (v257 : IVec S16 32) (v821 : IVec S16 32) (k2_hw1370 : k2_chk1370 v257 v821), ∀ a x, ((![v257, v821] : Fin 2 → IVec S16 32) a x).toNat < S128x18.size a := fun v257 v821 k2_hw1370 => k2_hw1370

def k2_chk1371 (v257 : IVec S16 32) (v827 : IVec S16 32) : Prop :=
  (∀ a x, ((![v257, v827] : Fin 2 → IVec S16 32) a x).toNat < S128x18.size a)
theorem k2_idx1371_inb : ∀ (v257 : IVec S16 32) (v827 : IVec S16 32) (k2_hw1371 : k2_chk1371 v257 v827), ∀ a x, ((![v257, v827] : Fin 2 → IVec S16 32) a x).toNat < S128x18.size a := fun v257 v827 k2_hw1371 => k2_hw1371

def k2_chk1372 (v257 : IVec S16 32) (v833 : IVec S16 32) : Prop :=
  (∀ a x, ((![v257, v833] : Fin 2 → IVec S16 32) a x).toNat < S128x18.size a)
theorem k2_idx1372_inb : ∀ (v257 : IVec S16 32) (v833 : IVec S16 32) (k2_hw1372 : k2_chk1372 v257 v833), ∀ a x, ((![v257, v833] : Fin 2 → IVec S16 32) a x).toNat < S128x18.size a := fun v257 v833 k2_hw1372 => k2_hw1372

def k2_chk1373 (v257 : IVec S16 32) (v839 : IVec S16 32) : Prop :=
  (∀ a x, ((![v257, v839] : Fin 2 → IVec S16 32) a x).toNat < S128x18.size a)
theorem k2_idx1373_inb : ∀ (v257 : IVec S16 32) (v839 : IVec S16 32) (k2_hw1373 : k2_chk1373 v257 v839), ∀ a x, ((![v257, v839] : Fin 2 → IVec S16 32) a x).toNat < S128x18.size a := fun v257 v839 k2_hw1373 => k2_hw1373

def k2_chk1374 (v257 : IVec S16 32) (v845 : IVec S16 32) : Prop :=
  (∀ a x, ((![v257, v845] : Fin 2 → IVec S16 32) a x).toNat < S128x18.size a)
theorem k2_idx1374_inb : ∀ (v257 : IVec S16 32) (v845 : IVec S16 32) (k2_hw1374 : k2_chk1374 v257 v845), ∀ a x, ((![v257, v845] : Fin 2 → IVec S16 32) a x).toNat < S128x18.size a := fun v257 v845 k2_hw1374 => k2_hw1374

def k2_chk1375 (v257 : IVec S16 32) (v851 : IVec S16 32) : Prop :=
  (∀ a x, ((![v257, v851] : Fin 2 → IVec S16 32) a x).toNat < S128x18.size a)
theorem k2_idx1375_inb : ∀ (v257 : IVec S16 32) (v851 : IVec S16 32) (k2_hw1375 : k2_chk1375 v257 v851), ∀ a x, ((![v257, v851] : Fin 2 → IVec S16 32) a x).toNat < S128x18.size a := fun v257 v851 k2_hw1375 => k2_hw1375

def k2_chk1376 (v257 : IVec S16 32) (v857 : IVec S16 32) : Prop :=
  (∀ a x, ((![v257, v857] : Fin 2 → IVec S16 32) a x).toNat < S128x18.size a)
theorem k2_idx1376_inb : ∀ (v257 : IVec S16 32) (v857 : IVec S16 32) (k2_hw1376 : k2_chk1376 v257 v857), ∀ a x, ((![v257, v857] : Fin 2 → IVec S16 32) a x).toNat < S128x18.size a := fun v257 v857 k2_hw1376 => k2_hw1376
@[reducible] def k2_t17_loop : Scf.Loop 32 :=
  let c0_i32_232 : BitVec 32 := 0#32
  let c2_i32_233 : BitVec 32 := 2#32
  let v173 : BitVec 32 := Scalar.addi c0_i32_232 c2_i32_233
  let c1_i32_234 : BitVec 32 := 1#32
  ⟨c0_i32_232, v173, c1_i32_234⟩
def k2_off21 (k2_t17 : Fin k2_t17_loop.trips) (c0_i32_243 : BitVec 32) : Fin 1 → Nat :=
  let c1920_i32_244 : BitVec 32 := 1920#32
  let c0_i32_232 : BitVec 32 := 0#32
  let c1_i32_234 : BitVec 32 := 1#32
  let arg18 : BitVec 32 := Scf.iv c0_i32_232 c1_i32_234 k2_t17
  let c4_i32 : BitVec 32 := 4#32
  let v182 : BitVec 32 := Scalar.muli arg18 c4_i32
  let v183 : BitVec 32 := Scalar.addi v182 c0_i32_243
  let c16_i32 : BitVec 32 := 16#32
  let v184 : BitVec 32 := Scalar.muli v183 c16_i32
  let v185 : BitVec 32 := Scalar.addi c1920_i32_244 v184
  let v186 : Index := Scalar.indexCast v185
  ![v186.toNat]

def k2_chk1377 (v200 : IVec S16 32) (v263 : IVec S16 32) : Prop :=
  (∀ a x, ((![v200, v263] : Fin 2 → IVec S16 32) a x).toNat < S128x128.size a)
theorem k2_idx1377_inb : ∀ (v200 : IVec S16 32) (v263 : IVec S16 32) (k2_hw1377 : k2_chk1377 v200 v263), ∀ a x, ((![v200, v263] : Fin 2 → IVec S16 32) a x).toNat < S128x128.size a := fun v200 v263 k2_hw1377 => k2_hw1377

def k2_chk1378 (v219 : IVec S16 32) (v270 : IVec S16 32) : Prop :=
  (∀ a x, ((![v219, v270] : Fin 2 → IVec S16 32) a x).toNat < S128x128.size a)
theorem k2_idx1378_inb : ∀ (v219 : IVec S16 32) (v270 : IVec S16 32) (k2_hw1378 : k2_chk1378 v219 v270), ∀ a x, ((![v219, v270] : Fin 2 → IVec S16 32) a x).toNat < S128x128.size a := fun v219 v270 k2_hw1378 => k2_hw1378

def k2_chk1379 (v238 : IVec S16 32) (v277 : IVec S16 32) : Prop :=
  (∀ a x, ((![v238, v277] : Fin 2 → IVec S16 32) a x).toNat < S128x128.size a)
theorem k2_idx1379_inb : ∀ (v238 : IVec S16 32) (v277 : IVec S16 32) (k2_hw1379 : k2_chk1379 v238 v277), ∀ a x, ((![v238, v277] : Fin 2 → IVec S16 32) a x).toNat < S128x128.size a := fun v238 v277 k2_hw1379 => k2_hw1379

def k2_chk1380 (v257 : IVec S16 32) (v284 : IVec S16 32) : Prop :=
  (∀ a x, ((![v257, v284] : Fin 2 → IVec S16 32) a x).toNat < S128x128.size a)
theorem k2_idx1380_inb : ∀ (v257 : IVec S16 32) (v284 : IVec S16 32) (k2_hw1380 : k2_chk1380 v257 v284), ∀ a x, ((![v257, v284] : Fin 2 → IVec S16 32) a x).toNat < S128x128.size a := fun v257 v284 k2_hw1380 => k2_hw1380

def k2_chk1381 (v200 : IVec S16 32) (v303 : IVec S16 32) : Prop :=
  (∀ a x, ((![v200, v303] : Fin 2 → IVec S16 32) a x).toNat < S128x128.size a)
theorem k2_idx1381_inb : ∀ (v200 : IVec S16 32) (v303 : IVec S16 32) (k2_hw1381 : k2_chk1381 v200 v303), ∀ a x, ((![v200, v303] : Fin 2 → IVec S16 32) a x).toNat < S128x128.size a := fun v200 v303 k2_hw1381 => k2_hw1381

def k2_chk1382 (v219 : IVec S16 32) (v310 : IVec S16 32) : Prop :=
  (∀ a x, ((![v219, v310] : Fin 2 → IVec S16 32) a x).toNat < S128x128.size a)
theorem k2_idx1382_inb : ∀ (v219 : IVec S16 32) (v310 : IVec S16 32) (k2_hw1382 : k2_chk1382 v219 v310), ∀ a x, ((![v219, v310] : Fin 2 → IVec S16 32) a x).toNat < S128x128.size a := fun v219 v310 k2_hw1382 => k2_hw1382

def k2_chk1383 (v238 : IVec S16 32) (v317 : IVec S16 32) : Prop :=
  (∀ a x, ((![v238, v317] : Fin 2 → IVec S16 32) a x).toNat < S128x128.size a)
theorem k2_idx1383_inb : ∀ (v238 : IVec S16 32) (v317 : IVec S16 32) (k2_hw1383 : k2_chk1383 v238 v317), ∀ a x, ((![v238, v317] : Fin 2 → IVec S16 32) a x).toNat < S128x128.size a := fun v238 v317 k2_hw1383 => k2_hw1383

def k2_chk1384 (v257 : IVec S16 32) (v324 : IVec S16 32) : Prop :=
  (∀ a x, ((![v257, v324] : Fin 2 → IVec S16 32) a x).toNat < S128x128.size a)
theorem k2_idx1384_inb : ∀ (v257 : IVec S16 32) (v324 : IVec S16 32) (k2_hw1384 : k2_chk1384 v257 v324), ∀ a x, ((![v257, v324] : Fin 2 → IVec S16 32) a x).toNat < S128x128.size a := fun v257 v324 k2_hw1384 => k2_hw1384

def k2_chk1385 (v200 : IVec S16 32) (v343 : IVec S16 32) : Prop :=
  (∀ a x, ((![v200, v343] : Fin 2 → IVec S16 32) a x).toNat < S128x128.size a)
theorem k2_idx1385_inb : ∀ (v200 : IVec S16 32) (v343 : IVec S16 32) (k2_hw1385 : k2_chk1385 v200 v343), ∀ a x, ((![v200, v343] : Fin 2 → IVec S16 32) a x).toNat < S128x128.size a := fun v200 v343 k2_hw1385 => k2_hw1385

def k2_chk1386 (v219 : IVec S16 32) (v350 : IVec S16 32) : Prop :=
  (∀ a x, ((![v219, v350] : Fin 2 → IVec S16 32) a x).toNat < S128x128.size a)
theorem k2_idx1386_inb : ∀ (v219 : IVec S16 32) (v350 : IVec S16 32) (k2_hw1386 : k2_chk1386 v219 v350), ∀ a x, ((![v219, v350] : Fin 2 → IVec S16 32) a x).toNat < S128x128.size a := fun v219 v350 k2_hw1386 => k2_hw1386

def k2_chk1387 (v238 : IVec S16 32) (v357 : IVec S16 32) : Prop :=
  (∀ a x, ((![v238, v357] : Fin 2 → IVec S16 32) a x).toNat < S128x128.size a)
theorem k2_idx1387_inb : ∀ (v238 : IVec S16 32) (v357 : IVec S16 32) (k2_hw1387 : k2_chk1387 v238 v357), ∀ a x, ((![v238, v357] : Fin 2 → IVec S16 32) a x).toNat < S128x128.size a := fun v238 v357 k2_hw1387 => k2_hw1387

def k2_chk1388 (v257 : IVec S16 32) (v364 : IVec S16 32) : Prop :=
  (∀ a x, ((![v257, v364] : Fin 2 → IVec S16 32) a x).toNat < S128x128.size a)
theorem k2_idx1388_inb : ∀ (v257 : IVec S16 32) (v364 : IVec S16 32) (k2_hw1388 : k2_chk1388 v257 v364), ∀ a x, ((![v257, v364] : Fin 2 → IVec S16 32) a x).toNat < S128x128.size a := fun v257 v364 k2_hw1388 => k2_hw1388

def k2_chk1389 (v200 : IVec S16 32) (v383 : IVec S16 32) : Prop :=
  (∀ a x, ((![v200, v383] : Fin 2 → IVec S16 32) a x).toNat < S128x128.size a)
theorem k2_idx1389_inb : ∀ (v200 : IVec S16 32) (v383 : IVec S16 32) (k2_hw1389 : k2_chk1389 v200 v383), ∀ a x, ((![v200, v383] : Fin 2 → IVec S16 32) a x).toNat < S128x128.size a := fun v200 v383 k2_hw1389 => k2_hw1389

def k2_chk1390 (v219 : IVec S16 32) (v390 : IVec S16 32) : Prop :=
  (∀ a x, ((![v219, v390] : Fin 2 → IVec S16 32) a x).toNat < S128x128.size a)
theorem k2_idx1390_inb : ∀ (v219 : IVec S16 32) (v390 : IVec S16 32) (k2_hw1390 : k2_chk1390 v219 v390), ∀ a x, ((![v219, v390] : Fin 2 → IVec S16 32) a x).toNat < S128x128.size a := fun v219 v390 k2_hw1390 => k2_hw1390

def k2_chk1391 (v238 : IVec S16 32) (v397 : IVec S16 32) : Prop :=
  (∀ a x, ((![v238, v397] : Fin 2 → IVec S16 32) a x).toNat < S128x128.size a)
theorem k2_idx1391_inb : ∀ (v238 : IVec S16 32) (v397 : IVec S16 32) (k2_hw1391 : k2_chk1391 v238 v397), ∀ a x, ((![v238, v397] : Fin 2 → IVec S16 32) a x).toNat < S128x128.size a := fun v238 v397 k2_hw1391 => k2_hw1391

def k2_chk1392 (v257 : IVec S16 32) (v404 : IVec S16 32) : Prop :=
  (∀ a x, ((![v257, v404] : Fin 2 → IVec S16 32) a x).toNat < S128x128.size a)
theorem k2_idx1392_inb : ∀ (v257 : IVec S16 32) (v404 : IVec S16 32) (k2_hw1392 : k2_chk1392 v257 v404), ∀ a x, ((![v257, v404] : Fin 2 → IVec S16 32) a x).toNat < S128x128.size a := fun v257 v404 k2_hw1392 => k2_hw1392

def k2_chk1393 (v200 : IVec S16 32) (v425 : IVec S16 32) : Prop :=
  (∀ a x, ((![v200, v425] : Fin 2 → IVec S16 32) a x).toNat < S128x18.size a)
theorem k2_idx1393_inb : ∀ (v200 : IVec S16 32) (v425 : IVec S16 32) (k2_hw1393 : k2_chk1393 v200 v425), ∀ a x, ((![v200, v425] : Fin 2 → IVec S16 32) a x).toNat < S128x18.size a := fun v200 v425 k2_hw1393 => k2_hw1393

def k2_chk1394 (v200 : IVec S16 32) (v431 : IVec S16 32) : Prop :=
  (∀ a x, ((![v200, v431] : Fin 2 → IVec S16 32) a x).toNat < S128x18.size a)
theorem k2_idx1394_inb : ∀ (v200 : IVec S16 32) (v431 : IVec S16 32) (k2_hw1394 : k2_chk1394 v200 v431), ∀ a x, ((![v200, v431] : Fin 2 → IVec S16 32) a x).toNat < S128x18.size a := fun v200 v431 k2_hw1394 => k2_hw1394

def k2_chk1395 (v200 : IVec S16 32) (v437 : IVec S16 32) : Prop :=
  (∀ a x, ((![v200, v437] : Fin 2 → IVec S16 32) a x).toNat < S128x18.size a)
theorem k2_idx1395_inb : ∀ (v200 : IVec S16 32) (v437 : IVec S16 32) (k2_hw1395 : k2_chk1395 v200 v437), ∀ a x, ((![v200, v437] : Fin 2 → IVec S16 32) a x).toNat < S128x18.size a := fun v200 v437 k2_hw1395 => k2_hw1395

def k2_chk1396 (v200 : IVec S16 32) (v443 : IVec S16 32) : Prop :=
  (∀ a x, ((![v200, v443] : Fin 2 → IVec S16 32) a x).toNat < S128x18.size a)
theorem k2_idx1396_inb : ∀ (v200 : IVec S16 32) (v443 : IVec S16 32) (k2_hw1396 : k2_chk1396 v200 v443), ∀ a x, ((![v200, v443] : Fin 2 → IVec S16 32) a x).toNat < S128x18.size a := fun v200 v443 k2_hw1396 => k2_hw1396

def k2_chk1397 (v200 : IVec S16 32) (v449 : IVec S16 32) : Prop :=
  (∀ a x, ((![v200, v449] : Fin 2 → IVec S16 32) a x).toNat < S128x18.size a)
theorem k2_idx1397_inb : ∀ (v200 : IVec S16 32) (v449 : IVec S16 32) (k2_hw1397 : k2_chk1397 v200 v449), ∀ a x, ((![v200, v449] : Fin 2 → IVec S16 32) a x).toNat < S128x18.size a := fun v200 v449 k2_hw1397 => k2_hw1397

def k2_chk1398 (v200 : IVec S16 32) (v455 : IVec S16 32) : Prop :=
  (∀ a x, ((![v200, v455] : Fin 2 → IVec S16 32) a x).toNat < S128x18.size a)
theorem k2_idx1398_inb : ∀ (v200 : IVec S16 32) (v455 : IVec S16 32) (k2_hw1398 : k2_chk1398 v200 v455), ∀ a x, ((![v200, v455] : Fin 2 → IVec S16 32) a x).toNat < S128x18.size a := fun v200 v455 k2_hw1398 => k2_hw1398

def k2_chk1399 (v200 : IVec S16 32) (v461 : IVec S16 32) : Prop :=
  (∀ a x, ((![v200, v461] : Fin 2 → IVec S16 32) a x).toNat < S128x18.size a)
theorem k2_idx1399_inb : ∀ (v200 : IVec S16 32) (v461 : IVec S16 32) (k2_hw1399 : k2_chk1399 v200 v461), ∀ a x, ((![v200, v461] : Fin 2 → IVec S16 32) a x).toNat < S128x18.size a := fun v200 v461 k2_hw1399 => k2_hw1399

def k2_chk1400 (v200 : IVec S16 32) (v467 : IVec S16 32) : Prop :=
  (∀ a x, ((![v200, v467] : Fin 2 → IVec S16 32) a x).toNat < S128x18.size a)
theorem k2_idx1400_inb : ∀ (v200 : IVec S16 32) (v467 : IVec S16 32) (k2_hw1400 : k2_chk1400 v200 v467), ∀ a x, ((![v200, v467] : Fin 2 → IVec S16 32) a x).toNat < S128x18.size a := fun v200 v467 k2_hw1400 => k2_hw1400

def k2_chk1401 (v200 : IVec S16 32) (v473 : IVec S16 32) : Prop :=
  (∀ a x, ((![v200, v473] : Fin 2 → IVec S16 32) a x).toNat < S128x18.size a)
theorem k2_idx1401_inb : ∀ (v200 : IVec S16 32) (v473 : IVec S16 32) (k2_hw1401 : k2_chk1401 v200 v473), ∀ a x, ((![v200, v473] : Fin 2 → IVec S16 32) a x).toNat < S128x18.size a := fun v200 v473 k2_hw1401 => k2_hw1401

def k2_chk1402 (v200 : IVec S16 32) (v479 : IVec S16 32) : Prop :=
  (∀ a x, ((![v200, v479] : Fin 2 → IVec S16 32) a x).toNat < S128x18.size a)
theorem k2_idx1402_inb : ∀ (v200 : IVec S16 32) (v479 : IVec S16 32) (k2_hw1402 : k2_chk1402 v200 v479), ∀ a x, ((![v200, v479] : Fin 2 → IVec S16 32) a x).toNat < S128x18.size a := fun v200 v479 k2_hw1402 => k2_hw1402

def k2_chk1403 (v200 : IVec S16 32) (v485 : IVec S16 32) : Prop :=
  (∀ a x, ((![v200, v485] : Fin 2 → IVec S16 32) a x).toNat < S128x18.size a)
theorem k2_idx1403_inb : ∀ (v200 : IVec S16 32) (v485 : IVec S16 32) (k2_hw1403 : k2_chk1403 v200 v485), ∀ a x, ((![v200, v485] : Fin 2 → IVec S16 32) a x).toNat < S128x18.size a := fun v200 v485 k2_hw1403 => k2_hw1403

def k2_chk1404 (v200 : IVec S16 32) (v491 : IVec S16 32) : Prop :=
  (∀ a x, ((![v200, v491] : Fin 2 → IVec S16 32) a x).toNat < S128x18.size a)
theorem k2_idx1404_inb : ∀ (v200 : IVec S16 32) (v491 : IVec S16 32) (k2_hw1404 : k2_chk1404 v200 v491), ∀ a x, ((![v200, v491] : Fin 2 → IVec S16 32) a x).toNat < S128x18.size a := fun v200 v491 k2_hw1404 => k2_hw1404

def k2_chk1405 (v200 : IVec S16 32) (v497 : IVec S16 32) : Prop :=
  (∀ a x, ((![v200, v497] : Fin 2 → IVec S16 32) a x).toNat < S128x18.size a)
theorem k2_idx1405_inb : ∀ (v200 : IVec S16 32) (v497 : IVec S16 32) (k2_hw1405 : k2_chk1405 v200 v497), ∀ a x, ((![v200, v497] : Fin 2 → IVec S16 32) a x).toNat < S128x18.size a := fun v200 v497 k2_hw1405 => k2_hw1405

def k2_chk1406 (v200 : IVec S16 32) (v503 : IVec S16 32) : Prop :=
  (∀ a x, ((![v200, v503] : Fin 2 → IVec S16 32) a x).toNat < S128x18.size a)
theorem k2_idx1406_inb : ∀ (v200 : IVec S16 32) (v503 : IVec S16 32) (k2_hw1406 : k2_chk1406 v200 v503), ∀ a x, ((![v200, v503] : Fin 2 → IVec S16 32) a x).toNat < S128x18.size a := fun v200 v503 k2_hw1406 => k2_hw1406

def k2_chk1407 (v200 : IVec S16 32) (v509 : IVec S16 32) : Prop :=
  (∀ a x, ((![v200, v509] : Fin 2 → IVec S16 32) a x).toNat < S128x18.size a)
theorem k2_idx1407_inb : ∀ (v200 : IVec S16 32) (v509 : IVec S16 32) (k2_hw1407 : k2_chk1407 v200 v509), ∀ a x, ((![v200, v509] : Fin 2 → IVec S16 32) a x).toNat < S128x18.size a := fun v200 v509 k2_hw1407 => k2_hw1407

def k2_chk1408 (v200 : IVec S16 32) (v515 : IVec S16 32) : Prop :=
  (∀ a x, ((![v200, v515] : Fin 2 → IVec S16 32) a x).toNat < S128x18.size a)
theorem k2_idx1408_inb : ∀ (v200 : IVec S16 32) (v515 : IVec S16 32) (k2_hw1408 : k2_chk1408 v200 v515), ∀ a x, ((![v200, v515] : Fin 2 → IVec S16 32) a x).toNat < S128x18.size a := fun v200 v515 k2_hw1408 => k2_hw1408

def k2_chk1409 (v200 : IVec S16 32) (v521 : IVec S16 32) : Prop :=
  (∀ a x, ((![v200, v521] : Fin 2 → IVec S16 32) a x).toNat < S128x18.size a)
theorem k2_idx1409_inb : ∀ (v200 : IVec S16 32) (v521 : IVec S16 32) (k2_hw1409 : k2_chk1409 v200 v521), ∀ a x, ((![v200, v521] : Fin 2 → IVec S16 32) a x).toNat < S128x18.size a := fun v200 v521 k2_hw1409 => k2_hw1409

def k2_chk1410 (v200 : IVec S16 32) (v527 : IVec S16 32) : Prop :=
  (∀ a x, ((![v200, v527] : Fin 2 → IVec S16 32) a x).toNat < S128x18.size a)
theorem k2_idx1410_inb : ∀ (v200 : IVec S16 32) (v527 : IVec S16 32) (k2_hw1410 : k2_chk1410 v200 v527), ∀ a x, ((![v200, v527] : Fin 2 → IVec S16 32) a x).toNat < S128x18.size a := fun v200 v527 k2_hw1410 => k2_hw1410

def k2_chk1411 (v219 : IVec S16 32) (v535 : IVec S16 32) : Prop :=
  (∀ a x, ((![v219, v535] : Fin 2 → IVec S16 32) a x).toNat < S128x18.size a)
theorem k2_idx1411_inb : ∀ (v219 : IVec S16 32) (v535 : IVec S16 32) (k2_hw1411 : k2_chk1411 v219 v535), ∀ a x, ((![v219, v535] : Fin 2 → IVec S16 32) a x).toNat < S128x18.size a := fun v219 v535 k2_hw1411 => k2_hw1411

def k2_chk1412 (v219 : IVec S16 32) (v541 : IVec S16 32) : Prop :=
  (∀ a x, ((![v219, v541] : Fin 2 → IVec S16 32) a x).toNat < S128x18.size a)
theorem k2_idx1412_inb : ∀ (v219 : IVec S16 32) (v541 : IVec S16 32) (k2_hw1412 : k2_chk1412 v219 v541), ∀ a x, ((![v219, v541] : Fin 2 → IVec S16 32) a x).toNat < S128x18.size a := fun v219 v541 k2_hw1412 => k2_hw1412

def k2_chk1413 (v219 : IVec S16 32) (v547 : IVec S16 32) : Prop :=
  (∀ a x, ((![v219, v547] : Fin 2 → IVec S16 32) a x).toNat < S128x18.size a)
theorem k2_idx1413_inb : ∀ (v219 : IVec S16 32) (v547 : IVec S16 32) (k2_hw1413 : k2_chk1413 v219 v547), ∀ a x, ((![v219, v547] : Fin 2 → IVec S16 32) a x).toNat < S128x18.size a := fun v219 v547 k2_hw1413 => k2_hw1413

def k2_chk1414 (v219 : IVec S16 32) (v553 : IVec S16 32) : Prop :=
  (∀ a x, ((![v219, v553] : Fin 2 → IVec S16 32) a x).toNat < S128x18.size a)
theorem k2_idx1414_inb : ∀ (v219 : IVec S16 32) (v553 : IVec S16 32) (k2_hw1414 : k2_chk1414 v219 v553), ∀ a x, ((![v219, v553] : Fin 2 → IVec S16 32) a x).toNat < S128x18.size a := fun v219 v553 k2_hw1414 => k2_hw1414

def k2_chk1415 (v219 : IVec S16 32) (v559 : IVec S16 32) : Prop :=
  (∀ a x, ((![v219, v559] : Fin 2 → IVec S16 32) a x).toNat < S128x18.size a)
theorem k2_idx1415_inb : ∀ (v219 : IVec S16 32) (v559 : IVec S16 32) (k2_hw1415 : k2_chk1415 v219 v559), ∀ a x, ((![v219, v559] : Fin 2 → IVec S16 32) a x).toNat < S128x18.size a := fun v219 v559 k2_hw1415 => k2_hw1415

def k2_chk1416 (v219 : IVec S16 32) (v565 : IVec S16 32) : Prop :=
  (∀ a x, ((![v219, v565] : Fin 2 → IVec S16 32) a x).toNat < S128x18.size a)
theorem k2_idx1416_inb : ∀ (v219 : IVec S16 32) (v565 : IVec S16 32) (k2_hw1416 : k2_chk1416 v219 v565), ∀ a x, ((![v219, v565] : Fin 2 → IVec S16 32) a x).toNat < S128x18.size a := fun v219 v565 k2_hw1416 => k2_hw1416

def k2_chk1417 (v219 : IVec S16 32) (v571 : IVec S16 32) : Prop :=
  (∀ a x, ((![v219, v571] : Fin 2 → IVec S16 32) a x).toNat < S128x18.size a)
theorem k2_idx1417_inb : ∀ (v219 : IVec S16 32) (v571 : IVec S16 32) (k2_hw1417 : k2_chk1417 v219 v571), ∀ a x, ((![v219, v571] : Fin 2 → IVec S16 32) a x).toNat < S128x18.size a := fun v219 v571 k2_hw1417 => k2_hw1417

def k2_chk1418 (v219 : IVec S16 32) (v577 : IVec S16 32) : Prop :=
  (∀ a x, ((![v219, v577] : Fin 2 → IVec S16 32) a x).toNat < S128x18.size a)
theorem k2_idx1418_inb : ∀ (v219 : IVec S16 32) (v577 : IVec S16 32) (k2_hw1418 : k2_chk1418 v219 v577), ∀ a x, ((![v219, v577] : Fin 2 → IVec S16 32) a x).toNat < S128x18.size a := fun v219 v577 k2_hw1418 => k2_hw1418

def k2_chk1419 (v219 : IVec S16 32) (v583 : IVec S16 32) : Prop :=
  (∀ a x, ((![v219, v583] : Fin 2 → IVec S16 32) a x).toNat < S128x18.size a)
theorem k2_idx1419_inb : ∀ (v219 : IVec S16 32) (v583 : IVec S16 32) (k2_hw1419 : k2_chk1419 v219 v583), ∀ a x, ((![v219, v583] : Fin 2 → IVec S16 32) a x).toNat < S128x18.size a := fun v219 v583 k2_hw1419 => k2_hw1419

def k2_chk1420 (v219 : IVec S16 32) (v589 : IVec S16 32) : Prop :=
  (∀ a x, ((![v219, v589] : Fin 2 → IVec S16 32) a x).toNat < S128x18.size a)
theorem k2_idx1420_inb : ∀ (v219 : IVec S16 32) (v589 : IVec S16 32) (k2_hw1420 : k2_chk1420 v219 v589), ∀ a x, ((![v219, v589] : Fin 2 → IVec S16 32) a x).toNat < S128x18.size a := fun v219 v589 k2_hw1420 => k2_hw1420

def k2_chk1421 (v219 : IVec S16 32) (v595 : IVec S16 32) : Prop :=
  (∀ a x, ((![v219, v595] : Fin 2 → IVec S16 32) a x).toNat < S128x18.size a)
theorem k2_idx1421_inb : ∀ (v219 : IVec S16 32) (v595 : IVec S16 32) (k2_hw1421 : k2_chk1421 v219 v595), ∀ a x, ((![v219, v595] : Fin 2 → IVec S16 32) a x).toNat < S128x18.size a := fun v219 v595 k2_hw1421 => k2_hw1421

def k2_chk1422 (v219 : IVec S16 32) (v601 : IVec S16 32) : Prop :=
  (∀ a x, ((![v219, v601] : Fin 2 → IVec S16 32) a x).toNat < S128x18.size a)
theorem k2_idx1422_inb : ∀ (v219 : IVec S16 32) (v601 : IVec S16 32) (k2_hw1422 : k2_chk1422 v219 v601), ∀ a x, ((![v219, v601] : Fin 2 → IVec S16 32) a x).toNat < S128x18.size a := fun v219 v601 k2_hw1422 => k2_hw1422

def k2_chk1423 (v219 : IVec S16 32) (v607 : IVec S16 32) : Prop :=
  (∀ a x, ((![v219, v607] : Fin 2 → IVec S16 32) a x).toNat < S128x18.size a)
theorem k2_idx1423_inb : ∀ (v219 : IVec S16 32) (v607 : IVec S16 32) (k2_hw1423 : k2_chk1423 v219 v607), ∀ a x, ((![v219, v607] : Fin 2 → IVec S16 32) a x).toNat < S128x18.size a := fun v219 v607 k2_hw1423 => k2_hw1423

def k2_chk1424 (v219 : IVec S16 32) (v613 : IVec S16 32) : Prop :=
  (∀ a x, ((![v219, v613] : Fin 2 → IVec S16 32) a x).toNat < S128x18.size a)
theorem k2_idx1424_inb : ∀ (v219 : IVec S16 32) (v613 : IVec S16 32) (k2_hw1424 : k2_chk1424 v219 v613), ∀ a x, ((![v219, v613] : Fin 2 → IVec S16 32) a x).toNat < S128x18.size a := fun v219 v613 k2_hw1424 => k2_hw1424

def k2_chk1425 (v219 : IVec S16 32) (v619 : IVec S16 32) : Prop :=
  (∀ a x, ((![v219, v619] : Fin 2 → IVec S16 32) a x).toNat < S128x18.size a)
theorem k2_idx1425_inb : ∀ (v219 : IVec S16 32) (v619 : IVec S16 32) (k2_hw1425 : k2_chk1425 v219 v619), ∀ a x, ((![v219, v619] : Fin 2 → IVec S16 32) a x).toNat < S128x18.size a := fun v219 v619 k2_hw1425 => k2_hw1425

def k2_chk1426 (v219 : IVec S16 32) (v625 : IVec S16 32) : Prop :=
  (∀ a x, ((![v219, v625] : Fin 2 → IVec S16 32) a x).toNat < S128x18.size a)
theorem k2_idx1426_inb : ∀ (v219 : IVec S16 32) (v625 : IVec S16 32) (k2_hw1426 : k2_chk1426 v219 v625), ∀ a x, ((![v219, v625] : Fin 2 → IVec S16 32) a x).toNat < S128x18.size a := fun v219 v625 k2_hw1426 => k2_hw1426

def k2_chk1427 (v219 : IVec S16 32) (v631 : IVec S16 32) : Prop :=
  (∀ a x, ((![v219, v631] : Fin 2 → IVec S16 32) a x).toNat < S128x18.size a)
theorem k2_idx1427_inb : ∀ (v219 : IVec S16 32) (v631 : IVec S16 32) (k2_hw1427 : k2_chk1427 v219 v631), ∀ a x, ((![v219, v631] : Fin 2 → IVec S16 32) a x).toNat < S128x18.size a := fun v219 v631 k2_hw1427 => k2_hw1427

def k2_chk1428 (v219 : IVec S16 32) (v637 : IVec S16 32) : Prop :=
  (∀ a x, ((![v219, v637] : Fin 2 → IVec S16 32) a x).toNat < S128x18.size a)
theorem k2_idx1428_inb : ∀ (v219 : IVec S16 32) (v637 : IVec S16 32) (k2_hw1428 : k2_chk1428 v219 v637), ∀ a x, ((![v219, v637] : Fin 2 → IVec S16 32) a x).toNat < S128x18.size a := fun v219 v637 k2_hw1428 => k2_hw1428

def k2_chk1429 (v238 : IVec S16 32) (v645 : IVec S16 32) : Prop :=
  (∀ a x, ((![v238, v645] : Fin 2 → IVec S16 32) a x).toNat < S128x18.size a)
theorem k2_idx1429_inb : ∀ (v238 : IVec S16 32) (v645 : IVec S16 32) (k2_hw1429 : k2_chk1429 v238 v645), ∀ a x, ((![v238, v645] : Fin 2 → IVec S16 32) a x).toNat < S128x18.size a := fun v238 v645 k2_hw1429 => k2_hw1429

def k2_chk1430 (v238 : IVec S16 32) (v651 : IVec S16 32) : Prop :=
  (∀ a x, ((![v238, v651] : Fin 2 → IVec S16 32) a x).toNat < S128x18.size a)
theorem k2_idx1430_inb : ∀ (v238 : IVec S16 32) (v651 : IVec S16 32) (k2_hw1430 : k2_chk1430 v238 v651), ∀ a x, ((![v238, v651] : Fin 2 → IVec S16 32) a x).toNat < S128x18.size a := fun v238 v651 k2_hw1430 => k2_hw1430

def k2_chk1431 (v238 : IVec S16 32) (v657 : IVec S16 32) : Prop :=
  (∀ a x, ((![v238, v657] : Fin 2 → IVec S16 32) a x).toNat < S128x18.size a)
theorem k2_idx1431_inb : ∀ (v238 : IVec S16 32) (v657 : IVec S16 32) (k2_hw1431 : k2_chk1431 v238 v657), ∀ a x, ((![v238, v657] : Fin 2 → IVec S16 32) a x).toNat < S128x18.size a := fun v238 v657 k2_hw1431 => k2_hw1431

def k2_chk1432 (v238 : IVec S16 32) (v663 : IVec S16 32) : Prop :=
  (∀ a x, ((![v238, v663] : Fin 2 → IVec S16 32) a x).toNat < S128x18.size a)
theorem k2_idx1432_inb : ∀ (v238 : IVec S16 32) (v663 : IVec S16 32) (k2_hw1432 : k2_chk1432 v238 v663), ∀ a x, ((![v238, v663] : Fin 2 → IVec S16 32) a x).toNat < S128x18.size a := fun v238 v663 k2_hw1432 => k2_hw1432

def k2_chk1433 (v238 : IVec S16 32) (v669 : IVec S16 32) : Prop :=
  (∀ a x, ((![v238, v669] : Fin 2 → IVec S16 32) a x).toNat < S128x18.size a)
theorem k2_idx1433_inb : ∀ (v238 : IVec S16 32) (v669 : IVec S16 32) (k2_hw1433 : k2_chk1433 v238 v669), ∀ a x, ((![v238, v669] : Fin 2 → IVec S16 32) a x).toNat < S128x18.size a := fun v238 v669 k2_hw1433 => k2_hw1433

def k2_chk1434 (v238 : IVec S16 32) (v675 : IVec S16 32) : Prop :=
  (∀ a x, ((![v238, v675] : Fin 2 → IVec S16 32) a x).toNat < S128x18.size a)
theorem k2_idx1434_inb : ∀ (v238 : IVec S16 32) (v675 : IVec S16 32) (k2_hw1434 : k2_chk1434 v238 v675), ∀ a x, ((![v238, v675] : Fin 2 → IVec S16 32) a x).toNat < S128x18.size a := fun v238 v675 k2_hw1434 => k2_hw1434

def k2_chk1435 (v238 : IVec S16 32) (v681 : IVec S16 32) : Prop :=
  (∀ a x, ((![v238, v681] : Fin 2 → IVec S16 32) a x).toNat < S128x18.size a)
theorem k2_idx1435_inb : ∀ (v238 : IVec S16 32) (v681 : IVec S16 32) (k2_hw1435 : k2_chk1435 v238 v681), ∀ a x, ((![v238, v681] : Fin 2 → IVec S16 32) a x).toNat < S128x18.size a := fun v238 v681 k2_hw1435 => k2_hw1435

def k2_chk1436 (v238 : IVec S16 32) (v687 : IVec S16 32) : Prop :=
  (∀ a x, ((![v238, v687] : Fin 2 → IVec S16 32) a x).toNat < S128x18.size a)
theorem k2_idx1436_inb : ∀ (v238 : IVec S16 32) (v687 : IVec S16 32) (k2_hw1436 : k2_chk1436 v238 v687), ∀ a x, ((![v238, v687] : Fin 2 → IVec S16 32) a x).toNat < S128x18.size a := fun v238 v687 k2_hw1436 => k2_hw1436

def k2_chk1437 (v238 : IVec S16 32) (v693 : IVec S16 32) : Prop :=
  (∀ a x, ((![v238, v693] : Fin 2 → IVec S16 32) a x).toNat < S128x18.size a)
theorem k2_idx1437_inb : ∀ (v238 : IVec S16 32) (v693 : IVec S16 32) (k2_hw1437 : k2_chk1437 v238 v693), ∀ a x, ((![v238, v693] : Fin 2 → IVec S16 32) a x).toNat < S128x18.size a := fun v238 v693 k2_hw1437 => k2_hw1437

def k2_chk1438 (v238 : IVec S16 32) (v699 : IVec S16 32) : Prop :=
  (∀ a x, ((![v238, v699] : Fin 2 → IVec S16 32) a x).toNat < S128x18.size a)
theorem k2_idx1438_inb : ∀ (v238 : IVec S16 32) (v699 : IVec S16 32) (k2_hw1438 : k2_chk1438 v238 v699), ∀ a x, ((![v238, v699] : Fin 2 → IVec S16 32) a x).toNat < S128x18.size a := fun v238 v699 k2_hw1438 => k2_hw1438

def k2_chk1439 (v238 : IVec S16 32) (v705 : IVec S16 32) : Prop :=
  (∀ a x, ((![v238, v705] : Fin 2 → IVec S16 32) a x).toNat < S128x18.size a)
theorem k2_idx1439_inb : ∀ (v238 : IVec S16 32) (v705 : IVec S16 32) (k2_hw1439 : k2_chk1439 v238 v705), ∀ a x, ((![v238, v705] : Fin 2 → IVec S16 32) a x).toNat < S128x18.size a := fun v238 v705 k2_hw1439 => k2_hw1439

def k2_chk1440 (v238 : IVec S16 32) (v711 : IVec S16 32) : Prop :=
  (∀ a x, ((![v238, v711] : Fin 2 → IVec S16 32) a x).toNat < S128x18.size a)
theorem k2_idx1440_inb : ∀ (v238 : IVec S16 32) (v711 : IVec S16 32) (k2_hw1440 : k2_chk1440 v238 v711), ∀ a x, ((![v238, v711] : Fin 2 → IVec S16 32) a x).toNat < S128x18.size a := fun v238 v711 k2_hw1440 => k2_hw1440

def k2_chk1441 (v238 : IVec S16 32) (v717 : IVec S16 32) : Prop :=
  (∀ a x, ((![v238, v717] : Fin 2 → IVec S16 32) a x).toNat < S128x18.size a)
theorem k2_idx1441_inb : ∀ (v238 : IVec S16 32) (v717 : IVec S16 32) (k2_hw1441 : k2_chk1441 v238 v717), ∀ a x, ((![v238, v717] : Fin 2 → IVec S16 32) a x).toNat < S128x18.size a := fun v238 v717 k2_hw1441 => k2_hw1441

def k2_chk1442 (v238 : IVec S16 32) (v723 : IVec S16 32) : Prop :=
  (∀ a x, ((![v238, v723] : Fin 2 → IVec S16 32) a x).toNat < S128x18.size a)
theorem k2_idx1442_inb : ∀ (v238 : IVec S16 32) (v723 : IVec S16 32) (k2_hw1442 : k2_chk1442 v238 v723), ∀ a x, ((![v238, v723] : Fin 2 → IVec S16 32) a x).toNat < S128x18.size a := fun v238 v723 k2_hw1442 => k2_hw1442

def k2_chk1443 (v238 : IVec S16 32) (v729 : IVec S16 32) : Prop :=
  (∀ a x, ((![v238, v729] : Fin 2 → IVec S16 32) a x).toNat < S128x18.size a)
theorem k2_idx1443_inb : ∀ (v238 : IVec S16 32) (v729 : IVec S16 32) (k2_hw1443 : k2_chk1443 v238 v729), ∀ a x, ((![v238, v729] : Fin 2 → IVec S16 32) a x).toNat < S128x18.size a := fun v238 v729 k2_hw1443 => k2_hw1443

def k2_chk1444 (v238 : IVec S16 32) (v735 : IVec S16 32) : Prop :=
  (∀ a x, ((![v238, v735] : Fin 2 → IVec S16 32) a x).toNat < S128x18.size a)
theorem k2_idx1444_inb : ∀ (v238 : IVec S16 32) (v735 : IVec S16 32) (k2_hw1444 : k2_chk1444 v238 v735), ∀ a x, ((![v238, v735] : Fin 2 → IVec S16 32) a x).toNat < S128x18.size a := fun v238 v735 k2_hw1444 => k2_hw1444

def k2_chk1445 (v238 : IVec S16 32) (v741 : IVec S16 32) : Prop :=
  (∀ a x, ((![v238, v741] : Fin 2 → IVec S16 32) a x).toNat < S128x18.size a)
theorem k2_idx1445_inb : ∀ (v238 : IVec S16 32) (v741 : IVec S16 32) (k2_hw1445 : k2_chk1445 v238 v741), ∀ a x, ((![v238, v741] : Fin 2 → IVec S16 32) a x).toNat < S128x18.size a := fun v238 v741 k2_hw1445 => k2_hw1445

def k2_chk1446 (v238 : IVec S16 32) (v747 : IVec S16 32) : Prop :=
  (∀ a x, ((![v238, v747] : Fin 2 → IVec S16 32) a x).toNat < S128x18.size a)
theorem k2_idx1446_inb : ∀ (v238 : IVec S16 32) (v747 : IVec S16 32) (k2_hw1446 : k2_chk1446 v238 v747), ∀ a x, ((![v238, v747] : Fin 2 → IVec S16 32) a x).toNat < S128x18.size a := fun v238 v747 k2_hw1446 => k2_hw1446

def k2_chk1447 (v257 : IVec S16 32) (v755 : IVec S16 32) : Prop :=
  (∀ a x, ((![v257, v755] : Fin 2 → IVec S16 32) a x).toNat < S128x18.size a)
theorem k2_idx1447_inb : ∀ (v257 : IVec S16 32) (v755 : IVec S16 32) (k2_hw1447 : k2_chk1447 v257 v755), ∀ a x, ((![v257, v755] : Fin 2 → IVec S16 32) a x).toNat < S128x18.size a := fun v257 v755 k2_hw1447 => k2_hw1447

def k2_chk1448 (v257 : IVec S16 32) (v761 : IVec S16 32) : Prop :=
  (∀ a x, ((![v257, v761] : Fin 2 → IVec S16 32) a x).toNat < S128x18.size a)
theorem k2_idx1448_inb : ∀ (v257 : IVec S16 32) (v761 : IVec S16 32) (k2_hw1448 : k2_chk1448 v257 v761), ∀ a x, ((![v257, v761] : Fin 2 → IVec S16 32) a x).toNat < S128x18.size a := fun v257 v761 k2_hw1448 => k2_hw1448

def k2_chk1449 (v257 : IVec S16 32) (v767 : IVec S16 32) : Prop :=
  (∀ a x, ((![v257, v767] : Fin 2 → IVec S16 32) a x).toNat < S128x18.size a)
theorem k2_idx1449_inb : ∀ (v257 : IVec S16 32) (v767 : IVec S16 32) (k2_hw1449 : k2_chk1449 v257 v767), ∀ a x, ((![v257, v767] : Fin 2 → IVec S16 32) a x).toNat < S128x18.size a := fun v257 v767 k2_hw1449 => k2_hw1449

def k2_chk1450 (v257 : IVec S16 32) (v773 : IVec S16 32) : Prop :=
  (∀ a x, ((![v257, v773] : Fin 2 → IVec S16 32) a x).toNat < S128x18.size a)
theorem k2_idx1450_inb : ∀ (v257 : IVec S16 32) (v773 : IVec S16 32) (k2_hw1450 : k2_chk1450 v257 v773), ∀ a x, ((![v257, v773] : Fin 2 → IVec S16 32) a x).toNat < S128x18.size a := fun v257 v773 k2_hw1450 => k2_hw1450

def k2_chk1451 (v257 : IVec S16 32) (v779 : IVec S16 32) : Prop :=
  (∀ a x, ((![v257, v779] : Fin 2 → IVec S16 32) a x).toNat < S128x18.size a)
theorem k2_idx1451_inb : ∀ (v257 : IVec S16 32) (v779 : IVec S16 32) (k2_hw1451 : k2_chk1451 v257 v779), ∀ a x, ((![v257, v779] : Fin 2 → IVec S16 32) a x).toNat < S128x18.size a := fun v257 v779 k2_hw1451 => k2_hw1451

def k2_chk1452 (v257 : IVec S16 32) (v785 : IVec S16 32) : Prop :=
  (∀ a x, ((![v257, v785] : Fin 2 → IVec S16 32) a x).toNat < S128x18.size a)
theorem k2_idx1452_inb : ∀ (v257 : IVec S16 32) (v785 : IVec S16 32) (k2_hw1452 : k2_chk1452 v257 v785), ∀ a x, ((![v257, v785] : Fin 2 → IVec S16 32) a x).toNat < S128x18.size a := fun v257 v785 k2_hw1452 => k2_hw1452

def k2_chk1453 (v257 : IVec S16 32) (v791 : IVec S16 32) : Prop :=
  (∀ a x, ((![v257, v791] : Fin 2 → IVec S16 32) a x).toNat < S128x18.size a)
theorem k2_idx1453_inb : ∀ (v257 : IVec S16 32) (v791 : IVec S16 32) (k2_hw1453 : k2_chk1453 v257 v791), ∀ a x, ((![v257, v791] : Fin 2 → IVec S16 32) a x).toNat < S128x18.size a := fun v257 v791 k2_hw1453 => k2_hw1453

def k2_chk1454 (v257 : IVec S16 32) (v797 : IVec S16 32) : Prop :=
  (∀ a x, ((![v257, v797] : Fin 2 → IVec S16 32) a x).toNat < S128x18.size a)
theorem k2_idx1454_inb : ∀ (v257 : IVec S16 32) (v797 : IVec S16 32) (k2_hw1454 : k2_chk1454 v257 v797), ∀ a x, ((![v257, v797] : Fin 2 → IVec S16 32) a x).toNat < S128x18.size a := fun v257 v797 k2_hw1454 => k2_hw1454

def k2_chk1455 (v257 : IVec S16 32) (v803 : IVec S16 32) : Prop :=
  (∀ a x, ((![v257, v803] : Fin 2 → IVec S16 32) a x).toNat < S128x18.size a)
theorem k2_idx1455_inb : ∀ (v257 : IVec S16 32) (v803 : IVec S16 32) (k2_hw1455 : k2_chk1455 v257 v803), ∀ a x, ((![v257, v803] : Fin 2 → IVec S16 32) a x).toNat < S128x18.size a := fun v257 v803 k2_hw1455 => k2_hw1455

def k2_chk1456 (v257 : IVec S16 32) (v809 : IVec S16 32) : Prop :=
  (∀ a x, ((![v257, v809] : Fin 2 → IVec S16 32) a x).toNat < S128x18.size a)
theorem k2_idx1456_inb : ∀ (v257 : IVec S16 32) (v809 : IVec S16 32) (k2_hw1456 : k2_chk1456 v257 v809), ∀ a x, ((![v257, v809] : Fin 2 → IVec S16 32) a x).toNat < S128x18.size a := fun v257 v809 k2_hw1456 => k2_hw1456

def k2_chk1457 (v257 : IVec S16 32) (v815 : IVec S16 32) : Prop :=
  (∀ a x, ((![v257, v815] : Fin 2 → IVec S16 32) a x).toNat < S128x18.size a)
theorem k2_idx1457_inb : ∀ (v257 : IVec S16 32) (v815 : IVec S16 32) (k2_hw1457 : k2_chk1457 v257 v815), ∀ a x, ((![v257, v815] : Fin 2 → IVec S16 32) a x).toNat < S128x18.size a := fun v257 v815 k2_hw1457 => k2_hw1457

def k2_chk1458 (v257 : IVec S16 32) (v821 : IVec S16 32) : Prop :=
  (∀ a x, ((![v257, v821] : Fin 2 → IVec S16 32) a x).toNat < S128x18.size a)
theorem k2_idx1458_inb : ∀ (v257 : IVec S16 32) (v821 : IVec S16 32) (k2_hw1458 : k2_chk1458 v257 v821), ∀ a x, ((![v257, v821] : Fin 2 → IVec S16 32) a x).toNat < S128x18.size a := fun v257 v821 k2_hw1458 => k2_hw1458

def k2_chk1459 (v257 : IVec S16 32) (v827 : IVec S16 32) : Prop :=
  (∀ a x, ((![v257, v827] : Fin 2 → IVec S16 32) a x).toNat < S128x18.size a)
theorem k2_idx1459_inb : ∀ (v257 : IVec S16 32) (v827 : IVec S16 32) (k2_hw1459 : k2_chk1459 v257 v827), ∀ a x, ((![v257, v827] : Fin 2 → IVec S16 32) a x).toNat < S128x18.size a := fun v257 v827 k2_hw1459 => k2_hw1459

def k2_chk1460 (v257 : IVec S16 32) (v833 : IVec S16 32) : Prop :=
  (∀ a x, ((![v257, v833] : Fin 2 → IVec S16 32) a x).toNat < S128x18.size a)
theorem k2_idx1460_inb : ∀ (v257 : IVec S16 32) (v833 : IVec S16 32) (k2_hw1460 : k2_chk1460 v257 v833), ∀ a x, ((![v257, v833] : Fin 2 → IVec S16 32) a x).toNat < S128x18.size a := fun v257 v833 k2_hw1460 => k2_hw1460

def k2_chk1461 (v257 : IVec S16 32) (v839 : IVec S16 32) : Prop :=
  (∀ a x, ((![v257, v839] : Fin 2 → IVec S16 32) a x).toNat < S128x18.size a)
theorem k2_idx1461_inb : ∀ (v257 : IVec S16 32) (v839 : IVec S16 32) (k2_hw1461 : k2_chk1461 v257 v839), ∀ a x, ((![v257, v839] : Fin 2 → IVec S16 32) a x).toNat < S128x18.size a := fun v257 v839 k2_hw1461 => k2_hw1461

def k2_chk1462 (v257 : IVec S16 32) (v845 : IVec S16 32) : Prop :=
  (∀ a x, ((![v257, v845] : Fin 2 → IVec S16 32) a x).toNat < S128x18.size a)
theorem k2_idx1462_inb : ∀ (v257 : IVec S16 32) (v845 : IVec S16 32) (k2_hw1462 : k2_chk1462 v257 v845), ∀ a x, ((![v257, v845] : Fin 2 → IVec S16 32) a x).toNat < S128x18.size a := fun v257 v845 k2_hw1462 => k2_hw1462

def k2_chk1463 (v257 : IVec S16 32) (v851 : IVec S16 32) : Prop :=
  (∀ a x, ((![v257, v851] : Fin 2 → IVec S16 32) a x).toNat < S128x18.size a)
theorem k2_idx1463_inb : ∀ (v257 : IVec S16 32) (v851 : IVec S16 32) (k2_hw1463 : k2_chk1463 v257 v851), ∀ a x, ((![v257, v851] : Fin 2 → IVec S16 32) a x).toNat < S128x18.size a := fun v257 v851 k2_hw1463 => k2_hw1463

def k2_chk1464 (v257 : IVec S16 32) (v857 : IVec S16 32) : Prop :=
  (∀ a x, ((![v257, v857] : Fin 2 → IVec S16 32) a x).toNat < S128x18.size a)
theorem k2_idx1464_inb : ∀ (v257 : IVec S16 32) (v857 : IVec S16 32) (k2_hw1464 : k2_chk1464 v257 v857), ∀ a x, ((![v257, v857] : Fin 2 → IVec S16 32) a x).toNat < S128x18.size a := fun v257 v857 k2_hw1464 => k2_hw1464
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128 : Shape := ⟨1, ![128]⟩
abbrev S262144x128 : Shape := ⟨2, ![262144, 128]⟩
abbrev S262144x18 : Shape := ⟨2, ![262144, 18]⟩
abbrev S65536 : Shape := ⟨1, ![65536]⟩
abbrev S262144 : Shape := ⟨1, ![262144]⟩
abbrev S_ : Shape := ⟨0, ![]⟩
abbrev S1 : Shape := ⟨1, ![1]⟩
abbrev S1x262144 : Shape := ⟨2, ![1, 262144]⟩
abbrev S65536x1 : Shape := ⟨2, ![65536, 1]⟩
abbrev S65536x262144 : Shape := ⟨2, ![65536, 262144]⟩
abbrev S1x1 : Shape := ⟨2, ![1, 1]⟩
abbrev S65536x18 : Shape := ⟨2, ![65536, 18]⟩

abbrev nBuf : Space → Nat
  | .hbm => 60
  | .vmem => 0
  | .smem => 0
  | _ => 0

abbrev bufTy : (tb : Table) → Fin (tcTables nBuf tb) → BufTy
  | .hbm, ⟨0, _⟩ => ⟨S128, .f32⟩
  | .hbm, ⟨1, _⟩ => ⟨S262144x128, .f32⟩
  | .hbm, ⟨2, _⟩ => ⟨S262144x18, .f32⟩
  | .hbm, ⟨3, _⟩ => ⟨S65536, .f32⟩
  | .hbm, ⟨4, _⟩ => ⟨S262144, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S262144, .f32⟩
  | .hbm, ⟨11, _⟩ => ⟨S262144, .f32⟩
  | .hbm, ⟨12, _⟩ => ⟨S262144, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S262144, .f32⟩
  | .hbm, ⟨17, _⟩ => ⟨S262144, .f32⟩
  | .hbm, ⟨18, _⟩ => ⟨S_, .f32⟩
  | .hbm, ⟨19, _⟩ => ⟨S_, .f32⟩
  | .hbm, ⟨20, _⟩ => ⟨S262144, .f32⟩
  | .hbm, ⟨21, _⟩ => ⟨S1x262144, .f32⟩
  | .hbm, ⟨22, _⟩ => ⟨S65536x1, .f32⟩
  | .hbm, ⟨23, _⟩ => ⟨S65536x262144, .f32⟩
  | .hbm, ⟨24, _⟩ => ⟨S65536x262144, .f32⟩
  | .hbm, ⟨25, _⟩ => ⟨S65536x262144, .i1⟩
  | .hbm, ⟨26, _⟩ => ⟨S65536x262144, .i32⟩
  | .hbm, ⟨27, _⟩ => ⟨S_, .i32⟩
  | .hbm, ⟨28, _⟩ => ⟨S65536, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S65536, .i32⟩
  | .hbm, ⟨33, _⟩ => ⟨S65536, .i32⟩
  | .hbm, ⟨34, _⟩ => ⟨S_, .i32⟩
  | .hbm, ⟨35, _⟩ => ⟨S65536, .i32⟩
  | .hbm, ⟨36, _⟩ => ⟨S65536, .i32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S1, .i32⟩
  | .hbm, ⟨46, _⟩ => ⟨S_, .i32⟩
  | .hbm, ⟨47, _⟩ => ⟨S65536x1, .i32⟩
  | .hbm, ⟨48, _⟩ => ⟨S65536x1, .i1⟩
  | .hbm, ⟨49, _⟩ => ⟨S1x1, .i32⟩
  | .hbm, ⟨50, _⟩ => ⟨S65536x1, .i32⟩
  | .hbm, ⟨51, _⟩ => ⟨S65536x1, .i1⟩
  | .hbm, ⟨52, _⟩ => ⟨S65536x1, .i1⟩
  | .hbm, ⟨53, _⟩ => ⟨S_, .i1⟩
  | .hbm, ⟨54, _⟩ => ⟨S65536, .i1⟩
  | .hbm, ⟨55, _⟩ => ⟨S65536x18, .f32⟩
  | .hbm, ⟨56, _⟩ => ⟨S65536x18, .i1⟩
  | .hbm, ⟨57, _⟩ => ⟨S_, .f32⟩
  | .hbm, ⟨58, _⟩ => ⟨S65536x18, .f32⟩
  | .hbm, ⟨59, _⟩ => ⟨S65536x18, .f32⟩
  | _, _ => ⟨S128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_c_2 : Ref sig .tc := ⟨.hbm, 29, rfl⟩
abbrev main_c_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v19 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_v14 : Ref sig .tc := ⟨.hbm, 56, rfl⟩
abbrev main_call2_cst : Ref sig .tc := ⟨.hbm, 57, rfl⟩
abbrev main_call2_v15 : Ref sig .tc := ⟨.hbm, 58, rfl⟩
abbrev main_v20 : Ref sig .tc := ⟨.hbm, 59, rfl⟩

abbrev nD : Nat := 1
abbrev τ : Topo := Topo.v7x

variable {F : FTy → Type} [FloatOps F]
-- ==== Proof.Body.lean ====
/- The search kernel's text, written once: a bisection step, a trip of each loop, one group of 128
   draws, and the whole tile body; the printed kernel is this text (`cc2_k_eq`). -/
module

public import proofs.«01_k».proof.Proof.Gen.KernelIdeal.Skeleton

@[expose] public section

set_option maxRecDepth 16384

noncomputable section

namespace Cert.KernelIdeal.Search

open Idealize.ShloMosaic Idealize.SL.Sem
open Cert.KernelIdeal

variable {F : FTy → Type} [FloatOps F]
variable [Facts]
open Facts₀ Facts

/-- The programs a tile of the search kernel runs. -/
abbrev TP (F : FTy → Type) (i : grid2.Coords) (α : Type) : Type 1 :=
  Prog (TpuEff nD τ sig (Elt F) Λ₀ (.scVector ((i 0).castLE hcore2) ((i 1).castLE hsub2))) α

/-- The middle of an interval, lane by lane. -/
def half (lo hi : IVec S16 32) : IVec S16 32 := addi lo (shrsi (subi hi lo) (broadcast S16 1#32))

/-- Where in the table of sampled entries the entry of index `m` lies. -/
def tabIdx (m : IVec S16 32) : IVec S16 32 :=
  addi (muli (andi (shrsi m (broadcast S16 4#32)) (broadcast S16 7#32)) (broadcast S16 2048#32)) (shrsi m (broadcast S16 7#32))

/-- The lane of a row an index lies in. -/
def laneIdx (m : IVec S16 32) : IVec S16 32 := andi m (broadcast S16 127#32)

/-- A gather of sixteen entries out of the sampled table. -/
def gatherT {i : grid2.Coords} (tab : Memref sig .scVector .vmem S16384 .f32) (m : IVec S16 32) : TP F i (Vec F S16 .f32) := do
  have h : k2_chk1 m := (← Prog.lift (TpuEff.assume (k2_chk1 m) (k2_chk1.dec m))).down
  SparseCore.vectorLoadIdx tab ![m] (k2_idx1_inb m h) (View.loads_vmem h_S16384)

/-- A gather of sixteen entries, one of each of sixteen rows. -/
def gatherR {i : grid2.Coords} (rows : Memref sig .scVector .vmem S128x128 .f32) (s m : IVec S16 32) : TP F i (Vec F S16 .f32) := do
  have h : k2_chk57 s m := (← Prog.lift (TpuEff.assume (k2_chk57 s m) (k2_chk57.dec s m))).down
  SparseCore.vectorLoadIdx rows ![s, m] (k2_idx57_inb s m h) (View.loads_vmem h_S128x128)

/-- The lower half is kept where the draw is at most the middle entry. -/
def newLo (u v : Vec F S16 .f32) (lo hi : IVec S16 32) : IVec S16 32 := select (cmpf .ole u v) lo (half lo hi)
def newHi (u v : Vec F S16 .f32) (lo hi : IVec S16 32) : IVec S16 32 := select (cmpf .ole u v) (half lo hi) hi

/-- `n` steps of four bisections side by side, each reading its middle entry by `gt`. -/
def steps {i : grid2.Coords} (gt : Fin 4 → IVec S16 32 → TP F i (Vec F S16 .f32)) (u : Fin 4 → Vec F S16 .f32) :
    (n : Nat) → (lo hi : Fin 4 → IVec S16 32) → TP F i ((Fin 4 → IVec S16 32) × (Fin 4 → IVec S16 32))
  | 0, lo, hi => pure (lo, hi)
  | n + 1, lo, hi => do
    let v0 ← gt 0 (half (lo 0) (hi 0))
    let v1 ← gt 1 (half (lo 1) (hi 1))
    let v2 ← gt 2 (half (lo 2) (hi 2))
    let v3 ← gt 3 (half (lo 3) (hi 3))
    steps gt u n (fun c => newLo (u c) ((![v0, v1, v2, v3] : Fin 4 → Vec F S16 .f32) c) (lo c) (hi c))
      (fun c => newHi (u c) ((![v0, v1, v2, v3] : Fin 4 → Vec F S16 .f32) c) (lo c) (hi c))

/-- Bit `q` of sixteen indices, as numbers. -/
def bitVec (idx : IVec S16 32) (q : Nat) : Vec F S16 .f32 :=
  sitofp .f32 (andi (shrsi idx (broadcast S16 (BitVec.ofNat 32 q))) (broadcast S16 1#32))

/-- Columns `q`, `q + 1`, … (`n` of them) of sixteen rows of the output block stored. -/
def stores {i : grid2.Coords} (out : Memref sig .scVector .vmem S128x18 .f32) (s idx : IVec S16 32) : (n q : Nat) → TP F i Unit
  | 0, _ => pure ⟨⟩
  | n + 1, q => do
    have h : k2_chk144 s (broadcast S16 (BitVec.ofNat 32 q)) :=
      (← Prog.lift (TpuEff.assume (k2_chk144 s (broadcast S16 (BitVec.ofNat 32 q))) (k2_chk144.dec s (broadcast S16 (BitVec.ofNat 32 q))))).down
    SparseCore.vectorStoreIdx out ![s, broadcast S16 (BitVec.ofNat 32 q)] (bitVec (F := F) idx q) (fun _ => 1#1) false
      (k2_idx144_inb s (broadcast S16 (BitVec.ofNat 32 q)) h) (View.stores_vmem_bits_univ h_S128x18 rfl)
    stores out s idx n (q + 1)

/-- Chain `c` of trip `w`: its number among the chains of a loop. -/
def chainNo (w c : BitVec 32) : BitVec 32 := Scalar.addi (Scalar.muli w 4#32) c

/-- Where the draws of chain `c` of trip `w` of group `g` lie among the tile's draws. -/
def grpOff (g : BitVec 32) (w c : BitVec 32) : Fin 1 → Nat :=
  ![(Scalar.indexCast (Scalar.addi g (Scalar.muli (chainNo w c) 16#32))).toNat]

/-- The rows of the output block chain `c` of trip `w` fills. -/
def slot (lanes : IVec S16 32) (w c : BitVec 32) : IVec S16 32 := addi (broadcast S16 (Scalar.muli (chainNo w c) 16#32)) lanes

/-- The index a bisection returns, kept inside the table. -/
def capped (hi : IVec S16 32) : IVec S16 32 := minsi hi (broadcast S16 262143#32)

theorem grpOff_inb (g : Fin 16) (k : Fin k2_t2_loop.trips) (c : Fin 4) :
    ∀ a, (grpOff (BitVec.ofNat 32 (128 * g.val)) (Scf.iv 0#32 1#32 k) (BitVec.ofNat 32 c.val)) a + S16.size a ≤ S2048.size a := by
  revert g k c; decide +kernel

variable (i : grid2.Coords)
  (arg2 : Memref sig .scVector .hbm S16384 .f32) (harg2 : arg2.IsWhole) (arg3 : Memref sig .scVector .hbm S2048x128 .f32) (harg3 : arg3.IsWhole)
  (arg4 : Memref sig .scVector .hbm S65536 .f32) (harg4 : arg4.IsWhole) (arg5 : Memref sig .scVector .hbm S65536x18 .f32) (harg5 : arg5.IsWhole)
  (arg6 : Memref sig .scVector .vmem S2048 .f32) (harg6 : arg6.IsWhole) (arg7 : Memref sig .scVector .vmem S16384 .f32) (harg7 : arg7.IsWhole)
  (arg8 : Memref sig .scVector .vmem S2048 .i32) (harg8 : arg8.IsWhole) (arg9 : Memref sig .scVector .vmem S2048 .i32) (harg9 : arg9.IsWhole)
  (arg10 : Memref sig .scVector .vmem S128x128 .f32) (harg10 : arg10.IsWhole) (arg11 : Memref sig .scVector .vmem S128x128 .f32) (harg11 : arg11.IsWhole)
  (arg12 : Memref sig .scVector .vmem S128x18 .f32) (harg12 : arg12.IsWhole) (arg13 : Memref sig .scVector .vmem S128x18 .f32) (harg13 : arg13.IsWhole)
  (arg14 : DmaSems sig S_) (arg15 : DmaSems sig S_) (arg16 : DmaSems sig S_) (arg17 : DmaSems sig S_) (r0 : DmaSems sig S_) (r1 : DmaSems sig S_)

/-- The draws of chain `c` in trip `k` of the coarse loop. -/
def loadA (k : Fin k2_t1_loop.trips) (c : Fin 4) : TP F i (Vec F S16 .f32) :=
  Prog.lift (.load arg6 (Rect.unit (s := S2048) (k2_off2 k (BitVec.ofNat 32 c.val)) S16.size (k2_off2_inb k c)).toLoadRect (View.loadsAt_vmem h_S16))

/-- What a trip of the coarse loop leaves for chain `c`: its run and its row of the table. -/
def storeA (k : Fin k2_t1_loop.trips) (c : Fin 4) (lo : IVec S16 32) : TP F i PUnit := do
  let _ : Vec F S16 .i32 ← Prog.lift (.load arg8 (Rect.unit (s := S2048) (k2_off3 k (BitVec.ofNat 32 c.val)) S16.size (k2_off3_inb k c)).toLoadRect (View.loadsAt_vmem h_S16))
  Prog.lift (.store arg8 (Rect.unit (s := S2048) (k2_off3 k (BitVec.ofNat 32 c.val)) S16.size (k2_off3_inb k c)) (shrsi lo (broadcast S16 4#32)) Finset.univ (View.stores_vmem_bits_univ h_S16 rfl) (.inl rfl))
  let _ : Vec F S16 .i32 ← Prog.lift (.load arg9 (Rect.unit (s := S2048) (k2_off3 k (BitVec.ofNat 32 c.val)) S16.size (k2_off3_inb k c)).toLoadRect (View.loadsAt_vmem h_S16))
  Prog.lift (.store arg9 (Rect.unit (s := S2048) (k2_off3 k (BitVec.ofNat 32 c.val)) S16.size (k2_off3_inb k c)) (shrsi lo (broadcast S16 7#32)) Finset.univ (View.stores_vmem_bits_univ h_S16 rfl) (.inl rfl))

/-- A trip of the coarse loop: 64 draws, fourteen steps over the sampled table. -/
def tripA (k : Fin k2_t1_loop.trips) (_ : BitVec 32) : TP F i (BitVec 32) := do
  let u0 ← loadA i arg6 k 0
  let u1 ← loadA i arg6 k 1
  let u2 ← loadA i arg6 k 2
  let u3 ← loadA i arg6 k 3
  let p ← steps (fun _ m => gatherT arg7 (tabIdx m)) ![u0, u1, u2, u3] 14 (fun _ => broadcast S16 0#32) (fun _ => broadcast S16 262144#32)
  storeA i arg8 arg9 k 0 (p.1 0)
  storeA i arg8 arg9 k 1 (p.1 1)
  storeA i arg8 arg9 k 2 (p.1 2)
  storeA i arg8 arg9 k 3 (p.1 3)
  pure 0#32

/-- The start of chain `c` of trip `k` of group `g`: its draws and their runs. -/
def loadB (g : Fin 16) (k : Fin k2_t2_loop.trips) (c : Fin 4) : TP F i (Vec F S16 .f32 × Vec F S16 .i32) := do
  let u : Vec F S16 .f32 ← Prog.lift (.load arg6 (Rect.unit (s := S2048) (grpOff (BitVec.ofNat 32 (128 * g.val)) (Scf.iv 0#32 1#32 k) (BitVec.ofNat 32 c.val)) S16.size (grpOff_inb g k c)).toLoadRect (View.loadsAt_vmem h_S16))
  let r : Vec F S16 .i32 ← Prog.lift (.load arg8 (Rect.unit (s := S2048) (grpOff (BitVec.ofNat 32 (128 * g.val)) (Scf.iv 0#32 1#32 k) (BitVec.ofNat 32 c.val)) S16.size (grpOff_inb g k c)).toLoadRect (View.loadsAt_vmem h_S16))
  pure (u, r)

/-- The interval a run names: its sixteen entries. -/
def runLo (r : IVec S16 32) : IVec S16 32 := shli r (broadcast S16 4#32)
def runHi (r : IVec S16 32) : IVec S16 32 := addi (shli r (broadcast S16 4#32)) (broadcast S16 16#32)

/-- A trip of a fine loop: 64 draws of group `g`, four steps each within its run, the row stored. -/
def tripB (rows : Memref sig .scVector .vmem S128x128 .f32) (out : Memref sig .scVector .vmem S128x18 .f32) (lanes : IVec S16 32) (g : Fin 16)
    (k : Fin k2_t2_loop.trips) (_ : BitVec 32) : TP F i (BitVec 32) := do
  let a0 ← loadB i arg6 arg8 g k 0
  let a1 ← loadB i arg6 arg8 g k 1
  let a2 ← loadB i arg6 arg8 g k 2
  let a3 ← loadB i arg6 arg8 g k 3
  let p ← steps (fun c m => gatherR rows (slot lanes (Scf.iv 0#32 1#32 k) (BitVec.ofNat 32 c.val)) (laneIdx m)) ![a0.1, a1.1, a2.1, a3.1] 4
    (fun c => runLo ((![a0.2, a1.2, a2.2, a3.2] : Fin 4 → IVec S16 32) c)) (fun c => runHi ((![a0.2, a1.2, a2.2, a3.2] : Fin 4 → IVec S16 32) c))
  stores out (slot lanes (Scf.iv 0#32 1#32 k) 0#32) (capped (p.2 0)) 18 0
  stores out (slot lanes (Scf.iv 0#32 1#32 k) 1#32) (capped (p.2 1)) 18 0
  stores out (slot lanes (Scf.iv 0#32 1#32 k) 2#32) (capped (p.2 2)) 18 0
  stores out (slot lanes (Scf.iv 0#32 1#32 k) 3#32) (capped (p.2 3)) 18 0
  pure 0#32

theorem lists_inb (g : Fin 16) : ∀ a, (![128 * g.val] : Fin 1 → Nat) a + S128.size a ≤ S2048.size a := by
  revert g; decide +kernel

/-- The list of the table's rows group `g` reads. -/
def listOf (g : Fin 16) : Memref sig .scVector .vmem S128 .i32 :=
  arg9.slice (Rect.unit (s := S2048) ![128 * g.val] S128.size (lists_inb g)) (fun _ => rfl)

/-- The table the rows are gathered from. -/
def table : Memref sig .scVector .hbm S2048x128 .f32 :=
  arg3.slice (Rect.unit (s := S2048x128) ![0, 0] S2048x128.size inb_S2048x128_S2048x128_0_0) (fun _ => rfl)

/-- The block of the result group `g` of a tile fills. -/
def blockOf (g : Fin 16) : Memref sig .scVector .hbm S128x18 .f32 :=
  arg5.slice (Rect.unit (s := S65536x18) (k2_off5 i (BitVec.ofNat 32 (128 * g.val))) S128x18.size (k2_off5_inb i g)) (fun _ => rfl)

def lanes : IVec S16 32 := iota .scVector S16 32 [0] iota_S16_d0_w32_scVector

/-- The gather of group `g`'s rows started. -/
def startRows (rows : Memref sig .scVector .vmem S128x128 .f32) (sem : DmaSems sig S_) (g : Fin 16) : TP F i PUnit :=
  SparseCore.enqueueIndirectGather rfl (table arg3) rows gathers_S2048x128_S128x128 (listOf arg9 g) rfl sem.sem (View.wordExact_bits rfl) rfl (Or.inl rfl)

/-- A gather of rows waited for. -/
def waitRows (rows : Memref sig .scVector .vmem S128x128 .f32) (hrows : rows.IsWhole) (sem : DmaSems sig S_) : TP F i PUnit :=
  SparseCore.waitIndirectGather sem.sem (table arg3) rows (View.wordExact_bits rfl) hrows.wordExact

/-- Group `g`'s fine loop, and its block sent out. -/
def work (rows : Memref sig .scVector .vmem S128x128 .f32) (out : Memref sig .scVector .vmem S128x18 .f32) (hout : out.IsWhole) (osem : DmaSems sig S_)
    (g : Fin 16) : TP F i PUnit := do
  let _ : BitVec 32 ← Scf.Loop.for k2_t2_loop k2_t2_ok 0#32 (tripB i arg6 arg8 rows out lanes g)
  Prog.lift (.enqueueDma out (.here (blockOf i arg5 g)) (.dma osem.sem) hout.wordExact (View.wordExact_bits rfl) ⟨Or.inl rfl, trivial⟩)

/-- A block sent out waited for. -/
def waitOut (out : Memref sig .scVector .vmem S128x18 .f32) (hout : out.IsWhole) (osem : DmaSems sig S_) : TP F i PUnit :=
  Prog.lift (.waitDma2 osem.sem out (arg5.slice (Rect.unit (s := S65536x18) (k2_off7 i) S128x18.size (k2_off7_inb i)) (fun _ => rfl)) hout.wordExact (View.wordExact_bits rfl))

/-- Groups `2 p` and `2 p + 1`, for `p = 7 - n, …, 6`, each with the next gather started before it. -/
def pairs : (n : Nat) → (p : Nat) → (h : n + p = 7) → TP F i PUnit
  | 0, _, _ => pure ⟨⟩
  | n + 1, p, h => do
    waitRows i arg3 arg10 harg10 arg14
    startRows i arg3 arg9 arg11 arg15 ⟨2 * p + 1, by omega⟩
    waitOut i arg5 arg12 harg12 arg16
    work i arg5 arg6 arg8 arg10 arg12 harg12 arg16 ⟨2 * p, by omega⟩
    waitRows i arg3 arg11 harg11 arg15
    startRows i arg3 arg9 arg10 arg14 ⟨2 * p + 2, by omega⟩
    waitOut i arg5 arg13 harg13 arg17
    work i arg5 arg6 arg8 arg11 arg13 harg13 arg17 ⟨2 * p + 1, by omega⟩
    pairs n (p + 1) (by omega)

/-- The whole body of a tile. -/
def body : TP F i PUnit := do
  Prog.lift (.enqueueDma (arg4.slice (Rect.unit (s := S65536) (k2_off1 i) S2048.size (k2_off1_inb i)) (fun _ => rfl)) (.here arg6) (.dma r0.sem) (View.wordExact_bits rfl) harg6.wordExact ⟨Or.inl rfl, trivial⟩)
  Prog.lift (.waitDma2 r0.sem (arg4.slice (Rect.unit (s := S65536) (k2_off1 i) S2048.size (k2_off1_inb i)) (fun _ => rfl)) arg6 (View.wordExact_bits rfl) harg6.wordExact)
  Prog.lift (.enqueueDma arg2 (.here arg7) (.dma r1.sem) harg2.wordExact harg7.wordExact ⟨Or.inl rfl, trivial⟩)
  Prog.lift (.waitDma2 r1.sem arg2 arg7 harg2.wordExact harg7.wordExact)
  let _ : BitVec 32 ← Scf.Loop.for k2_t1_loop k2_t1_ok 0#32 (tripA i arg6 arg7 arg8 arg9)
  startRows i arg3 arg9 arg10 arg14 0
  waitRows i arg3 arg10 harg10 arg14
  startRows i arg3 arg9 arg11 arg15 1
  work i arg5 arg6 arg8 arg10 arg12 harg12 arg16 0
  waitRows i arg3 arg11 harg11 arg15
  startRows i arg3 arg9 arg10 arg14 2
  work i arg5 arg6 arg8 arg11 arg13 harg13 arg17 1
  pairs i arg3 arg5 arg6 arg8 arg9 arg10 harg10 arg11 harg11 arg12 harg12 arg13 harg13 arg14 arg15 arg16 arg17 6 1 rfl
  waitRows i arg3 arg10 harg10 arg14
  startRows i arg3 arg9 arg11 arg15 15
  waitOut i arg5 arg12 harg12 arg16
  work i arg5 arg6 arg8 arg10 arg12 harg12 arg16 14
  waitRows i arg3 arg11 harg11 arg15
  waitOut i arg5 arg13 harg13 arg17
  work i arg5 arg6 arg8 arg11 arg13 harg13 arg17 15
  waitOut i arg5 arg12 harg12 arg16
  waitOut i arg5 arg13 harg13 arg17

end Cert.KernelIdeal.Search
-- ==== Proof.Setup.lean ====
/- The search kernel's set-up: the program as the launch theorem sees it, the resource algebra, and the
   rules of a tile's memory operations over buffers held by what they READ. -/
module

public import proofs.«01_k».proof.Proof.Body
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

set_option maxRecDepth 16384

noncomputable section

namespace Cert.KernelIdeal.Search

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal

variable {F : FTy → Type}
variable [Facts]
open Facts₀ Facts

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the staging cells' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The thread -/

/-- The thread of the tile of grid point `i`. -/
abbrev thr (d : Dev nD) (i : grid2.Coords) : Thread nD τ := V d ((i 0).castLE hcore2) ((i 1).castLE hsub2)

/-- A program of a tile, run there. -/
abbrev WP [FloatOps F] (d : Dev nD) (i : grid2.Coords) {α : Type} (p : TP F i α) (Q : α → sProp 𝕄) : sProp 𝕄 :=
  wp frame (wpE (defs₀ (F := F)) 𝒱₀ (thr d i) none) Set.univ p Q

/-! ## Buffers held by what they read -/

section Holds

variable {sp : Space} {s : Shape} {e : EltTy}

/-- The elements of a memref, at the share `q`, reading `X`. -/
def Holds (d : Dev nD) (i : grid2.Coords) (m : Memref sig .scVector sp s e) (q : PosShare TreeShare) (X : s.Idx → Elt F e) : sProp 𝕄 :=
  iprop(∃ f : Buf (Elt F) (m.view.loc (thr d i)), ⌜m.view.read (Elt F) f = X⌝ ∗ (m.view.loc (thr d i) ↦[m.view.set]{q} f))

theorem holds_intro {d : Dev nD} {i : grid2.Coords} {m : Memref sig .scVector sp s e} {q : PosShare TreeShare}
    (f : Buf (Elt F) (m.view.loc (thr d i))) {X : s.Idx → Elt F e} (hX : m.view.read (Elt F) f = X) :
    (m.view.loc (thr d i) ↦[m.view.set]{q} f : sProp 𝕄) ⊢ Holds d i m q X := by
  iintro H
  unfold Holds
  iexists f
  isplitr; · ipureintro; exact hX
  iexact H

variable [FloatOps F]

theorem wp_loadH {d : Dev nD} {i : grid2.Coords} {α : Type} {cs : CoreSpace} {m : Memref sig .scVector cs s e} {r : Rect s} {hl : m.view.LoadsAt r.toLoadRect}
    {q : PosShare TreeShare} {X : s.Idx → Elt F e} {k : (r.shape.Idx → Elt F e) → TP F i α} {Q : α → sProp 𝕄} :
    Holds d i m q X ⊢ iprop((Holds d i m q X -∗ WP d i (k (fun x => X (r.emb x))) Q) -∗ WP d i (.op (.load m r.toLoadRect hl) k) Q) := by
  unfold Holds
  iintro ⟨%f, %hf, H⟩ Hk
  iapply (wp_load 𝒱₀ (thr d i) none Set.univ (m := m) (r := r.toLoadRect) (f := f) (View.setOn_subset_set _ _)) $$ H
  iintro H
  rw [show (m.view.readAt (Elt F) r.toLoadRect f) = (fun x => X (r.emb x)) from by rw [← hf]; rfl]
  iapply Hk
  iexists f
  isplitr; · ipureintro; exact hf
  iexact H

/-- A store through a rectangle, all of it: what is read afterwards. -/
theorem wp_storeH {d : Dev nD} {i : grid2.Coords} {α : Type} {cs : CoreSpace} {m : Memref sig .scVector cs s e} {r : Rect s} {w : r.shape.Idx → Elt F e}
    {hx : (m.access r).Stores Finset.univ} {hm : (Finset.univ : Finset r.shape.Idx) = Finset.univ ∨ ∀ a, r.stride a = 1}
    {X : s.Idx → Elt F e} (X' : s.Idx → Elt F e) (h1 : ∀ x, X' (r.emb x) = w x) (h2 : ∀ j, j ∉ r.set → X' j = X j)
    {k : PUnit → TP F i α} {Q : α → sProp 𝕄} :
    Holds d i m fullShare X ⊢ iprop((Holds d i m fullShare X' -∗ WP d i (k ⟨⟩) Q) -∗ WP d i (.op (.store m r w Finset.univ hx hm) k) Q) := by
  unfold Holds
  iintro ⟨%f, %hf, H⟩ Hk
  iapply (wp_store 𝒱₀ (thr d i) none Set.univ (m := m) (r := r) (f := f) (S := m.view.set) (by
    exact (View.setOn_subset_set _ _).trans (View.set_slice_subset _ _))) $$ H
  iintro H
  iapply Hk
  iexists ((m.access r).write (Elt F) f w Finset.univ)
  isplitr
  · ipureintro
    funext j
    by_cases hj : j ∈ r.set
    · obtain ⟨x, -, rfl⟩ := Finset.mem_map.mp (by rw [Rect.map_emb_univ]; exact hj : j ∈ Finset.univ.map r.emb)
      rw [h1]; exact View.read_slice_write_emb (v := m.view) r f w (Finset.mem_univ x)
    · rw [h2 j hj, ← hf]; exact View.read_slice_write_of_not_mem (v := m.view) r f w _ (by rw [Rect.map_emb_univ]; exact hj)
  iexact H

theorem wp_loadIdxH {d : Dev nD} {i : grid2.Coords} {t : Shape} {m : Memref sig .scVector .vmem s e} {idxs : Fin s.rank → IVec t 32}
    {h : ∀ a x, (idxs a x).toNat < s.size a} {hl : m.view.Loads} {q : PosShare TreeShare} {X : s.Idx → Elt F e} {Q : Vec F t e → sProp 𝕄} :
    Holds d i m q X ⊢ iprop((Holds d i m q X -∗ Q (loadIdx X idxs h)) -∗ WP d i (SparseCore.vectorLoadIdx m idxs h hl) Q) := by
  iintro H Hk
  iapply (wp_loadH (r := Rect.whole s) (q := q) (X := X) (hl := View.loadsAt_whole hl)) $$ H
  iintro H
  simp only [WP, wp_ret]
  rw [show (fun x => X ((Rect.whole s).emb x)) = X from funext fun x => by rw [Rect.emb_whole_apply]]
  imodintro
  iapply Hk; iexact H

theorem wp_storeIdxH {d : Dev nD} {i : grid2.Coords} {n : Fin 1 → Nat} {m : Memref sig .scVector .vmem s e} {idxs : Fin s.rank → IVec ⟨1, n⟩ 32} {v : Vec F ⟨1, n⟩ e}
    {mask : IVec ⟨1, n⟩ 1} {add : Bool} {h : ∀ a x, (idxs a x).toNat < s.size a} {hs : (m.access (.whole s)).Stores Finset.univ}
    {X : s.Idx → Elt F e} {Q : PUnit → sProp 𝕄} :
    Holds d i m fullShare X ⊢ iprop((Holds d i m fullShare (storeIdx X idxs v mask add h) -∗ Q ⟨⟩) -∗ WP d i (SparseCore.vectorStoreIdx m idxs v mask add h hs) Q) := by
  iintro H Hk
  iapply (wp_loadH (r := Rect.whole s) (X := X) (hl := View.loadsAt_rect hs.loads)) $$ H
  iintro H
  iapply (wp_storeH (r := Rect.whole s) (X := X) (storeIdx X idxs v mask add h)
    (fun x => by rw [Rect.emb_whole_apply, show (fun x => X ((Rect.whole s).emb x)) = X from funext fun x => by rw [Rect.emb_whole_apply]])
    (fun j hj => absurd (by rw [Rect.set_whole]; exact Finset.mem_univ j) hj)) $$ H
  iintro H
  simp only [WP, wp_ret]
  imodintro
  iapply Hk; iexact H

end Holds

end Cert.KernelIdeal.Search

end
-- ==== Proof.Region.lean ====
/- A TensorCore call of the host program as one step: entered with every array of the device at a valuation,
   left with them at another, the core's debts to the search call kept as they are. -/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop

@[expose] public section

set_option maxRecDepth 16384

noncomputable section

namespace Cert.KernelIdeal.Search

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal

variable {F : FTy → Type} [FloatOps F]
variable [Facts]
open Facts₀ Facts

local notation "𝕄" => MT nD τ sig (HIx 1) (Elt F) ℕ UU ℕ

/-- Nothing is prefetched. -/
abbrev adm (p : Fin 2) : (pcfgs (F := F) p).Adm := (cfgs p).toPCfg_adm

/-- A family of proof data for the two calls. -/
abbrev Dats : Type _ := (p : Fin 2) → (c : Dev nD) → Dat τ (Elt F) (HIx 1) ℕ UU ℕ (Pipeline.pin (pcfgs (F := F)) adm p) c

/-- The contents of every array a TensorCore names. -/
abbrev Val' : Type _ := (c : Dev nD) → (b : Ref sig .tc) → Buf (Elt F) ((c : Thread nD τ).loc b)

/-- What the core owes the search call, the waits it has recorded all on cells of level zero. -/
def owing (c : Dev nD) : sProp 𝕄 :=
  iprop(∃ W, ⌜(K (F := F)).WBelow (SparseCore.T c) W 0⌝ ∗ owes (SparseCore.T c) ((K (F := F)).Otc c 0) W)

theorem otc_none (c : Dev nD) (g : GSem nD τ sig) : (K (F := F)).Otc c 0 g none = 0 := by
  by_contra h
  have := (K (F := F)).lev_of_Otc_pos (Nat.pos_of_ne_zero h)
  rw [(K (F := F)).lev_none g] at this
  omega

/-- The state between calls. -/
def hostAt (V : Val' (F := F)) (c : Dev nD) : sProp 𝕄 := iprop(unscopedBufs c (V c) ∗ owing c)

/-- The pairs of level zero. -/
def lowPairs (c : Dev nD) : Set (SemLoc sig × HIx 1) := {p | (K (F := F)).lev (SparseCore.T c, p.1) p.2 ≤ 0}

set_option backward.isDefEq.respectTransparency.types false in
/-- Call `p` as a step from `V` to `V'`, from its proof data and its body's obligation. -/
def seg (pd : Dats (F := F)) (p : Fin 2) (lf : Pipeline.LaunchFacts (nD := nD) (τ := τ) cfgs p)
    (hΦ : ∀ c t, (pd p c).Φ t = Pipeline.scopedRest (Ix := HIx 1) (Name := ℕ) (U := UU) (Lvl := ℕ) (Val := Elt F) (cfgs p).spec c)
    (hq : ∀ c w, (pd p c).q w = fullShare) (hO : ∀ c t, (pd p c).owed t = (K (F := F)).Otc c 0)
    (hR : ∀ c t, (pd p c).recorded t = lowPairs (F := F) c)
    (V V' : Val' (F := F)) (hA : ∀ c w, (pd p c).A w = V c (Pipeline.arrRef (cfgs p).spec w))
    (hout : ∀ c w, (pd p c).arrAt w (Pipeline.pin (pcfgs (F := F)) adm p).N = V' c (Pipeline.arrRef (cfgs p).spec w))
    (hrest : ∀ c b, b ∉ Finset.univ.image (Pipeline.arrRef (cfgs p).spec) → V' c b = V c b)
    (hbody : ∀ c, BodyObligation (pd p c) (defs₀ (F := F)) 𝒱₀ none Set.univ) :
    Pipeline.RegionSeg (pcfgs (F := F)) adm pd none defs₀ 𝒱₀ (K (F := F)).L (K (F := F)).lev p where
  win := lf.win.to₀
  block_pos := lf.block_pos
  stage_whole := lf.stage_whole
  K := PEmpty
  osem k := k.elim
  ho := Pipeline.OwnSemFacts.none _
  hbody c := (hbody c).loose
  hwaits c := Pipeline.cellsWaits_intro _ _ _ _ _ fun w s t => by
    rw [hO c t]; exact (K (F := F)).mayWait_none _ (otc_none c)
  pre := hostAt V
  post := hostAt V'
  X _ := BI.emp
  Y _ := BI.emp
  Z c := Pipeline.unscopedRest (Ix := HIx 1) (Name := ℕ) (U := UU) (Lvl := ℕ) (cfgs p).spec c (V c)
  hentry c := by
    rw [Pipeline.ownSems0_none]
    have hsplit := Pipeline.arrays_of_unscopedBufs (p := p) (pcfgs (F := F)) adm pd lf.win lf.arr_whole c
      ((pd p c).share_full (hq c)) (V c) (hA c)
    unfold hostAt owing
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hO c 0]
      iexists W
      isplitr
      · ipureintro; exact fun x hx => Or.inl (by rw [hR c 0]; exact hW x hx)
      iexact HO
    isplitr; · iempintro
    iexact Hrest
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm (Ix := HIx 1) (Name := ℕ) (U := UU) (Lvl := ℕ) lf.win lf.arr_whole c
      pd ((pd p c).share_full (hq c)) (V c) (V' c) ((pd p c).arrAt · (Pipeline.pin (pcfgs (F := F)) adm p).N) (hout c) (hrest c)
    unfold hostAt owing
    iintro ⟨Ha, HO, -, Hrest⟩
    imodintro
    isplitl [Ha Hrest]
    · iapply hjoin; isplitl [Ha] <;> iassumption
    unfold Pipeline.Dat.owesAt Pipeline.owesWithin
    rw [hO c (Fin.last _)]
    icases HO with ⟨%W, %hW, HO⟩
    iexists W
    isplitr
    · ipureintro
      intro x hx
      rcases hW hx with h | ⟨w, s, h⟩
      · rw [hR c (Fin.last _)] at h; exact h
      · rw [h]; exact le_of_eq ((K (F := F)).lev_none _)
    iexact HO

end Cert.KernelIdeal.Search

end
-- ==== Proof.Bisect.lean ====
/- The bisection over natural numbers, and the kernel's index words as such numbers: what a step's
   interval, an entry's place in the sampled table and a row's slot are, lane by lane. -/
module

public import proofs.«01_k».proof.Proof.Body

@[expose] public section

set_option maxRecDepth 16384

noncomputable section

namespace Cert.KernelIdeal.Search

open Idealize.ShloMosaic
open Cert.KernelIdeal

/-! ## Bisection -/

/-- `n` steps of bisection from `lo`: the interval is `2 ^ (n + k)` long and `2 ^ k` long at the end;
    the lower half is kept where `p` holds of the middle. -/
def bsn (p : ℕ → Bool) : (n k lo : ℕ) → ℕ
  | 0, _, lo => lo
  | n + 1, k, lo => bsn p n k (if p (lo + 2 ^ (n + k)) then lo else lo + 2 ^ (n + k))

theorem bsn_le (p : ℕ → Bool) (n k lo : ℕ) : lo ≤ bsn p n k lo := by
  induction n generalizing lo with
  | zero => exact le_rfl
  | succ n ih =>
    rw [bsn]
    split
    · exact ih lo
    · exact le_trans (Nat.le_add_right _ _) (ih _)

theorem bsn_lt (p : ℕ → Bool) (n k lo : ℕ) : bsn p n k lo + 2 ^ k ≤ lo + 2 ^ (n + k) := by
  induction n generalizing lo with
  | zero => rw [bsn]; simp
  | succ n ih =>
    rw [bsn]
    have e : 2 ^ (n + 1 + k) = 2 ^ (n + k) + 2 ^ (n + k) := by rw [show n + 1 + k = (n + k) + 1 by omega, pow_succ]; omega
    have hp : 0 < 2 ^ (n + k) := Nat.two_pow_pos _
    split
    · have := ih lo; omega
    · have := ih (lo + 2 ^ (n + k)); omega

theorem bsn_dvd (p : ℕ → Bool) (n k lo : ℕ) (h : 2 ^ k ∣ lo) : 2 ^ k ∣ bsn p n k lo := by
  induction n generalizing lo with
  | zero => exact h
  | succ n ih =>
    rw [bsn]
    split
    · exact ih lo h
    · exact ih _ (Dvd.dvd.add h (pow_dvd_pow 2 (by omega)))

/-- Two bisections in turn are one. -/
theorem bsn_add (p : ℕ → Bool) (n n' k lo : ℕ) : bsn p n' k (bsn p n (n' + k) lo) = bsn p (n + n') k lo := by
  induction n generalizing lo with
  | zero => rw [bsn]; simp
  | succ n ih =>
    rw [bsn, ih, show n + 1 + n' = (n + n') + 1 by omega, bsn, show n + (n' + k) = n + n' + k by omega]

/-- Bisections over predicates that agree on the middles are the same. -/
theorem bsn_congr {p p' : ℕ → Bool} (n k lo : ℕ) (h : ∀ m, lo < m → m < lo + 2 ^ (n + k) → 2 ^ k ∣ m - lo → p m = p' m) :
    bsn p n k lo = bsn p' n k lo := by
  induction n generalizing lo with
  | zero => rfl
  | succ n ih =>
    have e : 2 ^ (n + 1 + k) = 2 ^ (n + k) + 2 ^ (n + k) := by rw [show n + 1 + k = (n + k) + 1 by omega, pow_succ]; omega
    have hp : 0 < 2 ^ (n + k) := Nat.two_pow_pos _
    have hd : 2 ^ k ∣ 2 ^ (n + k) := pow_dvd_pow 2 (by omega)
    rw [bsn, bsn, h (lo + 2 ^ (n + k)) (by omega) (by omega) (by rwa [Nat.add_sub_cancel_left])]
    split
    · exact ih lo fun m h1 h2 h3 => h m h1 (by omega) h3
    · refine ih _ fun m h1 h2 h3 => h m (by omega) (by omega) ?_
      rw [show m - lo = (m - (lo + 2 ^ (n + k))) + 2 ^ (n + k) by omega]
      exact Dvd.dvd.add h3 hd

/-- Over a predicate that holds from some point on, the bisection ends just below the first place at which
    it holds, if that lies inside. -/
theorem bsn_spec (p : ℕ → Bool) (n lo : ℕ) (hmono : ∀ a b, a ≤ b → p a = true → p b = true) (c : ℕ) (hc : ∀ m, p m = true ↔ c ≤ m)
    (h1 : lo < c) (h2 : c ≤ lo + 2 ^ n) : bsn p n 0 lo + 1 = c := by
  induction n generalizing lo with
  | zero => rw [bsn]; simp at h2; omega
  | succ n ih =>
    rw [bsn]; simp only [Nat.add_zero]
    have e : 2 ^ (n + 1) = 2 ^ n + 2 ^ n := by rw [pow_succ]; omega
    by_cases hp : p (lo + 2 ^ n) = true
    · rw [if_pos hp]; exact ih lo h1 ((hc _).1 hp)
    · rw [if_neg hp]; exact ih _ (by by_contra h; exact hp ((hc _).2 (by omega))) (by omega)

/-! ## Indices of one and of two coordinates -/

/-- The index of one coordinate `n` (taken below the extent). -/
def i1 (N : ℕ) [NeZero N] (n : ℕ) : (⟨1, ![N]⟩ : Shape).Idx := fun a => ⟨n % N, by
  have := Fin.eq_zero a; subst this; exact Nat.mod_lt _ (Nat.pos_of_ne_zero (NeZero.ne N))⟩

/-- The index of two coordinates. -/
def i2 (N M : ℕ) [NeZero N] [NeZero M] (r c : ℕ) : (⟨2, ![N, M]⟩ : Shape).Idx := fun
  | 0 => ⟨r % N, Nat.mod_lt _ (Nat.pos_of_ne_zero (NeZero.ne N))⟩
  | 1 => ⟨c % M, Nat.mod_lt _ (Nat.pos_of_ne_zero (NeZero.ne M))⟩

theorem eq_i1 {N : ℕ} [NeZero N] (j : (⟨1, ![N]⟩ : Shape).Idx) {n : ℕ} (h : (j 0).val = n) : j = i1 N n := by
  funext a
  have := Fin.eq_zero a; subst this
  apply Fin.ext
  show (j 0).val = n % N
  rw [← h]
  exact (Nat.mod_eq_of_lt (j 0).isLt).symm

theorem eq_i2 {N M : ℕ} [NeZero N] [NeZero M] (j : (⟨2, ![N, M]⟩ : Shape).Idx) {r c : ℕ} (h0 : (j 0).val = r) (h1 : (j 1).val = c) : j = i2 N M r c := by
  funext a
  apply Fin.ext
  match a with
  | 0 => show (j 0).val = r % N; rw [← h0]; exact (Nat.mod_eq_of_lt (j 0).isLt).symm
  | 1 => show (j 1).val = c % M; rw [← h1]; exact (Nat.mod_eq_of_lt (j 1).isLt).symm

/-! ## Index words -/

/-- Index words that name numbers, lane by lane. -/
def Names (m : IVec S16 32) (M : S16.Idx → ℕ) : Prop := ∀ x, m x = BitVec.ofNat 32 (M x)

theorem shrsi_ofNat {M k : ℕ} (hM : M < 2 ^ 31) (hk : k < 32) :
    IntOp.shrsi .vector (BitVec.ofNat 32 M) (BitVec.ofNat 32 k) = BitVec.ofNat 32 (M / 2 ^ k) := by
  have e : (BitVec.ofNat 32 k).toNat = k := by rw [BitVec.toNat_ofNat]; omega
  have hM' : (BitVec.ofNat 32 M).toNat = M := by rw [BitVec.toNat_ofNat]; omega
  unfold IntOp.shrsi
  rw [e, if_pos hk]
  show (BitVec.ofNat 32 M).sshiftRight (BitVec.ofNat 32 k).toNat = _
  rw [e, BitVec.sshiftRight_eq_of_msb_false (by rw [BitVec.msb_eq_false_iff_two_mul_lt, hM']; omega)]
  apply BitVec.eq_of_toNat_eq
  rw [BitVec.toNat_ushiftRight, hM', Nat.shiftRight_eq_div_pow, BitVec.toNat_ofNat]
  have := Nat.div_le_self M (2 ^ k)
  exact (Nat.mod_eq_of_lt (by omega)).symm

theorem andi_ofNat (M k : ℕ) : IntOp.andi (BitVec.ofNat 32 M) (BitVec.ofNat 32 (2 ^ k - 1)) = BitVec.ofNat 32 (M % 2 ^ k) := by
  show BitVec.ofNat 32 M &&& BitVec.ofNat 32 (2 ^ k - 1) = _
  rw [← BitVec.ofNat_and, Nat.and_two_pow_sub_one_eq_mod]

theorem toNat_ofNat_lt {M : ℕ} (hM : M < 2 ^ 31) : (BitVec.ofNat 32 M).toNat = M := by
  rw [BitVec.toNat_ofNat]; omega

/-- The middle of an interval. -/
theorem half_names {lo hi : IVec S16 32} {L : S16.Idx → ℕ} {n : ℕ} (hn : n < 30) (hlo : Names lo L)
    (hhi : Names hi fun x => L x + 2 ^ (n + 1)) : Names (half lo hi) fun x => L x + 2 ^ n := by
  intro x
  show IntOp.addi (lo x) (IntOp.shrsi .vector (IntOp.subi (hi x) (lo x)) 1#32) = _
  have h2 : 2 ^ (n + 1) < 2 ^ 31 := Nat.pow_lt_pow_right (by omega) (by omega)
  rw [hlo x, hhi x]
  rw [show IntOp.subi (BitVec.ofNat 32 (L x + 2 ^ (n + 1))) (BitVec.ofNat 32 (L x)) = BitVec.ofNat 32 (2 ^ (n + 1)) from by
    show _ - _ = _
    rw [BitVec.ofNat_add, BitVec.add_comm, BitVec.add_sub_cancel]]
  rw [shrsi_ofNat h2 (by omega : 1 < 32), pow_succ, show 2 ^ n * 2 / 2 ^ 1 = 2 ^ n by omega]
  exact (BitVec.ofNat_add ..).symm

theorem tabIdx_names {m : IVec S16 32} {M : S16.Idx → ℕ} (hm : Names m M) (hM : ∀ x, M x < 2 ^ 18) :
    Names (tabIdx m) fun x => M x / 16 % 8 * 2048 + M x / 128 := by
  intro x
  show IntOp.addi (IntOp.muli (IntOp.andi (IntOp.shrsi .vector (m x) 4#32) 7#32) 2048#32) (IntOp.shrsi .vector (m x) 7#32) = _
  have := hM x
  rw [hm x, shrsi_ofNat (by omega) (by omega), shrsi_ofNat (by omega) (by omega), show (7#32 : BitVec 32) = BitVec.ofNat 32 (2 ^ 3 - 1) from rfl, andi_ofNat]
  show BitVec.ofNat 32 _ * BitVec.ofNat 32 2048 + BitVec.ofNat 32 _ = _
  rw [← BitVec.ofNat_mul, ← BitVec.ofNat_add]; rfl

theorem laneIdx_names {m : IVec S16 32} {M : S16.Idx → ℕ} (hm : Names m M) : Names (laneIdx m) fun x => M x % 128 := by
  intro x
  show IntOp.andi (m x) 127#32 = _
  rw [hm x, show (127#32 : BitVec 32) = BitVec.ofNat 32 (2 ^ 7 - 1) from rfl, andi_ofNat]; rfl

theorem run_names {m : IVec S16 32} {M : S16.Idx → ℕ} (hm : Names m M) (hM : ∀ x, M x < 2 ^ 18) :
    Names (shrsi m (broadcast S16 4#32)) fun x => M x / 16 := by
  intro x
  show IntOp.shrsi .vector (m x) 4#32 = _
  have := hM x
  rw [hm x, shrsi_ofNat (by omega) (by omega)]; rfl

theorem row_names {m : IVec S16 32} {M : S16.Idx → ℕ} (hm : Names m M) (hM : ∀ x, M x < 2 ^ 18) :
    Names (shrsi m (broadcast S16 7#32)) fun x => M x / 128 := by
  intro x
  show IntOp.shrsi .vector (m x) 7#32 = _
  have := hM x
  rw [hm x, shrsi_ofNat (by omega) (by omega)]; rfl

theorem runLo_names {m : IVec S16 32} {M : S16.Idx → ℕ} (hm : Names m M) : Names (runLo m) fun x => 16 * M x := by
  intro x
  show IntOp.shli .vector (m x) 4#32 = _
  rw [hm x]
  unfold IntOp.shli
  rw [if_pos (by decide)]
  show BitVec.ofNat 32 (M x) <<< 4 = _
  rw [BitVec.shiftLeft_eq_mul_twoPow, show BitVec.twoPow 32 4 = BitVec.ofNat 32 16 from by decide, ← BitVec.ofNat_mul, Nat.mul_comm]

theorem runHi_names {m : IVec S16 32} {M : S16.Idx → ℕ} (hm : Names m M) : Names (runHi m) fun x => 16 * M x + 2 ^ 4 := by
  intro x
  show IntOp.addi (runLo m x) 16#32 = _
  rw [runLo_names hm x]
  exact (BitVec.ofNat_add ..).symm

theorem capped_names {m : IVec S16 32} {M : S16.Idx → ℕ} (hm : Names m M) (hM : ∀ x, M x ≤ 2 ^ 18) :
    Names (capped m) fun x => min (M x) 262143 := by
  intro x
  show IntOp.minsi (m x) 262143#32 = _
  have := hM x
  rw [hm x]
  unfold IntOp.minsi
  have hi : (BitVec.ofNat 32 (M x)).toInt = M x := by
    rw [BitVec.toInt_eq_toNat_of_lt (by rw [toNat_ofNat_lt (by omega)]; omega), toNat_ofNat_lt (by omega)]
  rw [BitVec.slt_eq_decide, hi, show (262143#32 : BitVec 32).toInt = 262143 from by decide]
  show _ = BitVec.ofNat 32 (min (M x) 262143)
  by_cases h : M x < 262143
  · rw [if_pos (by simpa using by exact_mod_cast h), min_eq_left (by omega)]
  · rw [if_neg (by simpa using by exact_mod_cast (not_lt.mp h)), min_eq_right (by omega)]

theorem lanes_names : Names lanes fun x => (x 0).val := by
  intro x
  show BitVec.ofNat 32 _ = _
  simp

theorem slot_names (k : Fin k2_t2_loop.trips) (c : Fin 4) :
    Names (slot lanes (Scf.iv 0#32 1#32 k) (BitVec.ofNat 32 c.val)) fun x => 64 * k.val + 16 * c.val + (x 0).val := by
  intro x
  show IntOp.addi (Scalar.muli (chainNo (Scf.iv 0#32 1#32 k) (BitVec.ofNat 32 c.val)) 16#32) (lanes x) = _
  rw [lanes_names x, show Scalar.muli (chainNo (Scf.iv 0#32 1#32 k) (BitVec.ofNat 32 c.val)) 16#32 = BitVec.ofNat 32 (64 * k.val + 16 * c.val) from by
    revert k c; decide +kernel]
  exact (BitVec.ofNat_add ..).symm

theorem grpOff_eq (g : Fin 16) (k : Fin k2_t2_loop.trips) (c : Fin 4) :
    grpOff (BitVec.ofNat 32 (128 * g.val)) (Scf.iv 0#32 1#32 k) (BitVec.ofNat 32 c.val) = ![128 * g.val + 64 * k.val + 16 * c.val] := by
  revert g k c; decide +kernel

theorem trips_coarse : k2_t1_loop.trips = 32 := by decide +kernel
theorem trips_fine : k2_t2_loop.trips = 2 := by decide +kernel

end Cert.KernelIdeal.Search

end
-- ==== Proof.Core.lean ====
/- The rules of a TensorCore body's loads and stores, its buffers held by what they READ, and the first call:
   the logits, a block of rows against the parameters at each point. -/
module

public import proofs.«01_k».proof.Proof.Region
public import proofs.«01_k».proof.Proof.Bisect
public import proofs.«01_k».proof.Proof.Gen.KernelIdeal.Skeleton
public import Idealize.ShloMosaic.Lib.Pipeline.ValueKit.Geometry
public import Idealize.ShloMosaic.Lib.Pipeline.FrameBody

@[expose] public section

set_option maxRecDepth 16384

noncomputable section

namespace Cert.KernelIdeal.Search

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig (HIx 1) (Elt F) ℕ UU ℕ

/-- A program of the TensorCore, and it run on device `d`. -/
abbrev TC (F : FTy → Type) (α : Type) : Type _ := Prog (TpuEff nD τ sig (Elt F) Λ₀ .tc) α
abbrev WT (d : Dev nD) {α : Type} (p : TC F α) (Q : α → sProp 𝕄) : sProp 𝕄 :=
  wp frame (wpE (defs₀ (F := F)) 𝒱₀ (d : Thread nD τ) none) Set.univ p Q

/-- The elements of a memref of the core, reading `X`. -/
abbrev Own (d : Dev nD) {sp : Space} {s : Shape} {e : EltTy} (m : Memref sig .tc sp s e) (X : s.Idx → Elt F e) : sProp 𝕄 :=
  owns (d : Thread nD τ) m fullShare X

section Rules

variable {s : Shape} {e : EltTy}

theorem wp_loadO {d : Dev nD} {α : Type} {cs : CoreSpace} {m : Memref sig .tc cs s e} {r : Rect s} {hl : m.view.LoadsAt r.toLoadRect}
    {X : s.Idx → Elt F e} {k : (r.shape.Idx → Elt F e) → TC F α} {Q : α → sProp 𝕄} :
    Own d m X ⊢ iprop((Own d m X -∗ WT d (k (fun x => X (r.emb x))) Q) -∗ WT d (.op (.load m r.toLoadRect hl) k) Q) := by
  unfold Own owns
  iintro ⟨%f, %hf, H⟩ Hk
  iapply (wp_load 𝒱₀ (d : Thread nD τ) none Set.univ (m := m) (r := r.toLoadRect) (f := f) (View.setOn_subset_set _ _)) $$ H
  iintro H
  rw [show (m.view.readAt (Elt F) r.toLoadRect f) = (fun x => X (r.emb x)) from by rw [← hf]; rfl]
  iapply Hk
  iexists f
  isplitr; · ipureintro; exact hf
  iexact H

/-- A store through a rectangle, all of it: what is read afterwards. -/
theorem wp_storeO {d : Dev nD} {α : Type} {cs : CoreSpace} {m : Memref sig .tc cs s e} {r : Rect s} {w : r.shape.Idx → Elt F e}
    {hx : (m.access r).Stores Finset.univ} {hm : (Finset.univ : Finset r.shape.Idx) = Finset.univ ∨ ∀ a, r.stride a = 1}
    {X : s.Idx → Elt F e} (X' : s.Idx → Elt F e) (h1 : ∀ x, X' (r.emb x) = w x) (h2 : ∀ j, j ∉ r.set → X' j = X j)
    {k : PUnit → TC F α} {Q : α → sProp 𝕄} :
    Own d m X ⊢ iprop((Own d m X' -∗ WT d (k ⟨⟩) Q) -∗ WT d (.op (.store m r w Finset.univ hx hm) k) Q) := by
  unfold Own owns
  iintro ⟨%f, %hf, H⟩ Hk
  iapply (wp_store 𝒱₀ (d : Thread nD τ) none Set.univ (m := m) (r := r) (f := f) (S := m.view.set) (by
    exact (View.setOn_subset_set _ _).trans (View.set_slice_subset _ _))) $$ H
  iintro H
  iapply Hk
  iexists ((m.access r).write (Elt F) f w Finset.univ)
  isplitr
  · ipureintro
    funext j
    by_cases hj : j ∈ r.set
    · obtain ⟨x, -, rfl⟩ := Finset.mem_map.mp (by rw [Rect.map_emb_univ]; exact hj : j ∈ Finset.univ.map r.emb)
      rw [h1]; exact View.read_slice_write_emb (v := m.view) r f w (Finset.mem_univ x)
    · rw [h2 j hj, ← hf]; exact View.read_slice_write_of_not_mem (v := m.view) r f w _ (by rw [Rect.map_emb_univ]; exact hj)
  iexact H

end Rules

/-! ## The logits -/

/-- Rows `16384 n` and on of the matrix. -/
def rowsOf (A : Vec F S262144x128 .f32) (n : ℕ) : Vec F S16384x128 .f32 := fun y => A (i2 262144 128 (16384 * n + (y 0).val) (y 1).val)

/-- The logits of every row of the matrix, in the layout the next call reads. -/
def logitsOf (A : Vec F S262144x128 .f32) (t : Vec F S1x128 .f32) : Vec F S2048x128 .f32 :=
  fun j => k0_pay1 t (rowsOf A ((j 0).val / 128)) (i2 128 128 ((j 0).val % 128) (j 1).val)

theorem matvec_run (d : Dev nD) (i : grid0.Coords) {m1 : Memref sig .tc .vmem S16384x128 .f32} {h1 : m1.IsWhole} {m2 : Memref sig .tc .vmem S1x128 .f32} {h2 : m2.IsWhole}
    {m3 : Memref sig .tc .vmem S128x128 .f32} {h3 : m3.IsWhole} (A : Vec F S16384x128 .f32) (t : Vec F S1x128 .f32) (X : Vec F S128x128 .f32) (Q : PUnit → sProp 𝕄) :
    iprop(Own d m1 A ∗ Own d m2 t ∗ Own d m3 X ∗ (iprop(Own d m1 A ∗ Own d m2 t ∗ Own d m3 (k0_pay1 t A)) -∗ Q ⟨⟩))
      ⊢ WT d (cc0__matvec_body (F := F) i m1 h1 m2 h2 m3 h3) Q := by
  rw [cc0__matvec_body_eq_skeleton]
  unfold cc0__matvec_body_skel
  simp only [Prog.lift, Prog.bind_op, Prog.bind_ret, Prog.pure_eq_ret]
  iintro ⟨H1, H2, H3, Hk⟩
  iapply wp_loadO $$ H2
  iintro H2
  iapply wp_loadO $$ H1
  iintro H1
  iapply wp_loadO $$ H3
  iintro H3
  have e1 : (fun x => t ((Rect.unit (s := S1x128) ![0, 0] S1x128.size inb_S1x128_S1x128_0_0).emb x)) = t := by
    funext x; congr 1; funext a; apply Fin.ext; rw [Rect.emb_apply]; fin_cases a <;> simp
  have e2 : (fun x => A ((Rect.unit (s := S16384x128) ![0, 0] S16384x128.size inb_S16384x128_S16384x128_0_0).emb x)) = A := by
    funext x; congr 1; funext a; apply Fin.ext; rw [Rect.emb_apply]; fin_cases a <;> simp
  rw [e1, e2]
  iapply (wp_storeO (k0_pay1 t A) (fun x => by
    congr 1; funext a; apply Fin.ext; rw [Rect.emb_apply]; fin_cases a <;> simp) (fun j hj => absurd (by
    rw [Rect.mem_set_unit]; intro a; have := (j a).isLt; fin_cases a <;> exact ⟨Nat.zero_le _, by simpa using this⟩) hj)) $$ H3
  iintro H3
  simp only [WT, wp_ret]
  imodintro
  iapply Hk
  isplitl [H1]; · iexact H1
  isplitl [H2]; · iexact H2
  iexact H3

/-- The proof data of the first call, entered with the arrays at `V`. -/
def mvDat (V : Val' (F := F)) (c : Dev nD) : Dat τ (Elt F) (HIx 1) ℕ UU ℕ cfg0 c where
  A w := V c (Pipeline.arrRef spec0 w)
  after w t := match w with
    | ⟨0, _⟩ => rowsOf (V c main_arg1) t.val
    | ⟨1, _⟩ => V c main_v0
    | ⟨2, _⟩ => k0_pay1 (V c main_v0) (rowsOf (V c main_arg1) t.val)
  Φ _ := Pipeline.scopedRest (Ix := HIx 1) (Name := ℕ) (U := UU) (Lvl := ℕ) (Val := Elt F) spec0 c
  q _ := fullShare
  owed _ := (K (F := F)).Otc c 0
  recorded _ := lowPairs (F := F) c

theorem idx0_0 : ∀ t : Fin cfg0.N, win0_0.index t = ![t.val, 0] := (by decide +kernel : ∀ t : Fin grid0.N, win0_0.index t = ![t.val, 0])
theorem idx0_1 : ∀ t : Fin cfg0.N, win0_1.index t = ![0, 0] := (by decide +kernel : ∀ t : Fin grid0.N, win0_1.index t = ![0, 0])
theorem idx0_2 : ∀ t : Fin cfg0.N, win0_2.index t = ![t.val, 0] := (by decide +kernel : ∀ t : Fin grid0.N, win0_2.index t = ![t.val, 0])

theorem mv_block0 (V : Val' (F := F)) (c : Dev nD) (t : Fin cfg0.N) : (mvDat V c).blockOf 0 t = rowsOf (V c main_arg1) t.val := by
  funext y
  show V c main_arg1 ((win0_0.blk t).view.emb y) = _
  unfold rowsOf
  congr 1
  refine eq_i2 (N := 262144) (M := 128) _ ?_ ?_
  · blk_simp [idx0_0]; omega
  · blk_simp [idx0_0]

theorem mv_block1 (V : Val' (F := F)) (c : Dev nD) (t : Fin cfg0.N) : (mvDat V c).blockOf 1 t = V c main_v0 := by
  funext y
  show V c main_v0 ((win0_1.blk t).view.emb y) = _
  congr 1
  funext a
  apply Fin.ext
  fin_cases a
  · blk_simp [idx0_1]
  · blk_simp [idx0_1]

theorem mv_before0 (V : Val' (F := F)) (c : Dev nD) (t : Fin cfg0.N) (x : (cfg0.win 0).block.Idx → Elt F (cfg0.win 0).elt) :
    (mvDat V c).before 0 t x = rowsOf (V c main_arg1) t.val := by
  rw [(mvDat V c).before_in_eq_fetched 0 rfl (fun _ => rfl) (fun _ _ _ => rfl) (fun t => (mv_block0 V c t).symm) t x]
  exact mv_block0 V c t

theorem mv_before1 (V : Val' (F := F)) (c : Dev nD) (t : Fin cfg0.N) (x : (cfg0.win 1).block.Idx → Elt F (cfg0.win 1).elt) :
    (mvDat V c).before 1 t x = V c main_v0 := by
  rw [(mvDat V c).before_in_eq_fetched 1 rfl (fun _ => rfl) (fun _ _ _ => rfl) (fun t => (mv_block1 V c t).symm) t x]
  exact mv_block1 V c t

theorem mv_body (V : Val' (F := F)) (c : Dev nD) : BodyObligation (mvDat V c) (defs₀ (F := F)) 𝒱₀ none Set.univ := fun t => by
  rw [bigSep_W0, bigSep_W0]
  rw [show (mvDat V c).Φ t.castSucc = (mvDat V c).Φ t.succ from rfl,
    show (mvDat V c).owesAt none t.succ = (mvDat V c).owesAt none t.castSucc from rfl]
  change _ ⊢ WT c (bodyAt0 t) _
  iintro ⟨HΦ, Howes, ⟨%d0, H0⟩, ⟨%d1, H1⟩, ⟨%d2, H2⟩⟩
  rw [mv_before0, mv_before1]
  iapply (matvec_run c (grid0.coords t) (rowsOf (V c main_arg1) t.val) (V c main_v0) ((mvDat V c).before 2 t d2) _)
  isplitl [H0]; · iexact H0
  isplitl [H1]; · iexact H1
  isplitl [H2]; · iexact H2
  iintro ⟨H0, H1, H2⟩
  isplitl [HΦ]; · iexact HΦ
  isplitl [Howes]; · iexact Howes
  isplitl [H0]; · iexact H0
  isplitl [H1]; · iexact H1
  iexact H2

theorem mv_out (V : Val' (F := F)) (c : Dev nD) : (mvDat V c).arrAt 2 cfg0.N = logitsOf (V c main_arg1) (V c main_v0) := by
  refine (mvDat V c).arrAt_eq_of_covers 2 _ (by decide +kernel) fun t hf y => ?_
  blk_simp
  show k0_pay1 (V c main_v0) (rowsOf (V c main_arg1) t.val) _ = _
  unfold logitsOf
  have e0 : ((win0_2.blk t).view.emb y 0).val = 128 * t.val + (y 0).val := by blk_simp [idx0_2]; omega
  have e1 : ((win0_2.blk t).view.emb y 1).val = (y 1).val := by blk_simp [idx0_2]
  have hy : (y 0).val < 128 := (y 0).isLt
  have hd : (128 * t.val + (y 0).val) / 128 = t.val := by omega
  have hm : (128 * t.val + (y 0).val) % 128 = (y 0).val := by omega
  rw [e0, e1, hd, hm]
  exact congrArg _ (eq_i2 (N := 128) (M := 128) y rfl rfl)

end Cert.KernelIdeal.Search

end
-- ==== Proof.Scan.lean ====
/- What the second call computes of the logits: the probabilities, their running sums along the lanes and
   over the rows, and the two arrays it writes; and the rule of a store that fills an array slice by slice. -/
module

public import proofs.«01_k».proof.Proof.Core

@[expose] public section

set_option maxRecDepth 16384

noncomputable section

namespace Cert.KernelIdeal.Search

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig (HIx 1) (Elt F) ℕ UU ℕ

/-! ## The values of the second call, from the logits `L` -/

/-- The index of three coordinates. -/
def i3 (N M P : ℕ) [NeZero N] [NeZero M] [NeZero P] (a b c : ℕ) : (⟨3, ![N, M, P]⟩ : Shape).Idx := fun
  | 0 => ⟨a % N, Nat.mod_lt _ (Nat.pos_of_ne_zero (NeZero.ne N))⟩
  | 1 => ⟨b % M, Nat.mod_lt _ (Nat.pos_of_ne_zero (NeZero.ne M))⟩
  | 2 => ⟨c % P, Nat.mod_lt _ (Nat.pos_of_ne_zero (NeZero.ne P))⟩

theorem eq_i3 {N M P : ℕ} [NeZero N] [NeZero M] [NeZero P] (j : (⟨3, ![N, M, P]⟩ : Shape).Idx) {a b c : ℕ} (h0 : (j 0).val = a) (h1 : (j 1).val = b)
    (h2 : (j 2).val = c) : j = i3 N M P a b c := by
  funext x
  apply Fin.ext
  match x with
  | 0 => show (j 0).val = a % N; rw [← h0]; exact (Nat.mod_eq_of_lt (j 0).isLt).symm
  | 1 => show (j 1).val = b % M; rw [← h1]; exact (Nat.mod_eq_of_lt (j 1).isLt).symm
  | 2 => show (j 2).val = c % P; rw [← h2]; exact (Nat.mod_eq_of_lt (j 2).isLt).symm

/-- `f` folded from `z` over the first `n` of the `g`. -/
def foldTo {α β : Type} (f : α → β → α) (z : α) (g : ℕ → β) : ℕ → α
  | 0 => z
  | n + 1 => f (foldTo f z g n) (g n)

/-- Eight rows of an array of 2048, and a hundred and twenty-eight. -/
def rows8 (L : Vec F S2048x128 .f32) (k : ℕ) : Vec F S8x128 .f32 := fun y => L (i2 2048 128 (8 * k + (y 0).val) (y 1).val)
def slabAt (p : Vec F S2048x128 .f32) (j : ℕ) : Vec F S128x128 .f32 := fun y => p (i2 2048 128 (128 * j + (y 0).val) (y 1).val)
/-- One slice across the first axis of the scratch arrays, and one across the second. -/
def rowOf (q : Vec F S128x16x128 .f32) (k : ℕ) : Vec F S1x16x128 .f32 := fun y => q (i3 128 16 128 k (y 1).val (y 2).val)
def colOf (q : Vec F S128x16x128 .f32) (j : ℕ) : Vec F S128x1x128 .f32 := fun y => q (i3 128 16 128 (y 0).val j (y 2).val)

/-- The largest logits of each place of a block of eight rows, the sums of the exponentials, and the probabilities. -/
def peakTo (L : Vec F S2048x128 .f32) (n : ℕ) : FVec F S8x128 .f32 := foldTo (β := Vec F S8x128 .f32) k1_pay2 k1_pay1 (rows8 L) n
def totTo (L : Vec F S2048x128 .f32) (n : ℕ) : FVec F S8x128 .f32 := foldTo (β := Vec F S8x128 .f32) (k1_pay5 (peakTo L 256)) k1_pay4 (rows8 L) n
def pdfOf (L : Vec F S2048x128 .f32) : Vec F S2048x128 .f32 := fun j =>
  k1_pay6 (peakTo L 256) (totTo L 256) (rows8 L ((j 0).val / 8)) (i2 8 128 ((j 0).val % 8) (j 1).val)

/-- The probabilities with the lane first; the running sums along the lanes; their totals. -/
def turnOf (p : Vec F S2048x128 .f32) : Vec F S128x16x128 .f32 := fun i => k1_pay7 (slabAt p (i 1).val) (i3 128 1 128 (i 0).val 0 (i 2).val)
def scanTo (q : Vec F S128x16x128 .f32) (n : ℕ) : FVec F S16x128 .f32 := foldTo (β := Vec F S1x16x128 .f32) k1_pay27 k1_pay26 (rowOf q) n
def scanOf (q : Vec F S128x16x128 .f32) : Vec F S128x16x128 .f32 := fun i =>
  k1_pay28 (scanTo q (i 0).val) (rowOf q (i 0).val) (i3 1 16 128 0 (i 1).val (i 2).val)

/-- The sums of the rows' totals `s` up to each row: within a block of rows, then over the blocks before it. -/
def inclOf (s : FVec F S16x128 .f32) : FVec F S128x16 .f32 :=
  let v119 := k1_pay29 s
  let a := k1_pay57 s
  let b := k1_pay58 s
  let a6 := k1_pay88 v119 a b
  let b6 := k1_pay89 v119
  let a7 := k1_pay119 v119 a6 b6
  let b7 := k1_pay120 v119
  k1_pay152
    v119 (k1_pay30 s) (k1_pay31 s) (k1_pay32 s) (k1_pay33 s) (k1_pay34 s) (k1_pay35 s) (k1_pay36 s) (k1_pay37 s) (k1_pay38 s) (k1_pay39 s) (k1_pay40 s)
    (k1_pay41 s) (k1_pay42 s) (k1_pay43 s) (k1_pay44 s) (k1_pay45 s) (k1_pay46 s) (k1_pay47 s) (k1_pay48 s) (k1_pay49 s) (k1_pay50 s) (k1_pay51 s)
    (k1_pay52 s) (k1_pay53 s) (k1_pay54 s) (k1_pay55 s) (k1_pay56 s) (k1_pay57 s) (k1_pay59 a b) (k1_pay60 v119 a b) (k1_pay61 v119 a b)
    (k1_pay62 v119 a b) (k1_pay63 v119 a b) (k1_pay64 v119 a b) (k1_pay65 v119 a b) (k1_pay66 v119 a b) (k1_pay67 v119 a b) (k1_pay68 v119 a b)
    (k1_pay69 v119 a b) (k1_pay70 v119 a b) (k1_pay71 v119 a b) (k1_pay72 v119 a b) (k1_pay73 v119 a b) (k1_pay74 v119 a b) (k1_pay75 v119 a b)
    (k1_pay76 v119 a b) (k1_pay77 v119 a b) (k1_pay78 v119 a b) (k1_pay79 v119 a b) (k1_pay80 v119 a b) (k1_pay81 v119 a b) (k1_pay82 v119 a b)
    (k1_pay83 v119 a b) (k1_pay84 v119 a b) (k1_pay85 v119 a b) (k1_pay86 v119 a b) (k1_pay87 v119 a b) (k1_pay88 v119 a b) (k1_pay90 a6 b6)
    (k1_pay91 v119 a6 b6) (k1_pay92 v119 a6 b6) (k1_pay93 v119 a6 b6) (k1_pay94 v119 a6 b6) (k1_pay95 v119 a6 b6) (k1_pay96 v119 a6 b6)
    (k1_pay97 v119 a6 b6) (k1_pay98 v119 a6 b6) (k1_pay99 v119 a6 b6) (k1_pay100 v119 a6 b6) (k1_pay101 v119 a6 b6) (k1_pay102 v119 a6 b6)
    (k1_pay103 v119 a6 b6) (k1_pay104 v119 a6 b6) (k1_pay105 v119 a6 b6) (k1_pay106 v119 a6 b6) (k1_pay107 v119 a6 b6) (k1_pay108 v119 a6 b6)
    (k1_pay109 v119 a6 b6) (k1_pay110 v119 a6 b6) (k1_pay111 v119 a6 b6) (k1_pay112 v119 a6 b6) (k1_pay113 v119 a6 b6) (k1_pay114 v119 a6 b6)
    (k1_pay115 v119 a6 b6) (k1_pay116 v119 a6 b6) (k1_pay117 v119 a6 b6) (k1_pay118 v119 a6 b6) (k1_pay119 v119 a6 b6) (k1_pay121 a7 b7)
    (k1_pay122 v119 a7 b7) (k1_pay123 v119 a7 b7) (k1_pay124 v119 a7 b7) (k1_pay125 v119 a7 b7) (k1_pay126 v119 a7 b7) (k1_pay127 v119 a7 b7)
    (k1_pay128 v119 a7 b7) (k1_pay129 v119 a7 b7) (k1_pay130 v119 a7 b7) (k1_pay131 v119 a7 b7) (k1_pay132 v119 a7 b7) (k1_pay133 v119 a7 b7)
    (k1_pay134 v119 a7 b7) (k1_pay135 v119 a7 b7) (k1_pay136 v119 a7 b7) (k1_pay137 v119 a7 b7) (k1_pay138 v119 a7 b7) (k1_pay139 v119 a7 b7)
    (k1_pay140 v119 a7 b7) (k1_pay141 v119 a7 b7) (k1_pay142 v119 a7 b7) (k1_pay143 v119 a7 b7) (k1_pay144 v119 a7 b7) (k1_pay145 v119 a7 b7)
    (k1_pay146 v119 a7 b7) (k1_pay147 v119 a7 b7) (k1_pay148 v119 a7 b7) (k1_pay149 v119 a7 b7) (k1_pay150 v119 a7 b7) (k1_pay151 v119)

/-- The running sums with the rows before added. -/
def shiftOf (q : Vec F S128x16x128 .f32) (s : FVec F S16x128 .f32) : Vec F S128x16x128 .f32 := fun i =>
  k1_pay154 (inclOf s) k1_pay153 (rowOf q (i 0).val) (i3 1 16 128 0 (i 1).val (i 2).val)
def cumOf (L : Vec F S2048x128 .f32) : Vec F S128x16x128 .f32 := shiftOf (scanOf (turnOf (pdfOf L))) (scanTo (turnOf (pdfOf L)) 128)

/-- The two results: every sixteenth lane of the running sums, and all of them by rows. -/
def tabOf (L : Vec F S2048x128 .f32) : Vec F S8x16x128 .f32 := fun i => cumOf L (i3 128 16 128 (16 * (i 0).val) (i 1).val (i 2).val)
def cdfOf (L : Vec F S2048x128 .f32) : Vec F S2048x128 .f32 := fun i => k1_pay155 (colOf (cumOf L) ((i 0).val / 128)) (i2 128 128 ((i 0).val % 128) (i 1).val)

/-! ## An array written slice by slice -/

/-- What an array holds when the first `n` along axis `a` have been written with `new`. -/
def upTo {s : Shape} {α : Type} (a : Fin s.rank) (n : ℕ) (new old : s.Idx → α) : s.Idx → α := fun i => if (i a).val < n then new i else old i

theorem upTo_none {s : Shape} {α : Type} (a : Fin s.rank) (new old : s.Idx → α) : upTo a 0 new old = old := funext fun i => if_neg (by omega)
theorem upTo_all {s : Shape} {α : Type} (a : Fin s.rank) {n : ℕ} (hn : s.size a = n) (new old : s.Idx → α) : upTo a n new old = new :=
  funext fun i => if_pos (lt_of_lt_of_eq (i a).isLt hn)

theorem unit_emb {s : Shape} {off size : Fin s.rank → ℕ} {inb : ∀ a, off a + size a ≤ s.size a} (x : (Rect.unit off size inb).shape.Idx) (b : Fin s.rank) :
    ((Rect.unit off size inb).emb x b).val = off b + (x b).val := by
  rw [Rect.emb_apply]; simp

/-- A rectangle whole but for axis `a`. -/
theorem mem_slab {s : Shape} {off size : Fin s.rank → ℕ} {inb : ∀ a, off a + size a ≤ s.size a} (a : Fin s.rank)
    (hr : ∀ b, b ≠ a → off b = 0 ∧ size b = s.size b) (j : s.Idx) :
    j ∈ (Rect.unit off size inb).set ↔ off a ≤ (j a).val ∧ (j a).val < off a + size a := by
  rw [Rect.mem_set_unit]
  refine ⟨fun h => h a, fun h b => ?_⟩
  by_cases hb : b = a
  · subst hb; exact h
  · obtain ⟨h0, h1⟩ := hr b hb
    have := (j b).isLt
    rw [h0, h1]; omega

/-- A slice stored, after the read of it that nothing uses. -/
theorem wp_put {s : Shape} {e : EltTy} {d : Dev nD} {α : Type} {cs : CoreSpace} {m : Memref sig .tc cs s e} {off size : Fin s.rank → ℕ}
    {inb : ∀ a, off a + size a ≤ s.size a} {w : (Rect.unit off size inb).shape.Idx → Elt F e} {hl : m.view.LoadsAt (Rect.unit off size inb).toLoadRect}
    {hx : (m.access (Rect.unit off size inb)).Stores Finset.univ}
    {hm : (Finset.univ : Finset (Rect.unit off size inb).shape.Idx) = Finset.univ ∨ ∀ a, (Rect.unit off size inb).stride a = 1}
    (a : Fin s.rank) (n n' : ℕ) (new old : s.Idx → Elt F e) (h0 : off a = n) (h1 : n + size a = n')
    (hr : ∀ b, b ≠ a → off b = 0 ∧ size b = s.size b) (hw : ∀ x, new ((Rect.unit off size inb).emb x) = w x)
    {k : PUnit → TC F α} {Q : α → sProp 𝕄} :
    Own d m (upTo a n new old) ⊢ iprop((Own d m (upTo a n' new old) -∗ WT d (k ⟨⟩) Q)
      -∗ WT d (.op (.load m (Rect.unit off size inb).toLoadRect hl) fun _ => .op (.store m (Rect.unit off size inb) w Finset.univ hx hm) k) Q) := by
  iintro H Hk
  iapply wp_loadO $$ H
  iintro H
  iapply (wp_storeO (upTo a n' new old) (fun x => by
    rw [← hw x]
    refine if_pos ?_
    have := unit_emb (inb := inb) x a
    have hx : (x a).val < size a := (x a).isLt
    omega) (fun j hj => by
    rw [mem_slab a hr j, h0] at hj
    unfold upTo
    by_cases h : (j a).val < n
    · rw [if_pos h, if_pos (by omega)]
    · rw [if_neg h, if_neg (by omega)])) $$ H
  iexact Hk

/-! ## The slices of the second call's arrays -/

section Slices

variable {d : Dev nD} {α : Type}

theorem emb_rows {off : Fin 2 → ℕ} {n : ℕ} {inb : ∀ a, off a + ![n, 128] a ≤ S2048x128.size a} {o : ℕ} (ho : off = ![o, 0])
    (x : (Rect.unit (s := S2048x128) off ![n, 128] inb).shape.Idx) :
    (Rect.unit (s := S2048x128) off ![n, 128] inb).emb x = i2 2048 128 (o + (x 0).val) (x 1).val := by
  subst ho
  exact eq_i2 (N := 2048) (M := 128) _ (unit_emb x 0) ((unit_emb x 1).trans (Nat.zero_add _))

theorem emb_row3 {N : ℕ} [NeZero N] {off : Fin 3 → ℕ} {inb : ∀ a, off a + ![1, 16, 128] a ≤ (⟨3, ![N, 16, 128]⟩ : Shape).size a} {o : ℕ} (ho : off = ![o, 0, 0])
    (x : (Rect.unit (s := ⟨3, ![N, 16, 128]⟩) off ![1, 16, 128] inb).shape.Idx) :
    (Rect.unit (s := ⟨3, ![N, 16, 128]⟩) off ![1, 16, 128] inb).emb x = i3 N 16 128 o (x 1).val (x 2).val := by
  subst ho
  refine eq_i3 (N := N) (M := 16) (P := 128) _ ((unit_emb x 0).trans ?_) ((unit_emb x 1).trans (Nat.zero_add _)) ((unit_emb x 2).trans (Nat.zero_add _))
  have h : (x 0).val < 1 := (x 0).isLt
  show o + (x 0).val = o
  omega

theorem emb_col3 {off : Fin 3 → ℕ} {inb : ∀ a, off a + ![128, 1, 128] a ≤ S128x16x128.size a} {o : ℕ} (ho : off = ![0, o, 0])
    (x : (Rect.unit (s := S128x16x128) off ![128, 1, 128] inb).shape.Idx) :
    (Rect.unit (s := S128x16x128) off ![128, 1, 128] inb).emb x = i3 128 16 128 (x 0).val o (x 2).val := by
  subst ho
  refine eq_i3 (N := 128) (M := 16) (P := 128) _ ((unit_emb x 0).trans (Nat.zero_add _)) ((unit_emb x 1).trans ?_) ((unit_emb x 2).trans (Nat.zero_add _))
  have h : (x 1).val < 1 := (x 1).isLt
  show o + (x 1).val = o
  omega

end Slices

end Cert.KernelIdeal.Search

end
-- ==== Proof.Softmax.lean ====
/- The second call's body run: its five loops, and the slices it turns between them. -/
module

public import proofs.«01_k».proof.Proof.Scan

@[expose] public section

set_option maxRecDepth 16384

noncomputable section

namespace Cert.KernelIdeal.Search

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig (HIx 1) (Elt F) ℕ UU ℕ

variable {d : Dev nD} {α : Type}

/-- The memrefs of the arrays of 2048 rows, and of the scratch arrays. -/
abbrev B2 : Type := Memref sig .tc .vmem S2048x128 .f32
abbrev B3 : Type := Memref sig .tc .vmem S128x16x128 .f32

/-! ## Single accesses -/

theorem wp_blk {m : B2} {p : Vec F S2048x128 .f32} {off : Fin 2 → ℕ} {inb : ∀ a, off a + S128x128.size a ≤ S2048x128.size a} (j : ℕ) (ho : off = ![128 * j, 0])
    {hl : m.view.LoadsAt (Rect.unit (s := S2048x128) off S128x128.size inb).toLoadRect} {k : Vec F S128x128 .f32 → TC F α} {Q : α → sProp 𝕄} :
    Own d m p ⊢ iprop((Own d m p -∗ WT d (k (slabAt p j)) Q) -∗ WT d (.op (.load m (Rect.unit (s := S2048x128) off S128x128.size inb).toLoadRect hl) k) Q) := by
  have e : slabAt p j = fun x => p ((Rect.unit (s := S2048x128) off S128x128.size inb).emb x) := funext fun x => congrArg p (emb_rows ho x).symm
  rw [e]
  exact wp_loadO

theorem wp_row {m : B3} {q : Vec F S128x16x128 .f32} {off : Fin 3 → ℕ} {inb : ∀ a, off a + S1x16x128.size a ≤ S128x16x128.size a} (j : ℕ) (ho : off = ![j, 0, 0])
    {hl : m.view.LoadsAt (Rect.unit (s := S128x16x128) off S1x16x128.size inb).toLoadRect} {k : Vec F S1x16x128 .f32 → TC F α} {Q : α → sProp 𝕄} :
    Own d m q ⊢ iprop((Own d m q -∗ WT d (k (rowOf q j)) Q) -∗ WT d (.op (.load m (Rect.unit (s := S128x16x128) off S1x16x128.size inb).toLoadRect hl) k) Q) := by
  have e : rowOf q j = fun x => q ((Rect.unit (s := S128x16x128) off S1x16x128.size inb).emb x) := funext fun x => congrArg q (emb_row3 ho x).symm
  rw [e]
  exact wp_loadO

theorem wp_col {m : B3} {q : Vec F S128x16x128 .f32} {off : Fin 3 → ℕ} {inb : ∀ a, off a + S128x1x128.size a ≤ S128x16x128.size a} (j : ℕ) (ho : off = ![0, j, 0])
    {hl : m.view.LoadsAt (Rect.unit (s := S128x16x128) off S128x1x128.size inb).toLoadRect} {k : Vec F S128x1x128 .f32 → TC F α} {Q : α → sProp 𝕄} :
    Own d m q ⊢ iprop((Own d m q -∗ WT d (k (colOf q j)) Q) -∗ WT d (.op (.load m (Rect.unit (s := S128x16x128) off S128x1x128.size inb).toLoadRect hl) k) Q) := by
  have e : colOf q j = fun x => q ((Rect.unit (s := S128x16x128) off S128x1x128.size inb).emb x) := funext fun x => congrArg q (emb_col3 ho x).symm
  rw [e]
  exact wp_loadO

theorem row_slab {N : ℕ} (off : Fin 3 → ℕ) (k : ℕ) (ho : off = ![k, 0, 0]) (b : Fin 3) (hb : b ≠ 0) :
    off b = 0 ∧ S1x16x128.size b = (⟨3, ![N, 16, 128]⟩ : Shape).size b := by
  subst ho; fin_cases b <;> first | exact absurd rfl hb | exact ⟨rfl, rfl⟩

/-- A turned block of the probabilities stored. -/
theorem wp_turn {m : B3} (p : Vec F S2048x128 .f32) (X : Vec F S128x16x128 .f32) {off : Fin 3 → ℕ} {inb : ∀ a, off a + S128x1x128.size a ≤ S128x16x128.size a}
    (j : ℕ) (ho : off = ![0, j, 0]) {hl : m.view.LoadsAt (Rect.unit (s := S128x16x128) off S128x1x128.size inb).toLoadRect} {w : Vec F S128x1x128 .f32}
    (hw : w = k1_pay7 (slabAt p j)) (hj : j < 16)
    {hx : (m.access (Rect.unit (s := S128x16x128) off S128x1x128.size inb)).Stores Finset.univ}
    {hm : (Finset.univ : Finset (Rect.unit (s := S128x16x128) off S128x1x128.size inb).shape.Idx) = Finset.univ ∨ ∀ a, (Rect.unit (s := S128x16x128) off S128x1x128.size inb).stride a = 1}
    {k : PUnit → TC F α} {Q : α → sProp 𝕄} :
    Own d m (upTo (s := S128x16x128) 1 j (turnOf p) X) ⊢ iprop((Own d m (upTo (s := S128x16x128) 1 (j + 1) (turnOf p) X) -∗ WT d (k ⟨⟩) Q)
      -∗ WT d (.op (.load m (Rect.unit (s := S128x16x128) off S128x1x128.size inb).toLoadRect hl)
        fun _ => .op (.store m (Rect.unit (s := S128x16x128) off S128x1x128.size inb) w Finset.univ hx hm) k) Q) := by
  subst ho hw
  refine wp_put (s := S128x16x128) 1 j (j + 1) (turnOf p) X rfl rfl (fun b hb => by
    fin_cases b <;> first | exact absurd rfl hb | exact ⟨rfl, rfl⟩) fun x => ?_
  rw [emb_col3 rfl x]
  unfold turnOf
  have h0 : (x 0).val < 128 := (x 0).isLt
  have h1 : (x 1).val < 1 := (x 1).isLt
  have h2 : (x 2).val < 128 := (x 2).isLt
  show k1_pay7 (slabAt p (j % 16)) (i3 128 1 128 ((x 0).val % 128) 0 ((x 2).val % 128)) = k1_pay7 (slabAt p j) x
  rw [Nat.mod_eq_of_lt hj, Nat.mod_eq_of_lt h0, Nat.mod_eq_of_lt h2]
  exact congrArg _ (eq_i3 (N := 128) (M := 1) (P := 128) x rfl (by omega) rfl).symm

/-- A sampled row stored. -/
theorem wp_samp {m : Memref sig .tc .vmem S8x16x128 .f32} (L : Vec F S2048x128 .f32) (X : Vec F S8x16x128 .f32) {off : Fin 3 → ℕ} {inb : ∀ a, off a + S1x16x128.size a ≤ S8x16x128.size a}
    (j : ℕ) (ho : off = ![j, 0, 0]) {hl : m.view.LoadsAt (Rect.unit (s := S8x16x128) off S1x16x128.size inb).toLoadRect} {w : Vec F S1x16x128 .f32}
    (hw : w = rowOf (cumOf L) (16 * j)) (hj : j < 8)
    {hx : (m.access (Rect.unit (s := S8x16x128) off S1x16x128.size inb)).Stores Finset.univ}
    {hm : (Finset.univ : Finset (Rect.unit (s := S8x16x128) off S1x16x128.size inb).shape.Idx) = Finset.univ ∨ ∀ a, (Rect.unit (s := S8x16x128) off S1x16x128.size inb).stride a = 1}
    {k : PUnit → TC F α} {Q : α → sProp 𝕄} :
    Own d m (upTo (s := S8x16x128) 0 j (tabOf L) X) ⊢ iprop((Own d m (upTo (s := S8x16x128) 0 (j + 1) (tabOf L) X) -∗ WT d (k ⟨⟩) Q)
      -∗ WT d (.op (.load m (Rect.unit (s := S8x16x128) off S1x16x128.size inb).toLoadRect hl)
        fun _ => .op (.store m (Rect.unit (s := S8x16x128) off S1x16x128.size inb) w Finset.univ hx hm) k) Q) := by
  subst hw
  refine wp_put (s := S8x16x128) 0 j (j + 1) (tabOf L) X (congrFun ho 0) rfl (row_slab off j ho) fun x => ?_
  rw [show (Rect.unit (s := S8x16x128) off S1x16x128.size inb).emb x = i3 8 16 128 j (x 1).val (x 2).val from emb_row3 ho x]
  have h1 : (x 1).val < 16 := (x 1).isLt
  have h2 : (x 2).val < 128 := (x 2).isLt
  show cumOf L (i3 128 16 128 (16 * (j % 8)) ((x 1).val % 16) ((x 2).val % 128)) = _
  rw [Nat.mod_eq_of_lt hj, Nat.mod_eq_of_lt h1, Nat.mod_eq_of_lt h2]
  rfl

/-- A block of rows of the running sums stored. -/
theorem wp_cdf {m : B2} (L : Vec F S2048x128 .f32) (X : Vec F S2048x128 .f32) {off : Fin 2 → ℕ} {inb : ∀ a, off a + S128x128.size a ≤ S2048x128.size a}
    (j n n' : ℕ) (hn : n = 128 * j) (hn' : n' = 128 * (j + 1)) (ho : off = ![n, 0]) {hl : m.view.LoadsAt (Rect.unit (s := S2048x128) off S128x128.size inb).toLoadRect}
    {w : Vec F S128x128 .f32} (hw : w = k1_pay155 (colOf (cumOf L) j)) (hj : j < 16)
    {hx : (m.access (Rect.unit (s := S2048x128) off S128x128.size inb)).Stores Finset.univ}
    {hm : (Finset.univ : Finset (Rect.unit (s := S2048x128) off S128x128.size inb).shape.Idx) = Finset.univ ∨ ∀ a, (Rect.unit (s := S2048x128) off S128x128.size inb).stride a = 1}
    {k : PUnit → TC F α} {Q : α → sProp 𝕄} :
    Own d m (upTo (s := S2048x128) 0 n (cdfOf L) X) ⊢ iprop((Own d m (upTo (s := S2048x128) 0 n' (cdfOf L) X) -∗ WT d (k ⟨⟩) Q)
      -∗ WT d (.op (.load m (Rect.unit (s := S2048x128) off S128x128.size inb).toLoadRect hl)
        fun _ => .op (.store m (Rect.unit (s := S2048x128) off S128x128.size inb) w Finset.univ hx hm) k) Q) := by
  subst hn hn' ho hw
  refine wp_put (s := S2048x128) 0 (128 * j) (128 * (j + 1)) (cdfOf L) X rfl (by show 128 * j + 128 = _; omega) (fun b hb => by
    fin_cases b <;> first | exact absurd rfl hb | exact ⟨rfl, rfl⟩) fun x => ?_
  rw [show (Rect.unit (s := S2048x128) ![128 * j, 0] S128x128.size inb).emb x = i2 2048 128 (128 * j + (x 0).val) (x 1).val from emb_rows rfl x]
  have h0 : (x 0).val < 128 := (x 0).isLt
  have h1 : (x 1).val < 128 := (x 1).isLt
  show k1_pay155 (colOf (cumOf L) ((128 * j + (x 0).val) % 2048 / 128)) (i2 128 128 ((128 * j + (x 0).val) % 2048 % 128) ((x 1).val % 128)) = _
  rw [Nat.mod_eq_of_lt (show 128 * j + (x 0).val < 2048 by omega), show (128 * j + (x 0).val) / 128 = j by omega, show (128 * j + (x 0).val) % 128 = (x 0).val by omega, Nat.mod_eq_of_lt h1]
  exact congrArg _ (eq_i2 (N := 128) (M := 128) x rfl rfl).symm

/-! ## The loops -/

theorem off1_eq : ∀ k : Fin k1_t1_loop.trips, k1_off1 k = ![8 * k.val, 0] := by decide +kernel
theorem off2_eq : ∀ k : Fin k1_t2_loop.trips, k1_off2 k = ![8 * k.val, 0] := by decide +kernel
theorem off3_eq : ∀ k : Fin k1_t3_loop.trips, k1_off3 k = ![8 * k.val, 0] := by decide +kernel
theorem off4_eq : ∀ k : Fin k1_t4_loop.trips, k1_off4 k = ![k.val, 0, 0] := by decide +kernel
theorem off5_eq : ∀ k : Fin k1_t5_loop.trips, k1_off5 k = ![k.val, 0, 0] := by decide +kernel
theorem trips1 : k1_t1_loop.trips = 256 := by decide +kernel
theorem trips2 : k1_t2_loop.trips = 256 := by decide +kernel
theorem trips3 : k1_t3_loop.trips = 256 := by decide +kernel
theorem trips4 : k1_t4_loop.trips = 128 := by decide +kernel
theorem trips5 : k1_t5_loop.trips = 128 := by decide +kernel

theorem rows8_eq {off : Fin 2 → ℕ} {inb : ∀ a, off a + S8x128.size a ≤ S2048x128.size a} (L : Vec F S2048x128 .f32) {k : ℕ} (ho : off = ![8 * k, 0]) :
    (fun x => L ((Rect.unit (s := S2048x128) off S8x128.size inb).emb x)) = rows8 L k := funext fun x => congrArg L (emb_rows ho x)

section Body

variable {arg0 : B2} {harg0 : arg0.IsWhole} {arg1 : B2} {harg1 : arg1.IsWhole} {arg2 : Memref sig .tc .vmem S8x16x128 .f32} {harg2 : arg2.IsWhole}
  {arg3 : B2} {harg3 : arg3.IsWhole} {arg4 : B3} {harg4 : arg4.IsWhole} {arg5 : B3} {harg5 : arg5.IsWhole}

theorem wp_peak (L : Vec F S2048x128 .f32) (Q : FVec F S8x128 .f32 → sProp 𝕄) :
    Own d arg0 L ⊢ iprop((Own d arg0 L -∗ Q (peakTo L 256))
      -∗ WT d (Scf.Loop.for k1_t1_loop k1_t1_ok (k1_pay1 (F := F)) (k1_t1_body arg0 harg0 arg1 harg1 arg2 harg2 arg3 harg3 arg4 harg4 arg5 harg5)) Q) := by
  iintro H Hk
  iapply (Scf.wp_for frame (wpE (defs₀ (F := F)) 𝒱₀ (d : Thread nD τ) none) Set.univ _ _ _ k1_t1_ok _ _
    (fun n acc => iprop(⌜acc = peakTo L n⌝ ∗ Own d arg0 L)) (fun k acc => by
      unfold k1_t1_body
      simp only [Prog.lift, Prog.bind_op, Prog.bind_ret, Prog.pure_eq_ret]
      iintro ⟨%h, H⟩
      iapply wp_loadO $$ H
      iintro H
      rw [rows8_eq L (off1_eq k)]
      simp only [WT, wp_ret]
      imodintro
      isplitr
      · ipureintro; rw [h]; rfl
      iexact H))
  isplitl [H]
  · isplitr
    · ipureintro; rfl
    iexact H
  iintro %acc ⟨%h, H⟩
  rw [show Scf.trips _ _ _ = 256 from trips1] at h
  rw [h]
  iapply Hk $$ H

theorem wp_tot (L : Vec F S2048x128 .f32) (Q : FVec F S8x128 .f32 → sProp 𝕄) :
    Own d arg0 L ⊢ iprop((Own d arg0 L -∗ Q (totTo L 256))
      -∗ WT d (Scf.Loop.for k1_t2_loop k1_t2_ok (k1_pay4 (F := F)) (k1_t2_body arg0 harg0 arg1 harg1 arg2 harg2 arg3 harg3 arg4 harg4 arg5 harg5 (peakTo L 256))) Q) := by
  iintro H Hk
  iapply (Scf.wp_for frame (wpE (defs₀ (F := F)) 𝒱₀ (d : Thread nD τ) none) Set.univ _ _ _ k1_t2_ok _ _
    (fun n acc => iprop(⌜acc = totTo L n⌝ ∗ Own d arg0 L)) (fun k acc => by
      unfold k1_t2_body
      simp only [Prog.lift, Prog.bind_op, Prog.bind_ret, Prog.pure_eq_ret]
      iintro ⟨%h, H⟩
      iapply wp_loadO $$ H
      iintro H
      rw [rows8_eq L (off2_eq k)]
      simp only [WT, wp_ret]
      imodintro
      isplitr
      · ipureintro; rw [h]; rfl
      iexact H))
  isplitl [H]
  · isplitr
    · ipureintro; rfl
    iexact H
  iintro %acc ⟨%h, H⟩
  rw [show Scf.trips _ _ _ = 256 from trips2] at h
  rw [h]
  iapply Hk $$ H

theorem wp_pdf (L X : Vec F S2048x128 .f32) (Q : Unit → sProp 𝕄) :
    iprop(Own d arg0 L ∗ Own d arg3 X) ⊢ iprop((Own d arg0 L -∗ Own d arg3 (pdfOf L) -∗ Q ())
      -∗ WT d (Scf.Loop.for k1_t3_loop k1_t3_ok ⟨⟩ (k1_t3_body arg0 harg0 arg1 harg1 arg2 harg2 arg3 harg3 arg4 harg4 arg5 harg5 (peakTo L 256) (totTo L 256))) Q) := by
  iintro ⟨H0, H3⟩ Hk
  iapply (Scf.wp_for frame (wpE (defs₀ (F := F)) 𝒱₀ (d : Thread nD τ) none) Set.univ _ _ _ k1_t3_ok _ _
    (fun n _ => iprop(Own d arg0 L ∗ Own d arg3 (upTo (s := S2048x128) 0 (8 * n) (pdfOf L) X))) (fun k acc => by
      unfold k1_t3_body
      simp only [Prog.lift, Prog.bind_op, Prog.bind_ret, Prog.pure_eq_ret]
      iintro ⟨H0, H3⟩
      iapply wp_loadO $$ H0
      iintro H0
      rw [rows8_eq L (off3_eq k)]
      have hk : k.val < 256 := lt_of_lt_of_eq k.isLt trips3
      iapply (wp_put (s := S2048x128) 0 (8 * k.val) (8 * (k.val + 1)) (pdfOf L) X (by rw [off3_eq]; rfl) (by show 8 * k.val + 8 = _; omega) (fun b hb => by
        rw [off3_eq]; fin_cases b <;> first | exact absurd rfl hb | exact ⟨rfl, rfl⟩) (fun x => by
          rw [show (Rect.unit (s := S2048x128) (k1_off3 k) S8x128.size (k1_off3_inb k)).emb x = i2 2048 128 (8 * k.val + (x 0).val) (x 1).val from emb_rows (off3_eq k) x]
          have h0 : (x 0).val < 8 := (x 0).isLt
          have h1 : (x 1).val < 128 := (x 1).isLt
          show k1_pay6 (peakTo L 256) (totTo L 256) (rows8 L ((8 * k.val + (x 0).val) % 2048 / 8)) (i2 8 128 ((8 * k.val + (x 0).val) % 2048 % 8) ((x 1).val % 128)) = _
          rw [Nat.mod_eq_of_lt (show 8 * k.val + (x 0).val < 2048 by omega), show (8 * k.val + (x 0).val) / 8 = k.val by omega,
            show (8 * k.val + (x 0).val) % 8 = (x 0).val by omega, Nat.mod_eq_of_lt h1]
          exact congrArg _ (eq_i2 (N := 8) (M := 128) x rfl rfl).symm)) $$ H3
      iintro H3
      simp only [WT, wp_ret]
      imodintro
      isplitl [H0]; · iexact H0
      iexact H3))
  isplitl [H0 H3]
  · isplitl [H0]; · iexact H0
    rw [Nat.mul_zero, upTo_none]; iexact H3
  iintro %acc ⟨H0, H3⟩
  rw [show Scf.trips _ _ _ = 256 from trips3, upTo_all (s := S2048x128) 0 (n := 8 * 256) rfl]
  iapply Hk $$ H0 H3

theorem wp_scan (q X : Vec F S128x16x128 .f32) (v88 : FVec F S128x1x128 .f32) (Q : FVec F S16x128 .f32 → sProp 𝕄) :
    iprop(Own d arg4 q ∗ Own d arg5 X) ⊢ iprop((Own d arg4 q -∗ Own d arg5 (scanOf q) -∗ Q (scanTo q 128))
      -∗ WT d (Scf.Loop.for k1_t4_loop k1_t4_ok (k1_pay26 (F := F)) (k1_t4_body arg0 harg0 arg1 harg1 arg2 harg2 arg3 harg3 arg4 harg4 arg5 harg5 v88)) Q) := by
  iintro ⟨H4, H5⟩ Hk
  iapply (Scf.wp_for frame (wpE (defs₀ (F := F)) 𝒱₀ (d : Thread nD τ) none) Set.univ _ _ _ k1_t4_ok _ _
    (fun n acc => iprop(⌜acc = scanTo q n⌝ ∗ Own d arg4 q ∗ Own d arg5 (upTo (s := S128x16x128) 0 n (scanOf q) X))) (fun k acc => by
      unfold k1_t4_body
      simp only [Prog.lift, Prog.bind_op, Prog.bind_ret, Prog.pure_eq_ret]
      iintro ⟨%h, H4, H5⟩
      iapply (wp_row k.val (off4_eq k)) $$ H4
      iintro H4
      have hk : k.val < 128 := lt_of_lt_of_eq k.isLt trips4
      iapply (wp_put (s := S128x16x128) 0 k.val (k.val + 1) (scanOf q) X (by rw [off4_eq]; rfl) rfl (row_slab _ _ (off4_eq k)) (fun x => by
          rw [show (Rect.unit (s := S128x16x128) (k1_off4 k) S1x16x128.size (k1_off4_inb k)).emb x = i3 128 16 128 k.val (x 1).val (x 2).val from emb_row3 (off4_eq k) x]
          have h0 : (x 0).val < 1 := (x 0).isLt
          have h1 : (x 1).val < 16 := (x 1).isLt
          have h2 : (x 2).val < 128 := (x 2).isLt
          show k1_pay28 (scanTo q (k.val % 128)) (rowOf q (k.val % 128)) (i3 1 16 128 0 ((x 1).val % 16) ((x 2).val % 128)) = _
          rw [Nat.mod_eq_of_lt hk, Nat.mod_eq_of_lt h1, Nat.mod_eq_of_lt h2, h]
          exact congrArg _ (eq_i3 (N := 1) (M := 16) (P := 128) x (by omega) rfl rfl).symm)) $$ H5
      iintro H5
      simp only [WT, wp_ret]
      imodintro
      isplitr
      · ipureintro; rw [h]; rfl
      isplitl [H4]; · iexact H4
      iexact H5))
  isplitl [H4 H5]
  · isplitr
    · ipureintro; rfl
    isplitl [H4]; · iexact H4
    rw [upTo_none]; iexact H5
  iintro %acc ⟨%h, H4, H5⟩
  rw [show Scf.trips _ _ _ = 128 from trips4] at h
  rw [h, show Scf.trips _ _ _ = 128 from trips4, upTo_all (s := S128x16x128) 0 (n := 128) rfl]
  iapply Hk $$ H4 H5

theorem wp_shift (q : Vec F S128x16x128 .f32) (s : FVec F S16x128 .f32) (Q : Unit → sProp 𝕄) :
    Own d arg5 q ⊢ iprop((Own d arg5 (shiftOf q s) -∗ Q ())
      -∗ WT d (Scf.Loop.for k1_t5_loop k1_t5_ok ⟨⟩ (k1_t5_body arg0 harg0 arg1 harg1 arg2 harg2 arg3 harg3 arg4 harg4 arg5 harg5 (inclOf s) k1_pay153)) Q) := by
  iintro H5 Hk
  iapply (Scf.wp_for frame (wpE (defs₀ (F := F)) 𝒱₀ (d : Thread nD τ) none) Set.univ _ _ _ k1_t5_ok _ _
    (fun n _ => Own d arg5 (upTo (s := S128x16x128) 0 n (shiftOf q s) q)) (fun k acc => by
      unfold k1_t5_body
      simp only [Prog.lift, Prog.bind_op, Prog.bind_ret, Prog.pure_eq_ret]
      iintro H5
      iapply (wp_row k.val (off5_eq k)) $$ H5
      iintro H5
      have hk : k.val < 128 := lt_of_lt_of_eq k.isLt trips5
      rw [show rowOf (upTo (s := S128x16x128) 0 k.val (shiftOf q s) q) k.val = rowOf q k.val from funext fun y => if_neg (by
        show ¬ k.val % 128 < k.val
        omega)]
      iapply (wp_put (s := S128x16x128) 0 k.val (k.val + 1) (shiftOf q s) q (by rw [off5_eq]; rfl) rfl (row_slab _ _ (off5_eq k)) (fun x => by
          rw [show (Rect.unit (s := S128x16x128) (k1_off5 k) S1x16x128.size (k1_off5_inb k)).emb x = i3 128 16 128 k.val (x 1).val (x 2).val from emb_row3 (off5_eq k) x]
          have h0 : (x 0).val < 1 := (x 0).isLt
          have h1 : (x 1).val < 16 := (x 1).isLt
          have h2 : (x 2).val < 128 := (x 2).isLt
          show k1_pay154 (inclOf s) k1_pay153 (rowOf q (k.val % 128)) (i3 1 16 128 0 ((x 1).val % 16) ((x 2).val % 128)) = _
          rw [Nat.mod_eq_of_lt hk, Nat.mod_eq_of_lt h1, Nat.mod_eq_of_lt h2]
          exact congrArg _ (eq_i3 (N := 1) (M := 16) (P := 128) x (by omega) rfl rfl).symm)) $$ H5
      iintro H5
      simp only [WT, wp_ret]
      imodintro
      iexact H5))
  isplitl [H5]
  · rw [upTo_none]; iexact H5
  iintro %acc H5
  rw [show Scf.trips _ _ _ = 128 from trips5, upTo_all (s := S128x16x128) 0 (n := 128) rfl]
  iapply Hk $$ H5

/-! ## The parts of the body -/

theorem wp_part1 (L X3 : Vec F S2048x128 .f32) (X : Vec F S128x16x128 .f32) (Q : FVec F S128x1x128 .f32 → sProp 𝕄) :
    iprop(Own d arg0 L ∗ Own d arg3 X3 ∗ Own d arg4 X)
      ⊢ iprop((Own d arg0 L -∗ Own d arg3 (pdfOf L) -∗ Own d arg4 (upTo (s := S128x16x128) 1 1 (turnOf (pdfOf L)) X) -∗ Q (k1_pay8 (slabAt (pdfOf L) 1)))
        -∗ WT d (k1_part1 arg0 harg0 arg1 harg1 arg2 harg2 arg3 harg3 arg4 harg4 arg5 harg5) Q) := by
  rw [k1_part1_eq_skeleton]
  unfold k1_part1_skel
  iintro ⟨H0, H3, H4⟩ Hk
  rw [WT, wp_bind]
  iapply (wp_peak L) $$ H0
  iintro H0
  rw [wp_bind]
  iapply (wp_tot L) $$ H0
  iintro H0
  rw [wp_bind]
  iapply (wp_pdf L X3) $$ [H0 H3]
  · isplitl [H0] <;> iassumption
  iintro H0 H3
  simp only [Prog.lift, Prog.bind_op, Prog.bind_ret, Prog.pure_eq_ret]
  iapply (wp_blk 0 rfl) $$ H3
  iintro H3
  iapply (wp_turn (pdfOf L) X 0 rfl rfl (by decide)) $$ [H4]
  · rw [upTo_none]; iexact H4
  iintro H4
  iapply (wp_blk 1 rfl) $$ H3
  iintro H3
  simp only [WT, wp_ret]
  imodintro
  iapply Hk $$ H0 H3 H4

theorem wp_part2 (p : Vec F S2048x128 .f32) (X : Vec F S128x16x128 .f32) (Q : FVec F S128x1x128 .f32 → sProp 𝕄) :
    iprop(Own d arg3 p ∗ Own d arg4 (upTo (s := S128x16x128) 1 1 (turnOf p) X))
      ⊢ iprop((Own d arg3 p -∗ Own d arg4 (upTo (s := S128x16x128) 1 6 (turnOf p) X) -∗ Q (k1_pay14 (slabAt p 6)))
        -∗ WT d (k1_part2 arg0 harg0 arg1 harg1 arg2 harg2 arg3 harg3 arg4 harg4 arg5 harg5 (k1_pay8 (slabAt p 1))) Q) := by
  rw [k1_part2_eq_skeleton]
  unfold k1_part2_skel
  simp only [Prog.lift, Prog.bind_op, Prog.bind_ret, Prog.pure_eq_ret]
  iintro ⟨H3, H4⟩ Hk
  iapply (wp_turn p X 1 rfl rfl (by decide)) $$ H4
  iintro H4
  iapply (wp_blk 2 rfl) $$ H3
  iintro H3
  iapply (wp_turn p X 2 rfl rfl (by decide)) $$ H4
  iintro H4
  iapply (wp_blk 3 rfl) $$ H3
  iintro H3
  iapply (wp_turn p X 3 rfl rfl (by decide)) $$ H4
  iintro H4
  iapply (wp_blk 4 rfl) $$ H3
  iintro H3
  iapply (wp_turn p X 4 rfl rfl (by decide)) $$ H4
  iintro H4
  iapply (wp_blk 5 rfl) $$ H3
  iintro H3
  iapply (wp_turn p X 5 rfl rfl (by decide)) $$ H4
  iintro H4
  iapply (wp_blk 6 rfl) $$ H3
  iintro H3
  simp only [WT, wp_ret]
  imodintro
  iapply Hk $$ H3 H4

theorem wp_part3 (p : Vec F S2048x128 .f32) (X : Vec F S128x16x128 .f32) (Q : FVec F S128x1x128 .f32 → sProp 𝕄) :
    iprop(Own d arg3 p ∗ Own d arg4 (upTo (s := S128x16x128) 1 6 (turnOf p) X))
      ⊢ iprop((Own d arg3 p -∗ Own d arg4 (upTo (s := S128x16x128) 1 11 (turnOf p) X) -∗ Q (k1_pay20 (slabAt p 11)))
        -∗ WT d (k1_part3 arg0 harg0 arg1 harg1 arg2 harg2 arg3 harg3 arg4 harg4 arg5 harg5 (k1_pay14 (slabAt p 6))) Q) := by
  rw [k1_part3_eq_skeleton]
  unfold k1_part3_skel
  simp only [Prog.lift, Prog.bind_op, Prog.bind_ret, Prog.pure_eq_ret]
  iintro ⟨H3, H4⟩ Hk
  iapply (wp_turn p X 6 rfl rfl (by decide)) $$ H4
  iintro H4
  iapply (wp_blk 7 rfl) $$ H3
  iintro H3
  iapply (wp_turn p X 7 rfl rfl (by decide)) $$ H4
  iintro H4
  iapply (wp_blk 8 rfl) $$ H3
  iintro H3
  iapply (wp_turn p X 8 rfl rfl (by decide)) $$ H4
  iintro H4
  iapply (wp_blk 9 rfl) $$ H3
  iintro H3
  iapply (wp_turn p X 9 rfl rfl (by decide)) $$ H4
  iintro H4
  iapply (wp_blk 10 rfl) $$ H3
  iintro H3
  iapply (wp_turn p X 10 rfl rfl (by decide)) $$ H4
  iintro H4
  iapply (wp_blk 11 rfl) $$ H3
  iintro H3
  simp only [WT, wp_ret]
  imodintro
  iapply Hk $$ H3 H4

theorem wp_part4 (p : Vec F S2048x128 .f32) (X X5 : Vec F S128x16x128 .f32) (Q : FVec F S16x128 .f32 → sProp 𝕄) :
    iprop(Own d arg3 p ∗ Own d arg4 (upTo (s := S128x16x128) 1 11 (turnOf p) X) ∗ Own d arg5 X5)
      ⊢ iprop((Own d arg3 p -∗ Own d arg4 (turnOf p) -∗ Own d arg5 (scanOf (turnOf p)) -∗ Q (scanTo (turnOf p) 128))
        -∗ WT d (k1_part4 arg0 harg0 arg1 harg1 arg2 harg2 arg3 harg3 arg4 harg4 arg5 harg5 (k1_pay20 (slabAt p 11))) Q) := by
  rw [k1_part4_eq_skeleton]
  unfold k1_part4_skel
  simp only [Prog.lift, Prog.bind_op, Prog.bind_ret, Prog.pure_eq_ret]
  iintro ⟨H3, H4, H5⟩ Hk
  iapply (wp_turn p X 11 rfl rfl (by decide)) $$ H4
  iintro H4
  iapply (wp_blk 12 rfl) $$ H3
  iintro H3
  iapply (wp_turn p X 12 rfl rfl (by decide)) $$ H4
  iintro H4
  iapply (wp_blk 13 rfl) $$ H3
  iintro H3
  iapply (wp_turn p X 13 rfl rfl (by decide)) $$ H4
  iintro H4
  iapply (wp_blk 14 rfl) $$ H3
  iintro H3
  iapply (wp_turn p X 14 rfl rfl (by decide)) $$ H4
  iintro H4
  iapply (wp_blk 15 rfl) $$ H3
  iintro H3
  iapply (wp_turn p X 15 rfl rfl (by decide)) $$ H4
  iintro H4
  rw [upTo_all (s := S128x16x128) 1 (n := 15 + 1) rfl]
  rw [WT, wp_bind]
  iapply (wp_scan (turnOf p) X5) $$ [H4 H5]
  · isplitl [H4] <;> iassumption
  iintro H4 H5
  simp only [WT, wp_ret]
  imodintro
  iapply Hk $$ H3 H4 H5

theorem wp_part10 (L : Vec F S2048x128 .f32) (X2 : Vec F S8x16x128 .f32) (Q : Vec F S1x16x128 .f32 → sProp 𝕄) :
    iprop(Own d arg2 X2 ∗ Own d arg5 (scanOf (turnOf (pdfOf L))))
      ⊢ iprop((Own d arg2 (upTo (s := S8x16x128) 0 5 (tabOf L) X2) -∗ Own d arg5 (cumOf L) -∗ Q (rowOf (cumOf L) 80))
        -∗ WT d (k1_part10 arg0 harg0 arg1 harg1 arg2 harg2 arg3 harg3 arg4 harg4 arg5 harg5 (inclOf (scanTo (turnOf (pdfOf L)) 128)) k1_pay153) Q) := by
  rw [k1_part10_eq_skeleton]
  unfold k1_part10_skel
  iintro ⟨H2, H5⟩ Hk
  rw [WT, wp_bind]
  iapply (wp_shift (scanOf (turnOf (pdfOf L))) (scanTo (turnOf (pdfOf L)) 128)) $$ H5
  iintro H5
  rw [show shiftOf (scanOf (turnOf (pdfOf L))) (scanTo (turnOf (pdfOf L)) 128) = cumOf L from rfl]
  simp only [Prog.lift, Prog.bind_op, Prog.bind_ret, Prog.pure_eq_ret]
  iapply (wp_row 0 rfl) $$ H5
  iintro H5
  iapply (wp_samp L X2 0 rfl rfl (by decide)) $$ [H2]
  · rw [upTo_none]; iexact H2
  iintro H2
  iapply (wp_row 16 rfl) $$ H5
  iintro H5
  iapply (wp_samp L X2 1 rfl rfl (by decide)) $$ H2
  iintro H2
  iapply (wp_row 32 rfl) $$ H5
  iintro H5
  iapply (wp_samp L X2 2 rfl rfl (by decide)) $$ H2
  iintro H2
  iapply (wp_row 48 rfl) $$ H5
  iintro H5
  iapply (wp_samp L X2 3 rfl rfl (by decide)) $$ H2
  iintro H2
  iapply (wp_row 64 rfl) $$ H5
  iintro H5
  iapply (wp_samp L X2 4 rfl rfl (by decide)) $$ H2
  iintro H2
  iapply (wp_row 80 rfl) $$ H5
  iintro H5
  simp only [WT, wp_ret]
  imodintro
  iapply Hk $$ H2 H5

theorem wp_part11 (L X1 : Vec F S2048x128 .f32) (X2 : Vec F S8x16x128 .f32) (Q : FVec F S128x128 .f32 → sProp 𝕄) :
    iprop(Own d arg1 X1 ∗ Own d arg2 (upTo (s := S8x16x128) 0 5 (tabOf L) X2) ∗ Own d arg5 (cumOf L))
      ⊢ iprop((Own d arg1 (upTo (s := S2048x128) 0 384 (cdfOf L) X1) -∗ Own d arg2 (tabOf L) -∗ Own d arg5 (cumOf L) -∗ Q (k1_pay158 (colOf (cumOf L) 3)))
        -∗ WT d (k1_part11 arg0 harg0 arg1 harg1 arg2 harg2 arg3 harg3 arg4 harg4 arg5 harg5 (rowOf (cumOf L) 80)) Q) := by
  rw [k1_part11_eq_skeleton]
  unfold k1_part11_skel
  simp only [Prog.lift, Prog.bind_op, Prog.bind_ret, Prog.pure_eq_ret]
  iintro ⟨H1, H2, H5⟩ Hk
  iapply (wp_samp L X2 5 rfl rfl (by decide)) $$ H2
  iintro H2
  iapply (wp_row 96 rfl) $$ H5
  iintro H5
  iapply (wp_samp L X2 6 rfl rfl (by decide)) $$ H2
  iintro H2
  iapply (wp_row 112 rfl) $$ H5
  iintro H5
  iapply (wp_samp L X2 7 rfl rfl (by decide)) $$ H2
  iintro H2
  rw [upTo_all (s := S8x16x128) 0 (n := 7 + 1) rfl]
  iapply (wp_col 0 rfl) $$ H5
  iintro H5
  iapply (wp_cdf L X1 0 0 128 rfl rfl rfl rfl (by decide)) $$ [H1]
  · rw [upTo_none]; iexact H1
  iintro H1
  iapply (wp_col 1 rfl) $$ H5
  iintro H5
  iapply (wp_cdf L X1 1 128 256 rfl rfl rfl rfl (by decide)) $$ H1
  iintro H1
  iapply (wp_col 2 rfl) $$ H5
  iintro H5
  iapply (wp_cdf L X1 2 256 384 rfl rfl rfl rfl (by decide)) $$ H1
  iintro H1
  iapply (wp_col 3 rfl) $$ H5
  iintro H5
  simp only [WT, wp_ret]
  imodintro
  iapply Hk $$ H1 H2 H5

theorem wp_part12 (L X1 : Vec F S2048x128 .f32) (Q : FVec F S128x128 .f32 → sProp 𝕄) :
    iprop(Own d arg1 (upTo (s := S2048x128) 0 384 (cdfOf L) X1) ∗ Own d arg5 (cumOf L))
      ⊢ iprop((Own d arg1 (upTo (s := S2048x128) 0 1152 (cdfOf L) X1) -∗ Own d arg5 (cumOf L) -∗ Q (k1_pay164 (colOf (cumOf L) 9)))
        -∗ WT d (k1_part12 arg0 harg0 arg1 harg1 arg2 harg2 arg3 harg3 arg4 harg4 arg5 harg5 (k1_pay158 (colOf (cumOf L) 3))) Q) := by
  rw [k1_part12_eq_skeleton]
  unfold k1_part12_skel
  simp only [Prog.lift, Prog.bind_op, Prog.bind_ret, Prog.pure_eq_ret]
  iintro ⟨H1, H5⟩ Hk
  iapply (wp_cdf L X1 3 384 512 rfl rfl rfl rfl (by decide)) $$ H1
  iintro H1
  iapply (wp_col 4 rfl) $$ H5
  iintro H5
  iapply (wp_cdf L X1 4 512 640 rfl rfl rfl rfl (by decide)) $$ H1
  iintro H1
  iapply (wp_col 5 rfl) $$ H5
  iintro H5
  iapply (wp_cdf L X1 5 640 768 rfl rfl rfl rfl (by decide)) $$ H1
  iintro H1
  iapply (wp_col 6 rfl) $$ H5
  iintro H5
  iapply (wp_cdf L X1 6 768 896 rfl rfl rfl rfl (by decide)) $$ H1
  iintro H1
  iapply (wp_col 7 rfl) $$ H5
  iintro H5
  iapply (wp_cdf L X1 7 896 1024 rfl rfl rfl rfl (by decide)) $$ H1
  iintro H1
  iapply (wp_col 8 rfl) $$ H5
  iintro H5
  iapply (wp_cdf L X1 8 1024 1152 rfl rfl rfl rfl (by decide)) $$ H1
  iintro H1
  iapply (wp_col 9 rfl) $$ H5
  iintro H5
  simp only [WT, wp_ret]
  imodintro
  iapply Hk $$ H1 H5

theorem wp_part13 (L X1 : Vec F S2048x128 .f32) (Q : FVec F S128x128 .f32 → sProp 𝕄) :
    iprop(Own d arg1 (upTo (s := S2048x128) 0 1152 (cdfOf L) X1) ∗ Own d arg5 (cumOf L))
      ⊢ iprop((Own d arg1 (upTo (s := S2048x128) 0 1920 (cdfOf L) X1) -∗ Own d arg5 (cumOf L) -∗ Q (k1_pay170 (colOf (cumOf L) 15)))
        -∗ WT d (k1_part13 arg0 harg0 arg1 harg1 arg2 harg2 arg3 harg3 arg4 harg4 arg5 harg5 (k1_pay164 (colOf (cumOf L) 9))) Q) := by
  rw [k1_part13_eq_skeleton]
  unfold k1_part13_skel
  simp only [Prog.lift, Prog.bind_op, Prog.bind_ret, Prog.pure_eq_ret]
  iintro ⟨H1, H5⟩ Hk
  iapply (wp_cdf L X1 9 1152 1280 rfl rfl rfl rfl (by decide)) $$ H1
  iintro H1
  iapply (wp_col 10 rfl) $$ H5
  iintro H5
  iapply (wp_cdf L X1 10 1280 1408 rfl rfl rfl rfl (by decide)) $$ H1
  iintro H1
  iapply (wp_col 11 rfl) $$ H5
  iintro H5
  iapply (wp_cdf L X1 11 1408 1536 rfl rfl rfl rfl (by decide)) $$ H1
  iintro H1
  iapply (wp_col 12 rfl) $$ H5
  iintro H5
  iapply (wp_cdf L X1 12 1536 1664 rfl rfl rfl rfl (by decide)) $$ H1
  iintro H1
  iapply (wp_col 13 rfl) $$ H5
  iintro H5
  iapply (wp_cdf L X1 13 1664 1792 rfl rfl rfl rfl (by decide)) $$ H1
  iintro H1
  iapply (wp_col 14 rfl) $$ H5
  iintro H5
  iapply (wp_cdf L X1 14 1792 1920 rfl rfl rfl rfl (by decide)) $$ H1
  iintro H1
  iapply (wp_col 15 rfl) $$ H5
  iintro H5
  simp only [WT, wp_ret]
  imodintro
  iapply Hk $$ H1 H5

/-- The body's run: the logits read, the running sums and their samples written, the scratch left as it is. -/
theorem softmax_run (L X1 X3 : Vec F S2048x128 .f32) (X2 : Vec F S8x16x128 .f32) (X4 X5 : Vec F S128x16x128 .f32) (Q : PUnit → sProp 𝕄) :
    iprop(Own d arg0 L ∗ Own d arg1 X1 ∗ Own d arg2 X2 ∗ Own d arg3 X3 ∗ Own d arg4 X4 ∗ Own d arg5 X5)
      ⊢ iprop((Own d arg0 L -∗ Own d arg1 (cdfOf L) -∗ Own d arg2 (tabOf L) -∗ Own d arg3 (pdfOf L) -∗ Own d arg4 (turnOf (pdfOf L)) -∗ Own d arg5 (cumOf L) -∗ Q ⟨⟩)
        -∗ WT d (cc1__softmax_cdf_body (F := F) arg0 harg0 arg1 harg1 arg2 harg2 arg3 harg3 arg4 harg4 arg5 harg5) Q) := by
  rw [cc1__softmax_cdf_body_eq_skeleton]
  unfold cc1__softmax_cdf_body_skel
  iintro ⟨H0, H1, H2, H3, H4, H5⟩ Hk
  rw [WT, wp_bind]
  iapply (wp_part1 L X3 X4) $$ [H0 H3 H4]
  · isplitl [H0]; · iexact H0
    isplitl [H3] <;> iassumption
  iintro H0 H3 H4
  rw [wp_bind]
  iapply (wp_part2 (pdfOf L) X4) $$ [H3 H4]
  · isplitl [H3] <;> iassumption
  iintro H3 H4
  rw [wp_bind]
  iapply (wp_part3 (pdfOf L) X4) $$ [H3 H4]
  · isplitl [H3] <;> iassumption
  iintro H3 H4
  rw [wp_bind]
  iapply (wp_part4 (pdfOf L) X4 X5) $$ [H3 H4 H5]
  · isplitl [H3]; · iexact H3
    isplitl [H4] <;> iassumption
  iintro H3 H4 H5
  simp only [k1_part5_eq_skeleton, k1_part5_skel, k1_part6_eq_skeleton, k1_part6_skel, k1_part7_eq_skeleton, k1_part7_skel, k1_part8_eq_skeleton, k1_part8_skel,
    k1_part9_eq_skeleton, k1_part9_skel, Prog.pure_eq_ret, Prog.bind_ret, Prog.lift, Prog.bind_op]
  rw [wp_bind]
  iapply (wp_part10 L X2) $$ [H2 H5]
  · isplitl [H2] <;> iassumption
  iintro H2 H5
  rw [wp_bind]
  iapply (wp_part11 L X1 X2) $$ [H1 H2 H5]
  · isplitl [H1]; · iexact H1
    isplitl [H2] <;> iassumption
  iintro H1 H2 H5
  rw [wp_bind]
  iapply (wp_part12 L X1) $$ [H1 H5]
  · isplitl [H1] <;> iassumption
  iintro H1 H5
  rw [wp_bind]
  iapply (wp_part13 L X1) $$ [H1 H5]
  · isplitl [H1] <;> iassumption
  iintro H1 H5
  iapply (wp_cdf L X1 15 1920 2048 rfl rfl rfl rfl (by decide)) $$ H1
  iintro H1
  rw [upTo_all (s := S2048x128) 0 (n := 2048) rfl]
  simp only [WT, wp_ret]
  imodintro
  iapply Hk $$ H0 H1 H2 H3 H4 H5

end Body

end Cert.KernelIdeal.Search

end
-- ==== Proof.Second.lean ====
/- The second call as a step of the host's program: what each of its arrays holds before and after. -/
module

public import proofs.«01_k».proof.Proof.Softmax

@[expose] public section

set_option maxRecDepth 16384

noncomputable section

namespace Cert.KernelIdeal.Search

open Idealize.ShloMosaic Idealize.ShloMosaic.TcCoe
open Idealize.ShloMosaic.SparseCore (S V T)
open Idealize.ShloMosaic.SparseCore.Cfg (HIx Pay)
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig (HIx 1) (Elt F) ℕ UU ℕ

/-- The proof data of the second call, entered with the arrays at `V`. -/
def smDat (V : Val' (F := F)) (c : Dev nD) : Dat τ (Elt F) (HIx 1) ℕ UU ℕ cfg1 c where
  A w := V c (Pipeline.arrRef spec1 w)
  after w t := match w with
    | ⟨0, _⟩ => V c main_v1
    | ⟨1, _⟩ => cdfOf (V c main_v1)
    | ⟨2, _⟩ => tabOf (V c main_v1)
  Φ _ := Pipeline.scopedRest (Ix := HIx 1) (Name := ℕ) (U := UU) (Lvl := ℕ) (Val := Elt F) spec1 c
  q _ := fullShare
  owed _ := (K (F := F)).Otc c 0
  recorded _ := lowPairs (F := F) c

theorem idx1_0 : ∀ t : Fin cfg1.N, win1_0.index t = fun _ => 0 := fun _ => rfl
theorem idx1_1 : ∀ t : Fin cfg1.N, win1_1.index t = fun _ => 0 := fun _ => rfl
theorem idx1_2 : ∀ t : Fin cfg1.N, win1_2.index t = fun _ => 0 := fun _ => rfl

/-- A buffer of the core held whole, by its contents and by what it reads. -/
theorem whole_own (c : Dev nD) (b : Ref sig .tc) (X : b.ty.Contents (Elt F)) : ((((c : Thread nD τ).loc b) ↦{fullShare} X) : sProp 𝕄) ⊢ Own c (Memref.whole b) X :=
  Entails.of_eq (owns_whole (c : Thread nD τ) b fullShare X).symm
theorem own_whole (c : Dev nD) (b : Ref sig .tc) (X : b.ty.Contents (Elt F)) :
    (Own c (Memref.whole b) X : sProp 𝕄) ⊢ iprop(∃ f : Buf (Elt F) ((c : Thread nD τ).loc b), ((c : Thread nD τ).loc b) ↦{fullShare} f) := by
  iintro H
  iexists X
  iapply (Entails.of_eq (owns_whole (c : Thread nD τ) b fullShare X)) $$ H

theorem sm_block0 (V : Val' (F := F)) (c : Dev nD) (t : Fin cfg1.N) : (smDat V c).blockOf 0 t = V c main_v1 := by
  funext y
  show V c main_v1 ((win1_0.blk t).view.emb y) = _
  congr 1
  funext a
  apply Fin.ext
  fin_cases a
  · blk_simp [idx1_0]
  · blk_simp [idx1_0]

theorem sm_before0 (V : Val' (F := F)) (c : Dev nD) (t : Fin cfg1.N) (x : (cfg1.win 0).block.Idx → Elt F (cfg1.win 0).elt) :
    (smDat V c).before 0 t x = V c main_v1 := by
  rw [(smDat V c).before_in_eq_fetched 0 rfl (fun _ => rfl) (fun _ _ _ => rfl) (fun t => (sm_block0 V c t).symm) t x]
  exact sm_block0 V c t

theorem sm_body (V : Val' (F := F)) (c : Dev nD) : BodyObligation (smDat V c) (defs₀ (F := F)) 𝒱₀ none Set.univ := fun t => by
  rw [bigSep_W1, bigSep_W1]
  rw [show (smDat V c).owesAt none t.succ = (smDat V c).owesAt none t.castSucc from rfl]
  rw [show (smDat V c).Φ t.castSucc = Pipeline.scopedRest (Ix := HIx 1) (Name := ℕ) (U := UU) (Lvl := ℕ) (Val := Elt F) spec1 c from rfl,
    show (smDat V c).Φ t.succ = Pipeline.scopedRest (Ix := HIx 1) (Name := ℕ) (U := UU) (Lvl := ℕ) (Val := Elt F) spec1 c from rfl, scopedRest1_eq]
  change _ ⊢ WT c (bodyAt1 t) _
  iintro ⟨⟨G0, G1, G2, G3, G4, ⟨%X3, H3⟩, ⟨%X4, H4⟩, ⟨%X5, H5⟩⟩, Howes, ⟨%d0, H0⟩, ⟨%d1, H1⟩, ⟨%d2, H2⟩⟩
  rw [sm_before0]
  iapply (softmax_run (d := c) (V c main_v1) ((smDat V c).before 1 t d1) X3 ((smDat V c).before 2 t d2) X4 X5) $$ [H0 H1 H2 H3 H4 H5]
  · isplitl [H0]; · iexact H0
    isplitl [H1]; · iexact H1
    isplitl [H2]; · iexact H2
    isplitl [H3]; · iapply (whole_own c cc1_scratch0 X3) $$ H3
    isplitl [H4]; · iapply (whole_own c cc1_scratch1 X4) $$ H4
    iapply (whole_own c cc1_scratch2 X5) $$ H5
  iintro H0 H1 H2 H3 H4 H5
  isplitl [G0 G1 G2 G3 G4 H3 H4 H5]
  · isplitl [G0]; · iexact G0
    isplitl [G1]; · iexact G1
    isplitl [G2]; · iexact G2
    isplitl [G3]; · iexact G3
    isplitl [G4]; · iexact G4
    isplitl [H3]; · iapply (own_whole c cc1_scratch0 _) $$ H3
    isplitl [H4]; · iapply (own_whole c cc1_scratch1 _) $$ H4
    iapply (own_whole c cc1_scratch2 _) $$ H5
  isplitl [Howes]; · iexact Howes
  isplitl [H0]; · iexact H0
  isplitl [H1]; · iexact H1
  iexact H2

theorem sm_out1 (V : Val' (F := F)) (c : Dev nD) : (smDat V c).arrAt 1 cfg1.N = cdfOf (V c main_v1) := by
  refine (smDat V c).arrAt_eq_of_covers 1 _ (by decide +kernel) fun t hf y => ?_
  blk_simp
  show cdfOf (V c main_v1) _ = cdfOf (V c main_v1) _
  congr 1
  funext a
  apply Fin.ext
  fin_cases a
  · blk_simp [idx1_1]
  · blk_simp [idx1_1]

theorem sm_out2 (V : Val' (F := F)) (c : Dev nD) : (smDat V c).arrAt 2 cfg1.N = tabOf (V c main_v1) := by
  refine (smDat V c).arrAt_eq_of_covers 2 _ (by decide +kernel) fun t hf y => ?_
  blk_simp
  show tabOf (V c main_v1) _ = tabOf (V c main_v1) _
  congr 1
  funext a
  apply Fin.ext
  fin_cases a
  · blk_simp [idx1_2]
  · blk_simp [idx1_2]
  · blk_simp [idx1_2]

end Cert.KernelIdeal.Search

end
-- ==== Proof.Steps.lean ====
/- The search kernel's loops run on a tile: a step of four bisections, the stores of a group's rows, and
   a trip of each loop, with what they compute. -/
module

public import proofs.«01_k».proof.Proof.Setup
public import proofs.«01_k».proof.Proof.Bisect

@[expose] public section

set_option maxRecDepth 16384

noncomputable section

namespace Cert.KernelIdeal.Search

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]
variable [Facts]
open Facts₀ Facts

local notation "𝕄" => MT nD τ sig (HIx 1) (Elt F) ℕ UU ℕ

variable {d : Dev nD} {i : grid2.Coords}

/-! ## What the search computes -/

/-- Whether a draw is at most an entry. -/
def atMost (u v : F .f32) : Bool := decide (FloatOps.cmpf .ole u v = 1#1)

/-- The entry of the sampled table that index `m` reads. -/
def tabAt (Tb : Vec F S16384 .f32) (m : ℕ) : F .f32 := Tb (i1 16384 (m / 16 % 8 * 2048 + m / 128))

/-- The start of the run of sixteen entries a draw lies in. -/
def runOf (Tb : Vec F S16384 .f32) (u : F .f32) : ℕ := bsn (fun m => atMost u (tabAt Tb m)) 14 4 0

/-- The entry of the table at index `m`. -/
def rowAt (C : Vec F S2048x128 .f32) (m : ℕ) : F .f32 := C (i2 2048 128 (m / 128) (m % 128))

/-- The index the search returns. -/
def idxOf (Tb : Vec F S16384 .f32) (C : Vec F S2048x128 .f32) (u : F .f32) : ℕ :=
  min (bsn (fun m => atMost u (rowAt C m)) 4 0 (runOf Tb u) + 1) 262143

/-- Bit `q` of an index, as a number. -/
def bitOf (n q : ℕ) : F .f32 :=
  FloatOps.sitofp .f32 (IntOp.andi (IntOp.shrsi .vector (BitVec.ofNat 32 n) (BitVec.ofNat 32 q)) 1#32)

theorem runOf_lt (Tb : Vec F S16384 .f32) (u : F .f32) : runOf Tb u + 16 ≤ 262144 :=
  (bsn_lt (fun m => atMost u (tabAt Tb m)) 14 4 0).trans (by decide)

theorem runOf_dvd (Tb : Vec F S16384 .f32) (u : F .f32) : 16 * (runOf Tb u / 16) = runOf Tb u :=
  Nat.mul_div_cancel' (bsn_dvd (fun m => atMost u (tabAt Tb m)) 14 4 0 (dvd_zero _))

theorem Names.toNat {m : IVec S16 32} {M : S16.Idx → ℕ} (h : Names m M) (x : S16.Idx) (hlt : M x < 2 ^ 31) : (m x).toNat = M x := by
  rw [h x]; exact toNat_ofNat_lt hlt

theorem lane_lt (x : S16.Idx) : (x 0).val < 16 := (x 0).isLt

/-- A check that holds is passed. -/
theorem wp_assumeH {β : Type} {p : Prop} {dp : Decidable p} (h : p) {k : PLift p → TP F i β} {Q : β → sProp 𝕄} :
    WP d i (k ⟨h⟩) Q ⊢ WP d i (Prog.lift (TpuEff.assume p dp) >>= k) Q :=
  wp_assume 𝒱₀ (thr d i) none Set.univ h

/-! ## Bisection steps -/

theorem newLo_names {u v : Vec F S16 .f32} {lo hi : IVec S16 32} {L : S16.Idx → ℕ} {n : ℕ} (hn : n < 30) (hlo : Names lo L)
    (hhi : Names hi fun x => L x + 2 ^ (n + 1)) :
    Names (newLo u v lo hi) (fun x => if atMost (u x) (v x) then L x else L x + 2 ^ n) ∧
      Names (newHi u v lo hi) (fun x => (if atMost (u x) (v x) then L x else L x + 2 ^ n) + 2 ^ n) := by
  have hh := half_names hn hlo hhi
  constructor
  · intro x
    show Scalar.select (FloatOps.cmpf .ole (u x) (v x)) (lo x) (half lo hi x) = _
    unfold Scalar.select atMost
    simp only [show (1 : BitVec 1) = 1#1 from rfl]
    by_cases h : FloatOps.cmpf .ole (u x) (v x) = 1#1
    · rw [if_pos h, if_pos (decide_eq_true h)]; exact hlo x
    · rw [if_neg h, if_neg (by simpa using h)]; exact hh x
  · intro x
    show Scalar.select (FloatOps.cmpf .ole (u x) (v x)) (half lo hi x) (hi x) = _
    unfold Scalar.select atMost
    simp only [show (1 : BitVec 1) = 1#1 from rfl]
    by_cases h : FloatOps.cmpf .ole (u x) (v x) = 1#1
    · rw [if_pos h]; simp only [decide_eq_true h, ↓reduceIte]; exact hh x
    · rw [if_neg h]; simp only [decide_eq_false h]
      rw [hhi x, pow_succ]; congr 1
      show L x + 2 ^ n * 2 = L x + 2 ^ n + 2 ^ n
      omega

/-- `n` steps of four bisections, over a reader `gt` that reads entry `E c x m` at index `m`. -/
theorem wp_steps {R : sProp 𝕄} (gt : Fin 4 → IVec S16 32 → TP F i (Vec F S16 .f32)) (u : Fin 4 → Vec F S16 .f32)
    (E : Fin 4 → S16.Idx → ℕ → F .f32) (ok : Fin 4 → S16.Idx → ℕ → Prop)
    (hgt : ∀ (c : Fin 4) (m : IVec S16 32) (M : S16.Idx → ℕ), Names m M → (∀ x, ok c x (M x)) → ∀ Q : Vec F S16 .f32 → sProp 𝕄,
      R ⊢ iprop((∀ v, ⌜∀ x, v x = E c x (M x)⌝ -∗ R -∗ Q v) -∗ WP d i (gt c m) Q))
    (k : ℕ) : ∀ (n : ℕ) (_ : n + k < 30) (lo hi : Fin 4 → IVec S16 32) (L : Fin 4 → S16.Idx → ℕ) (_ : ∀ c, Names (lo c) (L c))
      (_ : ∀ c, Names (hi c) fun x => L c x + 2 ^ (n + k)) (_ : ∀ c x m, L c x ≤ m → m < L c x + 2 ^ (n + k) → ok c x m)
      (Q : (Fin 4 → IVec S16 32) × (Fin 4 → IVec S16 32) → sProp 𝕄),
      R ⊢ iprop((∀ p, ⌜∀ c, Names (p.1 c) (fun x => bsn (fun m => atMost (u c x) (E c x m)) n k (L c x))
            ∧ Names (p.2 c) (fun x => bsn (fun m => atMost (u c x) (E c x m)) n k (L c x) + 2 ^ k)⌝ -∗ R -∗ Q p)
          -∗ WP d i (steps gt u n lo hi) Q)
  | 0, _, lo, hi, L, hlo, hhi, _, Q => by
    rw [steps]
    simp only [WP, wp_pure]
    iintro HR Hk
    imodintro
    iapply Hk $$ %(lo, hi) [] HR
    ipureintro
    intro c
    refine ⟨hlo c, fun x => ?_⟩
    simp only [hhi c x, Nat.zero_add, bsn]
  | n + 1, hn, lo, hi, L, hlo, hhi, hok, Q => by
    have e : 2 ^ (n + 1 + k) = 2 ^ (n + k) + 2 ^ (n + k) := by rw [show n + 1 + k = (n + k) + 1 by omega, pow_succ]; omega
    have hp : 0 < 2 ^ (n + k) := Nat.two_pow_pos _
    have hhi' : ∀ c, Names (hi c) fun x => L c x + 2 ^ (n + k + 1) := fun c => by
      rw [show n + k + 1 = n + 1 + k by omega]; exact hhi c
    have hh := fun c => half_names (by omega : n + k < 30) (hlo c) (hhi' c)
    have hm : ∀ c x, ok c x (L c x + 2 ^ (n + k)) := fun c x => hok c x _ (by omega) (by omega)
    rw [steps]
    simp only [WP, wp_bind]
    iintro HR Hk
    iapply (hgt 0 _ _ (hh 0) (hm 0)) $$ HR
    iintro %a0 %h0 HR
    iapply (hgt 1 _ _ (hh 1) (hm 1)) $$ HR
    iintro %a1 %h1 HR
    iapply (hgt 2 _ _ (hh 2) (hm 2)) $$ HR
    iintro %a2 %h2 HR
    iapply (hgt 3 _ _ (hh 3) (hm 3)) $$ HR
    iintro %a3 %h3 HR
    have hv : ∀ (c : Fin 4) x, ((![a0, a1, a2, a3] : Fin 4 → Vec F S16 .f32) c) x = E c x (L c x + 2 ^ (n + k)) := by
      intro c x
      match c with
      | 0 => exact h0 x
      | 1 => exact h1 x
      | 2 => exact h2 x
      | 3 => exact h3 x
    generalize (![a0, a1, a2, a3] : Fin 4 → Vec F S16 .f32) = a at hv
    have hnew := fun c => newLo_names (u := u c) (v := a c) (by omega : n + k < 30) (hlo c) (hhi' c)
    iapply (wp_steps gt u E ok hgt k n (by omega) (fun c => newLo (u c) (a c) (lo c) (hi c)) (fun c => newHi (u c) (a c) (lo c) (hi c))
      (fun c x => if atMost (u c x) (a c x) then L c x else L c x + 2 ^ (n + k)) (fun c => (hnew c).1) (fun c => (hnew c).2)
      (fun c x m h1 h2 => hok c x m (by split at h1 <;> omega) (by split at h2 <;> omega)) Q) $$ HR
    iintro %p %hp' HR
    iapply Hk $$ %p [] HR
    ipureintro
    intro c
    have := hp' c
    simp only [hv] at this
    exact this

/-! ## The two readers -/

theorem wp_gatherT {q : PosShare TreeShare} {tab : Memref sig .scVector .vmem S16384 .f32} {Tb : Vec F S16384 .f32} {m : IVec S16 32} {M : S16.Idx → ℕ}
    (hm : Names m M) (hM : ∀ x, M x < 2 ^ 18) (Q : Vec F S16 .f32 → sProp 𝕄) :
    Holds d i tab q Tb ⊢ iprop((∀ v, ⌜∀ x, v x = tabAt Tb (M x)⌝ -∗ Holds d i tab q Tb -∗ Q v) -∗ WP d i (gatherT tab (tabIdx m)) Q) := by
  have ht := tabIdx_names hm hM
  have hlt : ∀ x, M x / 16 % 8 * 2048 + M x / 128 < 16384 := fun x => by have := hM x; omega
  have hnat : ∀ x, (tabIdx m x).toNat = M x / 16 % 8 * 2048 + M x / 128 := fun x =>
    ht.toNat x ((hlt x).trans (by decide))
  have hc : k2_chk1 (tabIdx m) := by
    intro a x
    have := Fin.eq_zero a; subst this
    show (tabIdx m x).toNat < 16384
    rw [hnat]; exact hlt x
  iintro H Hk
  unfold gatherT
  iapply (wp_assumeH hc)
  iapply (wp_loadIdxH (X := Tb) (hl := View.loads_vmem h_S16384)) $$ H
  iintro H
  iapply Hk $$ [] H
  ipureintro
  intro x
  show Tb _ = Tb _
  congr 1
  exact eq_i1 _ (hnat x)

theorem wp_gatherR {q : PosShare TreeShare} {rows : Memref sig .scVector .vmem S128x128 .f32} {X : Vec F S128x128 .f32} {s m : IVec S16 32} {M N : S16.Idx → ℕ}
    (hs : Names s N) (hN : ∀ x, N x < 128) (hm : Names m M) (Q : Vec F S16 .f32 → sProp 𝕄) :
    Holds d i rows q X ⊢ iprop((∀ v, ⌜∀ x, v x = X (i2 128 128 (N x) (M x % 128))⌝ -∗ Holds d i rows q X -∗ Q v) -∗ WP d i (gatherR rows s (laneIdx m)) Q) := by
  have ht := laneIdx_names hm
  have hnat : ∀ x, (laneIdx m x).toNat = M x % 128 := fun x =>
    ht.toNat x ((Nat.mod_lt _ (by decide)).trans (by decide))
  have hsn : ∀ x, (s x).toNat = N x := fun x => hs.toNat x ((hN x).trans (by decide))
  have hc : k2_chk57 s (laneIdx m) := by
    intro a x
    match a with
    | 0 => show (s x).toNat < 128; rw [hsn]; exact hN x
    | 1 => show (laneIdx m x).toNat < 128; rw [hnat]; exact Nat.mod_lt _ (by decide)
  iintro H Hk
  unfold gatherR
  iapply (wp_assumeH hc)
  iapply (wp_loadIdxH (X := X) (hl := View.loads_vmem h_S128x128)) $$ H
  iintro H
  iapply Hk $$ [] H
  ipureintro
  intro x
  show X _ = X _
  congr 1
  exact eq_i2 _ (hsn x) (hnat x)

/-! ## The stores of rows -/

section Scatter

variable {K : Type} {s : Shape} {e : EltTy}

theorem scatter_not_mem (i : K → s.Idx) (v : K → Elt F e) (j : s.Idx) (l : List K) (f : Vec F s e) (h : ∀ k ∈ l, i k ≠ j) :
    l.foldl (fun (g : Vec F s e) k => fun j => if (∀ a, (j a).val = (i k a).val) then v k else g j) f j = f j := by
  induction l generalizing f with
  | nil => rfl
  | cons k l ih =>
    rw [List.foldl_cons, ih _ fun k' hk' => h k' (List.mem_cons_of_mem _ hk')]
    exact if_neg fun he => h k List.mem_cons_self (funext fun a => Fin.ext (he a).symm)

theorem scatter_mem (i : K → s.Idx) (v : K → Elt F e) (hi : Function.Injective i) (k₀ : K) (l : List K) (f : Vec F s e) (h : k₀ ∈ l) :
    l.foldl (fun (g : Vec F s e) k => fun j => if (∀ a, (j a).val = (i k a).val) then v k else g j) f (i k₀) = v k₀ := by
  induction l generalizing f with
  | nil => exact absurd h List.not_mem_nil
  | cons k l ih =>
    rw [List.foldl_cons]
    by_cases hk : k₀ ∈ l
    · exact ih _ hk
    · obtain rfl : k₀ = k := (List.mem_cons.mp h).resolve_right hk
      rw [scatter_not_mem i v (i k₀) l _ fun k' hk' he => hk (hi he ▸ hk')]
      exact if_pos fun _ => rfl

end Scatter

/-- Columns `q`, …, `q + n - 1` of rows `b`, …, `b + m - 1` holding the bits of `idx`, the rest as in `X`. -/
def wrote (X : Vec F S128x18 .f32) (b m : ℕ) (idx : ℕ → ℕ) (n q : ℕ) : Vec F S128x18 .f32 := fun j =>
  if b ≤ (j 0).val ∧ (j 0).val < b + m ∧ q ≤ (j 1).val ∧ (j 1).val < q + n then bitOf (idx (j 0).val) (j 1).val else X j

theorem wrote_succ (X : Vec F S128x18 .f32) (b m : ℕ) (idx : ℕ → ℕ) (n q : ℕ) :
    wrote (wrote X b m idx 1 q) b m idx n (q + 1) = wrote X b m idx (n + 1) q := by
  funext j
  unfold wrote
  by_cases h : b ≤ (j 0).val ∧ (j 0).val < b + m ∧ q ≤ (j 1).val ∧ (j 1).val < q + (n + 1)
  · rw [if_pos h]
    by_cases h' : (j 1).val = q
    · rw [if_neg (by omega), if_pos (by omega)]
    · rw [if_pos (by omega)]
  · rw [if_neg h, if_neg (by omega), if_neg (by omega)]

theorem wrote_zero (X : Vec F S128x18 .f32) (b m : ℕ) (idx : ℕ → ℕ) (q : ℕ) : wrote X b m idx 0 q = X := by
  funext j
  exact if_neg (by omega)

theorem wrote_rows (X : Vec F S128x18 .f32) (b m : ℕ) (idx : ℕ → ℕ) (n q : ℕ) :
    wrote (wrote X 0 b idx n q) b m idx n q = wrote X 0 (b + m) idx n q := by
  funext j
  unfold wrote
  by_cases h : 0 ≤ (j 0).val ∧ (j 0).val < 0 + (b + m) ∧ q ≤ (j 1).val ∧ (j 1).val < q + n
  · rw [if_pos h]
    by_cases h' : (j 0).val < b
    · rw [if_neg (by omega), if_pos (by omega)]
    · rw [if_pos (by omega)]
  · rw [if_neg h, if_neg (by omega), if_neg (by omega)]

theorem wrote_none (X : Vec F S128x18 .f32) (b : ℕ) (idx : ℕ → ℕ) (n q : ℕ) : wrote X b 0 idx n q = X := by
  funext j
  exact if_neg (by omega)

theorem wrote_all (X : Vec F S128x18 .f32) (idx : ℕ → ℕ) : wrote X 0 128 idx 18 0 = fun j => bitOf (idx (j 0).val) (j 1).val := by
  funext j
  have h0 : (j 0).val < 128 := (j 0).isLt
  have h1 : (j 1).val < 18 := (j 1).isLt
  exact if_pos (by omega)

/-- Lane `k` of a vector register. -/
def lane (k : Fin 16) : S16.Idx := Shape.ofLane (d := ![16]) k

theorem storeIdx_fold {s : Shape} {e : EltTy} (X : Vec F s e) (idxs : Fin s.rank → IVec S16 32) (v : Vec F S16 e) (h : ∀ a x, (idxs a x).toNat < s.size a) :
    storeIdx (F := F) X idxs v (fun _ => 1#1) false h
      = (List.finRange 16).foldl (fun (g : Vec F s e) k => fun j => if (∀ a, (j a).val = (idxAt idxs h (lane k) a).val) then v (lane k) else g j) X := by
  unfold storeIdx
  simp only [show ((1#1 : BitVec 1) = 1) = True from eq_true rfl, if_true, Bool.false_eq_true, if_false]
  rfl

theorem storeIdx_wrote (X : Vec F S128x18 .f32) (b : ℕ) (hb : b + 16 ≤ 128) (idx : ℕ → ℕ) (q : ℕ) (hq : q < 18) (s id : IVec S16 32)
    (hs : Names s fun x => b + (x 0).val) (hid : Names id fun x => idx (b + (x 0).val))
    (h : ∀ a x, ((![s, broadcast S16 (BitVec.ofNat 32 q)] : Fin 2 → IVec S16 32) a x).toNat < S128x18.size a) :
    storeIdx (F := F) X ![s, broadcast S16 (BitVec.ofNat 32 q)] (bitVec (F := F) id q) (fun _ => 1#1) false h = wrote X b 16 idx 1 q := by
  have hsn : ∀ x, (s x).toNat = b + (x 0).val := fun x =>
    hs.toNat x (lt_of_le_of_lt (by have := lane_lt x; dsimp only; omega : _ ≤ 128) (by decide))
  rw [storeIdx_fold]
  have hi0 : ∀ k : Fin 16, (idxAt (s := S128x18) (![s, broadcast S16 (BitVec.ofNat 32 q)] : Fin 2 → IVec S16 32) h (lane k) 0).val = b + k.val := fun k => hsn (lane k)
  have hi1 : ∀ k : Fin 16, (idxAt (s := S128x18) (![s, broadcast S16 (BitVec.ofNat 32 q)] : Fin 2 → IVec S16 32) h (lane k) 1).val = q := fun k =>
    toNat_ofNat_lt (by omega)
  generalize idxAt (s := S128x18) (![s, broadcast S16 (BitVec.ofNat 32 q)] : Fin 2 → IVec S16 32) h = ix at hi0 hi1 ⊢
  funext j
  unfold wrote
  by_cases hj : b ≤ (j 0).val ∧ (j 0).val < b + 16 ∧ q ≤ (j 1).val ∧ (j 1).val < q + 1
  · rw [if_pos hj]
    have hk : (j 0).val - b < 16 := by omega
    have ej : j = ix (lane ⟨(j 0).val - b, hk⟩) := by
      funext a
      apply Fin.ext
      match a with
      | 0 => rw [hi0]; dsimp only; omega
      | 1 => rw [hi1]; omega
    have := scatter_mem (F := F) (e := .f32) (fun k : Fin 16 => ix (lane k)) (fun k => bitVec (F := F) id q (lane k))
      (fun k k' he => Fin.ext (by
        have := congrArg (fun z : S128x18.Idx => (z 0).val) he
        dsimp only at this
        rw [hi0, hi0] at this; omega)) ⟨(j 0).val - b, hk⟩ (List.finRange 16) X (List.mem_finRange _)
    dsimp only at this
    rw [← ej] at this
    refine this.trans ?_
    show FloatOps.sitofp .f32 (IntOp.andi (IntOp.shrsi .vector (id _) (BitVec.ofNat 32 q)) 1#32) = _
    rw [hid, show (j 1).val = q by omega]
    show bitOf (idx (b + ((j 0).val - b))) q = _
    rw [show b + ((j 0).val - b) = (j 0).val by omega]
  · rw [if_neg hj]
    refine scatter_not_mem (F := F) (e := .f32) (fun k : Fin 16 => ix (lane k)) (fun k => bitVec (F := F) id q (lane k)) j (List.finRange 16) X fun k _ he => hj ?_
    rw [← he, hi0, hi1]
    have := k.isLt
    omega

theorem wp_stores {out : Memref sig .scVector .vmem S128x18 .f32} {s id : IVec S16 32} {b : ℕ} (hb : b + 16 ≤ 128) {idx : ℕ → ℕ}
    (hs : Names s fun x => b + (x 0).val) (hid : Names id fun x => idx (b + (x 0).val)) :
    ∀ (n q : ℕ) (_ : q + n ≤ 18) (X : Vec F S128x18 .f32) (Q : Unit → sProp 𝕄),
      Holds d i out fullShare X ⊢ iprop((Holds d i out fullShare (wrote X b 16 idx n q) -∗ Q ⟨⟩) -∗ WP d i (stores out s id n q) Q)
  | 0, q, _, X, Q => by
    rw [stores, wrote_zero]
    simp only [WP, wp_pure]
    iintro H Hk
    imodintro
    iapply Hk; iexact H
  | n + 1, q, hq, X, Q => by
    have hc : k2_chk144 s (broadcast S16 (BitVec.ofNat 32 q)) := by
      intro a x
      match a with
      | 0 =>
        show (s x).toNat < 128
        have := lane_lt x
        rw [hs.toNat x (lt_of_le_of_lt (by dsimp only; omega : _ ≤ 128) (by decide))]
        omega
      | 1 => show (BitVec.ofNat 32 q).toNat < 18; rw [toNat_ofNat_lt (by omega)]; omega
    rw [stores]
    iintro H Hk
    iapply (wp_assumeH hc)
    simp only [WP, wp_bind]
    iapply (wp_storeIdxH (X := X) (hs := View.stores_vmem_bits_univ h_S128x18 rfl)) $$ H
    rw [storeIdx_wrote X b hb idx q (by omega) s id hs hid]
    iintro H
    iapply (wp_stores hb hs hid n (q + 1) (by omega) (wrote X b 16 idx 1 q) Q) $$ H
    rw [wrote_succ]
    iexact Hk

end Cert.KernelIdeal.Search

end
-- ==== Proof.Trips.lean ====
/- The two loops of the search kernel, with what they leave: the runs and rows of all draws of a tile, and a
   block of bits. -/
module

public import proofs.«01_k».proof.Proof.Steps

@[expose] public section

set_option maxRecDepth 16384

noncomputable section

namespace Cert.KernelIdeal.Search

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]
variable [Facts]
open Facts₀ Facts

local notation "𝕄" => MT nD τ sig (HIx 1) (Elt F) ℕ UU ℕ

variable {d : Dev nD} {i : grid2.Coords}

/-! ## Lists of words filled from the left -/

/-- Words `b`, …, `b + n - 1` set to `g`, the rest as in `X`. -/
def filled (X : Vec F S2048 .i32) (b n : ℕ) (g : ℕ → BitVec 32) : Vec F S2048 .i32 := fun j =>
  if b ≤ (j 0).val ∧ (j 0).val < b + n then g (j 0).val else X j

theorem filled_none (X : Vec F S2048 .i32) (b : ℕ) (g : ℕ → BitVec 32) : filled X b 0 g = X := by
  funext j
  exact if_neg (by omega)

theorem filled_filled (X : Vec F S2048 .i32) (b n : ℕ) (g : ℕ → BitVec 32) : filled (filled X 0 b g) b n g = filled X 0 (b + n) g := by
  funext j
  unfold filled
  by_cases h : 0 ≤ (j 0).val ∧ (j 0).val < 0 + (b + n)
  · rw [if_pos h]
    by_cases h' : (j 0).val < b
    · rw [if_neg (by omega), if_pos (by omega)]
    · rw [if_pos (by omega)]
  · rw [if_neg h, if_neg (by omega), if_neg (by omega)]

theorem filled_all (X : Vec F S2048 .i32) (g : ℕ → BitVec 32) : filled X 0 2048 g = fun j => g (j 0).val := by
  funext j
  have h0 : (j 0).val < 2048 := (j 0).isLt
  exact if_pos (by omega)

/-- Element `x` of the sixteen at `b`. -/
theorem emb16 {off : Fin 1 → ℕ} {inb : ∀ a, off a + S16.size a ≤ S2048.size a} {b : ℕ} (hb : off = ![b]) (x : S16.Idx) :
    (Rect.unit (s := S2048) off S16.size inb).emb x = i1 2048 (b + (x 0).val) := by
  subst hb
  apply eq_i1
  rw [Rect.emb_apply]
  show b + 1 * (x 0).val = _
  omega

theorem not_mem16 {off : Fin 1 → ℕ} {inb : ∀ a, off a + S16.size a ≤ S2048.size a} {b : ℕ} (hb : off = ![b]) (j : S2048.Idx)
    (hj : j ∉ (Rect.unit (s := S2048) off S16.size inb).set) : ¬ (b ≤ (j 0).val ∧ (j 0).val < b + 16) := by
  subst hb
  intro h
  refine hj ((Rect.mem_set_unit (inb := inb)).mpr fun a => ?_)
  have := Fin.eq_zero a; subst this
  exact h

theorem i1_val (N : ℕ) [NeZero N] (n : ℕ) (h : n < N) : (i1 N n 0).val = n := Nat.mod_eq_of_lt h

/-! ## The coarse loop -/

/-- Draw `s` of a tile. -/
def drawAt (U : Vec F S2048 .f32) (s : ℕ) : F .f32 := U (i1 2048 s)

/-- The run of draw `s`, and its row of the table, as words. -/
def runWord (Tb : Vec F S16384 .f32) (U : Vec F S2048 .f32) (s : ℕ) : BitVec 32 := BitVec.ofNat 32 (runOf Tb (drawAt U s) / 16)
def rowWord (Tb : Vec F S16384 .f32) (U : Vec F S2048 .f32) (s : ℕ) : BitVec 32 := BitVec.ofNat 32 (runOf Tb (drawAt U s) / 128)

section Coarse

variable {arg6 : Memref sig .scVector .vmem S2048 .f32} {arg7 : Memref sig .scVector .vmem S16384 .f32}
  {arg8 arg9 : Memref sig .scVector .vmem S2048 .i32} {q6 q7 : PosShare TreeShare} {U : Vec F S2048 .f32} {Tb : Vec F S16384 .f32}

theorem wp_loadA (k : Fin k2_t1_loop.trips) (c : Fin 4) (Q : Vec F S16 .f32 → sProp 𝕄) :
    Holds d i arg6 q6 U ⊢ iprop((Holds d i arg6 q6 U -∗ Q (fun x => drawAt U (64 * k.val + 16 * c.val + (x 0).val))) -∗ WP d i (loadA i arg6 k c) Q) := by
  iintro H Hk
  unfold loadA Prog.lift
  iapply (wp_loadH (X := U)) $$ H
  iintro H
  simp only [WP, wp_ret]
  rw [show (fun x => U ((Rect.unit (s := S2048) (k2_off2 k (BitVec.ofNat 32 c.val)) S16.size (k2_off2_inb k c)).emb x))
    = (fun x : S16.Idx => drawAt U (64 * k.val + 16 * c.val + (x 0).val)) from funext fun x => congrArg U (emb16 (Gen.k2_off2_eq k c) x)]
  imodintro
  iapply Hk; iexact H

theorem wp_storeA (k : Fin k2_t1_loop.trips) (c : Fin 4) (lo : IVec S16 32) (hlo : Names lo fun x => runOf Tb (drawAt U (64 * k.val + 16 * c.val + (x 0).val)))
    (X8 X9 : Vec F S2048 .i32) (Q : PUnit → sProp 𝕄) :
    iprop(Holds d i arg8 fullShare (filled X8 0 (64 * k.val + 16 * c.val) (runWord Tb U)) ∗ Holds d i arg9 fullShare (filled X9 0 (64 * k.val + 16 * c.val) (rowWord Tb U)))
      ⊢ iprop((Holds d i arg8 fullShare (filled X8 0 (64 * k.val + 16 * c.val + 16) (runWord Tb U)) -∗
          Holds d i arg9 fullShare (filled X9 0 (64 * k.val + 16 * c.val + 16) (rowWord Tb U)) -∗ Q ⟨⟩) -∗ WP d i (storeA i arg8 arg9 k c lo) Q) := by
  have hk : k.val < 32 := lt_of_lt_of_eq k.isLt trips_coarse
  have hlt : ∀ x : S16.Idx, runOf Tb (drawAt U (64 * k.val + 16 * c.val + (x 0).val)) < 2 ^ 18 := fun x => by
    have := runOf_lt Tb (drawAt U (64 * k.val + 16 * c.val + (x 0).val)); omega
  have h8 : Names (shrsi lo (broadcast S16 4#32)) fun x => runOf Tb (drawAt U (64 * k.val + 16 * c.val + (x 0).val)) / 16 := run_names hlo hlt
  have h9 : Names (shrsi lo (broadcast S16 7#32)) fun x => runOf Tb (drawAt U (64 * k.val + 16 * c.val + (x 0).val)) / 128 := row_names hlo hlt
  have hs : ∀ (x : S16.Idx) (g : ℕ → BitVec 32) (X : Vec F S2048 .i32),
      filled X (64 * k.val + 16 * c.val) 16 g ((Rect.unit (s := S2048) (k2_off3 k (BitVec.ofNat 32 c.val)) S16.size (k2_off3_inb k c)).emb x) = g (64 * k.val + 16 * c.val + (x 0).val) := by
    intro x g X
    have := lane_lt x
    rw [emb16 (Gen.k2_off3_eq k c)]
    unfold filled
    rw [i1_val _ _ (by omega), if_pos (by omega)]
  have hn : ∀ (g : ℕ → BitVec 32) (X : Vec F S2048 .i32) (j : S2048.Idx),
      j ∉ (Rect.unit (s := S2048) (k2_off3 k (BitVec.ofNat 32 c.val)) S16.size (k2_off3_inb k c)).set → filled X (64 * k.val + 16 * c.val) 16 g j = X j :=
    fun g X j hj => if_neg (not_mem16 (Gen.k2_off3_eq k c) j hj)
  unfold storeA
  simp only [Prog.bind_lift]
  iintro ⟨H8, H9⟩ Hk
  iapply (wp_loadH (X := filled X8 0 (64 * k.val + 16 * c.val) (runWord Tb U))) $$ H8
  iintro H8
  iapply (wp_storeH (X := filled X8 0 (64 * k.val + 16 * c.val) (runWord Tb U)) (filled (filled X8 0 (64 * k.val + 16 * c.val) (runWord Tb U)) (64 * k.val + 16 * c.val) 16 (runWord Tb U))
    (fun x => (hs x _ _).trans (h8 x).symm) (hn _ _)) $$ H8
  iintro H8
  iapply (wp_loadH (X := filled X9 0 (64 * k.val + 16 * c.val) (rowWord Tb U))) $$ H9
  iintro H9
  iapply (wp_storeH (X := filled X9 0 (64 * k.val + 16 * c.val) (rowWord Tb U)) (filled (filled X9 0 (64 * k.val + 16 * c.val) (rowWord Tb U)) (64 * k.val + 16 * c.val) 16 (rowWord Tb U))
    (fun x => (hs x _ _).trans (h9 x).symm) (hn _ _)) $$ H9
  iintro H9
  simp only [WP, wp_ret, filled_filled]
  imodintro
  iapply Hk $$ H8 H9

/-- What the coarse loop holds before trip `n`. -/
def CoarseInv (d : Dev nD) (i : grid2.Coords) (arg6 : Memref sig .scVector .vmem S2048 .f32) (arg7 : Memref sig .scVector .vmem S16384 .f32)
    (arg8 arg9 : Memref sig .scVector .vmem S2048 .i32) (q6 q7 : PosShare TreeShare) (U : Vec F S2048 .f32) (Tb : Vec F S16384 .f32)
    (X8 X9 : Vec F S2048 .i32) (n : ℕ) : sProp 𝕄 :=
  iprop(Holds d i arg6 q6 U ∗ Holds d i arg7 q7 Tb ∗ Holds d i arg8 fullShare (filled X8 0 n (runWord Tb U)) ∗ Holds d i arg9 fullShare (filled X9 0 n (rowWord Tb U)))

theorem wp_tripA (X8 X9 : Vec F S2048 .i32) (k : Fin k2_t1_loop.trips) (a : BitVec 32) :
    CoarseInv d i arg6 arg7 arg8 arg9 q6 q7 U Tb X8 X9 (64 * k.val)
      ⊢ WP d i (tripA i arg6 arg7 arg8 arg9 k a) fun _ => CoarseInv d i arg6 arg7 arg8 arg9 q6 q7 U Tb X8 X9 (64 * (k.val + 1)) := by
  unfold CoarseInv tripA
  simp only [WP, wp_bind, wp_pure]
  iintro ⟨H6, H7, H8, H9⟩
  iapply (wp_loadA (U := U) k 0) $$ H6
  iintro H6
  iapply (wp_loadA (U := U) k 1) $$ H6
  iintro H6
  iapply (wp_loadA (U := U) k 2) $$ H6
  iintro H6
  iapply (wp_loadA (U := U) k 3) $$ H6
  iintro H6
  have hu : ∀ (c : Fin 4) x, ((![fun x => drawAt U (64 * k.val + 16 * (0 : Fin 4).val + (x 0).val), fun x => drawAt U (64 * k.val + 16 * (1 : Fin 4).val + (x 0).val),
      fun x => drawAt U (64 * k.val + 16 * (2 : Fin 4).val + (x 0).val), fun x => drawAt U (64 * k.val + 16 * (3 : Fin 4).val + (x 0).val)] : Fin 4 → Vec F S16 .f32) c) x
      = drawAt U (64 * k.val + 16 * c.val + (x 0).val) := by
    intro c x
    match c with
    | 0 => rfl
    | 1 => rfl
    | 2 => rfl
    | 3 => rfl
  generalize (![fun x => drawAt U (64 * k.val + 16 * (0 : Fin 4).val + (x 0).val), fun x => drawAt U (64 * k.val + 16 * (1 : Fin 4).val + (x 0).val),
      fun x => drawAt U (64 * k.val + 16 * (2 : Fin 4).val + (x 0).val), fun x => drawAt U (64 * k.val + 16 * (3 : Fin 4).val + (x 0).val)] : Fin 4 → Vec F S16 .f32) = u at hu
  iapply (wp_steps (R := Holds d i arg7 q7 Tb) (fun _ m => gatherT arg7 (tabIdx m)) u (fun _ _ m => tabAt Tb m) (fun _ _ m => m < 2 ^ 18)
    (fun c m M hm hM Q => wp_gatherT hm hM Q) 4 14 (by decide) (fun _ => broadcast S16 0#32) (fun _ => broadcast S16 262144#32) (fun _ _ => 0)
    (fun c x => rfl) (fun c x => congrArg (BitVec.ofNat 32) (by omega : 262144 = 0 + 2 ^ (14 + 4))) (fun c x m h1 h2 => by omega)) $$ H7
  iintro %p %hp H7
  have hlo : ∀ c : Fin 4, Names (p.1 c) fun x => runOf Tb (drawAt U (64 * k.val + 16 * c.val + (x 0).val)) := fun c x => by
    rw [(hp c).1 x]; dsimp only; rw [hu]; rfl
  iapply (wp_storeA k 0 (p.1 0) (hlo 0) X8 X9) $$ [H8 H9]
  · isplitl [H8] <;> iassumption
  iintro H8 H9
  iapply (wp_storeA k 1 (p.1 1) (hlo 1) X8 X9) $$ [H8 H9]
  · isplitl [H8] <;> iassumption
  iintro H8 H9
  iapply (wp_storeA k 2 (p.1 2) (hlo 2) X8 X9) $$ [H8 H9]
  · isplitl [H8] <;> iassumption
  iintro H8 H9
  iapply (wp_storeA k 3 (p.1 3) (hlo 3) X8 X9) $$ [H8 H9]
  · isplitl [H8] <;> iassumption
  iintro H8 H9
  imodintro
  isplitl [H6]; · iexact H6
  isplitl [H7]; · iexact H7
  isplitl [H8]; · iexact H8
  iexact H9

theorem wp_coarse (X8 X9 : Vec F S2048 .i32) (Q : BitVec 32 → sProp 𝕄) :
    CoarseInv d i arg6 arg7 arg8 arg9 q6 q7 U Tb X8 X9 0
      ⊢ iprop((∀ a, Holds d i arg6 q6 U -∗ Holds d i arg7 q7 Tb -∗ Holds d i arg8 fullShare (fun j => runWord Tb U (j 0).val) -∗
          Holds d i arg9 fullShare (fun j => rowWord Tb U (j 0).val) -∗ Q a)
        -∗ WP d i (Scf.Loop.for k2_t1_loop k2_t1_ok 0#32 (tripA i arg6 arg7 arg8 arg9)) Q) := by
  iintro HI Hk
  iapply (Scf.wp_for frame (wpE (defs₀ (F := F)) 𝒱₀ (thr d i) none) Set.univ _ _ _ k2_t1_ok 0#32 (tripA i arg6 arg7 arg8 arg9)
    (fun n _ => CoarseInv d i arg6 arg7 arg8 arg9 q6 q7 U Tb X8 X9 (64 * n)) (fun k a => wp_tripA X8 X9 k a))
  isplitl [HI]
  · iexact HI
  iintro %a HI
  rw [show Scf.trips _ _ _ = 32 from trips_coarse]
  unfold CoarseInv
  icases HI with ⟨H6, H7, H8, H9⟩
  rw [show 64 * 32 = 2048 from rfl, filled_all, filled_all]
  iapply Hk $$ %a H6 H7 H8 H9

end Coarse

/-! ## A fine loop -/

section Fine

variable {arg6 : Memref sig .scVector .vmem S2048 .f32} {arg8 : Memref sig .scVector .vmem S2048 .i32}
  {rows : Memref sig .scVector .vmem S128x128 .f32} {out : Memref sig .scVector .vmem S128x18 .f32}
  {q6 q8 qr : PosShare TreeShare} {U : Vec F S2048 .f32} {Tb : Vec F S16384 .f32} {C : Vec F S2048x128 .f32} {X : Vec F S128x128 .f32}

theorem wp_loadB (g : Fin 16) (k : Fin k2_t2_loop.trips) (c : Fin 4) (Q : Vec F S16 .f32 × Vec F S16 .i32 → sProp 𝕄) :
    iprop(Holds d i arg6 q6 U ∗ Holds d i arg8 q8 (fun j => runWord Tb U (j 0).val))
      ⊢ iprop((Holds d i arg6 q6 U -∗ Holds d i arg8 q8 (fun j => runWord Tb U (j 0).val) -∗
          Q (fun x => drawAt U (128 * g.val + 64 * k.val + 16 * c.val + (x 0).val), fun x => runWord Tb U (128 * g.val + 64 * k.val + 16 * c.val + (x 0).val)))
        -∗ WP d i (loadB i arg6 arg8 g k c) Q) := by
  have hk : k.val < 2 := lt_of_lt_of_eq k.isLt trips_fine
  iintro ⟨H6, H8⟩ Hk
  unfold loadB
  simp only [Prog.bind_lift]
  iapply (wp_loadH (X := U)) $$ H6
  iintro H6
  iapply (wp_loadH (X := (fun j => runWord Tb U (j 0).val : Vec F S2048 .i32))) $$ H8
  iintro H8
  simp only [WP, wp_pure]
  rw [show (fun x => U ((Rect.unit (s := S2048) (grpOff (BitVec.ofNat 32 (128 * g.val)) (Scf.iv 0#32 1#32 k) (BitVec.ofNat 32 c.val)) S16.size (grpOff_inb g k c)).emb x))
    = (fun x : S16.Idx => drawAt U (128 * g.val + 64 * k.val + 16 * c.val + (x 0).val)) from funext fun x => congrArg U (emb16 (grpOff_eq g k c) x)]
  rw [show (fun x => runWord Tb U ((Rect.unit (s := S2048) (grpOff (BitVec.ofNat 32 (128 * g.val)) (Scf.iv 0#32 1#32 k) (BitVec.ofNat 32 c.val)) S16.size (grpOff_inb g k c)).emb x 0).val)
    = (fun x : S16.Idx => runWord Tb U (128 * g.val + 64 * k.val + 16 * c.val + (x 0).val)) from funext fun (x : S16.Idx) => by
      have := lane_lt x
      rw [emb16 (grpOff_eq g k c) x, i1_val _ _ (by omega)]]
  imodintro
  iapply Hk $$ H6 H8

/-- The index the search returns for slot `s` of group `g`. -/
def slotIdx (Tb : Vec F S16384 .f32) (C : Vec F S2048x128 .f32) (U : Vec F S2048 .f32) (g : ℕ) (s : ℕ) : ℕ := idxOf Tb C (drawAt U (128 * g + s))

/-- What a fine loop holds before trip `n`. -/
def FineInv (d : Dev nD) (i : grid2.Coords) (arg6 : Memref sig .scVector .vmem S2048 .f32) (arg8 : Memref sig .scVector .vmem S2048 .i32)
    (rows : Memref sig .scVector .vmem S128x128 .f32) (out : Memref sig .scVector .vmem S128x18 .f32) (q6 q8 qr : PosShare TreeShare)
    (U : Vec F S2048 .f32) (Tb : Vec F S16384 .f32) (C : Vec F S2048x128 .f32) (X : Vec F S128x128 .f32) (g : ℕ) (Y : Vec F S128x18 .f32) (n : ℕ) : sProp 𝕄 :=
  iprop(Holds d i arg6 q6 U ∗ Holds d i arg8 q8 (fun j => runWord Tb U (j 0).val) ∗ Holds d i rows qr X ∗
    Holds d i out fullShare (wrote Y 0 n (slotIdx Tb C U g) 18 0))

/-- The rows of group `g` gathered: slot `s` holds the row of the table that draw `128 g + s` lies in. -/
def Gathered (Tb : Vec F S16384 .f32) (C : Vec F S2048x128 .f32) (U : Vec F S2048 .f32) (g : ℕ) (X : Vec F S128x128 .f32) : Prop :=
  ∀ s l, s < 128 → l < 128 → X (i2 128 128 s l) = C (i2 2048 128 (runOf Tb (drawAt U (128 * g + s)) / 128) l)

theorem wp_tripB (g : Fin 16) (hX : Gathered Tb C U g.val X) (Y : Vec F S128x18 .f32) (k : Fin k2_t2_loop.trips) (a : BitVec 32) :
    FineInv d i arg6 arg8 rows out q6 q8 qr U Tb C X g.val Y (64 * k.val)
      ⊢ WP d i (tripB i arg6 arg8 rows out lanes g k a) fun _ => FineInv d i arg6 arg8 rows out q6 q8 qr U Tb C X g.val Y (64 * (k.val + 1)) := by
  have hk : k.val < 2 := lt_of_lt_of_eq k.isLt trips_fine
  unfold FineInv tripB
  simp only [WP, wp_bind, wp_pure]
  iintro ⟨H6, H8, Hr, Ho⟩
  iapply (wp_loadB (U := U) (Tb := Tb) g k 0) $$ [H6 H8]
  · isplitl [H6] <;> iassumption
  iintro H6 H8
  iapply (wp_loadB (U := U) (Tb := Tb) g k 1) $$ [H6 H8]
  · isplitl [H6] <;> iassumption
  iintro H6 H8
  iapply (wp_loadB (U := U) (Tb := Tb) g k 2) $$ [H6 H8]
  · isplitl [H6] <;> iassumption
  iintro H6 H8
  iapply (wp_loadB (U := U) (Tb := Tb) g k 3) $$ [H6 H8]
  · isplitl [H6] <;> iassumption
  iintro H6 H8
  dsimp only
  have hu : ∀ (c : Fin 4), ((![fun x => drawAt U (128 * g.val + 64 * k.val + 16 * (0 : Fin 4).val + (x 0).val), fun x => drawAt U (128 * g.val + 64 * k.val + 16 * (1 : Fin 4).val + (x 0).val),
      fun x => drawAt U (128 * g.val + 64 * k.val + 16 * (2 : Fin 4).val + (x 0).val), fun x => drawAt U (128 * g.val + 64 * k.val + 16 * (3 : Fin 4).val + (x 0).val)] : Fin 4 → Vec F S16 .f32) c)
      = fun x => drawAt U (128 * g.val + 64 * k.val + 16 * c.val + (x 0).val) := by
    intro c
    match c with
    | 0 => rfl
    | 1 => rfl
    | 2 => rfl
    | 3 => rfl
  have hr : ∀ (c : Fin 4), Names ((![fun x => runWord Tb U (128 * g.val + 64 * k.val + 16 * (0 : Fin 4).val + (x 0).val), fun x => runWord Tb U (128 * g.val + 64 * k.val + 16 * (1 : Fin 4).val + (x 0).val),
      fun x => runWord Tb U (128 * g.val + 64 * k.val + 16 * (2 : Fin 4).val + (x 0).val), fun x => runWord Tb U (128 * g.val + 64 * k.val + 16 * (3 : Fin 4).val + (x 0).val)] : Fin 4 → IVec S16 32) c)
      fun x => runOf Tb (drawAt U (128 * g.val + 64 * k.val + 16 * c.val + (x 0).val)) / 16 := by
    intro c x
    match c with
    | 0 => rfl
    | 1 => rfl
    | 2 => rfl
    | 3 => rfl
  generalize (![fun x => drawAt U (128 * g.val + 64 * k.val + 16 * (0 : Fin 4).val + (x 0).val), fun x => drawAt U (128 * g.val + 64 * k.val + 16 * (1 : Fin 4).val + (x 0).val),
      fun x => drawAt U (128 * g.val + 64 * k.val + 16 * (2 : Fin 4).val + (x 0).val), fun x => drawAt U (128 * g.val + 64 * k.val + 16 * (3 : Fin 4).val + (x 0).val)] : Fin 4 → Vec F S16 .f32) = u at hu
  generalize (![fun x => runWord Tb U (128 * g.val + 64 * k.val + 16 * (0 : Fin 4).val + (x 0).val), fun x => runWord Tb U (128 * g.val + 64 * k.val + 16 * (1 : Fin 4).val + (x 0).val),
      fun x => runWord Tb U (128 * g.val + 64 * k.val + 16 * (2 : Fin 4).val + (x 0).val), fun x => runWord Tb U (128 * g.val + 64 * k.val + 16 * (3 : Fin 4).val + (x 0).val)] : Fin 4 → IVec S16 32) = r at hr
  have hs := slot_names k
  have hsl : ∀ (c : Fin 4) (x : S16.Idx), 64 * k.val + 16 * c.val + (x 0).val < 128 := fun c x => by have := lane_lt x; omega
  iapply (wp_steps (R := Holds d i rows qr X) (fun c m => gatherR rows (slot lanes (Scf.iv 0#32 1#32 k) (BitVec.ofNat 32 c.val)) (laneIdx m)) u
    (fun c x m => X (i2 128 128 (64 * k.val + 16 * c.val + (x 0).val) (m % 128))) (fun _ _ _ => True)
    (fun c m M hm _ Q => wp_gatherR (hs c) (hsl c) hm Q) 0 4 (by decide) (fun c => runLo (r c)) (fun c => runHi (r c))
    (fun c x => 16 * (runOf Tb (drawAt U (128 * g.val + 64 * k.val + 16 * c.val + (x 0).val)) / 16))
    (fun c => runLo_names (hr c)) (fun c => runHi_names (hr c)) (fun _ _ _ _ _ => trivial)) $$ Hr
  iintro %p %hp Hr
  have hid : ∀ c : Fin 4, Names (capped (p.2 c)) fun x => slotIdx Tb C U g.val (64 * k.val + 16 * c.val + (x 0).val) := by
    intro c
    have hcap := capped_names (hp c).2 (fun x => by
      have h1 := bsn_lt (fun m => atMost (u c x) (X (i2 128 128 (64 * k.val + 16 * c.val + (x 0).val) (m % 128)))) 4 0 (16 * (runOf Tb (drawAt U (128 * g.val + 64 * k.val + 16 * c.val + (x 0).val)) / 16))
      have h2 := runOf_lt Tb (drawAt U (128 * g.val + 64 * k.val + 16 * c.val + (x 0).val))
      rw [runOf_dvd] at h1
      rw [runOf_dvd]
      omega)
    intro x
    rw [hcap x]
    congr 1
    show min (bsn (fun m => atMost (u c x) (X (i2 128 128 (64 * k.val + 16 * c.val + (x 0).val) (m % 128)))) 4 0
      (16 * (runOf Tb (drawAt U (128 * g.val + 64 * k.val + 16 * c.val + (x 0).val)) / 16)) + 1) 262143 = _
    rw [runOf_dvd, hu c]
    unfold slotIdx idxOf
    dsimp only
    rw [show 128 * g.val + (64 * k.val + 16 * c.val + (x 0).val) = 128 * g.val + 64 * k.val + 16 * c.val + (x 0).val by omega]
    congr 2
    refine bsn_congr 4 0 _ fun m h1 h2 _ => ?_
    congr 1
    rw [hX _ _ (hsl c x) (Nat.mod_lt _ (by decide))]
    unfold rowAt
    have := runOf_dvd Tb (drawAt U (128 * g.val + 64 * k.val + 16 * c.val + (x 0).val))
    rw [show 128 * g.val + (64 * k.val + 16 * c.val + (x 0).val) = 128 * g.val + 64 * k.val + 16 * c.val + (x 0).val by omega]
    rw [show runOf Tb (drawAt U (128 * g.val + 64 * k.val + 16 * c.val + (x 0).val)) / 128 = m / 128 by
      simp only [Nat.add_zero] at h2
      omega]
  have hst := fun (c : Fin 4) (Y' : Vec F S128x18 .f32) (Q : Unit → sProp 𝕄) => wp_stores (d := d) (i := i) (out := out) (b := 64 * k.val + 16 * c.val) (by omega) (hs c) (hid c) 18 0 (by omega) Y' Q
  iapply (hst 0 _) $$ Ho
  iintro Ho
  iapply (hst 1 _) $$ Ho
  iintro Ho
  iapply (hst 2 _) $$ Ho
  iintro Ho
  iapply (hst 3 _) $$ Ho
  iintro Ho
  imodintro
  isplitl [H6]; · iexact H6
  isplitl [H8]; · iexact H8
  isplitl [Hr]; · iexact Hr
  have e : wrote (wrote (wrote (wrote (wrote Y 0 (64 * k.val) (slotIdx Tb C U g.val) 18 0) (64 * k.val + 16 * (0 : Fin 4).val) 16 (slotIdx Tb C U g.val) 18 0)
      (64 * k.val + 16 * (1 : Fin 4).val) 16 (slotIdx Tb C U g.val) 18 0) (64 * k.val + 16 * (2 : Fin 4).val) 16 (slotIdx Tb C U g.val) 18 0)
      (64 * k.val + 16 * (3 : Fin 4).val) 16 (slotIdx Tb C U g.val) 18 0 = wrote Y 0 (64 * (k.val + 1)) (slotIdx Tb C U g.val) 18 0 := by
    rw [show 64 * k.val + 16 * (0 : Fin 4).val = 64 * k.val from rfl, wrote_rows, show 64 * k.val + 16 * (1 : Fin 4).val = 64 * k.val + 16 from rfl, wrote_rows,
      show 64 * k.val + 16 * (2 : Fin 4).val = 64 * k.val + 16 + 16 from rfl, wrote_rows, show 64 * k.val + 16 * (3 : Fin 4).val = 64 * k.val + 16 + 16 + 16 from rfl, wrote_rows]
    rfl
  rw [← e]
  iexact Ho

theorem wp_fine (g : Fin 16) (hX : Gathered Tb C U g.val X) (Y : Vec F S128x18 .f32) (Q : BitVec 32 → sProp 𝕄) :
    iprop(Holds d i arg6 q6 U ∗ Holds d i arg8 q8 (fun j => runWord Tb U (j 0).val) ∗ Holds d i rows qr X ∗ Holds d i out fullShare Y)
      ⊢ iprop((∀ a, Holds d i arg6 q6 U -∗ Holds d i arg8 q8 (fun j => runWord Tb U (j 0).val) -∗ Holds d i rows qr X -∗
          Holds d i out fullShare (fun j => bitOf (slotIdx Tb C U g.val (j 0).val) (j 1).val) -∗ Q a)
        -∗ WP d i (Scf.Loop.for k2_t2_loop k2_t2_ok 0#32 (tripB i arg6 arg8 rows out lanes g)) Q) := by
  iintro ⟨H6, H8, Hr, Ho⟩ Hk
  iapply (Scf.wp_for frame (wpE (defs₀ (F := F)) 𝒱₀ (thr d i) none) Set.univ _ _ _ k2_t2_ok 0#32 (tripB i arg6 arg8 rows out lanes g)
    (fun n _ => FineInv d i arg6 arg8 rows out q6 q8 qr U Tb C X g.val Y (64 * n)) (fun k a => wp_tripB g hX Y k a))
  isplitr [Hk]
  · unfold FineInv
    rw [wrote_none]
    isplitl [H6]; · iexact H6
    isplitl [H8]; · iexact H8
    isplitl [Hr]; · iexact Hr
    iexact Ho
  iintro %a HI
  rw [show Scf.trips _ _ _ = 2 from trips_fine]
  unfold FineInv
  icases HI with ⟨H6, H8, Hr, Ho⟩
  rw [show 64 * 2 = 128 from rfl, wrote_all]
  iapply Hk $$ %a H6 H8 Hr Ho

end Fine

end Cert.KernelIdeal.Search

end
-- ==== Proof.Copies.lean ====
/- The search kernel's copies on a tile: fetches, the gathers of the table's rows, a group's work, and the blocks
   sent out, each with what its buffers read. -/
module

public import proofs.«01_k».proof.Proof.Trips

@[expose] public section

set_option maxRecDepth 16384

noncomputable section

namespace Cert.KernelIdeal.Search

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]
variable [Facts]
open Facts₀ Facts

local notation "𝕄" => MT nD τ sig (HIx 1) (Elt F) ℕ UU ℕ

variable {d : Dev nD} {i : grid2.Coords}

/-! ## Copies in flight, and what is owed -/

/-- A copy in flight on a tile's semaphore, which delivers `R`. -/
abbrev Fl (d : Dev nD) (i : grid2.Coords) (sem : DmaSems sig S_) (N : ℕ) (R : sProp 𝕄) : sProp 𝕄 :=
  Transfers.Flight countersEmb (thr d i) (.dma sem.sem) (default : HIx 1) N R

/-- A tile's semaphore at zero. -/
abbrev Zero (d : Dev nD) (i : grid2.Coords) (sem : DmaSems sig S_) : sProp 𝕄 := semVal (thr d i, SemLoc.dma sem.sem) 0

/-- What the tile owes, its waits recorded since `W`. -/
def Ow (d : Dev nD) (i : grid2.Coords) (O : CellTallies nD τ sig (HIx 1)) (W : Waits sig (HIx 1)) : sProp 𝕄 :=
  iprop(Transfers.MayWaits (thr d i) (none : HIx 1) O ∗ ∃ W', ⌜∀ p ∈ W', p ∈ W ∨ p.2 = none⌝ ∗ owes (thr d i) O W')

section Copy

variable {sp sp' : Space} {s : Shape} {e : EltTy}

omit [FloatOps F] in
theorem holds_pts {m : Memref sig .scVector sp s e} {q : PosShare TreeShare} {X : s.Idx → Elt F e} (G : Buf (Elt F) (m.view.loc (thr d i)))
    (h : m.view.read (Elt F) G = X) : Holds d i m q X ⊢ (m.view.loc (thr d i) ↦[m.view.set]{q} G : sProp 𝕄) := by
  unfold Holds
  iintro ⟨%f, %hf, H⟩
  have e : ∀ j ∈ m.view.set, f j = G j := by
    intro j hj
    obtain ⟨x, -, rfl⟩ := Finset.mem_map.mp hj
    have h1 := congrFun (hf.trans h.symm) x
    rw [View.read_apply, View.read_apply] at h1
    exact (Equiv.cast _).injective h1
  iapply (Entails.of_eq (pointsTo_congr e)) $$ H

theorem wp_dmaH {src : Memref sig .scVector sp s e} {dst : Memref sig .scVector sp' s e} {sem : DmaSems sig S_} {hsrc : src.view.WordExact}
    {hdst : dst.view.WordExact} {hsem : DmaTarget.Typed (nD := nD) (p := (thr d i).2) sp (SemLoc.dma sem.sem) (.here dst)} {α : Type} {k : PUnit → TP F i α} {Q : α → sProp 𝕄}
    {q : PosShare TreeShare} {X : s.Idx → Elt F e} (hpos : 0 < s.numel) :
    iprop(Holds d i src q X ∗ (∃ Y, Holds d i dst fullShare Y) ∗ Zero d i sem)
      ⊢ iprop((Fl d i sem dst.view.dmaCredit iprop(Holds d i dst fullShare X ∗ Holds d i src q X) -∗ WP d i (k ⟨⟩) Q)
          -∗ WP d i (.op (.enqueueDma src (.here dst) (.dma sem.sem) hsrc hdst hsem) k) Q) := by
  unfold Holds
  iintro ⟨⟨%f, %hf, Hs⟩, ⟨%Y, %g, %hg, Hd⟩, Hz⟩ Hk
  iapply (Transfers.wp_dmaLocal countersEmb 𝒱₀ (thr d i) none (src := src) (dst := dst) (via := .same) (Sd := dst.view.set) (default : HIx 1) dst.view.dmaCredit rfl
    (View.dmaCredit_pos _ hpos) (Finset.Subset.refl _)) $$ [Hs Hd Hz]
  · isplitl [Hs]; · iexact Hs
    isplitl [Hd]; · iexact Hd
    iexact Hz
  iintro Hf
  iapply Hk
  iapply (Transfers.Flight_mono countersEmb (thr d i) ?_) $$ Hf
  iintro ⟨Hd, Hs⟩
  isplitl [Hd]
  · iexists _
    isplitr
    rotate_left
    · iexact Hd
    · ipureintro
      rw [View.read_write_univ, ← hf]
  · iexists f
    isplitr; · ipureintro; exact hf
    iexact Hs

theorem wp_waitH {κ' : Kind} {s' : Shape} {e' : EltTy} {sem : DmaSems sig S_} {srcw : Memref sig .scVector sp' s' e'} {dstw : Memref sig κ' sp s e} {hsrc : srcw.view.WordExact}
    {hdst : dstw.view.WordExact} {α : Type} {k : PUnit → TP F i α} {Q : α → sProp 𝕄} {N : ℕ} (hN : dstw.view.dmaCredit = N) {R : sProp 𝕄}
    {O : CellTallies nD τ sig (HIx 1)} {W : Waits sig (HIx 1)} :
    iprop(Fl d i sem N R ∗ Ow d i O W)
      ⊢ iprop((R -∗ Zero d i sem -∗ Ow d i O W -∗ WP d i (k ⟨⟩) Q) -∗ WP d i (.op (.waitDma2 sem.sem srcw dstw hsrc hdst) k) Q) := by
  unfold Ow
  iintro ⟨Hf, #Hmw, %W', %hW', HO⟩ Hk
  iapply (Transfers.wp_waitLocalO countersEmb 𝒱₀ (thr d i) none (default : HIx 1) hN) $$ [Hf HO]
  · isplitl [Hf]; · iexact Hf
    isplitl [HO]; · iexact HO
    iapply (Transfers.MayWaits.elim (SemLoc.dma sem.sem)) $$ Hmw
  iintro ⟨HR, Hz, HO⟩
  iapply Hk $$ HR Hz
  isplitr; · iexact Hmw
  iexists _
  isplitr
  rotate_left
  · iexact HO
  · ipureintro
    intro p hp
    rcases Finset.mem_insert.mp hp with rfl | hp
    · exact .inr rfl
    · exact hW' p hp

end Copy

/-! ## The gathers of rows -/

variable {arg3 : Memref sig .scVector .hbm S2048x128 .f32} {arg5 : Memref sig .scVector .hbm S65536x18 .f32} {arg6 : Memref sig .scVector .vmem S2048 .f32}
  {arg8 arg9 : Memref sig .scVector .vmem S2048 .i32} {q3 q6 q8 : PosShare TreeShare}
  {U : Vec F S2048 .f32} {Tb : Vec F S16384 .f32} {C : Vec F S2048x128 .f32}

/-- The words of the tile's rows of the table. -/
def rowList (Tb : Vec F S16384 .f32) (U : Vec F S2048 .f32) : Vec F S2048 .i32 := fun j => rowWord Tb U (j 0).val
def runList (Tb : Vec F S16384 .f32) (U : Vec F S2048 .f32) : Vec F S2048 .i32 := fun j => runWord Tb U (j 0).val

/-- Some buffer of a tile, whatever it reads. -/
def Any {sp : Space} {s : Shape} {e : EltTy} (d : Dev nD) (i : grid2.Coords) (m : Memref sig .scVector sp s e) : sProp 𝕄 := iprop(∃ X, Holds d i m fullShare X)

/-- A row buffer that holds group `g`'s rows. -/
def HasRows (d : Dev nD) (i : grid2.Coords) (Tb : Vec F S16384 .f32) (C : Vec F S2048x128 .f32) (U : Vec F S2048 .f32) (rows : Memref sig .scVector .vmem S128x128 .f32) (g : Fin 16) : sProp 𝕄 :=
  iprop(∃ X, ⌜Gathered Tb C U g.val X⌝ ∗ Holds d i rows fullShare X)

/-- Group `g`'s rows on their way to `rows`. -/
def InFl (d : Dev nD) (i : grid2.Coords) (Tb : Vec F S16384 .f32) (C : Vec F S2048x128 .f32) (U : Vec F S2048 .f32) (q3 : PosShare TreeShare)
    (arg3 : Memref sig .scVector .hbm S2048x128 .f32) (arg9 : Memref sig .scVector .vmem S2048 .i32) (rows : Memref sig .scVector .vmem S128x128 .f32) (sem : DmaSems sig S_) (g : Fin 16) : sProp 𝕄 :=
  iprop(∃ f : Buf (Elt F) (arg9.view.loc (thr d i)), ⌜arg9.view.read (Elt F) f = rowList Tb U⌝ ∗
    (arg9.view.loc (thr d i) ↦[arg9.view.set \ (listOf arg9 g).view.set]{fullShare} f) ∗
    Fl d i sem rows.view.dmaCredit iprop(HasRows d i Tb C U rows g ∗ Holds d i (table arg3) q3 C ∗ ((listOf arg9 g).view.loc (thr d i) ↦[(listOf arg9 g).view.set]{fullShare} f)))

omit [FloatOps F] in
theorem list_read {g : Fin 16} (f : Buf (Elt F) (arg9.view.loc (thr d i))) (x : S128.Idx) :
    (listOf arg9 g).view.read (Elt F) f x = arg9.view.read (Elt F) f (i1 2048 (128 * g.val + (x 0).val)) := by
  have h : (Rect.unit (s := S2048) ![128 * g.val] S128.size (lists_inb g)).emb x = i1 2048 (128 * g.val + (x 0).val) := by
    apply eq_i1
    rw [Rect.emb_apply]
    show 128 * g.val + 1 * (x 0).val = _
    omega
  rw [← h]; rfl

theorem rowWord_lt (Tb : Vec F S16384 .f32) (U : Vec F S2048 .f32) (s : ℕ) : (rowWord Tb U s).toNat = runOf Tb (drawAt U s) / 128 ∧ runOf Tb (drawAt U s) / 128 < 2048 := by
  have := runOf_lt Tb (drawAt U s)
  refine ⟨toNat_ofNat_lt (by omega), by omega⟩

/-- The rows' credits sum to the buffer's. -/
def RowsCredit (rows : Memref sig .scVector .vmem S128x128 .f32) : Prop :=
  ∑ j, (rows.slice (S128x128.rowRect gathers_S2048x128_S128x128.axis' j) (S128x128.stride_rowRect gathers_S2048x128_S128x128.axis' j)).view.dmaCredit = rows.view.dmaCredit

theorem rowMajor_symm_val (k : Fin S128.numel) : ((S128.rowMajor.symm k) 0).val = k.val := by
  have h : (S128.rowMajor (S128.rowMajor.symm k)).val = k.val := by rw [Equiv.apply_symm_apply]
  rw [← h]
  exact (Shape.rowMajor_val_one _).symm

theorem gathered_payload {g : Fin 16} (f : Buf (Elt F) (arg9.view.loc (thr d i))) (hf : arg9.view.read (Elt F) f = rowList Tb U)
    (hin : ∀ x, ((listOf arg9 g).view.read (Elt F) f x).toNat < S2048x128.size gathers_S2048x128_S128x128.axis) :
    Gathered Tb C U g.val (SparseCore.gatherPayload gathers_S2048x128_S128x128 C (SparseCore.rows ((listOf arg9 g).view.read (Elt F) f) rfl hin)) := by
  intro s l hs hl
  show C _ = C _
  congr 1
  apply eq_i2
  · show ((listOf arg9 g).view.read (Elt F) f (S128.rowMajor.symm _)).toNat = _
    have h0 : (i2 128 128 s l) 0 = (⟨s, hs⟩ : Fin 128) := Fin.ext (Nat.mod_eq_of_lt hs)
    rw [list_read, hf]
    unfold rowList
    rw [rowMajor_symm_val]
    show (rowWord Tb U ((128 * g.val + ((i2 128 128 s l) 0).val) % 2048)).toNat = _
    rw [h0, Nat.mod_eq_of_lt (show 128 * g.val + s < 2048 by omega), (rowWord_lt Tb U _).1]
  · exact (Nat.mod_eq_of_lt hl)

theorem wp_startRows {rows : Memref sig .scVector .vmem S128x128 .f32} {sem : DmaSems sig S_} (hcr : RowsCredit rows) (g : Fin 16) {Q : PUnit → sProp 𝕄} :
    iprop(Holds d i (table arg3) q3 C ∗ Holds d i arg9 fullShare (rowList Tb U) ∗ Any d i rows ∗ Zero d i sem)
      ⊢ iprop((InFl d i Tb C U q3 arg3 arg9 rows sem g -∗ Q ⟨⟩) -∗ WP d i (startRows i arg3 arg9 rows sem g) Q) := by
  unfold Any
  conv => lhs; unfold Holds
  iintro ⟨⟨%f3, %h3, H3⟩, ⟨%f, %hf, H9⟩, ⟨%Y, %fr, %hfr, Hr⟩, Hz⟩ Hk
  have hsub : (listOf arg9 g).view.set ⊆ arg9.view.set := View.set_slice_subset _ _
  have hin : ∀ x, ((listOf arg9 g).view.read (Elt F) f x).toNat < S2048x128.size gathers_S2048x128_S128x128.axis := by
    intro x
    rw [list_read, hf]
    show (rowWord Tb U _).toNat < 2048
    have := rowWord_lt Tb U ((i1 2048 (128 * g.val + (x 0).val)) 0).val
    omega
  ihave Hs := (pointsTo_split_subset hsub).1 $$ H9
  icases Hs with ⟨Hl, Hrest⟩
  rw [show startRows i arg3 arg9 rows sem g = (startRows i arg3 arg9 rows sem g >>= Prog.ret) from (Prog.bind_pure _).symm]
  unfold startRows
  iapply (SparseCore.wp_indirectGatherLocal countersEmb 𝒱₀ (thr d i) none (hg := gathers_S2048x128_S128x128) (hsrc := View.wordExact_bits rfl) (hsp := Or.inl rfl) (hr := by decide) (default : HIx 1) rows.view.dmaCredit hcr (by decide) hin) $$ [H3 Hr Hl Hz]
  · isplitl [H3]; · iexact H3
    isplitl [Hr]; · iexact Hr
    isplitl [Hl]; · iexact Hl
    iexact Hz
  iintro Hf
  simp only [WP, wp_ret]
  imodintro
  iapply Hk
  unfold InFl
  iexists f
  isplitr; · ipureintro; exact hf
  isplitl [Hrest]; · iexact Hrest
  iapply (Transfers.Flight_mono countersEmb (thr d i) ?_) $$ Hf
  unfold HasRows Holds
  iintro ⟨Hr, H3, Hl⟩
  isplitl [Hr]
  · iexists _
    isplitr
    · ipureintro; exact gathered_payload f hf hin
    iexists _
    isplitr
    rotate_left
    · iexact Hr
    · ipureintro
      rw [View.read_write_univ, h3]
  isplitl [H3]
  · iexists f3
    isplitr; · ipureintro; exact h3
    iexact H3
  iexact Hl

theorem waitRows_eq (rows : Memref sig .scVector .vmem S128x128 .f32) (hrows : rows.IsWhole) (sem : DmaSems sig S_) :
    waitRows (F := F) i arg3 rows hrows sem = .op (.waitDma2 sem.sem (table arg3) rows (View.wordExact_bits rfl) hrows.wordExact) Prog.ret := rfl

theorem wp_waitRows {rows : Memref sig .scVector .vmem S128x128 .f32} {hrows : rows.IsWhole} {sem : DmaSems sig S_} {g : Fin 16} {Q : PUnit → sProp 𝕄}
    {O : CellTallies nD τ sig (HIx 1)} {W : Waits sig (HIx 1)} :
    iprop(InFl d i Tb C U q3 arg3 arg9 rows sem g ∗ Ow d i O W)
      ⊢ iprop((HasRows d i Tb C U rows g -∗ Holds d i (table arg3) q3 C -∗ Holds d i arg9 fullShare (rowList Tb U) -∗ Zero d i sem -∗ Ow d i O W -∗ Q ⟨⟩)
          -∗ WP d i (waitRows i arg3 rows hrows sem) Q) := by
  unfold InFl
  iintro ⟨⟨%f, %hf, Hrest, Hf⟩, HO⟩ Hk
  have hsub : (listOf arg9 g).view.set ⊆ arg9.view.set := View.set_slice_subset _ _
  rw [waitRows_eq]
  iapply (wp_waitH (sem := sem) (k := Prog.ret) (srcw := table arg3) (dstw := rows) (N := rows.view.dmaCredit) (hsrc := View.wordExact_bits rfl) (hdst := hrows.wordExact) (hN := rfl)) $$ [Hf HO]
  · isplitl [Hf]; · iexact Hf
    iexact HO
  iintro ⟨Hr, H3, Hl⟩ Hz HO
  simp only [WP, wp_ret]
  imodintro
  iapply Hk $$ Hr H3 [Hl Hrest] Hz HO
  unfold Holds
  iexists f
  isplitr; · ipureintro; exact hf
  iapply (pointsTo_split_subset hsub).2
  isplitl [Hl]; · iexact Hl
  iexact Hrest

end Cert.KernelIdeal.Search

end
-- ==== Proof.BodyEq.lean ====
/- Each loop body the search kernel prints is the one text of `Body`. -/
module

public import proofs.«01_k».proof.Proof.Body

@[expose] public section

set_option maxRecDepth 65536

noncomputable section

namespace Cert.KernelIdeal.Search

open Idealize.ShloMosaic Idealize.SL.Sem
open Cert.KernelIdeal

variable {F : FTy → Type} [FloatOps F]
open Facts₀ Facts

variable (i : grid2.Coords)
  (arg2 : Memref sig .scVector .hbm S16384 .f32) (harg2 : arg2.IsWhole) (arg3 : Memref sig .scVector .hbm S2048x128 .f32) (harg3 : arg3.IsWhole)
  (arg4 : Memref sig .scVector .hbm S65536 .f32) (harg4 : arg4.IsWhole) (arg5 : Memref sig .scVector .hbm S65536x18 .f32) (harg5 : arg5.IsWhole)
  (arg6 : Memref sig .scVector .vmem S2048 .f32) (harg6 : arg6.IsWhole) (arg7 : Memref sig .scVector .vmem S16384 .f32) (harg7 : arg7.IsWhole)
  (arg8 : Memref sig .scVector .vmem S2048 .i32) (harg8 : arg8.IsWhole) (arg9 : Memref sig .scVector .vmem S2048 .i32) (harg9 : arg9.IsWhole)
  (arg10 : Memref sig .scVector .vmem S128x128 .f32) (harg10 : arg10.IsWhole) (arg11 : Memref sig .scVector .vmem S128x128 .f32) (harg11 : arg11.IsWhole)
  (arg12 : Memref sig .scVector .vmem S128x18 .f32) (harg12 : arg12.IsWhole) (arg13 : Memref sig .scVector .vmem S128x18 .f32) (harg13 : arg13.IsWhole)
  (arg14 : DmaSems sig S_) (arg15 : DmaSems sig S_) (arg16 : DmaSems sig S_) (arg17 : DmaSems sig S_) (r0 : DmaSems sig S_) (r1 : DmaSems sig S_)

theorem op_congr {E : Type → Type} {α β : Type} {e e' : E β} {k k' : β → Prog E α} (he : e = e') (h : ∀ v, k v = k' v) : Prog.op e k = Prog.op e' k' := by
  rw [he, funext h]

set_option maxHeartbeats 4000000 in
/-- The coarse loop's body. -/
theorem coarse_eq : Gen.k2_t1_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 = tripA i arg6 arg7 arg8 arg9 := by
  funext k a
  iterate 132
    conv_lhs => whnf
    conv_rhs => whnf
    refine op_congr ?_ ?_
    · rfl
    intro _
  rfl

set_option maxHeartbeats 40000000 in
/-- The fine loops' bodies of groups 0 to 7. -/
theorem fine_eq0 (v2 : BitVec 32) (v3 : IVec S16 32) :
    (Gen.k2_t2_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v3 = tripB i arg6 arg8 arg10 arg12 v3 0) ∧
    (Gen.k2_t3_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg11 arg13 v3 1) ∧
    (Gen.k2_t4_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg10 arg12 v3 2) ∧
    (Gen.k2_t5_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg11 arg13 v3 3) ∧
    (Gen.k2_t6_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg10 arg12 v3 4) ∧
    (Gen.k2_t7_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg11 arg13 v3 5) ∧
    (Gen.k2_t8_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg10 arg12 v3 6) ∧
    (Gen.k2_t9_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg11 arg13 v3 7) := by
  refine ⟨?_, ?_, ?_, ?_, ?_, ?_, ?_, ?_⟩ <;>
  · funext k a
    iterate 256
      conv_lhs => whnf
      conv_rhs => whnf
      refine op_congr ?_ ?_
      · rfl
      intro _
    rfl

set_option maxHeartbeats 40000000 in
/-- The fine loops' bodies of groups 8 to 15. -/
theorem fine_eq1 (v2 : BitVec 32) (v3 : IVec S16 32) :
    (Gen.k2_t10_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg10 arg12 v3 8) ∧
    (Gen.k2_t11_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg11 arg13 v3 9) ∧
    (Gen.k2_t12_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg10 arg12 v3 10) ∧
    (Gen.k2_t13_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg11 arg13 v3 11) ∧
    (Gen.k2_t14_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg10 arg12 v3 12) ∧
    (Gen.k2_t15_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg11 arg13 v3 13) ∧
    (Gen.k2_t16_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3 = tripB i arg6 arg8 arg10 arg12 v3 14) ∧
    (Gen.k2_t17_body (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v3 = tripB i arg6 arg8 arg11 arg13 v3 15) := by
  refine ⟨?_, ?_, ?_, ?_, ?_, ?_, ?_, ?_⟩ <;>
  · funext k a
    iterate 256
      conv_lhs => whnf
      conv_rhs => whnf
      refine op_congr ?_ ?_
      · rfl
      intro _
    rfl

end Cert.KernelIdeal.Search
-- ==== Proof.Whole.lean ====
/- The printed search kernel is the text of `Body`. -/
module

public import proofs.«01_k».proof.Proof.BodyEq

@[expose] public section

set_option maxRecDepth 65536

noncomputable section

namespace Cert.KernelIdeal.Search

open Idealize.ShloMosaic Idealize.SL.Sem
open Cert.KernelIdeal

variable {F : FTy → Type} [FloatOps F]
open Facts₀ Facts

variable (i : grid2.Coords)
  (arg2 : Memref sig .scVector .hbm S16384 .f32) (harg2 : arg2.IsWhole) (arg3 : Memref sig .scVector .hbm S2048x128 .f32) (harg3 : arg3.IsWhole)
  (arg4 : Memref sig .scVector .hbm S65536 .f32) (harg4 : arg4.IsWhole) (arg5 : Memref sig .scVector .hbm S65536x18 .f32) (harg5 : arg5.IsWhole)
  (arg6 : Memref sig .scVector .vmem S2048 .f32) (harg6 : arg6.IsWhole) (arg7 : Memref sig .scVector .vmem S16384 .f32) (harg7 : arg7.IsWhole)
  (arg8 : Memref sig .scVector .vmem S2048 .i32) (harg8 : arg8.IsWhole) (arg9 : Memref sig .scVector .vmem S2048 .i32) (harg9 : arg9.IsWhole)
  (arg10 : Memref sig .scVector .vmem S128x128 .f32) (harg10 : arg10.IsWhole) (arg11 : Memref sig .scVector .vmem S128x128 .f32) (harg11 : arg11.IsWhole)
  (arg12 : Memref sig .scVector .vmem S128x18 .f32) (harg12 : arg12.IsWhole) (arg13 : Memref sig .scVector .vmem S128x18 .f32) (harg13 : arg13.IsWhole)
  (arg14 : DmaSems sig S_) (arg15 : DmaSems sig S_) (arg16 : DmaSems sig S_) (arg17 : DmaSems sig S_) (r0 : DmaSems sig S_) (r1 : DmaSems sig S_)

theorem bind_congr' {E : Type → Type} {α β : Type} {x x' : Prog E α} {f f' : α → Prog E β} (hx : x = x') (h : ∀ v, f v = f' v) : (x >>= f) = (x' >>= f') := by
  rw [hx, funext h]

set_option maxHeartbeats 4000000 in
/-- The printed kernel is the text of `body`. -/
theorem cc2_k_eq : cc2_k (F := F) i arg2 harg2 arg3 harg3 arg4 harg4 arg5 harg5 arg6 harg6 arg7 harg7 arg8 harg8 arg9 harg9 arg10 harg10 arg11 harg11 arg12 harg12 arg13 harg13 arg14 arg15 arg16 arg17 r0 r1 =
    body i arg2 harg2 arg3 arg4 arg5 arg6 harg6 arg7 harg7 arg8 arg9 arg10 harg10 arg11 harg11 arg12 harg12 arg13 harg13 arg14 arg15 arg16 arg17 r0 r1 := by
  have hf := fun v2 v3 => fine_eq0 (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3
  have hg := fun v2 v3 => fine_eq1 (F := F) i arg2 harg2 arg3 harg3 arg4 harg4 arg5 harg5 arg6 harg6 arg7 harg7 arg8 harg8 arg9 harg9 arg10 harg10 arg11 harg11 arg12 harg12 arg13 harg13 arg14 arg15 arg16 arg17 r0 r1 v2 v3
  simp only [forall_and] at hf hg
  obtain ⟨f2, f3, f4, f5, f6, f7, f8, f9⟩ := hf
  obtain ⟨g2, g3, g4, g5, g6, g7, g8, g9⟩ := hg
  have f2' := f2 0#32
  have g9' := g9 0#32
  rw [Gen.cc2_k_eq_skeleton]
  unfold Gen.cc2_k_skel
  rw [Gen.k2_part329_eq_skeleton, Gen.k2_part330_eq_skeleton, Gen.k2_part331_eq_skeleton, Gen.k2_part332_eq_skeleton,
    Gen.k2_part333_eq_skeleton, Gen.k2_part334_eq_skeleton, Gen.k2_part335_eq_skeleton, Gen.k2_part336_eq_skeleton]
  unfold Gen.k2_part329_skel Gen.k2_part330_skel Gen.k2_part331_skel Gen.k2_part332_skel Gen.k2_part333_skel Gen.k2_part334_skel
    Gen.k2_part335_skel Gen.k2_part336_skel
  simp only [coarse_eq, f2', f3, f4, f5, f6, f7, f8, f9, g2, g3, g4, g5, g6, g7, g8, g9', bind_assoc, pure_bind]
  unfold body
  simp only [pairs, work, bind_assoc, pure_bind]
  repeat
    first
      | (refine op_congr ?_ ?_
         · rfl
         intro _)
      | (refine bind_congr' ?_ ?_
         · rfl
         intro _)
  all_goals rfl

end Cert.KernelIdeal.Search
-- ==== Proof.Tile.lean ====
/- The search kernel's body on a tile: the draws and the table fetched, the runs found, then sixteen groups of 128
   draws, each group's rows gathered while the group before it is worked and its block sent out. -/
module

public import proofs.«01_k».proof.Proof.Copies
public import proofs.«01_k».proof.Proof.Whole

@[expose] public section

set_option maxRecDepth 16384

noncomputable section

namespace Cert.KernelIdeal.Search

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]
variable [Facts]
open Facts₀ Facts

local notation "𝕄" => MT nD τ sig (HIx 1) (Elt F) ℕ UU ℕ

variable {d : Dev nD} {i : grid2.Coords}

variable {arg2 : Memref sig .scVector .hbm S16384 .f32} {harg2 : arg2.IsWhole} {arg3 : Memref sig .scVector .hbm S2048x128 .f32}
  {arg4 : Memref sig .scVector .hbm S65536 .f32} {arg5 : Memref sig .scVector .hbm S65536x18 .f32}
  {arg6 : Memref sig .scVector .vmem S2048 .f32} {harg6 : arg6.IsWhole} {arg7 : Memref sig .scVector .vmem S16384 .f32} {harg7 : arg7.IsWhole}
  {arg8 arg9 : Memref sig .scVector .vmem S2048 .i32}
  {arg10 : Memref sig .scVector .vmem S128x128 .f32} {harg10 : arg10.IsWhole} {arg11 : Memref sig .scVector .vmem S128x128 .f32} {harg11 : arg11.IsWhole}
  {arg12 : Memref sig .scVector .vmem S128x18 .f32} {harg12 : arg12.IsWhole} {arg13 : Memref sig .scVector .vmem S128x18 .f32} {harg13 : arg13.IsWhole}
  {arg14 arg15 arg16 arg17 r0 r1 : DmaSems sig S_}
  {q2 q3 q4 : PosShare TreeShare} {U : Vec F S2048 .f32} {Tb : Vec F S16384 .f32} {C : Vec F S2048x128 .f32}
  {O : CellTallies nD τ sig (HIx 1)} {W : Waits sig (HIx 1)}

/-! ## A group's block -/

/-- Group `g`'s block of the result. -/
def bitsOf (Tb : Vec F S16384 .f32) (C : Vec F S2048x128 .f32) (U : Vec F S2048 .f32) (g : Fin 16) : Vec F S128x18 .f32 :=
  fun j => bitOf (slotIdx Tb C U g.val (j 0).val) (j 1).val

/-- Group `g`'s block on its way out of `out`. -/
def OutFl (d : Dev nD) (i : grid2.Coords) (Tb : Vec F S16384 .f32) (C : Vec F S2048x128 .f32) (U : Vec F S2048 .f32)
    (arg5 : Memref sig .scVector .hbm S65536x18 .f32) (out : Memref sig .scVector .vmem S128x18 .f32) (osem : DmaSems sig S_) (g : Fin 16) : sProp 𝕄 :=
  Fl d i osem (blockOf i arg5 g).view.dmaCredit iprop(Holds d i (blockOf i arg5 g) fullShare (bitsOf Tb C U g) ∗ Holds d i out fullShare (bitsOf Tb C U g))

/-- The blocks from `a` on, not yet written. -/
def Up (d : Dev nD) (i : grid2.Coords) (arg5 : Memref sig .scVector .hbm S65536x18 .f32) (a : ℕ) : sProp 𝕄 :=
  bigSep (Finset.univ.filter fun g : Fin 16 => a ≤ g.val) fun g => Any d i (blockOf i arg5 g)

/-- The blocks before `b`, written. -/
def Dn (d : Dev nD) (i : grid2.Coords) (Tb : Vec F S16384 .f32) (C : Vec F S2048x128 .f32) (U : Vec F S2048 .f32)
    (arg5 : Memref sig .scVector .hbm S65536x18 .f32) (b : ℕ) : sProp 𝕄 :=
  bigSep (Finset.univ.filter fun g : Fin 16 => g.val < b) fun g => Holds d i (blockOf i arg5 g) fullShare (bitsOf Tb C U g)

theorem up_take (g : Fin 16) : (Up (F := F) d i arg5 g.val) ⊢ iprop(Any d i (blockOf i arg5 g) ∗ Up d i arg5 (g.val + 1)) := by
  unfold Up
  have e : (Finset.univ.filter fun h : Fin 16 => g.val ≤ h.val) = insert g (Finset.univ.filter fun h : Fin 16 => g.val + 1 ≤ h.val) := by
    ext h
    simp only [Finset.mem_filter, Finset.mem_univ, true_and, Finset.mem_insert, Fin.ext_iff]
    omega
  rw [e, bigSep_insert (by simp)]
  exact Entails.refl _

theorem dn_put (g : Fin 16) : iprop(Holds d i (blockOf i arg5 g) fullShare (bitsOf Tb C U g) ∗ Dn d i Tb C U arg5 g.val) ⊢ Dn d i Tb C U arg5 (g.val + 1) := by
  unfold Dn
  have e : (Finset.univ.filter fun h : Fin 16 => h.val < g.val + 1) = insert g (Finset.univ.filter fun h : Fin 16 => h.val < g.val) := by
    ext h
    simp only [Finset.mem_filter, Finset.mem_univ, true_and, Finset.mem_insert, Fin.ext_iff]
    omega
  rw [e, bigSep_insert (by simp)]
  exact Entails.refl _

theorem up_zero : (Up (F := F) d i arg5 0) = bigSep Finset.univ fun g => Any d i (blockOf i arg5 g) := by
  unfold Up; rw [Finset.filter_true_of_mem fun _ _ => Nat.zero_le _]

theorem dn_all : Dn d i Tb C U arg5 16 = bigSep Finset.univ fun g => Holds d i (blockOf i arg5 g) fullShare (bitsOf Tb C U g) := by
  unfold Dn; rw [Finset.filter_true_of_mem fun g _ => g.isLt]

theorem dn_zero : (iprop(emp) : sProp 𝕄) ⊢ Dn d i Tb C U arg5 0 := by
  unfold Dn
  rw [Finset.filter_false_of_mem fun g _ => Nat.not_lt_zero _, bigSep_empty]
  exact Entails.refl _

/-- The draws and the runs, which every group reads. -/
def Base (d : Dev nD) (i : grid2.Coords) (Tb : Vec F S16384 .f32) (U : Vec F S2048 .f32) (arg6 : Memref sig .scVector .vmem S2048 .f32)
    (arg8 : Memref sig .scVector .vmem S2048 .i32) : sProp 𝕄 := iprop(Holds d i arg6 fullShare U ∗ Holds d i arg8 fullShare (runList Tb U))

theorem wp_work {rows : Memref sig .scVector .vmem S128x128 .f32} {out : Memref sig .scVector .vmem S128x18 .f32} {hout : out.IsWhole} {osem : DmaSems sig S_}
    (g : Fin 16) {Q : PUnit → sProp 𝕄} :
    iprop(Base d i Tb U arg6 arg8 ∗ HasRows d i Tb C U rows g ∗ Any d i out ∗ Up d i arg5 g.val ∗ Zero d i osem)
      ⊢ iprop((Base d i Tb U arg6 arg8 -∗ Any d i rows -∗ OutFl d i Tb C U arg5 out osem g -∗ Up d i arg5 (g.val + 1) -∗ Q ⟨⟩)
          -∗ WP d i (work i arg5 arg6 arg8 rows out hout osem g) Q) := by
  unfold Base HasRows
  iintro ⟨⟨H6, H8⟩, ⟨%X, %hX, Hr⟩, Ho, Hb, Hz⟩ Hk
  ihave Hb' := (up_take g) $$ Hb
  unfold work OutFl
  conv => lhs; unfold Any
  icases Ho with ⟨%Y, Ho⟩
  icases Hb' with ⟨Hb, Hu⟩
  simp only [WP, wp_bind]
  unfold runList
  iapply (wp_fine g hX Y) $$ [H6 H8 Hr Ho]
  · isplitl [H6]; · iexact H6
    isplitl [H8]; · iexact H8
    isplitl [Hr]; · iexact Hr
    iexact Ho
  iintro %a H6 H8 Hr Ho
  iapply (wp_dmaH (k := Prog.ret) (src := out) (dst := blockOf i arg5 g) (sem := osem) (X := bitsOf Tb C U g) (hsrc := hout.wordExact) (hdst := View.wordExact_bits rfl) (hsem := ⟨Or.inl rfl, trivial⟩) (q := fullShare) (by decide)) $$ [Ho Hb Hz]
  · isplitl [Ho]; · iexact Ho
    isplitl [Hb]; · iexact Hb
    iexact Hz
  iintro Hf
  simp only [WP, wp_ret]
  imodintro
  iapply Hk $$ [H6 H8] [Hr] Hf Hu
  · isplitl [H6]; · iexact H6
    iexact H8
  · iexists X; iexact Hr

theorem wp_waitOut {out : Memref sig .scVector .vmem S128x18 .f32} {hout : out.IsWhole} {osem : DmaSems sig S_} (g : Fin 16) {Q : PUnit → sProp 𝕄} :
    iprop(OutFl d i Tb C U arg5 out osem g ∗ Dn d i Tb C U arg5 g.val ∗ Ow d i O W)
      ⊢ iprop((Any d i out -∗ Zero d i osem -∗ Dn d i Tb C U arg5 (g.val + 1) -∗ Ow d i O W -∗ Q ⟨⟩) -∗ WP d i (waitOut i arg5 out hout osem) Q) := by
  unfold OutFl waitOut Any
  iintro ⟨Hf, Hd, HO⟩ Hk
  iapply (wp_waitH (sem := osem) (k := Prog.ret) (srcw := out) (hsrc := hout.wordExact) (hdst := View.wordExact_bits rfl) (hN := rfl)) $$ [Hf HO]
  · isplitl [Hf]; · iexact Hf
    iexact HO
  iintro ⟨Hb, Ho⟩ Hz HO
  simp only [WP, wp_ret]
  imodintro
  iapply Hk $$ [Ho] Hz [Hb Hd] HO
  · iexists _; iexact Ho
  · iapply (dn_put g)
    isplitl [Hb]; · iexact Hb
    iexact Hd

/-! ## A group while the next one's rows are on their way -/

/-- One group in the middle of the run: its rows waited for, the next group's gather started, its staging block waited for,
    and its own work done. -/
theorem wp_half {ra rb : Memref sig .scVector .vmem S128x128 .f32} {hra : ra.IsWhole} {sa sb : DmaSems sig S_} {out : Memref sig .scVector .vmem S128x18 .f32} {hout : out.IsWhole}
    {osem : DmaSems sig S_} (hcr : RowsCredit rb) (g gn gp : Fin 16) {Q : PUnit → sProp 𝕄} :
    iprop(Base d i Tb U arg6 arg8 ∗ InFl d i Tb C U q3 arg3 arg9 ra sa g ∗ Any d i rb ∗ Zero d i sb ∗ OutFl d i Tb C U arg5 out osem gp ∗ Up d i arg5 g.val
        ∗ Dn d i Tb C U arg5 gp.val ∗ Ow d i O W)
      ⊢ iprop((Base d i Tb U arg6 arg8 -∗ InFl d i Tb C U q3 arg3 arg9 rb sb gn -∗ Any d i ra -∗ Zero d i sa -∗ OutFl d i Tb C U arg5 out osem g -∗ Up d i arg5 (g.val + 1)
            -∗ Dn d i Tb C U arg5 (gp.val + 1) -∗ Ow d i O W -∗ Q ⟨⟩)
          -∗ WP d i (waitRows i arg3 ra hra sa) fun _ => WP d i (startRows i arg3 arg9 rb sb gn) fun _ => WP d i (waitOut i arg5 out hout osem) fun _ =>
              WP d i (work i arg5 arg6 arg8 ra out hout osem g) Q) := by
  iintro ⟨HB, Hin, Hb, Hzb, Hout, Hu, Hd, HO⟩ Hk
  iapply wp_waitRows $$ [Hin HO]
  · isplitl [Hin]; · iexact Hin
    iexact HO
  iintro Ha H3 H9 Hza HO
  iapply (wp_startRows hcr gn) $$ [H3 H9 Hb Hzb]
  · isplitl [H3]; · iexact H3
    isplitl [H9]; · iexact H9
    isplitl [Hb]; · iexact Hb
    iexact Hzb
  iintro Hin
  iapply (wp_waitOut gp) $$ [Hout Hd HO]
  · isplitl [Hout]; · iexact Hout
    isplitl [Hd]; · iexact Hd
    iexact HO
  iintro Ho Hzo Hd HO
  iapply (wp_work g) $$ [HB Ha Ho Hu Hzo]
  · isplitl [HB]; · iexact HB
    isplitl [Ha]; · iexact Ha
    isplitl [Ho]; · iexact Ho
    isplitl [Hu]; · iexact Hu
    iexact Hzo
  iintro HB Ha Hout Hu
  iapply Hk $$ HB Hin Ha Hza Hout Hu Hd HO

/-- The groups from `2 p` on: their blocks to come, the two before them on their way. -/
def St (d : Dev nD) (i : grid2.Coords) (Tb : Vec F S16384 .f32) (C : Vec F S2048x128 .f32) (U : Vec F S2048 .f32) (q3 : PosShare TreeShare)
    (arg3 : Memref sig .scVector .hbm S2048x128 .f32) (arg5 : Memref sig .scVector .hbm S65536x18 .f32) (arg6 : Memref sig .scVector .vmem S2048 .f32)
    (arg8 arg9 : Memref sig .scVector .vmem S2048 .i32) (arg10 arg11 : Memref sig .scVector .vmem S128x128 .f32) (arg12 arg13 : Memref sig .scVector .vmem S128x18 .f32)
    (arg14 arg15 arg16 arg17 : DmaSems sig S_) (O : CellTallies nD τ sig (HIx 1)) (W : Waits sig (HIx 1)) (p : ℕ) (h : p < 7) : sProp 𝕄 :=
  iprop(Base d i Tb U arg6 arg8 ∗ InFl d i Tb C U q3 arg3 arg9 arg10 arg14 ⟨2 * p + 2, by omega⟩ ∗ Any d i arg11 ∗ Zero d i arg15
    ∗ OutFl d i Tb C U arg5 arg12 arg16 ⟨2 * p, by omega⟩ ∗ OutFl d i Tb C U arg5 arg13 arg17 ⟨2 * p + 1, by omega⟩ ∗ Up d i arg5 (2 * p + 2) ∗ Dn d i Tb C U arg5 (2 * p) ∗ Ow d i O W)

theorem wp_pairs (hcr10 : RowsCredit arg10) (hcr11 : RowsCredit arg11) (n p : ℕ) (h : n + (p + 1) = 7) {Q : PUnit → sProp 𝕄} :
    St d i Tb C U q3 arg3 arg5 arg6 arg8 arg9 arg10 arg11 arg12 arg13 arg14 arg15 arg16 arg17 O W p (by omega)
      ⊢ iprop((St d i Tb C U q3 arg3 arg5 arg6 arg8 arg9 arg10 arg11 arg12 arg13 arg14 arg15 arg16 arg17 O W 6 (by omega) -∗ Q ⟨⟩)
          -∗ WP d i (pairs i arg3 arg5 arg6 arg8 arg9 arg10 harg10 arg11 harg11 arg12 harg12 arg13 harg13 arg14 arg15 arg16 arg17 n (p + 1) h) Q) := by
  induction n generalizing p with
  | zero =>
    obtain rfl : p = 6 := by omega
    iintro H Hk
    unfold pairs
    simp only [WP, wp_pure]
    imodintro
    iapply Hk $$ H
  | succ n ih =>
    unfold pairs
    iintro HS Hk
    ihave HS' := (Entails.of_eq (St.eq_1 d i Tb C U q3 arg3 arg5 arg6 arg8 arg9 arg10 arg11 arg12 arg13 arg14 arg15 arg16 arg17 O W p _)) $$ HS
    icases HS' with ⟨HB, Hin, H11, Hz15, Ho12, Ho13, Hu, Hd, HO⟩
    simp only [WP, wp_bind]
    iapply (wp_half hcr11 (⟨2 * (p + 1), _⟩ : Fin 16) ⟨2 * (p + 1) + 1, _⟩ ⟨2 * p, _⟩) $$ [HB Hin H11 Hz15 Ho12 Hu Hd HO]
    · isplitl [HB]; · iexact HB
      isplitl [Hin]; · iexact Hin
      isplitl [H11]; · iexact H11
      isplitl [Hz15]; · iexact Hz15
      isplitl [Ho12]; · iexact Ho12
      isplitl [Hu]; · iexact Hu
      isplitl [Hd]; · iexact Hd
      iexact HO
    iintro HB Hin H10 Hz14 Ho12 Hu Hd HO
    iapply (wp_half hcr10 (⟨2 * (p + 1) + 1, _⟩ : Fin 16) ⟨2 * (p + 1) + 2, _⟩ ⟨2 * p + 1, _⟩) $$ [HB Hin H10 Hz14 Ho13 Hu Hd HO]
    · isplitl [HB]; · iexact HB
      isplitl [Hin]; · iexact Hin
      isplitl [H10]; · iexact H10
      isplitl [Hz14]; · iexact Hz14
      isplitl [Ho13]; · iexact Ho13
      isplitl [Hu]; · iexact Hu
      isplitl [Hd]; · iexact Hd
      iexact HO
    iintro HB Hin H11 Hz15 Ho13 Hu Hd HO
    iapply (ih (p + 1) _) $$ [HB Hin H11 Hz15 Ho12 Ho13 Hu Hd HO] Hk
    unfold St
    isplitl [HB]; · iexact HB
    isplitl [Hin]; · iexact Hin
    isplitl [H11]; · iexact H11
    isplitl [Hz15]; · iexact Hz15
    isplitl [Ho12]; · iexact Ho12
    isplitl [Ho13]; · iexact Ho13
    isplitl [Hu]; · iexact Hu
    isplitl [Hd]; · iexact Hd
    iexact HO

/-! ## The whole tile -/

/-- The tile's own draws among all of them. -/
abbrev drawsOf (i : grid2.Coords) (arg4 : Memref sig .scVector .hbm S65536 .f32) : Memref sig .scVector .hbm S2048 .f32 :=
  arg4.slice (Rect.unit (s := S65536) (k2_off1 i) S2048.size (k2_off1_inb i)) (fun _ => rfl)

theorem wp_body (hcr10 : RowsCredit arg10) (hcr11 : RowsCredit arg11) {Q : PUnit → sProp 𝕄} :
    iprop(Holds d i (drawsOf i arg4) q4 U ∗ Holds d i arg2 q2 Tb ∗ Holds d i (table arg3) q3 C ∗ Up d i arg5 0
        ∗ Any d i arg6 ∗ Any d i arg7 ∗ Any d i arg8 ∗ Any d i arg9 ∗ Any d i arg10 ∗ Any d i arg11 ∗ Any d i arg12 ∗ Any d i arg13
        ∗ Zero d i arg14 ∗ Zero d i arg15 ∗ Zero d i arg16 ∗ Zero d i arg17 ∗ Zero d i r0 ∗ Zero d i r1 ∗ Ow d i O W)
      ⊢ iprop((Holds d i (drawsOf i arg4) q4 U -∗ Holds d i arg2 q2 Tb -∗ Holds d i (table arg3) q3 C -∗ Dn d i Tb C U arg5 16
            -∗ Any d i arg6 -∗ Any d i arg7 -∗ Any d i arg8 -∗ Any d i arg9 -∗ Any d i arg10 -∗ Any d i arg11 -∗ Any d i arg12 -∗ Any d i arg13
            -∗ Zero d i arg14 -∗ Zero d i arg15 -∗ Zero d i arg16 -∗ Zero d i arg17 -∗ Zero d i r0 -∗ Zero d i r1 -∗ Ow d i O W -∗ Q ⟨⟩)
          -∗ WP d i (body i arg2 harg2 arg3 arg4 arg5 arg6 harg6 arg7 harg7 arg8 arg9 arg10 harg10 arg11 harg11 arg12 harg12 arg13 harg13 arg14 arg15 arg16 arg17 r0 r1) Q) := by
  iintro ⟨H4, H2, H3, Hu, H6, H7, H8, H9, H10, H11, H12, H13, Hz14, Hz15, Hz16, Hz17, Hz0, Hz1, HO⟩ Hk
  unfold body
  simp only [WP, Prog.bind_lift]
  iapply (wp_dmaH (src := drawsOf i arg4) (dst := arg6) (sem := r0) (X := U) (hsrc := View.wordExact_bits rfl) (hdst := harg6.wordExact) (hsem := ⟨Or.inl rfl, trivial⟩) (q := q4) (by decide)) $$ [H4 H6 Hz0]
  · isplitl [H4]; · iexact H4
    isplitl [H6]; · unfold Any; iexact H6
    iexact Hz0
  iintro Hf
  iapply (wp_waitH (sem := r0) (srcw := drawsOf i arg4) (hsrc := View.wordExact_bits rfl) (hdst := harg6.wordExact) (hN := rfl)) $$ [Hf HO]
  · isplitl [Hf]; · iexact Hf
    iexact HO
  iintro ⟨H6, H4⟩ Hz0 HO
  iapply (wp_dmaH (src := arg2) (dst := arg7) (sem := r1) (X := Tb) (hsrc := harg2.wordExact) (hdst := harg7.wordExact) (hsem := ⟨Or.inl rfl, trivial⟩) (q := q2) (by decide)) $$ [H2 H7 Hz1]
  · isplitl [H2]; · iexact H2
    isplitl [H7]; · unfold Any; iexact H7
    iexact Hz1
  iintro Hf
  iapply (wp_waitH (sem := r1) (srcw := arg2) (hsrc := harg2.wordExact) (hdst := harg7.wordExact) (hN := rfl)) $$ [Hf HO]
  · isplitl [Hf]; · iexact Hf
    iexact HO
  iintro ⟨H7, H2⟩ Hz1 HO
  simp only [wp_bind]
  ihave H8 := (Entails.of_eq (Any.eq_1 d i arg8)) $$ H8
  ihave H9 := (Entails.of_eq (Any.eq_1 d i arg9)) $$ H9
  icases H8 with ⟨%X8, H8⟩
  icases H9 with ⟨%X9, H9⟩
  iapply (wp_coarse (U := U) (Tb := Tb) X8 X9) $$ [H6 H7 H8 H9]
  · unfold CoarseInv
    simp only [filled_none]
    isplitl [H6]; · iexact H6
    isplitl [H7]; · iexact H7
    isplitl [H8]; · iexact H8
    iexact H9
  iintro %a H6 H7 H8 H9
  iapply (wp_startRows hcr10 0) $$ [H3 H9 H10 Hz14]
  · isplitl [H3]; · iexact H3
    isplitl [H9]; · iexact H9
    isplitl [H10]; · iexact H10
    iexact Hz14
  iintro Hin
  ihave HB : Base d i Tb U arg6 arg8 $$ [H6 H8]
  · unfold Base
    isplitl [H6]; · iexact H6
    iexact H8
  -- the first two groups
  iapply wp_waitRows $$ [Hin HO]
  · isplitl [Hin]; · iexact Hin
    iexact HO
  iintro H10 H3 H9 Hz14 HO
  iapply (wp_startRows hcr11 1) $$ [H3 H9 H11 Hz15]
  · isplitl [H3]; · iexact H3
    isplitl [H9]; · iexact H9
    isplitl [H11]; · iexact H11
    iexact Hz15
  iintro Hin
  iapply (wp_work 0) $$ [HB H10 H12 Hu Hz16]
  · isplitl [HB]; · iexact HB
    isplitl [H10]; · iexact H10
    isplitl [H12]; · iexact H12
    isplitl [Hu]; · iexact Hu
    iexact Hz16
  iintro HB H10 Ho12 Hu
  iapply wp_waitRows $$ [Hin HO]
  · isplitl [Hin]; · iexact Hin
    iexact HO
  iintro H11 H3 H9 Hz15 HO
  iapply (wp_startRows hcr10 2) $$ [H3 H9 H10 Hz14]
  · isplitl [H3]; · iexact H3
    isplitl [H9]; · iexact H9
    isplitl [H10]; · iexact H10
    iexact Hz14
  iintro Hin
  iapply (wp_work 1) $$ [HB H11 H13 Hu Hz17]
  · isplitl [HB]; · iexact HB
    isplitl [H11]; · iexact H11
    isplitl [H13]; · iexact H13
    isplitl [Hu]; · iexact Hu
    iexact Hz17
  iintro HB H11 Ho13 Hu
  -- the groups in between
  ihave Hd := (dn_zero (d := d) (i := i) (Tb := Tb) (C := C) (U := U) (arg5 := arg5)) $$ []
  · iempintro
  iapply (wp_pairs hcr10 hcr11 6 0 rfl) $$ [HB Hin H11 Hz15 Ho12 Ho13 Hu Hd HO]
  · unfold St
    isplitl [HB]; · iexact HB
    isplitl [Hin]; · iexact Hin
    isplitl [H11]; · iexact H11
    isplitl [Hz15]; · iexact Hz15
    isplitl [Ho12]; · iexact Ho12
    isplitl [Ho13]; · iexact Ho13
    isplitl [Hu]; · iexact Hu
    isplitl [Hd]; · iexact Hd
    iexact HO
  iintro HS
  ihave HS' := (Entails.of_eq (St.eq_1 d i Tb C U q3 arg3 arg5 arg6 arg8 arg9 arg10 arg11 arg12 arg13 arg14 arg15 arg16 arg17 O W 6 _)) $$ HS
  icases HS' with ⟨HB, Hin, H11, Hz15, Ho12, Ho13, Hu, Hd, HO⟩
  -- the last two groups
  iapply (wp_half hcr11 (14 : Fin 16) 15 12) $$ [HB Hin H11 Hz15 Ho12 Hu Hd HO]
  · isplitl [HB]; · iexact HB
    isplitl [Hin]; · iexact Hin
    isplitl [H11]; · iexact H11
    isplitl [Hz15]; · iexact Hz15
    isplitl [Ho12]; · iexact Ho12
    isplitl [Hu]; · iexact Hu
    isplitl [Hd]; · iexact Hd
    iexact HO
  iintro HB Hin H10 Hz14 Ho12 Hu Hd HO
  iapply wp_waitRows $$ [Hin HO]
  · isplitl [Hin]; · iexact Hin
    iexact HO
  iintro H11 H3 H9 Hz15 HO
  iapply (wp_waitOut 13) $$ [Ho13 Hd HO]
  · isplitl [Ho13]; · iexact Ho13
    isplitl [Hd]; · iexact Hd
    iexact HO
  iintro H13 Hz17 Hd HO
  iapply (wp_work 15) $$ [HB H11 H13 Hu Hz17]
  · isplitl [HB]; · iexact HB
    isplitl [H11]; · iexact H11
    isplitl [H13]; · iexact H13
    isplitl [Hu]; · iexact Hu
    iexact Hz17
  iintro HB H11 Ho13 Hu
  iapply (wp_waitOut 14) $$ [Ho12 Hd HO]
  · isplitl [Ho12]; · iexact Ho12
    isplitl [Hd]; · iexact Hd
    iexact HO
  iintro H12 Hz16 Hd HO
  iapply (wp_waitOut 15) $$ [Ho13 Hd HO]
  · isplitl [Ho13]; · iexact Ho13
    isplitl [Hd]; · iexact Hd
    iexact HO
  iintro H13 Hz17 Hd HO
  ihave HB' := (Entails.of_eq (Base.eq_1 d i Tb U arg6 arg8)) $$ HB
  icases HB' with ⟨H6, H8⟩
  ihave Hd := (Entails.of_eq (show Dn d i Tb C U arg5 ((15 : Fin 16).val + 1) = Dn d i Tb C U arg5 16 from rfl)) $$ Hd
  iapply Hk $$ H4 H2 H3 Hd [H6] [H7] [H8] [H9] H10 H11 H12 H13 Hz14 Hz15 Hz16 Hz17 Hz0 Hz1 HO
  · unfold Any; iexists _; iexact H6
  · unfold Any; iexists _; iexact H7
  · unfold Any; iexists _; iexact H8
  · unfold Any; iexists _; iexact H9

end Cert.KernelIdeal.Search

end
-- ==== Proof.Task.lean ====
/- The search call on one tile: what a tile is handed of the tables, the draws and the result, and what it brings
   back, the result's blocks filled. -/
module

public import proofs.«01_k».proof.Proof.Tile
public import proofs.«01_k».proof.Proof.BodyEq
public import proofs.«01_k».proof.Proof.Whole

@[expose] public section

set_option maxRecDepth 16384

noncomputable section

namespace Cert.KernelIdeal.Search

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]
variable [Facts]
open Facts₀ Facts

local notation "𝕄" => MT nD τ sig (HIx 1) (Elt F) ℕ UU ℕ

/-! ## The call's operands -/

abbrev tV : Memref sig .scVector .hbm S16384 .f32 := Memref.whole main_v3_scv
abbrev cV : Memref sig .scVector .hbm S2048x128 .f32 := Memref.whole main_v2_0_scv
abbrev uV : Memref sig .scVector .hbm S65536 .f32 := Memref.whole main_arg3_scv
abbrev oV : Memref sig .scVector .hbm S65536x18 .f32 := Memref.whole main_v4_scv

abbrev tLoc (d : Dev nD) : Loc nD τ sig := (SparseCore.T d).loc main_v3
abbrev cLoc (d : Dev nD) : Loc nD τ sig := (SparseCore.T d).loc main_v2_0
abbrev uLoc (d : Dev nD) : Loc nD τ sig := (SparseCore.T d).loc main_arg3
abbrev oLoc (d : Dev nD) : Loc nD τ sig := (SparseCore.T d).loc main_v4

/-- The result: each draw's row number, bit by bit. -/
def outOf (Tb : Vec F S16384 .f32) (C : Vec F S2048x128 .f32) (U : Vec F S65536 .f32) : Vec F S65536x18 .f32 :=
  fun j => bitOf (idxOf Tb C (U (i1 65536 (j 0).val))) (j 1).val

/-- The tile's grid point. -/
def coordsV (c : Fin (grid2.bound 0)) (s : Fin (grid2.bound 1)) : grid2.Coords :=
  fun | 0 => c | 1 => s | ⟨_ + 2, h⟩ => absurd h (Nat.not_lt.2 (Nat.le_add_left _ _))

/-- The result's elements group `g` of a tile fills. -/
abbrev blkSet (i : grid2.Coords) (g : Fin 16) : Finset S65536x18.Idx := (blockOf i oV g).view.set

theorem mem_blkSet (i : grid2.Coords) (g : Fin 16) (j : S65536x18.Idx) :
    j ∈ blkSet i g ↔ 4096 * (i 1).val + 2048 * (i 0).val + 128 * g.val ≤ (j 0).val ∧ (j 0).val < 4096 * (i 1).val + 2048 * (i 0).val + 128 * g.val + 128 := by
  have e : blkSet i g = (Rect.unit (s := S65536x18) (k2_off5 i (BitVec.ofNat 32 (128 * g.val))) S128x18.size (k2_off5_inb i g)).set := by
    show ((View.whole (main_v4_scv : Ref sig .scVector)).slice _).set = _
    rw [View.set_slice]; exact Finset.map_refl
  rw [e, Rect.mem_set_unit, Gen.k2_off5_eq]
  constructor
  · intro h; exact h 0
  · intro h a
    match a with
    | 0 => exact h
    | 1 => exact ⟨Nat.zero_le _, by show (j 1).val < 0 + 18; have := (j 1).isLt; change (j 1).val < 18 at this; omega⟩

/-! ## What a tile holds -/

/-- What a tile is handed: the tables and the draws at a share, its blocks of the result. -/
def tileIn (Tb : Vec F S16384 .f32) (C : Vec F S2048x128 .f32) (U : Vec F S65536 .f32) (O : Vec F S65536x18 .f32) (d : Dev nD) (q : PosShare TreeShare) (i : grid2.Coords) : sProp 𝕄 :=
  iprop((tLoc d ↦{q} Tb) ∗ (cLoc d ↦{q} C) ∗ (uLoc d ↦{q} U) ∗ bigSep Finset.univ fun g : Fin 16 => (oLoc d ↦[blkSet i g]{fullShare} O))

section Own

variable (d : Dev nD) (i : grid2.Coords)

/-- A semaphore of the tile. -/
abbrev cellAt (sem : DmaSems sig S_) : GSem nD τ sig := (thr d i, SemLoc.dma sem.sem)

/-- The tile's six semaphores. -/
def cellsOf : Finset (GSem nD τ sig) :=
  {cellAt d i cc2_scratch8, cellAt d i cc2_scratch9, cellAt d i cc2_scratch10, cellAt d i cc2_scratch11, cellAt d i cc2_scoped0, cellAt d i cc2_scoped1}

theorem cellAt_ne {a b : DmaSems sig S_} (h : (a.sem : Fin _) ≠ b.sem) : cellAt d i a ≠ cellAt d i b := fun e =>
  h (SemLoc.dma.inj (congrArg Prod.snd e))

theorem cellsOf_sub : cellsOf d i ⊆ ownCells (thr d i) := by
  intro g hg
  simp only [cellsOf, Finset.mem_insert, Finset.mem_singleton] at hg
  rcases hg with rfl | rfl | rfl | rfl | rfl | rfl <;> exact mem_ownCells.mpr ⟨rfl, rfl⟩

/-- A buffer of the tile. -/
abbrev refAt (b : Ref sig .scVector) : DevRef τ sig := (Proc.scVector ((i 0).castLE hcore2) ((i 1).castLE hsub2)).devRef b

/-- The tile's eight buffers. -/
def refsOf : Finset (DevRef τ sig) :=
  {refAt i cc2_scratch0, refAt i cc2_scratch1, refAt i cc2_scratch2, refAt i cc2_scratch3, refAt i cc2_scratch4, refAt i cc2_scratch5, refAt i cc2_scratch6, refAt i cc2_scratch7}

theorem refAt_ne {a b : Ref sig .scVector} (h : a ≠ b) : refAt i a ≠ refAt i b := fun e => h (Proc.devRef_injective _ e)

theorem refsOf_sub : refsOf i ⊆ ownRefs (τ := τ) (.scVector ((i 0).castLE hcore2) ((i 1).castLE hsub2)) := by
  intro b hb
  simp only [refsOf, Finset.mem_insert, Finset.mem_singleton] at hb
  rcases hb with rfl | rfl | rfl | rfl | rfl | rfl | rfl | rfl <;> exact SparseCore.Cfg.mem_ownRefs_of_owner rfl

omit [FloatOps F] in
theorem sems_split : (ownSems0 (thr d i) : sProp 𝕄) = iprop((Zero d i cc2_scratch8 ∗ Zero d i cc2_scratch9 ∗ Zero d i cc2_scratch10
    ∗ Zero d i cc2_scratch11 ∗ Zero d i cc2_scoped0 ∗ Zero d i cc2_scoped1) ∗ bigSep (ownCells (thr d i) \ cellsOf d i) fun g => semVal g 0) := by
  unfold SparseCore.Cfg.ownSems0
  rw [bigSep_sdiff_split (cellsOf_sub d i)]
  congr 1
  unfold cellsOf
  rw [bigSep_insert, bigSep_insert, bigSep_insert, bigSep_insert, bigSep_insert, bigSep_singleton]
  · rfl
  all_goals
    try simp only [Finset.mem_insert, Finset.mem_singleton, not_or]
    repeat' apply And.intro
    all_goals (refine cellAt_ne d i ?_; decide)

omit [FloatOps F] in
theorem any_whole (b : Ref sig .scVector) : (iprop(∃ f, ((d, refAt i b) : Loc nD τ sig) ↦{fullShare} f) : sProp 𝕄) = Any d i (Memref.whole b) := by
  have hs : (Memref.whole b).view.set = Finset.univ := View.set_whole b
  have e : (Memref.whole b).view.loc (thr d i) = (d, refAt i b) := rfl
  have h1 : (iprop(∃ f, ((d, refAt i b) : Loc nD τ sig) ↦{fullShare} f) : sProp 𝕄) ⊢ Any d i (Memref.whole b) := by
    iintro ⟨%f, H⟩
    unfold Any
    iexists ((Memref.whole b).view.read (Elt F) f)
    iapply (holds_intro (m := Memref.whole b) f rfl)
    rw [hs]; iexact H
  have h2 : (Any d i (Memref.whole b) : sProp 𝕄) ⊢ iprop(∃ f, ((d, refAt i b) : Loc nD τ sig) ↦{fullShare} f) := by
    unfold Any Holds
    iintro ⟨%X, %f, -, H⟩
    iexists f
    rw [hs]; iexact H
  exact BI.Entails.antisymm h1 h2

omit [FloatOps F] in
theorem bufs_split : (ownBufs (thr d i) : sProp 𝕄) = iprop((Any d i (Memref.whole cc2_scratch0) ∗ Any d i (Memref.whole cc2_scratch1) ∗ Any d i (Memref.whole cc2_scratch2)
    ∗ Any d i (Memref.whole cc2_scratch3) ∗ Any d i (Memref.whole cc2_scratch4) ∗ Any d i (Memref.whole cc2_scratch5) ∗ Any d i (Memref.whole cc2_scratch6)
    ∗ Any d i (Memref.whole cc2_scratch7)) ∗ bigSep (ownRefs (τ := τ) (.scVector ((i 0).castLE hcore2) ((i 1).castLE hsub2)) \ refsOf i)
        fun b => iprop(∃ f, ((d, b) : Loc nD τ sig) ↦{fullShare} f)) := by
  unfold SparseCore.Cfg.ownBufs
  refine (bigSep_sdiff_split (refsOf_sub i)).trans ?_
  congr 1
  unfold refsOf
  rw [bigSep_insert, bigSep_insert, bigSep_insert, bigSep_insert, bigSep_insert, bigSep_insert, bigSep_insert, bigSep_singleton]
  · simp only [← any_whole]; rfl
  all_goals
    try simp only [Finset.mem_insert, Finset.mem_singleton, not_or]
    repeat' apply And.intro
    all_goals (refine refAt_ne i ?_; decide)

end Own

section Body

variable {d : Dev nD} {i : grid2.Coords} {q : PosShare TreeShare} {Tb : Vec F S16384 .f32} {C : Vec F S2048x128 .f32} {U : Vec F S65536 .f32}
  {X : Vec F S65536x18 .f32} {O : CellTallies nD τ sig (HIx 1)} {W : Waits sig (HIx 1)}

/-- The tile's draws. -/
abbrev myDraws (i : grid2.Coords) (U : Vec F S65536 .f32) : Vec F S2048 .f32 := (drawsOf i uV).view.read (Elt F) U

theorem drawAt_mine (s : ℕ) (hs : s < 2048) : drawAt (myDraws i U) s = U (i1 65536 (4096 * (i 1).val + 2048 * (i 0).val + s)) := by
  show (drawsOf i uV).view.read (Elt F) U _ = _
  rw [View.read_apply]
  refine congrArg U (eq_i1 _ ?_)
  show (k2_off1 i) 0 + 1 * (i1 2048 s 0).val = _
  rw [Gen.k2_off1_eq]
  show 4096 * (i 1).val + 2048 * (i 0).val + 1 * (s % 2048) = _
  rw [Nat.mod_eq_of_lt hs, Nat.one_mul]

/-- Where the element `j` of a block lies in the result. -/
abbrev blkAt (i : grid2.Coords) (g : Fin 16) (j : S128x18.Idx) : S65536x18.Idx := (blockOf i oV g).view.emb j

/-- A block of the result, as a tile's group fills it. -/
theorem read_block (g : Fin 16) : (blockOf i oV g).view.read (Elt F) (outOf Tb C U) = bitsOf Tb C (myDraws i U) g := by
  funext j
  refine (View.read_apply _ _).trans ((cast_eq _ _).trans ?_)
  have h0 : (j 0).val < 128 := (j 0).isLt
  have hg := g.isLt
  have e0 : (blkAt i g j 0).val = 4096 * (i 1).val + 2048 * (i 0).val + (128 * g.val + (j 0).val) := by
    show (k2_off5 i (BitVec.ofNat 32 (128 * g.val))) 0 + 1 * (j 0).val = _
    rw [Gen.k2_off5_eq]
    show 4096 * (i 1).val + 2048 * (i 0).val + 128 * g.val + 1 * (j 0).val = _
    omega
  have e1 : (blkAt i g j 1).val = (j 1).val := by
    show (k2_off5 i (BitVec.ofNat 32 (128 * g.val))) 1 + 1 * (j 1).val = _
    rw [Gen.k2_off5_eq]
    show 0 + 1 * (j 1).val = _
    omega
  show bitOf (idxOf Tb C (U (i1 65536 (blkAt i g j 0).val))) (blkAt i g j 1).val = bitOf (slotIdx Tb C (myDraws i U) g.val (j 0).val) (j 1).val
  rw [e0, e1, slotIdx, drawAt_mine _ (by omega)]

theorem any_intro (g : Fin 16) : (oLoc d ↦[blkSet i g]{fullShare} X : sProp 𝕄) ⊢ Any d i (blockOf i oV g) := by
  unfold Any
  iintro H
  iexists ((blockOf i oV g).view.read (Elt F) X)
  iapply (holds_intro (m := blockOf i oV g) X rfl)
  iexact H

/-- The search kernel on a tile: its blocks of the result filled, everything else brought back. -/
theorem tile_body (hF : (K (F := F)).Facts) (hO : ∀ g, O g none = 0) :
    iprop(levAts (K (F := F)).L (K (F := F)).lev ∗ emp ∗ tileIn Tb C U X d q i
        ∗ scopedBufs (thr d i) ∗ scopedSems0 (thr d i) ∗ owes (thr d i) O W)
      ⊢ wp frame (wpE (defs₀ (F := F)) 𝒱₀ (thr d i) none) Set.univ
          (cc2_k (F := F) i tV (Memref.isWhole_whole _) cV (Memref.isWhole_whole _) uV (Memref.isWhole_whole _) oV (Memref.isWhole_whole _)
            (Memref.whole cc2_scratch0) (Memref.isWhole_whole _) (Memref.whole cc2_scratch1) (Memref.isWhole_whole _) (Memref.whole cc2_scratch2) (Memref.isWhole_whole _)
            (Memref.whole cc2_scratch3) (Memref.isWhole_whole _) (Memref.whole cc2_scratch4) (Memref.isWhole_whole _) (Memref.whole cc2_scratch5) (Memref.isWhole_whole _)
            (Memref.whole cc2_scratch6) (Memref.isWhole_whole _) (Memref.whole cc2_scratch7) (Memref.isWhole_whole _)
            cc2_scratch8 cc2_scratch9 cc2_scratch10 cc2_scratch11 cc2_scoped0 cc2_scoped1)
          fun _ => iprop(tileIn Tb C U (outOf Tb C U) d q i ∗ scopedBufs (thr d i) ∗ scopedSems0 (thr d i)
            ∗ ∃ W', ⌜∀ p ∈ W', p ∈ W ∨ p.2 = none⌝ ∗ owes (thr d i) O W') := by
  rw [cc2_k_eq, (K (F := F)).scopedBufs_V hF d ((i 0).castLE hcore2) ((i 1).castLE hsub2), SparseCore.Cfg.scopedSems0_V (Val := Elt F) d ((i 0).castLE hcore2) ((i 1).castLE hsub2),
    sems_split, bufs_split]
  unfold tileIn
  iintro ⟨#Hlv, -, ⟨Ht, Hc, Hu, Ho⟩, ⟨⟨H0, H1, H2, H3, H4, H5, H6, H7⟩, Hbufs⟩, ⟨⟨Hz8, Hz9, Hz10, Hz11, Hr0, Hr1⟩, Hsems⟩, HO⟩
  ihave Hmw := (show levAts (K (F := F)).L (K (F := F)).lev ⊢ Transfers.MayWaits (thr d i) (none : HIx 1) O from
    (K (F := F)).mayWaits_none (thr := thr d i) hO) $$ Hlv
  have hts : (tV).view.set = Finset.univ := View.set_whole _
  have hcs : (table cV).view.set = Finset.univ := by
    show ((View.whole (main_v2_0_scv : Ref sig .scVector)).slice _).set = _
    rw [View.set_slice, show (Rect.unit (s := S2048x128) ![0, 0] S2048x128.size inb_S2048x128_S2048x128_0_0).set = Finset.univ from by
      ext j; simp only [Rect.mem_set_unit, Finset.mem_univ, iff_true]
      intro a
      match a with
      | 0 => exact ⟨Nat.zero_le _, by have := (j 0).isLt; show (j 0).val < 0 + 2048; change (j 0).val < 2048 at this; omega⟩
      | 1 => exact ⟨Nat.zero_le _, by have := (j 1).isLt; show (j 1).val < 0 + 128; change (j 1).val < 128 at this; omega⟩]
    exact View.set_whole _
  have hcr : (table cV).view.read (Elt F) C = C := by
    funext j
    refine (View.read_apply _ _).trans ((cast_eq _ _).trans ?_)
    refine congrArg C ((eq_i2 (r := (j 0).val) (c := (j 1).val) _ ?_ ?_).trans (eq_i2 j rfl rfl).symm)
    · show 0 + 1 * (j 0).val = (j 0).val; omega
    · show 0 + 1 * (j 1).val = (j 1).val; omega
  ihave Hu' := (pointsTo_split_subset (q := q) (f := U) (S := Finset.univ) (Finset.subset_univ (drawsOf i uV).view.set)).1 $$ Hu
  icases Hu' with ⟨Hu, Hur⟩
  ihave Hu := (holds_intro (d := d) (i := i) (m := drawsOf i uV) (q := q) U rfl) $$ Hu
  ihave Ht := (show (tLoc d ↦{q} Tb : sProp 𝕄) ⊢ Holds d i tV q Tb from by
    have h := holds_intro (F := F) (d := d) (i := i) (m := tV) (q := q) Tb rfl
    rw [hts] at h; exact h) $$ Ht
  ihave Hc := (show (cLoc d ↦{q} C : sProp 𝕄) ⊢ Holds d i (table cV) q C from by
    have h := holds_intro (F := F) (d := d) (i := i) (m := table cV) (q := q) C hcr
    rw [hcs] at h; exact h) $$ Hc
  ihave Ho := (show (bigSep Finset.univ fun g : Fin 16 => (oLoc d ↦[blkSet i g]{fullShare} X) : sProp 𝕄) ⊢ Up d i oV 0 from by
    rw [up_zero]
    exact bigSep_mono fun g _ => any_intro g) $$ Ho
  iapply (wp_body (F := F) (by unfold RowsCredit; decide) (by unfold RowsCredit; decide)) $$ [Hu Ht Hc Ho H0 H1 H2 H3 H4 H5 H6 H7 Hz8 Hz9 Hz10 Hz11 Hr0 Hr1 HO Hmw]
  · isplitl [Hu]; · iexact Hu
    isplitl [Ht]; · iexact Ht
    isplitl [Hc]; · iexact Hc
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hz8]; · iexact Hz8
    isplitl [Hz9]; · iexact Hz9
    isplitl [Hz10]; · iexact Hz10
    isplitl [Hz11]; · iexact Hz11
    isplitl [Hr0]; · iexact Hr0
    isplitl [Hr1]; · iexact Hr1
    unfold Ow
    isplitl [Hmw]; · iexact Hmw
    iexists W
    isplitr; · ipureintro; exact fun p hp => Or.inl hp
    iexact HO
  iintro Hu Ht Hc Ho H0 H1 H2 H3 H4 H5 H6 H7 Hz8 Hz9 Hz10 Hz11 Hr0 Hr1 HO
  isplitl [Hu Hur Ht Hc Ho]
  · isplitl [Ht]
    · iapply (show Holds d i tV q Tb ⊢ (tLoc d ↦{q} Tb : sProp 𝕄) from by
        have h := holds_pts (F := F) (d := d) (i := i) (m := tV) (q := q) (X := Tb) Tb rfl
        rw [hts] at h; exact h)
      iexact Ht
    isplitl [Hc]
    · iapply (show Holds d i (table cV) q C ⊢ (cLoc d ↦{q} C : sProp 𝕄) from by
        have h := holds_pts (F := F) (d := d) (i := i) (m := table cV) (q := q) (X := C) C hcr
        rw [hcs] at h; exact h)
      iexact Hc
    isplitl [Hu Hur]
    · iapply (pointsTo_split_subset (q := q) (f := U) (S := Finset.univ) (Finset.subset_univ (drawsOf i uV).view.set)).2
      isplitl [Hu]
      · iapply (holds_pts (d := d) (i := i) (m := drawsOf i uV) (q := q) (X := myDraws i U) U rfl)
        iexact Hu
      · iexact Hur
    · iapply (show Dn d i Tb C (myDraws i U) oV 16 ⊢ (bigSep Finset.univ fun g : Fin 16 => (oLoc d ↦[blkSet i g]{fullShare} outOf Tb C U) : sProp 𝕄) from by
        rw [dn_all]
        refine bigSep_mono fun g _ => ?_
        exact holds_pts (d := d) (i := i) (m := blockOf i oV g) (q := fullShare) (X := bitsOf Tb C (myDraws i U) g) (outOf Tb C U) (read_block g))
      iexact Ho
  isplitl [H0 H1 H2 H3 H4 H5 H6 H7 Hbufs]
  · isplitr [Hbufs]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · iexact Hbufs
  isplitl [Hz8 Hz9 Hz10 Hz11 Hr0 Hr1 Hsems]
  · isplitr [Hsems]
    · isplitl [Hz8]; · iexact Hz8
      isplitl [Hz9]; · iexact Hz9
      isplitl [Hz10]; · iexact Hz10
      isplitl [Hz11]; · iexact Hz11
      isplitl [Hr0]; · iexact Hr0
      iexact Hr1
    · iexact Hsems
  ihave HO' := (Entails.of_eq (Ow.eq_1 d i O W)) $$ HO
  icases HO' with ⟨-, HO⟩
  iexact HO

end Body

end Cert.KernelIdeal.Search

end
-- ==== Proof.Launch.lean ====
/- The search call: what it takes and gives back, cut among the thirty-two tiles and joined again. -/
module

public import proofs.«01_k».proof.Proof.Task
public import Idealize.ShloMosaic.Lib.ShareLeaves

@[expose] public section

set_option maxRecDepth 16384

noncomputable section

namespace Cert.KernelIdeal.Search

open Idealize.ShloMosaic
open Idealize.ShloMosaic.SparseCore (S V T)
open Idealize.ShloMosaic.SparseCore.Cfg (HIx Pay)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Cert.KernelIdeal

variable {F : FTy → Type} [FloatOps F]
variable [Facts]
open Facts₀ Facts

local notation "𝕄" => MT nD τ sig (HIx 1) (Elt F) ℕ UU ℕ

theorem nCore_zero : (K (F := F)).nCore 0 = 2 := rfl
theorem nSub_zero : (K (F := F)).nSub 0 = 16 := rfl

/-- A SparseCore's share, and a tile's. -/
abbrev coreShare (c : Fin 2) : PosShare TreeShare := leaf 1 fullShare (Fin.cast (by decide) c)
abbrev tileShare (c : Fin 2) (s : Fin 16) : PosShare TreeShare := leaf 4 (coreShare c) (Fin.cast (by decide) s)

/-- The tile of a SparseCore and a subcore. -/
def tileAt (c : Fin 2) (s : Fin 16) : grid2.Coords := coordsV c s

/-- What a SparseCore is handed: the tables and the draws at its share, its tiles' blocks of the result. -/
def coreIn (Tb : Vec F S16384 .f32) (C : Vec F S2048x128 .f32) (U : Vec F S65536 .f32) (X : Vec F S65536x18 .f32) (d : Dev nD) (c : Fin 2) : sProp 𝕄 :=
  iprop((tLoc d ↦{coreShare c} Tb) ∗ (cLoc d ↦{coreShare c} C) ∗ (uLoc d ↦{coreShare c} U)
    ∗ bigSep Finset.univ fun s : Fin 16 => bigSep Finset.univ fun g : Fin 16 => (oLoc d ↦[blkSet (tileAt c s) g]{fullShare} X))

/-- What the call takes and gives. -/
def callIn (Tb : Vec F S16384 .f32) (C : Vec F S2048x128 .f32) (U : Vec F S65536 .f32) (X : Vec F S65536x18 .f32) (d : Dev nD) : sProp 𝕄 :=
  iprop((tLoc d ↦{fullShare} Tb) ∗ (cLoc d ↦{fullShare} C) ∗ (uLoc d ↦{fullShare} U) ∗ oLoc d ↦{fullShare} X)

variable (Tb : Dev nD → Vec F S16384 .f32) (C : Dev nD → Vec F S2048x128 .f32) (U : Dev nD → Vec F S65536 .f32) (X : Dev nD → Vec F S65536x18 .f32)

/-- The result on a device. -/
abbrev outD (d : Dev nD) : Vec F S65536x18 .f32 := outOf (Tb d) (C d) (U d)

def P : (K (F := F)).Pay (nD := nD) (Val := Elt F) (Name := ℕ) (U := UU) where
  st := fun q d c => match q with | 0 => coreIn (Tb d) (C d) (U d) (X d) d (Fin.cast nCore_zero c)
  dn := fun q d c => match q with | 0 => coreIn (Tb d) (C d) (U d) (outD Tb C U d) d (Fin.cast nCore_zero c)
  go := fun q d c i => match q with
    | 0 => tileIn (Tb d) (C d) (U d) (X d) d (tileShare (Fin.cast nCore_zero c) (Fin.cast nSub_zero i)) (tileAt (Fin.cast nCore_zero c) (Fin.cast nSub_zero i))
  td := fun q d c i => match q with
    | 0 => tileIn (Tb d) (C d) (U d) (outD Tb C U d) d (tileShare (Fin.cast nCore_zero c) (Fin.cast nSub_zero i)) (tileAt (Fin.cast nCore_zero c) (Fin.cast nSub_zero i))
  x := fun _ _ => iprop(emp)

instance coreIn_storable (Tb : Vec F S16384 .f32) (C : Vec F S2048x128 .f32) (U : Vec F S65536 .f32) (X : Vec F S65536x18 .f32) (d : Dev nD) (c : Fin 2) :
    BI.Storable (upEmb : UEmb _ 𝕄) (coreIn Tb C U X d c) := by unfold coreIn; infer_instance

instance tileIn_storable (Tb : Vec F S16384 .f32) (C : Vec F S2048x128 .f32) (U : Vec F S65536 .f32) (X : Vec F S65536x18 .f32) (d : Dev nD) (q : PosShare TreeShare) (i : grid2.Coords) :
    BI.Storable (upEmb : UEmb _ 𝕄) (tileIn Tb C U X d q i) := by unfold tileIn; infer_instance

instance P_storable : (P (F := F) Tb C U X).IsStorable where
  st q d c := match q with | 0 => (inferInstance : BI.Storable (upEmb : UEmb _ 𝕄) (coreIn (Tb d) (C d) (U d) (X d) d (Fin.cast nCore_zero c)))
  dn q d c := match q with | 0 => (inferInstance : BI.Storable (upEmb : UEmb _ 𝕄) (coreIn (Tb d) (C d) (U d) (outD Tb C U d) d (Fin.cast nCore_zero c)))
  go q d c i := match q with
    | 0 => (inferInstance : BI.Storable (upEmb : UEmb _ 𝕄) (tileIn (Tb d) (C d) (U d) (X d) d (tileShare (Fin.cast nCore_zero c) (Fin.cast nSub_zero i)) (tileAt (Fin.cast nCore_zero c) (Fin.cast nSub_zero i))))
  td q d c i := match q with
    | 0 => (inferInstance : BI.Storable (upEmb : UEmb _ 𝕄) (tileIn (Tb d) (C d) (U d) (outD Tb C U d) d (tileShare (Fin.cast nCore_zero c) (Fin.cast nSub_zero i)) (tileAt (Fin.cast nCore_zero c) (Fin.cast nSub_zero i))))

/-! ## The obligation of a tile -/

theorem defs₀_vector (c : Fin τ.nSC) (s : Fin τ.nSub) :
    defs₀ (F := F) (.scVector c s) 2 ()
      = SparseCore.onTile hcore2 hsub2 (fun c s => cc2_k (F := F) (coordsV c s) tV (Memref.isWhole_whole _) cV (Memref.isWhole_whole _) uV (Memref.isWhole_whole _) oV (Memref.isWhole_whole _)
            (Memref.whole cc2_scratch0) (Memref.isWhole_whole _) (Memref.whole cc2_scratch1) (Memref.isWhole_whole _) (Memref.whole cc2_scratch2) (Memref.isWhole_whole _)
            (Memref.whole cc2_scratch3) (Memref.isWhole_whole _) (Memref.whole cc2_scratch4) (Memref.isWhole_whole _) (Memref.whole cc2_scratch5) (Memref.isWhole_whole _)
            (Memref.whole cc2_scratch6) (Memref.isWhole_whole _) (Memref.whole cc2_scratch7) (Memref.isWhole_whole _)
            cc2_scratch8 cc2_scratch9 cc2_scratch10 cc2_scratch11 cc2_scoped0 cc2_scoped1) ⟨⟩ c s := rfl

theorem after_tile {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  iexact HO

theorem tileObl : (K (F := F)).TileObl (D (F := F)) 𝒱 (P Tb C U X) v₀ 0 := by
  intro d c i O W hO _ _
  simp only [show (P Tb C U X).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body (d := d) (i := coordsV ⟨_, hci.1⟩ ⟨_, hci.2⟩) (Tb := Tb d) (C := C d) (U := U d) (X := X d) facts hO).trans (wp_mono frame _ _ fun _ => after_tile)

/-! ## The cut among the tiles -/

theorem core_split (Tb : Vec F S16384 .f32) (C : Vec F S2048x128 .f32) (U : Vec F S65536 .f32) (X : Vec F S65536x18 .f32) (d : Dev nD) (c : Fin 2) :
    (coreIn Tb C U X d c : sProp 𝕄) = bigSep Finset.univ fun s : Fin 16 => tileIn Tb C U X d (tileShare c s) (tileAt c s) := by
  unfold coreIn tileIn
  rw [pointsTo_leaves (ℓ := tLoc d) Finset.univ Tb 4 (coreShare c), pointsTo_leaves (ℓ := cLoc d) Finset.univ C 4 (coreShare c), pointsTo_leaves (ℓ := uLoc d) Finset.univ U 4 (coreShare c)]
  rw [bigSep_sep', bigSep_sep', bigSep_sep']
  rfl

theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem cut_of {A B : sProp 𝕄} {Φ Ψ : Fin 16 → sProp 𝕄} (hA : A = bigSep Finset.univ Φ) (hB : B = bigSep Finset.univ Ψ) :
    A ⊢ |={Set.univ}=> iprop((bigSep Finset.univ fun i : Fin ((K (F := F)).nSub 0) => Φ (Fin.cast nSub_zero i))
      ∗ ((bigSep Finset.univ fun i : Fin ((K (F := F)).nSub 0) => Ψ (Fin.cast nSub_zero i)) -∗ B)) := by
  rw [bigSep_tiles, bigSep_tiles, ← hA, ← hB]
  iintro H; imodintro
  isplitl [H]; · iexact H
  iintro H; iexact H

theorem vecSplit : (K (F := F)).VecSplit' (P Tb C U X) 0 := by
  intro d c
  exact cut_of (core_split (Tb d) (C d) (U d) (X d) d (Fin.cast nCore_zero c)) (core_split (Tb d) (C d) (U d) (outD Tb C U d) d (Fin.cast nCore_zero c))

/-! ## The result's blocks -/

abbrev Blk : Type := Fin 2 × Fin 16 × Fin 16
abbrev blkOf (k : Blk) : Finset S65536x18.Idx := blkSet (tileAt k.1 k.2.1) k.2.2

theorem mem_blkOf (k : Blk) (j : S65536x18.Idx) : j ∈ blkOf k ↔
    4096 * k.2.1.val + 2048 * k.1.val + 128 * k.2.2.val ≤ (j 0).val ∧ (j 0).val < 4096 * k.2.1.val + 2048 * k.1.val + 128 * k.2.2.val + 128 :=
  mem_blkSet _ _ _

theorem blk_disjoint : ∀ k ∈ (Finset.univ : Finset Blk), ∀ k' ∈ (Finset.univ : Finset Blk), k ≠ k' → Disjoint (blkOf k) (blkOf k') := by
  rintro ⟨c, s, g⟩ - ⟨c', s', g'⟩ - h
  rw [Finset.disjoint_left]
  intro j hj hj'
  rw [mem_blkOf] at hj hj'
  dsimp only at hj hj'
  have := c.isLt; have := c'.isLt; have := s.isLt; have := s'.isLt; have := g.isLt; have := g'.isLt
  apply h
  have e1 : c.val = c'.val := by omega
  have e2 : s.val = s'.val := by omega
  have e3 : g.val = g'.val := by omega
  rw [Fin.ext e1, Fin.ext e2, Fin.ext e3]

theorem blk_cover : (Finset.univ : Finset Blk).biUnion blkOf = Finset.univ := by
  ext j
  simp only [Finset.mem_biUnion, Finset.mem_univ, true_and, iff_true]
  have hj : (j 0).val < 65536 := (j 0).isLt
  refine ⟨(⟨(j 0).val / 2048 % 2, by omega⟩, ⟨(j 0).val / 4096, by omega⟩, ⟨(j 0).val / 128 % 16, by omega⟩), ?_⟩
  rw [mem_blkOf]
  dsimp only
  omega

theorem out_blocks (X : Vec F S65536x18 .f32) (d : Dev nD) :
    (oLoc d ↦{fullShare} X : sProp 𝕄) = bigSep Finset.univ fun c : Fin 2 => bigSep Finset.univ fun s : Fin 16 => bigSep Finset.univ fun g : Fin 16 =>
      (oLoc d ↦[blkSet (tileAt c s) g]{fullShare} X) := by
  have h : (oLoc d ↦[(Finset.univ : Finset Blk).biUnion blkOf]{fullShare} X : sProp 𝕄) = bigSep Finset.univ fun k : Blk => (oLoc d ↦[blkOf k]{fullShare} X) :=
    pointsTo_biUnion Finset.univ (ℓ := oLoc d) blkOf blk_disjoint
  rw [blk_cover] at h
  refine h.trans ?_
  rw [bigSep_univ_prod (fun k : Blk => (oLoc d ↦[blkOf k]{fullShare} X : sProp 𝕄))]
  refine bigSep_congr fun c _ => ?_
  rw [bigSep_univ_prod (fun k : Fin 16 × Fin 16 => (oLoc d ↦[blkOf (c, k)]{fullShare} X : sProp 𝕄))]

theorem call_split (Tb : Vec F S16384 .f32) (C : Vec F S2048x128 .f32) (U : Vec F S65536 .f32) (X : Vec F S65536x18 .f32) (d : Dev nD) :
    (callIn Tb C U X d : sProp 𝕄) = bigSep Finset.univ fun c : Fin 2 => coreIn Tb C U X d c := by
  unfold callIn coreIn
  rw [out_blocks, pointsTo_leaves (ℓ := tLoc d) Finset.univ Tb 1 fullShare, pointsTo_leaves (ℓ := cLoc d) Finset.univ C 1 fullShare, pointsTo_leaves (ℓ := uLoc d) Finset.univ U 1 fullShare]
  rw [bigSep_sep', bigSep_sep', bigSep_sep']
  rfl

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem st_eq (d : Dev nD) : (bigSep Finset.univ fun c : Fin ((K (F := F)).nCore 0) => (P Tb C U X).st 0 d c) = callIn (Tb d) (C d) (U d) (X d) d := by
  rw [call_split]; exact bigSep_cores (F := F) fun c => coreIn (Tb d) (C d) (U d) (X d) d c

theorem dn_eq (d : Dev nD) : (bigSep Finset.univ fun c : Fin ((K (F := F)).nCore 0) => (P Tb C U X).dn 0 d c) = callIn (Tb d) (C d) (U d) (outD Tb C U d) d := by
  rw [call_split]; exact bigSep_cores (F := F) fun c => coreIn (Tb d) (C d) (U d) (outD Tb C U d) d c

end Cert.KernelIdeal.Search

end
-- ==== Proof.Run.lean ====
/- The host's program: what every array holds after each of its steps, and the whole run. -/
module

public import proofs.«01_k».proof.Proof.Second
public import proofs.«01_k».proof.Proof.Launch
public import Idealize.ShloMosaic.Lib.SparseCore.Quiescent

@[expose] public section

set_option maxRecDepth 16384

noncomputable section

namespace Cert.KernelIdeal.Search

open Idealize.ShloMosaic Idealize.ShloMosaic.TcCoe
open Idealize.ShloMosaic.SparseCore (S V T)
open Idealize.ShloMosaic.SparseCore.Cfg (HIx Pay)
open Idealize.ShloMosaic.StableHlo (held held_congr wp_hlo_within)
open Idealize.ShloMosaic.Pipeline (Dat Cfg ucRefs unscopedBufs_held sub_ucRefs cellsGhost toksInit)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal Cert.KernelIdeal.Gen

variable {F : FTy → Type} [FloatOps F]

local notation "𝕄" => MT nD τ sig (HIx 1) (Elt F) ℕ UU ℕ

/-! ## What the arrays hold -/

/-- The reshape before the calls, and the one after them. -/
abbrev opIn : HloOp τ sig (Elt F) := StableHlo.reshape main_arg0 main_v0 (rfl : (.f32 : EltTy) = .f32) shapeCasts_S128_S1x128
abbrev opOut : HloOp τ sig (Elt F) := StableHlo.reshape main_v2_1 main_v3 (rfl : (.f32 : EltTy) = .f32) shapeCasts_S8x16x128_S16384

/-- The name of an array on its device. -/
abbrev nm (b : Ref sig .tc) : DevRef τ sig := Proc.devRef .tc b

theorem nm_ne {a b : Ref sig .tc} (h : a ≠ b) : nm a ≠ nm b := fun e => h (Proc.devRef_injective _ e)

section Contents

variable (W : Valuation τ sig (Elt F))

/-- After the first call, -/
def afterFirst : Valuation τ sig (Elt F) := Function.update W (nm main_v1) (logitsOf (W (nm main_arg1)) (W (nm main_v0)))

/-- and after the second. -/
def afterSecond : Valuation τ sig (Elt F) :=
  Function.update (Function.update W (nm main_v2_0) (cdfOf (W (nm main_v1)))) (nm main_v2_1) (tabOf (W (nm main_v1)))

theorem afterFirst_v1 : afterFirst W (nm main_v1) = logitsOf (W (nm main_arg1)) (W (nm main_v0)) := Function.update_self ..
theorem afterFirst_ne {b : Ref sig .tc} (h : b ≠ main_v1) : afterFirst W (nm b) = W (nm b) := Function.update_of_ne (nm_ne h) ..
theorem afterSecond_tab : afterSecond W (nm main_v2_1) = tabOf (W (nm main_v1)) := Function.update_self ..
theorem afterSecond_cdf : afterSecond W (nm main_v2_0) = cdfOf (W (nm main_v1)) :=
  (Function.update_of_ne (nm_ne (by decide)) ..).trans (Function.update_self ..)
theorem afterSecond_ne {b : Ref sig .tc} (h : b ≠ main_v2_0) (h' : b ≠ main_v2_1) : afterSecond W (nm b) = W (nm b) :=
  (Function.update_of_ne (nm_ne h') ..).trans (Function.update_of_ne (nm_ne h) ..)

end Contents

variable (m : (ℓ : Loc nD τ sig) → Buf (Elt F) ℓ)

/-- The contents at the start, and after each step up to the search. -/
def at0 (d : Dev nD) : Valuation τ sig (Elt F) := fun b => m (d, b)
def at1 (d : Dev nD) : Valuation τ sig (Elt F) := opIn.result (at0 m d)
def at2 (d : Dev nD) : Valuation τ sig (Elt F) := afterFirst (at1 m d)
def at3 (d : Dev nD) : Valuation τ sig (Elt F) := afterSecond (at2 m d)
def at4 (d : Dev nD) : Valuation τ sig (Elt F) := opOut.result (at3 m d)

/-- Contents of arrays by device. -/
abbrev byName (W : Dev nD → Valuation τ sig (Elt F)) : Val' (F := F) := fun c b => W c (nm b)

/-- The logits, by the arguments; -/
def logits (d : Dev nD) : Vec F S2048x128 .f32 :=
  logitsOf (m ((SparseCore.T d).loc main_arg1)) (shapeCast S1x128 (m ((SparseCore.T d).loc main_arg0)) shapeCasts_S128_S1x128)

/-- the table the search reads first. -/
def sampled (d : Dev nD) : Vec F S16384 .f32 := shapeCast S16384 (tabOf (logits m d)) shapeCasts_S8x16x128_S16384

theorem at1_eq (d : Dev nD) : opIn.result (at0 m d) = at1 m d := rfl
theorem at4_eq (d : Dev nD) : opOut.result (at3 m d) = at4 m d := rfl
theorem at1_ne (d : Dev nD) {b : Ref sig .tc} (h : b ≠ main_v0) : at1 m d (nm b) = m ((SparseCore.T d).loc b) :=
  StableHlo.reshape_result_ne _ _ _ _ _ _ _ h
theorem at1_v0 (d : Dev nD) : at1 m d (nm main_v0) = shapeCast S1x128 (m ((SparseCore.T d).loc main_arg0)) shapeCasts_S128_S1x128 :=
  StableHlo.reshape_result _ _ _ _ _ _ _
theorem at2_v1 (d : Dev nD) : at2 m d (nm main_v1) = logits m d := by
  unfold at2 logits
  rw [afterFirst_v1, at1_v0, at1_ne m d (by decide)]
theorem at4_kept (d : Dev nD) {b : Ref sig .tc} (h0 : b ≠ main_v0) (h1 : b ≠ main_v1) (h2 : b ≠ main_v2_0) (h3 : b ≠ main_v2_1) (h4 : b ≠ main_v3) :
    at4 m d (nm b) = m ((SparseCore.T d).loc b) := by
  unfold at4 at3 at2
  rw [StableHlo.reshape_result_ne _ _ _ _ _ _ _ h4, afterSecond_ne _ h2 h3, afterFirst_ne _ h1, at1_ne m d h0]
theorem at4_cdf (d : Dev nD) : at4 m d (nm main_v2_0) = cdfOf (logits m d) := by
  unfold at4 at3
  rw [StableHlo.reshape_result_ne _ _ _ _ _ _ _ (by decide), afterSecond_cdf, at2_v1]
theorem at4_v3 (d : Dev nD) : at4 m d (nm main_v3) = sampled m d := by
  unfold at4 at3 sampled
  rw [StableHlo.reshape_result, afterSecond_tab, at2_v1]
  rfl

/-! ## The two calls as steps -/

/-- The proof data: the first call's and the second's. -/
def datas : Dats (F := F)
  | 0 => mvDat (byName (at1 m))
  | 1 => smDat (byName (at2 m))

def first : Pipeline.RegionSeg pcfgs adm (datas m) none (defs₀ (F := F)) 𝒱₀ (K (F := F)).L (K (F := F)).lev 0 :=
  seg (datas m) 0 launch0 (fun _ _ => rfl) (fun _ _ => rfl) (fun _ _ => rfl) (fun _ _ => rfl) (byName (at1 m)) (byName (at2 m))
    (fun _ _ => rfl)
    (fun c w => match w with
      | 0 => (Dat.arrAt_in (mvDat (byName (at1 m)) c) (w := 0) rfl _).trans (afterFirst_ne (at1 m c) (b := main_arg1) (by decide)).symm
      | 1 => (Dat.arrAt_in (mvDat (byName (at1 m)) c) (w := 1) rfl _).trans (afterFirst_ne (at1 m c) (b := main_v0) (by decide)).symm
      | 2 => (mv_out (byName (at1 m)) c).trans (afterFirst_v1 (at1 m c)).symm)
    (fun c b hb => afterFirst_ne (at1 m c) fun h => hb (h ▸ Finset.mem_image_of_mem (Pipeline.arrRef spec0) (Finset.mem_univ (2 : Fin 3))))
    (mv_body (byName (at1 m)))

def second : Pipeline.RegionSeg pcfgs adm (datas m) none (defs₀ (F := F)) 𝒱₀ (K (F := F)).L (K (F := F)).lev 1 :=
  seg (datas m) 1 launch1 (fun _ _ => rfl) (fun _ _ => rfl) (fun _ _ => rfl) (fun _ _ => rfl) (byName (at2 m)) (byName (at3 m))
    (fun _ _ => rfl)
    (fun c w => match w with
      | 0 => (Dat.arrAt_in (smDat (byName (at2 m)) c) (w := 0) rfl _).trans (afterSecond_ne (at2 m c) (b := main_v1) (by decide) (by decide)).symm
      | 1 => (sm_out1 (byName (at2 m)) c).trans (afterSecond_cdf (at2 m c)).symm
      | 2 => (sm_out2 (byName (at2 m)) c).trans (afterSecond_tab (at2 m c)).symm)
    (fun c b hb => afterSecond_ne (at2 m c) (fun h => hb (h ▸ Finset.mem_image_of_mem (Pipeline.arrRef spec1) (Finset.mem_univ (1 : Fin 3))))
      fun h => hb (h ▸ Finset.mem_image_of_mem (Pipeline.arrRef spec1) (Finset.mem_univ (2 : Fin 3))))
    (sm_body (byName (at2 m)))

/-! ## The launch's ghost state -/

/-- The staging cells' rounds, embedded. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- The staging cells' launch element. -/
def stageU : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (stageU (F := F), 1))

/-- What the core gets for call `p`, -/
abbrev ghostAt (p : Fin 2) (d : Dev nD) : sProp 𝕄 :=
  iprop(cellsGhost (Pipeline.pin (pcfgs (F := F)) adm) EP p d ∗ toksInit (Pipeline.pin (pcfgs (F := F)) adm) EP p d)

/-- and for both. -/
def ghosts (d : Dev nD) : sProp 𝕄 := iprop(ghostAt (F := F) 0 d ∗ ghostAt (F := F) 1 d)

theorem ghosts_eq (d : Dev nD) : (ghosts (F := F) d : sProp 𝕄)
    = iprop((bigSep Finset.univ fun p => cellsGhost (Pipeline.pin (pcfgs (F := F)) adm) EP p d)
        ∗ bigSep Finset.univ fun p => toksInit (Pipeline.pin (pcfgs (F := F)) adm) EP p d) := by
  unfold ghosts ghostAt
  rw [← bigSep_sep', bigSep_fin_two]
  rfl

variable (Tb : Dev nD → Vec F S16384 .f32) (C : Dev nD → Vec F S2048x128 .f32) (U : Dev nD → Vec F S65536 .f32) (X : Dev nD → Vec F S65536x18 .f32)

theorem stage_fund : BI.own (((Emb.inl : Emb UP (UP × Counters)).trans embR) (stageU (F := F)) : 𝕄)
    ⊢ iprop(|==> ((bigSep Finset.univ fun d : Dev nD => bigSep Finset.univ fun p => cellsGhost (Pipeline.pin (pcfgs (F := F)) adm) EP p d)
        ∗ bigSep Finset.univ fun d : Dev nD => bigSep Finset.univ fun p => toksInit (Pipeline.pin (pcfgs (F := F)) adm) EP p d)) :=
  Pipeline.fund_ghost (Pipeline.pin (pcfgs (F := F)) adm) EP cellOf_inj

theorem hu₀ : (ownU (u₀ (F := F)) : sProp 𝕄)
    ⊢ |={Set.univ}=> iprop(BI.own (EH (initOf (K (F := F)).hsCells (K (F := F)).hsToks)) ∗ (bigSep Finset.univ fun d : Dev nD => ghosts (F := F) d)
        ∗ bigSep Finset.univ fun thr : Thread nD τ => bigSep Finset.univ fun q : Fin 1 => (P Tb C U X).x q thr) := by
  unfold u₀
  iintro Hu
  ihave H := (ownU_pair (initOf (K (F := F)).hsCells (K (F := F)).hsToks) ((stageU (F := F), 1) : UP × Counters)) $$ Hu
  icases H with ⟨HH, HR⟩
  ihave H := (own_pair_emb (embR : Emb (UP × Counters) 𝕄) (stageU (F := F)) (1 : Counters)) $$ HR
  icases H with ⟨HP, -⟩
  imod (stage_fund (F := F)) $$ HP with ⟨Hg, Ht⟩
  imodintro
  isplitl [HH]; · iexact HH
  isplitl [Hg Ht]
  · rw [show (bigSep Finset.univ fun d : Dev nD => (ghosts (F := F) d : sProp 𝕄)) = _ from bigSep_congr fun d _ => ghosts_eq d, bigSep_sep']
    isplitl [Hg] <;> iassumption
  rw [show (bigSep Finset.univ fun thr : Thread nD τ => bigSep Finset.univ fun q : Fin 1 => (P Tb C U X).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

/-! ## The host's program -/

/-- The arrays of the device one by one. -/
theorem arrays_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1)
      ∗ ((SparseCore.T d).loc main_arg2 ↦{fullShare} W main_arg2) ∗ ((SparseCore.T d).loc main_arg3 ↦{fullShare} W main_arg3)
      ∗ ((SparseCore.T d).loc main_v0 ↦{fullShare} W main_v0) ∗ ((SparseCore.T d).loc main_v1 ↦{fullShare} W main_v1)
      ∗ ((SparseCore.T d).loc main_v2_0 ↦{fullShare} W main_v2_0) ∗ ((SparseCore.T d).loc main_v2_1 ↦{fullShare} W main_v2_1)
      ∗ ((SparseCore.T d).loc main_v3 ↦{fullShare} W main_v3) ∗ (SparseCore.T d).loc main_v4 ↦{fullShare} W main_v4) := by
  unfold unscopedBufs
  rw [show (Finset.univ.filter fun b : Ref sig .tc => ¬ b.isScoped) = {main_arg0, main_arg1, main_arg2, main_arg3, main_v0, main_v1, main_v2_0, main_v2_1, main_v3, main_v4} by decide]
  iterate 9 rw [SparseCore.bigSep_insert' (by decide)]
  rw [bigSep_singleton]

/-- The draws and the result's array as launched. -/
abbrev draws (d : Dev nD) : Vec F S65536 .f32 := m (uLoc d)
abbrev blank (d : Dev nD) : Vec F S65536x18 .f32 := m (oLoc d)

/-- The result. -/
def result (d : Dev nD) : Vec F S65536x18 .f32 := outOf (sampled m d) (cdfOf (logits m d)) (draws m d)

/-- The search's data. -/
abbrev PM : (K (F := F)).Pay (nD := nD) (Val := Elt F) (Name := ℕ) (U := UU) := P (sampled m) (fun d => cdfOf (logits m d)) (draws m) (blank m)

/-- What the core holds at the end. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3))
    ∗ oLoc d ↦{fullShare} result m d)

/-- The arrays before the search: those it takes, the arguments, the rest. -/
theorem before_search (d : Dev nD) : (unscopedBufs d (byName (at4 m) d) : sProp 𝕄)
    ⊢ iprop(callIn (sampled m d) (cdfOf (logits m d)) (draws m d) (blank m d) d
        ∗ ((SparseCore.T d).loc main_arg0 ↦{fullShare} m ((SparseCore.T d).loc main_arg0)) ∗ ((SparseCore.T d).loc main_arg1 ↦{fullShare} m ((SparseCore.T d).loc main_arg1))
        ∗ (SparseCore.T d).loc main_arg2 ↦{fullShare} m ((SparseCore.T d).loc main_arg2)) := by
  rw [arrays_eq]
  unfold callIn byName
  rw [at4_v3, at4_cdf, at4_kept m d (b := main_arg0) (by decide) (by decide) (by decide) (by decide) (by decide),
    at4_kept m d (b := main_arg1) (by decide) (by decide) (by decide) (by decide) (by decide),
    at4_kept m d (b := main_arg2) (by decide) (by decide) (by decide) (by decide) (by decide),
    at4_kept m d (b := main_arg3) (by decide) (by decide) (by decide) (by decide) (by decide),
    at4_kept m d (b := main_v4) (by decide) (by decide) (by decide) (by decide) (by decide)]
  iintro ⟨H0, H1, H2, H3, -, -, Hc, -, Ht, Ho⟩
  isplitl [H3 Hc Ht Ho]
  · isplitl [Ht]; · iexact Ht
    isplitl [Hc]; · iexact Hc
    isplitl [H3]; · iexact H3
    iexact Ho
  isplitl [H0]; · iexact H0
  isplitl [H1] <;> iassumption

/-- All arrays of a device, by device and by core. -/
theorem to_arrays (d : Dev nD) (W : Dev nD → Valuation τ sig (Elt F)) : (held (SparseCore.T d) (ucRefs τ sig) (W d) : sProp 𝕄) ⊢ unscopedBufs d (byName W d) :=
  Entails.of_eq (unscopedBufs_held d (W d)).symm
theorem of_arrays (d : Dev nD) (W : Dev nD → Valuation τ sig (Elt F)) : (unscopedBufs d (byName W d) : sProp 𝕄) ⊢ held (SparseCore.T d) (ucRefs τ sig) (W d) :=
  Entails.of_eq (unscopedBufs_held d (W d))

/-- One of the two calls, run by the host. -/
theorem wp_call (p : Fin 2) (R : Pipeline.RegionSeg pcfgs adm (datas m) none (defs₀ (F := F)) 𝒱₀ (K (F := F)).L (K (F := F)).lev p) [∀ e, Nonempty (Elt F e)]
    (d : Dev nD) (Q : PUnit → sProp 𝕄) :
    iprop((iprop(boundary (SparseCore.T d) ∗ R.post d) -∗ Q ⟨⟩) ∗ boundary (SparseCore.T d) ∗ R.pre d ∗ levAts (K (F := F)).L (K (F := F)).lev ∗ ghostAt (F := F) p d)
      ⊢ wp frame (wpE ((K (F := F)).defs (D (F := F))) 𝒱 (SparseCore.T d) none) Set.univ (Prog.lift (.customCall (SparseCore.inner (Pipeline.entry p)) ())) Q := by
  refine BIBase.Entails.trans ?_ ((K (F := F)).wp_liftProg (D (F := F)) 𝒱 (SparseCore.T d) Set.univ none (.op (.customCall (Pipeline.entry p) ()) .ret) Q)
  refine BIBase.Entails.trans ?_ (Pipeline.RegionSeg.wp pcfgs adm (datas m) none cellOf_inj EP (defs₀ (F := F)) 𝒱₀ _ _ R d none (fun _ h => nomatch h) .ret Q)
  iintro ⟨Hk, Hrest⟩
  isplitl [Hk]
  · iintro H
    rw [wp_ret]
    imodintro
    iapply Hk; iexact H
  iexact Hrest

/-- The core's state for the search call, its debts apart. -/
theorem tcSt_open (d : Dev nD) : ∃ R : sProp 𝕄, (K (F := F)).tcSt EH d 0 = iprop(owing d ∗ R) := by
  unfold SparseCore.Cfg.tcSt owing
  exact ⟨_, rfl⟩

theorem opIn_sub : (opIn (F := F)).bufs ⊆ ucRefs τ sig := sub_ucRefs _ (StableHlo.reshape_bufs_sub _ _ _ _ _ _)
theorem opOut_sub : (opOut (F := F)).bufs ⊆ ucRefs τ sig := sub_ucRefs _ (StableHlo.reshape_bufs_sub _ _ _ _ _ _)

variable (ρ : Dev nD → PrngReg)

theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ ghosts (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_open (F := F) d
  rw [hR]
  unfold SparseCore.Cfg.tcRes SparseCore.Cfg.tcEnd ghosts
  rw [show (unscopedBufs d (fun b => m ((SparseCore.T d).loc b)) : sProp 𝕄) = held (SparseCore.T d) (ucRefs τ sig) (at0 m d) from unscopedBufs_held d (at0 m d)]
  simp only [main, wp_bind, wp_pure]
  iintro ⟨#Hctx, ⟨Howe, HR⟩, ⟨Hb, Hh, Hts, -⟩, Hg0, Hg1⟩
  ihave #Hlev := (SparseCore.Cfg.ctx_levAts κ) $$ Hctx
  iapply (wp_hlo_within 𝒱 (SparseCore.T d) none Set.univ (op := opIn) (S := ucRefs τ sig) opIn_sub (V := at0 m d)) $$ [Hb Hh]
  · isplitl [Hb] <;> iassumption
  iintro ⟨Hb, Hh⟩
  rw [wp_ret, at1_eq]; imodintro
  ihave Hh := (to_arrays d (at1 m)) $$ Hh
  iapply (wp_call m 0 (first m) d _)
  isplitr [Hb Hh Howe Hg0]
  swap
  · isplitl [Hb]; · iexact Hb
    isplitl [Hh Howe]
    · iapply (show iprop(unscopedBufs d (byName (at1 m) d) ∗ owing d) ⊢ (first m).pre d from .rfl)
      isplitl [Hh] <;> iassumption
    isplitr; · iexact Hlev
    iexact Hg0
  iintro ⟨Hb, Hpost⟩
  iapply (wp_call m 1 (second m) d _)
  isplitr [Hb Hpost Hg1]
  swap
  · isplitl [Hb]; · iexact Hb
    isplitl [Hpost]
    · iapply (show (first m).post d ⊢ (second m).pre d from .rfl); iexact Hpost
    isplitr; · iexact Hlev
    iexact Hg1
  iintro ⟨Hb, Hpost⟩
  ihave H := (show (second m).post d ⊢ iprop(unscopedBufs d (byName (at3 m) d) ∗ owing d) from .rfl) $$ Hpost
  icases H with ⟨Hh, Howe⟩
  ihave Hh := (of_arrays d (at3 m)) $$ Hh
  iapply (wp_hlo_within 𝒱 (SparseCore.T d) none Set.univ (op := opOut) (S := ucRefs τ sig) opOut_sub (V := at3 m d)) $$ [Hb Hh]
  · isplitl [Hb] <;> iassumption
  iintro ⟨Hb, Hh⟩
  rw [wp_ret, at4_eq]; imodintro
  ihave Hh := (to_arrays d (at4 m)) $$ Hh
  ihave Hh := (before_search m d) $$ Hh
  icases Hh with ⟨Hin, H0, H1, H2⟩
  iapply ((K (F := F)).wp_run (D (F := F)) 𝒱 (EH := EH) (P := PM m) κ d 0) $$ [Howe HR Hin H0 H1 H2 Hb Hts]
  isplitr; · iexact Hctx
  isplitl [Howe HR]
  · iapply (Entails.of_eq hR.symm); isplitl [Howe] <;> iassumption
  isplitl [Hin]
  · rw [st_eq]; iexact Hin
  iintro ⟨Hst, Hdn⟩
  ihave H := (Entails.of_eq (dn_eq (sampled m) (fun d => cdfOf (logits m d)) (draws m) (blank m) d)) $$ Hdn
  unfold callIn
  icases H with ⟨-, -, H3, Ho⟩
  imodintro
  isplitl [Hst]; · iexact Hst
  isplitr [Hb Hts]
  · isplitl [H0]; · iexact H0
    isplitl [H1]; · iexact H1
    isplitl [H2]; · iexact H2
    isplitl [H3]; · iexact H3
    iexact Ho
  isplitl [Hb] <;> iassumption

/-! ## The run -/

/-- An array a core holds whole is what the memory has there. -/
theorem read_back (ℓ : Loc nD τ sig) (f : Buf (Elt F) ℓ) (s' : Phys nD τ sig (Elt F)) :
    iprop((ℓ ↦{fullShare} f) ∗ SI s') ⊢ iprop(⌜s'.mem.mem ℓ = f⌝ ∗ SI s' : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  iexact HSI

/-- The arguments as they were, the result as computed. -/
def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)
    ∧ s'.mem.mem (oLoc d) = result m d

theorem hfin (d : Dev nD) (s' : Phys nD τ sig (Elt F)) : iprop(FIN m d ∗ SI s') ⊢ (⌜fq m d s'⌝ : sProp 𝕄) := by
  iintro ⟨⟨H0, H1, H2, H3, H4⟩, HSI⟩
  ihave H := (read_back _ _ s') $$ [H0 HSI]
  · isplitl [H0] <;> iassumption
  icases H with ⟨%h0, HSI⟩
  ihave H := (read_back _ _ s') $$ [H1 HSI]
  · isplitl [H1] <;> iassumption
  icases H with ⟨%h1, HSI⟩
  ihave H := (read_back _ _ s') $$ [H2 HSI]
  · isplitl [H2] <;> iassumption
  icases H with ⟨%h2, HSI⟩
  ihave H := (read_back _ _ s') $$ [H3 HSI]
  · isplitl [H3] <;> iassumption
  icases H with ⟨%h3, HSI⟩
  ihave H := (read_back _ _ s') $$ [H4 HSI]
  · isplitl [H4] <;> iassumption
  icases H with ⟨%h4, -⟩
  ipureintro; exact ⟨h0, h1, h2, h3, h4⟩

/-- What a final memory satisfies. -/
def Ends : PUnit × MemSt nD τ sig (Elt F) → Prop := fun r => (∀ c : Dev nD,
    r.2.mem ((SparseCore.T c).loc main_arg0) = m ((SparseCore.T c).loc main_arg0) ∧ r.2.mem ((SparseCore.T c).loc main_arg1) = m ((SparseCore.T c).loc main_arg1)
      ∧ r.2.mem ((SparseCore.T c).loc main_arg2) = m ((SparseCore.T c).loc main_arg2) ∧ r.2.mem ((SparseCore.T c).loc main_arg3) = m ((SparseCore.T c).loc main_arg3)
      ∧ r.2.mem (oLoc c) = result m c) ∧ r.2.sem = fun _ => 0

theorem run_main [∀ e, Nonempty (Elt F e)] :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := PM m) (A := ∅) Search.facts v₀
    (fun q hq => match q with | 0 => nomatch hq)
    (fun q _ => match q with | 0 => tileObl _ _ _ _)
    (fun q _ => match q with | 0 => SparseCore.Cfg.VecSplit.of_plain (vecSplit _ _ _ _))
    m ρ main (fun d => ghosts (F := F) d) (FIN m) (u₀ (F := F)) (sep_elim_left.trans (hu₀ _ _ _ _)) (hmain m ρ) (fq m) (hfin m) (Ends m) (fun _ h hz => ⟨h, hz⟩)

end Cert.KernelIdeal.Search

end
-- ==== Proof.Prob.lean ====
/- The second call's probabilities over the extended reals: each is the exponential of its logit less the largest one,
   over the sum of all of them. -/
module

public import proofs.«01_k».proof.Proof.Scan
public import Idealize.ShloMosaic.Lib.Pointwise
public import Idealize.ShloMosaic.Lib.KernelVsHost

@[expose] public section

set_option maxRecDepth 16384

noncomputable section

namespace Cert.KernelIdeal.Search

open Idealize.ShloMosaic
open Cert.KernelIdeal Cert.KernelIdeal.Gen

/-! ## Sums and suprema over ranges -/

/-- A sum over `a * b` terms is one over `a` blocks of `b`. -/
theorem sum_blocks {M : Type*} [AddCommMonoid M] (a b : ℕ) (f : ℕ → M) :
    ∑ n ∈ Finset.range (a * b), f n = ∑ r ∈ Finset.range a, ∑ c ∈ Finset.range b, f (b * r + c) := by
  induction a with
  | zero => simp
  | succ a ih => rw [Nat.succ_mul, Finset.sum_range_add, ih, Finset.sum_range_succ, Nat.mul_comm a b]

theorem foldTo_sum {g : ℕ → EReal} (n : ℕ) : foldTo (fun a b => a + b) 0 g n = ∑ k ∈ Finset.range n, g k := by
  induction n with
  | zero => rfl
  | succ n ih => rw [Finset.sum_range_succ, foldTo, ih]

theorem foldTo_sup {g : ℕ → EReal} (n : ℕ) : foldTo (fun a b => max a b) ⊥ g n = (Finset.range n).sup g := by
  induction n with
  | zero => rfl
  | succ n ih => rw [Finset.range_add_one, Finset.sup_insert, foldTo, ih, max_comm]

/-- A fold read at a place. -/
theorem foldTo_apply {ι α β : Type} (f : (ι → α) → β → ι → α) (z : ι → α) (g : ℕ → β) (f' : α → α → α) (g' : ℕ → α) (i : ι)
    (h : ∀ a n, f a (g n) i = f' (a i) (g' n)) (n : ℕ) : foldTo f z g n i = foldTo f' (z i) g' n := by
  induction n with
  | zero => rfl
  | succ n ih => rw [foldTo, h, ih, foldTo]

theorem negInf : Ideal.ofBits .f32 0xFF800000#32 = ⊥ := by
  simp [Ideal.ofBits, Ideal.ieee]

/-! ## The payloads at an index -/

theorem pay2_apply (a v : FVec Ideal S8x128 .f32) (x : Fin 8) (y : Fin 128) : k1_pay2 a v (ix2 x y) = max (a (ix2 x y)) (v (ix2 x y)) := by
  pointwise [k1_pay2]
/-- The largest of a block's entries, by what bounds it. -/
theorem pay3_le (v : FVec Ideal S8x128 .f32) (c : EReal) : k1_pay3 v ≤ c ↔ ∀ (x : Fin 8) (y : Fin 128), v (ix2 x y) ≤ c := by
  pointwise [k1_pay3]
  rw [negInf]
  refine (Finset.fold_max_le c).trans ⟨fun h x y => h.2 (x, y) (Finset.mem_univ _), fun h => ⟨bot_le, fun x _ => h x.1 x.2⟩⟩
theorem pay5_apply (p a v : FVec Ideal S8x128 .f32) (x : Fin 8) (y : Fin 128) :
    k1_pay5 p a v (ix2 x y) = a (ix2 x y) + Ideal.exp (v (ix2 x y) - k1_pay3 p) := by
  pointwise [k1_pay5]
theorem pay6_apply (p s v : FVec Ideal S8x128 .f32) (x : Fin 8) (y : Fin 128) :
    k1_pay6 p s v (ix2 x y) = Ideal.div (Ideal.exp (v (ix2 x y) - k1_pay3 p)) (∑ l : Fin 128, ∑ r : Fin 8, s (ix2 r l)) := by
  pointwise [k1_pay6]
  congr 1
  refine Finset.sum_congr rfl fun l _ => ?_
  rw [Fin.sum_univ_eight]
  generalize s (ix2 0 l) = a0, s (ix2 1 l) = a1, s (ix2 2 l) = a2, s (ix2 3 l) = a3, s (ix2 4 l) = a4, s (ix2 5 l) = a5, s (ix2 6 l) = a6, s (ix2 7 l) = a7
  ac_rfl

/-! ## The largest logit, the sum of the exponentials, the probabilities -/

theorem i2_ix {N M : ℕ} [NeZero N] [NeZero M] (r c : ℕ) :
    i2 N M r c = ix2 ⟨r % N, Nat.mod_lt _ (Nat.pos_of_ne_zero (NeZero.ne N))⟩ ⟨c % M, Nat.mod_lt _ (Nat.pos_of_ne_zero (NeZero.ne M))⟩ :=
  funext fun
    | 0 => rfl
    | 1 => rfl

theorem i2_fin {N M : ℕ} [NeZero N] [NeZero M] (x : Fin N) (y : Fin M) : i2 N M x.val y.val = ix2 x y :=
  (eq_i2 (ix2 x y) rfl rfl).symm

/-- Entry `n` of an array of 2048 rows, row by row. -/
def flatAt (L : Vec Ideal S2048x128 .f32) (n : ℕ) : EReal := L (i2 2048 128 (n / 128) (n % 128))

theorem rows8_at (L : Vec Ideal S2048x128 .f32) (k : ℕ) (x : Fin 8) (y : Fin 128) : rows8 L k (ix2 x y) = flatAt L (1024 * k + (128 * x.val + y.val)) := by
  unfold rows8 flatAt
  have := y.isLt
  rw [show (1024 * k + (128 * x.val + y.val)) / 128 = 8 * k + x.val by omega, show (1024 * k + (128 * x.val + y.val)) % 128 = y.val by omega]
  rfl

def peakN (g : ℕ → EReal) : EReal := (Finset.range 262144).sup g
def wgt (g : ℕ → EReal) (n : ℕ) : EReal := Ideal.exp (g n - peakN g)
def prob (g : ℕ → EReal) (n : ℕ) : EReal := Ideal.div (wgt g n) (∑ k ∈ Finset.range 262144, wgt g k)

theorem peakTo_at (L : Vec Ideal S2048x128 .f32) (n : ℕ) (x : Fin 8) (y : Fin 128) :
    peakTo L n (ix2 x y) = (Finset.range n).sup fun k => flatAt L (1024 * k + (128 * x.val + y.val)) := by
  rw [← foldTo_sup]
  have h := foldTo_apply (k1_pay2 (F := Ideal)) k1_pay1 (rows8 L) (fun a b => max a b) (fun k => flatAt L (1024 * k + (128 * x.val + y.val))) (ix2 x y)
    (fun a k => by rw [pay2_apply, rows8_at]) n
  exact h.trans (congrArg (fun z => foldTo _ z _ n) negInf)

theorem peak_eq (L : Vec Ideal S2048x128 .f32) : k1_pay3 (peakTo L 256) = peakN (flatAt L) := by
  refine eq_of_forall_ge_iff fun c => ?_
  rw [pay3_le]
  unfold peakN
  rw [Finset.sup_le_iff]
  refine ⟨fun h n hn => ?_, fun h x y => ?_⟩
  · have hn := Finset.mem_range.1 hn
    have := h ⟨n / 128 % 8, by omega⟩ ⟨n % 128, by omega⟩
    rw [peakTo_at, Finset.sup_le_iff] at this
    have := this (n / 1024) (Finset.mem_range.2 (by omega))
    rwa [show 1024 * (n / 1024) + (128 * (n / 128 % 8) + n % 128) = n by omega] at this
  · rw [peakTo_at, Finset.sup_le_iff]
    intro k hk
    have hk := Finset.mem_range.1 hk
    exact h _ (Finset.mem_range.2 (by omega))

theorem totTo_at (L : Vec Ideal S2048x128 .f32) (n : ℕ) (x : Fin 8) (y : Fin 128) :
    totTo L n (ix2 x y) = ∑ k ∈ Finset.range n, wgt (flatAt L) (1024 * k + (128 * x.val + y.val)) := by
  rw [← foldTo_sum]
  have h := foldTo_apply (k1_pay5 (F := Ideal) (peakTo L 256)) k1_pay4 (rows8 L) (fun a b => a + b) (fun k => wgt (flatAt L) (1024 * k + (128 * x.val + y.val)))
    (ix2 x y) (fun a k => by rw [pay5_apply, rows8_at, peak_eq]; rfl) n
  refine h.trans (congrArg (fun z => foldTo _ z _ n) ?_)
  pointwise [k1_pay4]

theorem tot_eq (L : Vec Ideal S2048x128 .f32) : ∑ l : Fin 128, ∑ r : Fin 8, totTo L 256 (ix2 r l) = ∑ k ∈ Finset.range 262144, wgt (flatAt L) k := by
  rw [show 262144 = 256 * 1024 from rfl, sum_blocks]
  simp only [totTo_at]
  rw [Finset.sum_comm]
  have e : ∀ k, ∑ c ∈ Finset.range 1024, wgt (flatAt L) (1024 * k + c) = ∑ r : Fin 8, ∑ l : Fin 128, wgt (flatAt L) (1024 * k + (128 * r.val + l.val)) := fun k => by
    rw [show 1024 = 8 * 128 from rfl, sum_blocks 8 128 fun c => wgt (flatAt L) (8 * 128 * k + c), Finset.sum_range]
    exact Finset.sum_congr rfl fun r _ => Finset.sum_range _
  simp only [e]
  rw [Finset.sum_comm' (s := Finset.range 256) (t := fun _ => Finset.univ) (t' := Finset.univ) (s' := fun _ => Finset.range 256) (by simp)]
  refine Finset.sum_congr rfl fun r _ => ?_
  rw [Finset.sum_comm]

/-- The probabilities. -/
theorem pdfOf_at (L : Vec Ideal S2048x128 .f32) (n : ℕ) (hn : n < 262144) : flatAt (pdfOf L) n = prob (flatAt L) n := by
  have h0 : (n / 128) % 2048 = n / 128 := by omega
  have h1 : n % 128 % 128 = n % 128 := by omega
  show k1_pay6 _ _ (rows8 L (n / 128 % 2048 / 8)) (i2 8 128 (n / 128 % 2048 % 8) (n % 128 % 128)) = _
  rw [h0, h1]
  have := i2_fin (N := 8) (M := 128) ⟨n / 128 % 8, by omega⟩ ⟨n % 128, by omega⟩
  rw [show i2 8 128 (n / 128 % 8) (n % 128) = _ from this, pay6_apply, rows8_at, peak_eq, tot_eq]
  unfold prob wgt
  rw [show 1024 * (n / 128 / 8) + (128 * (n / 128 % 8) + n % 128) = n by omega]

end Cert.KernelIdeal.Search

end
-- ==== Proof.Incl.lean ====
/- The sums of the rows' totals up to each row, over the extended reals. -/
module

public import proofs.«01_k».proof.Proof.Prob
public import Idealize.ShloMosaic.Lib.Pipeline.Value

@[expose] public section

set_option maxRecDepth 16384

noncomputable section

namespace Cert.KernelIdeal.Search

open Idealize.ShloMosaic
open Cert.KernelIdeal Cert.KernelIdeal.Gen

variable {F : FTy → Type} [FloatOps F]

theorem slices_row (n : ℕ) (h : n < 128) : S128x16.Slices ![n, 0] S1x16 :=
  ⟨rfl, fun a => match a with
    | 0 => show n + 1 ≤ 128 by omega
    | 1 => show 0 + 16 ≤ 16 by omega⟩
theorem slices_place (n : ℕ) (h : n < 16) : S1x16.Slices ![0, n] S1x1 :=
  ⟨rfl, fun a => match a with
    | 0 => show 0 + 1 ≤ 1 by omega
    | 1 => show n + 1 ≤ 16 by omega⟩

/-- The sum of the first rows of an array, and of the first places of a row. -/
def rowScan (v : FVec F S128x16 .f32) : (n : ℕ) → n < 128 → FVec F S1x16 .f32
  | 0, h => addf (broadcast S1x16 (Scalar.ofBits .f32 0x00000000#32)) (extractStridedSlice S1x16 ![0, 0] v (slices_row 0 h))
  | n + 1, h => addf (rowScan v n (by omega)) (extractStridedSlice S1x16 ![n + 1, 0] v (slices_row (n + 1) h))
def placeScan (w : FVec F S1x16 .f32) : (n : ℕ) → n < 16 → FVec F S1x1 .f32
  | 0, _ => broadcast S1x1 (Scalar.ofBits .f32 0x00000000#32)
  | n + 1, h => addf (placeScan w n (by omega)) (extractStridedSlice S1x1 ![0, n] w (slices_place n (by omega)))

theorem rows_fit (f : Fin 128 → FVec F S1x16 .f32) :
    Shape.Concatenates ((List.ofFn fun n => (⟨S1x16, f n⟩ : (s : Shape) × (s.Idx → F .f32))).map (·.1)) S128x16 0 := by
  rw [List.map_ofFn]
  exact (by decide +kernel : Shape.Concatenates (List.ofFn fun _ : Fin 128 => S1x16) S128x16 0)
theorem places_fit (f : Fin 16 → FVec F S1x1 .f32) :
    Shape.Concatenates ((List.ofFn fun n => (⟨S1x1, f n⟩ : (s : Shape) × (s.Idx → F .f32))).map (·.1)) S1x16 1 := by
  rw [List.map_ofFn]
  exact (by decide +kernel : Shape.Concatenates (List.ofFn fun _ : Fin 16 => S1x1) S1x16 1)

theorem inclOf_eq (s : FVec F S16x128 .f32) : inclOf s =
    addf (concatenate S128x16 0 (List.ofFn fun n : Fin 128 => (⟨S1x16, rowScan (k1_pay29 s) n.val n.isLt⟩ : (s : Shape) × (s.Idx → F .f32))) (rows_fit _))
      (broadcastTo S128x16 (shapeCast S1x16 (concatenate S1x16 1
        (List.ofFn fun n : Fin 16 => (⟨S1x1, placeScan (rowScan (k1_pay29 s) 127 (by decide)) n.val n.isLt⟩ : (s : Shape) × (s.Idx → F .f32))) (places_fit _))
          shapeCasts_S1x16_S1x16) broadcasts_S1x16_S128x16) := rfl

theorem i2_lone (n : ℕ) (h : n < 16) : i2 1 16 0 n = ix2 0 ⟨n, h⟩ := (eq_i2 (N := 1) (M := 16) (ix2 0 ⟨n, h⟩) rfl rfl).symm

theorem row_at (v : FVec Ideal S128x16 .f32) (n : ℕ) (h : n < 128) (k : Fin 16) :
    extractStridedSlice S1x16 ![n, 0] v (slices_row n h) (ix2 0 k) = v (i2 128 16 n k.val) := by
  unfold extractStridedSlice
  refine congrArg v (eq_i2 (N := 128) (M := 16) _ ?_ ?_)
  · show n + 0 = n; omega
  · show 0 + k.val = k.val; omega
theorem place_at (w : FVec Ideal S1x16 .f32) (n : ℕ) (h : n < 16) :
    extractStridedSlice S1x1 ![0, n] w (slices_place n h) (ix2 0 0) = w (ix2 0 ⟨n, h⟩) := by
  unfold extractStridedSlice
  refine congrArg w (funext fun a => Fin.ext ?_)
  match a with
  | 0 => rfl
  | 1 => rfl

theorem rowScan_at (v : FVec Ideal S128x16 .f32) (k : Fin 16) (n : ℕ) (h : n < 128) :
    rowScan v n h (ix2 0 k) = ∑ r ∈ Finset.range (n + 1), v (i2 128 16 r k.val) := by
  induction n with
  | zero =>
    rw [rowScan]
    show Ideal.ofBits .f32 0x00000000#32 + extractStridedSlice S1x16 ![0, 0] v (slices_row 0 h) (ix2 0 k) = _
    rw [row_at _ 0 h, Ideal.ofBits_zero_f32]
    simp
  | succ n ih =>
    rw [rowScan, Finset.sum_range_succ, ← ih (by omega), ← row_at v (n + 1) h k]
    rfl

theorem placeScan_at (w : FVec Ideal S1x16 .f32) (n : ℕ) (h : n < 16) :
    placeScan w n h (ix2 0 0) = ∑ k ∈ Finset.range n, w (i2 1 16 0 k) := by
  induction n with
  | zero =>
    rw [placeScan]
    show Ideal.ofBits .f32 0x00000000#32 = _
    rw [Ideal.ofBits_zero_f32]
    simp
  | succ n ih =>
    rw [placeScan, Finset.sum_range_succ, ← ih (by omega), i2_lone n (by omega),
      ← place_at w n (by omega)]
    rfl

theorem pay29_at (s : FVec Ideal S16x128 .f32) (r k : ℕ) : k1_pay29 s (i2 128 16 r k) = s (i2 16 128 k r) := by
  rw [i2_ix, i2_ix]
  pointwise [k1_pay29]

/-- Up to row `r` of block `k`: the totals of the block's rows so far, and of the blocks before it. -/
theorem inclOf_at (s : FVec Ideal S16x128 .f32) (r : Fin 128) (k : Fin 16) :
    inclOf s (ix2 r k) = (∑ j ∈ Finset.range (r.val + 1), s (i2 16 128 k.val j))
      + ∑ k' ∈ Finset.range k.val, ∑ j ∈ Finset.range 128, s (i2 16 128 k' j) := by
  rw [inclOf_eq]
  refine congrArg₂ (fun a b : EReal => a + b) ?_ ?_
  · rw [concatenate_ofFn_unit_apply (s₁ := S1x16) 0 _ (rows_fit _) rfl rfl (ix2 r k) r rfl (ix2 0 k) (fun b hb => by
      match b with
      | 0 => exact absurd rfl hb
      | 1 => rfl), rowScan_at]
    exact Finset.sum_congr rfl fun j _ => pay29_at s j k.val
  · generalize hC : concatenate S1x16 1 _ (places_fit (F := Ideal) _) = C
    have : broadcastTo S128x16 (shapeCast S1x16 C shapeCasts_S1x16_S1x16) broadcasts_S1x16_S128x16 (ix2 r k) = C (ix2 0 k) := by pointwise
    rw [this, ← hC, concatenate_ofFn_unit_apply (s₁ := S1x1) 1 _ (places_fit _) rfl rfl (ix2 0 k) k rfl (ix2 0 0) (fun b hb => by
      match b with
      | 0 => rfl
      | 1 => exact absurd rfl hb), placeScan_at]
    refine Finset.sum_congr rfl fun k' hk' => ?_
    have hk' := Finset.mem_range.1 hk'
    have hk := k.isLt
    rw [i2_lone k' (by omega), rowScan_at]
    exact Finset.sum_congr rfl fun j _ => pay29_at s j k'

end Cert.KernelIdeal.Search

end
-- ==== Proof.Cum.lean ====
/- The running sums of the probabilities, over the extended reals: the table by rows holds at place `n` the sum of the
   first `n + 1` probabilities, and the sampled one those of every sixteenth place. -/
module

public import proofs.«01_k».proof.Proof.Incl
public import proofs.«01_k».proof.Proof.Steps

@[expose] public section

set_option maxRecDepth 16384

noncomputable section

namespace Cert.KernelIdeal.Search

open Idealize.ShloMosaic
open Cert.KernelIdeal Cert.KernelIdeal.Gen

theorem i3_fin {N M P : ℕ} [NeZero N] [NeZero M] [NeZero P] (x : Fin N) (y : Fin M) (z : Fin P) : i3 N M P x.val y.val z.val = ix3 x y z :=
  (eq_i3 (ix3 x y z) rfl rfl rfl).symm

/-! ## The payloads at an index -/

theorem pay7_apply (v : FVec Ideal S128x128 .f32) (l j : Fin 128) : k1_pay7 v (ix3 l 0 j) = v (ix2 j l) := by
  pointwise [k1_pay7]
theorem pay27_apply (a : FVec Ideal S16x128 .f32) (v : Vec Ideal S1x16x128 .f32) (k : Fin 16) (j : Fin 128) :
    k1_pay27 a v (ix2 k j) = a (ix2 k j) + v (ix3 0 k j) := by
  pointwise [k1_pay27]
theorem pay28_apply (a : FVec Ideal S16x128 .f32) (v : Vec Ideal S1x16x128 .f32) (k : Fin 16) (j : Fin 128) :
    k1_pay28 a v (ix3 0 k j) = a (ix2 k j) + v (ix3 0 k j) := by
  pointwise [k1_pay28, k1_pay27]
theorem pay155_apply (v : Vec Ideal S128x1x128 .f32) (r l : Fin 128) : k1_pay155 v (ix2 r l) = v (ix3 l 0 r) := by
  pointwise [k1_pay155]

/-- Each row's sums moved one row on, a block's last going to the next block's first. -/
def shifted (I : FVec Ideal S128x16 .f32) : FVec Ideal S128x16 .f32 :=
  concatenate S128x16 0 [⟨S1x16, concatenate S1x16 1 [⟨S1x1, k1_pay153⟩, ⟨S1x15, extractStridedSlice S1x15 ![127, 0] I slices_S128x16_o127_0_S1x15⟩]
    concatenates_S1x1_S1x15_S1x16_d1⟩, ⟨S127x16, extractStridedSlice S127x16 ![0, 0] I slices_S128x16_o0_0_S127x16⟩] concatenates_S1x16_S127x16_S128x16_d0

theorem pay154_apply (I : FVec Ideal S128x16 .f32) (v : Vec Ideal S1x16x128 .f32) (k : Fin 16) (j : Fin 128) :
    k1_pay154 I k1_pay153 v (ix3 0 k j) = v (ix3 0 k j) + shifted I (ix2 j k) := by
  generalize h : shifted I = S
  unfold k1_pay154
  change shapeCast S1x16x128 (shapeCast S1x16x128 (addf (shapeCast S16x128 v shapeCasts_S1x16x128_S16x128) (transpose S16x128 [1, 0] (shifted I)
    transposes_S128x16_p1_0_S16x128)) shapeCasts_S16x128_S1x16x128) shapeCasts_S1x16x128_S1x16x128 (ix3 0 k j) = _
  rw [h]
  pointwise

theorem shifted_next (I : FVec Ideal S128x16 .f32) (k : Fin 16) (j : ℕ) (h : j + 1 < 128) : shifted I (ix2 ⟨j + 1, h⟩ k) = I (ix2 ⟨j, by omega⟩ k) := by
  unfold shifted
  rw [concatenate_pair_apply_right (t := S128x16) (s₁ := S1x16) (s₂ := S127x16) 0 _ _ _ _ rfl rfl (ix2 ⟨j, by omega⟩ k) (fun b hb => by
    match b with
    | 0 => exact absurd rfl hb
    | 1 => rfl) rfl]
  unfold extractStridedSlice
  refine congrArg I (funext fun a => Fin.ext ?_)
  match a with
  | 0 => exact Nat.zero_add _
  | 1 => exact Nat.zero_add _
theorem shifted_block (I : FVec Ideal S128x16 .f32) (k : ℕ) (h : k + 1 < 16) : shifted I (ix2 0 ⟨k + 1, h⟩) = I (ix2 127 ⟨k, by omega⟩) := by
  unfold shifted
  rw [concatenate_pair_apply_left (t := S128x16) (s₁ := S1x16) (s₂ := S127x16) 0 _ _ _ _ rfl (ix2 0 ⟨k + 1, h⟩) (fun b => by
    match b with
    | 0 => rfl
    | 1 => rfl), concatenate_pair_apply_right (t := S1x16) (s₁ := S1x1) (s₂ := S1x15) 1 _ _ _ _ rfl rfl (ix2 0 ⟨k, by omega⟩) (fun b hb => by
    match b with
    | 0 => rfl
    | 1 => exact absurd rfl hb) rfl]
  unfold extractStridedSlice
  refine congrArg I (funext fun a => Fin.ext ?_)
  match a with
  | 0 => rfl
  | 1 => exact Nat.zero_add _
theorem shifted_zero (I : FVec Ideal S128x16 .f32) : shifted I (ix2 0 0) = 0 := by
  unfold shifted
  rw [concatenate_pair_apply_left (t := S128x16) (s₁ := S1x16) (s₂ := S127x16) 0 _ _ _ _ rfl (ix2 0 0) (fun b => by
    match b with
    | 0 => rfl
    | 1 => rfl), concatenate_pair_apply_left (t := S1x16) (s₁ := S1x1) (s₂ := S1x15) 1 _ _ _ _ rfl (ix2 0 0) (fun b => by
    match b with
    | 0 => rfl
    | 1 => rfl)]
  pointwise [k1_pay153]

/-- What comes before row `j` of block `k`. -/
theorem shifted_incl (s : FVec Ideal S16x128 .f32) (k : Fin 16) (j : Fin 128) : shifted (inclOf s) (ix2 j k) =
    (∑ j' ∈ Finset.range j.val, s (i2 16 128 k.val j')) + ∑ k' ∈ Finset.range k.val, ∑ j' ∈ Finset.range 128, s (i2 16 128 k' j') := by
  obtain ⟨j, hj⟩ := j
  obtain ⟨k, hk⟩ := k
  cases j with
  | succ j => rw [shifted_next, inclOf_at]
  | zero => cases k with
    | zero => exact (shifted_zero _).trans (by simp)
    | succ k =>
      refine (shifted_block _ k hk).trans ?_
      rw [inclOf_at]
      show (∑ j ∈ Finset.range 128, s (i2 16 128 k j)) + ∑ k' ∈ Finset.range k, ∑ j ∈ Finset.range 128, s (i2 16 128 k' j) =
        (∑ j ∈ Finset.range 0, s (i2 16 128 (k + 1) j)) + ∑ k' ∈ Finset.range (k + 1), ∑ j ∈ Finset.range 128, s (i2 16 128 k' j)
      rw [Finset.sum_range_zero, zero_add, Finset.sum_range_succ (fun k' => ∑ j ∈ Finset.range 128, s (i2 16 128 k' j)) k, add_comm]

/-! ## The running sums -/

theorem turnOf_at (p : Vec Ideal S2048x128 .f32) (l : Fin 128) (k : Fin 16) (j : Fin 128) :
    turnOf p (ix3 l k j) = flatAt p (128 * (128 * k.val + j.val) + l.val) := by
  show k1_pay7 (slabAt p k.val) (i3 128 1 128 l.val 0 j.val) = _
  rw [show i3 128 1 128 l.val 0 j.val = ix3 l 0 j from i3_fin l (0 : Fin 1) j, pay7_apply]
  unfold slabAt flatAt
  have := l.isLt
  rw [show (128 * (128 * k.val + j.val) + l.val) / 128 = 128 * k.val + j.val by omega, show (128 * (128 * k.val + j.val) + l.val) % 128 = l.val by omega]
  rfl

theorem rowOf_at (q : Vec Ideal S128x16x128 .f32) (l : ℕ) (k : Fin 16) (j : Fin 128) : rowOf q l (ix3 0 k j) = q (i3 128 16 128 l k.val j.val) := rfl

theorem scanTo_at (q : Vec Ideal S128x16x128 .f32) (n : ℕ) (k : Fin 16) (j : Fin 128) :
    scanTo q n (ix2 k j) = ∑ l ∈ Finset.range n, q (i3 128 16 128 l k.val j.val) := by
  rw [← foldTo_sum]
  have h := foldTo_apply (k1_pay27 (F := Ideal)) k1_pay26 (rowOf q) (fun a b => a + b) (fun l => q (i3 128 16 128 l k.val j.val)) (ix2 k j)
    (fun a l => by rw [pay27_apply, rowOf_at]) n
  refine h.trans (congrArg (fun z => foldTo _ z _ n) ?_)
  pointwise [k1_pay26]

theorem scanOf_at (q : Vec Ideal S128x16x128 .f32) (l : Fin 128) (k : Fin 16) (j : Fin 128) :
    scanOf q (ix3 l k j) = ∑ l' ∈ Finset.range (l.val + 1), q (i3 128 16 128 l' k.val j.val) := by
  show k1_pay28 (scanTo q l.val) (rowOf q l.val) (i3 1 16 128 0 k.val j.val) = _
  rw [show i3 1 16 128 0 k.val j.val = ix3 0 k j from i3_fin (0 : Fin 1) k j, pay28_apply, scanTo_at, Finset.sum_range_succ, rowOf_at]

/-- The sum of the first `n + 1` probabilities. -/
def cum (g : ℕ → EReal) (n : ℕ) : EReal := ∑ k ∈ Finset.range (n + 1), prob g k

theorem turn_prob (L : Vec Ideal S2048x128 .f32) (l k j : ℕ) (hl : l < 128) (hk : k < 16) (hj : j < 128) :
    turnOf (pdfOf L) (i3 128 16 128 l k j) = prob (flatAt L) (128 * (128 * k + j) + l) := by
  rw [show i3 128 16 128 l k j = ix3 ⟨l, hl⟩ ⟨k, hk⟩ ⟨j, hj⟩ from i3_fin (⟨l, hl⟩ : Fin 128) (⟨k, hk⟩ : Fin 16) (⟨j, hj⟩ : Fin 128), turnOf_at]
  exact pdfOf_at L _ (show 128 * (128 * k + j) + l < 262144 by omega)

theorem total_prob (L : Vec Ideal S2048x128 .f32) (k j : ℕ) (hk : k < 16) (hj : j < 128) :
    scanTo (turnOf (pdfOf L)) 128 (i2 16 128 k j) = ∑ l ∈ Finset.range 128, prob (flatAt L) (128 * (128 * k + j) + l) := by
  rw [show i2 16 128 k j = ix2 ⟨k, hk⟩ ⟨j, hj⟩ from i2_fin (⟨k, hk⟩ : Fin 16) (⟨j, hj⟩ : Fin 128), scanTo_at]
  exact Finset.sum_congr rfl fun l hl => turn_prob L l k j (Finset.mem_range.1 hl) hk hj

/-- A sum over whole rows: those of the blocks before, then those of the block before. -/
theorem sum_rows (f : ℕ → EReal) (k j : ℕ) : ∑ n ∈ Finset.range (128 * (128 * k + j)), f n =
    (∑ j' ∈ Finset.range j, ∑ l ∈ Finset.range 128, f (128 * (128 * k + j') + l))
      + ∑ k' ∈ Finset.range k, ∑ j' ∈ Finset.range 128, ∑ l ∈ Finset.range 128, f (128 * (128 * k' + j') + l) := by
  rw [Nat.mul_comm 128 (128 * k + j), sum_blocks (128 * k + j) 128, Finset.sum_range_add, add_comm, Nat.mul_comm 128 k, sum_blocks k 128]

theorem cumOf_at (L : Vec Ideal S2048x128 .f32) (l : Fin 128) (k : Fin 16) (j : Fin 128) :
    cumOf L (ix3 l k j) = cum (flatAt L) (128 * (128 * k.val + j.val) + l.val) := by
  have hl := l.isLt
  have hk := k.isLt
  have hj := j.isLt
  show k1_pay154 (inclOf _) k1_pay153 (rowOf (scanOf (turnOf (pdfOf L))) l.val) (i3 1 16 128 0 k.val j.val) = _
  rw [show i3 1 16 128 0 k.val j.val = ix3 0 k j from i3_fin (0 : Fin 1) k j, pay154_apply, shifted_incl, rowOf_at, i3_fin, scanOf_at]
  have e (f : ℕ → EReal) (r l : ℕ) : ∑ n ∈ Finset.range (128 * r + l + 1), f n =
      (∑ n ∈ Finset.range (128 * r), f n) + ∑ l' ∈ Finset.range (l + 1), f (128 * r + l') := by
    rw [Nat.add_assoc, Finset.sum_range_add]
  unfold cum
  rw [e, sum_rows, add_comm]
  refine congrArg₂ (fun a b : EReal => a + b) ?_ ?_
  · refine congrArg₂ (· + ·) (Finset.sum_congr rfl fun j' hj' => ?_) (Finset.sum_congr rfl fun k' hk' => Finset.sum_congr rfl fun j' hj' => ?_)
    · have := Finset.mem_range.1 hj'
      exact total_prob L _ _ hk (by omega)
    · have := Finset.mem_range.1 hk'
      exact total_prob L _ _ (by omega) (Finset.mem_range.1 hj')
  · refine Finset.sum_congr rfl fun l' hl' => ?_
    have := Finset.mem_range.1 hl'
    exact turn_prob L _ _ _ (by omega) hk hj

/-! ## The two tables -/

theorem rowAt_cdf (L : Vec Ideal S2048x128 .f32) (m : ℕ) (hm : m < 262144) : rowAt (cdfOf L) m = cum (flatAt L) m := by
  have h0 : m / 128 % 2048 = m / 128 := by omega
  have h1 : m % 128 % 128 = m % 128 := by omega
  show k1_pay155 (colOf (cumOf L) (m / 128 % 2048 / 128)) (i2 128 128 (m / 128 % 2048 % 128) (m % 128 % 128)) = _
  rw [h0, h1, show i2 128 128 (m / 128 % 128) (m % 128) = ix2 ⟨m / 128 % 128, by omega⟩ ⟨m % 128, by omega⟩
    from i2_fin (⟨m / 128 % 128, by omega⟩ : Fin 128) (⟨m % 128, by omega⟩ : Fin 128), pay155_apply]
  show cumOf L (i3 128 16 128 (m % 128) (m / 128 / 128) (m / 128 % 128)) = _
  rw [show i3 128 16 128 (m % 128) (m / 128 / 128) (m / 128 % 128) = ix3 ⟨m % 128, by omega⟩ ⟨m / 128 / 128, by omega⟩ ⟨m / 128 % 128, by omega⟩
    from i3_fin (⟨m % 128, by omega⟩ : Fin 128) (⟨m / 128 / 128, by omega⟩ : Fin 16) (⟨m / 128 % 128, by omega⟩ : Fin 128), cumOf_at]
  exact congrArg (cum (flatAt L)) (show 128 * (128 * (m / 128 / 128) + m / 128 % 128) + m % 128 = m by omega)

theorem tab_read (T : Vec Ideal S8x16x128 .f32) (a : Fin 8) (b : Fin 16) (c : Fin 128) :
    shapeCast S16384 T shapeCasts_S8x16x128_S16384 (i1 16384 (a.val * 2048 + (128 * b.val + c.val))) = T (ix3 a b c) := by
  refine shapeCast_apply _ _ _ _ ?_
  rw [Shape.rowMajor_val_three, Shape.rowMajor_val_one]
  have := a.isLt
  have := b.isLt
  have := c.isLt
  show (a.val * 16 + b.val) * 128 + c.val = (a.val * 2048 + (128 * b.val + c.val)) % 16384
  omega

theorem tabAt_cdf (L : Vec Ideal S2048x128 .f32) (m : ℕ) (hm : m < 262144) (h16 : m % 16 = 0) :
    tabAt (shapeCast S16384 (tabOf L) shapeCasts_S8x16x128_S16384) m = cum (flatAt L) m := by
  have h := tab_read (tabOf L) ⟨m / 16 % 8, by omega⟩ ⟨m / 128 / 128, by omega⟩ ⟨m / 128 % 128, by omega⟩
  unfold tabAt
  rw [show m / 16 % 8 * 2048 + m / 128 = m / 16 % 8 * 2048 + (128 * (m / 128 / 128) + m / 128 % 128) by omega]
  refine h.trans ?_
  show cumOf L (i3 128 16 128 (16 * (m / 16 % 8)) (m / 128 / 128) (m / 128 % 128)) = _
  rw [show i3 128 16 128 (16 * (m / 16 % 8)) (m / 128 / 128) (m / 128 % 128) = ix3 ⟨16 * (m / 16 % 8), by omega⟩ ⟨m / 128 / 128, by omega⟩ ⟨m / 128 % 128, by omega⟩
    from i3_fin (⟨16 * (m / 16 % 8), by omega⟩ : Fin 128) (⟨m / 128 / 128, by omega⟩ : Fin 16) (⟨m / 128 % 128, by omega⟩ : Fin 128), cumOf_at]
  exact congrArg (cum (flatAt L)) (show 128 * (128 * (m / 128 / 128) + m / 128 % 128) + 16 * (m / 16 % 8) = m by omega)

end Cert.KernelIdeal.Search

end
-- ==== Proof.Ref.lean ====
/- The reference over the extended reals: its stages by name, and what each holds at a place. -/
module

public import proofs.«01_k».proof.Proof.Cum
public import proofs.«01_k».proof.Proof.Gen.ReferenceIdeal.Run
public import Idealize.ShloMosaic.Lib.Routing.Ops
public import Idealize.ShloMosaic.Lib.Routing.OpsSet
public import Idealize.ShloMosaic.Lib.Routing.OpsSearch

@[expose] public section

set_option maxRecDepth 16384

noncomputable section

namespace Cert.ReferenceIdeal.Value

open Idealize.ShloMosaic
open Cert.ReferenceIdeal Cert.ReferenceIdeal.Gen
open Cert.KernelIdeal.Search (i1 eq_i1 i2 eq_i2 peakN wgt prob cum negInf)

/-! ## The stages -/

def dots (A : FVec Ideal S262144x128 .f32) (t : FVec Ideal S128 .f32) : FVec Ideal S262144 .f32 :=
  Host.dotGeneral dot_S262144x128_S128_S262144_1_0_0_n_n_n none A t
/-- A number spread over all the rows. -/
def spread (x : FVec Ideal S_ .f32) : FVec Ideal S262144 .f32 := broadcastInDim S262144 ![0] bcast_S1_S262144_0 (broadcastInDim S1 ![] bcast_S_S1 x)
def top (x : FVec Ideal S262144 .f32) : FVec Ideal S_ .f32 :=
  maximumf (constant S_ .f32 0xFF800000#32) (Host.reduce FloatOps.maximumf x (constant S_ .f32 0xFF800000#32) reducesTo_S262144_S_d0 h_S_)
def exps (x : FVec Ideal S262144 .f32) : FVec Ideal S262144 .f32 := Host.exp (subf x (spread (top x)))
def whole (x : FVec Ideal S262144 .f32) : FVec Ideal S_ .f32 := Host.reduceAdd x (constant S_ .f32 0x00000000#32) reducesTo_S262144_S_d0 h_S_
def probs (x : FVec Ideal S262144 .f32) : FVec Ideal S262144 .f32 := Host.divf (exps x) (spread (whole (exps x)))
def sums (p : FVec Ideal S262144 .f32) : FVec Ideal S262144 .f32 :=
  Host.reduceWindowAdd ![262144] ![1] ![262143] ![0] p (broadcastInDim S_ ![] bcast_S_S_ (constant S_ .f32 0x00000000#32))
    reduceWindows_S262144_S262144_w262144s1p262143_0 h_S_
def under (s : FVec Ideal S262144 .f32) (u : FVec Ideal S65536 .f32) : IVec S65536x262144 1 :=
  cmpf .olt (broadcastInDim S65536x262144 ![0, 1] bcast_S1x262144_S65536x262144_0_1 (broadcastInDim S1x262144 ![1] bcast_S262144_S1x262144_1 s))
    (broadcastInDim S65536x262144 ![0, 1] bcast_S65536x1_S65536x262144_0_1 (broadcastInDim S65536x1 ![0] bcast_S65536_S65536x1_0 u))
def clipped (x : IVec S65536x262144 1) : IVec S65536 32 :=
  minsi (broadcastInDim S65536 ![] bcast_S_S65536 (id (constantI S_ 32 262143#32)))
    (maxsi (broadcastInDim S65536 ![] bcast_S_S65536 (id (constantI S_ 32 0#32)))
      (Host.reduce IntOp.addi (extui 32 x natLt_1_32) (constantI S_ 32 0#32) reducesTo_S65536x262144_S65536_d1 h_S_))
def column (i : IVec S65536 32) : IVec S65536x1 32 :=
  broadcastInDim S65536x1 ![0] bcast_S65536_S65536x1_0
    (select (cmpi .slt i (broadcastInDim S65536 ![] bcast_S_S65536 (constantI S_ 32 0#32))) (addi i (broadcastInDim S65536 ![] bcast_S_S65536 (constantI S_ 32 262144#32))) i)
def taken (X : FVec Ideal S262144x18 .f32) (i : IVec S65536x1 32) : FVec Ideal S65536x18 .f32 :=
  select (broadcastInDim S65536x18 ![0] bcast_S65536_S65536x18_0 (Host.reduce IntOp.andi
      (andi (cmpi .sge i (broadcastInDim S65536x1 ![] bcast_S_S65536x1 (constantI S_ 32 0#32)))
        (cmpi .sle i (broadcastInDim S65536x1 ![0, 1] bcast_S1x1_S65536x1_0_1 (broadcastInDim S1x1 ![1] bcast_S1_S1x1_1 (constantI S1 32 262143#32)))))
      (constantI S_ 1 1#1) reducesTo_S65536x1_S65536_d1 h_S_))
    (Host.gather gather_S262144x18_S65536x1_S65536x18_1_0_n_n_0_1_118 X i) (broadcastInDim S65536x18 ![] bcast_S_S65536x18 (constant S_ .f32 0x7FC00000#32))

theorem res_eq (m : (ℓ : Loc nD τ sig) → Buf (Elt Ideal) ℓ) (c : Dev nD) : res_main_v20 m c =
    taken (m ((c.tc : Thread nD τ).loc main_arg2)) (column (clipped (under
      (sums (probs (dots (m ((c.tc : Thread nD τ).loc main_arg1)) (m ((c.tc : Thread nD τ).loc main_arg0))))) (m ((c.tc : Thread nD τ).loc main_arg3))))) := rfl

/-! ## The probabilities -/

/-- Entry `n` of a list. -/
def listAt (x : FVec Ideal S262144 .f32) (n : ℕ) : EReal := x (i1 262144 n)

theorem listAt_fin (x : FVec Ideal S262144 .f32) (n : Fin 262144) : listAt x n.val = x (ix1 n) := congrArg x (eq_i1 (N := 262144) (ix1 n) rfl).symm

theorem dots_at (A : FVec Ideal S262144x128 .f32) (t : FVec Ideal S128 .f32) (n : Fin 262144) : dots A t (ix1 n) = ∑ k : Fin 128, A (ix2 n k) * t (ix1 k) := by
  pointwise [dots]
theorem spread_at (x : FVec Ideal S_ .f32) (n : Fin 262144) : spread x (ix1 n) = x ix0 := by
  pointwise [spread]
/-- The least number is the start, so the fold of the larger of two is the least upper bound. -/
theorem max_all {N : ℕ} [NeZero N] (x : FVec Ideal ⟨1, ![N]⟩ .f32) (h : (⟨1, ![N]⟩ : Shape).ReducesTo [0] S_) (hu : 0 < S_.numel) :
    maximumf (constant S_ .f32 0xFF800000#32) (Host.reduce FloatOps.maximumf x (constant S_ .f32 0xFF800000#32) h hu) ix0 =
      (Finset.range N).sup fun n => x (i1 N n) := by
  have e : maximumf (constant S_ .f32 0xFF800000#32) (Host.reduce FloatOps.maximumf x (constant S_ .f32 0xFF800000#32) h hu) ix0 =
      max (Ideal.ofBits .f32 0xFF800000#32) ((Finset.univ.filter fun i => h.drop i = ix0).fold max (Ideal.ofBits .f32 0xFF800000#32) x) :=
    congrArg (max (Ideal.ofBits .f32 0xFF800000#32)) (Host.reduce_eq_fold (α := EReal) max x _ h hu ix0)
  rw [e, negInf]
  refine eq_of_forall_ge_iff fun c => ?_
  rw [max_le_iff, Finset.fold_max_le, Finset.sup_le_iff]
  refine ⟨fun h n hn => ?_, fun h => ⟨bot_le, bot_le, fun i _ => ?_⟩⟩
  · exact h.2.2 _ (Finset.mem_filter.2 ⟨Finset.mem_univ _, funext fun a => a.elim0⟩)
  · rw [eq_i1 (N := N) i rfl]
    exact h _ (Finset.mem_range.2 (i 0).isLt)

theorem add_all {N : ℕ} [NeZero N] (x : FVec Ideal ⟨1, ![N]⟩ .f32) (h : (⟨1, ![N]⟩ : Shape).ReducesTo [0] S_) (hu : 0 < S_.numel) :
    Host.reduceAdd x (constant S_ .f32 0x00000000#32) h hu ix0 = ∑ n ∈ Finset.range N, x (i1 N n) := by
  have e : Host.reduceAdd x (constant S_ .f32 0x00000000#32) h hu ix0 = Ideal.ofBits .f32 0x00000000#32 + ∑ i : (⟨1, ![N]⟩ : Shape).Idx, x i :=
    Ideal.hostReduceAdd_total h (fun b => b.elim0) x _ ix0
  rw [e, Ideal.ofBits_zero_f32, zero_add, sum_idx1, Finset.sum_range]
  exact Finset.sum_congr rfl fun n _ => congrArg x (eq_i1 (N := N) (ix1 n) rfl)

theorem top_at (x : FVec Ideal S262144 .f32) : top x ix0 = peakN (listAt x) := max_all x reducesTo_S262144_S_d0 h_S_

theorem whole_at (x : FVec Ideal S262144 .f32) : whole x ix0 = ∑ n ∈ Finset.range 262144, listAt x n := add_all x reducesTo_S262144_S_d0 h_S_

theorem exps_at (x : FVec Ideal S262144 .f32) (n : Fin 262144) : exps x (ix1 n) = wgt (listAt x) n.val := by
  show Ideal.exp (x (ix1 n) - spread (top x) (ix1 n)) = _
  rw [spread_at, top_at, ← listAt_fin x]
  rfl

theorem whole_exps (x : FVec Ideal S262144 .f32) : whole (exps x) ix0 = ∑ n ∈ Finset.range 262144, wgt (listAt x) n := by
  rw [whole_at]
  refine Finset.sum_congr rfl fun k hk => ?_
  have hk := Finset.mem_range.1 hk
  exact (listAt_fin (exps x) ⟨k, hk⟩).trans (exps_at x ⟨k, hk⟩)

theorem divf_at (a b : FVec Ideal S262144 .f32) (i : S262144.Idx) : Host.divf a b i = Ideal.div (a i) (b i) := rfl

theorem probs_at (x : FVec Ideal S262144 .f32) (n : Fin 262144) : probs x (ix1 n) = prob (listAt x) n.val := by
  unfold probs prob
  rw [divf_at, spread_at, whole_exps, exps_at]

/-! ## The running sums -/

theorem foldl_add {ι : Type} (l : List ι) (f : ι → EReal) (z : EReal) : l.foldl (fun r i => r + f i) z = z + (l.map f).sum := by
  induction l generalizing z with
  | nil => exact (add_zero z).symm
  | cons i l ih => rw [List.foldl_cons, ih, List.map_cons, List.sum_cons, add_assoc]

/-- A window over all of a list padded below by all but one of its length: the sum of the entries up to its place. -/
theorem window_sum {N n : ℕ} [NeZero N] (hn : n + 1 = N) (x : FVec Ideal ⟨1, ![N]⟩ .f32) (v : FVec Ideal S_ .f32) (hv : ∀ i, v i = 0)
    (h : (⟨1, ![N]⟩ : Shape).ReduceWindows ![N] ![1] ![n] ![0] ⟨1, ![N]⟩) (hu : 0 < S_.numel) (j : Fin N) :
    Host.reduceWindowAdd ![N] ![1] ![n] ![0] x v h hu (ix1 j) = ∑ k ∈ Finset.range (j.val + 1), x (i1 N k) := by
  subst hn
  show Ideal.hostReduceWindowAdd ![n + 1] ![1] ![n] ![0] h x (v _) (ix1 j) = _
  rw [hv]
  unfold Ideal.hostReduceWindowAdd Host.reduceWindow
  refine (foldl_add _ _ _).trans ?_
  rw [zero_add, ← Fin.sum_univ_def]
  have hj := j.isLt
  have e : ∀ w : Fin (⟨1, ![n + 1]⟩ : Shape).numel, (((⟨1, ![n + 1]⟩ : Shape).rowMajor.symm w) 0).val = w.val := fun w => by
    rw [Routing.symm1]; rfl
  refine (Finset.sum_congr rfl fun w _ => ?_).trans
    ((Fin.sum_univ_eq_sum_range (fun w => if n ≤ j.val + w then x (i1 (n + 1) (j.val + w - n)) else 0) _).trans ?_)
  · split
    next hin =>
      have h0 : n ≤ j.val * 1 + _ ∧ _ := hin 0
      rw [e w] at h0
      rw [if_pos (by omega)]
      refine congrArg x (eq_i1 (N := n + 1) _ ?_)
      show j.val * 1 + _ - n = _
      rw [e w, Nat.mul_one]
    next hin =>
      rw [if_neg fun hle => hin fun a => ?_]
      have ha : a = 0 := Fin.eq_zero a
      subst ha
      have hw : w.val < n + 1 := lt_of_lt_of_eq w.isLt (Routing.numel1 (n + 1))
      show n ≤ j.val * 1 + _ ∧ j.val * 1 + _ - n < n + 1
      rw [e w]
      omega
  · rw [Routing.numel1]
    obtain ⟨d, hd⟩ : ∃ d, n = j.val + d := ⟨n - j.val, by omega⟩
    rw [show Finset.range (n + 1) = Finset.range (d + (j.val + 1)) from congrArg Finset.range (by omega), Finset.sum_range_add, Finset.sum_eq_zero, zero_add]
    · refine Finset.sum_congr rfl fun k _ => ?_
      rw [if_pos (by omega), show j.val + (d + k) - n = k by omega]
    · intro w hw
      have := Finset.mem_range.1 hw
      exact if_neg (by omega)

theorem sums_at (x : FVec Ideal S262144 .f32) (n : Fin 262144) : sums (probs x) (ix1 n) = cum (listAt x) n.val := by
  unfold sums cum
  refine (window_sum (N := 262144) (n := 262143) rfl (probs x) _ (fun i => Ideal.ofBits_zero_f32) _ _ n).trans ?_
  refine Finset.sum_congr rfl fun k hk => ?_
  have hk := Finset.mem_range.1 hk
  exact (listAt_fin (probs x) ⟨k, by omega⟩).trans (probs_at x ⟨k, by omega⟩)

end Cert.ReferenceIdeal.Value

end
-- ==== Proof.Take.lean ====
/- The reference's look-up over the extended reals: a draw's row of the table is the number of running sums below it,
   at most the last row. -/
module

public import proofs.«01_k».proof.Proof.Ref

@[expose] public section

set_option maxRecDepth 16384

noncomputable section

namespace Cert.ReferenceIdeal.Value

open Idealize.ShloMosaic
open Cert.ReferenceIdeal Cert.ReferenceIdeal.Gen
open Cert.KernelIdeal.Search (i1 eq_i1 i2 eq_i2 peakN wgt prob cum negInf)

theorem under_at (s : FVec Ideal S262144 .f32) (u : FVec Ideal S65536 .f32) (i : Fin 65536) (n : Fin 262144) :
    under s u (ix2 i n) = 1#1 ↔ s (ix1 n) < u (ix1 i) := by
  pointwise [under]
  rw [StableHlo.Predicate.ofBool_eq_one_iff, decide_eq_true_eq]

theorem clipped_at (x : IVec S65536x262144 1) (i : Fin 65536) (Q : ℕ → Prop) [DecidablePred Q] (hQ : ∀ n : Fin 262144, x (ix2 i n) = 1#1 ↔ Q n.val) :
    clipped x (ix1 i) = BitVec.ofNat 32 (min (Nat.count Q 262144) 262143) := by
  have hc := Nat.count_le (p := Q) (n := 262144)
  have e : clipped x (ix1 i) = IntOp.minsi (BitVec.ofNat 32 262143) (IntOp.maxsi (BitVec.ofNat 32 0)
      (Host.reduce IntOp.addi (extui 32 x natLt_1_32) (constantI S_ 32 0#32) reducesTo_S65536x262144_S65536_d1 h_S_ (ix1 i))) := rfl
  have r : Host.reduce IntOp.addi (extui 32 x natLt_1_32) (constantI S_ 32 0#32) reducesTo_S65536x262144_S65536_d1 h_S_ (ix1 i) = BitVec.ofNat 32 (Nat.count Q 262144) :=
    Routing.reduce_count (by decide) x natLt_1_32 reducesTo_S65536x262144_S65536_d1 h_S_ i Q hQ
  rw [e, r, Routing.clip_word (by omega) (by decide) (by decide),
    Nat.max_eq_left (Nat.zero_le _)]

theorem column_at (x : IVec S65536 32) (i : Fin 65536) (b : ℕ) (hb : b < 262144) (h : x (ix1 i) = BitVec.ofNat 32 b) : column x (ix2 i 0) = BitVec.ofNat 32 b := by
  have hn : ¬ IntOp.cmpi .slt (BitVec.ofNat 32 b) (BitVec.ofNat 32 0) = 1#1 := fun e =>
    absurd ((StableHlo.Predicate.slt_ofNat_iff b 0 (by omega) (by decide)).1 e) (by omega)
  pointwise [column]
  rw [h]
  exact if_neg hn

theorem taken_at (X : FVec Ideal S262144x18 .f32) (x : IVec S65536x1 32) (b : Fin 65536 → Fin 262144) (h : ∀ i, x (ix2 i 0) = BitVec.ofNat 32 (b i).val)
    (i : Fin 65536) (q : Fin 18) : taken X x (ix2 i q) = X (ix2 (b i) q) := by
  have hb := (b i).isLt
  have h0 : IntOp.cmpi .sge (BitVec.ofNat 32 (b i).val) (BitVec.ofNat 32 0) = 1#1 := (StableHlo.Predicate.sle_ofNat_iff 0 _ (by decide) (by omega)).2 (Nat.zero_le _)
  have h1 : IntOp.cmpi .sle (BitVec.ofNat 32 (b i).val) (BitVec.ofNat 32 262143) = 1#1 := (StableHlo.Predicate.sle_ofNat_iff _ 262143 (by omega) (by decide)).2 (by omega)
  have hg : Host.gather gather_S262144x18_S65536x1_S65536x18_1_0_n_n_0_1_118 X x (ix2 i q) = X (ix2 (b i) q) :=
    Routing.gather_row _ rfl rfl rfl rfl rfl X x i q (b i) (h i) (by decide)
  pointwise [taken]
  rw [hg, Finset.univ_unique, Finset.fold_singleton]
  refine if_pos ?_
  rw [show (default : Fin 1) = 0 from rfl, h i]
  show IntOp.andi (IntOp.andi (IntOp.cmpi .sge (BitVec.ofNat 32 (b i).val) (BitVec.ofNat 32 0)) (IntOp.cmpi .sle (BitVec.ofNat 32 (b i).val) (BitVec.ofNat 32 262143))) 1#1 = 1#1
  rw [h0, h1]
  rfl

end Cert.ReferenceIdeal.Value

end
-- ==== Proof.Find.lean ====
/- The search over the extended reals: the running sums never fall, so the bisection over them ends at the number of
   sums below the draw, at most the last row. -/
module

public import proofs.«01_k».proof.Proof.Ref

@[expose] public section

set_option maxRecDepth 16384

noncomputable section

namespace Cert.KernelIdeal.Search

open Idealize.ShloMosaic
open Cert.KernelIdeal Cert.KernelIdeal.Gen

/-! ## The running sums never fall -/

theorem wgt_nonneg (g : ℕ → EReal) (n : ℕ) : 0 ≤ wgt g n := by
  unfold wgt
  induction g n - peakN g with
  | bot => exact le_rfl
  | coe r => exact EReal.coe_nonneg.2 (Real.exp_pos r).le
  | top => exact le_top

/-- One step up the running sums: a probability is not negative, unless the weights are all zero, and then every
    probability is the least number and the sums stay there. -/
theorem cum_step (g : ℕ → EReal) (n : ℕ) (hn : n + 1 < 262144) : cum g n ≤ cum g (n + 1) := by
  have e : cum g (n + 1) = cum g n + prob g (n + 1) := Finset.sum_range_succ _ _
  by_cases h : (∑ k ∈ Finset.range 262144, wgt g k) = 0
  · have hw := (Finset.sum_eq_zero_iff_of_nonneg fun k _ => wgt_nonneg g k).1 h n (Finset.mem_range.2 (by omega))
    have hp : prob g n = ⊥ := by
      unfold prob
      rw [h, hw, Ideal.div, if_pos rfl, if_neg (lt_irrefl _)]
    have hc : cum g n = ⊥ := by
      rw [cum, Finset.sum_range_succ, hp, EReal.add_bot]
    rw [hc]
    exact bot_le
  · rw [e]
    refine le_add_of_nonneg_right ?_
    unfold prob
    rw [Ideal.div, if_neg h]
    exact mul_nonneg (wgt_nonneg g _) (EReal.inv_nonneg_of_nonneg (Finset.sum_nonneg fun k _ => wgt_nonneg g k))

theorem cum_mono (g : ℕ → EReal) {a b : ℕ} (hab : a ≤ b) (hb : b < 262144) : cum g a ≤ cum g b := by
  induction b, hab using Nat.le_induction with
  | base => exact le_rfl
  | succ b _ ih => exact (ih (by omega)).trans (cum_step g b hb)

/-- What holds below a bound and fails from it on holds at as many places as the bound. -/
theorem count_bound (Q : ℕ → Prop) [DecidablePred Q] (N : ℕ) (h : ∀ a b, a ≤ b → b < N → Q b → Q a) (m : ℕ) (hm : m < N) : Q m ↔ m < Nat.count Q N := by
  induction N with
  | zero => omega
  | succ N ih =>
    have hl := Nat.count_le (p := Q) (n := N)
    rw [Nat.count_succ]
    by_cases hq : Q N
    · rw [if_pos hq, Nat.count_iff_forall.2 fun a ha => h a N (by omega) (by omega) hq]
      exact ⟨fun _ => hm, fun _ => h m N (by omega) (by omega) hq⟩
    · rw [if_neg hq]
      rcases Nat.lt_succ_iff_lt_or_eq.1 hm with hlt | rfl
      · exact ih (fun a b hab hb => h a b hab (by omega)) hlt
      · exact ⟨fun hQ => absurd hQ hq, fun hc => by omega⟩

/-! ## The bisection -/

open Classical in
/-- The number of running sums below a draw. -/
def below (g : ℕ → EReal) (u : EReal) : ℕ := Nat.count (fun n => cum g n < u) 262144

theorem below_le (g : ℕ → EReal) (u : EReal) : below g u ≤ 262144 := Nat.count_le _

theorem lt_below (g : ℕ → EReal) (u : EReal) (m : ℕ) (hm : m < 262144) : cum g m < u ↔ m < below g u := by
  classical
  exact count_bound (fun n => cum g n < u) 262144 (fun a b hab hb hlt => (cum_mono g hab hb).trans_lt hlt) m hm

theorem atMost_cum (g : ℕ → EReal) (u : EReal) (m : ℕ) (hm : m < 262144) : atMost (F := Ideal) u (cum g m) = decide (below g u ≤ m) := by
  have e : atMost (F := Ideal) u (cum g m) = decide (BitVec.ofBool (decide (u ≤ cum g m)) = 1#1) := rfl
  rw [e]
  refine decide_eq_decide.2 ?_
  rw [StableHlo.Predicate.ofBool_eq_one_iff, decide_eq_true_eq, ← not_lt, lt_below g u m hm, not_lt]

/-- The two searches, over the two tables of one array's running sums: when the first sum is below the draw, they end
    at the number of sums below it. -/
theorem idx_below (L : Vec Ideal S2048x128 .f32) (u : EReal) (h0 : cum (flatAt L) 0 < u) :
    idxOf (shapeCast S16384 (tabOf L) shapeCasts_S8x16x128_S16384) (cdfOf L) u = min (below (flatAt L) u) 262143 := by
  have hc : 0 < below (flatAt L) u := (lt_below (flatAt L) u 0 (by omega)).1 h0
  have hrun : runOf (shapeCast S16384 (tabOf L) shapeCasts_S8x16x128_S16384) u = bsn (fun m => decide (below (flatAt L) u ≤ m)) 14 4 0 :=
    bsn_congr 14 4 0 fun m h1 h2 h3 => by
      have h2' : m < 262144 := h2
      have h3' : 16 ∣ m - 0 := h3
      beta_reduce
      rw [tabAt_cdf L m h2' (by omega), atMost_cum _ _ _ h2']
  have hle := runOf_lt (shapeCast S16384 (tabOf L) shapeCasts_S8x16x128_S16384) u
  have hrow : bsn (fun m => atMost u (rowAt (cdfOf L) m)) 4 0 (runOf (shapeCast S16384 (tabOf L) shapeCasts_S8x16x128_S16384) u)
      = bsn (fun m => decide (below (flatAt L) u ≤ m)) 4 0 (runOf (shapeCast S16384 (tabOf L) shapeCasts_S8x16x128_S16384) u) :=
    bsn_congr 4 0 _ fun m h1 h2 h3 => by
      have h2' : m < runOf (shapeCast S16384 (tabOf L) shapeCasts_S8x16x128_S16384) u + 16 := h2
      beta_reduce
      rw [rowAt_cdf L m (by omega), atMost_cum _ _ _ (by omega)]
  have hend : bsn (fun m => decide (below (flatAt L) u ≤ m)) 18 0 0 + 1 = below (flatAt L) u :=
    bsn_spec _ 18 0 (fun a b hab ha => decide_eq_true ((of_decide_eq_true ha).trans hab)) _ (fun m => decide_eq_true_iff) hc
      ((below_le _ _).trans (by decide))
  rw [idxOf, hrow, hrun, bsn_add (fun m => decide (below (flatAt L) u ≤ m)) 14 4 0 0, hend]

/-! ## The logits -/

theorem pay1_at (t : Vec Ideal S1x128 .f32) (B : Vec Ideal S16384x128 .f32) (r c : Fin 128) :
    k0_pay1 t B (ix2 r c) = ∑ k : Fin 128, t (ix2 0 k) * B (ix2 ⟨r.val * 128 + c.val, by omega⟩ k) := by
  pointwise [k0_pay1]

theorem i1_mod {N : ℕ} [NeZero N] (n : ℕ) (h : n % N < N) : i1 N n = ix1 ⟨n % N, h⟩ :=
  funext fun a => Fin.ext (by have := Fin.eq_zero a; subst this; rfl)

theorem logits_at (A : FVec Ideal S262144x128 .f32) (t : FVec Ideal S128 .f32) (n : ℕ) :
    flatAt (logitsOf (F := Ideal) A (shapeCast S1x128 t shapeCasts_S128_S1x128)) n = Cert.ReferenceIdeal.Value.listAt (Cert.ReferenceIdeal.Value.dots A t) n := by
  have hr : n / 128 % 2048 / 128 % 128 = n / 128 % 2048 / 128 := by omega
  have hx : n % 262144 < 262144 := Nat.mod_lt _ (by omega)
  have hl : Cert.ReferenceIdeal.Value.listAt (Cert.ReferenceIdeal.Value.dots A t) n
      = ∑ k : Fin 128, A (ix2 ⟨n % 262144, hx⟩ k) * t (ix1 k) := by
    refine Eq.trans ?_ (Cert.ReferenceIdeal.Value.dots_at A t ⟨n % 262144, hx⟩)
    unfold Cert.ReferenceIdeal.Value.listAt
    exact congrArg _ (i1_mod n hx)
  have hf : flatAt (logitsOf (F := Ideal) A (shapeCast S1x128 t shapeCasts_S128_S1x128)) n
      = k0_pay1 (F := Ideal) (shapeCast S1x128 t shapeCasts_S128_S1x128) (rowsOf A (n / 128 % 2048 / 128)) (i2 128 128 (n / 128 % 2048 % 128) (n % 128 % 128)) := by
    unfold flatAt logitsOf; exact rfl
  rw [hl, hf, i2_ix, pay1_at]
  refine Finset.sum_congr rfl fun k _ => ?_
  have ht : shapeCast S1x128 t shapeCasts_S128_S1x128 (ix2 0 k) = t (ix1 k) := by pointwise []
  rw [ht, mul_comm]
  refine congrArg (fun a => a * t (ix1 k)) ?_
  unfold rowsOf
  exact congrArg A (eq_i2 (N := 262144) (M := 128) (ix2 ⟨n % 262144, hx⟩ k) (by show n % 262144 = 16384 * (n / 128 % 2048 / 128) + (n / 128 % 2048 % 128 % 128 * 128 + n % 128 % 128 % 128); omega) rfl).symm

end Cert.KernelIdeal.Search

end
-- ==== Proof.Same.lean ====
/- The two results agree: what the precondition says of the arguments at a place, and from it that the bits the kernel
   writes of a row's number are the row the reference takes. -/
module

public import proofs.«01_k».proof.Proof.Take
public import proofs.«01_k».proof.Proof.Find
public import proofs.«01_k».proof.Proof.Run
public import proofs.«01_k».proof.Pre_digits_and_draws

@[expose] public section

set_option maxRecDepth 16384

noncomputable section

namespace Cert.Same

open Idealize.ShloMosaic Idealize.ShloMosaic.TcCoe
open Cert.KernelIdeal.Search (i1 i1_mod i2 eq_i1 flatAt prob cum below idxOf bitOf outOf tabOf cdfOf logitsOf)
open Cert.ReferenceIdeal.Value

/-- The precondition's side conditions, each one the reference's or decided. -/
instance facts : Cert.Pre_digits_and_draws.Facts where
  bcast_S_S262144x18 := by decide
  reducesTo_S262144_S_d0 := Cert.ReferenceIdeal.Gen.reducesTo_S262144_S_d0
  h_S_ := by decide
  bcast_S_S1 := Cert.ReferenceIdeal.Gen.bcast_S_S1
  bcast_S1_S262144_0 := Cert.ReferenceIdeal.Gen.bcast_S1_S262144_0
  slices_S262144_S1_0 := by decide
  shapeCasts_S1_S_ := by decide
  bcast_S_S65536 := Cert.ReferenceIdeal.Gen.bcast_S_S65536
  dot_S262144x128_S128_S262144_1_0_0_n_n_n_wf := Cert.ReferenceIdeal.Gen.dot_S262144x128_S128_S262144_1_0_0_n_n_n_wf

/-! ## The precondition at a place -/

section Pre

open Cert.Pre_digits_and_draws Cert.Pre_digits_and_draws.Facts

/-- The precondition's first result, at a place: the table's entry is the number's bit. -/
def digits (X : FVec Ideal S262144x18 .f32) : IVec S262144x18 1 :=
  cmpf .oeq X (sitofp .f32 (andi (Host.shrsi (iotaInDim S262144x18 32 0) (iotaInDim S262144x18 32 1))
    (broadcastInDim S262144x18 ![] bcast_S_S262144x18 (constantI S_ 32 1#32))))

/-- The precondition's second, from the probabilities: the first of them is below every draw. -/
def first (p : FVec Ideal S262144 .f32) (u : FVec Ideal S65536 .f32) : IVec S65536 1 :=
  cmpf .olt (broadcastInDim S65536 ![] bcast_S_S65536 (shapeCast S_ (extractStridedSlice S1 ![0] p slices_S262144_S1_0) shapeCasts_S1_S_)) u

theorem fn_eq (t : FVec Ideal S128 .f32) (A : FVec Ideal S262144x128 .f32) (X : FVec Ideal S262144x18 .f32) (u : FVec Ideal S65536 .f32) :
    fn t A X u = (digits X, first (probs (dots A t)) u) := rfl

theorem digits_at (X : FVec Ideal S262144x18 .f32) (h : digits X = fun _ => 1#1) (n : Fin 262144) (q : Fin 18) : X (ix2 n q) = bitOf (F := Ideal) n.val q.val := by
  have e : digits X (ix2 n q) = 1#1 := congrFun h _
  have hs : IntOp.shrsi .host (BitVec.ofNat 32 n.val) (BitVec.ofNat 32 q.val) = IntOp.shrsi .vector (BitVec.ofNat 32 n.val) (BitVec.ofNat 32 q.val) := by
    have hq : (BitVec.ofNat 32 q.val).toNat < 32 := by rw [BitVec.toNat_ofNat]; omega
    rw [IntOp.shrsi, if_pos hq, IntOp.shrsi, if_pos hq]
  have r : digits X (ix2 n q) = BitVec.ofBool (decide (X (ix2 n q)
      = FloatOps.sitofp (F := Ideal) .f32 (IntOp.andi (IntOp.shrsi .host (BitVec.ofNat 32 n.val) (BitVec.ofNat 32 q.val)) 1#32))) := rfl
  rw [r, StableHlo.Predicate.ofBool_eq_one_iff, decide_eq_true_eq, hs] at e
  exact e

theorem first_at (p : FVec Ideal S262144 .f32) (u : FVec Ideal S65536 .f32) (h : first p u = fun _ => 1#1) (i : Fin 65536) : p (ix1 0) < u (ix1 i) := by
  have e : first p u (ix1 i) = 1#1 := congrFun h _
  have r : first p u (ix1 i) = BitVec.ofBool (decide (p (ix1 0) < u (ix1 i))) := by
    pointwise [first]
  rw [r, StableHlo.Predicate.ofBool_eq_one_iff, decide_eq_true_eq] at e
  exact e

end Pre

/-! ## The results -/

open Cert.ReferenceIdeal in
/-- The bits of the number each draw's search ends at are the row of the table the reference takes for the draw. -/
theorem out_eq (t : FVec Ideal S128 .f32) (A : FVec Ideal S262144x128 .f32) (X : FVec Ideal S262144x18 .f32) (u : FVec Ideal S65536 .f32)
    (hX : digits X = fun _ => 1#1) (hu : first (probs (dots A t)) u = fun _ => 1#1) (L : Vec Ideal Cert.KernelIdeal.S2048x128 .f32)
    (hL : flatAt L = listAt (dots A t)) :
    outOf (shapeCast Cert.KernelIdeal.S16384 (tabOf L) Cert.KernelIdeal.Gen.shapeCasts_S8x16x128_S16384) (cdfOf L) u
      = taken X (column (clipped (under (sums (probs (dots A t))) u))) := by
  classical
  have hb : ∀ i : Fin 65536, min (below (listAt (dots A t)) (u (ix1 i))) 262143 < 262144 := fun i => by omega
  funext j
  obtain ⟨i, q, rfl⟩ : ∃ (i : Fin 65536) (q : Fin 18), j = ix2 i q := ⟨j 0, j 1, eq_ix2 j⟩
  have hc : ∀ i : Fin 65536, clipped (under (sums (probs (dots A t))) u) (ix1 i) = BitVec.ofNat 32 (min (below (listAt (dots A t)) (u (ix1 i))) 262143) := fun i => by
    unfold below
    exact clipped_at _ i _ fun n => by rw [under_at, sums_at]
  have h0 : cum (flatAt L) 0 < u (ix1 i) := by
    have := first_at _ _ hu i
    rw [probs_at] at this
    rw [hL, cum, Finset.sum_range_one]
    exact this
  have hi : outOf (shapeCast Cert.KernelIdeal.S16384 (tabOf L) Cert.KernelIdeal.Gen.shapeCasts_S8x16x128_S16384) (cdfOf L) u (ix2 i q)
      = bitOf (F := Ideal) (idxOf (shapeCast Cert.KernelIdeal.S16384 (tabOf L) Cert.KernelIdeal.Gen.shapeCasts_S8x16x128_S16384) (cdfOf L) (u (ix1 i))) q.val := by
    unfold outOf
    rw [show i1 65536 ((ix2 i q : S65536x18.Idx) 0).val = ix1 i from (eq_i1 (N := 65536) (ix1 i) rfl).symm]
    rfl
  rw [hi, Cert.KernelIdeal.Search.idx_below L (u (ix1 i)) h0, hL,
    taken_at X _ (fun i => ⟨_, hb i⟩) (fun i => column_at _ i _ (hb i) (hc i)) i q, digits_at X hX]

/-- The kernel's result from a memory, and the reference's from one with the same arguments, where the precondition
    holds of them. -/
theorem results (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (t : FVec Ideal Cert.ReferenceIdeal.S128 .f32) (A : FVec Ideal Cert.ReferenceIdeal.S262144x128 .f32)
    (X : FVec Ideal Cert.ReferenceIdeal.S262144x18 .f32) (u : FVec Ideal Cert.ReferenceIdeal.S65536 .f32)
    (ht : m ((SparseCore.T c).loc Cert.KernelIdeal.main_arg0) = t) (hA : m ((SparseCore.T c).loc Cert.KernelIdeal.main_arg1) = A)
    (hu : m ((SparseCore.T c).loc Cert.KernelIdeal.main_arg3) = u)
    (ht' : m' ((c.tc : Thread Cert.ReferenceIdeal.nD Cert.ReferenceIdeal.τ).loc Cert.ReferenceIdeal.main_arg0) = t)
    (hA' : m' ((c.tc : Thread Cert.ReferenceIdeal.nD Cert.ReferenceIdeal.τ).loc Cert.ReferenceIdeal.main_arg1) = A)
    (hX' : m' ((c.tc : Thread Cert.ReferenceIdeal.nD Cert.ReferenceIdeal.τ).loc Cert.ReferenceIdeal.main_arg2) = X)
    (hu' : m' ((c.tc : Thread Cert.ReferenceIdeal.nD Cert.ReferenceIdeal.τ).loc Cert.ReferenceIdeal.main_arg3) = u)
    (h1 : (Cert.Pre_digits_and_draws.fn t A X u).1 = fun _ => 1#1) (h2 : (Cert.Pre_digits_and_draws.fn t A X u).2 = fun _ => 1#1) :
    res_main_v20 m' c = Cert.KernelIdeal.Search.result m c := by
  rw [fn_eq] at h1 h2
  have hL : flatAt (Cert.KernelIdeal.Search.logits m c) = listAt (dots A t) := by
    unfold Cert.KernelIdeal.Search.logits
    rw [ht, hA]
    exact funext fun n => Cert.KernelIdeal.Search.logits_at A t n
  have e := out_eq t A X u h1 h2 (Cert.KernelIdeal.Search.logits m c) hL
  have hr : Cert.KernelIdeal.Search.result m c
      = outOf (shapeCast Cert.KernelIdeal.S16384 (tabOf (Cert.KernelIdeal.Search.logits m c)) Cert.KernelIdeal.Gen.shapeCasts_S8x16x128_S16384)
          (cdfOf (Cert.KernelIdeal.Search.logits m c)) u := by
    unfold Cert.KernelIdeal.Search.result Cert.KernelIdeal.Search.sampled
    exact congrArg (outOf _ _) hu
  rw [hr, e, res_eq, ht', hA', hX', hu']

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Same
public import Idealize.ShloMosaic.Adequacy
public import Idealize.ShloMosaic.Init

@[expose] public section

noncomputable section

namespace Cert.Proof

open Idealize.ShloMosaic Idealize.ShloMosaic.TcCoe Idealize.SL.Sem
open Cert.KernelIdeal.Search (run_main)
open Cert.Kernel.Gen Cert.KernelIdeal.Gen Cert.ReferenceIdeal.Gen

/-- What the frames say of a final state, for any floats. -/
def Kept {F : FTy → Type} (m : (ℓ : Loc KernelIdeal.nD KernelIdeal.τ KernelIdeal.sig) → Buf (Elt F) ℓ) (r : PUnit × MemSt KernelIdeal.nD KernelIdeal.τ KernelIdeal.sig (Elt F)) : Prop :=
  (∀ c : Dev KernelIdeal.nD,
    r.2.mem ((c.tc : Thread KernelIdeal.nD KernelIdeal.τ).loc KernelIdeal.main_arg0) = m ((c.tc : Thread KernelIdeal.nD KernelIdeal.τ).loc KernelIdeal.main_arg0)
    ∧ r.2.mem ((c.tc : Thread KernelIdeal.nD KernelIdeal.τ).loc KernelIdeal.main_arg1) = m ((c.tc : Thread KernelIdeal.nD KernelIdeal.τ).loc KernelIdeal.main_arg1)
    ∧ r.2.mem ((c.tc : Thread KernelIdeal.nD KernelIdeal.τ).loc KernelIdeal.main_arg2) = m ((c.tc : Thread KernelIdeal.nD KernelIdeal.τ).loc KernelIdeal.main_arg2)
    ∧ r.2.mem ((c.tc : Thread KernelIdeal.nD KernelIdeal.τ).loc KernelIdeal.main_arg3) = m ((c.tc : Thread KernelIdeal.nD KernelIdeal.τ).loc KernelIdeal.main_arg3))
  ∧ r.2.sem = fun _ => 0

/-- The kernel's program keeps its arguments and ends quiescent, for any floats. -/
theorem kept {F : FTy → Type} [FloatOps F] [∀ e, Nonempty (Elt F e)] (m : (ℓ : Loc KernelIdeal.nD KernelIdeal.τ KernelIdeal.sig) → Buf (Elt F) ℓ) (ρ : Dev KernelIdeal.nD → PrngReg) :
    θ_run (KernelIdeal.defs (F := F)) (KernelIdeal.threads (F := F)) ⟨m, fun _ => 0, ρ⟩ (Kept m) :=
  (θ_run KernelIdeal.defs _ _).mono (fun _ h => ⟨fun c => ⟨(h.1 c).1, (h.1 c).2.1, (h.1 c).2.2.1, (h.1 c).2.2.2.1⟩, h.2⟩) (run_main m ρ)

set_option maxRecDepth 16384 in
/-- The two printings of the kernel have one table of bodies, read at the processors and labels one by one, -/
theorem bodies_eq {F : FTy → Type} [FloatOps F] : Kernel.defs₀ (F := F) = KernelIdeal.defs₀ (F := F) := by
  funext c ℓ a
  cases c <;>
    match ℓ, a with
    | 0, (t, s) => rfl
    | 1, (t, s) => rfl
    | 2, _ => rfl

/-- so one table altogether. -/
theorem tables_eq {F : FTy → Type} [FloatOps F] : Kernel.defs (F := F) = KernelIdeal.defs (F := F) :=
  congrArg (fun t => KernelIdeal.sc.defs (Pipeline.defs KernelIdeal.pcfgs t)) bodies_eq

set_option maxRecDepth 16384 in
theorem frame_kernel : Cert.quiescent_Kernel := fun m ρ _ => by
  rw [tables_eq]
  exact kept (F := Bits) m ρ

theorem frame_ideal : Cert.quiescent_KernelIdeal := fun m ρ _ => kept (F := Ideal) m ρ

theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem algebraic : Cert.algebraic_KernelIdeal_ReferenceIdeal_pre_digits_and_draws := fun m g m' g' hpre hargs =>
  ⟨fun c => Cert.KernelIdeal.Search.result m c,
    (θ_run KernelIdeal.defs _ _).mono (fun _ h c => ⟨(h.1 c).2.2.2.2, (h.1 c).1, (h.1 c).2.1, (h.1 c).2.2.1, (h.1 c).2.2.2.1⟩) (run_main (F := Ideal) m g),
    (θ_run Cert.ReferenceIdeal.defs _ _).mono (fun _ h c => ⟨(h c).1.trans (Cert.Same.results m m' c _ _ _ _ rfl rfl rfl
      (hargs c).1 (hargs c).2.1 (hargs c).2.2.1 (hargs c).2.2.2 (hpre c).1 (hpre c).2), (h c).2⟩) (Cert.ReferenceIdeal.Value.run (F := Ideal) m' g')⟩

theorem claim : Cert.Claim := ⟨Cert.Kernel.Gen.facts, Cert.KernelIdeal.Gen.facts, Cert.ReferenceIdeal.Gen.facts, Cert.Same.facts,
  frame_kernel, frame_ideal, fun m ρ _ => frame_ideal m ρ trivial, frame_reference, fun m ρ _ => frame_reference m ρ trivial,
  trivial, algebraic⟩

end Cert.Proof

end
